-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_delta_finite [hPre_delta_finite : Cert.Pre_delta_finite.Facts] (m : (ℓ : Loc Cert.KernelIdeal.nD Cert.KernelIdeal.τ Cert.KernelIdeal.sig) → Buf (Elt Ideal) ℓ) : Prop :=
  ∀ c : Dev Cert.KernelIdeal.nD,
    (Cert.Pre_delta_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_delta_finite [hPre_delta_finite : Cert.Pre_delta_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_delta_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_delta_finite [hKernelIdeal : Cert.KernelIdeal.Facts] [hPre_delta_finite : Cert.Pre_delta_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_delta_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_delta_finite [hReferenceIdeal : Cert.ReferenceIdeal.Facts] [hPre_delta_finite : Cert.Pre_delta_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_delta_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_delta_finite [hKernelIdeal : Cert.KernelIdeal.Facts] [hReferenceIdeal : Cert.ReferenceIdeal.Facts] [hPre_delta_finite : Cert.Pre_delta_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_delta_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v256) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hPre_delta_finite : Cert.Pre_delta_finite.Facts) (hPre_ffn_finite : Cert.Pre_ffn_finite.Facts),
    quiescent_Kernel (hKernel := hKernel)
    ∧ quiescent_KernelIdeal (hKernelIdeal := hKernelIdeal)
    ∧ quiescent_KernelIdeal_pre_delta_finite (hKernelIdeal := hKernelIdeal) (hPre_delta_finite := hPre_delta_finite)
    ∧ quiescent_ReferenceIdeal (hReferenceIdeal := hReferenceIdeal)
    ∧ quiescent_ReferenceIdeal_pre_delta_finite (hReferenceIdeal := hReferenceIdeal) (hPre_delta_finite := hPre_delta_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_delta_finite (hKernelIdeal := hKernelIdeal) (hReferenceIdeal := hReferenceIdeal) (hPre_delta_finite := hPre_delta_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel4_Kernel4Ideal
    ∧ algebraic_Kernel4Ideal_Reference4Ideal (hKernel4Ideal := hKernel4Ideal) (hReference4Ideal := hReference4Ideal)
-- ==== Pre_delta_finite.lean ====
abbrev S16x16x5120 : Shape := ⟨3, ![16, 16, 5120]⟩
abbrev S16x16x128 : Shape := ⟨3, ![16, 16, 128]⟩
abbrev S16x3x3072 : Shape := ⟨3, ![16, 3, 3072]⟩
abbrev S16x8x128x128 : Shape := ⟨4, ![16, 8, 128, 128]⟩
abbrev S1x4x3072 : Shape := ⟨3, ![1, 4, 3072]⟩
abbrev S1x8 : Shape := ⟨2, ![1, 8]⟩
abbrev S1x128 : Shape := ⟨2, ![1, 128]⟩
abbrev S16x16x4096 : Shape := ⟨3, ![16, 16, 4096]⟩
abbrev S_ : Shape := ⟨0, ![]⟩

class Facts : Prop where
  slices_S16x16x5120_S16x16x4096_0_0_0 : S16x16x5120.Slices ![0, 0, 0] S16x16x4096
  bcast_S_S16x16x4096 : S_.BroadcastsInDim S16x16x4096 (![] : Fin 0 → Fin S16x16x4096.rank)
  reducesTo_S16x16x4096_S_d0_1_2 : S16x16x4096.ReducesTo [0, 1, 2] S_
  h_S_ : 0 < S_.numel
  bcast_S_S16x3x3072 : S_.BroadcastsInDim S16x3x3072 (![] : Fin 0 → Fin S16x3x3072.rank)
  reducesTo_S16x3x3072_S_d0_1_2 : S16x3x3072.ReducesTo [0, 1, 2] S_
  bcast_S_S1x4x3072 : S_.BroadcastsInDim S1x4x3072 (![] : Fin 0 → Fin S1x4x3072.rank)
  reducesTo_S1x4x3072_S_d0_1_2 : S1x4x3072.ReducesTo [0, 1, 2] S_

variable [Facts]

def fn {F : FTy → Type} [FloatOps F] (main_arg0 : FVec F S16x16x5120 .f32) (main_arg1 : FVec F S16x16x128 .f32) (main_arg2 : FVec F S16x3x3072 .f32) (main_arg3 : FVec F S16x8x128x128 .f32) (main_arg4 : FVec F S1x4x3072 .f32) (main_arg5 : FVec F S1x8 .f32) (main_arg6 : FVec F S1x8 .f32) (main_arg7 : FVec F S1x128 .f32) : IVec S_ 1 :=
  let main_v0 : FVec F S16x16x4096 .f32 := (extractStridedSlice S16x16x4096 ![0, 0, 0] · slices_S16x16x5120_S16x16x4096_0_0_0) main_arg0
  let main_v1 : FVec F S16x16x4096 .f32 := Host.absf main_v0
  let main_cst : FVec F S_ .f32 := constant S_ .f32 0x7F800000#32
  let main_v2 : FVec F S16x16x4096 .f32 := broadcastInDim S16x16x4096 ![] bcast_S_S16x16x4096 main_cst
  let main_v3 : IVec S16x16x4096 1 := cmpf .olt main_v1 main_v2
  let main_c : IVec S_ 1 := constantI S_ 1 1#1
  let main_v4 : IVec S_ 1 := (fun x v => Host.reduce IntOp.andi x v reducesTo_S16x16x4096_S_d0_1_2 h_S_) main_v3 main_c
  let main_v5 : FVec F S16x3x3072 .f32 := Host.absf main_arg2
  let main_cst_0 : FVec F S_ .f32 := constant S_ .f32 0x7F800000#32
  let main_v6 : FVec F S16x3x3072 .f32 := broadcastInDim S16x3x3072 ![] bcast_S_S16x3x3072 main_cst_0
  let main_v7 : IVec S16x3x3072 1 := cmpf .olt main_v5 main_v6
  let main_c_1 : IVec S_ 1 := constantI S_ 1 1#1
  let main_v8 : IVec S_ 1 := (fun x v => Host.reduce IntOp.andi x v reducesTo_S16x3x3072_S_d0_1_2 h_S_) main_v7 main_c_1
  let main_v9 : IVec S_ 1 := andi main_v4 main_v8
  let main_v10 : FVec F S1x4x3072 .f32 := Host.absf main_arg4
  let main_cst_2 : FVec F S_ .f32 := constant S_ .f32 0x7F800000#32
  let main_v11 : FVec F S1x4x3072 .f32 := broadcastInDim S1x4x3072 ![] bcast_S_S1x4x3072 main_cst_2
  let main_v12 : IVec S1x4x3072 1 := cmpf .olt main_v10 main_v11
  let main_c_3 : IVec S_ 1 := constantI S_ 1 1#1
  let main_v13 : IVec S_ 1 := (fun x v => Host.reduce IntOp.andi x v reducesTo_S1x4x3072_S_d0_1_2 h_S_) main_v12 main_c_3
  let main_v14 : IVec S_ 1 := andi main_v9 main_v13
  main_v14
-- ==== Pre_ffn_finite.lean ====
abbrev S32768x2048 : Shape := ⟨2, ![32768, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x2048x5632 : S_.BroadcastsInDim S1x2048x5632 (![] : Fin 0 → Fin S1x2048x5632.rank)
  reducesTo_S1x2048x5632_S_d0_1_2 : S1x2048x5632.ReducesTo [0, 1, 2] S_

variable [Facts]

def fn {F : FTy → Type} [FloatOps F] (main_arg0 : FVec F S32768x2048 .f32) (main_arg1 : FVec F S1x2048x5632 .f32) (main_arg2 : FVec F S1x2048x5632 .f32) (main_arg3 : FVec F S1x5632x2048 .f32) (main_arg4 : FVec F S1x2048 .f32) (main_arg5 : FVec F S1x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S1x2048x5632 .f32 := Host.absf main_arg1
  let main_cst_0 : FVec F S_ .f32 := constant S_ .f32 0x7F800000#32
  let main_v5 : FVec F S1x2048x5632 .f32 := broadcastInDim S1x2048x5632 ![] bcast_S_S1x2048x5632 main_cst_0
  let main_v6 : IVec S1x2048x5632 1 := cmpf .olt main_v4 main_v5
  let main_c_1 : IVec S_ 1 := constantI S_ 1 1#1
  let main_v7 : IVec S_ 1 := (fun x v => Host.reduce IntOp.andi x v reducesTo_S1x2048x5632_S_d0_1_2 h_S_) main_v6 main_c_1
  let main_v8 : IVec S_ 1 := andi main_v3 main_v7
  main_v8
-- ==== Kernel.lean ====
abbrev S16x16x5120 : Shape := ⟨3, ![16, 16, 5120]⟩
abbrev S16x16x128 : Shape := ⟨3, ![16, 16, 128]⟩
abbrev S16x3x3072 : Shape := ⟨3, ![16, 3, 3072]⟩
abbrev S16x8x128x128 : Shape := ⟨4, ![16, 8, 128, 128]⟩
abbrev S1x4x3072 : Shape := ⟨3, ![1, 4, 3072]⟩
abbrev S1x8 : Shape := ⟨2, ![1, 8]⟩
abbrev S1x128 : Shape := ⟨2, ![1, 128]⟩
abbrev S6x128x128 : Shape := ⟨3, ![6, 128, 128]⟩
abbrev S4x3072 : Shape := ⟨2, ![4, 3072]⟩
abbrev S_ : Shape := ⟨0, ![]⟩
abbrev S8x3072 : Shape := ⟨2, ![8, 3072]⟩
abbrev S8x128 : Shape := ⟨2, ![8, 128]⟩
abbrev S8 : Shape := ⟨1, ![8]⟩
abbrev S1 : Shape := ⟨1, ![1]⟩
abbrev S2 : Shape := ⟨1, ![2]⟩
abbrev S16x8x3072 : Shape := ⟨3, ![16, 8, 3072]⟩
abbrev S16x1024x128 : Shape := ⟨3, ![16, 1024, 128]⟩
abbrev S16x16x1024 : Shape := ⟨3, ![16, 16, 1024]⟩
abbrev S1x16x3072 : Shape := ⟨3, ![1, 16, 3072]⟩
abbrev S1x16x1024 : Shape := ⟨3, ![1, 16, 1024]⟩
abbrev S1x16x128 : Shape := ⟨3, ![1, 16, 128]⟩
abbrev S1x8x3072 : Shape := ⟨3, ![1, 8, 3072]⟩
abbrev S1x1024x128 : Shape := ⟨3, ![1, 1024, 128]⟩
abbrev S24x3072 : Shape := ⟨2, ![24, 3072]⟩
abbrev S1024x128 : Shape := ⟨2, ![1024, 128]⟩
abbrev S16x3072 : Shape := ⟨2, ![16, 3072]⟩
abbrev S16x128 : Shape := ⟨2, ![16, 128]⟩
abbrev S128x128 : Shape := ⟨2, ![128, 128]⟩
abbrev S24x128 : Shape := ⟨2, ![24, 128]⟩
abbrev S16 : Shape := ⟨1, ![16]⟩
abbrev S16x1 : Shape := ⟨2, ![16, 1]⟩
abbrev S128x1 : Shape := ⟨2, ![128, 1]⟩
abbrev S1x1 : Shape := ⟨2, ![1, 1]⟩
abbrev S1024x1 : Shape := ⟨2, ![1024, 1]⟩
abbrev S256x128 : Shape := ⟨2, ![256, 128]⟩
abbrev S128x256 : Shape := ⟨2, ![128, 256]⟩
abbrev S16x1024 : Shape := ⟨2, ![16, 1024]⟩
abbrev S128x1024 : Shape := ⟨2, ![128, 1024]⟩
abbrev S1x128x128 : Shape := ⟨3, ![1, 128, 128]⟩
abbrev S256x1024 : Shape := ⟨2, ![256, 1024]⟩

abbrev nBuf : Space → Nat
  | .hbm => 36
  | .vmem => 22
  | .smem => 0
  | _ => 0

abbrev bufTy : (tb : Table) → Fin (tcTables nBuf tb) → BufTy
  | .hbm, ⟨0, _⟩ => ⟨S16x16x5120, .f32⟩
  | .hbm, ⟨1, _⟩ => ⟨S16x16x128, .f32⟩
  | .hbm, ⟨2, _⟩ => ⟨S16x3x3072, .f32⟩
  | .hbm, ⟨3, _⟩ => ⟨S16x8x128x128, .f32⟩
  | .hbm, ⟨4, _⟩ => ⟨S1x4x3072, .f32⟩
  | .hbm, ⟨5, _⟩ => ⟨S1x8, .f32⟩
  | .hbm, ⟨6, _⟩ => ⟨S1x8, .f32⟩
  | .hbm, ⟨7, _⟩ => ⟨S1x128, .f32⟩
  | .hbm, ⟨8, _⟩ => ⟨S6x128x128, .bf16⟩
  | .hbm, ⟨9, _⟩ => ⟨S4x3072, .f32⟩
  | .hbm, ⟨10, _⟩ => ⟨S_, .i32⟩
  | .hbm, ⟨11, _⟩ => ⟨S_, .f32⟩
  | .hbm, ⟨12, _⟩ => ⟨S8x3072, .f32⟩
  | .hbm, ⟨13, _⟩ => ⟨S_, .f32⟩
  | .hbm, ⟨14, _⟩ => ⟨S8x128, .f32⟩
  | .hbm, ⟨15, _⟩ => ⟨S8, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S8x128, .f32⟩
  | .hbm, ⟨22, _⟩ => ⟨S8, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S8x128, .f32⟩
  | .hbm, ⟨29, _⟩ => ⟨S_, .i32⟩
  | .hbm, ⟨30, _⟩ => ⟨S_, .f32⟩
  | .hbm, ⟨31, _⟩ => ⟨S16x8x3072, .f32⟩
  | .hbm, ⟨32, _⟩ => ⟨S16x1024x128, .f32⟩
  | .hbm, ⟨33, _⟩ => ⟨S16x16x1024, .bf16⟩
  | .hbm, ⟨34, _⟩ => ⟨S16x8x3072, .f32⟩
  | .hbm, ⟨35, _⟩ => ⟨S16x1024x128, .f32⟩
  | .local _ .vmem, ⟨0, _⟩ => ⟨S1x16x3072, .f32⟩
  | .local _ .vmem, ⟨1, _⟩ => ⟨S1x16x3072, .f32⟩
  | .local _ .vmem, ⟨2, _⟩ => ⟨S1x16x1024, .f32⟩
  | .local _ .vmem, ⟨3, _⟩ => ⟨S1x16x1024, .f32⟩
  | .local _ .vmem, ⟨4, _⟩ => ⟨S1x16x128, .f32⟩
  | .local _ .vmem, ⟨5, _⟩ => ⟨S1x16x128, .f32⟩
  | .local _ .vmem, ⟨6, _⟩ => ⟨S1x8x3072, .f32⟩
  | .local _ .vmem, ⟨7, _⟩ => ⟨S1x8x3072, .f32⟩
  | .local _ .vmem, ⟨8, _⟩ => ⟨S1x1024x128, .f32⟩
  | .local _ .vmem, ⟨9, _⟩ => ⟨S1x1024x128, .f32⟩
  | .local _ .vmem, ⟨10, _⟩ => ⟨S8x3072, .f32⟩
  | .local _ .vmem, ⟨11, _⟩ => ⟨S8x128, .f32⟩
  | .local _ .vmem, ⟨12, _⟩ => ⟨S1x128, .f32⟩
  | .local _ .vmem, ⟨13, _⟩ => ⟨S6x128x128, .bf16⟩
  | .local _ .vmem, ⟨14, _⟩ => ⟨S1x16x1024, .bf16⟩
  | .local _ .vmem, ⟨15, _⟩ => ⟨S1x16x1024, .bf16⟩
  | .local _ .vmem, ⟨16, _⟩ => ⟨S1x8x3072, .f32⟩
  | .local _ .vmem, ⟨17, _⟩ => ⟨S1x8x3072, .f32⟩
  | .local _ .vmem, ⟨18, _⟩ => ⟨S1x1024x128, .f32⟩
  | .local _ .vmem, ⟨19, _⟩ => ⟨S1x1024x128, .f32⟩
  | .local _ .vmem, ⟨20, _⟩ => ⟨S24x3072, .f32⟩
  | .local _ .vmem, ⟨21, _⟩ => ⟨S1024x128, .f32⟩
  | _, _ => ⟨S16x16x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_c_4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_316 : BitVec 32 := 0#32
  let v1339 : BitVec 1 := Scalar.cmpi .eq arg1 c0_i32_316
  let v1340 : BitVec 32 := Scalar.extui v1339
  let c0_i32_317 : BitVec 32 := 0#32
  let v1341 : BitVec 1 := Scalar.cmpi .ne v1340 c0_i32_317
  v1341

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S6x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16x16x5120 : Shape := ⟨3, ![16, 16, 5120]⟩
abbrev S16x16x128 : Shape := ⟨3, ![16, 16, 128]⟩
abbrev S16x3x3072 : Shape := ⟨3, ![16, 3, 3072]⟩
abbrev S16x8x128x128 : Shape := ⟨4, ![16, 8, 128, 128]⟩
abbrev S1x4x3072 : Shape := ⟨3, ![1, 4, 3072]⟩
abbrev S1x8 : Shape := ⟨2, ![1, 8]⟩
abbrev S1x128 : Shape := ⟨2, ![1, 128]⟩
abbrev S16x16x3072 : Shape := ⟨3, ![16, 16, 3072]⟩
abbrev S16x16x1024 : Shape := ⟨3, ![16, 16, 1024]⟩
abbrev S16x16x8 : Shape := ⟨3, ![16, 16, 8]⟩
abbrev S16x19x3072 : Shape := ⟨3, ![16, 19, 3072]⟩
abbrev S4x3072 : Shape := ⟨2, ![4, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩
abbrev S16x8x3072 : Shape := ⟨3, ![16, 8, 3072]⟩
abbrev S16x16x8x128 : Shape := ⟨4, ![16, 16, 8, 128]⟩
abbrev S16x16x8x1 : Shape := ⟨4, ![16, 16, 8, 1]⟩
abbrev S8 : Shape := ⟨1, ![8]⟩
abbrev S1x1x8 : Shape := ⟨3, ![1, 1, 8]⟩
abbrev S16x8x16x128 : Shape := ⟨4, ![16, 8, 16, 128]⟩
abbrev S16x8x16 : Shape := ⟨3, ![16, 8, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x8x16x1 : Shape := ⟨4, ![16, 8, 16, 1]⟩
abbrev S16x8x1x16 : Shape := ⟨4, ![16, 8, 1, 16]⟩
abbrev S16x8x16x16 : Shape := ⟨4, ![16, 8, 16, 16]⟩
abbrev S16x8x16x256 : Shape := ⟨4, ![16, 8, 16, 256]⟩
abbrev S16x8x1x256 : Shape := ⟨4, ![16, 8, 1, 256]⟩
abbrev S16x8x1 : Shape := ⟨3, ![16, 8, 1]⟩
abbrev S16x8 : Shape := ⟨2, ![16, 8]⟩
abbrev S16x8x1x1 : Shape := ⟨4, ![16, 8, 1, 1]⟩
abbrev S128 : Shape := ⟨1, ![128]⟩
abbrev S1x1x1x128 : Shape := ⟨4, ![1, 1, 1, 128]⟩
abbrev S16x1024x128 : Shape := ⟨3, ![16, 1024, 128]⟩

abbrev nBuf : Space → Nat
  | .hbm => 319
  | .vmem => 0
  | .smem => 0
  | _ => 0

abbrev hbmTy0_0 (i : Nat) : BufTy := match i % 128 with
  | 0 => ⟨S16x16x5120, .f32⟩
  | 1 => ⟨S16x16x128, .f32⟩
  | 2 => ⟨S16x3x3072, .f32⟩
  | 3 => ⟨S16x8x128x128, .f32⟩
  | 4 => ⟨S1x4x3072, .f32⟩
  | 5 => ⟨S1x8, .f32⟩
  | 6 => ⟨S1x8, .f32⟩
  | 7 => ⟨S1x128, .f32⟩
  | 8 => ⟨S16x16x3072, .f32⟩
  | 9 => ⟨S16x16x1024, .f32⟩
  | 10 => ⟨S16x16x1024, .f32⟩
  | 11 => ⟨S16x16x8, .f32⟩
  | 12 => ⟨S16x16x8, .f32⟩
  | 13 => ⟨S16x19x3072, .f32⟩
  | 14 => ⟨S4x3072, .f32⟩
  | 15 => ⟨S16x16x3072, .f32⟩
  | 16 => ⟨S1x3072, .f32⟩
  | 17 => ⟨S3072, .f32⟩
  | 18 => ⟨S1x1x3072, .f32⟩
  | 19 => ⟨S16x16x3072, .f32⟩
  | 20 => ⟨S16x16x3072, .f32⟩
  | 21 => ⟨S_, .f32⟩
  | 22 => ⟨S16x16x3072, .f32⟩
  | 23 => ⟨S16x16x3072, .f32⟩
  | 24 => ⟨S16x16x3072, .f32⟩
  | 25 => ⟨S1x3072, .f32⟩
  | 26 => ⟨S3072, .f32⟩
  | 27 => ⟨S1x1x3072, .f32⟩
  | 28 => ⟨S16x16x3072, .f32⟩
  | 29 => ⟨S16x16x3072, .f32⟩
  | 30 => ⟨S16x16x3072, .f32⟩
  | 31 => ⟨S16x16x3072, .f32⟩
  | 32 => ⟨S1x3072, .f32⟩
  | 33 => ⟨S3072, .f32⟩
  | 34 => ⟨S1x1x3072, .f32⟩
  | 35 => ⟨S16x16x3072, .f32⟩
  | 36 => ⟨S16x16x3072, .f32⟩
  | 37 => ⟨S16x16x3072, .f32⟩
  | 38 => ⟨S16x16x3072, .f32⟩
  | 39 => ⟨S1x3072, .f32⟩
  | 40 => ⟨S3072, .f32⟩
  | 41 => ⟨S1x1x3072, .f32⟩
  | 42 => ⟨S16x16x3072, .f32⟩
  | 43 => ⟨S16x16x3072, .f32⟩
  | 44 => ⟨S16x16x3072, .f32⟩
  | 45 => ⟨S16x16x3072, .f32⟩
  | 46 => ⟨S16x16x3072, .f32⟩
  | 47 => ⟨S_, .f32⟩
  | 48 => ⟨S16x16x3072, .f32⟩
  | 49 => ⟨S16x16x3072, .f32⟩
  | 50 => ⟨S_, .f32⟩
  | 51 => ⟨S16x16x3072, .f32⟩
  | 52 => ⟨S16x16x3072, .f32⟩
  | 53 => ⟨S16x16x3072, .f32⟩
  | 54 => ⟨S16x8x3072, .f32⟩
  | 55 => ⟨S16x16x1024, .f32⟩
  | 56 => ⟨S16x16x1024, .f32⟩
  | 57 => ⟨S16x16x1024, .f32⟩
  | 58 => ⟨S16x16x8x128, .f32⟩
  | 59 => ⟨S16x16x8x128, .f32⟩
  | 60 => ⟨S_, .f32⟩
  | 61 => ⟨S16x16x8, .f32⟩
  | 62 => ⟨S16x16x8x1, .f32⟩
  | 63 => ⟨S_, .f32⟩
  | 64 => ⟨S16x16x8x1, .f32⟩
  | 65 => ⟨S16x16x8x1, .f32⟩
  | 66 => ⟨S16x16x8x1, .f32⟩
  | 67 => ⟨S16x16x8x128, .f32⟩
  | 68 => ⟨S16x16x8x128, .f32⟩
  | 69 => ⟨S_, .f32⟩
  | 70 => ⟨S16x16x8x128, .f32⟩
  | 71 => ⟨S16x16x8x128, .f32⟩
  | 72 => ⟨S16x16x8x128, .f32⟩
  | 73 => ⟨S16x16x8x128, .f32⟩
  | 74 => ⟨S_, .f32⟩
  | 75 => ⟨S16x16x8, .f32⟩
  | 76 => ⟨S16x16x8x1, .f32⟩
  | 77 => ⟨S_, .f32⟩
  | 78 => ⟨S16x16x8x1, .f32⟩
  | 79 => ⟨S16x16x8x1, .f32⟩
  | 80 => ⟨S16x16x8x1, .f32⟩
  | 81 => ⟨S16x16x8x128, .f32⟩
  | 82 => ⟨S16x16x8x128, .f32⟩
  | 83 => ⟨S16x16x8x128, .f32⟩
  | 84 => ⟨S16x16x8, .f32⟩
  | 85 => ⟨S16x16x8, .f32⟩
  | 86 => ⟨S_, .f32⟩
  | 87 => ⟨S16x16x8, .f32⟩
  | 88 => ⟨S16x16x8, .f32⟩
  | 89 => ⟨S_, .f32⟩
  | 90 => ⟨S16x16x8, .f32⟩
  | 91 => ⟨S16x16x8, .f32⟩
  | 92 => ⟨S8, .f32⟩
  | 93 => ⟨S8, .f32⟩
  | 94 => ⟨S8, .f32⟩
  | 95 => ⟨S8, .f32⟩
  | 96 => ⟨S1x1x8, .f32⟩
  | 97 => ⟨S16x16x8, .f32⟩
  | 98 => ⟨S16x16x8, .f32⟩
  | 99 => ⟨S_, .f32⟩
  | 100 => ⟨S16x16x8, .f32⟩
  | 101 => ⟨S16x16x8, .f32⟩
  | 102 => ⟨S16x16x8, .f32⟩
  | 103 => ⟨S16x16x8, .f32⟩
  | 104 => ⟨S16x16x8, .i1⟩
  | 105 => ⟨S16x16x8, .f32⟩
  | 106 => ⟨S16x16x8, .f32⟩
  | 107 => ⟨S16x16x8, .f32⟩
  | 108 => ⟨S16x16x8, .f32⟩
  | 109 => ⟨S16x16x8, .f32⟩
  | 110 => ⟨S16x16x8, .f32⟩
  | 111 => ⟨S16x16x8, .f32⟩
  | 112 => ⟨S16x16x8, .f32⟩
  | 113 => ⟨S1x1x8, .f32⟩
  | 114 => ⟨S16x16x8, .f32⟩
  | 115 => ⟨S16x16x8, .f32⟩
  | 116 => ⟨S16x8x16x128, .f32⟩
  | 117 => ⟨S16x8x16x128, .f32⟩
  | 118 => ⟨S16x8x16x128, .f32⟩
  | 119 => ⟨S16x8x16, .f32⟩
  | 120 => ⟨S16x8x16, .f32⟩
  | 121 => ⟨S_, .f32⟩
  | 122 => ⟨S_, .f32⟩
  | 123 => ⟨S16x8x16, .f32⟩
  | 124 => ⟨S16, .i32⟩
  | 125 => ⟨S16x1, .i32⟩
  | 126 => ⟨S1x16, .i32⟩
  | 127 => ⟨S16x16, .i32⟩
  | _ => ⟨S16x16x5120, .f32⟩

abbrev hbmTy0_1 (i : Nat) : BufTy := match i % 128 with
  | 0 => ⟨S16x16, .i32⟩
  | 1 => ⟨S16x16, .i1⟩
  | 2 => ⟨S16x1, .i32⟩
  | 3 => ⟨S1x16, .i32⟩
  | 4 => ⟨S16x16, .i32⟩
  | 5 => ⟨S16x16, .i32⟩
  | 6 => ⟨S16x16, .i1⟩
  | 7 => ⟨S16x8x16x1, .f32⟩
  | 8 => ⟨S16x8x1x16, .f32⟩
  | 9 => ⟨S16x8x16x16, .f32⟩
  | 10 => ⟨S16x8x16x16, .f32⟩
  | 11 => ⟨S16x8x16x16, .f32⟩
  | 12 => ⟨S_, .f32⟩
  | 13 => ⟨S_, .f32⟩
  | 14 => ⟨S16x8x16x16, .i1⟩
  | 15 => ⟨S16x8x16x16, .f32⟩
  | 16 => ⟨S16x8x16x16, .f32⟩
  | 17 => ⟨S16x8x16x16, .f32⟩
  | 18 => ⟨S_, .f32⟩
  | 19 => ⟨S_, .f32⟩
  | 20 => ⟨S16x8x16x16, .i1⟩
  | 21 => ⟨S16x8x16x16, .f32⟩
  | 22 => ⟨S16x8x16x16, .f32⟩
  | 23 => ⟨S16x8x16x1, .f32⟩
  | 24 => ⟨S16x8x16x128, .f32⟩
  | 25 => ⟨S16x8x16x128, .f32⟩
  | 26 => ⟨S16x8x16x16, .f32⟩
  | 27 => ⟨S16x8x16x16, .f32⟩
  | 28 => ⟨S_, .f32⟩
  | 29 => ⟨S_, .f32⟩
  | 30 => ⟨S16x8x16x16, .i1⟩
  | 31 => ⟨S16x8x16x16, .f32⟩
  | 32 => ⟨S16x8x16x16, .f32⟩
  | 33 => ⟨S16x8x16x1, .f32⟩
  | 34 => ⟨S16x8x16x128, .f32⟩
  | 35 => ⟨S16x8x16x128, .f32⟩
  | 36 => ⟨S16x8x16, .f32⟩
  | 37 => ⟨S16x8x16x1, .f32⟩
  | 38 => ⟨S16x8x16x128, .f32⟩
  | 39 => ⟨S16x8x16x128, .f32⟩
  | 40 => ⟨S16x8x16x256, .f32⟩
  | 41 => ⟨S16x8x16x1, .f32⟩
  | 42 => ⟨S16x8x1x256, .f32⟩
  | 43 => ⟨S16x8x16x256, .f32⟩
  | 44 => ⟨S16x8x16x256, .f32⟩
  | 45 => ⟨S16x8x16x256, .f32⟩
  | 46 => ⟨S16x8x16x256, .f32⟩
  | 47 => ⟨S16x8x16x1, .f32⟩
  | 48 => ⟨S16x8x1x256, .f32⟩
  | 49 => ⟨S16x8x16x256, .f32⟩
  | 50 => ⟨S16x8x16x256, .f32⟩
  | 51 => ⟨S16x8x16x256, .f32⟩
  | 52 => ⟨S16x8x16x256, .f32⟩
  | 53 => ⟨S16x8x16x1, .f32⟩
  | 54 => ⟨S16x8x1x256, .f32⟩
  | 55 => ⟨S16x8x16x256, .f32⟩
  | 56 => ⟨S16x8x16x256, .f32⟩
  | 57 => ⟨S16x8x16x256, .f32⟩
  | 58 => ⟨S16x8x16x256, .f32⟩
  | 59 => ⟨S16x8x16x1, .f32⟩
  | 60 => ⟨S16x8x1x256, .f32⟩
  | 61 => ⟨S16x8x16x256, .f32⟩
  | 62 => ⟨S16x8x16x256, .f32⟩
  | 63 => ⟨S16x8x16x256, .f32⟩
  | 64 => ⟨S16x8x16x256, .f32⟩
  | 65 => ⟨S16x8x16x1, .f32⟩
  | 66 => ⟨S16x8x1x256, .f32⟩
  | 67 => ⟨S16x8x16x256, .f32⟩
  | 68 => ⟨S16x8x16x256, .f32⟩
  | 69 => ⟨S16x8x16x256, .f32⟩
  | 70 => ⟨S16x8x16x256, .f32⟩
  | 71 => ⟨S16x8x16x1, .f32⟩
  | 72 => ⟨S16x8x1x256, .f32⟩
  | 73 => ⟨S16x8x16x256, .f32⟩
  | 74 => ⟨S16x8x16x256, .f32⟩
  | 75 => ⟨S16x8x16x256, .f32⟩
  | 76 => ⟨S16x8x16x256, .f32⟩
  | 77 => ⟨S16x8x16x1, .f32⟩
  | 78 => ⟨S16x8x1x256, .f32⟩
  | 79 => ⟨S16x8x16x256, .f32⟩
  | 80 => ⟨S16x8x16x256, .f32⟩
  | 81 => ⟨S16x8x16x256, .f32⟩
  | 82 => ⟨S16x8x16x256, .f32⟩
  | 83 => ⟨S16x8x16x1, .f32⟩
  | 84 => ⟨S16x8x1x256, .f32⟩
  | 85 => ⟨S16x8x16x256, .f32⟩
  | 86 => ⟨S16x8x16x256, .f32⟩
  | 87 => ⟨S16x8x16x256, .f32⟩
  | 88 => ⟨S16x8x16x256, .f32⟩
  | 89 => ⟨S16x8x16x1, .f32⟩
  | 90 => ⟨S16x8x1x256, .f32⟩
  | 91 => ⟨S16x8x16x256, .f32⟩
  | 92 => ⟨S16x8x16x256, .f32⟩
  | 93 => ⟨S16x8x16x256, .f32⟩
  | 94 => ⟨S16x8x16x256, .f32⟩
  | 95 => ⟨S16x8x16x1, .f32⟩
  | 96 => ⟨S16x8x1x256, .f32⟩
  | 97 => ⟨S16x8x16x256, .f32⟩
  | 98 => ⟨S16x8x16x256, .f32⟩
  | 99 => ⟨S16x8x16x256, .f32⟩
  | 100 => ⟨S16x8x16x256, .f32⟩
  | 101 => ⟨S16x8x16x1, .f32⟩
  | 102 => ⟨S16x8x1x256, .f32⟩
  | 103 => ⟨S16x8x16x256, .f32⟩
  | 104 => ⟨S16x8x16x256, .f32⟩
  | 105 => ⟨S16x8x16x256, .f32⟩
  | 106 => ⟨S16x8x16x256, .f32⟩
  | 107 => ⟨S16x8x16x1, .f32⟩
  | 108 => ⟨S16x8x1x256, .f32⟩
  | 109 => ⟨S16x8x16x256, .f32⟩
  | 110 => ⟨S16x8x16x256, .f32⟩
  | 111 => ⟨S16x8x16x256, .f32⟩
  | 112 => ⟨S16x8x16x256, .f32⟩
  | 113 => ⟨S16x8x16x1, .f32⟩
  | 114 => ⟨S16x8x1x256, .f32⟩
  | 115 => ⟨S16x8x16x256, .f32⟩
  | 116 => ⟨S16x8x16x256, .f32⟩
  | 117 => ⟨S16x8x16x256, .f32⟩
  | 118 => ⟨S16x8x16x256, .f32⟩
  | 119 => ⟨S16x8x16x1, .f32⟩
  | 120 => ⟨S16x8x1x256, .f32⟩
  | 121 => ⟨S16x8x16x256, .f32⟩
  | 122 => ⟨S16x8x16x256, .f32⟩
  | 123 => ⟨S16x8x16x256, .f32⟩
  | 124 => ⟨S16x8x16x256, .f32⟩
  | 125 => ⟨S16x8x16x1, .f32⟩
  | 126 => ⟨S16x8x1x256, .f32⟩
  | 127 => ⟨S16x8x16x256, .f32⟩
  | _ => ⟨S16x16x5120, .f32⟩

abbrev hbmTy0_2 (i : Nat) : BufTy := match i % 128 with
  | 0 => ⟨S16x8x16x256, .f32⟩
  | 1 => ⟨S16x8x16x256, .f32⟩
  | 2 => ⟨S16x8x16x256, .f32⟩
  | 3 => ⟨S16x8x16x128, .f32⟩
  | 4 => ⟨S16x8x16x128, .f32⟩
  | 5 => ⟨S16x8x16x16, .f32⟩
  | 6 => ⟨S16x8x16x16, .f32⟩
  | 7 => ⟨S16x8x16, .f32⟩
  | 8 => ⟨S16x8x16x1, .f32⟩
  | 9 => ⟨S16x8x16x128, .f32⟩
  | 10 => ⟨S16x8x16x128, .f32⟩
  | 11 => ⟨S16x8x1, .f32⟩
  | 12 => ⟨S16x8x16, .f32⟩
  | 13 => ⟨S16x8x16, .f32⟩
  | 14 => ⟨S16x8x16, .f32⟩
  | 15 => ⟨S16x8x16x1, .f32⟩
  | 16 => ⟨S16x8x16x128, .f32⟩
  | 17 => ⟨S16x8x16x128, .f32⟩
  | 18 => ⟨S16x8x1, .f32⟩
  | 19 => ⟨S16x8, .f32⟩
  | 20 => ⟨S16x8, .f32⟩
  | 21 => ⟨S16x8x16x128, .f32⟩
  | 22 => ⟨S16x8x16x128, .f32⟩
  | 23 => ⟨S16x8x16x128, .f32⟩
  | 24 => ⟨S16x8x16x128, .f32⟩
  | 25 => ⟨S16x8x16x128, .f32⟩
  | 26 => ⟨S16x8x1x1, .f32⟩
  | 27 => ⟨S16x8x128x128, .f32⟩
  | 28 => ⟨S16x8x128x128, .f32⟩
  | 29 => ⟨S16x8x128x128, .f32⟩
  | 30 => ⟨S16x8x128x128, .f32⟩
  | 31 => ⟨S16x16x8x128, .f32⟩
  | 32 => ⟨S16x16x8x128, .f32⟩
  | 33 => ⟨S_, .f32⟩
  | 34 => ⟨S16x16x8, .f32⟩
  | 35 => ⟨S16x16x8x1, .f32⟩
  | 36 => ⟨S_, .f32⟩
  | 37 => ⟨S16x16x8x1, .f32⟩
  | 38 => ⟨S16x16x8x1, .f32⟩
  | 39 => ⟨S_, .f32⟩
  | 40 => ⟨S16x16x8x1, .f32⟩
  | 41 => ⟨S16x16x8x1, .f32⟩
  | 42 => ⟨S16x16x8x1, .f32⟩
  | 43 => ⟨S16x16x8x128, .f32⟩
  | 44 => ⟨S16x16x8x128, .f32⟩
  | 45 => ⟨S128, .f32⟩
  | 46 => ⟨S1x1x1x128, .f32⟩
  | 47 => ⟨S16x16x8x128, .f32⟩
  | 48 => ⟨S16x16x8x128, .f32⟩
  | 49 => ⟨S16x16x8x128, .f32⟩
  | 50 => ⟨S16x16x8x128, .f32⟩
  | 51 => ⟨S16x16x8x128, .f32⟩
  | 52 => ⟨S_, .f32⟩
  | 53 => ⟨S16x16x8x128, .f32⟩
  | 54 => ⟨S16x16x8x128, .f32⟩
  | 55 => ⟨S_, .f32⟩
  | 56 => ⟨S16x16x8x128, .f32⟩
  | 57 => ⟨S16x16x8x128, .f32⟩
  | 58 => ⟨S16x16x8x128, .f32⟩
  | 59 => ⟨S16x16x8x128, .f32⟩
  | 60 => ⟨S16x16x1024, .f32⟩
  | 61 => ⟨S16x16x1024, .bf16⟩
  | 62 => ⟨S16x1024x128, .f32⟩
  | _ => ⟨S16x16x5120, .f32⟩

abbrev hbmTy (i : Nat) : BufTy := match i / 128 with
  | 0 => hbmTy0_0 i
  | 1 => hbmTy0_1 i
  | 2 => hbmTy0_2 i
  | _ => ⟨S16x16x5120, .f32⟩

abbrev bufTy : (tb : Table) → Fin (tcTables nBuf tb) → BufTy
  | .hbm, ⟨i, _⟩ => hbmTy i
  | _, _ => ⟨S16x16x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_0 : Ref sig .tc := ⟨.hbm, 60, rfl⟩
abbrev main_v43 : Ref sig .tc := ⟨.hbm, 61, rfl⟩
abbrev main_v44 : Ref sig .tc := ⟨.hbm, 62, rfl⟩
abbrev main_cst_1 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_2 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_5 : Ref sig .tc := ⟨.hbm, 86, rfl⟩
abbrev main_v64 : Ref sig .tc := ⟨.hbm, 87, rfl⟩
abbrev main_v65 : Ref sig .tc := ⟨.hbm, 88, rfl⟩
abbrev main_cst_6 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call2_call0_cst : Ref sig .tc := ⟨.hbm, 121, rfl⟩
abbrev main_call2_call0_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_7 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v101 : Ref sig .tc := ⟨.hbm, 144, rfl⟩
abbrev main_v102 : Ref sig .tc := ⟨.hbm, 145, rfl⟩
abbrev main_cst_8 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_9 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_cst_10 : Ref sig .tc := ⟨.hbm, 289, rfl⟩
abbrev main_v238 : Ref sig .tc := ⟨.hbm, 290, rfl⟩
abbrev main_v239 : Ref sig .tc := ⟨.hbm, 291, rfl⟩
abbrev main_cst_11 : Ref sig .tc := ⟨.hbm, 292, rfl⟩
abbrev main_v240 : Ref sig .tc := ⟨.hbm, 293, rfl⟩
abbrev main_v241 : Ref sig .tc := ⟨.hbm, 294, rfl⟩
abbrev main_cst_12 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_call6_v0 : Ref sig .tc := ⟨.hbm, 306, rfl⟩
abbrev main_call6_v1 : Ref sig .tc := ⟨.hbm, 307, rfl⟩
abbrev main_call6_cst : Ref sig .tc := ⟨.hbm, 308, rfl⟩
abbrev main_call6_v2 : Ref sig .tc := ⟨.hbm, 309, rfl⟩
abbrev main_call6_v3 : Ref sig .tc := ⟨.hbm, 310, rfl⟩
abbrev main_call6_cst_0 : Ref sig .tc := ⟨.hbm, 311, rfl⟩
abbrev main_call6_v4 : Ref sig .tc := ⟨.hbm, 312, rfl⟩
abbrev main_call6_v5 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩

abbrev nD : Nat := 1
abbrev τ : Topo := Topo.v7x

variable {F : FTy → Type} [FloatOps F]
-- ==== Kernel2.lean ====
abbrev S32768x2048 : Shape := ⟨2, ![32768, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S32768x5632 : Shape := ⟨2, ![32768, 5632]⟩
abbrev S_ : Shape := ⟨0, ![]⟩
abbrev S5632x2048 : Shape := ⟨2, ![5632, 2048]⟩
abbrev S32768 : Shape := ⟨1, ![32768]⟩
abbrev S32768x1 : Shape := ⟨2, ![32768, 1]⟩
abbrev S2048 : Shape := ⟨1, ![2048]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S32768x5632, .f32⟩
  | .hbm, ⟨8, _⟩ => ⟨S32768x5632, .f32⟩
  | .hbm, ⟨9, _⟩ => ⟨S32768x5632, .f32⟩
  | .hbm, ⟨10, _⟩ => ⟨S_, .f32⟩
  | .hbm, ⟨11, _⟩ => ⟨S32768x5632, .f32⟩
  | .hbm, ⟨12, _⟩ => ⟨S32768x5632, .f32⟩
  | .hbm, ⟨13, _⟩ => ⟨S_, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S2048x5632, .f32⟩
  | .hbm, ⟨18, _⟩ => ⟨S32768x5632, .f32⟩
  | .hbm, ⟨19, _⟩ => ⟨S32768x5632, .f32⟩
  | .hbm, ⟨20, _⟩ => ⟨S5632x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x2048, .f32⟩
  | .hbm, ⟨46, _⟩ => ⟨S32768x2048, .f32⟩
  | .hbm, ⟨47, _⟩ => ⟨S2048, .f32⟩
  | .hbm, ⟨48, _⟩ => ⟨S1x2048, .f32⟩
  | .hbm, ⟨49, _⟩ => ⟨S32768x2048, .f32⟩
  | .hbm, ⟨50, _⟩ => ⟨S32768x2048, .f32⟩
  | .hbm, ⟨51, _⟩ => ⟨S2048, .f32⟩
  | .hbm, ⟨52, _⟩ => ⟨S1x2048, .f32⟩
  | .hbm, ⟨53, _⟩ => ⟨S32768x2048, .f32⟩
  | .hbm, ⟨54, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel4.lean ====
abbrev S32768x2048 : Shape := ⟨2, ![32768, 2048]⟩
abbrev S32768x1024 : Shape := ⟨2, ![32768, 1024]⟩
abbrev S2048 : Shape := ⟨1, ![2048]⟩
abbrev S1x2048x2048 : Shape := ⟨3, ![1, 2048, 2048]⟩
abbrev S1x2048 : Shape := ⟨2, ![1, 2048]⟩
abbrev S2048x2048 : Shape := ⟨2, ![2048, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x2048 : Shape := ⟨2, ![1024, 2048]⟩

abbrev nBuf : Space → Nat
  | .hbm => 17
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048, .f32⟩
  | .hbm, ⟨4, _⟩ => ⟨S2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S2048x2048, .f32⟩
  | .hbm, ⟨11, _⟩ => ⟨S2048x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S32768x2048 : Shape := ⟨2, ![32768, 2048]⟩
abbrev S32768x1024 : Shape := ⟨2, ![32768, 1024]⟩
abbrev S2048 : Shape := ⟨1, ![2048]⟩
abbrev S1x2048x2048 : Shape := ⟨3, ![1, 2048, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S2048x2048 : Shape := ⟨2, ![2048, 2048]⟩

abbrev nBuf : Space → Nat
  | .hbm => 73
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048, .f32⟩
  | .hbm, ⟨4, _⟩ => ⟨S2048, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x2048, .f32⟩
  | .hbm, ⟨28, _⟩ => ⟨S32768x2048, .f32⟩
  | .hbm, ⟨29, _⟩ => ⟨S1x2048, .f32⟩
  | .hbm, ⟨30, _⟩ => ⟨S32768x2048, .f32⟩
  | .hbm, ⟨31, _⟩ => ⟨S32768x2048, .f32⟩
  | .hbm, ⟨32, _⟩ => ⟨S1x2048, .f32⟩
  | .hbm, ⟨33, _⟩ => ⟨S32768x2048, .f32⟩
  | .hbm, ⟨34, _⟩ => ⟨S32768x2048, .f32⟩
  | .hbm, ⟨35, _⟩ => ⟨S32768x1024, .f32⟩
  | .hbm, ⟨36, _⟩ => ⟨S32768x1024, .f32⟩
  | .hbm, ⟨37, _⟩ => ⟨S32768x2048, .f32⟩
  | .hbm, ⟨38, _⟩ => ⟨S2048x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S32768x2048, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x2048, .f32⟩
  | .hbm, ⟨64, _⟩ => ⟨S32768x2048, .f32⟩
  | .hbm, ⟨65, _⟩ => ⟨S2048, .f32⟩
  | .hbm, ⟨66, _⟩ => ⟨S1x2048, .f32⟩
  | .hbm, ⟨67, _⟩ => ⟨S32768x2048, .f32⟩
  | .hbm, ⟨68, _⟩ => ⟨S32768x2048, .f32⟩
  | .hbm, ⟨69, _⟩ => ⟨S2048, .f32⟩
  | .hbm, ⟨70, _⟩ => ⟨S1x2048, .f32⟩
  | .hbm, ⟨71, _⟩ => ⟨S32768x2048, .f32⟩
  | .hbm, ⟨72, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.DeltaConv.lean ====
/- The delta kernel's normalised heads: the convolution's columns, head by head, packed to 128 rows. -/
module
public import proofs.«01_k».proof.Proof.Gen.KernelIdeal.Skeleton
public import Idealize.ShloMosaic.Lib.Pipeline.ValueKit
@[expose] public section
set_option maxRecDepth 16384
noncomputable section
open Idealize.ShloMosaic Idealize.ShloMosaic.TcCoe Idealize.SL.Sem
namespace Cert.Delta

/-- Half the convolution at token i: the four taps over the extended rows. -/
def half (x : Fin 24 → EReal) (w : Fin 8 → EReal) (i : Fin 16) : EReal :=
  w 3 * x ⟨8 + i.val, by omega⟩ + x ⟨(8 + i.val + 24 - 3) % 24, by omega⟩ * w 0 + x ⟨(8 + i.val + 24 - 2) % 24, by omega⟩ * w 1 +
    x ⟨(8 + i.val + 24 - 1) % 24, by omega⟩ * w 2

/-- The activated convolution at token i. -/
def cv (x : Fin 24 → EReal) (w : Fin 8 → EReal) (i : Fin 16) : EReal := half x w i + half x w i * Ideal.tanh (half x w i)

/-- A key row, normalised. -/
def nrmk (v : Fin 128 → EReal) (d : Fin 128) : EReal := v d * Ideal.rsqrt (∑ x, v x * v x + Ideal.ofBits .f32 897988541#32)

/-- A query row, normalised and scaled. -/
def nrmq (v : Fin 128 → EReal) (d : Fin 128) : EReal :=
  v d * (Ideal.rsqrt (∑ x, v x * v x + Ideal.ofBits .f32 897988541#32) * Ideal.ofBits .f32 1035273459#32)

/-- The packed row of token i of head h. -/
def row (h : Fin 8) (i : Fin 16) : Fin 128 := ⟨16 * h.val + i.val, by omega⟩

/-- Column d of head h of the part of the columns that starts at o. -/
def col (o : ℕ) (ho : o ≤ 2048) (h : Fin 8) (d : Fin 128) : Fin 3072 := ⟨o + 128 * h.val + d.val, by omega⟩

end Cert.Delta

namespace Cert.KernelIdeal.Value
open Cert.KernelIdeal Cert.KernelIdeal.Gen Cert.Delta

variable (w : FVec Ideal S8x3072 .f32) (E : ℕ → Vec Ideal S24x128 .f32)

/-- The packed queries. -/
def qsV : FVec Ideal S128x128 .f32 :=
  k0_pay32 (k0_pay17 (k0_pay14 w (E 0)) (k0_pay15 w (E 0)) k0_pay16) (k0_pay18 w (E 1)) (k0_pay21 w (E 2) (k0_pay19 w (E 2)) (k0_pay20 w (E 2)))
    (k0_pay24 (k0_pay22 w (E 3)) (k0_pay23 w (E 3))) (k0_pay25 w (E 4)) (k0_pay26 w (E 5)) (k0_pay29 w (E 6) (k0_pay27 w (E 6)) (k0_pay28 (E 6)))
    (k0_pay30 w (E 7)) (k0_pay31 w (E 7))

/-- The packed keys. -/
def ksV : FVec Ideal S128x128 .f32 :=
  k0_pay50 (k0_pay33 w (E 8)) (k0_pay35 w (E 9) (k0_pay34 w)) (k0_pay38 w (E 10) (k0_pay36 w (E 10)) (k0_pay37 w (E 10)))
    (k0_pay41 (k0_pay39 w (E 11)) (k0_pay40 w (E 11)) (FloatOps.ofBits .f32 897988541#32)) (k0_pay42 w (E 12)) (k0_pay44 w (E 13) (k0_pay43 w (E 13)) 3#32)
    (k0_pay47 w (k0_pay45 w (E 14)) (k0_pay46 (E 14))) (k0_pay48 w (E 15)) (k0_pay49 w (E 15)) (FloatOps.ofBits .f32 1065353216#32)

/-- The packed values. -/
def vsV : FVec Ideal S128x128 .f32 :=
  k0_pay66 w (k0_pay51 w (E 16)) (k0_pay54 w (k0_pay52 w (E 17)) (k0_pay53 (E 17))) (k0_pay55 w (E 18)) (k0_pay57 w (E 19) (k0_pay56 w (E 19)) 1#32)
    (k0_pay58 w (E 20)) (k0_pay61 w (E 21) (k0_pay59 w (E 21)) (k0_pay60 w (E 21))) (k0_pay62 w (E 22)) (E 23) (k0_pay63 w (E 23)) (k0_pay64 (E 23)) (k0_pay65 w)

theorem q0 (e : Vec Ideal S24x128 .f32) (i : Fin 16) (d : Fin 128) : k0_pay17 (k0_pay14 w e) (k0_pay15 w e) k0_pay16 (ix2 i d) =
    nrmq (fun d => cv (fun r => e (ix2 r d)) (fun t => w (ix2 t ⟨d.val, by omega⟩)) i) d := by
  unfold_payloads
  pointwise [nrmq, cv, half]
theorem q1 (e : Vec Ideal S24x128 .f32) (i : Fin 16) (d : Fin 128) : k0_pay18 w e (ix2 i d) =
    nrmq (fun d => cv (fun r => e (ix2 r d)) (fun t => w (ix2 t ⟨128 + d.val, by omega⟩)) i) d := by
  unfold_payloads
  pointwise [nrmq, cv, half]
theorem q2 (e : Vec Ideal S24x128 .f32) (i : Fin 16) (d : Fin 128) : k0_pay21 w e (k0_pay19 w e) (k0_pay20 w e) (ix2 i d) =
    nrmq (fun d => cv (fun r => e (ix2 r d)) (fun t => w (ix2 t ⟨256 + d.val, by omega⟩)) i) d := by
  unfold_payloads
  pointwise [nrmq, cv, half]
theorem q3 (e : Vec Ideal S24x128 .f32) (i : Fin 16) (d : Fin 128) : k0_pay24 (k0_pay22 w e) (k0_pay23 w e) (ix2 i d) =
    nrmq (fun d => cv (fun r => e (ix2 r d)) (fun t => w (ix2 t ⟨384 + d.val, by omega⟩)) i) d := by
  unfold_payloads
  pointwise [nrmq, cv, half]
theorem q4 (e : Vec Ideal S24x128 .f32) (i : Fin 16) (d : Fin 128) : k0_pay25 w e (ix2 i d) =
    nrmq (fun d => cv (fun r => e (ix2 r d)) (fun t => w (ix2 t ⟨512 + d.val, by omega⟩)) i) d := by
  unfold_payloads
  pointwise [nrmq, cv, half]
theorem q5 (e : Vec Ideal S24x128 .f32) (i : Fin 16) (d : Fin 128) : k0_pay26 w e (ix2 i d) =
    nrmq (fun d => cv (fun r => e (ix2 r d)) (fun t => w (ix2 t ⟨640 + d.val, by omega⟩)) i) d := by
  unfold_payloads
  pointwise [nrmq, cv, half]
theorem q6 (e : Vec Ideal S24x128 .f32) (i : Fin 16) (d : Fin 128) : k0_pay29 w e (k0_pay27 w e) (k0_pay28 e) (ix2 i d) =
    nrmq (fun d => cv (fun r => e (ix2 r d)) (fun t => w (ix2 t ⟨768 + d.val, by omega⟩)) i) d := by
  unfold_payloads
  pointwise [nrmq, cv, half]
theorem k0 (e : Vec Ideal S24x128 .f32) (i : Fin 16) (d : Fin 128) : k0_pay33 w e (ix2 i d) =
    nrmk (fun d => cv (fun r => e (ix2 r d)) (fun t => w (ix2 t ⟨1024 + d.val, by omega⟩)) i) d := by
  unfold_payloads
  pointwise [nrmk, cv, half]
theorem k1 (e : Vec Ideal S24x128 .f32) (i : Fin 16) (d : Fin 128) : k0_pay35 w e (k0_pay34 w) (ix2 i d) =
    nrmk (fun d => cv (fun r => e (ix2 r d)) (fun t => w (ix2 t ⟨1152 + d.val, by omega⟩)) i) d := by
  unfold_payloads
  pointwise [nrmk, cv, half]
theorem k2 (e : Vec Ideal S24x128 .f32) (i : Fin 16) (d : Fin 128) : k0_pay38 w e (k0_pay36 w e) (k0_pay37 w e) (ix2 i d) =
    nrmk (fun d => cv (fun r => e (ix2 r d)) (fun t => w (ix2 t ⟨1280 + d.val, by omega⟩)) i) d := by
  unfold_payloads
  pointwise [nrmk, cv, half]
theorem k3 (e : Vec Ideal S24x128 .f32) (i : Fin 16) (d : Fin 128) : k0_pay41 (k0_pay39 w e) (k0_pay40 w e) (FloatOps.ofBits .f32 897988541#32) (ix2 i d) =
    nrmk (fun d => cv (fun r => e (ix2 r d)) (fun t => w (ix2 t ⟨1408 + d.val, by omega⟩)) i) d := by
  unfold_payloads
  pointwise [nrmk, cv, half]
theorem k4 (e : Vec Ideal S24x128 .f32) (i : Fin 16) (d : Fin 128) : k0_pay42 w e (ix2 i d) =
    nrmk (fun d => cv (fun r => e (ix2 r d)) (fun t => w (ix2 t ⟨1536 + d.val, by omega⟩)) i) d := by
  unfold_payloads
  pointwise [nrmk, cv, half]
theorem k5 (e : Vec Ideal S24x128 .f32) (i : Fin 16) (d : Fin 128) : k0_pay44 w e (k0_pay43 w e) 3#32 (ix2 i d) =
    nrmk (fun d => cv (fun r => e (ix2 r d)) (fun t => w (ix2 t ⟨1664 + d.val, by omega⟩)) i) d := by
  unfold_payloads
  pointwise [nrmk, cv, half]
theorem k6 (e : Vec Ideal S24x128 .f32) (i : Fin 16) (d : Fin 128) : k0_pay47 w (k0_pay45 w e) (k0_pay46 e) (ix2 i d) =
    nrmk (fun d => cv (fun r => e (ix2 r d)) (fun t => w (ix2 t ⟨1792 + d.val, by omega⟩)) i) d := by
  unfold_payloads
  pointwise [nrmk, cv, half]
theorem v0 (e : Vec Ideal S24x128 .f32) (i : Fin 16) (d : Fin 128) : k0_pay51 w e (ix2 i d) =
    cv (fun r => e (ix2 r d)) (fun t => w (ix2 t ⟨2048 + d.val, by omega⟩)) i := by
  unfold_payloads
  pointwise [cv, half]
theorem v1 (e : Vec Ideal S24x128 .f32) (i : Fin 16) (d : Fin 128) : k0_pay54 w (k0_pay52 w e) (k0_pay53 e) (ix2 i d) =
    cv (fun r => e (ix2 r d)) (fun t => w (ix2 t ⟨2176 + d.val, by omega⟩)) i := by
  unfold_payloads
  pointwise [cv, half]
theorem v2 (e : Vec Ideal S24x128 .f32) (i : Fin 16) (d : Fin 128) : k0_pay55 w e (ix2 i d) =
    cv (fun r => e (ix2 r d)) (fun t => w (ix2 t ⟨2304 + d.val, by omega⟩)) i := by
  unfold_payloads
  pointwise [cv, half]
theorem v3 (e : Vec Ideal S24x128 .f32) (i : Fin 16) (d : Fin 128) : k0_pay57 w e (k0_pay56 w e) 1#32 (ix2 i d) =
    cv (fun r => e (ix2 r d)) (fun t => w (ix2 t ⟨2432 + d.val, by omega⟩)) i := by
  unfold_payloads
  pointwise [cv, half]
theorem v4 (e : Vec Ideal S24x128 .f32) (i : Fin 16) (d : Fin 128) : k0_pay58 w e (ix2 i d) =
    cv (fun r => e (ix2 r d)) (fun t => w (ix2 t ⟨2560 + d.val, by omega⟩)) i := by
  unfold_payloads
  pointwise [cv, half]
theorem v5 (e : Vec Ideal S24x128 .f32) (i : Fin 16) (d : Fin 128) : k0_pay61 w e (k0_pay59 w e) (k0_pay60 w e) (ix2 i d) =
    cv (fun r => e (ix2 r d)) (fun t => w (ix2 t ⟨2688 + d.val, by omega⟩)) i := by
  unfold_payloads
  pointwise [cv, half]
theorem v6 (e : Vec Ideal S24x128 .f32) (i : Fin 16) (d : Fin 128) : k0_pay62 w e (ix2 i d) =
    cv (fun r => e (ix2 r d)) (fun t => w (ix2 t ⟨2816 + d.val, by omega⟩)) i := by
  unfold_payloads
  pointwise [cv, half]

theorem cat8 (p : Fin 8 → FVec Ideal S16x128 .f32) (prf) (h : Fin 8) (i : Fin 16) (d : Fin 128) :
    concatenate S128x128 0 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩] prf (ix2 (row h i) d) = p h (ix2 i d) := by
  refine concatenate_ofFn_apply (t := S128x128) (s₁ := S16x128) 0 p prf rfl 16 rfl _ h ?_ _ ?_ ?_
  · show (16 * h.val + i.val) / 16 = h.val
    omega
  · show i.val = (16 * h.val + i.val) % 16
    omega
  · intro b hb
    fin_cases b
    · exact absurd rfl hb
    · rfl

theorem q7 (e : Vec Ideal S24x128 .f32) (p0 p1 p2 p3 p4 p5 p6 : FVec Ideal S16x128 .f32) : ∃ p7 : FVec Ideal S16x128 .f32, (∀ i d, p7 (ix2 i d) =
    nrmq (fun d => cv (fun r => e (ix2 r d)) (fun t => w (ix2 t ⟨896 + d.val, by omega⟩)) i) d) ∧
    ∀ h i d, k0_pay32 p0 p1 p2 p3 p4 p5 p6 (k0_pay30 w e) (k0_pay31 w e) (ix2 (row h i) d) = (![p0, p1, p2, p3, p4, p5, p6, p7] : Fin 8 → FVec Ideal S16x128 .f32) h (ix2 i d) := by
  apply Exists.intro
  apply And.intro
  rotate_left
  · intro h i d
    unfold k0_pay32
    exact cat8 ![p0, p1, p2, p3, p4, p5, p6, _] _ h i d
  · intro i d
    unfold_payloads
    pointwise [nrmq, cv, half]

theorem k7 (e : Vec Ideal S24x128 .f32) (p0 p1 p2 p3 p4 p5 p6 : FVec Ideal S16x128 .f32) : ∃ p7 : FVec Ideal S16x128 .f32, (∀ i d, p7 (ix2 i d) =
    nrmk (fun d => cv (fun r => e (ix2 r d)) (fun t => w (ix2 t ⟨1920 + d.val, by omega⟩)) i) d) ∧
    ∀ h i d, k0_pay50 p0 p1 p2 p3 p4 p5 p6 (k0_pay48 w e) (k0_pay49 w e) (FloatOps.ofBits .f32 1065353216#32) (ix2 (row h i) d) = (![p0, p1, p2, p3, p4, p5, p6, p7] : Fin 8 → FVec Ideal S16x128 .f32) h (ix2 i d) := by
  apply Exists.intro
  apply And.intro
  rotate_left
  · intro h i d
    unfold k0_pay50
    exact cat8 ![p0, p1, p2, p3, p4, p5, p6, _] _ h i d
  · intro i d
    unfold_payloads
    pointwise [nrmk, cv, half]

theorem v7 (e : Vec Ideal S24x128 .f32) (p0 p1 p2 p3 p4 p5 p6 : FVec Ideal S16x128 .f32) : ∃ p7 : FVec Ideal S16x128 .f32, (∀ i d, p7 (ix2 i d) =
    cv (fun r => e (ix2 r d)) (fun t => w (ix2 t ⟨2944 + d.val, by omega⟩)) i) ∧
    ∀ h i d, k0_pay66 w p0 p1 p2 p3 p4 p5 p6 e (k0_pay63 w e) (k0_pay64 e) (k0_pay65 w) (ix2 (row h i) d) = (![p0, p1, p2, p3, p4, p5, p6, p7] : Fin 8 → FVec Ideal S16x128 .f32) h (ix2 i d) := by
  apply Exists.intro
  apply And.intro
  rotate_left
  · intro h i d
    unfold k0_pay66
    exact cat8 ![p0, p1, p2, p3, p4, p5, p6, _] _ h i d
  · intro i d
    unfold_payloads
    pointwise [cv, half]

theorem qsV_at (h : Fin 8) (i : Fin 16) (d : Fin 128) : qsV w E (ix2 (row h i) d) =
    nrmq (fun d => cv (fun r => E (h.val) (ix2 r d)) (fun t => w (ix2 t (col 0 (by omega) h d))) i) d := by
  obtain ⟨p7, h7, H⟩ := q7 w (E 7) _ _ _ _ _ _ _
  refine (H h i d).trans ?_
  match h with
  | 0 => exact (q0 w (E 0) i d).trans (by simp [col])
  | 1 => exact (q1 w (E 1) i d).trans (by congr 1)
  | 2 => exact (q2 w (E 2) i d).trans (by congr 1)
  | 3 => exact (q3 w (E 3) i d).trans (by congr 1)
  | 4 => exact (q4 w (E 4) i d).trans (by congr 1)
  | 5 => exact (q5 w (E 5) i d).trans (by congr 1)
  | 6 => exact (q6 w (E 6) i d).trans (by congr 1)
  | 7 => exact h7 i d

theorem ksV_at (h : Fin 8) (i : Fin 16) (d : Fin 128) : ksV w E (ix2 (row h i) d) =
    nrmk (fun d => cv (fun r => E (8 + h.val) (ix2 r d)) (fun t => w (ix2 t (col 1024 (by omega) h d))) i) d := by
  obtain ⟨p7, h7, H⟩ := k7 w (E 15) _ _ _ _ _ _ _
  refine (H h i d).trans ?_
  match h with
  | 0 => exact (k0 w (E 8) i d).trans (by congr 1)
  | 1 => exact (k1 w (E 9) i d).trans (by congr 1)
  | 2 => exact (k2 w (E 10) i d).trans (by congr 1)
  | 3 => exact (k3 w (E 11) i d).trans (by congr 1)
  | 4 => exact (k4 w (E 12) i d).trans (by congr 1)
  | 5 => exact (k5 w (E 13) i d).trans (by congr 1)
  | 6 => exact (k6 w (E 14) i d).trans (by congr 1)
  | 7 => exact h7 i d

theorem vsV_at (h : Fin 8) (i : Fin 16) (d : Fin 128) : vsV w E (ix2 (row h i) d) =
    cv (fun r => E (16 + h.val) (ix2 r d)) (fun t => w (ix2 t (col 2048 (by omega) h d))) i := by
  obtain ⟨p7, h7, H⟩ := v7 w (E 23) _ _ _ _ _ _ _
  refine (H h i d).trans ?_
  match h with
  | 0 => exact (v0 w (E 16) i d).trans (by congr 1)
  | 1 => exact (v1 w (E 17) i d).trans (by congr 1)
  | 2 => exact (v2 w (E 18) i d).trans (by congr 1)
  | 3 => exact (v3 w (E 19) i d).trans (by congr 1)
  | 4 => exact (v4 w (E 20) i d).trans (by congr 1)
  | 5 => exact (v5 w (E 21) i d).trans (by congr 1)
  | 6 => exact (v6 w (E 22) i d).trans (by congr 1)
  | 7 => exact h7 i d

end Cert.KernelIdeal.Value
-- ==== Proof.DeltaPack.lean ====
/- The block-diagonal products of the delta kernel, read row by row. -/
module
public import proofs.«01_k».proof.Proof.DeltaConv
@[expose] public section
set_option maxRecDepth 16384
noncomputable section
open Idealize.ShloMosaic Idealize.ShloMosaic.TcCoe Idealize.SL.Sem
namespace Cert.Delta

/-- Row i of the n-th block of 16 among 256. -/
def row2 (n : Fin 16) (i : Fin 16) : Fin 256 := ⟨16 * n.val + i.val, by omega⟩

/-- Column d of head h among 1024. -/
def lane (h : Fin 8) (d : Fin 128) : Fin 1024 := ⟨128 * h.val + d.val, by omega⟩

/-- A sum over 1024 columns, head by head. -/
theorem sum_lane (f : Fin 1024 → EReal) : ∑ x, f x = ∑ h : Fin 8, ∑ d : Fin 128, f (lane h d) := by
  rw [← Fintype.sum_prod_type', ← (finProdFinEquiv (m := 8) (n := 128)).sum_comp]
  refine Finset.sum_congr rfl fun p _ => congrArg f (Fin.ext ?_)
  simp [finProdFinEquiv, lane]; omega

/-- A sum over 128 rows, head by head. -/
theorem sum_row (f : Fin 128 → EReal) : ∑ x, f x = ∑ h : Fin 8, ∑ i : Fin 16, f (row h i) := by
  rw [← Fintype.sum_prod_type', ← (finProdFinEquiv (m := 8) (n := 16)).sum_comp]
  refine Finset.sum_congr rfl fun p _ => congrArg f (Fin.ext ?_)
  simp [finProdFinEquiv, row]; omega

end Cert.Delta
namespace Cert.KernelIdeal.Value
open Cert.KernelIdeal Cert.KernelIdeal.Gen Cert.Delta

theorem cat16w (p : Fin 16 → FVec Ideal S16x1024 .bf16) (prf) (n : Fin 16) (i : Fin 16) (c : Fin 1024) :
    concatenate S256x1024 0 [⟨S16x1024, p 0⟩, ⟨S16x1024, p 1⟩, ⟨S16x1024, p 2⟩, ⟨S16x1024, p 3⟩, ⟨S16x1024, p 4⟩, ⟨S16x1024, p 5⟩, ⟨S16x1024, p 6⟩, ⟨S16x1024, p 7⟩, ⟨S16x1024, p 8⟩, ⟨S16x1024, p 9⟩, ⟨S16x1024, p 10⟩, ⟨S16x1024, p 11⟩, ⟨S16x1024, p 12⟩, ⟨S16x1024, p 13⟩, ⟨S16x1024, p 14⟩, ⟨S16x1024, p 15⟩] prf (ix2 (row2 n i) c) = p n (ix2 i c) := by
  refine concatenate_ofFn_apply (t := S256x1024) (s₁ := S16x1024) 0 p prf rfl 16 rfl _ n ?_ _ ?_ ?_
  · show (16 * n.val + i.val) / 16 = n.val
    omega
  · show i.val = (16 * n.val + i.val) % 16
    omega
  · intro b hb
    fin_cases b
    · exact absurd rfl hb
    · rfl

theorem cat8r (p : Fin 8 → FVec Ideal S16x1024 .bf16) (prf) (n : Fin 8) (i : Fin 16) (c : Fin 1024) :
    concatenate S128x1024 0 [⟨S16x1024, p 0⟩, ⟨S16x1024, p 1⟩, ⟨S16x1024, p 2⟩, ⟨S16x1024, p 3⟩, ⟨S16x1024, p 4⟩, ⟨S16x1024, p 5⟩, ⟨S16x1024, p 6⟩, ⟨S16x1024, p 7⟩] prf (ix2 (row n i) c) = p n (ix2 i c) := by
  refine concatenate_ofFn_apply (t := S128x1024) (s₁ := S16x1024) 0 p prf rfl 16 rfl _ n ?_ _ ?_ ?_
  · show (16 * n.val + i.val) / 16 = n.val
    omega
  · show i.val = (16 * n.val + i.val) % 16
    omega
  · intro b hb
    fin_cases b
    · exact absurd rfl hb
    · rfl

theorem cat8c (p : Fin 8 → FVec Ideal S16x128 .bf16) (prf) (i : Fin 16) (h : Fin 8) (d : Fin 128) :
    concatenate S16x1024 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩] prf (ix2 i (lane h d)) = p h (ix2 i d) := by
  refine concatenate_ofFn_apply (t := S16x1024) (s₁ := S16x128) 1 p prf rfl 128 rfl _ h ?_ _ ?_ ?_
  · show (128 * h.val + d.val) / 128 = h.val
    omega
  · show d.val = (128 * h.val + d.val) % 128
    omega
  · intro b hb
    fin_cases b
    · rfl
    · exact absurd rfl hb

theorem cat8t (p : Fin 8 → FVec Ideal S128x1 .f32) (prf) (h : Fin 8) (d : Fin 128) :
    concatenate S1024x1 0 [⟨S128x1, p 0⟩, ⟨S128x1, p 1⟩, ⟨S128x1, p 2⟩, ⟨S128x1, p 3⟩, ⟨S128x1, p 4⟩, ⟨S128x1, p 5⟩, ⟨S128x1, p 6⟩, ⟨S128x1, p 7⟩] prf (ix2 (lane h d) 0) = p h (ix2 d 0) := by
  refine concatenate_ofFn_apply (t := S1024x1) (s₁ := S128x1) 0 p prf rfl 128 rfl _ h ?_ _ ?_ ?_
  · show (128 * h.val + d.val) / 128 = h.val
    omega
  · show d.val = (128 * h.val + d.val) % 128
    omega
  · intro b hb
    fin_cases b
    · exact absurd rfl hb
    · rfl

theorem cat8s (p : Fin 8 → FVec Ideal S16x1 .f32) (prf) (h : Fin 8) (i : Fin 16) :
    concatenate S128x1 0 [⟨S16x1, p 0⟩, ⟨S16x1, p 1⟩, ⟨S16x1, p 2⟩, ⟨S16x1, p 3⟩, ⟨S16x1, p 4⟩, ⟨S16x1, p 5⟩, ⟨S16x1, p 6⟩, ⟨S16x1, p 7⟩] prf (ix2 (row h i) 0) = p h (ix2 i 0) := by
  refine concatenate_ofFn_apply (t := S128x1) (s₁ := S16x1) 0 p prf rfl 16 rfl _ h ?_ _ ?_ ?_
  · show (16 * h.val + i.val) / 16 = h.val
    omega
  · show i.val = (16 * h.val + i.val) % 16
    omega
  · intro b hb
    fin_cases b
    · exact absurd rfl hb
    · rfl

theorem slice16 (x : FVec Ideal S256x128 .bf16) (o : ℕ) (prf) (i : Fin 16) (d : Fin 128) (n : Fin 16) (ho : o = 16 * n.val) :
    extractStridedSlice S16x128 ![o, 0] x prf (ix2 i d) = x (ix2 (row2 n i) d) := by
  subst ho
  pointwise
  rfl

theorem slice8 (x : FVec Ideal S128x128 .bf16) (o : ℕ) (prf) (i : Fin 16) (d : Fin 128) (n : Fin 8) (ho : o = 16 * n.val) :
    extractStridedSlice S16x128 ![o, 0] x prf (ix2 i d) = x (ix2 (row n i) d) := by
  subst ho
  pointwise
  rfl

theorem slice1 (y : FVec Ideal S16x128 .f32) (o : ℕ) (prf) (i : Fin 16) (c : Fin 128) (ho : c.val = o) :
    extractStridedSlice S16x1 ![0, o] y prf (ix2 i 0) = y (ix2 i c) := by
  subst ho
  pointwise

theorem glast (y : FVec Ideal S1x128 .f32) (o : ℕ) (prf prf' prf'') (i : Fin 16) (c : Fin 128) (ho : c.val = o) :
    broadcastTo S16x1 (shapeCast S1x1 (extractStridedSlice S1x1 ![0, o] y prf) prf') prf'' (ix2 i 0) = y (ix2 0 c) := by
  subst ho
  pointwise

theorem mm92 (B : FVec Ideal S256x1024 .bf16) (s : FVec Ideal S1024x128 .bf16) (r : Fin 256) (e : Fin 128) :
    matmul dot_S256x1024_S1024x128_S256x128_1_0_0_1_n_n none B s (constant S256x128 .f32 0x00000000#32) (ix2 r e) =
      ∑ x, B (ix2 r x) * s (ix2 x e) := by
  pointwise

theorem zero16 (i : Fin 16) (d : Fin 128) : (broadcast S16x128 (Scalar.ofBits .bf16 0x0000#16 : Ideal .bf16)) (ix2 i d) = (0 : EReal) := by
  pointwise

/-- The stacked rows times the state: each block of 16 rows meets its own head's rows of the state. -/
theorem pay92_at (a : FVec Ideal S256x128 .f32) (s : Vec Ideal S1024x128 .f32) (n : Fin 16) (g : Fin 8) (hg : n.val % 8 = g.val) (i : Fin 16) (e : Fin 128) :
    k0_pay92 a s (ix2 (row2 n i) e) = ∑ d : Fin 128, a (ix2 (row2 n i) d) * s (ix2 (lane g d) e) := by
  obtain ⟨B, hB, H⟩ : ∃ B : FVec Ideal S256x1024 .bf16, (∀ (n i : Fin 16) (h : Fin 8) (d : Fin 128), B (ix2 (row2 n i) (lane h d)) = if n.val % 8 = h.val then a (ix2 (row2 n i) d) else (0 : EReal)) ∧
      ∀ r e, k0_pay92 a s (ix2 r e) = ∑ x, B (ix2 r x) * s (ix2 x e) := by
    apply Exists.intro
    apply And.intro
    rotate_left
    · intro r e
      unfold k0_pay92
      exact mm92 _ _ r e
    · intro n i h d
      refine Eq.trans (cat16w ![_, _, _, _, _, _, _, _, _, _, _, _, _, _, _, _] _ n i (lane h d)) ?_
      match n with
      | ⟨0, _⟩ =>
        refine Eq.trans (cat8c ![_, _, _, _, _, _, _, _] concatenates_S16x128_S16x128_S16x128_S16x128_S16x128_S16x128_S16x128_S16x128_S16x1024_d1 i h d) ?_
        match h with
        | 0 => exact Eq.trans (slice16 _ 0 slices_S256x128_o0_0_S16x128 i d ⟨0, by omega⟩ rfl) (if_pos (show (0 : ℕ) % 8 = 0 from rfl)).symm
        | 1 => exact (zero16 i d).trans (if_neg (by show ¬ (0 % 8 = 1); decide)).symm
        | 2 => exact (zero16 i d).trans (if_neg (by show ¬ (0 % 8 = 2); decide)).symm
        | 3 => exact (zero16 i d).trans (if_neg (by show ¬ (0 % 8 = 3); decide)).symm
        | 4 => exact (zero16 i d).trans (if_neg (by show ¬ (0 % 8 = 4); decide)).symm
        | 5 => exact (zero16 i d).trans (if_neg (by show ¬ (0 % 8 = 5); decide)).symm
        | 6 => exact (zero16 i d).trans (if_neg (by show ¬ (0 % 8 = 6); decide)).symm
        | 7 => exact (zero16 i d).trans (if_neg (by show ¬ (0 % 8 = 7); decide)).symm
      | ⟨1, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (1 % 8 = 0); decide)).symm
        | 1 => exact Eq.trans (slice16 _ 16 slices_S256x128_o16_0_S16x128 i d ⟨1, by omega⟩ rfl) (if_pos (show (1 : ℕ) % 8 = 1 from rfl)).symm
        | 2 => exact (zero16 i d).trans (if_neg (by show ¬ (1 % 8 = 2); decide)).symm
        | 3 => exact (zero16 i d).trans (if_neg (by show ¬ (1 % 8 = 3); decide)).symm
        | 4 => exact (zero16 i d).trans (if_neg (by show ¬ (1 % 8 = 4); decide)).symm
        | 5 => exact (zero16 i d).trans (if_neg (by show ¬ (1 % 8 = 5); decide)).symm
        | 6 => exact (zero16 i d).trans (if_neg (by show ¬ (1 % 8 = 6); decide)).symm
        | 7 => exact (zero16 i d).trans (if_neg (by show ¬ (1 % 8 = 7); decide)).symm
      | ⟨2, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (2 % 8 = 0); decide)).symm
        | 1 => exact (zero16 i d).trans (if_neg (by show ¬ (2 % 8 = 1); decide)).symm
        | 2 => exact Eq.trans (slice16 _ 32 slices_S256x128_o32_0_S16x128 i d ⟨2, by omega⟩ rfl) (if_pos (show (2 : ℕ) % 8 = 2 from rfl)).symm
        | 3 => exact (zero16 i d).trans (if_neg (by show ¬ (2 % 8 = 3); decide)).symm
        | 4 => exact (zero16 i d).trans (if_neg (by show ¬ (2 % 8 = 4); decide)).symm
        | 5 => exact (zero16 i d).trans (if_neg (by show ¬ (2 % 8 = 5); decide)).symm
        | 6 => exact (zero16 i d).trans (if_neg (by show ¬ (2 % 8 = 6); decide)).symm
        | 7 => exact (zero16 i d).trans (if_neg (by show ¬ (2 % 8 = 7); decide)).symm
      | ⟨3, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (3 % 8 = 0); decide)).symm
        | 1 => exact (zero16 i d).trans (if_neg (by show ¬ (3 % 8 = 1); decide)).symm
        | 2 => exact (zero16 i d).trans (if_neg (by show ¬ (3 % 8 = 2); decide)).symm
        | 3 => exact Eq.trans (slice16 _ 48 slices_S256x128_o48_0_S16x128 i d ⟨3, by omega⟩ rfl) (if_pos (show (3 : ℕ) % 8 = 3 from rfl)).symm
        | 4 => exact (zero16 i d).trans (if_neg (by show ¬ (3 % 8 = 4); decide)).symm
        | 5 => exact (zero16 i d).trans (if_neg (by show ¬ (3 % 8 = 5); decide)).symm
        | 6 => exact (zero16 i d).trans (if_neg (by show ¬ (3 % 8 = 6); decide)).symm
        | 7 => exact (zero16 i d).trans (if_neg (by show ¬ (3 % 8 = 7); decide)).symm
      | ⟨4, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (4 % 8 = 0); decide)).symm
        | 1 => exact (zero16 i d).trans (if_neg (by show ¬ (4 % 8 = 1); decide)).symm
        | 2 => exact (zero16 i d).trans (if_neg (by show ¬ (4 % 8 = 2); decide)).symm
        | 3 => exact (zero16 i d).trans (if_neg (by show ¬ (4 % 8 = 3); decide)).symm
        | 4 => exact Eq.trans (slice16 _ 64 slices_S256x128_o64_0_S16x128 i d ⟨4, by omega⟩ rfl) (if_pos (show (4 : ℕ) % 8 = 4 from rfl)).symm
        | 5 => exact (zero16 i d).trans (if_neg (by show ¬ (4 % 8 = 5); decide)).symm
        | 6 => exact (zero16 i d).trans (if_neg (by show ¬ (4 % 8 = 6); decide)).symm
        | 7 => exact (zero16 i d).trans (if_neg (by show ¬ (4 % 8 = 7); decide)).symm
      | ⟨5, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (5 % 8 = 0); decide)).symm
        | 1 => exact (zero16 i d).trans (if_neg (by show ¬ (5 % 8 = 1); decide)).symm
        | 2 => exact (zero16 i d).trans (if_neg (by show ¬ (5 % 8 = 2); decide)).symm
        | 3 => exact (zero16 i d).trans (if_neg (by show ¬ (5 % 8 = 3); decide)).symm
        | 4 => exact (zero16 i d).trans (if_neg (by show ¬ (5 % 8 = 4); decide)).symm
        | 5 => exact Eq.trans (slice16 _ 80 slices_S256x128_o80_0_S16x128 i d ⟨5, by omega⟩ rfl) (if_pos (show (5 : ℕ) % 8 = 5 from rfl)).symm
        | 6 => exact (zero16 i d).trans (if_neg (by show ¬ (5 % 8 = 6); decide)).symm
        | 7 => exact (zero16 i d).trans (if_neg (by show ¬ (5 % 8 = 7); decide)).symm
      | ⟨6, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (6 % 8 = 0); decide)).symm
        | 1 => exact (zero16 i d).trans (if_neg (by show ¬ (6 % 8 = 1); decide)).symm
        | 2 => exact (zero16 i d).trans (if_neg (by show ¬ (6 % 8 = 2); decide)).symm
        | 3 => exact (zero16 i d).trans (if_neg (by show ¬ (6 % 8 = 3); decide)).symm
        | 4 => exact (zero16 i d).trans (if_neg (by show ¬ (6 % 8 = 4); decide)).symm
        | 5 => exact (zero16 i d).trans (if_neg (by show ¬ (6 % 8 = 5); decide)).symm
        | 6 => exact Eq.trans (slice16 _ 96 slices_S256x128_o96_0_S16x128 i d ⟨6, by omega⟩ rfl) (if_pos (show (6 : ℕ) % 8 = 6 from rfl)).symm
        | 7 => exact (zero16 i d).trans (if_neg (by show ¬ (6 % 8 = 7); decide)).symm
      | ⟨7, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (7 % 8 = 0); decide)).symm
        | 1 => exact (zero16 i d).trans (if_neg (by show ¬ (7 % 8 = 1); decide)).symm
        | 2 => exact (zero16 i d).trans (if_neg (by show ¬ (7 % 8 = 2); decide)).symm
        | 3 => exact (zero16 i d).trans (if_neg (by show ¬ (7 % 8 = 3); decide)).symm
        | 4 => exact (zero16 i d).trans (if_neg (by show ¬ (7 % 8 = 4); decide)).symm
        | 5 => exact (zero16 i d).trans (if_neg (by show ¬ (7 % 8 = 5); decide)).symm
        | 6 => exact (zero16 i d).trans (if_neg (by show ¬ (7 % 8 = 6); decide)).symm
        | 7 => exact Eq.trans (slice16 _ 112 slices_S256x128_o112_0_S16x128 i d ⟨7, by omega⟩ rfl) (if_pos (show (7 : ℕ) % 8 = 7 from rfl)).symm
      | ⟨8, _⟩ =>
        refine Eq.trans (cat8c ![_, _, _, _, _, _, _, _] concatenates_S16x128_S16x128_S16x128_S16x128_S16x128_S16x128_S16x128_S16x128_S16x1024_d1 i h d) ?_
        match h with
        | 0 => exact Eq.trans (slice16 _ 128 slices_S256x128_o128_0_S16x128 i d ⟨8, by omega⟩ rfl) (if_pos (show (8 : ℕ) % 8 = 0 from rfl)).symm
        | 1 => exact (zero16 i d).trans (if_neg (by show ¬ (8 % 8 = 1); decide)).symm
        | 2 => exact (zero16 i d).trans (if_neg (by show ¬ (8 % 8 = 2); decide)).symm
        | 3 => exact (zero16 i d).trans (if_neg (by show ¬ (8 % 8 = 3); decide)).symm
        | 4 => exact (zero16 i d).trans (if_neg (by show ¬ (8 % 8 = 4); decide)).symm
        | 5 => exact (zero16 i d).trans (if_neg (by show ¬ (8 % 8 = 5); decide)).symm
        | 6 => exact (zero16 i d).trans (if_neg (by show ¬ (8 % 8 = 6); decide)).symm
        | 7 => exact (zero16 i d).trans (if_neg (by show ¬ (8 % 8 = 7); decide)).symm
      | ⟨9, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (9 % 8 = 0); decide)).symm
        | 1 => exact Eq.trans (slice16 _ 144 slices_S256x128_o144_0_S16x128 i d ⟨9, by omega⟩ rfl) (if_pos (show (9 : ℕ) % 8 = 1 from rfl)).symm
        | 2 => exact (zero16 i d).trans (if_neg (by show ¬ (9 % 8 = 2); decide)).symm
        | 3 => exact (zero16 i d).trans (if_neg (by show ¬ (9 % 8 = 3); decide)).symm
        | 4 => exact (zero16 i d).trans (if_neg (by show ¬ (9 % 8 = 4); decide)).symm
        | 5 => exact (zero16 i d).trans (if_neg (by show ¬ (9 % 8 = 5); decide)).symm
        | 6 => exact (zero16 i d).trans (if_neg (by show ¬ (9 % 8 = 6); decide)).symm
        | 7 => exact (zero16 i d).trans (if_neg (by show ¬ (9 % 8 = 7); decide)).symm
      | ⟨10, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (10 % 8 = 0); decide)).symm
        | 1 => exact (zero16 i d).trans (if_neg (by show ¬ (10 % 8 = 1); decide)).symm
        | 2 => exact Eq.trans (slice16 _ 160 slices_S256x128_o160_0_S16x128 i d ⟨10, by omega⟩ rfl) (if_pos (show (10 : ℕ) % 8 = 2 from rfl)).symm
        | 3 => exact (zero16 i d).trans (if_neg (by show ¬ (10 % 8 = 3); decide)).symm
        | 4 => exact (zero16 i d).trans (if_neg (by show ¬ (10 % 8 = 4); decide)).symm
        | 5 => exact (zero16 i d).trans (if_neg (by show ¬ (10 % 8 = 5); decide)).symm
        | 6 => exact (zero16 i d).trans (if_neg (by show ¬ (10 % 8 = 6); decide)).symm
        | 7 => exact (zero16 i d).trans (if_neg (by show ¬ (10 % 8 = 7); decide)).symm
      | ⟨11, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (11 % 8 = 0); decide)).symm
        | 1 => exact (zero16 i d).trans (if_neg (by show ¬ (11 % 8 = 1); decide)).symm
        | 2 => exact (zero16 i d).trans (if_neg (by show ¬ (11 % 8 = 2); decide)).symm
        | 3 => exact Eq.trans (slice16 _ 176 slices_S256x128_o176_0_S16x128 i d ⟨11, by omega⟩ rfl) (if_pos (show (11 : ℕ) % 8 = 3 from rfl)).symm
        | 4 => exact (zero16 i d).trans (if_neg (by show ¬ (11 % 8 = 4); decide)).symm
        | 5 => exact (zero16 i d).trans (if_neg (by show ¬ (11 % 8 = 5); decide)).symm
        | 6 => exact (zero16 i d).trans (if_neg (by show ¬ (11 % 8 = 6); decide)).symm
        | 7 => exact (zero16 i d).trans (if_neg (by show ¬ (11 % 8 = 7); decide)).symm
      | ⟨12, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (12 % 8 = 0); decide)).symm
        | 1 => exact (zero16 i d).trans (if_neg (by show ¬ (12 % 8 = 1); decide)).symm
        | 2 => exact (zero16 i d).trans (if_neg (by show ¬ (12 % 8 = 2); decide)).symm
        | 3 => exact (zero16 i d).trans (if_neg (by show ¬ (12 % 8 = 3); decide)).symm
        | 4 => exact Eq.trans (slice16 _ 192 slices_S256x128_o192_0_S16x128 i d ⟨12, by omega⟩ rfl) (if_pos (show (12 : ℕ) % 8 = 4 from rfl)).symm
        | 5 => exact (zero16 i d).trans (if_neg (by show ¬ (12 % 8 = 5); decide)).symm
        | 6 => exact (zero16 i d).trans (if_neg (by show ¬ (12 % 8 = 6); decide)).symm
        | 7 => exact (zero16 i d).trans (if_neg (by show ¬ (12 % 8 = 7); decide)).symm
      | ⟨13, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (13 % 8 = 0); decide)).symm
        | 1 => exact (zero16 i d).trans (if_neg (by show ¬ (13 % 8 = 1); decide)).symm
        | 2 => exact (zero16 i d).trans (if_neg (by show ¬ (13 % 8 = 2); decide)).symm
        | 3 => exact (zero16 i d).trans (if_neg (by show ¬ (13 % 8 = 3); decide)).symm
        | 4 => exact (zero16 i d).trans (if_neg (by show ¬ (13 % 8 = 4); decide)).symm
        | 5 => exact Eq.trans (slice16 _ 208 slices_S256x128_o208_0_S16x128 i d ⟨13, by omega⟩ rfl) (if_pos (show (13 : ℕ) % 8 = 5 from rfl)).symm
        | 6 => exact (zero16 i d).trans (if_neg (by show ¬ (13 % 8 = 6); decide)).symm
        | 7 => exact (zero16 i d).trans (if_neg (by show ¬ (13 % 8 = 7); decide)).symm
      | ⟨14, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (14 % 8 = 0); decide)).symm
        | 1 => exact (zero16 i d).trans (if_neg (by show ¬ (14 % 8 = 1); decide)).symm
        | 2 => exact (zero16 i d).trans (if_neg (by show ¬ (14 % 8 = 2); decide)).symm
        | 3 => exact (zero16 i d).trans (if_neg (by show ¬ (14 % 8 = 3); decide)).symm
        | 4 => exact (zero16 i d).trans (if_neg (by show ¬ (14 % 8 = 4); decide)).symm
        | 5 => exact (zero16 i d).trans (if_neg (by show ¬ (14 % 8 = 5); decide)).symm
        | 6 => exact Eq.trans (slice16 _ 224 slices_S256x128_o224_0_S16x128 i d ⟨14, by omega⟩ rfl) (if_pos (show (14 : ℕ) % 8 = 6 from rfl)).symm
        | 7 => exact (zero16 i d).trans (if_neg (by show ¬ (14 % 8 = 7); decide)).symm
      | ⟨15, _⟩ =>
        refine Eq.trans (cat8c ![_, _, _, _, _, _, _, _] concatenates_S16x128_S16x128_S16x128_S16x128_S16x128_S16x128_S16x128_S16x128_S16x1024_d1 i h d) ?_
        match h with
        | 0 => exact (zero16 i d).trans (if_neg (by show ¬ (15 % 8 = 0); decide)).symm
        | 1 => exact (zero16 i d).trans (if_neg (by show ¬ (15 % 8 = 1); decide)).symm
        | 2 => exact (zero16 i d).trans (if_neg (by show ¬ (15 % 8 = 2); decide)).symm
        | 3 => exact (zero16 i d).trans (if_neg (by show ¬ (15 % 8 = 3); decide)).symm
        | 4 => exact (zero16 i d).trans (if_neg (by show ¬ (15 % 8 = 4); decide)).symm
        | 5 => exact (zero16 i d).trans (if_neg (by show ¬ (15 % 8 = 5); decide)).symm
        | 6 => exact (zero16 i d).trans (if_neg (by show ¬ (15 % 8 = 6); decide)).symm
        | 7 => exact Eq.trans (slice16 _ 240 slices_S256x128_o240_0_S16x128 i d ⟨15, by omega⟩ rfl) (if_pos (show (15 : ℕ) % 8 = 7 from rfl)).symm
      | ⟨k + 16, hk⟩ => exact absurd hk (by omega)
  rw [H, sum_lane, Finset.sum_eq_single g]
  · exact Finset.sum_congr rfl fun d _ => by rw [hB, if_pos hg]
  · intro h _ hne
    refine Finset.sum_eq_zero fun d _ => ?_
    rw [hB, if_neg (fun e => hne (Fin.ext (e.symm.trans hg))), zero_mul]
  · intro h; exact absurd (Finset.mem_univ _) h

/-- The decayed keys. -/
def kdecV (k : FVec Ideal S128x128 .f32) (gc gl : FVec Ideal S128x1 .f32) : FVec Ideal S128x128 .bf16 :=
  truncf .bf16 (mulf k (broadcastTo S128x128 (exp (subf gl gc)) broadcasts_S128x1_S128x128)) bitsLt_bf16_f32

/-- The decayed keys, spread block-diagonally. -/
theorem pay84_at (k : FVec Ideal S128x128 .f32) (gc gl : FVec Ideal S128x1 .f32) (n : Fin 8) (i : Fin 16) (h : Fin 8) (d : Fin 128) :
    k0_pay84 k gc gl (ix2 (row n i) (lane h d)) = if n = h then k (ix2 (row n i) d) * Ideal.exp (gl (ix2 (row n i) 0) - gc (ix2 (row n i) 0)) else (0 : EReal) := by
  have hk : ∀ r d, kdecV k gc gl (ix2 r d) = k (ix2 r d) * Ideal.exp (gl (ix2 r 0) - gc (ix2 r 0)) := by
    intro r d
    unfold kdecV
    pointwise
  rw [← hk]
  unfold k0_pay84
  refine Eq.trans (cat8r ![_, _, _, _, _, _, _, _] _ n i (lane h d)) ?_
  match n with
  | 0 =>
    refine Eq.trans (cat8c ![_, _, _, _, _, _, _, _] concatenates_S16x128_S16x128_S16x128_S16x128_S16x128_S16x128_S16x128_S16x128_S16x1024_d1 i h d) ?_
    match h with
    | 0 => exact Eq.trans (slice8 (kdecV k gc gl) 0 slices_S128x128_o0_0_S16x128 i d 0 rfl) (if_pos rfl).symm
    | 1 => exact (zero16 i d).trans (if_neg (by decide)).symm
    | 2 => exact (zero16 i d).trans (if_neg (by decide)).symm
    | 3 => exact (zero16 i d).trans (if_neg (by decide)).symm
    | 4 => exact (zero16 i d).trans (if_neg (by decide)).symm
    | 5 => exact (zero16 i d).trans (if_neg (by decide)).symm
    | 6 => exact (zero16 i d).trans (if_neg (by decide)).symm
    | 7 => exact (zero16 i d).trans (if_neg (by decide)).symm
  | 1 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact Eq.trans (slice8 (kdecV k gc gl) 16 slices_S128x128_o16_0_S16x128 i d 1 rfl) (if_pos rfl).symm
    | 2 => exact (zero16 i d).trans (if_neg (by decide)).symm
    | 3 => exact (zero16 i d).trans (if_neg (by decide)).symm
    | 4 => exact (zero16 i d).trans (if_neg (by decide)).symm
    | 5 => exact (zero16 i d).trans (if_neg (by decide)).symm
    | 6 => exact (zero16 i d).trans (if_neg (by decide)).symm
    | 7 => exact (zero16 i d).trans (if_neg (by decide)).symm
  | 2 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact Eq.trans (slice8 (kdecV k gc gl) 32 slices_S128x128_o32_0_S16x128 i d 2 rfl) (if_pos rfl).symm
    | 3 => exact (zero16 i d).trans (if_neg (by decide)).symm
    | 4 => exact (zero16 i d).trans (if_neg (by decide)).symm
    | 5 => exact (zero16 i d).trans (if_neg (by decide)).symm
    | 6 => exact (zero16 i d).trans (if_neg (by decide)).symm
    | 7 => exact (zero16 i d).trans (if_neg (by decide)).symm
  | 3 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact (zero16 i d).trans (if_neg (by decide)).symm
    | 3 => exact Eq.trans (slice8 (kdecV k gc gl) 48 slices_S128x128_o48_0_S16x128 i d 3 rfl) (if_pos rfl).symm
    | 4 => exact (zero16 i d).trans (if_neg (by decide)).symm
    | 5 => exact (zero16 i d).trans (if_neg (by decide)).symm
    | 6 => exact (zero16 i d).trans (if_neg (by decide)).symm
    | 7 => exact (zero16 i d).trans (if_neg (by decide)).symm
  | 4 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact (zero16 i d).trans (if_neg (by decide)).symm
    | 3 => exact (zero16 i d).trans (if_neg (by decide)).symm
    | 4 => exact Eq.trans (slice8 (kdecV k gc gl) 64 slices_S128x128_o64_0_S16x128 i d 4 rfl) (if_pos rfl).symm
    | 5 => exact (zero16 i d).trans (if_neg (by decide)).symm
    | 6 => exact (zero16 i d).trans (if_neg (by decide)).symm
    | 7 => exact (zero16 i d).trans (if_neg (by decide)).symm
  | 5 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact (zero16 i d).trans (if_neg (by decide)).symm
    | 3 => exact (zero16 i d).trans (if_neg (by decide)).symm
    | 4 => exact (zero16 i d).trans (if_neg (by decide)).symm
    | 5 => exact Eq.trans (slice8 (kdecV k gc gl) 80 slices_S128x128_o80_0_S16x128 i d 5 rfl) (if_pos rfl).symm
    | 6 => exact (zero16 i d).trans (if_neg (by decide)).symm
    | 7 => exact (zero16 i d).trans (if_neg (by decide)).symm
  | 6 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact (zero16 i d).trans (if_neg (by decide)).symm
    | 3 => exact (zero16 i d).trans (if_neg (by decide)).symm
    | 4 => exact (zero16 i d).trans (if_neg (by decide)).symm
    | 5 => exact (zero16 i d).trans (if_neg (by decide)).symm
    | 6 => exact Eq.trans (slice8 (kdecV k gc gl) 96 slices_S128x128_o96_0_S16x128 i d 6 rfl) (if_pos rfl).symm
    | 7 => exact (zero16 i d).trans (if_neg (by decide)).symm
  | 7 =>
    refine Eq.trans (cat8c ![_, _, _, _, _, _, _, _] concatenates_S16x128_S16x128_S16x128_S16x128_S16x128_S16x128_S16x128_S16x128_S16x1024_d1 i h d) ?_
    match h with
    | 0 => exact (zero16 i d).trans (if_neg (by decide)).symm
    | 1 => exact (zero16 i d).trans (if_neg (by decide)).symm
    | 2 => exact (zero16 i d).trans (if_neg (by decide)).symm
    | 3 => exact (zero16 i d).trans (if_neg (by decide)).symm
    | 4 => exact (zero16 i d).trans (if_neg (by decide)).symm
    | 5 => exact (zero16 i d).trans (if_neg (by decide)).symm
    | 6 => exact (zero16 i d).trans (if_neg (by decide)).symm
    | 7 => exact Eq.trans (slice8 (kdecV k gc gl) 112 slices_S128x128_o112_0_S16x128 i d 7 rfl) (if_pos rfl).symm

theorem mm95 (B : FVec Ideal S128x1024 .bf16) (s : FVec Ideal S128x128 .bf16) (r : Fin 1024) (e : Fin 128) :
    matmul dot_S128x1024_S128x128_S1024x128_0_0_1_1_n_n none B s (constant S1024x128 .f32 0x00000000#32) (ix2 r e) =
      ∑ x, B (ix2 x r) * s (ix2 x e) := by
  pointwise

theorem pay95_raw (g : FVec Ideal S1024x1 .f32) (B : FVec Ideal S128x1024 .bf16) (sol : FVec Ideal S128x256 .f32) (a : FVec Ideal S256x128 .f32) (s : Vec Ideal S1024x128 .f32)
    (r : Fin 1024) (e : Fin 128) :
    k0_pay95 g B sol a s (ix2 r e) = s (ix2 r e) * g (ix2 r 0) + ∑ x, B (ix2 x r) * k0_pay93 sol a s (ix2 x e) := by
  rw [← mm95 B (k0_pay93 sol a s)]
  unfold k0_pay95
  generalize k0_pay93 sol a s = w
  generalize hm : matmul dot_S128x1024_S128x128_S1024x128_0_0_1_1_n_n none B w (constant S1024x128 .f32 0x00000000#32) = m
  pointwise

theorem pay93_at (sol : FVec Ideal S128x256 .f32) (a : FVec Ideal S256x128 .f32) (s : Vec Ideal S1024x128 .f32) (h : Fin 8) (i : Fin 16) (e : Fin 128) :
    k0_pay93 sol a s (ix2 (row h i) e) = sol (ix2 (row h i) ⟨e.val, by omega⟩) - ∑ d : Fin 128, a (ix2 (row2 ⟨h.val, by omega⟩ i) d) * s (ix2 (lane h d) e) := by
  rw [← pay92_at a s ⟨h.val, by omega⟩ h (by show h.val % 8 = _; omega) i e]
  unfold k0_pay93
  generalize k0_pay92 a s = m
  pointwise
  rfl

theorem pay96_at (a : FVec Ideal S256x128 .f32) (s : Vec Ideal S1024x128 .f32) (h : Fin 8) (i : Fin 16) (e : Fin 128) :
    k0_pay96 a s (ix2 (row h i) e) = ∑ d : Fin 128, a (ix2 (row2 ⟨8 + h.val, by omega⟩ i) d) * s (ix2 (lane h d) e) := by
  rw [← pay92_at a s ⟨8 + h.val, by omega⟩ h (by show (8 + h.val) % 8 = _; omega) i e]
  unfold k0_pay96
  generalize k0_pay92 a s = m
  pointwise
  refine congrArg m ?_
  congr 1
  apply Fin.ext
  simp [row, row2]; omega

/-- The new state of head h. -/
theorem pay95_at (g : FVec Ideal S1024x1 .f32) (k : FVec Ideal S128x128 .f32) (gc gl : FVec Ideal S128x1 .f32) (sol : FVec Ideal S128x256 .f32) (a : FVec Ideal S256x128 .f32)
    (s : Vec Ideal S1024x128 .f32) (h : Fin 8) (d e : Fin 128) :
    k0_pay95 g (k0_pay84 k gc gl) sol a s (ix2 (lane h d) e) = s (ix2 (lane h d) e) * g (ix2 (lane h d) 0) +
      ∑ i : Fin 16, (k (ix2 (row h i) d) * Ideal.exp (gl (ix2 (row h i) 0) - gc (ix2 (row h i) 0))) * k0_pay93 sol a s (ix2 (row h i) e) := by
  rw [pay95_raw, sum_row, Finset.sum_eq_single h]
  · exact congrArg _ (Finset.sum_congr rfl fun i _ => by rw [pay84_at, if_pos rfl])
  · intro n _ hne
    refine Finset.sum_eq_zero fun i _ => ?_
    rw [pay84_at, if_neg hne, zero_mul]
  · intro h; exact absurd (Finset.mem_univ _) h

/-- The total decay of head h. -/
theorem gtot_at (gl : FVec Ideal S1x128 .f32) (h : Fin 8) (d : Fin 128) :
    k0_pay81 gl (k0_pay75 gl) (k0_pay76 gl) (k0_pay77 gl) (k0_pay78 gl) (k0_pay79 gl) (k0_pay80 gl) (ix2 (lane h d) 0) = Ideal.exp (gl (ix2 0 ⟨h.val, by omega⟩)) := by
  unfold k0_pay81
  refine Eq.trans (cat8t ![_, _, _, _, _, _, _, _] _ h d) ?_
  match h with
  | 0 =>
    show k0_pay75 gl (ix2 d 0) = _
    unfold_payloads
    pointwise
  | 1 =>
    show k0_pay76 gl (ix2 d 0) = _
    unfold_payloads
    pointwise
  | 2 =>
    show k0_pay77 gl (ix2 d 0) = _
    unfold_payloads
    pointwise
  | 3 =>
    show k0_pay78 gl (ix2 d 0) = _
    unfold_payloads
    pointwise
  | 4 =>
    show k0_pay79 gl (ix2 d 0) = _
    unfold_payloads
    pointwise
  | 5 =>
    show k0_pay80 gl (ix2 d 0) = _
    unfold_payloads
    pointwise
  | 6 =>
    show broadcastTo S128x1 (shapeCast S1x1 (exp (extractStridedSlice S1x1 ![0, 6] gl slices_S1x128_o0_6_S1x1)) shapeCasts_S1x1_S1x1) broadcasts_S1x1_S128x1 (ix2 d 0) = _
    unfold_payloads
    pointwise
  | 7 =>
    show broadcastTo S128x1 (shapeCast S1x1 (exp (extractStridedSlice S1x1 ![0, 7] gl slices_S1x128_o0_7_S1x1)) shapeCasts_S1x1_S1x1) broadcasts_S1x1_S128x1 (ix2 d 0) = _
    unfold_payloads
    pointwise

theorem beta_at (y : FVec Ideal S16x128 .f32) (h : Fin 8) (i : Fin 16) : k0_pay67 y (ix2 (row h i) 0) = y (ix2 i ⟨8 + h.val, by omega⟩) := by
  unfold k0_pay67
  refine Eq.trans (cat8s ![_, _, _, _, _, _, _, _] _ h i) ?_
  match h with
  | 0 => exact slice1 y 8 slices_S16x128_o0_8_S16x1 i _ rfl
  | 1 => exact slice1 y 9 slices_S16x128_o0_9_S16x1 i _ rfl
  | 2 => exact slice1 y 10 slices_S16x128_o0_10_S16x1 i _ rfl
  | 3 => exact slice1 y 11 slices_S16x128_o0_11_S16x1 i _ rfl
  | 4 => exact slice1 y 12 slices_S16x128_o0_12_S16x1 i _ rfl
  | 5 => exact slice1 y 13 slices_S16x128_o0_13_S16x1 i _ rfl
  | 6 => exact slice1 y 14 slices_S16x128_o0_14_S16x1 i _ rfl
  | 7 => exact slice1 y 15 slices_S16x128_o0_15_S16x1 i _ rfl

theorem gc_at (y : FVec Ideal S16x128 .f32) (h : Fin 8) (i : Fin 16) : k0_pay68 y (ix2 (row h i) 0) = y (ix2 i ⟨h.val, by omega⟩) := by
  unfold k0_pay68
  refine Eq.trans (cat8s ![_, _, _, _, _, _, _, _] _ h i) ?_
  match h with
  | 0 => exact slice1 y 0 slices_S16x128_o0_0_S16x1 i _ rfl
  | 1 => exact slice1 y 1 slices_S16x128_o0_1_S16x1 i _ rfl
  | 2 => exact slice1 y 2 slices_S16x128_o0_2_S16x1 i _ rfl
  | 3 => exact slice1 y 3 slices_S16x128_o0_3_S16x1 i _ rfl
  | 4 => exact slice1 y 4 slices_S16x128_o0_4_S16x1 i _ rfl
  | 5 => exact slice1 y 5 slices_S16x128_o0_5_S16x1 i _ rfl
  | 6 => exact slice1 y 6 slices_S16x128_o0_6_S16x1 i _ rfl
  | 7 => exact slice1 y 7 slices_S16x128_o0_7_S16x1 i _ rfl

theorem gl_at (y : FVec Ideal S1x128 .f32) (h : Fin 8) (i : Fin 16) : k0_pay69 y (ix2 (row h i) 0) = y (ix2 0 ⟨h.val, by omega⟩) := by
  unfold k0_pay69
  refine Eq.trans (cat8s ![_, _, _, _, _, _, _, _] _ h i) ?_
  match h with
  | 0 => exact glast y 0 slices_S1x128_o0_0_S1x1 shapeCasts_S1x1_S1x1 broadcasts_S1x1_S16x1 i _ rfl
  | 1 => exact glast y 1 slices_S1x128_o0_1_S1x1 shapeCasts_S1x1_S1x1 broadcasts_S1x1_S16x1 i _ rfl
  | 2 => exact glast y 2 slices_S1x128_o0_2_S1x1 shapeCasts_S1x1_S1x1 broadcasts_S1x1_S16x1 i _ rfl
  | 3 => exact glast y 3 slices_S1x128_o0_3_S1x1 shapeCasts_S1x1_S1x1 broadcasts_S1x1_S16x1 i _ rfl
  | 4 => exact glast y 4 slices_S1x128_o0_4_S1x1 shapeCasts_S1x1_S1x1 broadcasts_S1x1_S16x1 i _ rfl
  | 5 => exact glast y 5 slices_S1x128_o0_5_S1x1 shapeCasts_S1x1_S1x1 broadcasts_S1x1_S16x1 i _ rfl
  | 6 => exact glast y 6 slices_S1x128_o0_6_S1x1 shapeCasts_S1x1_S1x1 broadcasts_S1x1_S16x1 i _ rfl
  | 7 => exact glast y 7 slices_S1x128_o0_7_S1x1 shapeCasts_S1x1_S1x1 broadcasts_S1x1_S16x1 i _ rfl

end Cert.KernelIdeal.Value
-- ==== Proof.DeltaGate.lean ====
/- The delta kernel's gates: the doubled prefix sums and the packed rows and columns of them. -/
module
public import proofs.«01_k».proof.Proof.DeltaPack
@[expose] public section
set_option maxRecDepth 16384
noncomputable section
open Idealize.ShloMosaic Idealize.ShloMosaic.TcCoe Idealize.SL.Sem
namespace Cert.Delta

/-- One doubling of the prefix sums. -/
def stp (s : ℕ) (f : Fin 16 → EReal) (i : Fin 16) : EReal := f i + if s ≤ i.val then f ⟨(i.val + 16 - s) % 16, Nat.mod_lt _ (by norm_num)⟩ else 0

/-- The log-decay of one token. -/
def gk (x a b : EReal) : EReal := (0 - Ideal.exp a) * (max (x + b) 0 + Ideal.log1p (Ideal.exp (0 - FloatOps.absf (F := Ideal) (φ := .f32) (x + b))))

/-- The prefix sum up to token i. -/
def pre (f : Fin 16 → EReal) (i : Fin 16) : EReal := ∑ j : Fin 16, if j ≤ i then f j else 0

theorem stp_pre (f : Fin 16 → EReal) (i : Fin 16) : stp 8 (stp 4 (stp 2 (stp 1 f))) i = pre f i := by
  fin_cases i <;> simp [stp, pre, Fin.sum_univ_succ, Fin.le_def] <;> abel

theorem sge1 : ∀ i : Fin 16, IntOp.cmpi .sge (BitVec.ofNat 32 i.val) 1#32 = if 1 ≤ i.val then 1#1 else 0#1 := by decide +kernel
theorem sge2 : ∀ i : Fin 16, IntOp.cmpi .sge (BitVec.ofNat 32 i.val) 2#32 = if 2 ≤ i.val then 1#1 else 0#1 := by decide +kernel
theorem sge4 : ∀ i : Fin 16, IntOp.cmpi .sge (BitVec.ofNat 32 i.val) 4#32 = if 4 ≤ i.val then 1#1 else 0#1 := by decide +kernel
theorem sge8 : ∀ i : Fin 16, IntOp.cmpi .sge (BitVec.ofNat 32 i.val) 8#32 = if 8 ≤ i.val then 1#1 else 0#1 := by decide +kernel

theorem sel_ite (p : Prop) [Decidable p] (a b : EReal) : Scalar.select (if p then 1#1 else 0#1) a b = if p then a else b := by
  split <;> simp [Scalar.select]

end Cert.Delta
namespace Cert.KernelIdeal.Value
open Cert.KernelIdeal Cert.KernelIdeal.Gen Cert.Delta

/-- The row numbers. -/
abbrev rowNo : IVec S16x128 32 := iota Kind.tc S16x128 32 [0] iota_S16x128_d0_w32

theorem pay9_at (x2 : Vec Ideal S1x16x128 .f32) (a b : Vec Ideal S1x128 .f32) (i : Fin 16) (l : Fin 128) :
    k0_pay9 rowNo x2 a b (ix2 i l) = stp 2 (stp 1 (fun j => gk (x2 (ix3 0 j l)) (a (ix2 0 l)) (b (ix2 0 l)))) i := by
  unfold_payloads
  pointwise [stp, gk]
  simp only [sge1 i, sge2 i, sge1 ⟨(i.val + 16 - 2) % 16, Nat.mod_lt _ (by norm_num)⟩, sel_ite]

theorem pay11_at (y : FVec Ideal S16x128 .f32) (i : Fin 16) (l : Fin 128) :
    k0_pay11 rowNo y k0_pay10 (ix2 i l) = stp 8 (stp 4 (fun j => y (ix2 j l))) i := by
  unfold_payloads
  pointwise [stp]
  simp only [sge4 i, sge8 i, sge4 ⟨(i.val + 16 - 8) % 16, Nat.mod_lt _ (by norm_num)⟩, sel_ite]

theorem pay12_at (y : FVec Ideal S16x128 .f32) (l : Fin 128) :
    k0_pay12 rowNo y k0_pay10 (ix2 0 l) = k0_pay11 rowNo y k0_pay10 (ix2 15 l) := by
  unfold k0_pay12
  generalize k0_pay11 rowNo y k0_pay10 = m
  pointwise

theorem tr_at (x : FVec Ideal S128x128 .f32) (prf) (l c : Fin 128) : transpose S128x128 [1, 0] x prf (ix2 l c) = x (ix2 c l) := by
  pointwise

theorem pay13_at (y : FVec Ideal S16x128 .f32) (l : Fin 128) (h : Fin 8) (i : Fin 16) :
    k0_pay13 rowNo y k0_pay10 (ix2 l (row h i)) = k0_pay11 rowNo y k0_pay10 (ix2 i l) := by
  unfold k0_pay13
  refine Eq.trans (tr_at _ _ l (row h i)) ?_
  refine Eq.trans (cat8 ![k0_pay11 rowNo y k0_pay10, k0_pay11 rowNo y k0_pay10, k0_pay11 rowNo y k0_pay10, k0_pay11 rowNo y k0_pay10, k0_pay11 rowNo y k0_pay10, k0_pay11 rowNo y k0_pay10,
    k0_pay11 rowNo y k0_pay10, k0_pay11 rowNo y k0_pay10] _ h i l) ?_
  fin_cases h <;> rfl

/-- Which head's lanes lane c is in. -/
theorem grp : ∀ c : Fin 128, (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 c.val) 16#32) 0#32))
        (IntOp.subi (IntOp.divsi ArithUnit.vector (BitVec.ofNat 32 c.val) 16#32) 1#32)
        (IntOp.divsi ArithUnit.vector (BitVec.ofNat 32 c.val) 16#32)) = BitVec.ofNat 32 (c.val / 16) := by
  decide +kernel

theorem pay72_at (y : FVec Ideal S128x128 .f32) (h : Fin 8) (i : Fin 16) :
    k0_pay72 k0_pay6 y (k0_pay70 y) k0_pay71 (ix2 0 (row h i)) = y (ix2 ⟨h.val, by omega⟩ (row h i)) := by
  unfold_payloads
  pointwise
  simp only [grp (row h i)]
  rw [show (row h i).val / 16 = h.val by show (16 * h.val + i.val) / 16 = h.val; omega]
  fin_cases h <;> rfl

theorem pay8_at (x2 : Vec Ideal S1x16x128 .f32) (i : Fin 16) (l : Fin 128) :
    k0_pay8 x2 (ix2 i l) = Ideal.ofBits .f32 1056964608#32 + Ideal.ofBits .f32 1056964608#32 * Ideal.tanh (Ideal.ofBits .f32 1056964608#32 * x2 (ix3 0 i l)) := by
  unfold_payloads
  pointwise

/-- The prefix sums of the log-decays, lane by lane. -/
def gcV (x2 : Vec Ideal S1x16x128 .f32) (a b : Vec Ideal S1x128 .f32) : FVec Ideal S16x128 .f32 := k0_pay11 rowNo (k0_pay9 rowNo x2 a b) k0_pay10

theorem gcV_at (x2 : Vec Ideal S1x16x128 .f32) (a b : Vec Ideal S1x128 .f32) (i : Fin 16) (l : Fin 128) :
    gcV x2 a b (ix2 i l) = pre (fun j => gk (x2 (ix3 0 j l)) (a (ix2 0 l)) (b (ix2 0 l))) i := by
  rw [gcV, pay11_at, ← stp_pre]
  refine congrArg (fun f => stp 8 (stp 4 f) i) (funext fun j => pay9_at x2 a b j l)

end Cert.KernelIdeal.Value
-- ==== Proof.DeltaSolve.lean ====
/- The unit lower triangular system: block doubling gives the inverse, forward substitution gives the same solution. -/
module
public import Idealize.ShloMosaic.Lib.Pipeline.ValueKit
public import Mathlib.Data.Matrix.Mul
public import Mathlib.Tactic.NoncommRing
@[expose] public section
noncomputable section
open Idealize.ShloMosaic
namespace Cert.Delta

abbrev Mat := Matrix (Fin 128) (Fin 128) ℝ

/-- Entry (r, c) lies in the odd-even quarter of its block of 2 s. -/
def Lvl (s : ℕ) (r c : Fin 128) : Prop := r.val / (2 * s) = c.val / (2 * s) ∧ r.val / s % 2 = 1 ∧ c.val / s % 2 = 0

instance (s : ℕ) (r c : Fin 128) : Decidable (Lvl s r c) := inferInstanceAs (Decidable (_ ∧ _ ∧ _))

/-- The strictly lower entries of the blocks of 16. -/
def Low (r c : Fin 128) : Prop := r.val / 16 = c.val / 16 ∧ c.val < r.val

instance (r c : Fin 128) : Decidable (Low r c) := inferInstanceAs (Decidable (_ ∧ _))

/-- The entries of a at one level. -/
def part (a : Mat) (s : ℕ) : Mat := Matrix.of fun r c => if Lvl s r c then a r c else 0

/-- The strictly lower part of a, block by block. -/
def low (a : Mat) : Mat := Matrix.of fun r c => if Low r c then a r c else 0

/-- One doubling. -/
def dbl (X N : Mat) : Mat := X - X * N * X

/-- X vanishes off the blocks of s. -/
def Blocked (s : ℕ) (X : Mat) : Prop := ∀ r c : Fin 128, r.val / s ≠ c.val / s → X r c = 0

theorem sandwich {s : ℕ} {X : Mat} (hX : Blocked s X) (a : Mat) : part a s * X * part a s = 0 := by
  ext r c
  rw [Matrix.mul_apply]
  refine Finset.sum_eq_zero fun y _ => ?_
  by_cases hy : Lvl s y c
  · rw [Matrix.mul_apply, Finset.sum_eq_zero, zero_mul]
    intro x _
    by_cases hx : Lvl s r x
    · rw [hX x y (fun h => by have := hx.2.2; have := hy.2.1; rw [h] at *; omega), mul_zero]
    · simp [part, hx]
  · simp [part, hy]

theorem dbl_inv {s : ℕ} {X : Mat} (hX : Blocked s X) (a T : Mat) (h : (1 + T) * X = 1) : (1 + (T + part a s)) * dbl X (part a s) = 1 := by
  have e : (1 + (T + part a s)) * dbl X (part a s) = (1 + T) * X - ((1 + T) * X) * part a s * X + part a s * X - (part a s * X * part a s) * X := by
    unfold dbl
    noncomm_ring
  rw [e, h, sandwich hX]
  noncomm_ring

theorem dbl_blocked {s : ℕ} {X : Mat} (hX : Blocked s X) (a : Mat) : Blocked (2 * s) (dbl X (part a s)) := by
  intro r c hrc
  have hd : ∀ u v : Fin 128, u.val / s = v.val / s → u.val / (2 * s) = v.val / (2 * s) := fun u v h => by
    rw [Nat.mul_comm, ← Nat.div_div_eq_div_mul, ← Nat.div_div_eq_div_mul, h]
  have h1 : X r c = 0 := hX r c fun h => hrc (hd r c h)
  have h2 : (X * part a s * X) r c = 0 := by
    rw [Matrix.mul_apply]
    refine Finset.sum_eq_zero fun y _ => ?_
    by_cases hy : y.val / s = c.val / s
    · rw [Matrix.mul_apply, Finset.sum_eq_zero, zero_mul]
      intro x _
      by_cases hx : r.val / s = x.val / s
      · have : ¬ Lvl s x y := fun h => hrc ((hd r x hx).trans (h.1.trans (hd y c hy)))
        simp [part, this]
      · rw [hX r x hx, zero_mul]
    · rw [hX y c hy, mul_zero]
  show X r c - (X * part a s * X) r c = 0
  rw [h1, h2, sub_zero]

/-- The inverse the doublings reach. -/
def inv (a : Mat) : Mat := dbl (dbl (dbl (1 - part a 1) (part a 2)) (part a 4)) (part a 8)

theorem low_split : ∀ r c : Fin 128, (Low r c ↔ Lvl 1 r c ∨ Lvl 2 r c ∨ Lvl 4 r c ∨ Lvl 8 r c) ∧
    (Lvl 1 r c → ¬ Lvl 2 r c ∧ ¬ Lvl 4 r c ∧ ¬ Lvl 8 r c) ∧ (Lvl 2 r c → ¬ Lvl 4 r c ∧ ¬ Lvl 8 r c) ∧ (Lvl 4 r c → ¬ Lvl 8 r c) := by
  intro r c
  unfold Low Lvl
  omega

theorem low_eq (a : Mat) : low a = part a 1 + part a 2 + part a 4 + part a 8 := by
  ext r c
  obtain ⟨h, h1, h2, h4⟩ := low_split r c
  simp only [low, part, Matrix.of_apply, Matrix.add_apply]
  by_cases c1 : Lvl 1 r c
  · rw [if_pos (h.2 (Or.inl c1)), if_pos c1, if_neg (h1 c1).1, if_neg (h1 c1).2.1, if_neg (h1 c1).2.2]; ring
  · by_cases c2 : Lvl 2 r c
    · rw [if_pos (h.2 (by tauto)), if_neg c1, if_pos c2, if_neg (h2 c2).1, if_neg (h2 c2).2]; ring
    · by_cases c4 : Lvl 4 r c
      · rw [if_pos (h.2 (by tauto)), if_neg c1, if_neg c2, if_pos c4, if_neg (h4 c4)]; ring
      · by_cases c8 : Lvl 8 r c
        · rw [if_pos (h.2 (by tauto)), if_neg c1, if_neg c2, if_neg c4, if_pos c8]; ring
        · rw [if_neg (fun hl => by have := h.1 hl; tauto), if_neg c1, if_neg c2, if_neg c4, if_neg c8]; ring

theorem one_blocked : Blocked 1 (1 : Mat) := fun r c h => by
  rw [Matrix.one_apply_ne]
  intro e
  exact h (by rw [e])

theorem inv_spec (a : Mat) : (1 + low a) * inv a = 1 := by
  have e1 : dbl 1 (part a 1) = 1 - part a 1 := by unfold dbl; noncomm_ring
  have b2 : Blocked 2 (1 - part a 1) := e1 ▸ dbl_blocked one_blocked a
  have i2 : (1 + (0 + part a 1)) * (1 - part a 1) = 1 := e1 ▸ dbl_inv one_blocked a 0 (by simp)
  have i4 := dbl_inv b2 a _ i2
  have b4 := dbl_blocked b2 a
  have i8 := dbl_inv b4 a _ i4
  have b8 := dbl_blocked b4 a
  have i16 := dbl_inv b8 a _ i8
  rw [low_eq, ← zero_add (part a 1)]
  exact i16

/-- The doubled solution satisfies the system. -/
theorem inv_rows (a : Mat) (b : Fin 128 → ℝ) (r : Fin 128) :
    (∑ x, inv a r x * b x) + ∑ y, low a r y * ∑ x, inv a y x * b x = b r := by
  have h := congrFun (congrArg (fun M : Mat => M.mulVec b) (inv_spec a)) r
  simp only [Matrix.one_mulVec, Matrix.add_mul, Matrix.one_mul, Matrix.add_mulVec, ← Matrix.mulVec_mulVec] at h
  exact h

/-- Forward substitution by columns: after column j every later row has lost its multiple of row j. -/
def elim (a : Fin 16 → Fin 16 → ℝ) (X : Fin 16 → ℝ) (j : Fin 16) : Fin 16 → ℝ := fun i => X i - a i j * X j

/-- After n columns. -/
def elimTo (a : Fin 16 → Fin 16 → ℝ) (b : Fin 16 → ℝ) : ℕ → Fin 16 → ℝ
  | 0 => b
  | n + 1 => if h : n < 16 then elim a (elimTo a b n) ⟨n, h⟩ else elimTo a b n

theorem elimTo_stop (a : Fin 16 → Fin 16 → ℝ) (ha : ∀ i j, i ≤ j → a i j = 0) (b : Fin 16 → ℝ) (i : Fin 16) (n k : ℕ) (hn : i.val ≤ n) :
    elimTo a b (n + k) i = elimTo a b n i := by
  induction k with
  | zero => rfl
  | succ k ih =>
    rw [← ih, ← Nat.add_assoc]
    show (if h : n + k < 16 then elim a (elimTo a b (n + k)) ⟨n + k, h⟩ else elimTo a b (n + k)) i = _
    split
    · rw [elim, ha i ⟨n + k, _⟩ (Fin.le_def.2 (by simp; omega)), zero_mul, sub_zero]
    · rfl

theorem elimTo_rows (a : Fin 16 → Fin 16 → ℝ) (ha : ∀ i j, i ≤ j → a i j = 0) (b : Fin 16 → ℝ) (i : Fin 16) (n : ℕ) (hn : n ≤ 16) :
    elimTo a b n i + ∑ j : Fin 16, (if j.val < n then a i j * elimTo a b 15 j else 0) = b i := by
  induction n with
  | zero => simp [elimTo]
  | succ n ih =>
    have h := ih (by omega)
    have hs : ∑ j : Fin 16, (if j.val < n + 1 then a i j * elimTo a b 15 j else 0) =
        (∑ j : Fin 16, (if j.val < n then a i j * elimTo a b 15 j else 0)) + a i ⟨n, by omega⟩ * elimTo a b 15 ⟨n, by omega⟩ := by
      rw [show (a i ⟨n, by omega⟩ * elimTo a b 15 ⟨n, by omega⟩) = ∑ j : Fin 16, (if j = ⟨n, by omega⟩ then a i j * elimTo a b 15 j else 0) by
        rw [Finset.sum_ite_eq' Finset.univ]; simp, ← Finset.sum_add_distrib]
      refine Finset.sum_congr rfl fun j _ => ?_
      by_cases e : j = ⟨n, by omega⟩
      · subst e; simp
      · have : j.val ≠ n := fun h => e (Fin.ext h)
        by_cases l : j.val < n
        · rw [if_pos (by omega), if_pos l, if_neg e, add_zero]
        · rw [if_neg (by omega), if_neg l, if_neg e, add_zero]
    have e15 : elimTo a b 15 ⟨n, by omega⟩ = elimTo a b n ⟨n, by omega⟩ := by
      by_cases c : n ≤ 15
      · obtain ⟨k, hk⟩ := Nat.exists_eq_add_of_le c
        have := elimTo_stop a ha b ⟨n, by omega⟩ n k (le_refl _)
        rwa [← hk] at this
      · omega
    rw [hs, e15]
    show (if h : n < 16 then elim a (elimTo a b n) ⟨n, h⟩ else elimTo a b n) i + _ = _
    rw [dif_pos (by omega), elim]
    linarith

theorem elim_rows (a : Fin 16 → Fin 16 → ℝ) (ha : ∀ i j, i ≤ j → a i j = 0) (b : Fin 16 → ℝ) (i : Fin 16) :
    elimTo a b 15 i + ∑ j : Fin 16, a i j * elimTo a b 15 j = b i := by
  have h := elimTo_rows a ha b i 16 (le_refl _)
  rw [elimTo_stop a ha b i 15 1 (by omega)] at h
  rw [← h]
  exact congrArg _ (Finset.sum_congr rfl fun j _ => (if_pos j.isLt).symm)

/-- A strictly lower system has one solution. -/
theorem unique (a : Fin 16 → Fin 16 → ℝ) (ha : ∀ i j, i ≤ j → a i j = 0) (b x y : Fin 16 → ℝ)
    (hx : ∀ i, x i + ∑ j, a i j * x j = b i) (hy : ∀ i, y i + ∑ j, a i j * y j = b i) (i : Fin 16) : x i = y i := by
  have H : ∀ n (i : Fin 16), i.val < n → x i = y i := by
    intro n
    induction n with
    | zero => intro i h; omega
    | succ n ih =>
      intro i hi
      have e : ∑ j, a i j * x j = ∑ j, a i j * y j := Finset.sum_congr rfl fun j _ => by
        by_cases l : i ≤ j
        · rw [ha i j l, zero_mul, zero_mul]
        · rw [ih j (by have := Fin.lt_def.1 (not_le.1 l); omega)]
      have := hx i; have := hy i; linarith
  exact H 16 i i.isLt

end Cert.Delta
-- ==== Proof.DeltaMask.lean ====
/- The conditions the masks hold. -/
module
public import proofs.«01_k».proof.Proof.DeltaSolve
@[expose] public section
noncomputable section
namespace Cert.Delta
/-- The lower triangles of the blocks of 16, diagonal included. -/
def Inc (r c : Fin 128) : Prop := r.val / 16 = c.val / 16 ∧ c.val ≤ r.val

instance (r c : Fin 128) : Decidable (Inc r c) := inferInstanceAs (Decidable (_ ∧ _))

/-- The condition each mask holds. -/
def Msk : Fin 6 → Fin 128 → Fin 128 → Prop
  | 0 => Inc
  | 1 => Lvl 2
  | 2 => Lvl 4
  | 3 => Lvl 8
  | 4 => Lvl 1
  | 5 => fun r c => r.val = c.val
/-- A tree of tables read down to one row's table. -/
theorem chase {F G : ℕ → BitVec 16} {i c : ℕ} {b : BitVec 16} (hG : G i = F i) (hm : F i = F (i % 128)) (hc : i % 128 = c) (hl : F c = b) : G i = b := by
  rw [hG, hm, hc, hl]

end Cert.Delta
-- ==== Proof.DeltaCore.lean ====
/- The delta kernel's chunk: the triangular system's doubled inverse and the products around it, entry by entry. -/
module
public import proofs.«01_k».proof.Proof.DeltaGate
public import proofs.«01_k».proof.Proof.DeltaMask
@[expose] public section
set_option maxRecDepth 16384
noncomputable section
open Idealize.ShloMosaic Idealize.ShloMosaic.TcCoe Idealize.SL.Sem
namespace Cert.Delta

/-- The first inverse: the identity less the pairs' entries. -/
def ex1 (t m5 m4 : Fin 128 → Fin 128 → EReal) (r c : Fin 128) : EReal := m5 r c - t r c * m4 r c

/-- One doubling. -/
def exs (t m X : Fin 128 → Fin 128 → EReal) (r c : Fin 128) : EReal := X r c - ∑ y, (∑ x, X r x * (t x y * m x y)) * X y c

/-- The inverse the doublings reach. -/
def exv (t m5 m4 m1 m2 m3 : Fin 128 → Fin 128 → EReal) : Fin 128 → Fin 128 → EReal := exs t m3 (exs t m2 (exs t m1 (ex1 t m5 m4)))

/-- A condition as one or zero. -/
def ind (P : Fin 128 → Fin 128 → Prop) [∀ r c, Decidable (P r c)] (r c : Fin 128) : EReal := if P r c then 1 else 0

theorem coe_sum128 {n : ℕ} (f : Fin n → ℝ) : ((∑ x, f x : ℝ) : EReal) = ∑ x, (f x : EReal) := by
  induction n with
  | zero => simp
  | succ n ih => rw [Fin.sum_univ_succ, Fin.sum_univ_succ, EReal.coe_add, ih]

theorem ex1_coe (A : Mat) (r c : Fin 128) : ex1 (fun r c => (A r c : EReal)) (ind fun r c => r.val = c.val) (ind (Lvl 1)) r c = ((1 - part A 1 : Mat) r c : EReal) := by
  rw [Matrix.sub_apply, Matrix.one_apply, EReal.coe_sub]
  unfold ex1 ind part
  rw [Matrix.of_apply]
  congr 1
  · by_cases h : r = c
    · rw [if_pos (congrArg Fin.val h), if_pos h]; rfl
    · rw [if_neg (fun e => h (Fin.ext e)), if_neg h]; rfl
  · by_cases h : Lvl 1 r c
    · rw [if_pos h, if_pos h, mul_one]
    · rw [if_neg h, if_neg h, mul_zero]; rfl

theorem exs_coe (A : Mat) (s : ℕ) (X : Fin 128 → Fin 128 → EReal) (Y : Mat) (hX : ∀ r c, X r c = (Y r c : EReal)) (r c : Fin 128) :
    exs (fun r c => (A r c : EReal)) (ind (Lvl s)) X r c = ((dbl Y (part A s) : Mat) r c : EReal) := by
  have hp : ∀ x y, (A x y : EReal) * ind (Lvl s) x y = (part A s x y : EReal) := by
    intro x y
    unfold ind part
    rw [Matrix.of_apply]
    by_cases h : Lvl s x y
    · rw [if_pos h, if_pos h, mul_one]
    · rw [if_neg h, if_neg h, mul_zero]; rfl
  unfold exs dbl
  rw [Matrix.sub_apply, EReal.coe_sub, hX, Matrix.mul_apply, coe_sum128]
  refine congrArg _ (Finset.sum_congr rfl fun y _ => ?_)
  rw [EReal.coe_mul, hX, Matrix.mul_apply, coe_sum128]
  refine congrArg (· * _) (Finset.sum_congr rfl fun x _ => ?_)
  rw [hp, hX, EReal.coe_mul]

theorem exv_coe (A : Mat) (r c : Fin 128) :
    exv (fun r c => (A r c : EReal)) (ind fun r c => r.val = c.val) (ind (Lvl 1)) (ind (Lvl 2)) (ind (Lvl 4)) (ind (Lvl 8)) r c = (inv A r c : EReal) :=
  exs_coe A 8 _ _ (exs_coe A 4 _ _ (exs_coe A 2 _ _ (ex1_coe A))) r c

end Cert.Delta
namespace Cert.KernelIdeal.Value
open Cert.KernelIdeal Cert.KernelIdeal.Gen Cert.Delta

theorem pay87_at (q k : FVec Ideal S128x128 .f32) (gc : FVec Ideal S128x1 .f32) (gr : FVec Ideal S1x128 .f32) (kb : FVec Ideal S128x128 .f32) (r c : Fin 128) :
    k0_pay87 q k gc gr kb (ix2 r c) = (∑ x, kb (ix2 r x) * k (ix2 c x)) * Ideal.exp (min (gc (ix2 r 0) - gr (ix2 0 c)) 0) := by
  unfold_payloads
  pointwise

theorem pay89_at (q k : FVec Ideal S128x128 .f32) (gc : FVec Ideal S128x1 .f32) (gr : FVec Ideal S1x128 .f32) (kb : FVec Ideal S128x128 .f32) (m : Vec Ideal S1x128x128 .bf16) (r c : Fin 128) :
    k0_pay89 (k0_pay88 q k gc gr kb) m (ix2 r c) = (∑ x, q (ix2 r x) * k (ix2 c x)) * Ideal.exp (min (gc (ix2 r 0) - gr (ix2 0 c)) 0) * m (ix3 0 r c) := by
  unfold_payloads
  pointwise

theorem pay90_at (rhs : FVec Ideal S128x256 .bf16) (t : FVec Ideal S128x128 .bf16) (m5 m4 m1 m2 m3 : Vec Ideal S1x128x128 .bf16) (r : Fin 128) (c : Fin 256) :
    k0_pay90 rhs t m5 m4 m1 m2 m3 (ix2 r c) = ∑ x, exv (fun r c => t (ix2 r c)) (fun r c => m5 (ix3 0 r c)) (fun r c => m4 (ix3 0 r c))
      (fun r c => m1 (ix3 0 r c)) (fun r c => m2 (ix3 0 r c)) (fun r c => m3 (ix3 0 r c)) r x * rhs (ix2 x c) := by
  unfold_payloads
  pointwise [exv, exs, ex1]

theorem pay91_lo (rhs : FVec Ideal S128x256 .bf16) (qd : FVec Ideal S128x128 .f32) (t : FVec Ideal S128x128 .bf16) (m5 m4 m1 m2 m3 : Vec Ideal S1x128x128 .bf16)
    (h : Fin 8) (i : Fin 16) (d : Fin 128) :
    k0_pay91 rhs qd t m5 m4 m1 m2 m3 (ix2 (row2 ⟨h.val, by omega⟩ i) d) = k0_pay90 rhs t m5 m4 m1 m2 m3 (ix2 (row h i) ⟨128 + d.val, by omega⟩) := by
  unfold k0_pay91
  generalize k0_pay90 rhs t m5 m4 m1 m2 m3 = s
  pointwise
  rw [dif_pos (by show 16 * h.val + i.val < 128; omega)]
  rfl

theorem pay91_hi (rhs : FVec Ideal S128x256 .bf16) (qd : FVec Ideal S128x128 .f32) (t : FVec Ideal S128x128 .bf16) (m5 m4 m1 m2 m3 : Vec Ideal S1x128x128 .bf16)
    (h : Fin 8) (i : Fin 16) (d : Fin 128) :
    k0_pay91 rhs qd t m5 m4 m1 m2 m3 (ix2 (row2 ⟨8 + h.val, by omega⟩ i) d) = qd (ix2 (row h i) d) := by
  unfold k0_pay91
  generalize k0_pay90 rhs t m5 m4 m1 m2 m3 = s
  pointwise
  rw [dif_neg (by show ¬ (16 * (8 + h.val) + i.val < 128); omega)]
  refine congrArg qd ?_
  congr 1
  apply Fin.ext
  simp [row, row2]; omega

theorem pay94_at (m : FVec Ideal S128x128 .bf16) (sol : FVec Ideal S128x256 .f32) (a : FVec Ideal S256x128 .f32) (s : Vec Ideal S1024x128 .f32) (r e : Fin 128) :
    k0_pay94 m sol a s (ix2 r e) = ∑ x, m (ix2 r x) * k0_pay93 sol a s (ix2 x e) := by
  unfold k0_pay94
  generalize k0_pay93 sol a s = w
  pointwise

theorem pay82_lo (v : FVec Ideal S128x128 .f32) (b : FVec Ideal S128x1 .f32) (kb : FVec Ideal S128x128 .f32) (ge : FVec Ideal S128x1 .f32) (r e : Fin 128) :
    k0_pay82 v b kb ge (ix2 r ⟨e.val, by omega⟩) = v (ix2 r e) * b (ix2 r 0) := by
  unfold_payloads
  pointwise

theorem pay82_hi (v : FVec Ideal S128x128 .f32) (b : FVec Ideal S128x1 .f32) (kb : FVec Ideal S128x128 .f32) (ge : FVec Ideal S128x1 .f32) (r d : Fin 128) :
    k0_pay82 v b kb ge (ix2 r ⟨128 + d.val, by omega⟩) = kb (ix2 r d) * ge (ix2 r 0) := by
  unfold_payloads
  pointwise

theorem pay83_at (q : FVec Ideal S128x128 .f32) (ge : FVec Ideal S128x1 .f32) (r d : Fin 128) : k0_pay83 q ge (ix2 r d) = q (ix2 r d) * ge (ix2 r 0) := by
  unfold_payloads
  pointwise

theorem pay73_at (k : FVec Ideal S128x128 .f32) (b : FVec Ideal S128x1 .f32) (r d : Fin 128) : k0_pay73 k b (ix2 r d) = k (ix2 r d) * b (ix2 r 0) := by
  unfold_payloads
  pointwise

theorem pay74_at (gc : FVec Ideal S128x1 .f32) (r : Fin 128) : k0_pay74 gc (ix2 r 0) = Ideal.exp (gc (ix2 r 0)) := by
  unfold_payloads
  pointwise

end Cert.KernelIdeal.Value
-- ==== Proof.DeltaOut.lean ====
module

public import proofs.«01_k».proof.Proof.DeltaConv

@[expose] public section
set_option maxRecDepth 16384
noncomputable section
open Idealize.ShloMosaic Idealize.ShloMosaic.TcCoe Idealize.SL.Sem

namespace Cert.KernelIdeal.Value
open Cert.Delta Cert.KernelIdeal.Gen

/-- One head's output before the gate: the row scaled by its root mean square and by the weight. -/
def rms (v : Fin 128 → EReal) (w : Fin 128 → EReal) (e : Fin 128) : EReal :=
  v e * Ideal.rsqrt (Ideal.div (∑ d, v d * v d) (Ideal.ofBits .f32 1124073472#32) + Ideal.ofBits .f32 897988541#32) * w e

def sil (z : EReal) : EReal := Ideal.ofBits .f32 1056964608#32 * z + Ideal.ofBits .f32 1056964608#32 * z * Ideal.tanh (Ideal.ofBits .f32 1056964608#32 * z)

variable (A B C : FVec Ideal S128x128 .f32) (w : Vec Ideal S1x128 .f32) (z : Vec Ideal S1x16x128 .f32) (i : Fin 16) (e : Fin 128)

def tile (h : Fin 8) : EReal := rms (fun d => C (ix2 (row h i) d)) (fun d => w (ix2 0 d)) e * sil (z (ix3 0 i e))

theorem pay97_at (r e : Fin 128) : k0_pay97 A B (ix2 r e) = B (ix2 r e) + A (ix2 r e) := by
  unfold k0_pay97
  pointwise

theorem tile0_at : (k0_pay98 A B w z) (ix3 0 i e) = tile (k0_pay97 A B) w z i e 0 := by
  unfold k0_pay98 k0_pay97 tile rms sil
  rw [show row 0 i = ⟨i.val, by omega⟩ from Fin.ext (by show 16 * 0 + i.val = i.val; omega)]
  pointwise

theorem tile1_at : (k0_pay100 (k0_pay99 A B w) z) (ix3 0 i e) = tile (k0_pay97 A B) w z i e 1 := by
  unfold k0_pay100 k0_pay99 k0_pay97 tile rms sil
  pointwise
  rfl

theorem tile2_at : (k0_pay101 C w z) (ix3 0 i e) = tile C w z i e 2 := by
  unfold k0_pay101 tile rms sil
  pointwise
  rfl

theorem tile3_at : (k0_pay104 (k0_pay102 C) (k0_pay103 C) w z) (ix3 0 i e) = tile C w z i e 3 := by
  unfold k0_pay104 k0_pay103 k0_pay102 tile rms sil
  pointwise
  rfl

theorem tile4_at : (k0_pay106 (k0_pay105 C w) z) (ix3 0 i e) = tile C w z i e 4 := by
  unfold k0_pay106 k0_pay105 tile rms sil
  pointwise
  rfl

theorem tile5_at : (k0_pay107 C w z) (ix3 0 i e) = tile C w z i e 5 := by
  unfold k0_pay107 tile rms sil
  pointwise
  rfl

theorem tile6_at : (k0_pay110 (k0_pay108 C) (k0_pay109 C) w z) (ix3 0 i e) = tile C w z i e 6 := by
  unfold k0_pay110 k0_pay109 k0_pay108 tile rms sil
  pointwise
  rfl

theorem tile7_at : (k0_pay114 (k0_pay111 C w) (k0_pay112 z) k0_pay113) (ix3 0 i e) = tile C w z i e 7 := by
  unfold k0_pay114 k0_pay111 k0_pay112 k0_pay113 tile rms sil
  pointwise
  rfl

end Cert.KernelIdeal.Value
-- ==== Proof.DeltaPoint.lean ====
module

public import proofs.«01_k».proof.Proof.Gen.KernelIdeal.Value
public import proofs.«01_k».proof.Proof.DeltaConv
public import proofs.«01_k».proof.Proof.DeltaGate
public import proofs.«01_k».proof.Proof.DeltaCore
public import proofs.«01_k».proof.Proof.DeltaPack
public import proofs.«01_k».proof.Proof.DeltaOut
public import Idealize.ShloMosaic.Lib.Pipeline.ReadBack

@[expose] public section
set_option maxRecDepth 16384
noncomputable section
open Idealize.ShloMosaic Idealize.ShloMosaic.TcCoe Idealize.SL.Sem

namespace Cert.KernelIdeal.Value
open Cert.Delta Cert.KernelIdeal.Gen

/-- Column block `k` of the rows a convolution sees: eight carried rows, then the sixteen rows of this call. -/
def EX (x0 : Vec Ideal S1x16x3072 .f32) (x3 : Vec Ideal S1x8x3072 .f32) (k : ℕ) : Vec Ideal S24x128 .f32 := fun j =>
  if h : (j 0).val < 8 then x3 (ix3 0 ⟨(j 0).val, h⟩ ⟨(128 * k + (j 1).val) % 3072, Nat.mod_lt _ (by decide)⟩)
  else x0 (ix3 0 ⟨(j 0).val - 8, by have : (j 0).val < 24 := (j 0).isLt; omega⟩ ⟨(128 * k + (j 1).val) % 3072, Nat.mod_lt _ (by decide)⟩)

theorem pay4_at (x0 : Vec Ideal S1x16x3072 .f32) (i : Fin 16) (e : Fin 3072) : k0_pay4 x0 (ix2 i e) = x0 (ix3 0 i e) := by
  unfold k0_pay4
  pointwise

theorem pay2_at (x0 : Vec Ideal S1x8x3072 .f32) (i : Fin 8) (e : Fin 3072) : k0_pay2 x0 (ix2 i e) = x0 (ix3 0 i e) := by
  unfold k0_pay2
  pointwise

def exAll (x0 : Vec Ideal S1x16x3072 .f32) (x3 : Vec Ideal S1x8x3072 .f32) : Vec Ideal S24x3072 .f32 := fun y =>
  if h : (y 0).val < 8 then x3 (ix3 0 ⟨(y 0).val, h⟩ (y 1)) else x0 (ix3 0 ⟨(y 0).val - 8, by have : (y 0).val < 24 := (y 0).isLt; omega⟩ (y 1))

theorem ex_canon (x0 : Vec Ideal S1x16x3072 .f32) (x3 : Vec Ideal S1x8x3072 .f32) (y : S24x3072.Idx) :
    View.canon (Val := Elt Ideal) (s := S24x3072) (e := .f32) [⟨Rect.unit (s := S24x3072) ![8, 0] ![16, 3072] inb_S24x3072_S16x3072_8_0, k0_pay4 x0⟩, ⟨Rect.unit (s := S24x3072) ![0, 0] ![8, 3072] inb_S24x3072_S8x3072_0_0, k0_pay2 x3⟩]
      y = exAll x0 x3 y := by
  refine View.canon_append_of_piecesOf (Val := Elt Ideal) (s := S24x3072) (e := .f32) (exAll x0 x3) [] [_, _] ⟨?_, ?_, trivial⟩ y ?_
  rotate_left 2
  · have h0 : (y 0).val < 24 := (y 0).isLt
    have h1 : (y 1).val < 3072 := (y 1).isLt
    by_cases h : (y 0).val < 8
    · refine ⟨_, List.mem_cons_of_mem _ (List.mem_cons_self), (Rect.mem_set_unit (inb := inb_S24x3072_S8x3072_0_0)).mpr fun a => ?_⟩
      match a with
      | ⟨0, _⟩ => exact ⟨Nat.zero_le _, show (y 0).val < 0 + 8 by omega⟩
      | ⟨1, _⟩ => exact ⟨Nat.zero_le _, show (y 1).val < 0 + 3072 by omega⟩
    · refine ⟨_, List.mem_cons_self, (Rect.mem_set_unit (inb := inb_S24x3072_S16x3072_8_0)).mpr fun a => ?_⟩
      match a with
      | ⟨0, _⟩ => exact ⟨show 8 ≤ (y 0).val by omega, show (y 0).val < 8 + 16 by omega⟩
      | ⟨1, _⟩ => exact ⟨Nat.zero_le _, show (y 1).val < 0 + 3072 by omega⟩
  · intro z
    refine Eq.trans ?_ (dif_neg (show ¬ (8 + 1 * (z 0).val < 8) by omega)).symm
    idx_vars z
    refine (pay4_at _ _ _).trans ?_
    congr 1
    funext a
    apply Fin.ext
    match a with
    | ⟨0, _⟩ => rfl
    | ⟨1, _⟩ => show _ = 8 + 1 * _ - 8; simp [ix2, ix3]
    | ⟨2, _⟩ => show _ = 0 + 1 * _; simp [ix2, ix3]
  · intro z
    have hz : (z 0).val < 8 := (z 0).isLt
    refine Eq.trans ?_ (dif_pos (show (0 + 1 * (z 0).val < 8) by omega)).symm
    idx_vars z
    refine (pay2_at _ _ _).trans ?_
    congr 1
    funext a
    apply Fin.ext
    match a with
    | ⟨0, _⟩ => rfl
    | ⟨1, _⟩ => show _ = 0 + 1 * _; simp [ix2, ix3]
    | ⟨2, _⟩ => show _ = 0 + 1 * _; simp [ix2, ix3]

theorem ex_read {κ : Kind} {sp : Space} (v : View sig κ sp S24x3072 .f32) (x0 : Vec Ideal S1x16x3072 .f32) (x3 : Vec Ideal S1x8x3072 .f32) (c k : ℕ) (hc : c = 128 * k) (hk : k < 24)
    (inb : ∀ a, (![0, c] : Fin 2 → ℕ) a + (![24, 128] : Fin 2 → ℕ) a ≤ S24x3072.size a) :
    v.readCov (Val := Elt Ideal) [⟨Rect.unit (s := S24x3072) ![8, 0] ![16, 3072] inb_S24x3072_S16x3072_8_0, k0_pay4 x0⟩, ⟨Rect.unit (s := S24x3072) ![0, 0] ![8, 3072] inb_S24x3072_S8x3072_0_0, k0_pay2 x3⟩]
      (Rect.unit (s := S24x3072) ![0, c] ![24, 128] inb).toLoadRect = EX x0 x3 k := by
  rw [View.readCov_eq_canon']
  funext j
  have hj : (j 0).val < 24 := (j 0).isLt
  have hl : (j 1).val < 128 := (j 1).isLt
  refine Eq.trans (congrArg _ (?_ : _ = ix2 (⟨(j 0).val, hj⟩ : Fin 24) (⟨(128 * k + (j 1).val) % 3072, Nat.mod_lt _ (by decide)⟩ : Fin 3072))) (ex_canon x0 x3 _)
  subst hc
  funext a
  apply Fin.ext
  match a with
  | ⟨0, _⟩ => show 0 + 1 * (j 0).val = (j 0).val; omega
  | ⟨1, _⟩ => show 128 * k + 1 * (j 1).val = (128 * k + (j 1).val) % 3072; omega

/-- Row `k` of the gate parameters. -/
def r6 (x6 : Vec Ideal S8x128 .f32) (k : Fin 8) : Vec Ideal S1x128 .f32 := fun j => x6 (ix2 k (j 1))

/-- Block `k` of the mask table. -/
def ldm (x8 : Vec Ideal S6x128x128 .bf16) (k : Fin 6) : Vec Ideal S1x128x128 .bf16 := fun j => x8 (ix3 k (j 1) (j 2))

theorem ld6_eq (x6 : Vec Ideal S8x128 .f32) (n : ℕ) (hn : n < 8) (inb : ∀ a, (![n, 0] : Fin 2 → ℕ) a + (![1, 128] : Fin 2 → ℕ) a ≤ S8x128.size a) :
    View.ld (Val := Elt Ideal) (e' := .f32) x6 (Rect.unit (s := S8x128) ![n, 0] ![1, 128] inb) = r6 x6 ⟨n, hn⟩ := by
  funext j
  refine congrArg x6 ?_
  have h0 : (j 0).val < 1 := (j 0).isLt
  funext a
  apply Fin.ext
  match a with
  | ⟨0, _⟩ => show n + 1 * (j 0).val = n; omega
  | ⟨1, _⟩ => show 0 + 1 * (j 1).val = (j 1).val; omega

theorem ld8_eq (x8 : Vec Ideal S6x128x128 .bf16) (n : ℕ) (hn : n < 6) (inb : ∀ a, (![n, 0, 0] : Fin 3 → ℕ) a + (![1, 128, 128] : Fin 3 → ℕ) a ≤ S6x128x128.size a) :
    View.ld (Val := Elt Ideal) (e' := .bf16) x8 (Rect.unit (s := S6x128x128) ![n, 0, 0] ![1, 128, 128] inb) = ldm x8 ⟨n, hn⟩ := by
  funext j
  refine congrArg x8 ?_
  have h0 : (j 0).val < 1 := (j 0).isLt
  funext a
  apply Fin.ext
  match a with
  | ⟨0, _⟩ => show n + 1 * (j 0).val = n; omega
  | ⟨1, _⟩ => show 0 + 1 * (j 1).val = (j 1).val; omega
  | ⟨2, _⟩ => show 0 + 1 * (j 2).val = (j 2).val; omega

/-- The cumulative gates with the tokens of all heads on one line. -/
def gtV (x2 : Vec Ideal S1x16x128 .f32) (a b : Vec Ideal S1x128 .f32) : FVec Ideal S128x128 .f32 := k0_pay13 rowNo (k0_pay9 rowNo x2 a b) k0_pay10

def gfV (x2 : Vec Ideal S1x16x128 .f32) (a b : Vec Ideal S1x128 .f32) : FVec Ideal S1x128 .f32 := k0_pay12 rowNo (k0_pay9 rowNo x2 a b) k0_pay10

section
variable (q k v : FVec Ideal S128x128 .f32) (x2 : Vec Ideal S1x16x128 .f32) (a b : Vec Ideal S1x128 .f32) (m0 m1 m2 m3 m4 m5 : Vec Ideal S1x128x128 .bf16) (s : Vec Ideal S1x1024x128 .f32)

def rlV := k0_pay72 (F := Ideal) k0_pay6 (gtV x2 a b) (k0_pay70 (gtV x2 a b)) k0_pay71
def kbV := k0_pay73 k (k0_pay67 (k0_pay8 x2))
def exV := k0_pay74 (k0_pay68 (gcV x2 a b))
def vbV := k0_pay82 v (k0_pay67 (k0_pay8 x2)) (kbV k x2) (exV x2 a b)
def qeV := k0_pay83 q (exV x2 a b)
def knV := k0_pay87 q k (k0_pay68 (gcV x2 a b)) (rlV x2 a b) (kbV k x2)
def atV := k0_pay89 (k0_pay88 q k (k0_pay68 (gcV x2 a b)) (rlV x2 a b) (kbV k x2)) m0
def solV := k0_pay90 (vbV k v x2 a b) (knV q k x2 a b) m5 m4 m1 m2 m3
def bigV := k0_pay91 (vbV k v x2 a b) (qeV q x2 a b) (knV q k x2 a b) m5 m4 m1 m2 m3
def gtotV := k0_pay81 (gfV x2 a b) (k0_pay75 (gfV x2 a b)) (k0_pay76 (gfV x2 a b)) (k0_pay77 (gfV x2 a b)) (k0_pay78 (gfV x2 a b)) (k0_pay79 (gfV x2 a b)) (k0_pay80 (gfV x2 a b))
def stV := k0_pay95 (gtotV x2 a b) (k0_pay84 k (k0_pay68 (gcV x2 a b)) (k0_pay69 (gfV x2 a b))) (solV q k v x2 a b m1 m2 m3 m4 m5) (bigV q k v x2 a b m1 m2 m3 m4 m5) (k0_pay3 s)
def onV := k0_pay94 (atV q k x2 a b m0) (solV q k v x2 a b m1 m2 m3 m4 m5) (bigV q k v x2 a b m1 m2 m3 m4 m5) (k0_pay3 s)
def opV := k0_pay96 (bigV q k v x2 a b m1 m2 m3 m4 m5) (k0_pay3 s)
end

set_option maxHeartbeats 1000000 in
theorem out11_eq (c : Dev nD) (i : grid0.Coords) (arg2 : Memref sig .tc .vmem S1x16x3072 .f32) (harg2 : arg2.IsWhole) (arg3 : Memref sig .tc .vmem S1x16x1024 .f32) (harg3 : arg3.IsWhole) (arg4 : Memref sig .tc .vmem S1x16x128 .f32) (harg4 : arg4.IsWhole) (arg5 : Memref sig .tc .vmem S1x8x3072 .f32) (harg5 : arg5.IsWhole) (arg6 : Memref sig .tc .vmem S1x1024x128 .f32) (harg6 : arg6.IsWhole) (arg7 : Memref sig .tc .vmem S8x3072 .f32) (harg7 : arg7.IsWhole) (arg8 : Memref sig .tc .vmem S8x128 .f32) (harg8 : arg8.IsWhole) (arg9 : Memref sig .tc .vmem S1x128 .f32) (harg9 : arg9.IsWhole) (arg10 : Memref sig .tc .vmem S6x128x128 .bf16) (harg10 : arg10.IsWhole) (arg11 : Memref sig .tc .vmem S1x16x1024 .bf16) (harg11 : arg11.IsWhole) (arg12 : Memref sig .tc .vmem S1x8x3072 .f32) (harg12 : arg12.IsWhole) (arg13 : Memref sig .tc .vmem S1x1024x128 .f32) (harg13 : arg13.IsWhole) (arg14 : Memref sig .tc .vmem S24x3072 .f32) (harg14 : arg14.IsWhole) (arg15 : Memref sig .tc .vmem S1024x128 .f32) (harg15 : arg15.IsWhole) (hc0 : cond0_0 i) (hc1 : cond0_1 i)
    (x0 : Vec Ideal S1x16x3072 .f32) (x1 : Vec Ideal S1x16x1024 .f32) (x2 : Vec Ideal S1x16x128 .f32) (x3 : Vec Ideal S1x8x3072 .f32) (x4 : Vec Ideal S1x1024x128 .f32) (x5 : Vec Ideal S8x3072 .f32) (x6 : Vec Ideal S8x128 .f32) (x7 : Vec Ideal S1x128 .f32) (x8 : Vec Ideal S6x128x128 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = k0_pay1 (F := Ideal) (stV (qsV (k0_pay5 x5) (EX x0 x3)) (ksV (k0_pay5 x5) (EX x0 x3)) (vsV (k0_pay5 x5) (EX x0 x3)) x2 (r6 x6 0) (r6 x6 1) (ldm x8 1) (ldm x8 2) (ldm x8 3) (ldm x8 4) (ldm x8 5) x4) := by
  frame_open
  simp (disch := decide) only [↓ View.readCov_skip, ↓ View.readCov_cons_toLoadRect, ↓ View.readCov_fill]
  frame_out
  simp only [ex_read _ x0 x3 0 0 rfl (by decide), ex_read _ x0 x3 128 1 rfl (by decide), ex_read _ x0 x3 256 2 rfl (by decide), ex_read _ x0 x3 384 3 rfl (by decide), ex_read _ x0 x3 512 4 rfl (by decide), ex_read _ x0 x3 640 5 rfl (by decide), ex_read _ x0 x3 768 6 rfl (by decide), ex_read _ x0 x3 896 7 rfl (by decide), ex_read _ x0 x3 1024 8 rfl (by decide), ex_read _ x0 x3 1152 9 rfl (by decide), ex_read _ x0 x3 1280 10 rfl (by decide), ex_read _ x0 x3 1408 11 rfl (by decide), ex_read _ x0 x3 1536 12 rfl (by decide), ex_read _ x0 x3 1664 13 rfl (by decide), ex_read _ x0 x3 1792 14 rfl (by decide), ex_read _ x0 x3 1920 15 rfl (by decide), ex_read _ x0 x3 2048 16 rfl (by decide), ex_read _ x0 x3 2176 17 rfl (by decide), ex_read _ x0 x3 2304 18 rfl (by decide), ex_read _ x0 x3 2432 19 rfl (by decide), ex_read _ x0 x3 2560 20 rfl (by decide), ex_read _ x0 x3 2688 21 rfl (by decide), ex_read _ x0 x3 2816 22 rfl (by decide), ex_read _ x0 x3 2944 23 rfl (by decide), ld6_eq x6 0 (by decide), ld6_eq x6 1 (by decide), ld8_eq x8 0 (by decide), ld8_eq x8 1 (by decide), ld8_eq x8 2 (by decide), ld8_eq x8 3 (by decide), ld8_eq x8 4 (by decide), ld8_eq x8 5 (by decide)]
  rfl

theorem out10_at (c : Dev nD) (i : grid0.Coords) (arg2 : Memref sig .tc .vmem S1x16x3072 .f32) (harg2 : arg2.IsWhole) (arg3 : Memref sig .tc .vmem S1x16x1024 .f32) (harg3 : arg3.IsWhole) (arg4 : Memref sig .tc .vmem S1x16x128 .f32) (harg4 : arg4.IsWhole) (arg5 : Memref sig .tc .vmem S1x8x3072 .f32) (harg5 : arg5.IsWhole) (arg6 : Memref sig .tc .vmem S1x1024x128 .f32) (harg6 : arg6.IsWhole) (arg7 : Memref sig .tc .vmem S8x3072 .f32) (harg7 : arg7.IsWhole) (arg8 : Memref sig .tc .vmem S8x128 .f32) (harg8 : arg8.IsWhole) (arg9 : Memref sig .tc .vmem S1x128 .f32) (harg9 : arg9.IsWhole) (arg10 : Memref sig .tc .vmem S6x128x128 .bf16) (harg10 : arg10.IsWhole) (arg11 : Memref sig .tc .vmem S1x16x1024 .bf16) (harg11 : arg11.IsWhole) (arg12 : Memref sig .tc .vmem S1x8x3072 .f32) (harg12 : arg12.IsWhole) (arg13 : Memref sig .tc .vmem S1x1024x128 .f32) (harg13 : arg13.IsWhole) (arg14 : Memref sig .tc .vmem S24x3072 .f32) (harg14 : arg14.IsWhole) (arg15 : Memref sig .tc .vmem S1024x128 .f32) (harg15 : arg15.IsWhole) (hc0 : cond0_0 i) (hc1 : cond0_1 i)
    (x0 : Vec Ideal S1x16x3072 .f32) (x1 : Vec Ideal S1x16x1024 .f32) (x2 : Vec Ideal S1x16x128 .f32) (x3 : Vec Ideal S1x8x3072 .f32) (x4 : Vec Ideal S1x1024x128 .f32) (x5 : Vec Ideal S8x3072 .f32) (x6 : Vec Ideal S8x128 .f32) (x7 : Vec Ideal S1x128 .f32) (x8 : Vec Ideal S6x128x128 .bf16) (r : Fin 8) (e : Fin 3072) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 0 r e) = x0 (ix3 0 ⟨8 + r.val, by omega⟩ e) := by
  frame_open
  simp (disch := decide) only [↓ View.readCov_skip, ↓ View.readCov_cons_toLoadRect, ↓ View.readCov_fill]
  frame_out
  rw [View.readCov_eq_canon']
  unfold k0_pay116 k0_pay115
  pointwise
  refine (ex_canon x0 x3 _).trans ((dif_neg ?_).trans ?_)
  · show ¬ (16 + r.val < 8)
    omega
  · congr 1
    funext a
    apply Fin.ext
    match a with
    | ⟨0, _⟩ => rfl
    | ⟨1, _⟩ => show 16 + r.val - 8 = 8 + r.val; omega
    | ⟨2, _⟩ => rfl

/-- Head `h`'s columns of the gate input. -/
def zT (x1 : Vec Ideal S1x16x1024 .f32) (h : ℕ) : Vec Ideal S1x16x128 .f32 := fun j =>
  x1 (ix3 0 (j 1) ⟨(128 * h + (j 2).val) % 1024, Nat.mod_lt _ (by decide)⟩)

theorem ld1_eq (x1 : Vec Ideal S1x16x1024 .f32) (c h : ℕ) (hc : c = 128 * h) (hh : h < 8) (inb : ∀ a, (![0, 0, c] : Fin 3 → ℕ) a + (![1, 16, 128] : Fin 3 → ℕ) a ≤ S1x16x1024.size a) :
    View.ld (Val := Elt Ideal) (e' := .f32) x1 (Rect.unit (s := S1x16x1024) ![0, 0, c] ![1, 16, 128] inb) = zT x1 h := by
  funext j
  refine congrArg x1 ?_
  subst hc
  have h0 : (j 0).val < 1 := (j 0).isLt
  have h2 : (j 2).val < 128 := (j 2).isLt
  funext a
  apply Fin.ext
  match a with
  | ⟨0, _⟩ => show 0 + 1 * (j 0).val = 0; omega
  | ⟨1, _⟩ => show 0 + 1 * (j 1).val = (j 1).val; omega
  | ⟨2, _⟩ => show 128 * h + 1 * (j 2).val = (128 * h + (j 2).val) % 1024; omega

def outF (C : FVec Ideal S128x128 .f32) (w : Vec Ideal S1x128 .f32) (x1 : Vec Ideal S1x16x1024 .f32) : Vec Ideal S1x16x1024 .bf16 := fun y =>
  tile C w (zT x1 ((y 2).val / 128)) (y 1) ⟨(y 2).val % 128, Nat.mod_lt _ (by decide)⟩ ⟨(y 2).val / 128, by have : (y 2).val < 1024 := (y 2).isLt; omega⟩

theorem outF_emb (C : FVec Ideal S128x128 .f32) (w : Vec Ideal S1x128 .f32) (x1 : Vec Ideal S1x16x1024 .f32) (c h : ℕ) (hc : c = 128 * h) (hh : h < 8) (inb : ∀ a, (![0, 0, c] : Fin 3 → ℕ) a + (![1, 16, 128] : Fin 3 → ℕ) a ≤ S1x16x1024.size a)
    (i : Fin 16) (e : Fin 128) :
    outF C w x1 ((Rect.unit (s := S1x16x1024) ![0, 0, c] ![1, 16, 128] inb).emb (ix3 0 i e)) = tile C w (zT x1 h) i e ⟨h, hh⟩ := by
  subst hc
  have e1 : (128 * h + 1 * e.val) / 128 = h := by omega
  have e2 : (128 * h + 1 * e.val) % 128 = e.val := by omega
  show tile C w (zT x1 ((128 * h + 1 * e.val) / 128)) ⟨0 + 1 * i.val, _⟩ ⟨(128 * h + 1 * e.val) % 128, _⟩ ⟨(128 * h + 1 * e.val) / 128, _⟩ = _
  have e3 : (⟨0 + 1 * i.val, by omega⟩ : Fin 16) = i := Fin.ext (by show 0 + 1 * i.val = i.val; omega)
  have e4 : (⟨(128 * h + 1 * e.val) % 128, Nat.mod_lt _ (by decide)⟩ : Fin 128) = e := Fin.ext e2
  have e5 : (⟨(128 * h + 1 * e.val) / 128, by omega⟩ : Fin 8) = ⟨h, hh⟩ := Fin.ext e1
  rw [e3, e4, e5, e1]

theorem idx3 (z : S1x16x128.Idx) : ∃ (i : Fin 16) (e : Fin 128), z = ix3 0 i e := by
  have h0 : (z 0).val < 1 := (z 0).isLt
  refine ⟨z 1, z 2, ?_⟩
  funext a
  match a with
  | ⟨0, _⟩ => exact Fin.ext (by show (z 0).val = 0; omega)
  | ⟨1, _⟩ => rfl
  | ⟨2, _⟩ => rfl

theorem canon9 (A B : FVec Ideal S128x128 .f32) (w : Vec Ideal S1x128 .f32) (x1 : Vec Ideal S1x16x1024 .f32) (y : S1x16x1024.Idx) :
    View.canon (Val := Elt Ideal) (s := S1x16x1024) (e := .bf16) [⟨Rect.unit (s := S1x16x1024) ![0, 0, 896] ![1, 16, 128] inb_S1x16x1024_S1x16x128_0_0_896, k0_pay114 (k0_pay111 (k0_pay97 A B) w) (k0_pay112 (zT x1 7)) k0_pay113⟩, ⟨Rect.unit (s := S1x16x1024) ![0, 0, 768] ![1, 16, 128] inb_S1x16x1024_S1x16x128_0_0_768, k0_pay110 (k0_pay108 (k0_pay97 A B)) (k0_pay109 (k0_pay97 A B)) w (zT x1 6)⟩, ⟨Rect.unit (s := S1x16x1024) ![0, 0, 640] ![1, 16, 128] inb_S1x16x1024_S1x16x128_0_0_640, k0_pay107 (k0_pay97 A B) w (zT x1 5)⟩, ⟨Rect.unit (s := S1x16x1024) ![0, 0, 512] ![1, 16, 128] inb_S1x16x1024_S1x16x128_0_0_512, k0_pay106 (k0_pay105 (k0_pay97 A B) w) (zT x1 4)⟩, ⟨Rect.unit (s := S1x16x1024) ![0, 0, 384] ![1, 16, 128] inb_S1x16x1024_S1x16x128_0_0_384, k0_pay104 (k0_pay102 (k0_pay97 A B)) (k0_pay103 (k0_pay97 A B)) w (zT x1 3)⟩, ⟨Rect.unit (s := S1x16x1024) ![0, 0, 256] ![1, 16, 128] inb_S1x16x1024_S1x16x128_0_0_256, k0_pay101 (k0_pay97 A B) w (zT x1 2)⟩, ⟨Rect.unit (s := S1x16x1024) ![0, 0, 128] ![1, 16, 128] inb_S1x16x1024_S1x16x128_0_0_128, k0_pay100 (k0_pay99 A B w) (zT x1 1)⟩, ⟨Rect.unit (s := S1x16x1024) ![0, 0, 0] ![1, 16, 128] inb_S1x16x1024_S1x16x128_0_0_0, k0_pay98 A B w (zT x1 0)⟩] y = outF (k0_pay97 A B) w x1 y := by
  refine View.canon_append_of_piecesOf (Val := Elt Ideal) (s := S1x16x1024) (e := .bf16) (outF (k0_pay97 A B) w x1) [] [_, _, _, _, _, _, _, _] ⟨?_, ?_, ?_, ?_, ?_, ?_, ?_, ?_, trivial⟩ y ?_
  rotate_left 8
  · exact View.cover_of_tiledL _ ![1, 16, 128] (by sl_kernel_rfl) y
  · intro z
    obtain ⟨i, e, rfl⟩ := idx3 z
    exact (tile7_at (k0_pay97 A B) w (zT x1 7) i e).trans (outF_emb _ w x1 896 7 rfl (by decide) inb_S1x16x1024_S1x16x128_0_0_896 i e).symm
  · intro z
    obtain ⟨i, e, rfl⟩ := idx3 z
    exact (tile6_at (k0_pay97 A B) w (zT x1 6) i e).trans (outF_emb _ w x1 768 6 rfl (by decide) inb_S1x16x1024_S1x16x128_0_0_768 i e).symm
  · intro z
    obtain ⟨i, e, rfl⟩ := idx3 z
    exact (tile5_at (k0_pay97 A B) w (zT x1 5) i e).trans (outF_emb _ w x1 640 5 rfl (by decide) inb_S1x16x1024_S1x16x128_0_0_640 i e).symm
  · intro z
    obtain ⟨i, e, rfl⟩ := idx3 z
    exact (tile4_at (k0_pay97 A B) w (zT x1 4) i e).trans (outF_emb _ w x1 512 4 rfl (by decide) inb_S1x16x1024_S1x16x128_0_0_512 i e).symm
  · intro z
    obtain ⟨i, e, rfl⟩ := idx3 z
    exact (tile3_at (k0_pay97 A B) w (zT x1 3) i e).trans (outF_emb _ w x1 384 3 rfl (by decide) inb_S1x16x1024_S1x16x128_0_0_384 i e).symm
  · intro z
    obtain ⟨i, e, rfl⟩ := idx3 z
    exact (tile2_at (k0_pay97 A B) w (zT x1 2) i e).trans (outF_emb _ w x1 256 2 rfl (by decide) inb_S1x16x1024_S1x16x128_0_0_256 i e).symm
  · intro z
    obtain ⟨i, e, rfl⟩ := idx3 z
    exact (tile1_at A B w (zT x1 1) i e).trans (outF_emb _ w x1 128 1 rfl (by decide) inb_S1x16x1024_S1x16x128_0_0_128 i e).symm
  · intro z
    obtain ⟨i, e, rfl⟩ := idx3 z
    exact (tile0_at A B w (zT x1 0) i e).trans (outF_emb _ w x1 0 0 rfl (by decide) inb_S1x16x1024_S1x16x128_0_0_0 i e).symm

set_option maxHeartbeats 2000000 in
theorem out9_eq (c : Dev nD) (i : grid0.Coords) (arg2 : Memref sig .tc .vmem S1x16x3072 .f32) (harg2 : arg2.IsWhole) (arg3 : Memref sig .tc .vmem S1x16x1024 .f32) (harg3 : arg3.IsWhole) (arg4 : Memref sig .tc .vmem S1x16x128 .f32) (harg4 : arg4.IsWhole) (arg5 : Memref sig .tc .vmem S1x8x3072 .f32) (harg5 : arg5.IsWhole) (arg6 : Memref sig .tc .vmem S1x1024x128 .f32) (harg6 : arg6.IsWhole) (arg7 : Memref sig .tc .vmem S8x3072 .f32) (harg7 : arg7.IsWhole) (arg8 : Memref sig .tc .vmem S8x128 .f32) (harg8 : arg8.IsWhole) (arg9 : Memref sig .tc .vmem S1x128 .f32) (harg9 : arg9.IsWhole) (arg10 : Memref sig .tc .vmem S6x128x128 .bf16) (harg10 : arg10.IsWhole) (arg11 : Memref sig .tc .vmem S1x16x1024 .bf16) (harg11 : arg11.IsWhole) (arg12 : Memref sig .tc .vmem S1x8x3072 .f32) (harg12 : arg12.IsWhole) (arg13 : Memref sig .tc .vmem S1x1024x128 .f32) (harg13 : arg13.IsWhole) (arg14 : Memref sig .tc .vmem S24x3072 .f32) (harg14 : arg14.IsWhole) (arg15 : Memref sig .tc .vmem S1024x128 .f32) (harg15 : arg15.IsWhole) (hc0 : cond0_0 i) (hc1 : cond0_1 i)
    (x0 : Vec Ideal S1x16x3072 .f32) (x1 : Vec Ideal S1x16x1024 .f32) (x2 : Vec Ideal S1x16x128 .f32) (x3 : Vec Ideal S1x8x3072 .f32) (x4 : Vec Ideal S1x1024x128 .f32) (x5 : Vec Ideal S8x3072 .f32) (x6 : Vec Ideal S8x128 .f32) (x7 : Vec Ideal S1x128 .f32) (x8 : Vec Ideal S6x128x128 .bf16) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = outF (k0_pay97 (onV (qsV (k0_pay5 x5) (EX x0 x3)) (ksV (k0_pay5 x5) (EX x0 x3)) (vsV (k0_pay5 x5) (EX x0 x3)) x2 (r6 x6 0) (r6 x6 1) (ldm x8 0) (ldm x8 1) (ldm x8 2) (ldm x8 3) (ldm x8 4) (ldm x8 5) x4) (opV (qsV (k0_pay5 x5) (EX x0 x3)) (ksV (k0_pay5 x5) (EX x0 x3)) (vsV (k0_pay5 x5) (EX x0 x3)) x2 (r6 x6 0) (r6 x6 1) (ldm x8 1) (ldm x8 2) (ldm x8 3) (ldm x8 4) (ldm x8 5) x4)) x7 x1 := by
  funext y
  frame_open
  simp (disch := decide) only [↓ View.readCov_skip, ↓ View.readCov_cons_toLoadRect, ↓ View.readCov_fill]
  frame_out
  simp only [ex_read _ x0 x3 0 0 rfl (by decide), ex_read _ x0 x3 128 1 rfl (by decide), ex_read _ x0 x3 256 2 rfl (by decide), ex_read _ x0 x3 384 3 rfl (by decide), ex_read _ x0 x3 512 4 rfl (by decide), ex_read _ x0 x3 640 5 rfl (by decide), ex_read _ x0 x3 768 6 rfl (by decide), ex_read _ x0 x3 896 7 rfl (by decide), ex_read _ x0 x3 1024 8 rfl (by decide), ex_read _ x0 x3 1152 9 rfl (by decide), ex_read _ x0 x3 1280 10 rfl (by decide), ex_read _ x0 x3 1408 11 rfl (by decide), ex_read _ x0 x3 1536 12 rfl (by decide), ex_read _ x0 x3 1664 13 rfl (by decide), ex_read _ x0 x3 1792 14 rfl (by decide), ex_read _ x0 x3 1920 15 rfl (by decide), ex_read _ x0 x3 2048 16 rfl (by decide), ex_read _ x0 x3 2176 17 rfl (by decide), ex_read _ x0 x3 2304 18 rfl (by decide), ex_read _ x0 x3 2432 19 rfl (by decide), ex_read _ x0 x3 2560 20 rfl (by decide), ex_read _ x0 x3 2688 21 rfl (by decide), ex_read _ x0 x3 2816 22 rfl (by decide), ex_read _ x0 x3 2944 23 rfl (by decide), ld6_eq x6 0 (by decide), ld6_eq x6 1 (by decide), ld8_eq x8 0 (by decide), ld8_eq x8 1 (by decide), ld8_eq x8 2 (by decide), ld8_eq x8 3 (by decide), ld8_eq x8 4 (by decide), ld8_eq x8 5 (by decide), ld1_eq x1 0 0 rfl (by decide), ld1_eq x1 128 1 rfl (by decide), ld1_eq x1 256 2 rfl (by decide), ld1_eq x1 384 3 rfl (by decide), ld1_eq x1 512 4 rfl (by decide), ld1_eq x1 640 5 rfl (by decide), ld1_eq x1 768 6 rfl (by decide), ld1_eq x1 896 7 rfl (by decide)]
  exact canon9 (onV (qsV (k0_pay5 x5) (EX x0 x3)) (ksV (k0_pay5 x5) (EX x0 x3)) (vsV (k0_pay5 x5) (EX x0 x3)) x2 (r6 x6 0) (r6 x6 1) (ldm x8 0) (ldm x8 1) (ldm x8 2) (ldm x8 3) (ldm x8 4) (ldm x8 5) x4) (opV (qsV (k0_pay5 x5) (EX x0 x3)) (ksV (k0_pay5 x5) (EX x0 x3)) (vsV (k0_pay5 x5) (EX x0 x3)) x2 (r6 x6 0) (r6 x6 1) (ldm x8 1) (ldm x8 2) (ldm x8 3) (ldm x8 4) (ldm x8 5) x4) x7 x1 y

end Cert.KernelIdeal.Value
-- ==== Proof.DeltaBlocks.lean ====
module

public import proofs.«01_k».proof.Proof.DeltaConv
public import proofs.«01_k».proof.Proof.Gen.KernelIdeal.Value
public import Idealize.ShloMosaic.Lib.Pipeline.ValueKit
public import Idealize.ShloMosaic.Lib.StableHlo.ReadAt
public import Idealize.ShloMosaic.Lib.Routing.OpsSet

@[expose] public section
set_option maxRecDepth 16384
noncomputable section
open Idealize.ShloMosaic Idealize.ShloMosaic.TcCoe Idealize.SL.Sem

namespace Cert.KernelIdeal.Value
open Cert.KernelIdeal Cert.KernelIdeal.Gen

variable (m : (ℓ : Loc nD τ sig) → Buf (Elt Ideal) ℓ)

def argP (c : Dev nD) : S16x16x5120.Idx → EReal := m ((c : Thread nD τ).loc main_arg0)
def argA (c : Dev nD) : S16x16x128.Idx → EReal := m ((c : Thread nD τ).loc main_arg1)
def argC (c : Dev nD) : S16x3x3072.Idx → EReal := m ((c : Thread nD τ).loc main_arg2)
def argS (c : Dev nD) : S16x8x128x128.Idx → EReal := m ((c : Thread nD τ).loc main_arg3)
def argW (c : Dev nD) : S1x4x3072.Idx → EReal := m ((c : Thread nD τ).loc main_arg4)
def argL (c : Dev nD) : S1x8.Idx → EReal := m ((c : Thread nD τ).loc main_arg5)
def argB (c : Dev nD) : S1x8.Idx → EReal := m ((c : Thread nD τ).loc main_arg6)
def argN (c : Dev nD) : S1x128.Idx → EReal := m ((c : Thread nD τ).loc main_arg7)

theorem idxs : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 3)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ t.val < 16 :=
  (by decide +kernel : ∀ t : Fin grid0.N, _)

theorem idxo : ∀ t : Fin cfg0.N, (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0) ∧ t.val < 16 :=
  (by decide +kernel : ∀ t : Fin grid0.N, _)

theorem idxc : ∀ t : Fin cfg0.N, win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0 :=
  (by decide +kernel : ∀ t : Fin grid0.N, _)

/-- The stream a grid point works on. -/
def strm (t : ℕ) : Fin 16 := ⟨t % 16, Nat.mod_lt _ (by decide)⟩

theorem blk0 (c : Dev nD) (t : Fin cfg0.N) (i : Fin 16) (n : Fin 3072) : X0_0 m c t (ix3 0 i n) = argP m c (ix3 (strm t.val) i ⟨n.val, by omega⟩) := by
  obtain ⟨⟨e0, e1, e2⟩, -, -, -, -, ht⟩ := idxs t
  unfold argP
  rw [← V_main_arg0 m c]
  unfold X0_0 Pipeline.Window.fill
  rw [dif_pos (moved0_0 t _)]
  blk_ext [iblk, strm, e0, e1, e2]

theorem blk1 (c : Dev nD) (t : Fin cfg0.N) (i : Fin 16) (n : Fin 1024) : iblk m c 1 t (ix3 0 i n) = argP m c (ix3 (strm t.val) i ⟨3072 + n.val, by omega⟩) := by
  obtain ⟨-, ⟨e0, e1, e2⟩, -, -, -, ht⟩ := idxs t
  unfold argP
  rw [← V_main_arg0 m c]
  blk_ext [iblk, strm, e0, e1, e2]

theorem blk2 (c : Dev nD) (t : Fin cfg0.N) (i : Fin 16) (n : Fin 128) : iblk m c 2 t (ix3 0 i n) = argA m c (ix3 (strm t.val) i n) := by
  obtain ⟨-, -, ⟨e0, e1, e2⟩, -, -, ht⟩ := idxs t
  unfold argA
  rw [← V_main_arg1 m c]
  blk_ext [iblk, strm, e0, e1, e2]

theorem blk3 (c : Dev nD) (t : Fin cfg0.N) (r : Fin 3) (n : Fin 3072) : iblk m c 3 t (ix3 0 ⟨5 + r.val, by omega⟩ n) = argC m c (ix3 (strm t.val) r n) := by
  have h : iblk m c 3 t (ix3 0 ⟨5 + r.val, by omega⟩ n) = V m c main_v13 (ix3 (strm t.val) ⟨5 + r.val, by omega⟩ n) := by
    obtain ⟨-, -, -, ⟨e0, e1, e2⟩, -, ht⟩ := idxs t
    blk_ext [iblk, strm, e0, e1, e2]
  rw [h]; unfold V argC; after_reads_at

theorem blk4 (c : Dev nD) (t : Fin cfg0.N) (h : Fin 8) (d e : Fin 128) : iblk m c 4 t (ix3 0 ⟨128 * h.val + d.val, by omega⟩ e) = argS m c (ix4 (strm t.val) h d e) := by
  have h : iblk m c 4 t (ix3 0 ⟨128 * h.val + d.val, by omega⟩ e) = V m c main_v14 (ix3 (strm t.val) ⟨128 * h.val + d.val, by omega⟩ e) := by
    obtain ⟨-, -, -, -, ⟨e0, e1, e2⟩, ht⟩ := idxs t
    blk_ext [iblk, strm, e0, e1, e2]
  rw [h]; unfold V argS; after_reads_at

theorem blk5 (c : Dev nD) (t : Fin cfg0.N) (r : Fin 4) (n : Fin 3072) : iblk m c 5 t (ix2 ⟨r.val, by omega⟩ n) = argW m c (ix3 0 r n) := by
  have h : iblk m c 5 t (ix2 ⟨r.val, by omega⟩ n) = V m c main_v1 (ix2 ⟨r.val, by omega⟩ n) := by
    obtain ⟨e0, e1, e2, e3, e4, e5, e6, e7, e8⟩ := idxc t
    blk_ext [iblk, e0, e1, e2, e3, e4, e5, e6, e7, e8]
  rw [h]; unfold V argW; after_reads_at

/-- Where the gate rows' update `j` lands at start row `ρ`. -/
theorem gate_lands (ρ : Fin 2) (j : Fin 8) (idx : IVec S2 32) (h : idx = fun k => if (k 0).val = 0 then BitVec.ofNat 32 ρ.val else 0#32) :
    scatter_S8x128_S2_S8_0_0_01_0.resultIdx? (ix1 j) idx = some (ix2 ⟨ρ.val, by omega⟩ ⟨j.val, by omega⟩) := by
  subst h
  revert ρ j
  decide

theorem gate_idx (ρ : Fin 2) (a b : IVec S1 32) (ha : ∀ i, a i = BitVec.ofNat 32 ρ.val) (hb : ∀ i, b i = 0#32) :
    concatenate S2 0 [⟨S1, a⟩, ⟨S1, b⟩] concatenates_S1_S1_S2_d0 = fun k => if (k 0).val = 0 then BitVec.ofNat 32 ρ.val else 0#32 := by
  funext k
  obtain ⟨q, rfl⟩ : ∃ q : Fin 2, k = ix1 q := ⟨k 0, by funext a; match a with | ⟨0, _⟩ => rfl⟩
  match q with
  | ⟨0, _⟩ => exact ha _
  | ⟨1, _⟩ => exact hb _

theorem gate_hit (ρ : Fin 2) (idx : IVec S2 32) (h : idx = fun k => if (k 0).val = 0 then BitVec.ofNat 32 ρ.val else 0#32) (x : S8x128.Idx → EReal) (u : S8.Idx → EReal) (j : Fin 8) :
    Host.scatter scatter_S8x128_S2_S8_0_0_01_0 (fun _ b => b) x idx u (ix2 ⟨ρ.val, by omega⟩ ⟨j.val, by omega⟩) = u (ix1 j) := by
  refine Routing.scatter_set_hit _ x idx u _ _ (fun k hk => ?_) (ix1 j) (gate_lands ρ j idx h)
  obtain ⟨j', rfl⟩ : ∃ j', k = ix1 j' := ⟨k 0, by funext a; match a with | ⟨0, _⟩ => rfl⟩
  rw [gate_lands ρ j' idx h] at hk
  have e := congrArg Fin.val (congrFun (Option.some.inj hk) 1)
  exact congrArg (fun j => u (ix1 j)) (Fin.ext e)

theorem gate_miss (ρ : Fin 2) (idx : IVec S2 32) (h : idx = fun k => if (k 0).val = 0 then BitVec.ofNat 32 ρ.val else 0#32) (x : S8x128.Idx → EReal) (u : S8.Idx → EReal) (r : Fin 8) (l : Fin 128)
    (hr : r.val ≠ ρ.val) : Host.scatter scatter_S8x128_S2_S8_0_0_01_0 (fun _ b => b) x idx u (ix2 r l) = x (ix2 r l) := by
  refine Routing.scatter_set_miss _ x idx u _ (fun k hk => ?_)
  obtain ⟨j', rfl⟩ : ∃ j', k = ix1 j' := ⟨k 0, by funext a; match a with | ⟨0, _⟩ => rfl⟩
  rw [gate_lands ρ j' idx h] at hk
  exact hr (congrArg Fin.val (congrFun (Option.some.inj hk) 0)).symm

theorem blk6a (c : Dev nD) (t : Fin cfg0.N) (h' : Fin 8) : iblk m c 6 t (ix2 0 ⟨h'.val, by omega⟩) = argL m c (ix2 0 h') := by
  have h : iblk m c 6 t (ix2 0 ⟨h'.val, by omega⟩) = V m c main_v12 (ix2 0 ⟨h'.val, by omega⟩) := by
    obtain ⟨e0, e1, e2, e3, e4, e5, e6, e7, e8⟩ := idxc t
    blk_ext [iblk, e0, e1, e2, e3, e4, e5, e6, e7, e8]
  rw [h]; unfold V argL; after_reads_at
  refine (gate_miss 1 _ (gate_idx 1 _ _ (fun i => ?_) (fun i => ?_)) _ _ _ _ (show (0 : ℕ) ≠ 1 by decide)).trans ((gate_hit 0 _ (gate_idx 0 _ _ (fun i => ?_) (fun i => ?_)) _ _ h').trans rfl)
  all_goals after_reads_at

theorem blk6b (c : Dev nD) (t : Fin cfg0.N) (h' : Fin 8) : iblk m c 6 t (ix2 1 ⟨h'.val, by omega⟩) = argB m c (ix2 0 h') := by
  have h : iblk m c 6 t (ix2 1 ⟨h'.val, by omega⟩) = V m c main_v12 (ix2 1 ⟨h'.val, by omega⟩) := by
    obtain ⟨e0, e1, e2, e3, e4, e5, e6, e7, e8⟩ := idxc t
    blk_ext [iblk, e0, e1, e2, e3, e4, e5, e6, e7, e8]
  rw [h]; unfold V argB; after_reads_at
  refine (gate_hit 1 _ (gate_idx 1 _ _ (fun i => ?_) (fun i => ?_)) _ _ h').trans rfl
  all_goals after_reads_at

theorem blk7 (c : Dev nD) (t : Fin cfg0.N) (e : Fin 128) : iblk m c 7 t (ix2 0 e) = argN m c (ix2 0 e) := by
  obtain ⟨e0, e1, e2, e3, e4, e5, e6, e7, e8⟩ := idxc t
  unfold argN
  rw [← V_main_arg7 m c]
  blk_ext [iblk, e0, e1, e2, e3, e4, e5, e6, e7, e8]

theorem blk8 (c : Dev nD) (t : Fin cfg0.N) (k : Fin 6) (i j : Fin 128) : iblk m c 8 t (ix3 k i j) = FloatOps.ofBits (F := Ideal) .bf16 (lit0 (S6x128x128.rowMajor (ix3 k i j))) := by
  have h : iblk m c 8 t (ix3 k i j) = V m c main_cst (ix3 k i j) := by
    obtain ⟨e0, e1, e2, e3, e4, e5, e6, e7, e8⟩ := idxc t
    blk_ext [iblk, e0, e1, e2, e3, e4, e5, e6, e7, e8]
  rw [h]; unfold V; after_reads_at

end Cert.KernelIdeal.Value
-- ==== Proof.DeltaFinal.lean ====
module

public import proofs.«01_k».proof.Proof.DeltaPoint
public import proofs.«01_k».proof.Proof.DeltaBlocks

@[expose] public section
set_option maxRecDepth 16384
noncomputable section
open Idealize.ShloMosaic Idealize.ShloMosaic.TcCoe Idealize.SL.Sem

namespace Cert.KernelIdeal.Value
open Cert.KernelIdeal Cert.KernelIdeal.Gen Cert.Delta

section
variable (x0 : Vec Ideal S1x16x3072 .f32) (x1 : Vec Ideal S1x16x1024 .f32) (x2 : Vec Ideal S1x16x128 .f32) (x3 : Vec Ideal S1x8x3072 .f32) (x4 : Vec Ideal S1x1024x128 .f32)
  (x5 : Vec Ideal S8x3072 .f32) (x6 : Vec Ideal S8x128 .f32) (x7 : Vec Ideal S1x128 .f32) (x8 : Vec Ideal S6x128x128 .bf16)

/-- The packed queries, keys and values of one stream. -/
def QX := qsV (k0_pay5 x5) (EX x0 x3)
def KX := ksV (k0_pay5 x5) (EX x0 x3)
def VX := vsV (k0_pay5 x5) (EX x0 x3)

/-- One stream's outputs. -/
def F9 : Vec Ideal S1x16x1024 .bf16 :=
  outF (k0_pay97 (onV (QX x0 x3 x5) (KX x0 x3 x5) (VX x0 x3 x5) x2 (r6 x6 0) (r6 x6 1) (ldm x8 0) (ldm x8 1) (ldm x8 2) (ldm x8 3) (ldm x8 4) (ldm x8 5) x4)
    (opV (QX x0 x3 x5) (KX x0 x3 x5) (VX x0 x3 x5) x2 (r6 x6 0) (r6 x6 1) (ldm x8 1) (ldm x8 2) (ldm x8 3) (ldm x8 4) (ldm x8 5) x4)) x7 x1

/-- One stream's next state. -/
def F11 : Vec Ideal S1x1024x128 .f32 :=
  k0_pay1 (F := Ideal) (stV (QX x0 x3 x5) (KX x0 x3 x5) (VX x0 x3 x5) x2 (r6 x6 0) (r6 x6 1) (ldm x8 1) (ldm x8 2) (ldm x8 3) (ldm x8 4) (ldm x8 5) x4)
end

variable (m : (ℓ : Loc nD τ sig) → Buf (Elt Ideal) ℓ) (c : Dev nD)

/-- The grid point of a stream. -/
def pt (b : Fin 16) : Fin cfg0.N := ⟨b.val, lt_of_lt_of_eq b.isLt (by decide +kernel : 16 = grid0.N)⟩

theorem pt_strm (t : Fin cfg0.N) : pt (strm t.val) = t := Fin.ext (Nat.mod_eq_of_lt (idxo t).2.2.2)

theorem strm_pt (b : Fin 16) : strm (pt b).val = b := Fin.ext (Nat.mod_eq_of_lt b.isLt)

/-- A stream's outputs from its blocks. -/
def P9 (t : Fin cfg0.N) : Vec Ideal S1x16x1024 .bf16 :=
  F9 (X0_0 m c t) (iblk m c 1 t) (iblk m c 2 t) (iblk m c 3 t) (iblk m c 4 t) (iblk m c 5 t) (iblk m c 6 t) (iblk m c 7 t) (iblk m c 8 t)

/-- A stream's next state from its blocks. -/
def P11 (t : Fin cfg0.N) : Vec Ideal S1x1024x128 .f32 :=
  F11 (X0_0 m c t) (iblk m c 2 t) (iblk m c 3 t) (iblk m c 4 t) (iblk m c 5 t) (iblk m c 6 t) (iblk m c 8 t)

def G9 : S16x16x1024.Idx → EReal := fun y => P9 m c (pt (y 0)) (ix3 0 (y 1) (y 2))

def P10 (b : Fin 16) (r : Fin 8) (n : Fin 3072) : EReal := argP m c (ix3 b ⟨8 + r.val, by omega⟩ ⟨n.val, by omega⟩)

def G10 : S16x8x3072.Idx → EReal := fun y => P10 m c (y 0) (y 1) (y 2)

def G11 : S16x1024x128.Idx → EReal := fun y => P11 m c (pt (y 0)) (ix3 0 (y 1) (y 2))

theorem final9 : (dats m 0 c).arrAt 9 cfg0.N = G9 m c := by
  refine (dats m 0 c).arrAt_eq_of_covers 9 _ (by decide +kernel) fun t hf y => ?_
  obtain ⟨⟨e0, e1, e2⟩, -, -, ht⟩ := idxo t
  blk_simp
  rw [after0_9]
  obtain ⟨i, n, rfl⟩ : ∃ (i : Fin 16) (n : Fin 1024), y = ix3 0 i n :=
    ⟨y 1, y 2, by funext a; match a with | ⟨0, _⟩ => exact Fin.ext (Nat.lt_one_iff.1 (y 0).isLt) | ⟨1, _⟩ => rfl | ⟨2, _⟩ => rfl⟩
  have he : (win0_9.blk t).view.emb (ix3 0 i n) = ix3 (strm t.val) i n := by
    funext a
    apply Fin.ext
    match a with
    | ⟨0, _⟩ => show win0_9.index t (0 : Fin 3) * 1 + 1 * 0 = t.val % 16; rw [e0]; omega
    | ⟨1, _⟩ => show win0_9.index t (1 : Fin 3) * 16 + 1 * i.val = i.val; rw [e1]; omega
    | ⟨2, _⟩ => show win0_9.index t (2 : Fin 3) * 1024 + 1 * n.val = n.val; rw [e2]; omega
  rw [he]
  have hg : G9 m c (ix3 (strm t.val) i n) = P9 m c t (ix3 0 i n) := by
    show P9 m c (pt (strm t.val)) (ix3 0 i n) = _
    rw [pt_strm]
  rw [hg]
  dsimp only [outsAt0]
  rw [out9_eq]
  rfl

theorem final10 : (dats m 0 c).arrAt 10 cfg0.N = G10 m c := by
  refine (dats m 0 c).arrAt_eq_of_covers 10 _ (by decide +kernel) fun t hf y => ?_
  obtain ⟨-, ⟨e0, e1, e2⟩, -, ht⟩ := idxo t
  blk_simp
  rw [after0_10]
  obtain ⟨i, n, rfl⟩ : ∃ (i : Fin 8) (n : Fin 3072), y = ix3 0 i n :=
    ⟨y 1, y 2, by funext a; match a with | ⟨0, _⟩ => exact Fin.ext (Nat.lt_one_iff.1 (y 0).isLt) | ⟨1, _⟩ => rfl | ⟨2, _⟩ => rfl⟩
  have he : (win0_10.blk t).view.emb (ix3 0 i n) = ix3 (strm t.val) i n := by
    funext a
    apply Fin.ext
    match a with
    | ⟨0, _⟩ => show win0_10.index t (0 : Fin 3) * 1 + 1 * 0 = t.val % 16; rw [e0]; omega
    | ⟨1, _⟩ => show win0_10.index t (1 : Fin 3) * 8 + 1 * i.val = i.val; rw [e1]; omega
    | ⟨2, _⟩ => show win0_10.index t (2 : Fin 3) * 3072 + 1 * n.val = n.val; rw [e2]; omega
  rw [he]
  dsimp only [outsAt0]
  rw [out10_at]
  exact blk0 m c t ⟨8 + i.val, by omega⟩ n

theorem final11 : (dats m 0 c).arrAt 11 cfg0.N = G11 m c := by
  refine (dats m 0 c).arrAt_eq_of_covers 11 _ (by decide +kernel) fun t hf y => ?_
  obtain ⟨-, -, ⟨e0, e1, e2⟩, ht⟩ := idxo t
  blk_simp
  rw [after0_11]
  obtain ⟨i, n, rfl⟩ : ∃ (i : Fin 1024) (n : Fin 128), y = ix3 0 i n :=
    ⟨y 1, y 2, by funext a; match a with | ⟨0, _⟩ => exact Fin.ext (Nat.lt_one_iff.1 (y 0).isLt) | ⟨1, _⟩ => rfl | ⟨2, _⟩ => rfl⟩
  have he : (win0_11.blk t).view.emb (ix3 0 i n) = ix3 (strm t.val) i n := by
    funext a
    apply Fin.ext
    match a with
    | ⟨0, _⟩ => show win0_11.index t (0 : Fin 3) * 1 + 1 * 0 = t.val % 16; rw [e0]; omega
    | ⟨1, _⟩ => show win0_11.index t (1 : Fin 3) * 1024 + 1 * i.val = i.val; rw [e1]; omega
    | ⟨2, _⟩ => show win0_11.index t (2 : Fin 3) * 128 + 1 * n.val = n.val; rw [e2]; omega
  rw [he]
  have hg : G11 m c (ix3 (strm t.val) i n) = P11 m c t (ix3 0 i n) := by
    show P11 m c (pt (strm t.val)) (ix3 0 i n) = _
    rw [pt_strm]
  rw [hg]
  dsimp only [outsAt0]
  rw [out11_eq]
  rfl

/-- The run, its results named. -/
theorem run (ρ : Dev nD → PrngReg) : θ_run defs (onTc (τ := τ) (main (F := Ideal))) ⟨m, fun _ => 0, ρ⟩ fun r => ∀ c : Dev nD,
      r.2.mem ((c : Thread nD τ).loc main_v15_0) = G9 m c
      ∧ r.2.mem ((c : Thread nD τ).loc main_v15_1) = G10 m c
      ∧ r.2.mem ((c : Thread nD τ).loc main_v15_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final9 m c), (h c).2.1.trans (final10 m c), (h c).2.2.1.trans (final11 m c), (h c).2.2.2⟩) (run_blocks m ρ)

end Cert.KernelIdeal.Value
-- ==== Proof.DeltaMask0.lean ====
/- Mask 0 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m0_0 (c : Fin 128) : lit0t1_0 (0 + 0 * 128 + c.val) = if Inc 0 c then 0x3F80#16 else 0#16 :=
  chase (F := lit0t0_0) (by unfold lit0t1_0; rw [show (0 + 0 * 128 + c.val) / 128 % 128 = 0 by omega]; rfl) (by unfold lit0t0_0; rw [Nat.mod_mod]) (by omega)
    ((by decide +kernel : ∀ c : Fin 128, lit0t0_0 c.val = if Inc 0 c then 0x3F80#16 else 0#16) c)

theorem m0_1 (c : Fin 128) : lit0t1_0 (0 + 1 * 128 + c.val) = if Inc 1 c then 0x3F80#16 else 0#16 :=
  chase (F := lit0t0_1) (by unfold lit0t1_0; rw [show (0 + 1 * 128 + c.val) / 128 % 128 = 1 by omega]; rfl) (by unfold lit0t0_1; rw [Nat.mod_mod]) (by omega)
    ((by decide +kernel : ∀ c : Fin 128, lit0t0_1 c.val = if Inc 1 c then 0x3F80#16 else 0#16) c)

theorem m0_2 (c : Fin 128) : lit0t1_0 (0 + 2 * 128 + c.val) = if Inc 2 c then 0x3F80#16 else 0#16 :=
  chase (F := lit0t0_2) (by unfold lit0t1_0; rw [show (0 + 2 * 128 + c.val) / 128 % 128 = 2 by omega]; rfl) (by unfold lit0t0_2; rw [Nat.mod_mod]) (by omega)
    ((by decide +kernel : ∀ c : Fin 128, lit0t0_2 c.val = if Inc 2 c then 0x3F80#16 else 0#16) c)

theorem m0_3 (c : Fin 128) : lit0t1_0 (0 + 3 * 128 + c.val) = if Inc 3 c then 0x3F80#16 else 0#16 :=
  chase (F := lit0t0_3) (by unfold lit0t1_0; rw [show (0 + 3 * 128 + c.val) / 128 % 128 = 3 by omega]; rfl) (by unfold lit0t0_3; rw [Nat.mod_mod]) (by omega)
    ((by decide +kernel : ∀ c : Fin 128, lit0t0_3 c.val = if Inc 3 c then 0x3F80#16 else 0#16) c)

theorem m0_4 (c : Fin 128) : lit0t1_0 (0 + 4 * 128 + c.val) = if Inc 4 c then 0x3F80#16 else 0#16 :=
  chase (F := lit0t0_4) (by unfold lit0t1_0; rw [show (0 + 4 * 128 + c.val) / 128 % 128 = 4 by omega]; rfl) (by unfold lit0t0_4; rw [Nat.mod_mod]) (by omega)
    ((by decide +kernel : ∀ c : Fin 128, lit0t0_4 c.val = if Inc 4 c then 0x3F80#16 else 0#16) c)

theorem m0_5 (c : Fin 128) : lit0t1_0 (0 + 5 * 128 + c.val) = if Inc 5 c then 0x3F80#16 else 0#16 :=
  chase (F := lit0t0_5) (by unfold lit0t1_0; rw [show (0 + 5 * 128 + c.val) / 128 % 128 = 5 by omega]; rfl) (by unfold lit0t0_5; rw [Nat.mod_mod]) (by omega)
    ((by decide +kernel : ∀ c : Fin 128, lit0t0_5 c.val = if Inc 5 c then 0x3F80#16 else 0#16) c)

theorem m0_6 (c : Fin 128) : lit0t1_0 (0 + 6 * 128 + c.val) = if Inc 6 c then 0x3F80#16 else 0#16 :=
  chase (F := lit0t0_6) (by unfold lit0t1_0; rw [show (0 + 6 * 128 + c.val) / 128 % 128 = 6 by omega]; rfl) (by unfold lit0t0_6; rw [Nat.mod_mod]) (by omega)
    ((by decide +kernel : ∀ c : Fin 128, lit0t0_6 c.val = if Inc 6 c then 0x3F80#16 else 0#16) c)

theorem m0_7 (c : Fin 128) : lit0t1_0 (0 + 7 * 128 + c.val) = if Inc 7 c then 0x3F80#16 else 0#16 :=
  chase (F := lit0t0_7) (by unfold lit0t1_0; rw [show (0 + 7 * 128 + c.val) / 128 % 128 = 7 by omega]; rfl) (by unfold lit0t0_7; rw [Nat.mod_mod]) (by omega)
    ((by decide +kernel : ∀ c : Fin 128, lit0t0_7 c.val = if Inc 7 c then 0x3F80#16 else 0#16) c)

theorem m0_8 (c : Fin 128) : lit0t1_0 (0 + 8 * 128 + c.val) = if Inc 8 c then 0x3F80#16 else 0#16 :=
  chase (F := lit0t0_8) (by unfold lit0t1_0; rw [show (0 + 8 * 128 + c.val) / 128 % 128 = 8 by omega]; rfl) (by unfold lit0t0_8; rw [Nat.mod_mod]) (by omega)
    ((by decide +kernel : ∀ c : Fin 128, lit0t0_8 c.val = if Inc 8 c then 0x3F80#16 else 0#16) c)

theorem m0_9 (c : Fin 128) : lit0t1_0 (0 + 9 * 128 + c.val) = if Inc 9 c then 0x3F80#16 else 0#16 :=
  chase (F := lit0t0_9) (by unfold lit0t1_0; rw [show (0 + 9 * 128 + c.val) / 128 % 128 = 9 by omega]; rfl) (by unfold lit0t0_9; rw [Nat.mod_mod]) (by omega)
    ((by decide +kernel : ∀ c : Fin 128, lit0t0_9 c.val = if Inc 9 c then 0x3F80#16 else 0#16) c)

theorem m0_10 (c : Fin 128) : lit0t1_0 (0 + 10 * 128 + c.val) = if Inc 10 c then 0x3F80#16 else 0#16 :=
  chase (F := lit0t0_10) (by unfold lit0t1_0; rw [show (0 + 10 * 128 + c.val) / 128 % 128 = 10 by omega]; rfl) (by unfold lit0t0_10; rw [Nat.mod_mod]) (by omega)
    ((by decide +kernel : ∀ c : Fin 128, lit0t0_10 c.val = if Inc 10 c then 0x3F80#16 else 0#16) c)

theorem m0_11 (c : Fin 128) : lit0t1_0 (0 + 11 * 128 + c.val) = if Inc 11 c then 0x3F80#16 else 0#16 :=
  chase (F := lit0t0_11) (by unfold lit0t1_0; rw [show (0 + 11 * 128 + c.val) / 128 % 128 = 11 by omega]; rfl) (by unfold lit0t0_11; rw [Nat.mod_mod]) (by omega)
    ((by decide +kernel : ∀ c : Fin 128, lit0t0_11 c.val = if Inc 11 c then 0x3F80#16 else 0#16) c)

theorem m0_12 (c : Fin 128) : lit0t1_0 (0 + 12 * 128 + c.val) = if Inc 12 c then 0x3F80#16 else 0#16 :=
  chase (F := lit0t0_12) (by unfold lit0t1_0; rw [show (0 + 12 * 128 + c.val) / 128 % 128 = 12 by omega]; rfl) (by unfold lit0t0_12; rw [Nat.mod_mod]) (by omega)
    ((by decide +kernel : ∀ c : Fin 128, lit0t0_12 c.val = if Inc 12 c then 0x3F80#16 else 0#16) c)

theorem m0_13 (c : Fin 128) : lit0t1_0 (0 + 13 * 128 + c.val) = if Inc 13 c then 0x3F80#16 else 0#16 :=
  chase (F := lit0t0_13) (by unfold lit0t1_0; rw [show (0 + 13 * 128 + c.val) / 128 % 128 = 13 by omega]; rfl) (by unfold lit0t0_13; rw [Nat.mod_mod]) (by omega)
    ((by decide +kernel : ∀ c : Fin 128, lit0t0_13 c.val = if Inc 13 c then 0x3F80#16 else 0#16) c)

theorem m0_14 (c : Fin 128) : lit0t1_0 (0 + 14 * 128 + c.val) = if Inc 14 c then 0x3F80#16 else 0#16 :=
  chase (F := lit0t0_14) (by unfold lit0t1_0; rw [show (0 + 14 * 128 + c.val) / 128 % 128 = 14 by omega]; rfl) (by unfold lit0t0_14; rw [Nat.mod_mod]) (by omega)
    ((by decide +kernel : ∀ c : Fin 128, lit0t0_14 c.val = if Inc 14 c then 0x3F80#16 else 0#16) c)

theorem m0_15 (c : Fin 128) : lit0t1_0 (0 + 15 * 128 + c.val) = if Inc 15 c then 0x3F80#16 else 0#16 :=
  chase (F := lit0t0_15) (by unfold lit0t1_0; rw [show (0 + 15 * 128 + c.val) / 128 % 128 = 15 by omega]; rfl) (by unfold lit0t0_15; rw [Nat.mod_mod]) (by omega)
    ((by decide +kernel : ∀ c : Fin 128, lit0t0_15 c.val = if Inc 15 c then 0x3F80#16 else 0#16) c)

theorem m0_16 (c : Fin 128) : lit0t1_0 (0 + 16 * 128 + c.val) = if Inc 16 c then 0x3F80#16 else 0#16 :=
  chase (F := lit0t0_16) (by unfold lit0t1_0; rw [show (0 + 16 * 128 + c.val) / 128 % 128 = 16 by omega]; rfl) (by unfold lit0t0_16; rw [Nat.mod_mod]) (by omega)
    ((by decide +kernel : ∀ c : Fin 128, lit0t0_16 c.val = if Inc 16 c then 0x3F80#16 else 0#16) c)

theorem m0_17 (c : Fin 128) : lit0t1_0 (0 + 17 * 128 + c.val) = if Inc 17 c then 0x3F80#16 else 0#16 :=
  chase (F := lit0t0_17) (by unfold lit0t1_0; rw [show (0 + 17 * 128 + c.val) / 128 % 128 = 17 by omega]; rfl) (by unfold lit0t0_17; rw [Nat.mod_mod]) (by omega)
    ((by decide +kernel : ∀ c : Fin 128, lit0t0_17 c.val = if Inc 17 c then 0x3F80#16 else 0#16) c)

theorem m0_18 (c : Fin 128) : lit0t1_0 (0 + 18 * 128 + c.val) = if Inc 18 c then 0x3F80#16 else 0#16 :=
  chase (F := lit0t0_18) (by unfold lit0t1_0; rw [show (0 + 18 * 128 + c.val) / 128 % 128 = 18 by omega]; rfl) (by unfold lit0t0_18; rw [Nat.mod_mod]) (by omega)
    ((by decide +kernel : ∀ c : Fin 128, lit0t0_18 c.val = if Inc 18 c then 0x3F80#16 else 0#16) c)

theorem m0_19 (c : Fin 128) : lit0t1_0 (0 + 19 * 128 + c.val) = if Inc 19 c then 0x3F80#16 else 0#16 :=
  chase (F := lit0t0_19) (by unfold lit0t1_0; rw [show (0 + 19 * 128 + c.val) / 128 % 128 = 19 by omega]; rfl) (by unfold lit0t0_19; rw [Nat.mod_mod]) (by omega)
    ((by decide +kernel : ∀ c : Fin 128, lit0t0_19 c.val = if Inc 19 c then 0x3F80#16 else 0#16) c)

theorem m0_20 (c : Fin 128) : lit0t1_0 (0 + 20 * 128 + c.val) = if Inc 20 c then 0x3F80#16 else 0#16 :=
  chase (F := lit0t0_20) (by unfold lit0t1_0; rw [show (0 + 20 * 128 + c.val) / 128 % 128 = 20 by omega]; rfl) (by unfold lit0t0_20; rw [Nat.mod_mod]) (by omega)
    ((by decide +kernel : ∀ c : Fin 128, lit0t0_20 c.val = if Inc 20 c then 0x3F80#16 else 0#16) c)

theorem m0_21 (c : Fin 128) : lit0t1_0 (0 + 21 * 128 + c.val) = if Inc 21 c then 0x3F80#16 else 0#16 :=
  chase (F := lit0t0_21) (by unfold lit0t1_0; rw [show (0 + 21 * 128 + c.val) / 128 % 128 = 21 by omega]; rfl) (by unfold lit0t0_21; rw [Nat.mod_mod]) (by omega)
    ((by decide +kernel : ∀ c : Fin 128, lit0t0_21 c.val = if Inc 21 c then 0x3F80#16 else 0#16) c)

theorem m0_22 (c : Fin 128) : lit0t1_0 (0 + 22 * 128 + c.val) = if Inc 22 c then 0x3F80#16 else 0#16 :=
  chase (F := lit0t0_22) (by unfold lit0t1_0; rw [show (0 + 22 * 128 + c.val) / 128 % 128 = 22 by omega]; rfl) (by unfold lit0t0_22; rw [Nat.mod_mod]) (by omega)
    ((by decide +kernel : ∀ c : Fin 128, lit0t0_22 c.val = if Inc 22 c then 0x3F80#16 else 0#16) c)

theorem m0_23 (c : Fin 128) : lit0t1_0 (0 + 23 * 128 + c.val) = if Inc 23 c then 0x3F80#16 else 0#16 :=
  chase (F := lit0t0_23) (by unfold lit0t1_0; rw [show (0 + 23 * 128 + c.val) / 128 % 128 = 23 by omega]; rfl) (by unfold lit0t0_23; rw [Nat.mod_mod]) (by omega)
    ((by decide +kernel : ∀ c : Fin 128, lit0t0_23 c.val = if Inc 23 c then 0x3F80#16 else 0#16) c)

theorem m0_24 (c : Fin 128) : lit0t1_0 (0 + 24 * 128 + c.val) = if Inc 24 c then 0x3F80#16 else 0#16 :=
  chase (F := lit0t0_24) (by unfold lit0t1_0; rw [show (0 + 24 * 128 + c.val) / 128 % 128 = 24 by omega]; rfl) (by unfold lit0t0_24; rw [Nat.mod_mod]) (by omega)
    ((by decide +kernel : ∀ c : Fin 128, lit0t0_24 c.val = if Inc 24 c then 0x3F80#16 else 0#16) c)

theorem m0_25 (c : Fin 128) : lit0t1_0 (0 + 25 * 128 + c.val) = if Inc 25 c then 0x3F80#16 else 0#16 :=
  chase (F := lit0t0_25) (by unfold lit0t1_0; rw [show (0 + 25 * 128 + c.val) / 128 % 128 = 25 by omega]; rfl) (by unfold lit0t0_25; rw [Nat.mod_mod]) (by omega)
    ((by decide +kernel : ∀ c : Fin 128, lit0t0_25 c.val = if Inc 25 c then 0x3F80#16 else 0#16) c)

theorem m0_26 (c : Fin 128) : lit0t1_0 (0 + 26 * 128 + c.val) = if Inc 26 c then 0x3F80#16 else 0#16 :=
  chase (F := lit0t0_26) (by unfold lit0t1_0; rw [show (0 + 26 * 128 + c.val) / 128 % 128 = 26 by omega]; rfl) (by unfold lit0t0_26; rw [Nat.mod_mod]) (by omega)
    ((by decide +kernel : ∀ c : Fin 128, lit0t0_26 c.val = if Inc 26 c then 0x3F80#16 else 0#16) c)

theorem m0_27 (c : Fin 128) : lit0t1_0 (0 + 27 * 128 + c.val) = if Inc 27 c then 0x3F80#16 else 0#16 :=
  chase (F := lit0t0_27) (by unfold lit0t1_0; rw [show (0 + 27 * 128 + c.val) / 128 % 128 = 27 by omega]; rfl) (by unfold lit0t0_27; rw [Nat.mod_mod]) (by omega)
    ((by decide +kernel : ∀ c : Fin 128, lit0t0_27 c.val = if Inc 27 c then 0x3F80#16 else 0#16) c)

theorem m0_28 (c : Fin 128) : lit0t1_0 (0 + 28 * 128 + c.val) = if Inc 28 c then 0x3F80#16 else 0#16 :=
  chase (F := lit0t0_28) (by unfold lit0t1_0; rw [show (0 + 28 * 128 + c.val) / 128 % 128 = 28 by omega]; rfl) (by unfold lit0t0_28; rw [Nat.mod_mod]) (by omega)
    ((by decide +kernel : ∀ c : Fin 128, lit0t0_28 c.val = if Inc 28 c then 0x3F80#16 else 0#16) c)

theorem m0_29 (c : Fin 128) : lit0t1_0 (0 + 29 * 128 + c.val) = if Inc 29 c then 0x3F80#16 else 0#16 :=
  chase (F := lit0t0_29) (by unfold lit0t1_0; rw [show (0 + 29 * 128 + c.val) / 128 % 128 = 29 by omega]; rfl) (by unfold lit0t0_29; rw [Nat.mod_mod]) (by omega)
    ((by decide +kernel : ∀ c : Fin 128, lit0t0_29 c.val = if Inc 29 c then 0x3F80#16 else 0#16) c)

theorem m0_30 (c : Fin 128) : lit0t1_0 (0 + 30 * 128 + c.val) = if Inc 30 c then 0x3F80#16 else 0#16 :=
  chase (F := lit0t0_30) (by unfold lit0t1_0; rw [show (0 + 30 * 128 + c.val) / 128 % 128 = 30 by omega]; rfl) (by unfold lit0t0_30; rw [Nat.mod_mod]) (by omega)
    ((by decide +kernel : ∀ c : Fin 128, lit0t0_30 c.val = if Inc 30 c then 0x3F80#16 else 0#16) c)

theorem m0_31 (c : Fin 128) : lit0t1_0 (0 + 31 * 128 + c.val) = if Inc 31 c then 0x3F80#16 else 0#16 :=
  chase (F := lit0t0_31) (by unfold lit0t1_0; rw [show (0 + 31 * 128 + c.val) / 128 % 128 = 31 by omega]; rfl) (by unfold lit0t0_31; rw [Nat.mod_mod]) (by omega)
    ((by decide +kernel : ∀ c : Fin 128, lit0t0_31 c.val = if Inc 31 c then 0x3F80#16 else 0#16) c)

theorem m0_32 (c : Fin 128) : lit0t1_0 (0 + 32 * 128 + c.val) = if Inc 32 c then 0x3F80#16 else 0#16 :=
  chase (F := lit0t0_32) (by unfold lit0t1_0; rw [show (0 + 32 * 128 + c.val) / 128 % 128 = 32 by omega]; rfl) (by unfold lit0t0_32; rw [Nat.mod_mod]) (by omega)
    ((by decide +kernel : ∀ c : Fin 128, lit0t0_32 c.val = if Inc 32 c then 0x3F80#16 else 0#16) c)

theorem m0_33 (c : Fin 128) : lit0t1_0 (0 + 33 * 128 + c.val) = if Inc 33 c then 0x3F80#16 else 0#16 :=
  chase (F := lit0t0_33) (by unfold lit0t1_0; rw [show (0 + 33 * 128 + c.val) / 128 % 128 = 33 by omega]; rfl) (by unfold lit0t0_33; rw [Nat.mod_mod]) (by omega)
    ((by decide +kernel : ∀ c : Fin 128, lit0t0_33 c.val = if Inc 33 c then 0x3F80#16 else 0#16) c)

theorem m0_34 (c : Fin 128) : lit0t1_0 (0 + 34 * 128 + c.val) = if Inc 34 c then 0x3F80#16 else 0#16 :=
  chase (F := lit0t0_34) (by unfold lit0t1_0; rw [show (0 + 34 * 128 + c.val) / 128 % 128 = 34 by omega]; rfl) (by unfold lit0t0_34; rw [Nat.mod_mod]) (by omega)
    ((by decide +kernel : ∀ c : Fin 128, lit0t0_34 c.val = if Inc 34 c then 0x3F80#16 else 0#16) c)

theorem m0_35 (c : Fin 128) : lit0t1_0 (0 + 35 * 128 + c.val) = if Inc 35 c then 0x3F80#16 else 0#16 :=
  chase (F := lit0t0_35) (by unfold lit0t1_0; rw [show (0 + 35 * 128 + c.val) / 128 % 128 = 35 by omega]; rfl) (by unfold lit0t0_35; rw [Nat.mod_mod]) (by omega)
    ((by decide +kernel : ∀ c : Fin 128, lit0t0_35 c.val = if Inc 35 c then 0x3F80#16 else 0#16) c)

theorem m0_36 (c : Fin 128) : lit0t1_0 (0 + 36 * 128 + c.val) = if Inc 36 c then 0x3F80#16 else 0#16 :=
  chase (F := lit0t0_36) (by unfold lit0t1_0; rw [show (0 + 36 * 128 + c.val) / 128 % 128 = 36 by omega]; rfl) (by unfold lit0t0_36; rw [Nat.mod_mod]) (by omega)
    ((by decide +kernel : ∀ c : Fin 128, lit0t0_36 c.val = if Inc 36 c then 0x3F80#16 else 0#16) c)

theorem m0_37 (c : Fin 128) : lit0t1_0 (0 + 37 * 128 + c.val) = if Inc 37 c then 0x3F80#16 else 0#16 :=
  chase (F := lit0t0_37) (by unfold lit0t1_0; rw [show (0 + 37 * 128 + c.val) / 128 % 128 = 37 by omega]; rfl) (by unfold lit0t0_37; rw [Nat.mod_mod]) (by omega)
    ((by decide +kernel : ∀ c : Fin 128, lit0t0_37 c.val = if Inc 37 c then 0x3F80#16 else 0#16) c)

theorem m0_38 (c : Fin 128) : lit0t1_0 (0 + 38 * 128 + c.val) = if Inc 38 c then 0x3F80#16 else 0#16 :=
  chase (F := lit0t0_38) (by unfold lit0t1_0; rw [show (0 + 38 * 128 + c.val) / 128 % 128 = 38 by omega]; rfl) (by unfold lit0t0_38; rw [Nat.mod_mod]) (by omega)
    ((by decide +kernel : ∀ c : Fin 128, lit0t0_38 c.val = if Inc 38 c then 0x3F80#16 else 0#16) c)

theorem m0_39 (c : Fin 128) : lit0t1_0 (0 + 39 * 128 + c.val) = if Inc 39 c then 0x3F80#16 else 0#16 :=
  chase (F := lit0t0_39) (by unfold lit0t1_0; rw [show (0 + 39 * 128 + c.val) / 128 % 128 = 39 by omega]; rfl) (by unfold lit0t0_39; rw [Nat.mod_mod]) (by omega)
    ((by decide +kernel : ∀ c : Fin 128, lit0t0_39 c.val = if Inc 39 c then 0x3F80#16 else 0#16) c)

theorem m0_40 (c : Fin 128) : lit0t1_0 (0 + 40 * 128 + c.val) = if Inc 40 c then 0x3F80#16 else 0#16 :=
  chase (F := lit0t0_40) (by unfold lit0t1_0; rw [show (0 + 40 * 128 + c.val) / 128 % 128 = 40 by omega]; rfl) (by unfold lit0t0_40; rw [Nat.mod_mod]) (by omega)
    ((by decide +kernel : ∀ c : Fin 128, lit0t0_40 c.val = if Inc 40 c then 0x3F80#16 else 0#16) c)

theorem m0_41 (c : Fin 128) : lit0t1_0 (0 + 41 * 128 + c.val) = if Inc 41 c then 0x3F80#16 else 0#16 :=
  chase (F := lit0t0_41) (by unfold lit0t1_0; rw [show (0 + 41 * 128 + c.val) / 128 % 128 = 41 by omega]; rfl) (by unfold lit0t0_41; rw [Nat.mod_mod]) (by omega)
    ((by decide +kernel : ∀ c : Fin 128, lit0t0_41 c.val = if Inc 41 c then 0x3F80#16 else 0#16) c)

theorem m0_42 (c : Fin 128) : lit0t1_0 (0 + 42 * 128 + c.val) = if Inc 42 c then 0x3F80#16 else 0#16 :=
  chase (F := lit0t0_42) (by unfold lit0t1_0; rw [show (0 + 42 * 128 + c.val) / 128 % 128 = 42 by omega]; rfl) (by unfold lit0t0_42; rw [Nat.mod_mod]) (by omega)
    ((by decide +kernel : ∀ c : Fin 128, lit0t0_42 c.val = if Inc 42 c then 0x3F80#16 else 0#16) c)

theorem m0_43 (c : Fin 128) : lit0t1_0 (0 + 43 * 128 + c.val) = if Inc 43 c then 0x3F80#16 else 0#16 :=
  chase (F := lit0t0_43) (by unfold lit0t1_0; rw [show (0 + 43 * 128 + c.val) / 128 % 128 = 43 by omega]; rfl) (by unfold lit0t0_43; rw [Nat.mod_mod]) (by omega)
    ((by decide +kernel : ∀ c : Fin 128, lit0t0_43 c.val = if Inc 43 c then 0x3F80#16 else 0#16) c)

theorem m0_44 (c : Fin 128) : lit0t1_0 (0 + 44 * 128 + c.val) = if Inc 44 c then 0x3F80#16 else 0#16 :=
  chase (F := lit0t0_44) (by unfold lit0t1_0; rw [show (0 + 44 * 128 + c.val) / 128 % 128 = 44 by omega]; rfl) (by unfold lit0t0_44; rw [Nat.mod_mod]) (by omega)
    ((by decide +kernel : ∀ c : Fin 128, lit0t0_44 c.val = if Inc 44 c then 0x3F80#16 else 0#16) c)

theorem m0_45 (c : Fin 128) : lit0t1_0 (0 + 45 * 128 + c.val) = if Inc 45 c then 0x3F80#16 else 0#16 :=
  chase (F := lit0t0_45) (by unfold lit0t1_0; rw [show (0 + 45 * 128 + c.val) / 128 % 128 = 45 by omega]; rfl) (by unfold lit0t0_45; rw [Nat.mod_mod]) (by omega)
    ((by decide +kernel : ∀ c : Fin 128, lit0t0_45 c.val = if Inc 45 c then 0x3F80#16 else 0#16) c)

theorem m0_46 (c : Fin 128) : lit0t1_0 (0 + 46 * 128 + c.val) = if Inc 46 c then 0x3F80#16 else 0#16 :=
  chase (F := lit0t0_46) (by unfold lit0t1_0; rw [show (0 + 46 * 128 + c.val) / 128 % 128 = 46 by omega]; rfl) (by unfold lit0t0_46; rw [Nat.mod_mod]) (by omega)
    ((by decide +kernel : ∀ c : Fin 128, lit0t0_46 c.val = if Inc 46 c then 0x3F80#16 else 0#16) c)

theorem m0_47 (c : Fin 128) : lit0t1_0 (0 + 47 * 128 + c.val) = if Inc 47 c then 0x3F80#16 else 0#16 :=
  chase (F := lit0t0_47) (by unfold lit0t1_0; rw [show (0 + 47 * 128 + c.val) / 128 % 128 = 47 by omega]; rfl) (by unfold lit0t0_47; rw [Nat.mod_mod]) (by omega)
    ((by decide +kernel : ∀ c : Fin 128, lit0t0_47 c.val = if Inc 47 c then 0x3F80#16 else 0#16) c)

theorem m0_48 (c : Fin 128) : lit0t1_0 (0 + 48 * 128 + c.val) = if Inc 48 c then 0x3F80#16 else 0#16 :=
  chase (F := lit0t0_48) (by unfold lit0t1_0; rw [show (0 + 48 * 128 + c.val) / 128 % 128 = 48 by omega]; rfl) (by unfold lit0t0_48; rw [Nat.mod_mod]) (by omega)
    ((by decide +kernel : ∀ c : Fin 128, lit0t0_48 c.val = if Inc 48 c then 0x3F80#16 else 0#16) c)

theorem m0_49 (c : Fin 128) : lit0t1_0 (0 + 49 * 128 + c.val) = if Inc 49 c then 0x3F80#16 else 0#16 :=
  chase (F := lit0t0_49) (by unfold lit0t1_0; rw [show (0 + 49 * 128 + c.val) / 128 % 128 = 49 by omega]; rfl) (by unfold lit0t0_49; rw [Nat.mod_mod]) (by omega)
    ((by decide +kernel : ∀ c : Fin 128, lit0t0_49 c.val = if Inc 49 c then 0x3F80#16 else 0#16) c)

theorem m0_50 (c : Fin 128) : lit0t1_0 (0 + 50 * 128 + c.val) = if Inc 50 c then 0x3F80#16 else 0#16 :=
  chase (F := lit0t0_50) (by unfold lit0t1_0; rw [show (0 + 50 * 128 + c.val) / 128 % 128 = 50 by omega]; rfl) (by unfold lit0t0_50; rw [Nat.mod_mod]) (by omega)
    ((by decide +kernel : ∀ c : Fin 128, lit0t0_50 c.val = if Inc 50 c then 0x3F80#16 else 0#16) c)

theorem m0_51 (c : Fin 128) : lit0t1_0 (0 + 51 * 128 + c.val) = if Inc 51 c then 0x3F80#16 else 0#16 :=
  chase (F := lit0t0_51) (by unfold lit0t1_0; rw [show (0 + 51 * 128 + c.val) / 128 % 128 = 51 by omega]; rfl) (by unfold lit0t0_51; rw [Nat.mod_mod]) (by omega)
    ((by decide +kernel : ∀ c : Fin 128, lit0t0_51 c.val = if Inc 51 c then 0x3F80#16 else 0#16) c)

theorem m0_52 (c : Fin 128) : lit0t1_0 (0 + 52 * 128 + c.val) = if Inc 52 c then 0x3F80#16 else 0#16 :=
  chase (F := lit0t0_52) (by unfold lit0t1_0; rw [show (0 + 52 * 128 + c.val) / 128 % 128 = 52 by omega]; rfl) (by unfold lit0t0_52; rw [Nat.mod_mod]) (by omega)
    ((by decide +kernel : ∀ c : Fin 128, lit0t0_52 c.val = if Inc 52 c then 0x3F80#16 else 0#16) c)

theorem m0_53 (c : Fin 128) : lit0t1_0 (0 + 53 * 128 + c.val) = if Inc 53 c then 0x3F80#16 else 0#16 :=
  chase (F := lit0t0_53) (by unfold lit0t1_0; rw [show (0 + 53 * 128 + c.val) / 128 % 128 = 53 by omega]; rfl) (by unfold lit0t0_53; rw [Nat.mod_mod]) (by omega)
    ((by decide +kernel : ∀ c : Fin 128, lit0t0_53 c.val = if Inc 53 c then 0x3F80#16 else 0#16) c)

theorem m0_54 (c : Fin 128) : lit0t1_0 (0 + 54 * 128 + c.val) = if Inc 54 c then 0x3F80#16 else 0#16 :=
  chase (F := lit0t0_54) (by unfold lit0t1_0; rw [show (0 + 54 * 128 + c.val) / 128 % 128 = 54 by omega]; rfl) (by unfold lit0t0_54; rw [Nat.mod_mod]) (by omega)
    ((by decide +kernel : ∀ c : Fin 128, lit0t0_54 c.val = if Inc 54 c then 0x3F80#16 else 0#16) c)

theorem m0_55 (c : Fin 128) : lit0t1_0 (0 + 55 * 128 + c.val) = if Inc 55 c then 0x3F80#16 else 0#16 :=
  chase (F := lit0t0_55) (by unfold lit0t1_0; rw [show (0 + 55 * 128 + c.val) / 128 % 128 = 55 by omega]; rfl) (by unfold lit0t0_55; rw [Nat.mod_mod]) (by omega)
    ((by decide +kernel : ∀ c : Fin 128, lit0t0_55 c.val = if Inc 55 c then 0x3F80#16 else 0#16) c)

theorem m0_56 (c : Fin 128) : lit0t1_0 (0 + 56 * 128 + c.val) = if Inc 56 c then 0x3F80#16 else 0#16 :=
  chase (F := lit0t0_56) (by unfold lit0t1_0; rw [show (0 + 56 * 128 + c.val) / 128 % 128 = 56 by omega]; rfl) (by unfold lit0t0_56; rw [Nat.mod_mod]) (by omega)
    ((by decide +kernel : ∀ c : Fin 128, lit0t0_56 c.val = if Inc 56 c then 0x3F80#16 else 0#16) c)

theorem m0_57 (c : Fin 128) : lit0t1_0 (0 + 57 * 128 + c.val) = if Inc 57 c then 0x3F80#16 else 0#16 :=
  chase (F := lit0t0_57) (by unfold lit0t1_0; rw [show (0 + 57 * 128 + c.val) / 128 % 128 = 57 by omega]; rfl) (by unfold lit0t0_57; rw [Nat.mod_mod]) (by omega)
    ((by decide +kernel : ∀ c : Fin 128, lit0t0_57 c.val = if Inc 57 c then 0x3F80#16 else 0#16) c)

theorem m0_58 (c : Fin 128) : lit0t1_0 (0 + 58 * 128 + c.val) = if Inc 58 c then 0x3F80#16 else 0#16 :=
  chase (F := lit0t0_58) (by unfold lit0t1_0; rw [show (0 + 58 * 128 + c.val) / 128 % 128 = 58 by omega]; rfl) (by unfold lit0t0_58; rw [Nat.mod_mod]) (by omega)
    ((by decide +kernel : ∀ c : Fin 128, lit0t0_58 c.val = if Inc 58 c then 0x3F80#16 else 0#16) c)

theorem m0_59 (c : Fin 128) : lit0t1_0 (0 + 59 * 128 + c.val) = if Inc 59 c then 0x3F80#16 else 0#16 :=
  chase (F := lit0t0_59) (by unfold lit0t1_0; rw [show (0 + 59 * 128 + c.val) / 128 % 128 = 59 by omega]; rfl) (by unfold lit0t0_59; rw [Nat.mod_mod]) (by omega)
    ((by decide +kernel : ∀ c : Fin 128, lit0t0_59 c.val = if Inc 59 c then 0x3F80#16 else 0#16) c)

theorem m0_60 (c : Fin 128) : lit0t1_0 (0 + 60 * 128 + c.val) = if Inc 60 c then 0x3F80#16 else 0#16 :=
  chase (F := lit0t0_60) (by unfold lit0t1_0; rw [show (0 + 60 * 128 + c.val) / 128 % 128 = 60 by omega]; rfl) (by unfold lit0t0_60; rw [Nat.mod_mod]) (by omega)
    ((by decide +kernel : ∀ c : Fin 128, lit0t0_60 c.val = if Inc 60 c then 0x3F80#16 else 0#16) c)

theorem m0_61 (c : Fin 128) : lit0t1_0 (0 + 61 * 128 + c.val) = if Inc 61 c then 0x3F80#16 else 0#16 :=
  chase (F := lit0t0_61) (by unfold lit0t1_0; rw [show (0 + 61 * 128 + c.val) / 128 % 128 = 61 by omega]; rfl) (by unfold lit0t0_61; rw [Nat.mod_mod]) (by omega)
    ((by decide +kernel : ∀ c : Fin 128, lit0t0_61 c.val = if Inc 61 c then 0x3F80#16 else 0#16) c)

theorem m0_62 (c : Fin 128) : lit0t1_0 (0 + 62 * 128 + c.val) = if Inc 62 c then 0x3F80#16 else 0#16 :=
  chase (F := lit0t0_62) (by unfold lit0t1_0; rw [show (0 + 62 * 128 + c.val) / 128 % 128 = 62 by omega]; rfl) (by unfold lit0t0_62; rw [Nat.mod_mod]) (by omega)
    ((by decide +kernel : ∀ c : Fin 128, lit0t0_62 c.val = if Inc 62 c then 0x3F80#16 else 0#16) c)

theorem m0_63 (c : Fin 128) : lit0t1_0 (0 + 63 * 128 + c.val) = if Inc 63 c then 0x3F80#16 else 0#16 :=
  chase (F := lit0t0_63) (by unfold lit0t1_0; rw [show (0 + 63 * 128 + c.val) / 128 % 128 = 63 by omega]; rfl) (by unfold lit0t0_63; rw [Nat.mod_mod]) (by omega)
    ((by decide +kernel : ∀ c : Fin 128, lit0t0_63 c.val = if Inc 63 c then 0x3F80#16 else 0#16) c)

theorem m0_64 (c : Fin 128) : lit0t1_0 (0 + 64 * 128 + c.val) = if Inc 64 c then 0x3F80#16 else 0#16 :=
  chase (F := lit0t0_64) (by unfold lit0t1_0; rw [show (0 + 64 * 128 + c.val) / 128 % 128 = 64 by omega]; rfl) (by unfold lit0t0_64; rw [Nat.mod_mod]) (by omega)
    ((by decide +kernel : ∀ c : Fin 128, lit0t0_64 c.val = if Inc 64 c then 0x3F80#16 else 0#16) c)

theorem m0_65 (c : Fin 128) : lit0t1_0 (0 + 65 * 128 + c.val) = if Inc 65 c then 0x3F80#16 else 0#16 :=
  chase (F := lit0t0_65) (by unfold lit0t1_0; rw [show (0 + 65 * 128 + c.val) / 128 % 128 = 65 by omega]; rfl) (by unfold lit0t0_65; rw [Nat.mod_mod]) (by omega)
    ((by decide +kernel : ∀ c : Fin 128, lit0t0_65 c.val = if Inc 65 c then 0x3F80#16 else 0#16) c)

theorem m0_66 (c : Fin 128) : lit0t1_0 (0 + 66 * 128 + c.val) = if Inc 66 c then 0x3F80#16 else 0#16 :=
  chase (F := lit0t0_66) (by unfold lit0t1_0; rw [show (0 + 66 * 128 + c.val) / 128 % 128 = 66 by omega]; rfl) (by unfold lit0t0_66; rw [Nat.mod_mod]) (by omega)
    ((by decide +kernel : ∀ c : Fin 128, lit0t0_66 c.val = if Inc 66 c then 0x3F80#16 else 0#16) c)

theorem m0_67 (c : Fin 128) : lit0t1_0 (0 + 67 * 128 + c.val) = if Inc 67 c then 0x3F80#16 else 0#16 :=
  chase (F := lit0t0_67) (by unfold lit0t1_0; rw [show (0 + 67 * 128 + c.val) / 128 % 128 = 67 by omega]; rfl) (by unfold lit0t0_67; rw [Nat.mod_mod]) (by omega)
    ((by decide +kernel : ∀ c : Fin 128, lit0t0_67 c.val = if Inc 67 c then 0x3F80#16 else 0#16) c)

theorem m0_68 (c : Fin 128) : lit0t1_0 (0 + 68 * 128 + c.val) = if Inc 68 c then 0x3F80#16 else 0#16 :=
  chase (F := lit0t0_68) (by unfold lit0t1_0; rw [show (0 + 68 * 128 + c.val) / 128 % 128 = 68 by omega]; rfl) (by unfold lit0t0_68; rw [Nat.mod_mod]) (by omega)
    ((by decide +kernel : ∀ c : Fin 128, lit0t0_68 c.val = if Inc 68 c then 0x3F80#16 else 0#16) c)

theorem m0_69 (c : Fin 128) : lit0t1_0 (0 + 69 * 128 + c.val) = if Inc 69 c then 0x3F80#16 else 0#16 :=
  chase (F := lit0t0_69) (by unfold lit0t1_0; rw [show (0 + 69 * 128 + c.val) / 128 % 128 = 69 by omega]; rfl) (by unfold lit0t0_69; rw [Nat.mod_mod]) (by omega)
    ((by decide +kernel : ∀ c : Fin 128, lit0t0_69 c.val = if Inc 69 c then 0x3F80#16 else 0#16) c)

theorem m0_70 (c : Fin 128) : lit0t1_0 (0 + 70 * 128 + c.val) = if Inc 70 c then 0x3F80#16 else 0#16 :=
  chase (F := lit0t0_70) (by unfold lit0t1_0; rw [show (0 + 70 * 128 + c.val) / 128 % 128 = 70 by omega]; rfl) (by unfold lit0t0_70; rw [Nat.mod_mod]) (by omega)
    ((by decide +kernel : ∀ c : Fin 128, lit0t0_70 c.val = if Inc 70 c then 0x3F80#16 else 0#16) c)

theorem m0_71 (c : Fin 128) : lit0t1_0 (0 + 71 * 128 + c.val) = if Inc 71 c then 0x3F80#16 else 0#16 :=
  chase (F := lit0t0_71) (by unfold lit0t1_0; rw [show (0 + 71 * 128 + c.val) / 128 % 128 = 71 by omega]; rfl) (by unfold lit0t0_71; rw [Nat.mod_mod]) (by omega)
    ((by decide +kernel : ∀ c : Fin 128, lit0t0_71 c.val = if Inc 71 c then 0x3F80#16 else 0#16) c)

theorem m0_72 (c : Fin 128) : lit0t1_0 (0 + 72 * 128 + c.val) = if Inc 72 c then 0x3F80#16 else 0#16 :=
  chase (F := lit0t0_72) (by unfold lit0t1_0; rw [show (0 + 72 * 128 + c.val) / 128 % 128 = 72 by omega]; rfl) (by unfold lit0t0_72; rw [Nat.mod_mod]) (by omega)
    ((by decide +kernel : ∀ c : Fin 128, lit0t0_72 c.val = if Inc 72 c then 0x3F80#16 else 0#16) c)

theorem m0_73 (c : Fin 128) : lit0t1_0 (0 + 73 * 128 + c.val) = if Inc 73 c then 0x3F80#16 else 0#16 :=
  chase (F := lit0t0_73) (by unfold lit0t1_0; rw [show (0 + 73 * 128 + c.val) / 128 % 128 = 73 by omega]; rfl) (by unfold lit0t0_73; rw [Nat.mod_mod]) (by omega)
    ((by decide +kernel : ∀ c : Fin 128, lit0t0_73 c.val = if Inc 73 c then 0x3F80#16 else 0#16) c)

theorem m0_74 (c : Fin 128) : lit0t1_0 (0 + 74 * 128 + c.val) = if Inc 74 c then 0x3F80#16 else 0#16 :=
  chase (F := lit0t0_74) (by unfold lit0t1_0; rw [show (0 + 74 * 128 + c.val) / 128 % 128 = 74 by omega]; rfl) (by unfold lit0t0_74; rw [Nat.mod_mod]) (by omega)
    ((by decide +kernel : ∀ c : Fin 128, lit0t0_74 c.val = if Inc 74 c then 0x3F80#16 else 0#16) c)

theorem m0_75 (c : Fin 128) : lit0t1_0 (0 + 75 * 128 + c.val) = if Inc 75 c then 0x3F80#16 else 0#16 :=
  chase (F := lit0t0_75) (by unfold lit0t1_0; rw [show (0 + 75 * 128 + c.val) / 128 % 128 = 75 by omega]; rfl) (by unfold lit0t0_75; rw [Nat.mod_mod]) (by omega)
    ((by decide +kernel : ∀ c : Fin 128, lit0t0_75 c.val = if Inc 75 c then 0x3F80#16 else 0#16) c)

theorem m0_76 (c : Fin 128) : lit0t1_0 (0 + 76 * 128 + c.val) = if Inc 76 c then 0x3F80#16 else 0#16 :=
  chase (F := lit0t0_76) (by unfold lit0t1_0; rw [show (0 + 76 * 128 + c.val) / 128 % 128 = 76 by omega]; rfl) (by unfold lit0t0_76; rw [Nat.mod_mod]) (by omega)
    ((by decide +kernel : ∀ c : Fin 128, lit0t0_76 c.val = if Inc 76 c then 0x3F80#16 else 0#16) c)

theorem m0_77 (c : Fin 128) : lit0t1_0 (0 + 77 * 128 + c.val) = if Inc 77 c then 0x3F80#16 else 0#16 :=
  chase (F := lit0t0_77) (by unfold lit0t1_0; rw [show (0 + 77 * 128 + c.val) / 128 % 128 = 77 by omega]; rfl) (by unfold lit0t0_77; rw [Nat.mod_mod]) (by omega)
    ((by decide +kernel : ∀ c : Fin 128, lit0t0_77 c.val = if Inc 77 c then 0x3F80#16 else 0#16) c)

theorem m0_78 (c : Fin 128) : lit0t1_0 (0 + 78 * 128 + c.val) = if Inc 78 c then 0x3F80#16 else 0#16 :=
  chase (F := lit0t0_78) (by unfold lit0t1_0; rw [show (0 + 78 * 128 + c.val) / 128 % 128 = 78 by omega]; rfl) (by unfold lit0t0_78; rw [Nat.mod_mod]) (by omega)
    ((by decide +kernel : ∀ c : Fin 128, lit0t0_78 c.val = if Inc 78 c then 0x3F80#16 else 0#16) c)

theorem m0_79 (c : Fin 128) : lit0t1_0 (0 + 79 * 128 + c.val) = if Inc 79 c then 0x3F80#16 else 0#16 :=
  chase (F := lit0t0_79) (by unfold lit0t1_0; rw [show (0 + 79 * 128 + c.val) / 128 % 128 = 79 by omega]; rfl) (by unfold lit0t0_79; rw [Nat.mod_mod]) (by omega)
    ((by decide +kernel : ∀ c : Fin 128, lit0t0_79 c.val = if Inc 79 c then 0x3F80#16 else 0#16) c)

theorem m0_80 (c : Fin 128) : lit0t1_0 (0 + 80 * 128 + c.val) = if Inc 80 c then 0x3F80#16 else 0#16 :=
  chase (F := lit0t0_80) (by unfold lit0t1_0; rw [show (0 + 80 * 128 + c.val) / 128 % 128 = 80 by omega]; rfl) (by unfold lit0t0_80; rw [Nat.mod_mod]) (by omega)
    ((by decide +kernel : ∀ c : Fin 128, lit0t0_80 c.val = if Inc 80 c then 0x3F80#16 else 0#16) c)

theorem m0_81 (c : Fin 128) : lit0t1_0 (0 + 81 * 128 + c.val) = if Inc 81 c then 0x3F80#16 else 0#16 :=
  chase (F := lit0t0_81) (by unfold lit0t1_0; rw [show (0 + 81 * 128 + c.val) / 128 % 128 = 81 by omega]; rfl) (by unfold lit0t0_81; rw [Nat.mod_mod]) (by omega)
    ((by decide +kernel : ∀ c : Fin 128, lit0t0_81 c.val = if Inc 81 c then 0x3F80#16 else 0#16) c)

theorem m0_82 (c : Fin 128) : lit0t1_0 (0 + 82 * 128 + c.val) = if Inc 82 c then 0x3F80#16 else 0#16 :=
  chase (F := lit0t0_82) (by unfold lit0t1_0; rw [show (0 + 82 * 128 + c.val) / 128 % 128 = 82 by omega]; rfl) (by unfold lit0t0_82; rw [Nat.mod_mod]) (by omega)
    ((by decide +kernel : ∀ c : Fin 128, lit0t0_82 c.val = if Inc 82 c then 0x3F80#16 else 0#16) c)

theorem m0_83 (c : Fin 128) : lit0t1_0 (0 + 83 * 128 + c.val) = if Inc 83 c then 0x3F80#16 else 0#16 :=
  chase (F := lit0t0_83) (by unfold lit0t1_0; rw [show (0 + 83 * 128 + c.val) / 128 % 128 = 83 by omega]; rfl) (by unfold lit0t0_83; rw [Nat.mod_mod]) (by omega)
    ((by decide +kernel : ∀ c : Fin 128, lit0t0_83 c.val = if Inc 83 c then 0x3F80#16 else 0#16) c)

theorem m0_84 (c : Fin 128) : lit0t1_0 (0 + 84 * 128 + c.val) = if Inc 84 c then 0x3F80#16 else 0#16 :=
  chase (F := lit0t0_84) (by unfold lit0t1_0; rw [show (0 + 84 * 128 + c.val) / 128 % 128 = 84 by omega]; rfl) (by unfold lit0t0_84; rw [Nat.mod_mod]) (by omega)
    ((by decide +kernel : ∀ c : Fin 128, lit0t0_84 c.val = if Inc 84 c then 0x3F80#16 else 0#16) c)

theorem m0_85 (c : Fin 128) : lit0t1_0 (0 + 85 * 128 + c.val) = if Inc 85 c then 0x3F80#16 else 0#16 :=
  chase (F := lit0t0_85) (by unfold lit0t1_0; rw [show (0 + 85 * 128 + c.val) / 128 % 128 = 85 by omega]; rfl) (by unfold lit0t0_85; rw [Nat.mod_mod]) (by omega)
    ((by decide +kernel : ∀ c : Fin 128, lit0t0_85 c.val = if Inc 85 c then 0x3F80#16 else 0#16) c)

theorem m0_86 (c : Fin 128) : lit0t1_0 (0 + 86 * 128 + c.val) = if Inc 86 c then 0x3F80#16 else 0#16 :=
  chase (F := lit0t0_86) (by unfold lit0t1_0; rw [show (0 + 86 * 128 + c.val) / 128 % 128 = 86 by omega]; rfl) (by unfold lit0t0_86; rw [Nat.mod_mod]) (by omega)
    ((by decide +kernel : ∀ c : Fin 128, lit0t0_86 c.val = if Inc 86 c then 0x3F80#16 else 0#16) c)

theorem m0_87 (c : Fin 128) : lit0t1_0 (0 + 87 * 128 + c.val) = if Inc 87 c then 0x3F80#16 else 0#16 :=
  chase (F := lit0t0_87) (by unfold lit0t1_0; rw [show (0 + 87 * 128 + c.val) / 128 % 128 = 87 by omega]; rfl) (by unfold lit0t0_87; rw [Nat.mod_mod]) (by omega)
    ((by decide +kernel : ∀ c : Fin 128, lit0t0_87 c.val = if Inc 87 c then 0x3F80#16 else 0#16) c)

theorem m0_88 (c : Fin 128) : lit0t1_0 (0 + 88 * 128 + c.val) = if Inc 88 c then 0x3F80#16 else 0#16 :=
  chase (F := lit0t0_88) (by unfold lit0t1_0; rw [show (0 + 88 * 128 + c.val) / 128 % 128 = 88 by omega]; rfl) (by unfold lit0t0_88; rw [Nat.mod_mod]) (by omega)
    ((by decide +kernel : ∀ c : Fin 128, lit0t0_88 c.val = if Inc 88 c then 0x3F80#16 else 0#16) c)

theorem m0_89 (c : Fin 128) : lit0t1_0 (0 + 89 * 128 + c.val) = if Inc 89 c then 0x3F80#16 else 0#16 :=
  chase (F := lit0t0_89) (by unfold lit0t1_0; rw [show (0 + 89 * 128 + c.val) / 128 % 128 = 89 by omega]; rfl) (by unfold lit0t0_89; rw [Nat.mod_mod]) (by omega)
    ((by decide +kernel : ∀ c : Fin 128, lit0t0_89 c.val = if Inc 89 c then 0x3F80#16 else 0#16) c)

theorem m0_90 (c : Fin 128) : lit0t1_0 (0 + 90 * 128 + c.val) = if Inc 90 c then 0x3F80#16 else 0#16 :=
  chase (F := lit0t0_90) (by unfold lit0t1_0; rw [show (0 + 90 * 128 + c.val) / 128 % 128 = 90 by omega]; rfl) (by unfold lit0t0_90; rw [Nat.mod_mod]) (by omega)
    ((by decide +kernel : ∀ c : Fin 128, lit0t0_90 c.val = if Inc 90 c then 0x3F80#16 else 0#16) c)

theorem m0_91 (c : Fin 128) : lit0t1_0 (0 + 91 * 128 + c.val) = if Inc 91 c then 0x3F80#16 else 0#16 :=
  chase (F := lit0t0_91) (by unfold lit0t1_0; rw [show (0 + 91 * 128 + c.val) / 128 % 128 = 91 by omega]; rfl) (by unfold lit0t0_91; rw [Nat.mod_mod]) (by omega)
    ((by decide +kernel : ∀ c : Fin 128, lit0t0_91 c.val = if Inc 91 c then 0x3F80#16 else 0#16) c)

theorem m0_92 (c : Fin 128) : lit0t1_0 (0 + 92 * 128 + c.val) = if Inc 92 c then 0x3F80#16 else 0#16 :=
  chase (F := lit0t0_92) (by unfold lit0t1_0; rw [show (0 + 92 * 128 + c.val) / 128 % 128 = 92 by omega]; rfl) (by unfold lit0t0_92; rw [Nat.mod_mod]) (by omega)
    ((by decide +kernel : ∀ c : Fin 128, lit0t0_92 c.val = if Inc 92 c then 0x3F80#16 else 0#16) c)

theorem m0_93 (c : Fin 128) : lit0t1_0 (0 + 93 * 128 + c.val) = if Inc 93 c then 0x3F80#16 else 0#16 :=
  chase (F := lit0t0_93) (by unfold lit0t1_0; rw [show (0 + 93 * 128 + c.val) / 128 % 128 = 93 by omega]; rfl) (by unfold lit0t0_93; rw [Nat.mod_mod]) (by omega)
    ((by decide +kernel : ∀ c : Fin 128, lit0t0_93 c.val = if Inc 93 c then 0x3F80#16 else 0#16) c)

theorem m0_94 (c : Fin 128) : lit0t1_0 (0 + 94 * 128 + c.val) = if Inc 94 c then 0x3F80#16 else 0#16 :=
  chase (F := lit0t0_94) (by unfold lit0t1_0; rw [show (0 + 94 * 128 + c.val) / 128 % 128 = 94 by omega]; rfl) (by unfold lit0t0_94; rw [Nat.mod_mod]) (by omega)
    ((by decide +kernel : ∀ c : Fin 128, lit0t0_94 c.val = if Inc 94 c then 0x3F80#16 else 0#16) c)

theorem m0_95 (c : Fin 128) : lit0t1_0 (0 + 95 * 128 + c.val) = if Inc 95 c then 0x3F80#16 else 0#16 :=
  chase (F := lit0t0_95) (by unfold lit0t1_0; rw [show (0 + 95 * 128 + c.val) / 128 % 128 = 95 by omega]; rfl) (by unfold lit0t0_95; rw [Nat.mod_mod]) (by omega)
    ((by decide +kernel : ∀ c : Fin 128, lit0t0_95 c.val = if Inc 95 c then 0x3F80#16 else 0#16) c)

theorem m0_96 (c : Fin 128) : lit0t1_0 (0 + 96 * 128 + c.val) = if Inc 96 c then 0x3F80#16 else 0#16 :=
  chase (F := lit0t0_96) (by unfold lit0t1_0; rw [show (0 + 96 * 128 + c.val) / 128 % 128 = 96 by omega]; rfl) (by unfold lit0t0_96; rw [Nat.mod_mod]) (by omega)
    ((by decide +kernel : ∀ c : Fin 128, lit0t0_96 c.val = if Inc 96 c then 0x3F80#16 else 0#16) c)

theorem m0_97 (c : Fin 128) : lit0t1_0 (0 + 97 * 128 + c.val) = if Inc 97 c then 0x3F80#16 else 0#16 :=
  chase (F := lit0t0_97) (by unfold lit0t1_0; rw [show (0 + 97 * 128 + c.val) / 128 % 128 = 97 by omega]; rfl) (by unfold lit0t0_97; rw [Nat.mod_mod]) (by omega)
    ((by decide +kernel : ∀ c : Fin 128, lit0t0_97 c.val = if Inc 97 c then 0x3F80#16 else 0#16) c)

theorem m0_98 (c : Fin 128) : lit0t1_0 (0 + 98 * 128 + c.val) = if Inc 98 c then 0x3F80#16 else 0#16 :=
  chase (F := lit0t0_98) (by unfold lit0t1_0; rw [show (0 + 98 * 128 + c.val) / 128 % 128 = 98 by omega]; rfl) (by unfold lit0t0_98; rw [Nat.mod_mod]) (by omega)
    ((by decide +kernel : ∀ c : Fin 128, lit0t0_98 c.val = if Inc 98 c then 0x3F80#16 else 0#16) c)

theorem m0_99 (c : Fin 128) : lit0t1_0 (0 + 99 * 128 + c.val) = if Inc 99 c then 0x3F80#16 else 0#16 :=
  chase (F := lit0t0_99) (by unfold lit0t1_0; rw [show (0 + 99 * 128 + c.val) / 128 % 128 = 99 by omega]; rfl) (by unfold lit0t0_99; rw [Nat.mod_mod]) (by omega)
    ((by decide +kernel : ∀ c : Fin 128, lit0t0_99 c.val = if Inc 99 c then 0x3F80#16 else 0#16) c)

theorem m0_100 (c : Fin 128) : lit0t1_0 (0 + 100 * 128 + c.val) = if Inc 100 c then 0x3F80#16 else 0#16 :=
  chase (F := lit0t0_100) (by unfold lit0t1_0; rw [show (0 + 100 * 128 + c.val) / 128 % 128 = 100 by omega]; rfl) (by unfold lit0t0_100; rw [Nat.mod_mod]) (by omega)
    ((by decide +kernel : ∀ c : Fin 128, lit0t0_100 c.val = if Inc 100 c then 0x3F80#16 else 0#16) c)

theorem m0_101 (c : Fin 128) : lit0t1_0 (0 + 101 * 128 + c.val) = if Inc 101 c then 0x3F80#16 else 0#16 :=
  chase (F := lit0t0_101) (by unfold lit0t1_0; rw [show (0 + 101 * 128 + c.val) / 128 % 128 = 101 by omega]; rfl) (by unfold lit0t0_101; rw [Nat.mod_mod]) (by omega)
    ((by decide +kernel : ∀ c : Fin 128, lit0t0_101 c.val = if Inc 101 c then 0x3F80#16 else 0#16) c)

theorem m0_102 (c : Fin 128) : lit0t1_0 (0 + 102 * 128 + c.val) = if Inc 102 c then 0x3F80#16 else 0#16 :=
  chase (F := lit0t0_102) (by unfold lit0t1_0; rw [show (0 + 102 * 128 + c.val) / 128 % 128 = 102 by omega]; rfl) (by unfold lit0t0_102; rw [Nat.mod_mod]) (by omega)
    ((by decide +kernel : ∀ c : Fin 128, lit0t0_102 c.val = if Inc 102 c then 0x3F80#16 else 0#16) c)

theorem m0_103 (c : Fin 128) : lit0t1_0 (0 + 103 * 128 + c.val) = if Inc 103 c then 0x3F80#16 else 0#16 :=
  chase (F := lit0t0_103) (by unfold lit0t1_0; rw [show (0 + 103 * 128 + c.val) / 128 % 128 = 103 by omega]; rfl) (by unfold lit0t0_103; rw [Nat.mod_mod]) (by omega)
    ((by decide +kernel : ∀ c : Fin 128, lit0t0_103 c.val = if Inc 103 c then 0x3F80#16 else 0#16) c)

theorem m0_104 (c : Fin 128) : lit0t1_0 (0 + 104 * 128 + c.val) = if Inc 104 c then 0x3F80#16 else 0#16 :=
  chase (F := lit0t0_104) (by unfold lit0t1_0; rw [show (0 + 104 * 128 + c.val) / 128 % 128 = 104 by omega]; rfl) (by unfold lit0t0_104; rw [Nat.mod_mod]) (by omega)
    ((by decide +kernel : ∀ c : Fin 128, lit0t0_104 c.val = if Inc 104 c then 0x3F80#16 else 0#16) c)

theorem m0_105 (c : Fin 128) : lit0t1_0 (0 + 105 * 128 + c.val) = if Inc 105 c then 0x3F80#16 else 0#16 :=
  chase (F := lit0t0_105) (by unfold lit0t1_0; rw [show (0 + 105 * 128 + c.val) / 128 % 128 = 105 by omega]; rfl) (by unfold lit0t0_105; rw [Nat.mod_mod]) (by omega)
    ((by decide +kernel : ∀ c : Fin 128, lit0t0_105 c.val = if Inc 105 c then 0x3F80#16 else 0#16) c)

theorem m0_106 (c : Fin 128) : lit0t1_0 (0 + 106 * 128 + c.val) = if Inc 106 c then 0x3F80#16 else 0#16 :=
  chase (F := lit0t0_106) (by unfold lit0t1_0; rw [show (0 + 106 * 128 + c.val) / 128 % 128 = 106 by omega]; rfl) (by unfold lit0t0_106; rw [Nat.mod_mod]) (by omega)
    ((by decide +kernel : ∀ c : Fin 128, lit0t0_106 c.val = if Inc 106 c then 0x3F80#16 else 0#16) c)

theorem m0_107 (c : Fin 128) : lit0t1_0 (0 + 107 * 128 + c.val) = if Inc 107 c then 0x3F80#16 else 0#16 :=
  chase (F := lit0t0_107) (by unfold lit0t1_0; rw [show (0 + 107 * 128 + c.val) / 128 % 128 = 107 by omega]; rfl) (by unfold lit0t0_107; rw [Nat.mod_mod]) (by omega)
    ((by decide +kernel : ∀ c : Fin 128, lit0t0_107 c.val = if Inc 107 c then 0x3F80#16 else 0#16) c)

theorem m0_108 (c : Fin 128) : lit0t1_0 (0 + 108 * 128 + c.val) = if Inc 108 c then 0x3F80#16 else 0#16 :=
  chase (F := lit0t0_108) (by unfold lit0t1_0; rw [show (0 + 108 * 128 + c.val) / 128 % 128 = 108 by omega]; rfl) (by unfold lit0t0_108; rw [Nat.mod_mod]) (by omega)
    ((by decide +kernel : ∀ c : Fin 128, lit0t0_108 c.val = if Inc 108 c then 0x3F80#16 else 0#16) c)

theorem m0_109 (c : Fin 128) : lit0t1_0 (0 + 109 * 128 + c.val) = if Inc 109 c then 0x3F80#16 else 0#16 :=
  chase (F := lit0t0_109) (by unfold lit0t1_0; rw [show (0 + 109 * 128 + c.val) / 128 % 128 = 109 by omega]; rfl) (by unfold lit0t0_109; rw [Nat.mod_mod]) (by omega)
    ((by decide +kernel : ∀ c : Fin 128, lit0t0_109 c.val = if Inc 109 c then 0x3F80#16 else 0#16) c)

theorem m0_110 (c : Fin 128) : lit0t1_0 (0 + 110 * 128 + c.val) = if Inc 110 c then 0x3F80#16 else 0#16 :=
  chase (F := lit0t0_110) (by unfold lit0t1_0; rw [show (0 + 110 * 128 + c.val) / 128 % 128 = 110 by omega]; rfl) (by unfold lit0t0_110; rw [Nat.mod_mod]) (by omega)
    ((by decide +kernel : ∀ c : Fin 128, lit0t0_110 c.val = if Inc 110 c then 0x3F80#16 else 0#16) c)

theorem m0_111 (c : Fin 128) : lit0t1_0 (0 + 111 * 128 + c.val) = if Inc 111 c then 0x3F80#16 else 0#16 :=
  chase (F := lit0t0_111) (by unfold lit0t1_0; rw [show (0 + 111 * 128 + c.val) / 128 % 128 = 111 by omega]; rfl) (by unfold lit0t0_111; rw [Nat.mod_mod]) (by omega)
    ((by decide +kernel : ∀ c : Fin 128, lit0t0_111 c.val = if Inc 111 c then 0x3F80#16 else 0#16) c)

theorem m0_112 (c : Fin 128) : lit0t1_0 (0 + 112 * 128 + c.val) = if Inc 112 c then 0x3F80#16 else 0#16 :=
  chase (F := lit0t0_112) (by unfold lit0t1_0; rw [show (0 + 112 * 128 + c.val) / 128 % 128 = 112 by omega]; rfl) (by unfold lit0t0_112; rw [Nat.mod_mod]) (by omega)
    ((by decide +kernel : ∀ c : Fin 128, lit0t0_112 c.val = if Inc 112 c then 0x3F80#16 else 0#16) c)

theorem m0_113 (c : Fin 128) : lit0t1_0 (0 + 113 * 128 + c.val) = if Inc 113 c then 0x3F80#16 else 0#16 :=
  chase (F := lit0t0_113) (by unfold lit0t1_0; rw [show (0 + 113 * 128 + c.val) / 128 % 128 = 113 by omega]; rfl) (by unfold lit0t0_113; rw [Nat.mod_mod]) (by omega)
    ((by decide +kernel : ∀ c : Fin 128, lit0t0_113 c.val = if Inc 113 c then 0x3F80#16 else 0#16) c)

theorem m0_114 (c : Fin 128) : lit0t1_0 (0 + 114 * 128 + c.val) = if Inc 114 c then 0x3F80#16 else 0#16 :=
  chase (F := lit0t0_114) (by unfold lit0t1_0; rw [show (0 + 114 * 128 + c.val) / 128 % 128 = 114 by omega]; rfl) (by unfold lit0t0_114; rw [Nat.mod_mod]) (by omega)
    ((by decide +kernel : ∀ c : Fin 128, lit0t0_114 c.val = if Inc 114 c then 0x3F80#16 else 0#16) c)

theorem m0_115 (c : Fin 128) : lit0t1_0 (0 + 115 * 128 + c.val) = if Inc 115 c then 0x3F80#16 else 0#16 :=
  chase (F := lit0t0_115) (by unfold lit0t1_0; rw [show (0 + 115 * 128 + c.val) / 128 % 128 = 115 by omega]; rfl) (by unfold lit0t0_115; rw [Nat.mod_mod]) (by omega)
    ((by decide +kernel : ∀ c : Fin 128, lit0t0_115 c.val = if Inc 115 c then 0x3F80#16 else 0#16) c)

theorem m0_116 (c : Fin 128) : lit0t1_0 (0 + 116 * 128 + c.val) = if Inc 116 c then 0x3F80#16 else 0#16 :=
  chase (F := lit0t0_116) (by unfold lit0t1_0; rw [show (0 + 116 * 128 + c.val) / 128 % 128 = 116 by omega]; rfl) (by unfold lit0t0_116; rw [Nat.mod_mod]) (by omega)
    ((by decide +kernel : ∀ c : Fin 128, lit0t0_116 c.val = if Inc 116 c then 0x3F80#16 else 0#16) c)

theorem m0_117 (c : Fin 128) : lit0t1_0 (0 + 117 * 128 + c.val) = if Inc 117 c then 0x3F80#16 else 0#16 :=
  chase (F := lit0t0_117) (by unfold lit0t1_0; rw [show (0 + 117 * 128 + c.val) / 128 % 128 = 117 by omega]; rfl) (by unfold lit0t0_117; rw [Nat.mod_mod]) (by omega)
    ((by decide +kernel : ∀ c : Fin 128, lit0t0_117 c.val = if Inc 117 c then 0x3F80#16 else 0#16) c)

theorem m0_118 (c : Fin 128) : lit0t1_0 (0 + 118 * 128 + c.val) = if Inc 118 c then 0x3F80#16 else 0#16 :=
  chase (F := lit0t0_118) (by unfold lit0t1_0; rw [show (0 + 118 * 128 + c.val) / 128 % 128 = 118 by omega]; rfl) (by unfold lit0t0_118; rw [Nat.mod_mod]) (by omega)
    ((by decide +kernel : ∀ c : Fin 128, lit0t0_118 c.val = if Inc 118 c then 0x3F80#16 else 0#16) c)

theorem m0_119 (c : Fin 128) : lit0t1_0 (0 + 119 * 128 + c.val) = if Inc 119 c then 0x3F80#16 else 0#16 :=
  chase (F := lit0t0_119) (by unfold lit0t1_0; rw [show (0 + 119 * 128 + c.val) / 128 % 128 = 119 by omega]; rfl) (by unfold lit0t0_119; rw [Nat.mod_mod]) (by omega)
    ((by decide +kernel : ∀ c : Fin 128, lit0t0_119 c.val = if Inc 119 c then 0x3F80#16 else 0#16) c)

theorem m0_120 (c : Fin 128) : lit0t1_0 (0 + 120 * 128 + c.val) = if Inc 120 c then 0x3F80#16 else 0#16 :=
  chase (F := lit0t0_120) (by unfold lit0t1_0; rw [show (0 + 120 * 128 + c.val) / 128 % 128 = 120 by omega]; rfl) (by unfold lit0t0_120; rw [Nat.mod_mod]) (by omega)
    ((by decide +kernel : ∀ c : Fin 128, lit0t0_120 c.val = if Inc 120 c then 0x3F80#16 else 0#16) c)

theorem m0_121 (c : Fin 128) : lit0t1_0 (0 + 121 * 128 + c.val) = if Inc 121 c then 0x3F80#16 else 0#16 :=
  chase (F := lit0t0_121) (by unfold lit0t1_0; rw [show (0 + 121 * 128 + c.val) / 128 % 128 = 121 by omega]; rfl) (by unfold lit0t0_121; rw [Nat.mod_mod]) (by omega)
    ((by decide +kernel : ∀ c : Fin 128, lit0t0_121 c.val = if Inc 121 c then 0x3F80#16 else 0#16) c)

theorem m0_122 (c : Fin 128) : lit0t1_0 (0 + 122 * 128 + c.val) = if Inc 122 c then 0x3F80#16 else 0#16 :=
  chase (F := lit0t0_122) (by unfold lit0t1_0; rw [show (0 + 122 * 128 + c.val) / 128 % 128 = 122 by omega]; rfl) (by unfold lit0t0_122; rw [Nat.mod_mod]) (by omega)
    ((by decide +kernel : ∀ c : Fin 128, lit0t0_122 c.val = if Inc 122 c then 0x3F80#16 else 0#16) c)

theorem m0_123 (c : Fin 128) : lit0t1_0 (0 + 123 * 128 + c.val) = if Inc 123 c then 0x3F80#16 else 0#16 :=
  chase (F := lit0t0_123) (by unfold lit0t1_0; rw [show (0 + 123 * 128 + c.val) / 128 % 128 = 123 by omega]; rfl) (by unfold lit0t0_123; rw [Nat.mod_mod]) (by omega)
    ((by decide +kernel : ∀ c : Fin 128, lit0t0_123 c.val = if Inc 123 c then 0x3F80#16 else 0#16) c)

theorem m0_124 (c : Fin 128) : lit0t1_0 (0 + 124 * 128 + c.val) = if Inc 124 c then 0x3F80#16 else 0#16 :=
  chase (F := lit0t0_124) (by unfold lit0t1_0; rw [show (0 + 124 * 128 + c.val) / 128 % 128 = 124 by omega]; rfl) (by unfold lit0t0_124; rw [Nat.mod_mod]) (by omega)
    ((by decide +kernel : ∀ c : Fin 128, lit0t0_124 c.val = if Inc 124 c then 0x3F80#16 else 0#16) c)

theorem m0_125 (c : Fin 128) : lit0t1_0 (0 + 125 * 128 + c.val) = if Inc 125 c then 0x3F80#16 else 0#16 :=
  chase (F := lit0t0_125) (by unfold lit0t1_0; rw [show (0 + 125 * 128 + c.val) / 128 % 128 = 125 by omega]; rfl) (by unfold lit0t0_125; rw [Nat.mod_mod]) (by omega)
    ((by decide +kernel : ∀ c : Fin 128, lit0t0_125 c.val = if Inc 125 c then 0x3F80#16 else 0#16) c)

theorem m0_126 (c : Fin 128) : lit0t1_0 (0 + 126 * 128 + c.val) = if Inc 126 c then 0x3F80#16 else 0#16 :=
  chase (F := lit0t0_126) (by unfold lit0t1_0; rw [show (0 + 126 * 128 + c.val) / 128 % 128 = 126 by omega]; rfl) (by unfold lit0t0_126; rw [Nat.mod_mod]) (by omega)
    ((by decide +kernel : ∀ c : Fin 128, lit0t0_126 c.val = if Inc 126 c then 0x3F80#16 else 0#16) c)

theorem m0_127 (c : Fin 128) : lit0t1_0 (0 + 127 * 128 + c.val) = if Inc 127 c then 0x3F80#16 else 0#16 :=
  chase (F := lit0t0_127) (by unfold lit0t1_0; rw [show (0 + 127 * 128 + c.val) / 128 % 128 = 127 by omega]; rfl) (by unfold lit0t0_127; rw [Nat.mod_mod]) (by omega)
    ((by decide +kernel : ∀ c : Fin 128, lit0t0_127 c.val = if Inc 127 c then 0x3F80#16 else 0#16) c)

set_option maxHeartbeats 4000000 in
/-- Mask 0. -/
theorem mask0 (r c : Fin 128) : lit0t1_0 (0 + r.val * 128 + c.val) = if Inc r c then 0x3F80#16 else 0#16 :=
  match r with
  | ⟨0, _⟩ => m0_0 c
  | ⟨1, _⟩ => m0_1 c
  | ⟨2, _⟩ => m0_2 c
  | ⟨3, _⟩ => m0_3 c
  | ⟨4, _⟩ => m0_4 c
  | ⟨5, _⟩ => m0_5 c
  | ⟨6, _⟩ => m0_6 c
  | ⟨7, _⟩ => m0_7 c
  | ⟨8, _⟩ => m0_8 c
  | ⟨9, _⟩ => m0_9 c
  | ⟨10, _⟩ => m0_10 c
  | ⟨11, _⟩ => m0_11 c
  | ⟨12, _⟩ => m0_12 c
  | ⟨13, _⟩ => m0_13 c
  | ⟨14, _⟩ => m0_14 c
  | ⟨15, _⟩ => m0_15 c
  | ⟨16, _⟩ => m0_16 c
  | ⟨17, _⟩ => m0_17 c
  | ⟨18, _⟩ => m0_18 c
  | ⟨19, _⟩ => m0_19 c
  | ⟨20, _⟩ => m0_20 c
  | ⟨21, _⟩ => m0_21 c
  | ⟨22, _⟩ => m0_22 c
  | ⟨23, _⟩ => m0_23 c
  | ⟨24, _⟩ => m0_24 c
  | ⟨25, _⟩ => m0_25 c
  | ⟨26, _⟩ => m0_26 c
  | ⟨27, _⟩ => m0_27 c
  | ⟨28, _⟩ => m0_28 c
  | ⟨29, _⟩ => m0_29 c
  | ⟨30, _⟩ => m0_30 c
  | ⟨31, _⟩ => m0_31 c
  | ⟨32, _⟩ => m0_32 c
  | ⟨33, _⟩ => m0_33 c
  | ⟨34, _⟩ => m0_34 c
  | ⟨35, _⟩ => m0_35 c
  | ⟨36, _⟩ => m0_36 c
  | ⟨37, _⟩ => m0_37 c
  | ⟨38, _⟩ => m0_38 c
  | ⟨39, _⟩ => m0_39 c
  | ⟨40, _⟩ => m0_40 c
  | ⟨41, _⟩ => m0_41 c
  | ⟨42, _⟩ => m0_42 c
  | ⟨43, _⟩ => m0_43 c
  | ⟨44, _⟩ => m0_44 c
  | ⟨45, _⟩ => m0_45 c
  | ⟨46, _⟩ => m0_46 c
  | ⟨47, _⟩ => m0_47 c
  | ⟨48, _⟩ => m0_48 c
  | ⟨49, _⟩ => m0_49 c
  | ⟨50, _⟩ => m0_50 c
  | ⟨51, _⟩ => m0_51 c
  | ⟨52, _⟩ => m0_52 c
  | ⟨53, _⟩ => m0_53 c
  | ⟨54, _⟩ => m0_54 c
  | ⟨55, _⟩ => m0_55 c
  | ⟨56, _⟩ => m0_56 c
  | ⟨57, _⟩ => m0_57 c
  | ⟨58, _⟩ => m0_58 c
  | ⟨59, _⟩ => m0_59 c
  | ⟨60, _⟩ => m0_60 c
  | ⟨61, _⟩ => m0_61 c
  | ⟨62, _⟩ => m0_62 c
  | ⟨63, _⟩ => m0_63 c
  | ⟨64, _⟩ => m0_64 c
  | ⟨65, _⟩ => m0_65 c
  | ⟨66, _⟩ => m0_66 c
  | ⟨67, _⟩ => m0_67 c
  | ⟨68, _⟩ => m0_68 c
  | ⟨69, _⟩ => m0_69 c
  | ⟨70, _⟩ => m0_70 c
  | ⟨71, _⟩ => m0_71 c
  | ⟨72, _⟩ => m0_72 c
  | ⟨73, _⟩ => m0_73 c
  | ⟨74, _⟩ => m0_74 c
  | ⟨75, _⟩ => m0_75 c
  | ⟨76, _⟩ => m0_76 c
  | ⟨77, _⟩ => m0_77 c
  | ⟨78, _⟩ => m0_78 c
  | ⟨79, _⟩ => m0_79 c
  | ⟨80, _⟩ => m0_80 c
  | ⟨81, _⟩ => m0_81 c
  | ⟨82, _⟩ => m0_82 c
  | ⟨83, _⟩ => m0_83 c
  | ⟨84, _⟩ => m0_84 c
  | ⟨85, _⟩ => m0_85 c
  | ⟨86, _⟩ => m0_86 c
  | ⟨87, _⟩ => m0_87 c
  | ⟨88, _⟩ => m0_88 c
  | ⟨89, _⟩ => m0_89 c
  | ⟨90, _⟩ => m0_90 c
  | ⟨91, _⟩ => m0_91 c
  | ⟨92, _⟩ => m0_92 c
  | ⟨93, _⟩ => m0_93 c
  | ⟨94, _⟩ => m0_94 c
  | ⟨95, _⟩ => m0_95 c
  | ⟨96, _⟩ => m0_96 c
  | ⟨97, _⟩ => m0_97 c
  | ⟨98, _⟩ => m0_98 c
  | ⟨99, _⟩ => m0_99 c
  | ⟨100, _⟩ => m0_100 c
  | ⟨101, _⟩ => m0_101 c
  | ⟨102, _⟩ => m0_102 c
  | ⟨103, _⟩ => m0_103 c
  | ⟨104, _⟩ => m0_104 c
  | ⟨105, _⟩ => m0_105 c
  | ⟨106, _⟩ => m0_106 c
  | ⟨107, _⟩ => m0_107 c
  | ⟨108, _⟩ => m0_108 c
  | ⟨109, _⟩ => m0_109 c
  | ⟨110, _⟩ => m0_110 c
  | ⟨111, _⟩ => m0_111 c
  | ⟨112, _⟩ => m0_112 c
  | ⟨113, _⟩ => m0_113 c
  | ⟨114, _⟩ => m0_114 c
  | ⟨115, _⟩ => m0_115 c
  | ⟨116, _⟩ => m0_116 c
  | ⟨117, _⟩ => m0_117 c
  | ⟨118, _⟩ => m0_118 c
  | ⟨119, _⟩ => m0_119 c
  | ⟨120, _⟩ => m0_120 c
  | ⟨121, _⟩ => m0_121 c
  | ⟨122, _⟩ => m0_122 c
  | ⟨123, _⟩ => m0_123 c
  | ⟨124, _⟩ => m0_124 c
  | ⟨125, _⟩ => m0_125 c
  | ⟨126, _⟩ => m0_126 c
  | ⟨127, _⟩ => m0_127 c
  | ⟨n + 128, h⟩ => absurd h (by omega)

end Cert.KernelIdeal.Value
-- ==== Proof.DeltaMask1.lean ====
/- Mask 1 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m1_0 (c : Fin 128) : lit0t1_1 (16384 + 0 * 128 + c.val) = if Lvl 2 0 c then 0x3F80#16 else 0#16 :=
  chase (F := lit0t0_128) (by unfold lit0t1_1; rw [show (16384 + 0 * 128 + c.val) / 128 % 128 = 0 by omega]; rfl) (by unfold lit0t0_128; rw [Nat.mod_mod]) (by omega)
    ((by decide +kernel : ∀ c : Fin 128, lit0t0_128 c.val = if Lvl 2 0 c then 0x3F80#16 else 0#16) c)

theorem m1_1 (c : Fin 128) : lit0t1_1 (16384 + 1 * 128 + c.val) = if Lvl 2 1 c then 0x3F80#16 else 0#16 :=
  chase (F := lit0t0_129) (by unfold lit0t1_1; rw [show (16384 + 1 * 128 + c.val) / 128 % 128 = 1 by omega]; rfl) (by unfold lit0t0_129; rw [Nat.mod_mod]) (by omega)
    ((by decide +kernel : ∀ c : Fin 128, lit0t0_129 c.val = if Lvl 2 1 c then 0x3F80#16 else 0#16) c)

theorem m1_2 (c : Fin 128) : lit0t1_1 (16384 + 2 * 128 + c.val) = if Lvl 2 2 c then 0x3F80#16 else 0#16 :=
  chase (F := lit0t0_130) (by unfold lit0t1_1; rw [show (16384 + 2 * 128 + c.val) / 128 % 128 = 2 by omega]; rfl) (by unfold lit0t0_130; rw [Nat.mod_mod]) (by omega)
    ((by decide +kernel : ∀ c : Fin 128, lit0t0_130 c.val = if Lvl 2 2 c then 0x3F80#16 else 0#16) c)

theorem m1_3 (c : Fin 128) : lit0t1_1 (16384 + 3 * 128 + c.val) = if Lvl 2 3 c then 0x3F80#16 else 0#16 :=
  chase (F := lit0t0_131) (by unfold lit0t1_1; rw [show (16384 + 3 * 128 + c.val) / 128 % 128 = 3 by omega]; rfl) (by unfold lit0t0_131; rw [Nat.mod_mod]) (by omega)
    ((by decide +kernel : ∀ c : Fin 128, lit0t0_131 c.val = if Lvl 2 3 c then 0x3F80#16 else 0#16) c)

theorem m1_4 (c : Fin 128) : lit0t1_1 (16384 + 4 * 128 + c.val) = if Lvl 2 4 c then 0x3F80#16 else 0#16 :=
  chase (F := lit0t0_132) (by unfold lit0t1_1; rw [show (16384 + 4 * 128 + c.val) / 128 % 128 = 4 by omega]; rfl) (by unfold lit0t0_132; rw [Nat.mod_mod]) (by omega)
    ((by decide +kernel : ∀ c : Fin 128, lit0t0_132 c.val = if Lvl 2 4 c then 0x3F80#16 else 0#16) c)

theorem m1_5 (c : Fin 128) : lit0t1_1 (16384 + 5 * 128 + c.val) = if Lvl 2 5 c then 0x3F80#16 else 0#16 :=
  chase (F := lit0t0_133) (by unfold lit0t1_1; rw [show (16384 + 5 * 128 + c.val) / 128 % 128 = 5 by omega]; rfl) (by unfold lit0t0_133; rw [Nat.mod_mod]) (by omega)
    ((by decide +kernel : ∀ c : Fin 128, lit0t0_133 c.val = if Lvl 2 5 c then 0x3F80#16 else 0#16) c)

theorem m1_6 (c : Fin 128) : lit0t1_1 (16384 + 6 * 128 + c.val) = if Lvl 2 6 c then 0x3F80#16 else 0#16 :=
  chase (F := lit0t0_134) (by unfold lit0t1_1; rw [show (16384 + 6 * 128 + c.val) / 128 % 128 = 6 by omega]; rfl) (by unfold lit0t0_134; rw [Nat.mod_mod]) (by omega)
    ((by decide +kernel : ∀ c : Fin 128, lit0t0_134 c.val = if Lvl 2 6 c then 0x3F80#16 else 0#16) c)

theorem m1_7 (c : Fin 128) : lit0t1_1 (16384 + 7 * 128 + c.val) = if Lvl 2 7 c then 0x3F80#16 else 0#16 :=
  chase (F := lit0t0_135) (by unfold lit0t1_1; rw [show (16384 + 7 * 128 + c.val) / 128 % 128 = 7 by omega]; rfl) (by unfold lit0t0_135; rw [Nat.mod_mod]) (by omega)
    ((by decide +kernel : ∀ c : Fin 128, lit0t0_135 c.val = if Lvl 2 7 c then 0x3F80#16 else 0#16) c)

theorem m1_8 (c : Fin 128) : lit0t1_1 (16384 + 8 * 128 + c.val) = if Lvl 2 8 c then 0x3F80#16 else 0#16 :=
  chase (F := lit0t0_136) (by unfold lit0t1_1; rw [show (16384 + 8 * 128 + c.val) / 128 % 128 = 8 by omega]; rfl) (by unfold lit0t0_136; rw [Nat.mod_mod]) (by omega)
    ((by decide +kernel : ∀ c : Fin 128, lit0t0_136 c.val = if Lvl 2 8 c then 0x3F80#16 else 0#16) c)

theorem m1_9 (c : Fin 128) : lit0t1_1 (16384 + 9 * 128 + c.val) = if Lvl 2 9 c then 0x3F80#16 else 0#16 :=
  chase (F := lit0t0_137) (by unfold lit0t1_1; rw [show (16384 + 9 * 128 + c.val) / 128 % 128 = 9 by omega]; rfl) (by unfold lit0t0_137; rw [Nat.mod_mod]) (by omega)
    ((by decide +kernel : ∀ c : Fin 128, lit0t0_137 c.val = if Lvl 2 9 c then 0x3F80#16 else 0#16) c)

theorem m1_10 (c : Fin 128) : lit0t1_1 (16384 + 10 * 128 + c.val) = if Lvl 2 10 c then 0x3F80#16 else 0#16 :=
  chase (F := lit0t0_138) (by unfold lit0t1_1; rw [show (16384 + 10 * 128 + c.val) / 128 % 128 = 10 by omega]; rfl) (by unfold lit0t0_138; rw [Nat.mod_mod]) (by omega)
    ((by decide +kernel : ∀ c : Fin 128, lit0t0_138 c.val = if Lvl 2 10 c then 0x3F80#16 else 0#16) c)

theorem m1_11 (c : Fin 128) : lit0t1_1 (16384 + 11 * 128 + c.val) = if Lvl 2 11 c then 0x3F80#16 else 0#16 :=
  chase (F := lit0t0_139) (by unfold lit0t1_1; rw [show (16384 + 11 * 128 + c.val) / 128 % 128 = 11 by omega]; rfl) (by unfold lit0t0_139; rw [Nat.mod_mod]) (by omega)
    ((by decide +kernel : ∀ c : Fin 128, lit0t0_139 c.val = if Lvl 2 11 c then 0x3F80#16 else 0#16) c)

theorem m1_12 (c : Fin 128) : lit0t1_1 (16384 + 12 * 128 + c.val) = if Lvl 2 12 c then 0x3F80#16 else 0#16 :=
  chase (F := lit0t0_140) (by unfold lit0t1_1; rw [show (16384 + 12 * 128 + c.val) / 128 % 128 = 12 by omega]; rfl) (by unfold lit0t0_140; rw [Nat.mod_mod]) (by omega)
    ((by decide +kernel : ∀ c : Fin 128, lit0t0_140 c.val = if Lvl 2 12 c then 0x3F80#16 else 0#16) c)

theorem m1_13 (c : Fin 128) : lit0t1_1 (16384 + 13 * 128 + c.val) = if Lvl 2 13 c then 0x3F80#16 else 0#16 :=
  chase (F := lit0t0_141) (by unfold lit0t1_1; rw [show (16384 + 13 * 128 + c.val) / 128 % 128 = 13 by omega]; rfl) (by unfold lit0t0_141; rw [Nat.mod_mod]) (by omega)
    ((by decide +kernel : ∀ c : Fin 128, lit0t0_141 c.val = if Lvl 2 13 c then 0x3F80#16 else 0#16) c)

theorem m1_14 (c : Fin 128) : lit0t1_1 (16384 + 14 * 128 + c.val) = if Lvl 2 14 c then 0x3F80#16 else 0#16 :=
  chase (F := lit0t0_142) (by unfold lit0t1_1; rw [show (16384 + 14 * 128 + c.val) / 128 % 128 = 14 by omega]; rfl) (by unfold lit0t0_142; rw [Nat.mod_mod]) (by omega)
    ((by decide +kernel : ∀ c : Fin 128, lit0t0_142 c.val = if Lvl 2 14 c then 0x3F80#16 else 0#16) c)

theorem m1_15 (c : Fin 128) : lit0t1_1 (16384 + 15 * 128 + c.val) = if Lvl 2 15 c then 0x3F80#16 else 0#16 :=
  chase (F := lit0t0_143) (by unfold lit0t1_1; rw [show (16384 + 15 * 128 + c.val) / 128 % 128 = 15 by omega]; rfl) (by unfold lit0t0_143; rw [Nat.mod_mod]) (by omega)
    ((by decide +kernel : ∀ c : Fin 128, lit0t0_143 c.val = if Lvl 2 15 c then 0x3F80#16 else 0#16) c)

theorem m1_16 (c : Fin 128) : lit0t1_1 (16384 + 16 * 128 + c.val) = if Lvl 2 16 c then 0x3F80#16 else 0#16 :=
  chase (F := lit0t0_144) (by unfold lit0t1_1; rw [show (16384 + 16 * 128 + c.val) / 128 % 128 = 16 by omega]; rfl) (by unfold lit0t0_144; rw [Nat.mod_mod]) (by omega)
    ((by decide +kernel : ∀ c : Fin 128, lit0t0_144 c.val = if Lvl 2 16 c then 0x3F80#16 else 0#16) c)

theorem m1_17 (c : Fin 128) : lit0t1_1 (16384 + 17 * 128 + c.val) = if Lvl 2 17 c then 0x3F80#16 else 0#16 :=
  chase (F := lit0t0_145) (by unfold lit0t1_1; rw [show (16384 + 17 * 128 + c.val) / 128 % 128 = 17 by omega]; rfl) (by unfold lit0t0_145; rw [Nat.mod_mod]) (by omega)
    ((by decide +kernel : ∀ c : Fin 128, lit0t0_145 c.val = if Lvl 2 17 c then 0x3F80#16 else 0#16) c)

theorem m1_18 (c : Fin 128) : lit0t1_1 (16384 + 18 * 128 + c.val) = if Lvl 2 18 c then 0x3F80#16 else 0#16 :=
  chase (F := lit0t0_146) (by unfold lit0t1_1; rw [show (16384 + 18 * 128 + c.val) / 128 % 128 = 18 by omega]; rfl) (by unfold lit0t0_146; rw [Nat.mod_mod]) (by omega)
    ((by decide +kernel : ∀ c : Fin 128, lit0t0_146 c.val = if Lvl 2 18 c then 0x3F80#16 else 0#16) c)

theorem m1_19 (c : Fin 128) : lit0t1_1 (16384 + 19 * 128 + c.val) = if Lvl 2 19 c then 0x3F80#16 else 0#16 :=
  chase (F := lit0t0_147) (by unfold lit0t1_1; rw [show (16384 + 19 * 128 + c.val) / 128 % 128 = 19 by omega]; rfl) (by unfold lit0t0_147; rw [Nat.mod_mod]) (by omega)
    ((by decide +kernel : ∀ c : Fin 128, lit0t0_147 c.val = if Lvl 2 19 c then 0x3F80#16 else 0#16) c)

theorem m1_20 (c : Fin 128) : lit0t1_1 (16384 + 20 * 128 + c.val) = if Lvl 2 20 c then 0x3F80#16 else 0#16 :=
  chase (F := lit0t0_148) (by unfold lit0t1_1; rw [show (16384 + 20 * 128 + c.val) / 128 % 128 = 20 by omega]; rfl) (by unfold lit0t0_148; rw [Nat.mod_mod]) (by omega)
    ((by decide +kernel : ∀ c : Fin 128, lit0t0_148 c.val = if Lvl 2 20 c then 0x3F80#16 else 0#16) c)

theorem m1_21 (c : Fin 128) : lit0t1_1 (16384 + 21 * 128 + c.val) = if Lvl 2 21 c then 0x3F80#16 else 0#16 :=
  chase (F := lit0t0_149) (by unfold lit0t1_1; rw [show (16384 + 21 * 128 + c.val) / 128 % 128 = 21 by omega]; rfl) (by unfold lit0t0_149; rw [Nat.mod_mod]) (by omega)
    ((by decide +kernel : ∀ c : Fin 128, lit0t0_149 c.val = if Lvl 2 21 c then 0x3F80#16 else 0#16) c)

theorem m1_22 (c : Fin 128) : lit0t1_1 (16384 + 22 * 128 + c.val) = if Lvl 2 22 c then 0x3F80#16 else 0#16 :=
  chase (F := lit0t0_150) (by unfold lit0t1_1; rw [show (16384 + 22 * 128 + c.val) / 128 % 128 = 22 by omega]; rfl) (by unfold lit0t0_150; rw [Nat.mod_mod]) (by omega)
    ((by decide +kernel : ∀ c : Fin 128, lit0t0_150 c.val = if Lvl 2 22 c then 0x3F80#16 else 0#16) c)

theorem m1_23 (c : Fin 128) : lit0t1_1 (16384 + 23 * 128 + c.val) = if Lvl 2 23 c then 0x3F80#16 else 0#16 :=
  chase (F := lit0t0_151) (by unfold lit0t1_1; rw [show (16384 + 23 * 128 + c.val) / 128 % 128 = 23 by omega]; rfl) (by unfold lit0t0_151; rw [Nat.mod_mod]) (by omega)
    ((by decide +kernel : ∀ c : Fin 128, lit0t0_151 c.val = if Lvl 2 23 c then 0x3F80#16 else 0#16) c)

theorem m1_24 (c : Fin 128) : lit0t1_1 (16384 + 24 * 128 + c.val) = if Lvl 2 24 c then 0x3F80#16 else 0#16 :=
  chase (F := lit0t0_152) (by unfold lit0t1_1; rw [show (16384 + 24 * 128 + c.val) / 128 % 128 = 24 by omega]; rfl) (by unfold lit0t0_152; rw [Nat.mod_mod]) (by omega)
    ((by decide +kernel : ∀ c : Fin 128, lit0t0_152 c.val = if Lvl 2 24 c then 0x3F80#16 else 0#16) c)

theorem m1_25 (c : Fin 128) : lit0t1_1 (16384 + 25 * 128 + c.val) = if Lvl 2 25 c then 0x3F80#16 else 0#16 :=
  chase (F := lit0t0_153) (by unfold lit0t1_1; rw [show (16384 + 25 * 128 + c.val) / 128 % 128 = 25 by omega]; rfl) (by unfold lit0t0_153; rw [Nat.mod_mod]) (by omega)
    ((by decide +kernel : ∀ c : Fin 128, lit0t0_153 c.val = if Lvl 2 25 c then 0x3F80#16 else 0#16) c)

theorem m1_26 (c : Fin 128) : lit0t1_1 (16384 + 26 * 128 + c.val) = if Lvl 2 26 c then 0x3F80#16 else 0#16 :=
  chase (F := lit0t0_154) (by unfold lit0t1_1; rw [show (16384 + 26 * 128 + c.val) / 128 % 128 = 26 by omega]; rfl) (by unfold lit0t0_154; rw [Nat.mod_mod]) (by omega)
    ((by decide +kernel : ∀ c : Fin 128, lit0t0_154 c.val = if Lvl 2 26 c then 0x3F80#16 else 0#16) c)

theorem m1_27 (c : Fin 128) : lit0t1_1 (16384 + 27 * 128 + c.val) = if Lvl 2 27 c then 0x3F80#16 else 0#16 :=
  chase (F := lit0t0_155) (by unfold lit0t1_1; rw [show (16384 + 27 * 128 + c.val) / 128 % 128 = 27 by omega]; rfl) (by unfold lit0t0_155; rw [Nat.mod_mod]) (by omega)
    ((by decide +kernel : ∀ c : Fin 128, lit0t0_155 c.val = if Lvl 2 27 c then 0x3F80#16 else 0#16) c)

theorem m1_28 (c : Fin 128) : lit0t1_1 (16384 + 28 * 128 + c.val) = if Lvl 2 28 c then 0x3F80#16 else 0#16 :=
  chase (F := lit0t0_156) (by unfold lit0t1_1; rw [show (16384 + 28 * 128 + c.val) / 128 % 128 = 28 by omega]; rfl) (by unfold lit0t0_156; rw [Nat.mod_mod]) (by omega)
    ((by decide +kernel : ∀ c : Fin 128, lit0t0_156 c.val = if Lvl 2 28 c then 0x3F80#16 else 0#16) c)

theorem m1_29 (c : Fin 128) : lit0t1_1 (16384 + 29 * 128 + c.val) = if Lvl 2 29 c then 0x3F80#16 else 0#16 :=
  chase (F := lit0t0_157) (by unfold lit0t1_1; rw [show (16384 + 29 * 128 + c.val) / 128 % 128 = 29 by omega]; rfl) (by unfold lit0t0_157; rw [Nat.mod_mod]) (by omega)
    ((by decide +kernel : ∀ c : Fin 128, lit0t0_157 c.val = if Lvl 2 29 c then 0x3F80#16 else 0#16) c)

theorem m1_30 (c : Fin 128) : lit0t1_1 (16384 + 30 * 128 + c.val) = if Lvl 2 30 c then 0x3F80#16 else 0#16 :=
  chase (F := lit0t0_158) (by unfold lit0t1_1; rw [show (16384 + 30 * 128 + c.val) / 128 % 128 = 30 by omega]; rfl) (by unfold lit0t0_158; rw [Nat.mod_mod]) (by omega)
    ((by decide +kernel : ∀ c : Fin 128, lit0t0_158 c.val = if Lvl 2 30 c then 0x3F80#16 else 0#16) c)

theorem m1_31 (c : Fin 128) : lit0t1_1 (16384 + 31 * 128 + c.val) = if Lvl 2 31 c then 0x3F80#16 else 0#16 :=
  chase (F := lit0t0_159) (by unfold lit0t1_1; rw [show (16384 + 31 * 128 + c.val) / 128 % 128 = 31 by omega]; rfl) (by unfold lit0t0_159; rw [Nat.mod_mod]) (by omega)
    ((by decide +kernel : ∀ c : Fin 128, lit0t0_159 c.val = if Lvl 2 31 c then 0x3F80#16 else 0#16) c)

theorem m1_32 (c : Fin 128) : lit0t1_1 (16384 + 32 * 128 + c.val) = if Lvl 2 32 c then 0x3F80#16 else 0#16 :=
  chase (F := lit0t0_160) (by unfold lit0t1_1; rw [show (16384 + 32 * 128 + c.val) / 128 % 128 = 32 by omega]; rfl) (by unfold lit0t0_160; rw [Nat.mod_mod]) (by omega)
    ((by decide +kernel : ∀ c : Fin 128, lit0t0_160 c.val = if Lvl 2 32 c then 0x3F80#16 else 0#16) c)

theorem m1_33 (c : Fin 128) : lit0t1_1 (16384 + 33 * 128 + c.val) = if Lvl 2 33 c then 0x3F80#16 else 0#16 :=
  chase (F := lit0t0_161) (by unfold lit0t1_1; rw [show (16384 + 33 * 128 + c.val) / 128 % 128 = 33 by omega]; rfl) (by unfold lit0t0_161; rw [Nat.mod_mod]) (by omega)
    ((by decide +kernel : ∀ c : Fin 128, lit0t0_161 c.val = if Lvl 2 33 c then 0x3F80#16 else 0#16) c)

theorem m1_34 (c : Fin 128) : lit0t1_1 (16384 + 34 * 128 + c.val) = if Lvl 2 34 c then 0x3F80#16 else 0#16 :=
  chase (F := lit0t0_162) (by unfold lit0t1_1; rw [show (16384 + 34 * 128 + c.val) / 128 % 128 = 34 by omega]; rfl) (by unfold lit0t0_162; rw [Nat.mod_mod]) (by omega)
    ((by decide +kernel : ∀ c : Fin 128, lit0t0_162 c.val = if Lvl 2 34 c then 0x3F80#16 else 0#16) c)

theorem m1_35 (c : Fin 128) : lit0t1_1 (16384 + 35 * 128 + c.val) = if Lvl 2 35 c then 0x3F80#16 else 0#16 :=
  chase (F := lit0t0_163) (by unfold lit0t1_1; rw [show (16384 + 35 * 128 + c.val) / 128 % 128 = 35 by omega]; rfl) (by unfold lit0t0_163; rw [Nat.mod_mod]) (by omega)
    ((by decide +kernel : ∀ c : Fin 128, lit0t0_163 c.val = if Lvl 2 35 c then 0x3F80#16 else 0#16) c)

theorem m1_36 (c : Fin 128) : lit0t1_1 (16384 + 36 * 128 + c.val) = if Lvl 2 36 c then 0x3F80#16 else 0#16 :=
  chase (F := lit0t0_164) (by unfold lit0t1_1; rw [show (16384 + 36 * 128 + c.val) / 128 % 128 = 36 by omega]; rfl) (by unfold lit0t0_164; rw [Nat.mod_mod]) (by omega)
    ((by decide +kernel : ∀ c : Fin 128, lit0t0_164 c.val = if Lvl 2 36 c then 0x3F80#16 else 0#16) c)

theorem m1_37 (c : Fin 128) : lit0t1_1 (16384 + 37 * 128 + c.val) = if Lvl 2 37 c then 0x3F80#16 else 0#16 :=
  chase (F := lit0t0_165) (by unfold lit0t1_1; rw [show (16384 + 37 * 128 + c.val) / 128 % 128 = 37 by omega]; rfl) (by unfold lit0t0_165; rw [Nat.mod_mod]) (by omega)
    ((by decide +kernel : ∀ c : Fin 128, lit0t0_165 c.val = if Lvl 2 37 c then 0x3F80#16 else 0#16) c)

theorem m1_38 (c : Fin 128) : lit0t1_1 (16384 + 38 * 128 + c.val) = if Lvl 2 38 c then 0x3F80#16 else 0#16 :=
  chase (F := lit0t0_166) (by unfold lit0t1_1; rw [show (16384 + 38 * 128 + c.val) / 128 % 128 = 38 by omega]; rfl) (by unfold lit0t0_166; rw [Nat.mod_mod]) (by omega)
    ((by decide +kernel : ∀ c : Fin 128, lit0t0_166 c.val = if Lvl 2 38 c then 0x3F80#16 else 0#16) c)

theorem m1_39 (c : Fin 128) : lit0t1_1 (16384 + 39 * 128 + c.val) = if Lvl 2 39 c then 0x3F80#16 else 0#16 :=
  chase (F := lit0t0_167) (by unfold lit0t1_1; rw [show (16384 + 39 * 128 + c.val) / 128 % 128 = 39 by omega]; rfl) (by unfold lit0t0_167; rw [Nat.mod_mod]) (by omega)
    ((by decide +kernel : ∀ c : Fin 128, lit0t0_167 c.val = if Lvl 2 39 c then 0x3F80#16 else 0#16) c)

theorem m1_40 (c : Fin 128) : lit0t1_1 (16384 + 40 * 128 + c.val) = if Lvl 2 40 c then 0x3F80#16 else 0#16 :=
  chase (F := lit0t0_168) (by unfold lit0t1_1; rw [show (16384 + 40 * 128 + c.val) / 128 % 128 = 40 by omega]; rfl) (by unfold lit0t0_168; rw [Nat.mod_mod]) (by omega)
    ((by decide +kernel : ∀ c : Fin 128, lit0t0_168 c.val = if Lvl 2 40 c then 0x3F80#16 else 0#16) c)

theorem m1_41 (c : Fin 128) : lit0t1_1 (16384 + 41 * 128 + c.val) = if Lvl 2 41 c then 0x3F80#16 else 0#16 :=
  chase (F := lit0t0_169) (by unfold lit0t1_1; rw [show (16384 + 41 * 128 + c.val) / 128 % 128 = 41 by omega]; rfl) (by unfold lit0t0_169; rw [Nat.mod_mod]) (by omega)
    ((by decide +kernel : ∀ c : Fin 128, lit0t0_169 c.val = if Lvl 2 41 c then 0x3F80#16 else 0#16) c)

theorem m1_42 (c : Fin 128) : lit0t1_1 (16384 + 42 * 128 + c.val) = if Lvl 2 42 c then 0x3F80#16 else 0#16 :=
  chase (F := lit0t0_170) (by unfold lit0t1_1; rw [show (16384 + 42 * 128 + c.val) / 128 % 128 = 42 by omega]; rfl) (by unfold lit0t0_170; rw [Nat.mod_mod]) (by omega)
    ((by decide +kernel : ∀ c : Fin 128, lit0t0_170 c.val = if Lvl 2 42 c then 0x3F80#16 else 0#16) c)

theorem m1_43 (c : Fin 128) : lit0t1_1 (16384 + 43 * 128 + c.val) = if Lvl 2 43 c then 0x3F80#16 else 0#16 :=
  chase (F := lit0t0_171) (by unfold lit0t1_1; rw [show (16384 + 43 * 128 + c.val) / 128 % 128 = 43 by omega]; rfl) (by unfold lit0t0_171; rw [Nat.mod_mod]) (by omega)
    ((by decide +kernel : ∀ c : Fin 128, lit0t0_171 c.val = if Lvl 2 43 c then 0x3F80#16 else 0#16) c)

theorem m1_44 (c : Fin 128) : lit0t1_1 (16384 + 44 * 128 + c.val) = if Lvl 2 44 c then 0x3F80#16 else 0#16 :=
  chase (F := lit0t0_172) (by unfold lit0t1_1; rw [show (16384 + 44 * 128 + c.val) / 128 % 128 = 44 by omega]; rfl) (by unfold lit0t0_172; rw [Nat.mod_mod]) (by omega)
    ((by decide +kernel : ∀ c : Fin 128, lit0t0_172 c.val = if Lvl 2 44 c then 0x3F80#16 else 0#16) c)

theorem m1_45 (c : Fin 128) : lit0t1_1 (16384 + 45 * 128 + c.val) = if Lvl 2 45 c then 0x3F80#16 else 0#16 :=
  chase (F := lit0t0_173) (by unfold lit0t1_1; rw [show (16384 + 45 * 128 + c.val) / 128 % 128 = 45 by omega]; rfl) (by unfold lit0t0_173; rw [Nat.mod_mod]) (by omega)
    ((by decide +kernel : ∀ c : Fin 128, lit0t0_173 c.val = if Lvl 2 45 c then 0x3F80#16 else 0#16) c)

theorem m1_46 (c : Fin 128) : lit0t1_1 (16384 + 46 * 128 + c.val) = if Lvl 2 46 c then 0x3F80#16 else 0#16 :=
  chase (F := lit0t0_174) (by unfold lit0t1_1; rw [show (16384 + 46 * 128 + c.val) / 128 % 128 = 46 by omega]; rfl) (by unfold lit0t0_174; rw [Nat.mod_mod]) (by omega)
    ((by decide +kernel : ∀ c : Fin 128, lit0t0_174 c.val = if Lvl 2 46 c then 0x3F80#16 else 0#16) c)

theorem m1_47 (c : Fin 128) : lit0t1_1 (16384 + 47 * 128 + c.val) = if Lvl 2 47 c then 0x3F80#16 else 0#16 :=
  chase (F := lit0t0_175) (by unfold lit0t1_1; rw [show (16384 + 47 * 128 + c.val) / 128 % 128 = 47 by omega]; rfl) (by unfold lit0t0_175; rw [Nat.mod_mod]) (by omega)
    ((by decide +kernel : ∀ c : Fin 128, lit0t0_175 c.val = if Lvl 2 47 c then 0x3F80#16 else 0#16) c)

theorem m1_48 (c : Fin 128) : lit0t1_1 (16384 + 48 * 128 + c.val) = if Lvl 2 48 c then 0x3F80#16 else 0#16 :=
  chase (F := lit0t0_176) (by unfold lit0t1_1; rw [show (16384 + 48 * 128 + c.val) / 128 % 128 = 48 by omega]; rfl) (by unfold lit0t0_176; rw [Nat.mod_mod]) (by omega)
    ((by decide +kernel : ∀ c : Fin 128, lit0t0_176 c.val = if Lvl 2 48 c then 0x3F80#16 else 0#16) c)

theorem m1_49 (c : Fin 128) : lit0t1_1 (16384 + 49 * 128 + c.val) = if Lvl 2 49 c then 0x3F80#16 else 0#16 :=
  chase (F := lit0t0_177) (by unfold lit0t1_1; rw [show (16384 + 49 * 128 + c.val) / 128 % 128 = 49 by omega]; rfl) (by unfold lit0t0_177; rw [Nat.mod_mod]) (by omega)
    ((by decide +kernel : ∀ c : Fin 128, lit0t0_177 c.val = if Lvl 2 49 c then 0x3F80#16 else 0#16) c)

theorem m1_50 (c : Fin 128) : lit0t1_1 (16384 + 50 * 128 + c.val) = if Lvl 2 50 c then 0x3F80#16 else 0#16 :=
  chase (F := lit0t0_178) (by unfold lit0t1_1; rw [show (16384 + 50 * 128 + c.val) / 128 % 128 = 50 by omega]; rfl) (by unfold lit0t0_178; rw [Nat.mod_mod]) (by omega)
    ((by decide +kernel : ∀ c : Fin 128, lit0t0_178 c.val = if Lvl 2 50 c then 0x3F80#16 else 0#16) c)

theorem m1_51 (c : Fin 128) : lit0t1_1 (16384 + 51 * 128 + c.val) = if Lvl 2 51 c then 0x3F80#16 else 0#16 :=
  chase (F := lit0t0_179) (by unfold lit0t1_1; rw [show (16384 + 51 * 128 + c.val) / 128 % 128 = 51 by omega]; rfl) (by unfold lit0t0_179; rw [Nat.mod_mod]) (by omega)
    ((by decide +kernel : ∀ c : Fin 128, lit0t0_179 c.val = if Lvl 2 51 c then 0x3F80#16 else 0#16) c)

theorem m1_52 (c : Fin 128) : lit0t1_1 (16384 + 52 * 128 + c.val) = if Lvl 2 52 c then 0x3F80#16 else 0#16 :=
  chase (F := lit0t0_180) (by unfold lit0t1_1; rw [show (16384 + 52 * 128 + c.val) / 128 % 128 = 52 by omega]; rfl) (by unfold lit0t0_180; rw [Nat.mod_mod]) (by omega)
    ((by decide +kernel : ∀ c : Fin 128, lit0t0_180 c.val = if Lvl 2 52 c then 0x3F80#16 else 0#16) c)

theorem m1_53 (c : Fin 128) : lit0t1_1 (16384 + 53 * 128 + c.val) = if Lvl 2 53 c then 0x3F80#16 else 0#16 :=
  chase (F := lit0t0_181) (by unfold lit0t1_1; rw [show (16384 + 53 * 128 + c.val) / 128 % 128 = 53 by omega]; rfl) (by unfold lit0t0_181; rw [Nat.mod_mod]) (by omega)
    ((by decide +kernel : ∀ c : Fin 128, lit0t0_181 c.val = if Lvl 2 53 c then 0x3F80#16 else 0#16) c)

theorem m1_54 (c : Fin 128) : lit0t1_1 (16384 + 54 * 128 + c.val) = if Lvl 2 54 c then 0x3F80#16 else 0#16 :=
  chase (F := lit0t0_182) (by unfold lit0t1_1; rw [show (16384 + 54 * 128 + c.val) / 128 % 128 = 54 by omega]; rfl) (by unfold lit0t0_182; rw [Nat.mod_mod]) (by omega)
    ((by decide +kernel : ∀ c : Fin 128, lit0t0_182 c.val = if Lvl 2 54 c then 0x3F80#16 else 0#16) c)

theorem m1_55 (c : Fin 128) : lit0t1_1 (16384 + 55 * 128 + c.val) = if Lvl 2 55 c then 0x3F80#16 else 0#16 :=
  chase (F := lit0t0_183) (by unfold lit0t1_1; rw [show (16384 + 55 * 128 + c.val) / 128 % 128 = 55 by omega]; rfl) (by unfold lit0t0_183; rw [Nat.mod_mod]) (by omega)
    ((by decide +kernel : ∀ c : Fin 128, lit0t0_183 c.val = if Lvl 2 55 c then 0x3F80#16 else 0#16) c)

theorem m1_56 (c : Fin 128) : lit0t1_1 (16384 + 56 * 128 + c.val) = if Lvl 2 56 c then 0x3F80#16 else 0#16 :=
  chase (F := lit0t0_184) (by unfold lit0t1_1; rw [show (16384 + 56 * 128 + c.val) / 128 % 128 = 56 by omega]; rfl) (by unfold lit0t0_184; rw [Nat.mod_mod]) (by omega)
    ((by decide +kernel : ∀ c : Fin 128, lit0t0_184 c.val = if Lvl 2 56 c then 0x3F80#16 else 0#16) c)

theorem m1_57 (c : Fin 128) : lit0t1_1 (16384 + 57 * 128 + c.val) = if Lvl 2 57 c then 0x3F80#16 else 0#16 :=
  chase (F := lit0t0_185) (by unfold lit0t1_1; rw [show (16384 + 57 * 128 + c.val) / 128 % 128 = 57 by omega]; rfl) (by unfold lit0t0_185; rw [Nat.mod_mod]) (by omega)
    ((by decide +kernel : ∀ c : Fin 128, lit0t0_185 c.val = if Lvl 2 57 c then 0x3F80#16 else 0#16) c)

theorem m1_58 (c : Fin 128) : lit0t1_1 (16384 + 58 * 128 + c.val) = if Lvl 2 58 c then 0x3F80#16 else 0#16 :=
  chase (F := lit0t0_186) (by unfold lit0t1_1; rw [show (16384 + 58 * 128 + c.val) / 128 % 128 = 58 by omega]; rfl) (by unfold lit0t0_186; rw [Nat.mod_mod]) (by omega)
    ((by decide +kernel : ∀ c : Fin 128, lit0t0_186 c.val = if Lvl 2 58 c then 0x3F80#16 else 0#16) c)

theorem m1_59 (c : Fin 128) : lit0t1_1 (16384 + 59 * 128 + c.val) = if Lvl 2 59 c then 0x3F80#16 else 0#16 :=
  chase (F := lit0t0_187) (by unfold lit0t1_1; rw [show (16384 + 59 * 128 + c.val) / 128 % 128 = 59 by omega]; rfl) (by unfold lit0t0_187; rw [Nat.mod_mod]) (by omega)
    ((by decide +kernel : ∀ c : Fin 128, lit0t0_187 c.val = if Lvl 2 59 c then 0x3F80#16 else 0#16) c)

theorem m1_60 (c : Fin 128) : lit0t1_1 (16384 + 60 * 128 + c.val) = if Lvl 2 60 c then 0x3F80#16 else 0#16 :=
  chase (F := lit0t0_188) (by unfold lit0t1_1; rw [show (16384 + 60 * 128 + c.val) / 128 % 128 = 60 by omega]; rfl) (by unfold lit0t0_188; rw [Nat.mod_mod]) (by omega)
    ((by decide +kernel : ∀ c : Fin 128, lit0t0_188 c.val = if Lvl 2 60 c then 0x3F80#16 else 0#16) c)

theorem m1_61 (c : Fin 128) : lit0t1_1 (16384 + 61 * 128 + c.val) = if Lvl 2 61 c then 0x3F80#16 else 0#16 :=
  chase (F := lit0t0_189) (by unfold lit0t1_1; rw [show (16384 + 61 * 128 + c.val) / 128 % 128 = 61 by omega]; rfl) (by unfold lit0t0_189; rw [Nat.mod_mod]) (by omega)
    ((by decide +kernel : ∀ c : Fin 128, lit0t0_189 c.val = if Lvl 2 61 c then 0x3F80#16 else 0#16) c)

theorem m1_62 (c : Fin 128) : lit0t1_1 (16384 + 62 * 128 + c.val) = if Lvl 2 62 c then 0x3F80#16 else 0#16 :=
  chase (F := lit0t0_190) (by unfold lit0t1_1; rw [show (16384 + 62 * 128 + c.val) / 128 % 128 = 62 by omega]; rfl) (by unfold lit0t0_190; rw [Nat.mod_mod]) (by omega)
    ((by decide +kernel : ∀ c : Fin 128, lit0t0_190 c.val = if Lvl 2 62 c then 0x3F80#16 else 0#16) c)

theorem m1_63 (c : Fin 128) : lit0t1_1 (16384 + 63 * 128 + c.val) = if Lvl 2 63 c then 0x3F80#16 else 0#16 :=
  chase (F := lit0t0_191) (by unfold lit0t1_1; rw [show (16384 + 63 * 128 + c.val) / 128 % 128 = 63 by omega]; rfl) (by unfold lit0t0_191; rw [Nat.mod_mod]) (by omega)
    ((by decide +kernel : ∀ c : Fin 128, lit0t0_191 c.val = if Lvl 2 63 c then 0x3F80#16 else 0#16) c)

theorem m1_64 (c : Fin 128) : lit0t1_1 (16384 + 64 * 128 + c.val) = if Lvl 2 64 c then 0x3F80#16 else 0#16 :=
  chase (F := lit0t0_192) (by unfold lit0t1_1; rw [show (16384 + 64 * 128 + c.val) / 128 % 128 = 64 by omega]; rfl) (by unfold lit0t0_192; rw [Nat.mod_mod]) (by omega)
    ((by decide +kernel : ∀ c : Fin 128, lit0t0_192 c.val = if Lvl 2 64 c then 0x3F80#16 else 0#16) c)

theorem m1_65 (c : Fin 128) : lit0t1_1 (16384 + 65 * 128 + c.val) = if Lvl 2 65 c then 0x3F80#16 else 0#16 :=
  chase (F := lit0t0_193) (by unfold lit0t1_1; rw [show (16384 + 65 * 128 + c.val) / 128 % 128 = 65 by omega]; rfl) (by unfold lit0t0_193; rw [Nat.mod_mod]) (by omega)
    ((by decide +kernel : ∀ c : Fin 128, lit0t0_193 c.val = if Lvl 2 65 c then 0x3F80#16 else 0#16) c)

theorem m1_66 (c : Fin 128) : lit0t1_1 (16384 + 66 * 128 + c.val) = if Lvl 2 66 c then 0x3F80#16 else 0#16 :=
  chase (F := lit0t0_194) (by unfold lit0t1_1; rw [show (16384 + 66 * 128 + c.val) / 128 % 128 = 66 by omega]; rfl) (by unfold lit0t0_194; rw [Nat.mod_mod]) (by omega)
    ((by decide +kernel : ∀ c : Fin 128, lit0t0_194 c.val = if Lvl 2 66 c then 0x3F80#16 else 0#16) c)

theorem m1_67 (c : Fin 128) : lit0t1_1 (16384 + 67 * 128 + c.val) = if Lvl 2 67 c then 0x3F80#16 else 0#16 :=
  chase (F := lit0t0_195) (by unfold lit0t1_1; rw [show (16384 + 67 * 128 + c.val) / 128 % 128 = 67 by omega]; rfl) (by unfold lit0t0_195; rw [Nat.mod_mod]) (by omega)
    ((by decide +kernel : ∀ c : Fin 128, lit0t0_195 c.val = if Lvl 2 67 c then 0x3F80#16 else 0#16) c)

theorem m1_68 (c : Fin 128) : lit0t1_1 (16384 + 68 * 128 + c.val) = if Lvl 2 68 c then 0x3F80#16 else 0#16 :=
  chase (F := lit0t0_196) (by unfold lit0t1_1; rw [show (16384 + 68 * 128 + c.val) / 128 % 128 = 68 by omega]; rfl) (by unfold lit0t0_196; rw [Nat.mod_mod]) (by omega)
    ((by decide +kernel : ∀ c : Fin 128, lit0t0_196 c.val = if Lvl 2 68 c then 0x3F80#16 else 0#16) c)

theorem m1_69 (c : Fin 128) : lit0t1_1 (16384 + 69 * 128 + c.val) = if Lvl 2 69 c then 0x3F80#16 else 0#16 :=
  chase (F := lit0t0_197) (by unfold lit0t1_1; rw [show (16384 + 69 * 128 + c.val) / 128 % 128 = 69 by omega]; rfl) (by unfold lit0t0_197; rw [Nat.mod_mod]) (by omega)
    ((by decide +kernel : ∀ c : Fin 128, lit0t0_197 c.val = if Lvl 2 69 c then 0x3F80#16 else 0#16) c)

theorem m1_70 (c : Fin 128) : lit0t1_1 (16384 + 70 * 128 + c.val) = if Lvl 2 70 c then 0x3F80#16 else 0#16 :=
  chase (F := lit0t0_198) (by unfold lit0t1_1; rw [show (16384 + 70 * 128 + c.val) / 128 % 128 = 70 by omega]; rfl) (by unfold lit0t0_198; rw [Nat.mod_mod]) (by omega)
    ((by decide +kernel : ∀ c : Fin 128, lit0t0_198 c.val = if Lvl 2 70 c then 0x3F80#16 else 0#16) c)

theorem m1_71 (c : Fin 128) : lit0t1_1 (16384 + 71 * 128 + c.val) = if Lvl 2 71 c then 0x3F80#16 else 0#16 :=
  chase (F := lit0t0_199) (by unfold lit0t1_1; rw [show (16384 + 71 * 128 + c.val) / 128 % 128 = 71 by omega]; rfl) (by unfold lit0t0_199; rw [Nat.mod_mod]) (by omega)
    ((by decide +kernel : ∀ c : Fin 128, lit0t0_199 c.val = if Lvl 2 71 c then 0x3F80#16 else 0#16) c)

theorem m1_72 (c : Fin 128) : lit0t1_1 (16384 + 72 * 128 + c.val) = if Lvl 2 72 c then 0x3F80#16 else 0#16 :=
  chase (F := lit0t0_200) (by unfold lit0t1_1; rw [show (16384 + 72 * 128 + c.val) / 128 % 128 = 72 by omega]; rfl) (by unfold lit0t0_200; rw [Nat.mod_mod]) (by omega)
    ((by decide +kernel : ∀ c : Fin 128, lit0t0_200 c.val = if Lvl 2 72 c then 0x3F80#16 else 0#16) c)

theorem m1_73 (c : Fin 128) : lit0t1_1 (16384 + 73 * 128 + c.val) = if Lvl 2 73 c then 0x3F80#16 else 0#16 :=
  chase (F := lit0t0_201) (by unfold lit0t1_1; rw [show (16384 + 73 * 128 + c.val) / 128 % 128 = 73 by omega]; rfl) (by unfold lit0t0_201; rw [Nat.mod_mod]) (by omega)
    ((by decide +kernel : ∀ c : Fin 128, lit0t0_201 c.val = if Lvl 2 73 c then 0x3F80#16 else 0#16) c)

theorem m1_74 (c : Fin 128) : lit0t1_1 (16384 + 74 * 128 + c.val) = if Lvl 2 74 c then 0x3F80#16 else 0#16 :=
  chase (F := lit0t0_202) (by unfold lit0t1_1; rw [show (16384 + 74 * 128 + c.val) / 128 % 128 = 74 by omega]; rfl) (by unfold lit0t0_202; rw [Nat.mod_mod]) (by omega)
    ((by decide +kernel : ∀ c : Fin 128, lit0t0_202 c.val = if Lvl 2 74 c then 0x3F80#16 else 0#16) c)

theorem m1_75 (c : Fin 128) : lit0t1_1 (16384 + 75 * 128 + c.val) = if Lvl 2 75 c then 0x3F80#16 else 0#16 :=
  chase (F := lit0t0_203) (by unfold lit0t1_1; rw [show (16384 + 75 * 128 + c.val) / 128 % 128 = 75 by omega]; rfl) (by unfold lit0t0_203; rw [Nat.mod_mod]) (by omega)
    ((by decide +kernel : ∀ c : Fin 128, lit0t0_203 c.val = if Lvl 2 75 c then 0x3F80#16 else 0#16) c)

theorem m1_76 (c : Fin 128) : lit0t1_1 (16384 + 76 * 128 + c.val) = if Lvl 2 76 c then 0x3F80#16 else 0#16 :=
  chase (F := lit0t0_204) (by unfold lit0t1_1; rw [show (16384 + 76 * 128 + c.val) / 128 % 128 = 76 by omega]; rfl) (by unfold lit0t0_204; rw [Nat.mod_mod]) (by omega)
    ((by decide +kernel : ∀ c : Fin 128, lit0t0_204 c.val = if Lvl 2 76 c then 0x3F80#16 else 0#16) c)

theorem m1_77 (c : Fin 128) : lit0t1_1 (16384 + 77 * 128 + c.val) = if Lvl 2 77 c then 0x3F80#16 else 0#16 :=
  chase (F := lit0t0_205) (by unfold lit0t1_1; rw [show (16384 + 77 * 128 + c.val) / 128 % 128 = 77 by omega]; rfl) (by unfold lit0t0_205; rw [Nat.mod_mod]) (by omega)
    ((by decide +kernel : ∀ c : Fin 128, lit0t0_205 c.val = if Lvl 2 77 c then 0x3F80#16 else 0#16) c)

theorem m1_78 (c : Fin 128) : lit0t1_1 (16384 + 78 * 128 + c.val) = if Lvl 2 78 c then 0x3F80#16 else 0#16 :=
  chase (F := lit0t0_206) (by unfold lit0t1_1; rw [show (16384 + 78 * 128 + c.val) / 128 % 128 = 78 by omega]; rfl) (by unfold lit0t0_206; rw [Nat.mod_mod]) (by omega)
    ((by decide +kernel : ∀ c : Fin 128, lit0t0_206 c.val = if Lvl 2 78 c then 0x3F80#16 else 0#16) c)

theorem m1_79 (c : Fin 128) : lit0t1_1 (16384 + 79 * 128 + c.val) = if Lvl 2 79 c then 0x3F80#16 else 0#16 :=
  chase (F := lit0t0_207) (by unfold lit0t1_1; rw [show (16384 + 79 * 128 + c.val) / 128 % 128 = 79 by omega]; rfl) (by unfold lit0t0_207; rw [Nat.mod_mod]) (by omega)
    ((by decide +kernel : ∀ c : Fin 128, lit0t0_207 c.val = if Lvl 2 79 c then 0x3F80#16 else 0#16) c)

theorem m1_80 (c : Fin 128) : lit0t1_1 (16384 + 80 * 128 + c.val) = if Lvl 2 80 c then 0x3F80#16 else 0#16 :=
  chase (F := lit0t0_208) (by unfold lit0t1_1; rw [show (16384 + 80 * 128 + c.val) / 128 % 128 = 80 by omega]; rfl) (by unfold lit0t0_208; rw [Nat.mod_mod]) (by omega)
    ((by decide +kernel : ∀ c : Fin 128, lit0t0_208 c.val = if Lvl 2 80 c then 0x3F80#16 else 0#16) c)

theorem m1_81 (c : Fin 128) : lit0t1_1 (16384 + 81 * 128 + c.val) = if Lvl 2 81 c then 0x3F80#16 else 0#16 :=
  chase (F := lit0t0_209) (by unfold lit0t1_1; rw [show (16384 + 81 * 128 + c.val) / 128 % 128 = 81 by omega]; rfl) (by unfold lit0t0_209; rw [Nat.mod_mod]) (by omega)
    ((by decide +kernel : ∀ c : Fin 128, lit0t0_209 c.val = if Lvl 2 81 c then 0x3F80#16 else 0#16) c)

theorem m1_82 (c : Fin 128) : lit0t1_1 (16384 + 82 * 128 + c.val) = if Lvl 2 82 c then 0x3F80#16 else 0#16 :=
  chase (F := lit0t0_210) (by unfold lit0t1_1; rw [show (16384 + 82 * 128 + c.val) / 128 % 128 = 82 by omega]; rfl) (by unfold lit0t0_210; rw [Nat.mod_mod]) (by omega)
    ((by decide +kernel : ∀ c : Fin 128, lit0t0_210 c.val = if Lvl 2 82 c then 0x3F80#16 else 0#16) c)

theorem m1_83 (c : Fin 128) : lit0t1_1 (16384 + 83 * 128 + c.val) = if Lvl 2 83 c then 0x3F80#16 else 0#16 :=
  chase (F := lit0t0_211) (by unfold lit0t1_1; rw [show (16384 + 83 * 128 + c.val) / 128 % 128 = 83 by omega]; rfl) (by unfold lit0t0_211; rw [Nat.mod_mod]) (by omega)
    ((by decide +kernel : ∀ c : Fin 128, lit0t0_211 c.val = if Lvl 2 83 c then 0x3F80#16 else 0#16) c)

theorem m1_84 (c : Fin 128) : lit0t1_1 (16384 + 84 * 128 + c.val) = if Lvl 2 84 c then 0x3F80#16 else 0#16 :=
  chase (F := lit0t0_212) (by unfold lit0t1_1; rw [show (16384 + 84 * 128 + c.val) / 128 % 128 = 84 by omega]; rfl) (by unfold lit0t0_212; rw [Nat.mod_mod]) (by omega)
    ((by decide +kernel : ∀ c : Fin 128, lit0t0_212 c.val = if Lvl 2 84 c then 0x3F80#16 else 0#16) c)

theorem m1_85 (c : Fin 128) : lit0t1_1 (16384 + 85 * 128 + c.val) = if Lvl 2 85 c then 0x3F80#16 else 0#16 :=
  chase (F := lit0t0_213) (by unfold lit0t1_1; rw [show (16384 + 85 * 128 + c.val) / 128 % 128 = 85 by omega]; rfl) (by unfold lit0t0_213; rw [Nat.mod_mod]) (by omega)
    ((by decide +kernel : ∀ c : Fin 128, lit0t0_213 c.val = if Lvl 2 85 c then 0x3F80#16 else 0#16) c)

theorem m1_86 (c : Fin 128) : lit0t1_1 (16384 + 86 * 128 + c.val) = if Lvl 2 86 c then 0x3F80#16 else 0#16 :=
  chase (F := lit0t0_214) (by unfold lit0t1_1; rw [show (16384 + 86 * 128 + c.val) / 128 % 128 = 86 by omega]; rfl) (by unfold lit0t0_214; rw [Nat.mod_mod]) (by omega)
    ((by decide +kernel : ∀ c : Fin 128, lit0t0_214 c.val = if Lvl 2 86 c then 0x3F80#16 else 0#16) c)

theorem m1_87 (c : Fin 128) : lit0t1_1 (16384 + 87 * 128 + c.val) = if Lvl 2 87 c then 0x3F80#16 else 0#16 :=
  chase (F := lit0t0_215) (by unfold lit0t1_1; rw [show (16384 + 87 * 128 + c.val) / 128 % 128 = 87 by omega]; rfl) (by unfold lit0t0_215; rw [Nat.mod_mod]) (by omega)
    ((by decide +kernel : ∀ c : Fin 128, lit0t0_215 c.val = if Lvl 2 87 c then 0x3F80#16 else 0#16) c)

theorem m1_88 (c : Fin 128) : lit0t1_1 (16384 + 88 * 128 + c.val) = if Lvl 2 88 c then 0x3F80#16 else 0#16 :=
  chase (F := lit0t0_216) (by unfold lit0t1_1; rw [show (16384 + 88 * 128 + c.val) / 128 % 128 = 88 by omega]; rfl) (by unfold lit0t0_216; rw [Nat.mod_mod]) (by omega)
    ((by decide +kernel : ∀ c : Fin 128, lit0t0_216 c.val = if Lvl 2 88 c then 0x3F80#16 else 0#16) c)

theorem m1_89 (c : Fin 128) : lit0t1_1 (16384 + 89 * 128 + c.val) = if Lvl 2 89 c then 0x3F80#16 else 0#16 :=
  chase (F := lit0t0_217) (by unfold lit0t1_1; rw [show (16384 + 89 * 128 + c.val) / 128 % 128 = 89 by omega]; rfl) (by unfold lit0t0_217; rw [Nat.mod_mod]) (by omega)
    ((by decide +kernel : ∀ c : Fin 128, lit0t0_217 c.val = if Lvl 2 89 c then 0x3F80#16 else 0#16) c)

theorem m1_90 (c : Fin 128) : lit0t1_1 (16384 + 90 * 128 + c.val) = if Lvl 2 90 c then 0x3F80#16 else 0#16 :=
  chase (F := lit0t0_218) (by unfold lit0t1_1; rw [show (16384 + 90 * 128 + c.val) / 128 % 128 = 90 by omega]; rfl) (by unfold lit0t0_218; rw [Nat.mod_mod]) (by omega)
    ((by decide +kernel : ∀ c : Fin 128, lit0t0_218 c.val = if Lvl 2 90 c then 0x3F80#16 else 0#16) c)

theorem m1_91 (c : Fin 128) : lit0t1_1 (16384 + 91 * 128 + c.val) = if Lvl 2 91 c then 0x3F80#16 else 0#16 :=
  chase (F := lit0t0_219) (by unfold lit0t1_1; rw [show (16384 + 91 * 128 + c.val) / 128 % 128 = 91 by omega]; rfl) (by unfold lit0t0_219; rw [Nat.mod_mod]) (by omega)
    ((by decide +kernel : ∀ c : Fin 128, lit0t0_219 c.val = if Lvl 2 91 c then 0x3F80#16 else 0#16) c)

theorem m1_92 (c : Fin 128) : lit0t1_1 (16384 + 92 * 128 + c.val) = if Lvl 2 92 c then 0x3F80#16 else 0#16 :=
  chase (F := lit0t0_220) (by unfold lit0t1_1; rw [show (16384 + 92 * 128 + c.val) / 128 % 128 = 92 by omega]; rfl) (by unfold lit0t0_220; rw [Nat.mod_mod]) (by omega)
    ((by decide +kernel : ∀ c : Fin 128, lit0t0_220 c.val = if Lvl 2 92 c then 0x3F80#16 else 0#16) c)

theorem m1_93 (c : Fin 128) : lit0t1_1 (16384 + 93 * 128 + c.val) = if Lvl 2 93 c then 0x3F80#16 else 0#16 :=
  chase (F := lit0t0_221) (by unfold lit0t1_1; rw [show (16384 + 93 * 128 + c.val) / 128 % 128 = 93 by omega]; rfl) (by unfold lit0t0_221; rw [Nat.mod_mod]) (by omega)
    ((by decide +kernel : ∀ c : Fin 128, lit0t0_221 c.val = if Lvl 2 93 c then 0x3F80#16 else 0#16) c)

theorem m1_94 (c : Fin 128) : lit0t1_1 (16384 + 94 * 128 + c.val) = if Lvl 2 94 c then 0x3F80#16 else 0#16 :=
  chase (F := lit0t0_222) (by unfold lit0t1_1; rw [show (16384 + 94 * 128 + c.val) / 128 % 128 = 94 by omega]; rfl) (by unfold lit0t0_222; rw [Nat.mod_mod]) (by omega)
    ((by decide +kernel : ∀ c : Fin 128, lit0t0_222 c.val = if Lvl 2 94 c then 0x3F80#16 else 0#16) c)

theorem m1_95 (c : Fin 128) : lit0t1_1 (16384 + 95 * 128 + c.val) = if Lvl 2 95 c then 0x3F80#16 else 0#16 :=
  chase (F := lit0t0_223) (by unfold lit0t1_1; rw [show (16384 + 95 * 128 + c.val) / 128 % 128 = 95 by omega]; rfl) (by unfold lit0t0_223; rw [Nat.mod_mod]) (by omega)
    ((by decide +kernel : ∀ c : Fin 128, lit0t0_223 c.val = if Lvl 2 95 c then 0x3F80#16 else 0#16) c)

theorem m1_96 (c : Fin 128) : lit0t1_1 (16384 + 96 * 128 + c.val) = if Lvl 2 96 c then 0x3F80#16 else 0#16 :=
  chase (F := lit0t0_224) (by unfold lit0t1_1; rw [show (16384 + 96 * 128 + c.val) / 128 % 128 = 96 by omega]; rfl) (by unfold lit0t0_224; rw [Nat.mod_mod]) (by omega)
    ((by decide +kernel : ∀ c : Fin 128, lit0t0_224 c.val = if Lvl 2 96 c then 0x3F80#16 else 0#16) c)

theorem m1_97 (c : Fin 128) : lit0t1_1 (16384 + 97 * 128 + c.val) = if Lvl 2 97 c then 0x3F80#16 else 0#16 :=
  chase (F := lit0t0_225) (by unfold lit0t1_1; rw [show (16384 + 97 * 128 + c.val) / 128 % 128 = 97 by omega]; rfl) (by unfold lit0t0_225; rw [Nat.mod_mod]) (by omega)
    ((by decide +kernel : ∀ c : Fin 128, lit0t0_225 c.val = if Lvl 2 97 c then 0x3F80#16 else 0#16) c)

theorem m1_98 (c : Fin 128) : lit0t1_1 (16384 + 98 * 128 + c.val) = if Lvl 2 98 c then 0x3F80#16 else 0#16 :=
  chase (F := lit0t0_226) (by unfold lit0t1_1; rw [show (16384 + 98 * 128 + c.val) / 128 % 128 = 98 by omega]; rfl) (by unfold lit0t0_226; rw [Nat.mod_mod]) (by omega)
    ((by decide +kernel : ∀ c : Fin 128, lit0t0_226 c.val = if Lvl 2 98 c then 0x3F80#16 else 0#16) c)

theorem m1_99 (c : Fin 128) : lit0t1_1 (16384 + 99 * 128 + c.val) = if Lvl 2 99 c then 0x3F80#16 else 0#16 :=
  chase (F := lit0t0_227) (by unfold lit0t1_1; rw [show (16384 + 99 * 128 + c.val) / 128 % 128 = 99 by omega]; rfl) (by unfold lit0t0_227; rw [Nat.mod_mod]) (by omega)
    ((by decide +kernel : ∀ c : Fin 128, lit0t0_227 c.val = if Lvl 2 99 c then 0x3F80#16 else 0#16) c)

theorem m1_100 (c : Fin 128) : lit0t1_1 (16384 + 100 * 128 + c.val) = if Lvl 2 100 c then 0x3F80#16 else 0#16 :=
  chase (F := lit0t0_228) (by unfold lit0t1_1; rw [show (16384 + 100 * 128 + c.val) / 128 % 128 = 100 by omega]; rfl) (by unfold lit0t0_228; rw [Nat.mod_mod]) (by omega)
    ((by decide +kernel : ∀ c : Fin 128, lit0t0_228 c.val = if Lvl 2 100 c then 0x3F80#16 else 0#16) c)

theorem m1_101 (c : Fin 128) : lit0t1_1 (16384 + 101 * 128 + c.val) = if Lvl 2 101 c then 0x3F80#16 else 0#16 :=
  chase (F := lit0t0_229) (by unfold lit0t1_1; rw [show (16384 + 101 * 128 + c.val) / 128 % 128 = 101 by omega]; rfl) (by unfold lit0t0_229; rw [Nat.mod_mod]) (by omega)
    ((by decide +kernel : ∀ c : Fin 128, lit0t0_229 c.val = if Lvl 2 101 c then 0x3F80#16 else 0#16) c)

theorem m1_102 (c : Fin 128) : lit0t1_1 (16384 + 102 * 128 + c.val) = if Lvl 2 102 c then 0x3F80#16 else 0#16 :=
  chase (F := lit0t0_230) (by unfold lit0t1_1; rw [show (16384 + 102 * 128 + c.val) / 128 % 128 = 102 by omega]; rfl) (by unfold lit0t0_230; rw [Nat.mod_mod]) (by omega)
    ((by decide +kernel : ∀ c : Fin 128, lit0t0_230 c.val = if Lvl 2 102 c then 0x3F80#16 else 0#16) c)

theorem m1_103 (c : Fin 128) : lit0t1_1 (16384 + 103 * 128 + c.val) = if Lvl 2 103 c then 0x3F80#16 else 0#16 :=
  chase (F := lit0t0_231) (by unfold lit0t1_1; rw [show (16384 + 103 * 128 + c.val) / 128 % 128 = 103 by omega]; rfl) (by unfold lit0t0_231; rw [Nat.mod_mod]) (by omega)
    ((by decide +kernel : ∀ c : Fin 128, lit0t0_231 c.val = if Lvl 2 103 c then 0x3F80#16 else 0#16) c)

theorem m1_104 (c : Fin 128) : lit0t1_1 (16384 + 104 * 128 + c.val) = if Lvl 2 104 c then 0x3F80#16 else 0#16 :=
  chase (F := lit0t0_232) (by unfold lit0t1_1; rw [show (16384 + 104 * 128 + c.val) / 128 % 128 = 104 by omega]; rfl) (by unfold lit0t0_232; rw [Nat.mod_mod]) (by omega)
    ((by decide +kernel : ∀ c : Fin 128, lit0t0_232 c.val = if Lvl 2 104 c then 0x3F80#16 else 0#16) c)

theorem m1_105 (c : Fin 128) : lit0t1_1 (16384 + 105 * 128 + c.val) = if Lvl 2 105 c then 0x3F80#16 else 0#16 :=
  chase (F := lit0t0_233) (by unfold lit0t1_1; rw [show (16384 + 105 * 128 + c.val) / 128 % 128 = 105 by omega]; rfl) (by unfold lit0t0_233; rw [Nat.mod_mod]) (by omega)
    ((by decide +kernel : ∀ c : Fin 128, lit0t0_233 c.val = if Lvl 2 105 c then 0x3F80#16 else 0#16) c)

theorem m1_106 (c : Fin 128) : lit0t1_1 (16384 + 106 * 128 + c.val) = if Lvl 2 106 c then 0x3F80#16 else 0#16 :=
  chase (F := lit0t0_234) (by unfold lit0t1_1; rw [show (16384 + 106 * 128 + c.val) / 128 % 128 = 106 by omega]; rfl) (by unfold lit0t0_234; rw [Nat.mod_mod]) (by omega)
    ((by decide +kernel : ∀ c : Fin 128, lit0t0_234 c.val = if Lvl 2 106 c then 0x3F80#16 else 0#16) c)

theorem m1_107 (c : Fin 128) : lit0t1_1 (16384 + 107 * 128 + c.val) = if Lvl 2 107 c then 0x3F80#16 else 0#16 :=
  chase (F := lit0t0_235) (by unfold lit0t1_1; rw [show (16384 + 107 * 128 + c.val) / 128 % 128 = 107 by omega]; rfl) (by unfold lit0t0_235; rw [Nat.mod_mod]) (by omega)
    ((by decide +kernel : ∀ c : Fin 128, lit0t0_235 c.val = if Lvl 2 107 c then 0x3F80#16 else 0#16) c)

theorem m1_108 (c : Fin 128) : lit0t1_1 (16384 + 108 * 128 + c.val) = if Lvl 2 108 c then 0x3F80#16 else 0#16 :=
  chase (F := lit0t0_236) (by unfold lit0t1_1; rw [show (16384 + 108 * 128 + c.val) / 128 % 128 = 108 by omega]; rfl) (by unfold lit0t0_236; rw [Nat.mod_mod]) (by omega)
    ((by decide +kernel : ∀ c : Fin 128, lit0t0_236 c.val = if Lvl 2 108 c then 0x3F80#16 else 0#16) c)

theorem m1_109 (c : Fin 128) : lit0t1_1 (16384 + 109 * 128 + c.val) = if Lvl 2 109 c then 0x3F80#16 else 0#16 :=
  chase (F := lit0t0_237) (by unfold lit0t1_1; rw [show (16384 + 109 * 128 + c.val) / 128 % 128 = 109 by omega]; rfl) (by unfold lit0t0_237; rw [Nat.mod_mod]) (by omega)
    ((by decide +kernel : ∀ c : Fin 128, lit0t0_237 c.val = if Lvl 2 109 c then 0x3F80#16 else 0#16) c)

theorem m1_110 (c : Fin 128) : lit0t1_1 (16384 + 110 * 128 + c.val) = if Lvl 2 110 c then 0x3F80#16 else 0#16 :=
  chase (F := lit0t0_238) (by unfold lit0t1_1; rw [show (16384 + 110 * 128 + c.val) / 128 % 128 = 110 by omega]; rfl) (by unfold lit0t0_238; rw [Nat.mod_mod]) (by omega)
    ((by decide +kernel : ∀ c : Fin 128, lit0t0_238 c.val = if Lvl 2 110 c then 0x3F80#16 else 0#16) c)

theorem m1_111 (c : Fin 128) : lit0t1_1 (16384 + 111 * 128 + c.val) = if Lvl 2 111 c then 0x3F80#16 else 0#16 :=
  chase (F := lit0t0_239) (by unfold lit0t1_1; rw [show (16384 + 111 * 128 + c.val) / 128 % 128 = 111 by omega]; rfl) (by unfold lit0t0_239; rw [Nat.mod_mod]) (by omega)
    ((by decide +kernel : ∀ c : Fin 128, lit0t0_239 c.val = if Lvl 2 111 c then 0x3F80#16 else 0#16) c)

theorem m1_112 (c : Fin 128) : lit0t1_1 (16384 + 112 * 128 + c.val) = if Lvl 2 112 c then 0x3F80#16 else 0#16 :=
  chase (F := lit0t0_240) (by unfold lit0t1_1; rw [show (16384 + 112 * 128 + c.val) / 128 % 128 = 112 by omega]; rfl) (by unfold lit0t0_240; rw [Nat.mod_mod]) (by omega)
    ((by decide +kernel : ∀ c : Fin 128, lit0t0_240 c.val = if Lvl 2 112 c then 0x3F80#16 else 0#16) c)

theorem m1_113 (c : Fin 128) : lit0t1_1 (16384 + 113 * 128 + c.val) = if Lvl 2 113 c then 0x3F80#16 else 0#16 :=
  chase (F := lit0t0_241) (by unfold lit0t1_1; rw [show (16384 + 113 * 128 + c.val) / 128 % 128 = 113 by omega]; rfl) (by unfold lit0t0_241; rw [Nat.mod_mod]) (by omega)
    ((by decide +kernel : ∀ c : Fin 128, lit0t0_241 c.val = if Lvl 2 113 c then 0x3F80#16 else 0#16) c)

theorem m1_114 (c : Fin 128) : lit0t1_1 (16384 + 114 * 128 + c.val) = if Lvl 2 114 c then 0x3F80#16 else 0#16 :=
  chase (F := lit0t0_242) (by unfold lit0t1_1; rw [show (16384 + 114 * 128 + c.val) / 128 % 128 = 114 by omega]; rfl) (by unfold lit0t0_242; rw [Nat.mod_mod]) (by omega)
    ((by decide +kernel : ∀ c : Fin 128, lit0t0_242 c.val = if Lvl 2 114 c then 0x3F80#16 else 0#16) c)

theorem m1_115 (c : Fin 128) : lit0t1_1 (16384 + 115 * 128 + c.val) = if Lvl 2 115 c then 0x3F80#16 else 0#16 :=
  chase (F := lit0t0_243) (by unfold lit0t1_1; rw [show (16384 + 115 * 128 + c.val) / 128 % 128 = 115 by omega]; rfl) (by unfold lit0t0_243; rw [Nat.mod_mod]) (by omega)
    ((by decide +kernel : ∀ c : Fin 128, lit0t0_243 c.val = if Lvl 2 115 c then 0x3F80#16 else 0#16) c)

theorem m1_116 (c : Fin 128) : lit0t1_1 (16384 + 116 * 128 + c.val) = if Lvl 2 116 c then 0x3F80#16 else 0#16 :=
  chase (F := lit0t0_244) (by unfold lit0t1_1; rw [show (16384 + 116 * 128 + c.val) / 128 % 128 = 116 by omega]; rfl) (by unfold lit0t0_244; rw [Nat.mod_mod]) (by omega)
    ((by decide +kernel : ∀ c : Fin 128, lit0t0_244 c.val = if Lvl 2 116 c then 0x3F80#16 else 0#16) c)

theorem m1_117 (c : Fin 128) : lit0t1_1 (16384 + 117 * 128 + c.val) = if Lvl 2 117 c then 0x3F80#16 else 0#16 :=
  chase (F := lit0t0_245) (by unfold lit0t1_1; rw [show (16384 + 117 * 128 + c.val) / 128 % 128 = 117 by omega]; rfl) (by unfold lit0t0_245; rw [Nat.mod_mod]) (by omega)
    ((by decide +kernel : ∀ c : Fin 128, lit0t0_245 c.val = if Lvl 2 117 c then 0x3F80#16 else 0#16) c)

theorem m1_118 (c : Fin 128) : lit0t1_1 (16384 + 118 * 128 + c.val) = if Lvl 2 118 c then 0x3F80#16 else 0#16 :=
  chase (F := lit0t0_246) (by unfold lit0t1_1; rw [show (16384 + 118 * 128 + c.val) / 128 % 128 = 118 by omega]; rfl) (by unfold lit0t0_246; rw [Nat.mod_mod]) (by omega)
    ((by decide +kernel : ∀ c : Fin 128, lit0t0_246 c.val = if Lvl 2 118 c then 0x3F80#16 else 0#16) c)

theorem m1_119 (c : Fin 128) : lit0t1_1 (16384 + 119 * 128 + c.val) = if Lvl 2 119 c then 0x3F80#16 else 0#16 :=
  chase (F := lit0t0_247) (by unfold lit0t1_1; rw [show (16384 + 119 * 128 + c.val) / 128 % 128 = 119 by omega]; rfl) (by unfold lit0t0_247; rw [Nat.mod_mod]) (by omega)
    ((by decide +kernel : ∀ c : Fin 128, lit0t0_247 c.val = if Lvl 2 119 c then 0x3F80#16 else 0#16) c)

theorem m1_120 (c : Fin 128) : lit0t1_1 (16384 + 120 * 128 + c.val) = if Lvl 2 120 c then 0x3F80#16 else 0#16 :=
  chase (F := lit0t0_248) (by unfold lit0t1_1; rw [show (16384 + 120 * 128 + c.val) / 128 % 128 = 120 by omega]; rfl) (by unfold lit0t0_248; rw [Nat.mod_mod]) (by omega)
    ((by decide +kernel : ∀ c : Fin 128, lit0t0_248 c.val = if Lvl 2 120 c then 0x3F80#16 else 0#16) c)

theorem m1_121 (c : Fin 128) : lit0t1_1 (16384 + 121 * 128 + c.val) = if Lvl 2 121 c then 0x3F80#16 else 0#16 :=
  chase (F := lit0t0_249) (by unfold lit0t1_1; rw [show (16384 + 121 * 128 + c.val) / 128 % 128 = 121 by omega]; rfl) (by unfold lit0t0_249; rw [Nat.mod_mod]) (by omega)
    ((by decide +kernel : ∀ c : Fin 128, lit0t0_249 c.val = if Lvl 2 121 c then 0x3F80#16 else 0#16) c)

theorem m1_122 (c : Fin 128) : lit0t1_1 (16384 + 122 * 128 + c.val) = if Lvl 2 122 c then 0x3F80#16 else 0#16 :=
  chase (F := lit0t0_250) (by unfold lit0t1_1; rw [show (16384 + 122 * 128 + c.val) / 128 % 128 = 122 by omega]; rfl) (by unfold lit0t0_250; rw [Nat.mod_mod]) (by omega)
    ((by decide +kernel : ∀ c : Fin 128, lit0t0_250 c.val = if Lvl 2 122 c then 0x3F80#16 else 0#16) c)

theorem m1_123 (c : Fin 128) : lit0t1_1 (16384 + 123 * 128 + c.val) = if Lvl 2 123 c then 0x3F80#16 else 0#16 :=
  chase (F := lit0t0_251) (by unfold lit0t1_1; rw [show (16384 + 123 * 128 + c.val) / 128 % 128 = 123 by omega]; rfl) (by unfold lit0t0_251; rw [Nat.mod_mod]) (by omega)
    ((by decide +kernel : ∀ c : Fin 128, lit0t0_251 c.val = if Lvl 2 123 c then 0x3F80#16 else 0#16) c)

theorem m1_124 (c : Fin 128) : lit0t1_1 (16384 + 124 * 128 + c.val) = if Lvl 2 124 c then 0x3F80#16 else 0#16 :=
  chase (F := lit0t0_252) (by unfold lit0t1_1; rw [show (16384 + 124 * 128 + c.val) / 128 % 128 = 124 by omega]; rfl) (by unfold lit0t0_252; rw [Nat.mod_mod]) (by omega)
    ((by decide +kernel : ∀ c : Fin 128, lit0t0_252 c.val = if Lvl 2 124 c then 0x3F80#16 else 0#16) c)

theorem m1_125 (c : Fin 128) : lit0t1_1 (16384 + 125 * 128 + c.val) = if Lvl 2 125 c then 0x3F80#16 else 0#16 :=
  chase (F := lit0t0_253) (by unfold lit0t1_1; rw [show (16384 + 125 * 128 + c.val) / 128 % 128 = 125 by omega]; rfl) (by unfold lit0t0_253; rw [Nat.mod_mod]) (by omega)
    ((by decide +kernel : ∀ c : Fin 128, lit0t0_253 c.val = if Lvl 2 125 c then 0x3F80#16 else 0#16) c)

theorem m1_126 (c : Fin 128) : lit0t1_1 (16384 + 126 * 128 + c.val) = if Lvl 2 126 c then 0x3F80#16 else 0#16 :=
  chase (F := lit0t0_254) (by unfold lit0t1_1; rw [show (16384 + 126 * 128 + c.val) / 128 % 128 = 126 by omega]; rfl) (by unfold lit0t0_254; rw [Nat.mod_mod]) (by omega)
    ((by decide +kernel : ∀ c : Fin 128, lit0t0_254 c.val = if Lvl 2 126 c then 0x3F80#16 else 0#16) c)

theorem m1_127 (c : Fin 128) : lit0t1_1 (16384 + 127 * 128 + c.val) = if Lvl 2 127 c then 0x3F80#16 else 0#16 :=
  chase (F := lit0t0_255) (by unfold lit0t1_1; rw [show (16384 + 127 * 128 + c.val) / 128 % 128 = 127 by omega]; rfl) (by unfold lit0t0_255; rw [Nat.mod_mod]) (by omega)
    ((by decide +kernel : ∀ c : Fin 128, lit0t0_255 c.val = if Lvl 2 127 c then 0x3F80#16 else 0#16) c)

set_option maxHeartbeats 4000000 in
/-- Mask 1. -/
theorem mask1 (r c : Fin 128) : lit0t1_1 (16384 + r.val * 128 + c.val) = if Lvl 2 r c then 0x3F80#16 else 0#16 :=
  match r with
  | ⟨0, _⟩ => m1_0 c
  | ⟨1, _⟩ => m1_1 c
  | ⟨2, _⟩ => m1_2 c
  | ⟨3, _⟩ => m1_3 c
  | ⟨4, _⟩ => m1_4 c
  | ⟨5, _⟩ => m1_5 c
  | ⟨6, _⟩ => m1_6 c
  | ⟨7, _⟩ => m1_7 c
  | ⟨8, _⟩ => m1_8 c
  | ⟨9, _⟩ => m1_9 c
  | ⟨10, _⟩ => m1_10 c
  | ⟨11, _⟩ => m1_11 c
  | ⟨12, _⟩ => m1_12 c
  | ⟨13, _⟩ => m1_13 c
  | ⟨14, _⟩ => m1_14 c
  | ⟨15, _⟩ => m1_15 c
  | ⟨16, _⟩ => m1_16 c
  | ⟨17, _⟩ => m1_17 c
  | ⟨18, _⟩ => m1_18 c
  | ⟨19, _⟩ => m1_19 c
  | ⟨20, _⟩ => m1_20 c
  | ⟨21, _⟩ => m1_21 c
  | ⟨22, _⟩ => m1_22 c
  | ⟨23, _⟩ => m1_23 c
  | ⟨24, _⟩ => m1_24 c
  | ⟨25, _⟩ => m1_25 c
  | ⟨26, _⟩ => m1_26 c
  | ⟨27, _⟩ => m1_27 c
  | ⟨28, _⟩ => m1_28 c
  | ⟨29, _⟩ => m1_29 c
  | ⟨30, _⟩ => m1_30 c
  | ⟨31, _⟩ => m1_31 c
  | ⟨32, _⟩ => m1_32 c
  | ⟨33, _⟩ => m1_33 c
  | ⟨34, _⟩ => m1_34 c
  | ⟨35, _⟩ => m1_35 c
  | ⟨36, _⟩ => m1_36 c
  | ⟨37, _⟩ => m1_37 c
  | ⟨38, _⟩ => m1_38 c
  | ⟨39, _⟩ => m1_39 c
  | ⟨40, _⟩ => m1_40 c
  | ⟨41, _⟩ => m1_41 c
  | ⟨42, _⟩ => m1_42 c
  | ⟨43, _⟩ => m1_43 c
  | ⟨44, _⟩ => m1_44 c
  | ⟨45, _⟩ => m1_45 c
  | ⟨46, _⟩ => m1_46 c
  | ⟨47, _⟩ => m1_47 c
  | ⟨48, _⟩ => m1_48 c
  | ⟨49, _⟩ => m1_49 c
  | ⟨50, _⟩ => m1_50 c
  | ⟨51, _⟩ => m1_51 c
  | ⟨52, _⟩ => m1_52 c
  | ⟨53, _⟩ => m1_53 c
  | ⟨54, _⟩ => m1_54 c
  | ⟨55, _⟩ => m1_55 c
  | ⟨56, _⟩ => m1_56 c
  | ⟨57, _⟩ => m1_57 c
  | ⟨58, _⟩ => m1_58 c
  | ⟨59, _⟩ => m1_59 c
  | ⟨60, _⟩ => m1_60 c
  | ⟨61, _⟩ => m1_61 c
  | ⟨62, _⟩ => m1_62 c
  | ⟨63, _⟩ => m1_63 c
  | ⟨64, _⟩ => m1_64 c
  | ⟨65, _⟩ => m1_65 c
  | ⟨66, _⟩ => m1_66 c
  | ⟨67, _⟩ => m1_67 c
  | ⟨68, _⟩ => m1_68 c
  | ⟨69, _⟩ => m1_69 c
  | ⟨70, _⟩ => m1_70 c
  | ⟨71, _⟩ => m1_71 c
  | ⟨72, _⟩ => m1_72 c
  | ⟨73, _⟩ => m1_73 c
  | ⟨74, _⟩ => m1_74 c
  | ⟨75, _⟩ => m1_75 c
  | ⟨76, _⟩ => m1_76 c
  | ⟨77, _⟩ => m1_77 c
  | ⟨78, _⟩ => m1_78 c
  | ⟨79, _⟩ => m1_79 c
  | ⟨80, _⟩ => m1_80 c
  | ⟨81, _⟩ => m1_81 c
  | ⟨82, _⟩ => m1_82 c
  | ⟨83, _⟩ => m1_83 c
  | ⟨84, _⟩ => m1_84 c
  | ⟨85, _⟩ => m1_85 c
  | ⟨86, _⟩ => m1_86 c
  | ⟨87, _⟩ => m1_87 c
  | ⟨88, _⟩ => m1_88 c
  | ⟨89, _⟩ => m1_89 c
  | ⟨90, _⟩ => m1_90 c
  | ⟨91, _⟩ => m1_91 c
  | ⟨92, _⟩ => m1_92 c
  | ⟨93, _⟩ => m1_93 c
  | ⟨94, _⟩ => m1_94 c
  | ⟨95, _⟩ => m1_95 c
  | ⟨96, _⟩ => m1_96 c
  | ⟨97, _⟩ => m1_97 c
  | ⟨98, _⟩ => m1_98 c
  | ⟨99, _⟩ => m1_99 c
  | ⟨100, _⟩ => m1_100 c
  | ⟨101, _⟩ => m1_101 c
  | ⟨102, _⟩ => m1_102 c
  | ⟨103, _⟩ => m1_103 c
  | ⟨104, _⟩ => m1_104 c
  | ⟨105, _⟩ => m1_105 c
  | ⟨106, _⟩ => m1_106 c
  | ⟨107, _⟩ => m1_107 c
  | ⟨108, _⟩ => m1_108 c
  | ⟨109, _⟩ => m1_109 c
  | ⟨110, _⟩ => m1_110 c
  | ⟨111, _⟩ => m1_111 c
  | ⟨112, _⟩ => m1_112 c
  | ⟨113, _⟩ => m1_113 c
  | ⟨114, _⟩ => m1_114 c
  | ⟨115, _⟩ => m1_115 c
  | ⟨116, _⟩ => m1_116 c
  | ⟨117, _⟩ => m1_117 c
  | ⟨118, _⟩ => m1_118 c
  | ⟨119, _⟩ => m1_119 c
  | ⟨120, _⟩ => m1_120 c
  | ⟨121, _⟩ => m1_121 c
  | ⟨122, _⟩ => m1_122 c
  | ⟨123, _⟩ => m1_123 c
  | ⟨124, _⟩ => m1_124 c
  | ⟨125, _⟩ => m1_125 c
  | ⟨126, _⟩ => m1_126 c
  | ⟨127, _⟩ => m1_127 c
  | ⟨n + 128, h⟩ => absurd h (by omega)

end Cert.KernelIdeal.Value
-- ==== Proof.DeltaMask2.lean ====
/- Mask 2 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m2_0 (c : Fin 128) : lit0t1_2 (32768 + 0 * 128 + c.val) = if Lvl 4 0 c then 0x3F80#16 else 0#16 :=
  chase (F := lit0t0_256) (by unfold lit0t1_2; rw [show (32768 + 0 * 128 + c.val) / 128 % 128 = 0 by omega]; rfl) (by unfold lit0t0_256; rw [Nat.mod_mod]) (by omega)
    ((by decide +kernel : ∀ c : Fin 128, lit0t0_256 c.val = if Lvl 4 0 c then 0x3F80#16 else 0#16) c)

theorem m2_1 (c : Fin 128) : lit0t1_2 (32768 + 1 * 128 + c.val) = if Lvl 4 1 c then 0x3F80#16 else 0#16 :=
  chase (F := lit0t0_257) (by unfold lit0t1_2; rw [show (32768 + 1 * 128 + c.val) / 128 % 128 = 1 by omega]; rfl) (by unfold lit0t0_257; rw [Nat.mod_mod]) (by omega)
    ((by decide +kernel : ∀ c : Fin 128, lit0t0_257 c.val = if Lvl 4 1 c then 0x3F80#16 else 0#16) c)

theorem m2_2 (c : Fin 128) : lit0t1_2 (32768 + 2 * 128 + c.val) = if Lvl 4 2 c then 0x3F80#16 else 0#16 :=
  chase (F := lit0t0_258) (by unfold lit0t1_2; rw [show (32768 + 2 * 128 + c.val) / 128 % 128 = 2 by omega]; rfl) (by unfold lit0t0_258; rw [Nat.mod_mod]) (by omega)
    ((by decide +kernel : ∀ c : Fin 128, lit0t0_258 c.val = if Lvl 4 2 c then 0x3F80#16 else 0#16) c)

theorem m2_3 (c : Fin 128) : lit0t1_2 (32768 + 3 * 128 + c.val) = if Lvl 4 3 c then 0x3F80#16 else 0#16 :=
  chase (F := lit0t0_259) (by unfold lit0t1_2; rw [show (32768 + 3 * 128 + c.val) / 128 % 128 = 3 by omega]; rfl) (by unfold lit0t0_259; rw [Nat.mod_mod]) (by omega)
    ((by decide +kernel : ∀ c : Fin 128, lit0t0_259 c.val = if Lvl 4 3 c then 0x3F80#16 else 0#16) c)

theorem m2_4 (c : Fin 128) : lit0t1_2 (32768 + 4 * 128 + c.val) = if Lvl 4 4 c then 0x3F80#16 else 0#16 :=
  chase (F := lit0t0_260) (by unfold lit0t1_2; rw [show (32768 + 4 * 128 + c.val) / 128 % 128 = 4 by omega]; rfl) (by unfold lit0t0_260; rw [Nat.mod_mod]) (by omega)
    ((by decide +kernel : ∀ c : Fin 128, lit0t0_260 c.val = if Lvl 4 4 c then 0x3F80#16 else 0#16) c)

theorem m2_5 (c : Fin 128) : lit0t1_2 (32768 + 5 * 128 + c.val) = if Lvl 4 5 c then 0x3F80#16 else 0#16 :=
  chase (F := lit0t0_261) (by unfold lit0t1_2; rw [show (32768 + 5 * 128 + c.val) / 128 % 128 = 5 by omega]; rfl) (by unfold lit0t0_261; rw [Nat.mod_mod]) (by omega)
    ((by decide +kernel : ∀ c : Fin 128, lit0t0_261 c.val = if Lvl 4 5 c then 0x3F80#16 else 0#16) c)

theorem m2_6 (c : Fin 128) : lit0t1_2 (32768 + 6 * 128 + c.val) = if Lvl 4 6 c then 0x3F80#16 else 0#16 :=
  chase (F := lit0t0_262) (by unfold lit0t1_2; rw [show (32768 + 6 * 128 + c.val) / 128 % 128 = 6 by omega]; rfl) (by unfold lit0t0_262; rw [Nat.mod_mod]) (by omega)
    ((by decide +kernel : ∀ c : Fin 128, lit0t0_262 c.val = if Lvl 4 6 c then 0x3F80#16 else 0#16) c)

theorem m2_7 (c : Fin 128) : lit0t1_2 (32768 + 7 * 128 + c.val) = if Lvl 4 7 c then 0x3F80#16 else 0#16 :=
  chase (F := lit0t0_263) (by unfold lit0t1_2; rw [show (32768 + 7 * 128 + c.val) / 128 % 128 = 7 by omega]; rfl) (by unfold lit0t0_263; rw [Nat.mod_mod]) (by omega)
    ((by decide +kernel : ∀ c : Fin 128, lit0t0_263 c.val = if Lvl 4 7 c then 0x3F80#16 else 0#16) c)

theorem m2_8 (c : Fin 128) : lit0t1_2 (32768 + 8 * 128 + c.val) = if Lvl 4 8 c then 0x3F80#16 else 0#16 :=
  chase (F := lit0t0_264) (by unfold lit0t1_2; rw [show (32768 + 8 * 128 + c.val) / 128 % 128 = 8 by omega]; rfl) (by unfold lit0t0_264; rw [Nat.mod_mod]) (by omega)
    ((by decide +kernel : ∀ c : Fin 128, lit0t0_264 c.val = if Lvl 4 8 c then 0x3F80#16 else 0#16) c)

theorem m2_9 (c : Fin 128) : lit0t1_2 (32768 + 9 * 128 + c.val) = if Lvl 4 9 c then 0x3F80#16 else 0#16 :=
  chase (F := lit0t0_265) (by unfold lit0t1_2; rw [show (32768 + 9 * 128 + c.val) / 128 % 128 = 9 by omega]; rfl) (by unfold lit0t0_265; rw [Nat.mod_mod]) (by omega)
    ((by decide +kernel : ∀ c : Fin 128, lit0t0_265 c.val = if Lvl 4 9 c then 0x3F80#16 else 0#16) c)

theorem m2_10 (c : Fin 128) : lit0t1_2 (32768 + 10 * 128 + c.val) = if Lvl 4 10 c then 0x3F80#16 else 0#16 :=
  chase (F := lit0t0_266) (by unfold lit0t1_2; rw [show (32768 + 10 * 128 + c.val) / 128 % 128 = 10 by omega]; rfl) (by unfold lit0t0_266; rw [Nat.mod_mod]) (by omega)
    ((by decide +kernel : ∀ c : Fin 128, lit0t0_266 c.val = if Lvl 4 10 c then 0x3F80#16 else 0#16) c)

theorem m2_11 (c : Fin 128) : lit0t1_2 (32768 + 11 * 128 + c.val) = if Lvl 4 11 c then 0x3F80#16 else 0#16 :=
  chase (F := lit0t0_267) (by unfold lit0t1_2; rw [show (32768 + 11 * 128 + c.val) / 128 % 128 = 11 by omega]; rfl) (by unfold lit0t0_267; rw [Nat.mod_mod]) (by omega)
    ((by decide +kernel : ∀ c : Fin 128, lit0t0_267 c.val = if Lvl 4 11 c then 0x3F80#16 else 0#16) c)

theorem m2_12 (c : Fin 128) : lit0t1_2 (32768 + 12 * 128 + c.val) = if Lvl 4 12 c then 0x3F80#16 else 0#16 :=
  chase (F := lit0t0_268) (by unfold lit0t1_2; rw [show (32768 + 12 * 128 + c.val) / 128 % 128 = 12 by omega]; rfl) (by unfold lit0t0_268; rw [Nat.mod_mod]) (by omega)
    ((by decide +kernel : ∀ c : Fin 128, lit0t0_268 c.val = if Lvl 4 12 c then 0x3F80#16 else 0#16) c)

theorem m2_13 (c : Fin 128) : lit0t1_2 (32768 + 13 * 128 + c.val) = if Lvl 4 13 c then 0x3F80#16 else 0#16 :=
  chase (F := lit0t0_269) (by unfold lit0t1_2; rw [show (32768 + 13 * 128 + c.val) / 128 % 128 = 13 by omega]; rfl) (by unfold lit0t0_269; rw [Nat.mod_mod]) (by omega)
    ((by decide +kernel : ∀ c : Fin 128, lit0t0_269 c.val = if Lvl 4 13 c then 0x3F80#16 else 0#16) c)

theorem m2_14 (c : Fin 128) : lit0t1_2 (32768 + 14 * 128 + c.val) = if Lvl 4 14 c then 0x3F80#16 else 0#16 :=
  chase (F := lit0t0_270) (by unfold lit0t1_2; rw [show (32768 + 14 * 128 + c.val) / 128 % 128 = 14 by omega]; rfl) (by unfold lit0t0_270; rw [Nat.mod_mod]) (by omega)
    ((by decide +kernel : ∀ c : Fin 128, lit0t0_270 c.val = if Lvl 4 14 c then 0x3F80#16 else 0#16) c)

theorem m2_15 (c : Fin 128) : lit0t1_2 (32768 + 15 * 128 + c.val) = if Lvl 4 15 c then 0x3F80#16 else 0#16 :=
  chase (F := lit0t0_271) (by unfold lit0t1_2; rw [show (32768 + 15 * 128 + c.val) / 128 % 128 = 15 by omega]; rfl) (by unfold lit0t0_271; rw [Nat.mod_mod]) (by omega)
    ((by decide +kernel : ∀ c : Fin 128, lit0t0_271 c.val = if Lvl 4 15 c then 0x3F80#16 else 0#16) c)

theorem m2_16 (c : Fin 128) : lit0t1_2 (32768 + 16 * 128 + c.val) = if Lvl 4 16 c then 0x3F80#16 else 0#16 :=
  chase (F := lit0t0_272) (by unfold lit0t1_2; rw [show (32768 + 16 * 128 + c.val) / 128 % 128 = 16 by omega]; rfl) (by unfold lit0t0_272; rw [Nat.mod_mod]) (by omega)
    ((by decide +kernel : ∀ c : Fin 128, lit0t0_272 c.val = if Lvl 4 16 c then 0x3F80#16 else 0#16) c)

theorem m2_17 (c : Fin 128) : lit0t1_2 (32768 + 17 * 128 + c.val) = if Lvl 4 17 c then 0x3F80#16 else 0#16 :=
  chase (F := lit0t0_273) (by unfold lit0t1_2; rw [show (32768 + 17 * 128 + c.val) / 128 % 128 = 17 by omega]; rfl) (by unfold lit0t0_273; rw [Nat.mod_mod]) (by omega)
    ((by decide +kernel : ∀ c : Fin 128, lit0t0_273 c.val = if Lvl 4 17 c then 0x3F80#16 else 0#16) c)

theorem m2_18 (c : Fin 128) : lit0t1_2 (32768 + 18 * 128 + c.val) = if Lvl 4 18 c then 0x3F80#16 else 0#16 :=
  chase (F := lit0t0_274) (by unfold lit0t1_2; rw [show (32768 + 18 * 128 + c.val) / 128 % 128 = 18 by omega]; rfl) (by unfold lit0t0_274; rw [Nat.mod_mod]) (by omega)
    ((by decide +kernel : ∀ c : Fin 128, lit0t0_274 c.val = if Lvl 4 18 c then 0x3F80#16 else 0#16) c)

theorem m2_19 (c : Fin 128) : lit0t1_2 (32768 + 19 * 128 + c.val) = if Lvl 4 19 c then 0x3F80#16 else 0#16 :=
  chase (F := lit0t0_275) (by unfold lit0t1_2; rw [show (32768 + 19 * 128 + c.val) / 128 % 128 = 19 by omega]; rfl) (by unfold lit0t0_275; rw [Nat.mod_mod]) (by omega)
    ((by decide +kernel : ∀ c : Fin 128, lit0t0_275 c.val = if Lvl 4 19 c then 0x3F80#16 else 0#16) c)

theorem m2_20 (c : Fin 128) : lit0t1_2 (32768 + 20 * 128 + c.val) = if Lvl 4 20 c then 0x3F80#16 else 0#16 :=
  chase (F := lit0t0_276) (by unfold lit0t1_2; rw [show (32768 + 20 * 128 + c.val) / 128 % 128 = 20 by omega]; rfl) (by unfold lit0t0_276; rw [Nat.mod_mod]) (by omega)
    ((by decide +kernel : ∀ c : Fin 128, lit0t0_276 c.val = if Lvl 4 20 c then 0x3F80#16 else 0#16) c)

theorem m2_21 (c : Fin 128) : lit0t1_2 (32768 + 21 * 128 + c.val) = if Lvl 4 21 c then 0x3F80#16 else 0#16 :=
  chase (F := lit0t0_277) (by unfold lit0t1_2; rw [show (32768 + 21 * 128 + c.val) / 128 % 128 = 21 by omega]; rfl) (by unfold lit0t0_277; rw [Nat.mod_mod]) (by omega)
    ((by decide +kernel : ∀ c : Fin 128, lit0t0_277 c.val = if Lvl 4 21 c then 0x3F80#16 else 0#16) c)

theorem m2_22 (c : Fin 128) : lit0t1_2 (32768 + 22 * 128 + c.val) = if Lvl 4 22 c then 0x3F80#16 else 0#16 :=
  chase (F := lit0t0_278) (by unfold lit0t1_2; rw [show (32768 + 22 * 128 + c.val) / 128 % 128 = 22 by omega]; rfl) (by unfold lit0t0_278; rw [Nat.mod_mod]) (by omega)
    ((by decide +kernel : ∀ c : Fin 128, lit0t0_278 c.val = if Lvl 4 22 c then 0x3F80#16 else 0#16) c)

theorem m2_23 (c : Fin 128) : lit0t1_2 (32768 + 23 * 128 + c.val) = if Lvl 4 23 c then 0x3F80#16 else 0#16 :=
  chase (F := lit0t0_279) (by unfold lit0t1_2; rw [show (32768 + 23 * 128 + c.val) / 128 % 128 = 23 by omega]; rfl) (by unfold lit0t0_279; rw [Nat.mod_mod]) (by omega)
    ((by decide +kernel : ∀ c : Fin 128, lit0t0_279 c.val = if Lvl 4 23 c then 0x3F80#16 else 0#16) c)

theorem m2_24 (c : Fin 128) : lit0t1_2 (32768 + 24 * 128 + c.val) = if Lvl 4 24 c then 0x3F80#16 else 0#16 :=
  chase (F := lit0t0_280) (by unfold lit0t1_2; rw [show (32768 + 24 * 128 + c.val) / 128 % 128 = 24 by omega]; rfl) (by unfold lit0t0_280; rw [Nat.mod_mod]) (by omega)
    ((by decide +kernel : ∀ c : Fin 128, lit0t0_280 c.val = if Lvl 4 24 c then 0x3F80#16 else 0#16) c)

theorem m2_25 (c : Fin 128) : lit0t1_2 (32768 + 25 * 128 + c.val) = if Lvl 4 25 c then 0x3F80#16 else 0#16 :=
  chase (F := lit0t0_281) (by unfold lit0t1_2; rw [show (32768 + 25 * 128 + c.val) / 128 % 128 = 25 by omega]; rfl) (by unfold lit0t0_281; rw [Nat.mod_mod]) (by omega)
    ((by decide +kernel : ∀ c : Fin 128, lit0t0_281 c.val = if Lvl 4 25 c then 0x3F80#16 else 0#16) c)

theorem m2_26 (c : Fin 128) : lit0t1_2 (32768 + 26 * 128 + c.val) = if Lvl 4 26 c then 0x3F80#16 else 0#16 :=
  chase (F := lit0t0_282) (by unfold lit0t1_2; rw [show (32768 + 26 * 128 + c.val) / 128 % 128 = 26 by omega]; rfl) (by unfold lit0t0_282; rw [Nat.mod_mod]) (by omega)
    ((by decide +kernel : ∀ c : Fin 128, lit0t0_282 c.val = if Lvl 4 26 c then 0x3F80#16 else 0#16) c)

theorem m2_27 (c : Fin 128) : lit0t1_2 (32768 + 27 * 128 + c.val) = if Lvl 4 27 c then 0x3F80#16 else 0#16 :=
  chase (F := lit0t0_283) (by unfold lit0t1_2; rw [show (32768 + 27 * 128 + c.val) / 128 % 128 = 27 by omega]; rfl) (by unfold lit0t0_283; rw [Nat.mod_mod]) (by omega)
    ((by decide +kernel : ∀ c : Fin 128, lit0t0_283 c.val = if Lvl 4 27 c then 0x3F80#16 else 0#16) c)

theorem m2_28 (c : Fin 128) : lit0t1_2 (32768 + 28 * 128 + c.val) = if Lvl 4 28 c then 0x3F80#16 else 0#16 :=
  chase (F := lit0t0_284) (by unfold lit0t1_2; rw [show (32768 + 28 * 128 + c.val) / 128 % 128 = 28 by omega]; rfl) (by unfold lit0t0_284; rw [Nat.mod_mod]) (by omega)
    ((by decide +kernel : ∀ c : Fin 128, lit0t0_284 c.val = if Lvl 4 28 c then 0x3F80#16 else 0#16) c)

theorem m2_29 (c : Fin 128) : lit0t1_2 (32768 + 29 * 128 + c.val) = if Lvl 4 29 c then 0x3F80#16 else 0#16 :=
  chase (F := lit0t0_285) (by unfold lit0t1_2; rw [show (32768 + 29 * 128 + c.val) / 128 % 128 = 29 by omega]; rfl) (by unfold lit0t0_285; rw [Nat.mod_mod]) (by omega)
    ((by decide +kernel : ∀ c : Fin 128, lit0t0_285 c.val = if Lvl 4 29 c then 0x3F80#16 else 0#16) c)

theorem m2_30 (c : Fin 128) : lit0t1_2 (32768 + 30 * 128 + c.val) = if Lvl 4 30 c then 0x3F80#16 else 0#16 :=
  chase (F := lit0t0_286) (by unfold lit0t1_2; rw [show (32768 + 30 * 128 + c.val) / 128 % 128 = 30 by omega]; rfl) (by unfold lit0t0_286; rw [Nat.mod_mod]) (by omega)
    ((by decide +kernel : ∀ c : Fin 128, lit0t0_286 c.val = if Lvl 4 30 c then 0x3F80#16 else 0#16) c)

theorem m2_31 (c : Fin 128) : lit0t1_2 (32768 + 31 * 128 + c.val) = if Lvl 4 31 c then 0x3F80#16 else 0#16 :=
  chase (F := lit0t0_287) (by unfold lit0t1_2; rw [show (32768 + 31 * 128 + c.val) / 128 % 128 = 31 by omega]; rfl) (by unfold lit0t0_287; rw [Nat.mod_mod]) (by omega)
    ((by decide +kernel : ∀ c : Fin 128, lit0t0_287 c.val = if Lvl 4 31 c then 0x3F80#16 else 0#16) c)

theorem m2_32 (c : Fin 128) : lit0t1_2 (32768 + 32 * 128 + c.val) = if Lvl 4 32 c then 0x3F80#16 else 0#16 :=
  chase (F := lit0t0_288) (by unfold lit0t1_2; rw [show (32768 + 32 * 128 + c.val) / 128 % 128 = 32 by omega]; rfl) (by unfold lit0t0_288; rw [Nat.mod_mod]) (by omega)
    ((by decide +kernel : ∀ c : Fin 128, lit0t0_288 c.val = if Lvl 4 32 c then 0x3F80#16 else 0#16) c)

theorem m2_33 (c : Fin 128) : lit0t1_2 (32768 + 33 * 128 + c.val) = if Lvl 4 33 c then 0x3F80#16 else 0#16 :=
  chase (F := lit0t0_289) (by unfold lit0t1_2; rw [show (32768 + 33 * 128 + c.val) / 128 % 128 = 33 by omega]; rfl) (by unfold lit0t0_289; rw [Nat.mod_mod]) (by omega)
    ((by decide +kernel : ∀ c : Fin 128, lit0t0_289 c.val = if Lvl 4 33 c then 0x3F80#16 else 0#16) c)

theorem m2_34 (c : Fin 128) : lit0t1_2 (32768 + 34 * 128 + c.val) = if Lvl 4 34 c then 0x3F80#16 else 0#16 :=
  chase (F := lit0t0_290) (by unfold lit0t1_2; rw [show (32768 + 34 * 128 + c.val) / 128 % 128 = 34 by omega]; rfl) (by unfold lit0t0_290; rw [Nat.mod_mod]) (by omega)
    ((by decide +kernel : ∀ c : Fin 128, lit0t0_290 c.val = if Lvl 4 34 c then 0x3F80#16 else 0#16) c)

theorem m2_35 (c : Fin 128) : lit0t1_2 (32768 + 35 * 128 + c.val) = if Lvl 4 35 c then 0x3F80#16 else 0#16 :=
  chase (F := lit0t0_291) (by unfold lit0t1_2; rw [show (32768 + 35 * 128 + c.val) / 128 % 128 = 35 by omega]; rfl) (by unfold lit0t0_291; rw [Nat.mod_mod]) (by omega)
    ((by decide +kernel : ∀ c : Fin 128, lit0t0_291 c.val = if Lvl 4 35 c then 0x3F80#16 else 0#16) c)

theorem m2_36 (c : Fin 128) : lit0t1_2 (32768 + 36 * 128 + c.val) = if Lvl 4 36 c then 0x3F80#16 else 0#16 :=
  chase (F := lit0t0_292) (by unfold lit0t1_2; rw [show (32768 + 36 * 128 + c.val) / 128 % 128 = 36 by omega]; rfl) (by unfold lit0t0_292; rw [Nat.mod_mod]) (by omega)
    ((by decide +kernel : ∀ c : Fin 128, lit0t0_292 c.val = if Lvl 4 36 c then 0x3F80#16 else 0#16) c)

theorem m2_37 (c : Fin 128) : lit0t1_2 (32768 + 37 * 128 + c.val) = if Lvl 4 37 c then 0x3F80#16 else 0#16 :=
  chase (F := lit0t0_293) (by unfold lit0t1_2; rw [show (32768 + 37 * 128 + c.val) / 128 % 128 = 37 by omega]; rfl) (by unfold lit0t0_293; rw [Nat.mod_mod]) (by omega)
    ((by decide +kernel : ∀ c : Fin 128, lit0t0_293 c.val = if Lvl 4 37 c then 0x3F80#16 else 0#16) c)

theorem m2_38 (c : Fin 128) : lit0t1_2 (32768 + 38 * 128 + c.val) = if Lvl 4 38 c then 0x3F80#16 else 0#16 :=
  chase (F := lit0t0_294) (by unfold lit0t1_2; rw [show (32768 + 38 * 128 + c.val) / 128 % 128 = 38 by omega]; rfl) (by unfold lit0t0_294; rw [Nat.mod_mod]) (by omega)
    ((by decide +kernel : ∀ c : Fin 128, lit0t0_294 c.val = if Lvl 4 38 c then 0x3F80#16 else 0#16) c)

theorem m2_39 (c : Fin 128) : lit0t1_2 (32768 + 39 * 128 + c.val) = if Lvl 4 39 c then 0x3F80#16 else 0#16 :=
  chase (F := lit0t0_295) (by unfold lit0t1_2; rw [show (32768 + 39 * 128 + c.val) / 128 % 128 = 39 by omega]; rfl) (by unfold lit0t0_295; rw [Nat.mod_mod]) (by omega)
    ((by decide +kernel : ∀ c : Fin 128, lit0t0_295 c.val = if Lvl 4 39 c then 0x3F80#16 else 0#16) c)

theorem m2_40 (c : Fin 128) : lit0t1_2 (32768 + 40 * 128 + c.val) = if Lvl 4 40 c then 0x3F80#16 else 0#16 :=
  chase (F := lit0t0_296) (by unfold lit0t1_2; rw [show (32768 + 40 * 128 + c.val) / 128 % 128 = 40 by omega]; rfl) (by unfold lit0t0_296; rw [Nat.mod_mod]) (by omega)
    ((by decide +kernel : ∀ c : Fin 128, lit0t0_296 c.val = if Lvl 4 40 c then 0x3F80#16 else 0#16) c)

theorem m2_41 (c : Fin 128) : lit0t1_2 (32768 + 41 * 128 + c.val) = if Lvl 4 41 c then 0x3F80#16 else 0#16 :=
  chase (F := lit0t0_297) (by unfold lit0t1_2; rw [show (32768 + 41 * 128 + c.val) / 128 % 128 = 41 by omega]; rfl) (by unfold lit0t0_297; rw [Nat.mod_mod]) (by omega)
    ((by decide +kernel : ∀ c : Fin 128, lit0t0_297 c.val = if Lvl 4 41 c then 0x3F80#16 else 0#16) c)

theorem m2_42 (c : Fin 128) : lit0t1_2 (32768 + 42 * 128 + c.val) = if Lvl 4 42 c then 0x3F80#16 else 0#16 :=
  chase (F := lit0t0_298) (by unfold lit0t1_2; rw [show (32768 + 42 * 128 + c.val) / 128 % 128 = 42 by omega]; rfl) (by unfold lit0t0_298; rw [Nat.mod_mod]) (by omega)
    ((by decide +kernel : ∀ c : Fin 128, lit0t0_298 c.val = if Lvl 4 42 c then 0x3F80#16 else 0#16) c)

theorem m2_43 (c : Fin 128) : lit0t1_2 (32768 + 43 * 128 + c.val) = if Lvl 4 43 c then 0x3F80#16 else 0#16 :=
  chase (F := lit0t0_299) (by unfold lit0t1_2; rw [show (32768 + 43 * 128 + c.val) / 128 % 128 = 43 by omega]; rfl) (by unfold lit0t0_299; rw [Nat.mod_mod]) (by omega)
    ((by decide +kernel : ∀ c : Fin 128, lit0t0_299 c.val = if Lvl 4 43 c then 0x3F80#16 else 0#16) c)

theorem m2_44 (c : Fin 128) : lit0t1_2 (32768 + 44 * 128 + c.val) = if Lvl 4 44 c then 0x3F80#16 else 0#16 :=
  chase (F := lit0t0_300) (by unfold lit0t1_2; rw [show (32768 + 44 * 128 + c.val) / 128 % 128 = 44 by omega]; rfl) (by unfold lit0t0_300; rw [Nat.mod_mod]) (by omega)
    ((by decide +kernel : ∀ c : Fin 128, lit0t0_300 c.val = if Lvl 4 44 c then 0x3F80#16 else 0#16) c)

theorem m2_45 (c : Fin 128) : lit0t1_2 (32768 + 45 * 128 + c.val) = if Lvl 4 45 c then 0x3F80#16 else 0#16 :=
  chase (F := lit0t0_301) (by unfold lit0t1_2; rw [show (32768 + 45 * 128 + c.val) / 128 % 128 = 45 by omega]; rfl) (by unfold lit0t0_301; rw [Nat.mod_mod]) (by omega)
    ((by decide +kernel : ∀ c : Fin 128, lit0t0_301 c.val = if Lvl 4 45 c then 0x3F80#16 else 0#16) c)

theorem m2_46 (c : Fin 128) : lit0t1_2 (32768 + 46 * 128 + c.val) = if Lvl 4 46 c then 0x3F80#16 else 0#16 :=
  chase (F := lit0t0_302) (by unfold lit0t1_2; rw [show (32768 + 46 * 128 + c.val) / 128 % 128 = 46 by omega]; rfl) (by unfold lit0t0_302; rw [Nat.mod_mod]) (by omega)
    ((by decide +kernel : ∀ c : Fin 128, lit0t0_302 c.val = if Lvl 4 46 c then 0x3F80#16 else 0#16) c)

theorem m2_47 (c : Fin 128) : lit0t1_2 (32768 + 47 * 128 + c.val) = if Lvl 4 47 c then 0x3F80#16 else 0#16 :=
  chase (F := lit0t0_303) (by unfold lit0t1_2; rw [show (32768 + 47 * 128 + c.val) / 128 % 128 = 47 by omega]; rfl) (by unfold lit0t0_303; rw [Nat.mod_mod]) (by omega)
    ((by decide +kernel : ∀ c : Fin 128, lit0t0_303 c.val = if Lvl 4 47 c then 0x3F80#16 else 0#16) c)

theorem m2_48 (c : Fin 128) : lit0t1_2 (32768 + 48 * 128 + c.val) = if Lvl 4 48 c then 0x3F80#16 else 0#16 :=
  chase (F := lit0t0_304) (by unfold lit0t1_2; rw [show (32768 + 48 * 128 + c.val) / 128 % 128 = 48 by omega]; rfl) (by unfold lit0t0_304; rw [Nat.mod_mod]) (by omega)
    ((by decide +kernel : ∀ c : Fin 128, lit0t0_304 c.val = if Lvl 4 48 c then 0x3F80#16 else 0#16) c)

theorem m2_49 (c : Fin 128) : lit0t1_2 (32768 + 49 * 128 + c.val) = if Lvl 4 49 c then 0x3F80#16 else 0#16 :=
  chase (F := lit0t0_305) (by unfold lit0t1_2; rw [show (32768 + 49 * 128 + c.val) / 128 % 128 = 49 by omega]; rfl) (by unfold lit0t0_305; rw [Nat.mod_mod]) (by omega)
    ((by decide +kernel : ∀ c : Fin 128, lit0t0_305 c.val = if Lvl 4 49 c then 0x3F80#16 else 0#16) c)

theorem m2_50 (c : Fin 128) : lit0t1_2 (32768 + 50 * 128 + c.val) = if Lvl 4 50 c then 0x3F80#16 else 0#16 :=
  chase (F := lit0t0_306) (by unfold lit0t1_2; rw [show (32768 + 50 * 128 + c.val) / 128 % 128 = 50 by omega]; rfl) (by unfold lit0t0_306; rw [Nat.mod_mod]) (by omega)
    ((by decide +kernel : ∀ c : Fin 128, lit0t0_306 c.val = if Lvl 4 50 c then 0x3F80#16 else 0#16) c)

theorem m2_51 (c : Fin 128) : lit0t1_2 (32768 + 51 * 128 + c.val) = if Lvl 4 51 c then 0x3F80#16 else 0#16 :=
  chase (F := lit0t0_307) (by unfold lit0t1_2; rw [show (32768 + 51 * 128 + c.val) / 128 % 128 = 51 by omega]; rfl) (by unfold lit0t0_307; rw [Nat.mod_mod]) (by omega)
    ((by decide +kernel : ∀ c : Fin 128, lit0t0_307 c.val = if Lvl 4 51 c then 0x3F80#16 else 0#16) c)

theorem m2_52 (c : Fin 128) : lit0t1_2 (32768 + 52 * 128 + c.val) = if Lvl 4 52 c then 0x3F80#16 else 0#16 :=
  chase (F := lit0t0_308) (by unfold lit0t1_2; rw [show (32768 + 52 * 128 + c.val) / 128 % 128 = 52 by omega]; rfl) (by unfold lit0t0_308; rw [Nat.mod_mod]) (by omega)
    ((by decide +kernel : ∀ c : Fin 128, lit0t0_308 c.val = if Lvl 4 52 c then 0x3F80#16 else 0#16) c)

theorem m2_53 (c : Fin 128) : lit0t1_2 (32768 + 53 * 128 + c.val) = if Lvl 4 53 c then 0x3F80#16 else 0#16 :=
  chase (F := lit0t0_309) (by unfold lit0t1_2; rw [show (32768 + 53 * 128 + c.val) / 128 % 128 = 53 by omega]; rfl) (by unfold lit0t0_309; rw [Nat.mod_mod]) (by omega)
    ((by decide +kernel : ∀ c : Fin 128, lit0t0_309 c.val = if Lvl 4 53 c then 0x3F80#16 else 0#16) c)

theorem m2_54 (c : Fin 128) : lit0t1_2 (32768 + 54 * 128 + c.val) = if Lvl 4 54 c then 0x3F80#16 else 0#16 :=
  chase (F := lit0t0_310) (by unfold lit0t1_2; rw [show (32768 + 54 * 128 + c.val) / 128 % 128 = 54 by omega]; rfl) (by unfold lit0t0_310; rw [Nat.mod_mod]) (by omega)
    ((by decide +kernel : ∀ c : Fin 128, lit0t0_310 c.val = if Lvl 4 54 c then 0x3F80#16 else 0#16) c)

theorem m2_55 (c : Fin 128) : lit0t1_2 (32768 + 55 * 128 + c.val) = if Lvl 4 55 c then 0x3F80#16 else 0#16 :=
  chase (F := lit0t0_311) (by unfold lit0t1_2; rw [show (32768 + 55 * 128 + c.val) / 128 % 128 = 55 by omega]; rfl) (by unfold lit0t0_311; rw [Nat.mod_mod]) (by omega)
    ((by decide +kernel : ∀ c : Fin 128, lit0t0_311 c.val = if Lvl 4 55 c then 0x3F80#16 else 0#16) c)

theorem m2_56 (c : Fin 128) : lit0t1_2 (32768 + 56 * 128 + c.val) = if Lvl 4 56 c then 0x3F80#16 else 0#16 :=
  chase (F := lit0t0_312) (by unfold lit0t1_2; rw [show (32768 + 56 * 128 + c.val) / 128 % 128 = 56 by omega]; rfl) (by unfold lit0t0_312; rw [Nat.mod_mod]) (by omega)
    ((by decide +kernel : ∀ c : Fin 128, lit0t0_312 c.val = if Lvl 4 56 c then 0x3F80#16 else 0#16) c)

theorem m2_57 (c : Fin 128) : lit0t1_2 (32768 + 57 * 128 + c.val) = if Lvl 4 57 c then 0x3F80#16 else 0#16 :=
  chase (F := lit0t0_313) (by unfold lit0t1_2; rw [show (32768 + 57 * 128 + c.val) / 128 % 128 = 57 by omega]; rfl) (by unfold lit0t0_313; rw [Nat.mod_mod]) (by omega)
    ((by decide +kernel : ∀ c : Fin 128, lit0t0_313 c.val = if Lvl 4 57 c then 0x3F80#16 else 0#16) c)

theorem m2_58 (c : Fin 128) : lit0t1_2 (32768 + 58 * 128 + c.val) = if Lvl 4 58 c then 0x3F80#16 else 0#16 :=
  chase (F := lit0t0_314) (by unfold lit0t1_2; rw [show (32768 + 58 * 128 + c.val) / 128 % 128 = 58 by omega]; rfl) (by unfold lit0t0_314; rw [Nat.mod_mod]) (by omega)
    ((by decide +kernel : ∀ c : Fin 128, lit0t0_314 c.val = if Lvl 4 58 c then 0x3F80#16 else 0#16) c)

theorem m2_59 (c : Fin 128) : lit0t1_2 (32768 + 59 * 128 + c.val) = if Lvl 4 59 c then 0x3F80#16 else 0#16 :=
  chase (F := lit0t0_315) (by unfold lit0t1_2; rw [show (32768 + 59 * 128 + c.val) / 128 % 128 = 59 by omega]; rfl) (by unfold lit0t0_315; rw [Nat.mod_mod]) (by omega)
    ((by decide +kernel : ∀ c : Fin 128, lit0t0_315 c.val = if Lvl 4 59 c then 0x3F80#16 else 0#16) c)

theorem m2_60 (c : Fin 128) : lit0t1_2 (32768 + 60 * 128 + c.val) = if Lvl 4 60 c then 0x3F80#16 else 0#16 :=
  chase (F := lit0t0_316) (by unfold lit0t1_2; rw [show (32768 + 60 * 128 + c.val) / 128 % 128 = 60 by omega]; rfl) (by unfold lit0t0_316; rw [Nat.mod_mod]) (by omega)
    ((by decide +kernel : ∀ c : Fin 128, lit0t0_316 c.val = if Lvl 4 60 c then 0x3F80#16 else 0#16) c)

theorem m2_61 (c : Fin 128) : lit0t1_2 (32768 + 61 * 128 + c.val) = if Lvl 4 61 c then 0x3F80#16 else 0#16 :=
  chase (F := lit0t0_317) (by unfold lit0t1_2; rw [show (32768 + 61 * 128 + c.val) / 128 % 128 = 61 by omega]; rfl) (by unfold lit0t0_317; rw [Nat.mod_mod]) (by omega)
    ((by decide +kernel : ∀ c : Fin 128, lit0t0_317 c.val = if Lvl 4 61 c then 0x3F80#16 else 0#16) c)

theorem m2_62 (c : Fin 128) : lit0t1_2 (32768 + 62 * 128 + c.val) = if Lvl 4 62 c then 0x3F80#16 else 0#16 :=
  chase (F := lit0t0_318) (by unfold lit0t1_2; rw [show (32768 + 62 * 128 + c.val) / 128 % 128 = 62 by omega]; rfl) (by unfold lit0t0_318; rw [Nat.mod_mod]) (by omega)
    ((by decide +kernel : ∀ c : Fin 128, lit0t0_318 c.val = if Lvl 4 62 c then 0x3F80#16 else 0#16) c)

theorem m2_63 (c : Fin 128) : lit0t1_2 (32768 + 63 * 128 + c.val) = if Lvl 4 63 c then 0x3F80#16 else 0#16 :=
  chase (F := lit0t0_319) (by unfold lit0t1_2; rw [show (32768 + 63 * 128 + c.val) / 128 % 128 = 63 by omega]; rfl) (by unfold lit0t0_319; rw [Nat.mod_mod]) (by omega)
    ((by decide +kernel : ∀ c : Fin 128, lit0t0_319 c.val = if Lvl 4 63 c then 0x3F80#16 else 0#16) c)

theorem m2_64 (c : Fin 128) : lit0t1_2 (32768 + 64 * 128 + c.val) = if Lvl 4 64 c then 0x3F80#16 else 0#16 :=
  chase (F := lit0t0_320) (by unfold lit0t1_2; rw [show (32768 + 64 * 128 + c.val) / 128 % 128 = 64 by omega]; rfl) (by unfold lit0t0_320; rw [Nat.mod_mod]) (by omega)
    ((by decide +kernel : ∀ c : Fin 128, lit0t0_320 c.val = if Lvl 4 64 c then 0x3F80#16 else 0#16) c)

theorem m2_65 (c : Fin 128) : lit0t1_2 (32768 + 65 * 128 + c.val) = if Lvl 4 65 c then 0x3F80#16 else 0#16 :=
  chase (F := lit0t0_321) (by unfold lit0t1_2; rw [show (32768 + 65 * 128 + c.val) / 128 % 128 = 65 by omega]; rfl) (by unfold lit0t0_321; rw [Nat.mod_mod]) (by omega)
    ((by decide +kernel : ∀ c : Fin 128, lit0t0_321 c.val = if Lvl 4 65 c then 0x3F80#16 else 0#16) c)

theorem m2_66 (c : Fin 128) : lit0t1_2 (32768 + 66 * 128 + c.val) = if Lvl 4 66 c then 0x3F80#16 else 0#16 :=
  chase (F := lit0t0_322) (by unfold lit0t1_2; rw [show (32768 + 66 * 128 + c.val) / 128 % 128 = 66 by omega]; rfl) (by unfold lit0t0_322; rw [Nat.mod_mod]) (by omega)
    ((by decide +kernel : ∀ c : Fin 128, lit0t0_322 c.val = if Lvl 4 66 c then 0x3F80#16 else 0#16) c)

theorem m2_67 (c : Fin 128) : lit0t1_2 (32768 + 67 * 128 + c.val) = if Lvl 4 67 c then 0x3F80#16 else 0#16 :=
  chase (F := lit0t0_323) (by unfold lit0t1_2; rw [show (32768 + 67 * 128 + c.val) / 128 % 128 = 67 by omega]; rfl) (by unfold lit0t0_323; rw [Nat.mod_mod]) (by omega)
    ((by decide +kernel : ∀ c : Fin 128, lit0t0_323 c.val = if Lvl 4 67 c then 0x3F80#16 else 0#16) c)

theorem m2_68 (c : Fin 128) : lit0t1_2 (32768 + 68 * 128 + c.val) = if Lvl 4 68 c then 0x3F80#16 else 0#16 :=
  chase (F := lit0t0_324) (by unfold lit0t1_2; rw [show (32768 + 68 * 128 + c.val) / 128 % 128 = 68 by omega]; rfl) (by unfold lit0t0_324; rw [Nat.mod_mod]) (by omega)
    ((by decide +kernel : ∀ c : Fin 128, lit0t0_324 c.val = if Lvl 4 68 c then 0x3F80#16 else 0#16) c)

theorem m2_69 (c : Fin 128) : lit0t1_2 (32768 + 69 * 128 + c.val) = if Lvl 4 69 c then 0x3F80#16 else 0#16 :=
  chase (F := lit0t0_325) (by unfold lit0t1_2; rw [show (32768 + 69 * 128 + c.val) / 128 % 128 = 69 by omega]; rfl) (by unfold lit0t0_325; rw [Nat.mod_mod]) (by omega)
    ((by decide +kernel : ∀ c : Fin 128, lit0t0_325 c.val = if Lvl 4 69 c then 0x3F80#16 else 0#16) c)

theorem m2_70 (c : Fin 128) : lit0t1_2 (32768 + 70 * 128 + c.val) = if Lvl 4 70 c then 0x3F80#16 else 0#16 :=
  chase (F := lit0t0_326) (by unfold lit0t1_2; rw [show (32768 + 70 * 128 + c.val) / 128 % 128 = 70 by omega]; rfl) (by unfold lit0t0_326; rw [Nat.mod_mod]) (by omega)
    ((by decide +kernel : ∀ c : Fin 128, lit0t0_326 c.val = if Lvl 4 70 c then 0x3F80#16 else 0#16) c)

theorem m2_71 (c : Fin 128) : lit0t1_2 (32768 + 71 * 128 + c.val) = if Lvl 4 71 c then 0x3F80#16 else 0#16 :=
  chase (F := lit0t0_327) (by unfold lit0t1_2; rw [show (32768 + 71 * 128 + c.val) / 128 % 128 = 71 by omega]; rfl) (by unfold lit0t0_327; rw [Nat.mod_mod]) (by omega)
    ((by decide +kernel : ∀ c : Fin 128, lit0t0_327 c.val = if Lvl 4 71 c then 0x3F80#16 else 0#16) c)

theorem m2_72 (c : Fin 128) : lit0t1_2 (32768 + 72 * 128 + c.val) = if Lvl 4 72 c then 0x3F80#16 else 0#16 :=
  chase (F := lit0t0_328) (by unfold lit0t1_2; rw [show (32768 + 72 * 128 + c.val) / 128 % 128 = 72 by omega]; rfl) (by unfold lit0t0_328; rw [Nat.mod_mod]) (by omega)
    ((by decide +kernel : ∀ c : Fin 128, lit0t0_328 c.val = if Lvl 4 72 c then 0x3F80#16 else 0#16) c)

theorem m2_73 (c : Fin 128) : lit0t1_2 (32768 + 73 * 128 + c.val) = if Lvl 4 73 c then 0x3F80#16 else 0#16 :=
  chase (F := lit0t0_329) (by unfold lit0t1_2; rw [show (32768 + 73 * 128 + c.val) / 128 % 128 = 73 by omega]; rfl) (by unfold lit0t0_329; rw [Nat.mod_mod]) (by omega)
    ((by decide +kernel : ∀ c : Fin 128, lit0t0_329 c.val = if Lvl 4 73 c then 0x3F80#16 else 0#16) c)

theorem m2_74 (c : Fin 128) : lit0t1_2 (32768 + 74 * 128 + c.val) = if Lvl 4 74 c then 0x3F80#16 else 0#16 :=
  chase (F := lit0t0_330) (by unfold lit0t1_2; rw [show (32768 + 74 * 128 + c.val) / 128 % 128 = 74 by omega]; rfl) (by unfold lit0t0_330; rw [Nat.mod_mod]) (by omega)
    ((by decide +kernel : ∀ c : Fin 128, lit0t0_330 c.val = if Lvl 4 74 c then 0x3F80#16 else 0#16) c)

theorem m2_75 (c : Fin 128) : lit0t1_2 (32768 + 75 * 128 + c.val) = if Lvl 4 75 c then 0x3F80#16 else 0#16 :=
  chase (F := lit0t0_331) (by unfold lit0t1_2; rw [show (32768 + 75 * 128 + c.val) / 128 % 128 = 75 by omega]; rfl) (by unfold lit0t0_331; rw [Nat.mod_mod]) (by omega)
    ((by decide +kernel : ∀ c : Fin 128, lit0t0_331 c.val = if Lvl 4 75 c then 0x3F80#16 else 0#16) c)

theorem m2_76 (c : Fin 128) : lit0t1_2 (32768 + 76 * 128 + c.val) = if Lvl 4 76 c then 0x3F80#16 else 0#16 :=
  chase (F := lit0t0_332) (by unfold lit0t1_2; rw [show (32768 + 76 * 128 + c.val) / 128 % 128 = 76 by omega]; rfl) (by unfold lit0t0_332; rw [Nat.mod_mod]) (by omega)
    ((by decide +kernel : ∀ c : Fin 128, lit0t0_332 c.val = if Lvl 4 76 c then 0x3F80#16 else 0#16) c)

theorem m2_77 (c : Fin 128) : lit0t1_2 (32768 + 77 * 128 + c.val) = if Lvl 4 77 c then 0x3F80#16 else 0#16 :=
  chase (F := lit0t0_333) (by unfold lit0t1_2; rw [show (32768 + 77 * 128 + c.val) / 128 % 128 = 77 by omega]; rfl) (by unfold lit0t0_333; rw [Nat.mod_mod]) (by omega)
    ((by decide +kernel : ∀ c : Fin 128, lit0t0_333 c.val = if Lvl 4 77 c then 0x3F80#16 else 0#16) c)

theorem m2_78 (c : Fin 128) : lit0t1_2 (32768 + 78 * 128 + c.val) = if Lvl 4 78 c then 0x3F80#16 else 0#16 :=
  chase (F := lit0t0_334) (by unfold lit0t1_2; rw [show (32768 + 78 * 128 + c.val) / 128 % 128 = 78 by omega]; rfl) (by unfold lit0t0_334; rw [Nat.mod_mod]) (by omega)
    ((by decide +kernel : ∀ c : Fin 128, lit0t0_334 c.val = if Lvl 4 78 c then 0x3F80#16 else 0#16) c)

theorem m2_79 (c : Fin 128) : lit0t1_2 (32768 + 79 * 128 + c.val) = if Lvl 4 79 c then 0x3F80#16 else 0#16 :=
  chase (F := lit0t0_335) (by unfold lit0t1_2; rw [show (32768 + 79 * 128 + c.val) / 128 % 128 = 79 by omega]; rfl) (by unfold lit0t0_335; rw [Nat.mod_mod]) (by omega)
    ((by decide +kernel : ∀ c : Fin 128, lit0t0_335 c.val = if Lvl 4 79 c then 0x3F80#16 else 0#16) c)

theorem m2_80 (c : Fin 128) : lit0t1_2 (32768 + 80 * 128 + c.val) = if Lvl 4 80 c then 0x3F80#16 else 0#16 :=
  chase (F := lit0t0_336) (by unfold lit0t1_2; rw [show (32768 + 80 * 128 + c.val) / 128 % 128 = 80 by omega]; rfl) (by unfold lit0t0_336; rw [Nat.mod_mod]) (by omega)
    ((by decide +kernel : ∀ c : Fin 128, lit0t0_336 c.val = if Lvl 4 80 c then 0x3F80#16 else 0#16) c)

theorem m2_81 (c : Fin 128) : lit0t1_2 (32768 + 81 * 128 + c.val) = if Lvl 4 81 c then 0x3F80#16 else 0#16 :=
  chase (F := lit0t0_337) (by unfold lit0t1_2; rw [show (32768 + 81 * 128 + c.val) / 128 % 128 = 81 by omega]; rfl) (by unfold lit0t0_337; rw [Nat.mod_mod]) (by omega)
    ((by decide +kernel : ∀ c : Fin 128, lit0t0_337 c.val = if Lvl 4 81 c then 0x3F80#16 else 0#16) c)

theorem m2_82 (c : Fin 128) : lit0t1_2 (32768 + 82 * 128 + c.val) = if Lvl 4 82 c then 0x3F80#16 else 0#16 :=
  chase (F := lit0t0_338) (by unfold lit0t1_2; rw [show (32768 + 82 * 128 + c.val) / 128 % 128 = 82 by omega]; rfl) (by unfold lit0t0_338; rw [Nat.mod_mod]) (by omega)
    ((by decide +kernel : ∀ c : Fin 128, lit0t0_338 c.val = if Lvl 4 82 c then 0x3F80#16 else 0#16) c)

theorem m2_83 (c : Fin 128) : lit0t1_2 (32768 + 83 * 128 + c.val) = if Lvl 4 83 c then 0x3F80#16 else 0#16 :=
  chase (F := lit0t0_339) (by unfold lit0t1_2; rw [show (32768 + 83 * 128 + c.val) / 128 % 128 = 83 by omega]; rfl) (by unfold lit0t0_339; rw [Nat.mod_mod]) (by omega)
    ((by decide +kernel : ∀ c : Fin 128, lit0t0_339 c.val = if Lvl 4 83 c then 0x3F80#16 else 0#16) c)

theorem m2_84 (c : Fin 128) : lit0t1_2 (32768 + 84 * 128 + c.val) = if Lvl 4 84 c then 0x3F80#16 else 0#16 :=
  chase (F := lit0t0_340) (by unfold lit0t1_2; rw [show (32768 + 84 * 128 + c.val) / 128 % 128 = 84 by omega]; rfl) (by unfold lit0t0_340; rw [Nat.mod_mod]) (by omega)
    ((by decide +kernel : ∀ c : Fin 128, lit0t0_340 c.val = if Lvl 4 84 c then 0x3F80#16 else 0#16) c)

theorem m2_85 (c : Fin 128) : lit0t1_2 (32768 + 85 * 128 + c.val) = if Lvl 4 85 c then 0x3F80#16 else 0#16 :=
  chase (F := lit0t0_341) (by unfold lit0t1_2; rw [show (32768 + 85 * 128 + c.val) / 128 % 128 = 85 by omega]; rfl) (by unfold lit0t0_341; rw [Nat.mod_mod]) (by omega)
    ((by decide +kernel : ∀ c : Fin 128, lit0t0_341 c.val = if Lvl 4 85 c then 0x3F80#16 else 0#16) c)

theorem m2_86 (c : Fin 128) : lit0t1_2 (32768 + 86 * 128 + c.val) = if Lvl 4 86 c then 0x3F80#16 else 0#16 :=
  chase (F := lit0t0_342) (by unfold lit0t1_2; rw [show (32768 + 86 * 128 + c.val) / 128 % 128 = 86 by omega]; rfl) (by unfold lit0t0_342; rw [Nat.mod_mod]) (by omega)
    ((by decide +kernel : ∀ c : Fin 128, lit0t0_342 c.val = if Lvl 4 86 c then 0x3F80#16 else 0#16) c)

theorem m2_87 (c : Fin 128) : lit0t1_2 (32768 + 87 * 128 + c.val) = if Lvl 4 87 c then 0x3F80#16 else 0#16 :=
  chase (F := lit0t0_343) (by unfold lit0t1_2; rw [show (32768 + 87 * 128 + c.val) / 128 % 128 = 87 by omega]; rfl) (by unfold lit0t0_343; rw [Nat.mod_mod]) (by omega)
    ((by decide +kernel : ∀ c : Fin 128, lit0t0_343 c.val = if Lvl 4 87 c then 0x3F80#16 else 0#16) c)

theorem m2_88 (c : Fin 128) : lit0t1_2 (32768 + 88 * 128 + c.val) = if Lvl 4 88 c then 0x3F80#16 else 0#16 :=
  chase (F := lit0t0_344) (by unfold lit0t1_2; rw [show (32768 + 88 * 128 + c.val) / 128 % 128 = 88 by omega]; rfl) (by unfold lit0t0_344; rw [Nat.mod_mod]) (by omega)
    ((by decide +kernel : ∀ c : Fin 128, lit0t0_344 c.val = if Lvl 4 88 c then 0x3F80#16 else 0#16) c)

theorem m2_89 (c : Fin 128) : lit0t1_2 (32768 + 89 * 128 + c.val) = if Lvl 4 89 c then 0x3F80#16 else 0#16 :=
  chase (F := lit0t0_345) (by unfold lit0t1_2; rw [show (32768 + 89 * 128 + c.val) / 128 % 128 = 89 by omega]; rfl) (by unfold lit0t0_345; rw [Nat.mod_mod]) (by omega)
    ((by decide +kernel : ∀ c : Fin 128, lit0t0_345 c.val = if Lvl 4 89 c then 0x3F80#16 else 0#16) c)

theorem m2_90 (c : Fin 128) : lit0t1_2 (32768 + 90 * 128 + c.val) = if Lvl 4 90 c then 0x3F80#16 else 0#16 :=
  chase (F := lit0t0_346) (by unfold lit0t1_2; rw [show (32768 + 90 * 128 + c.val) / 128 % 128 = 90 by omega]; rfl) (by unfold lit0t0_346; rw [Nat.mod_mod]) (by omega)
    ((by decide +kernel : ∀ c : Fin 128, lit0t0_346 c.val = if Lvl 4 90 c then 0x3F80#16 else 0#16) c)

theorem m2_91 (c : Fin 128) : lit0t1_2 (32768 + 91 * 128 + c.val) = if Lvl 4 91 c then 0x3F80#16 else 0#16 :=
  chase (F := lit0t0_347) (by unfold lit0t1_2; rw [show (32768 + 91 * 128 + c.val) / 128 % 128 = 91 by omega]; rfl) (by unfold lit0t0_347; rw [Nat.mod_mod]) (by omega)
    ((by decide +kernel : ∀ c : Fin 128, lit0t0_347 c.val = if Lvl 4 91 c then 0x3F80#16 else 0#16) c)

theorem m2_92 (c : Fin 128) : lit0t1_2 (32768 + 92 * 128 + c.val) = if Lvl 4 92 c then 0x3F80#16 else 0#16 :=
  chase (F := lit0t0_348) (by unfold lit0t1_2; rw [show (32768 + 92 * 128 + c.val) / 128 % 128 = 92 by omega]; rfl) (by unfold lit0t0_348; rw [Nat.mod_mod]) (by omega)
    ((by decide +kernel : ∀ c : Fin 128, lit0t0_348 c.val = if Lvl 4 92 c then 0x3F80#16 else 0#16) c)

theorem m2_93 (c : Fin 128) : lit0t1_2 (32768 + 93 * 128 + c.val) = if Lvl 4 93 c then 0x3F80#16 else 0#16 :=
  chase (F := lit0t0_349) (by unfold lit0t1_2; rw [show (32768 + 93 * 128 + c.val) / 128 % 128 = 93 by omega]; rfl) (by unfold lit0t0_349; rw [Nat.mod_mod]) (by omega)
    ((by decide +kernel : ∀ c : Fin 128, lit0t0_349 c.val = if Lvl 4 93 c then 0x3F80#16 else 0#16) c)

theorem m2_94 (c : Fin 128) : lit0t1_2 (32768 + 94 * 128 + c.val) = if Lvl 4 94 c then 0x3F80#16 else 0#16 :=
  chase (F := lit0t0_350) (by unfold lit0t1_2; rw [show (32768 + 94 * 128 + c.val) / 128 % 128 = 94 by omega]; rfl) (by unfold lit0t0_350; rw [Nat.mod_mod]) (by omega)
    ((by decide +kernel : ∀ c : Fin 128, lit0t0_350 c.val = if Lvl 4 94 c then 0x3F80#16 else 0#16) c)

theorem m2_95 (c : Fin 128) : lit0t1_2 (32768 + 95 * 128 + c.val) = if Lvl 4 95 c then 0x3F80#16 else 0#16 :=
  chase (F := lit0t0_351) (by unfold lit0t1_2; rw [show (32768 + 95 * 128 + c.val) / 128 % 128 = 95 by omega]; rfl) (by unfold lit0t0_351; rw [Nat.mod_mod]) (by omega)
    ((by decide +kernel : ∀ c : Fin 128, lit0t0_351 c.val = if Lvl 4 95 c then 0x3F80#16 else 0#16) c)

theorem m2_96 (c : Fin 128) : lit0t1_2 (32768 + 96 * 128 + c.val) = if Lvl 4 96 c then 0x3F80#16 else 0#16 :=
  chase (F := lit0t0_352) (by unfold lit0t1_2; rw [show (32768 + 96 * 128 + c.val) / 128 % 128 = 96 by omega]; rfl) (by unfold lit0t0_352; rw [Nat.mod_mod]) (by omega)
    ((by decide +kernel : ∀ c : Fin 128, lit0t0_352 c.val = if Lvl 4 96 c then 0x3F80#16 else 0#16) c)

theorem m2_97 (c : Fin 128) : lit0t1_2 (32768 + 97 * 128 + c.val) = if Lvl 4 97 c then 0x3F80#16 else 0#16 :=
  chase (F := lit0t0_353) (by unfold lit0t1_2; rw [show (32768 + 97 * 128 + c.val) / 128 % 128 = 97 by omega]; rfl) (by unfold lit0t0_353; rw [Nat.mod_mod]) (by omega)
    ((by decide +kernel : ∀ c : Fin 128, lit0t0_353 c.val = if Lvl 4 97 c then 0x3F80#16 else 0#16) c)

theorem m2_98 (c : Fin 128) : lit0t1_2 (32768 + 98 * 128 + c.val) = if Lvl 4 98 c then 0x3F80#16 else 0#16 :=
  chase (F := lit0t0_354) (by unfold lit0t1_2; rw [show (32768 + 98 * 128 + c.val) / 128 % 128 = 98 by omega]; rfl) (by unfold lit0t0_354; rw [Nat.mod_mod]) (by omega)
    ((by decide +kernel : ∀ c : Fin 128, lit0t0_354 c.val = if Lvl 4 98 c then 0x3F80#16 else 0#16) c)

theorem m2_99 (c : Fin 128) : lit0t1_2 (32768 + 99 * 128 + c.val) = if Lvl 4 99 c then 0x3F80#16 else 0#16 :=
  chase (F := lit0t0_355) (by unfold lit0t1_2; rw [show (32768 + 99 * 128 + c.val) / 128 % 128 = 99 by omega]; rfl) (by unfold lit0t0_355; rw [Nat.mod_mod]) (by omega)
    ((by decide +kernel : ∀ c : Fin 128, lit0t0_355 c.val = if Lvl 4 99 c then 0x3F80#16 else 0#16) c)

theorem m2_100 (c : Fin 128) : lit0t1_2 (32768 + 100 * 128 + c.val) = if Lvl 4 100 c then 0x3F80#16 else 0#16 :=
  chase (F := lit0t0_356) (by unfold lit0t1_2; rw [show (32768 + 100 * 128 + c.val) / 128 % 128 = 100 by omega]; rfl) (by unfold lit0t0_356; rw [Nat.mod_mod]) (by omega)
    ((by decide +kernel : ∀ c : Fin 128, lit0t0_356 c.val = if Lvl 4 100 c then 0x3F80#16 else 0#16) c)

theorem m2_101 (c : Fin 128) : lit0t1_2 (32768 + 101 * 128 + c.val) = if Lvl 4 101 c then 0x3F80#16 else 0#16 :=
  chase (F := lit0t0_357) (by unfold lit0t1_2; rw [show (32768 + 101 * 128 + c.val) / 128 % 128 = 101 by omega]; rfl) (by unfold lit0t0_357; rw [Nat.mod_mod]) (by omega)
    ((by decide +kernel : ∀ c : Fin 128, lit0t0_357 c.val = if Lvl 4 101 c then 0x3F80#16 else 0#16) c)

theorem m2_102 (c : Fin 128) : lit0t1_2 (32768 + 102 * 128 + c.val) = if Lvl 4 102 c then 0x3F80#16 else 0#16 :=
  chase (F := lit0t0_358) (by unfold lit0t1_2; rw [show (32768 + 102 * 128 + c.val) / 128 % 128 = 102 by omega]; rfl) (by unfold lit0t0_358; rw [Nat.mod_mod]) (by omega)
    ((by decide +kernel : ∀ c : Fin 128, lit0t0_358 c.val = if Lvl 4 102 c then 0x3F80#16 else 0#16) c)

theorem m2_103 (c : Fin 128) : lit0t1_2 (32768 + 103 * 128 + c.val) = if Lvl 4 103 c then 0x3F80#16 else 0#16 :=
  chase (F := lit0t0_359) (by unfold lit0t1_2; rw [show (32768 + 103 * 128 + c.val) / 128 % 128 = 103 by omega]; rfl) (by unfold lit0t0_359; rw [Nat.mod_mod]) (by omega)
    ((by decide +kernel : ∀ c : Fin 128, lit0t0_359 c.val = if Lvl 4 103 c then 0x3F80#16 else 0#16) c)

theorem m2_104 (c : Fin 128) : lit0t1_2 (32768 + 104 * 128 + c.val) = if Lvl 4 104 c then 0x3F80#16 else 0#16 :=
  chase (F := lit0t0_360) (by unfold lit0t1_2; rw [show (32768 + 104 * 128 + c.val) / 128 % 128 = 104 by omega]; rfl) (by unfold lit0t0_360; rw [Nat.mod_mod]) (by omega)
    ((by decide +kernel : ∀ c : Fin 128, lit0t0_360 c.val = if Lvl 4 104 c then 0x3F80#16 else 0#16) c)

theorem m2_105 (c : Fin 128) : lit0t1_2 (32768 + 105 * 128 + c.val) = if Lvl 4 105 c then 0x3F80#16 else 0#16 :=
  chase (F := lit0t0_361) (by unfold lit0t1_2; rw [show (32768 + 105 * 128 + c.val) / 128 % 128 = 105 by omega]; rfl) (by unfold lit0t0_361; rw [Nat.mod_mod]) (by omega)
    ((by decide +kernel : ∀ c : Fin 128, lit0t0_361 c.val = if Lvl 4 105 c then 0x3F80#16 else 0#16) c)

theorem m2_106 (c : Fin 128) : lit0t1_2 (32768 + 106 * 128 + c.val) = if Lvl 4 106 c then 0x3F80#16 else 0#16 :=
  chase (F := lit0t0_362) (by unfold lit0t1_2; rw [show (32768 + 106 * 128 + c.val) / 128 % 128 = 106 by omega]; rfl) (by unfold lit0t0_362; rw [Nat.mod_mod]) (by omega)
    ((by decide +kernel : ∀ c : Fin 128, lit0t0_362 c.val = if Lvl 4 106 c then 0x3F80#16 else 0#16) c)

theorem m2_107 (c : Fin 128) : lit0t1_2 (32768 + 107 * 128 + c.val) = if Lvl 4 107 c then 0x3F80#16 else 0#16 :=
  chase (F := lit0t0_363) (by unfold lit0t1_2; rw [show (32768 + 107 * 128 + c.val) / 128 % 128 = 107 by omega]; rfl) (by unfold lit0t0_363; rw [Nat.mod_mod]) (by omega)
    ((by decide +kernel : ∀ c : Fin 128, lit0t0_363 c.val = if Lvl 4 107 c then 0x3F80#16 else 0#16) c)

theorem m2_108 (c : Fin 128) : lit0t1_2 (32768 + 108 * 128 + c.val) = if Lvl 4 108 c then 0x3F80#16 else 0#16 :=
  chase (F := lit0t0_364) (by unfold lit0t1_2; rw [show (32768 + 108 * 128 + c.val) / 128 % 128 = 108 by omega]; rfl) (by unfold lit0t0_364; rw [Nat.mod_mod]) (by omega)
    ((by decide +kernel : ∀ c : Fin 128, lit0t0_364 c.val = if Lvl 4 108 c then 0x3F80#16 else 0#16) c)

theorem m2_109 (c : Fin 128) : lit0t1_2 (32768 + 109 * 128 + c.val) = if Lvl 4 109 c then 0x3F80#16 else 0#16 :=
  chase (F := lit0t0_365) (by unfold lit0t1_2; rw [show (32768 + 109 * 128 + c.val) / 128 % 128 = 109 by omega]; rfl) (by unfold lit0t0_365; rw [Nat.mod_mod]) (by omega)
    ((by decide +kernel : ∀ c : Fin 128, lit0t0_365 c.val = if Lvl 4 109 c then 0x3F80#16 else 0#16) c)

theorem m2_110 (c : Fin 128) : lit0t1_2 (32768 + 110 * 128 + c.val) = if Lvl 4 110 c then 0x3F80#16 else 0#16 :=
  chase (F := lit0t0_366) (by unfold lit0t1_2; rw [show (32768 + 110 * 128 + c.val) / 128 % 128 = 110 by omega]; rfl) (by unfold lit0t0_366; rw [Nat.mod_mod]) (by omega)
    ((by decide +kernel : ∀ c : Fin 128, lit0t0_366 c.val = if Lvl 4 110 c then 0x3F80#16 else 0#16) c)

theorem m2_111 (c : Fin 128) : lit0t1_2 (32768 + 111 * 128 + c.val) = if Lvl 4 111 c then 0x3F80#16 else 0#16 :=
  chase (F := lit0t0_367) (by unfold lit0t1_2; rw [show (32768 + 111 * 128 + c.val) / 128 % 128 = 111 by omega]; rfl) (by unfold lit0t0_367; rw [Nat.mod_mod]) (by omega)
    ((by decide +kernel : ∀ c : Fin 128, lit0t0_367 c.val = if Lvl 4 111 c then 0x3F80#16 else 0#16) c)

theorem m2_112 (c : Fin 128) : lit0t1_2 (32768 + 112 * 128 + c.val) = if Lvl 4 112 c then 0x3F80#16 else 0#16 :=
  chase (F := lit0t0_368) (by unfold lit0t1_2; rw [show (32768 + 112 * 128 + c.val) / 128 % 128 = 112 by omega]; rfl) (by unfold lit0t0_368; rw [Nat.mod_mod]) (by omega)
    ((by decide +kernel : ∀ c : Fin 128, lit0t0_368 c.val = if Lvl 4 112 c then 0x3F80#16 else 0#16) c)

theorem m2_113 (c : Fin 128) : lit0t1_2 (32768 + 113 * 128 + c.val) = if Lvl 4 113 c then 0x3F80#16 else 0#16 :=
  chase (F := lit0t0_369) (by unfold lit0t1_2; rw [show (32768 + 113 * 128 + c.val) / 128 % 128 = 113 by omega]; rfl) (by unfold lit0t0_369; rw [Nat.mod_mod]) (by omega)
    ((by decide +kernel : ∀ c : Fin 128, lit0t0_369 c.val = if Lvl 4 113 c then 0x3F80#16 else 0#16) c)

theorem m2_114 (c : Fin 128) : lit0t1_2 (32768 + 114 * 128 + c.val) = if Lvl 4 114 c then 0x3F80#16 else 0#16 :=
  chase (F := lit0t0_370) (by unfold lit0t1_2; rw [show (32768 + 114 * 128 + c.val) / 128 % 128 = 114 by omega]; rfl) (by unfold lit0t0_370; rw [Nat.mod_mod]) (by omega)
    ((by decide +kernel : ∀ c : Fin 128, lit0t0_370 c.val = if Lvl 4 114 c then 0x3F80#16 else 0#16) c)

theorem m2_115 (c : Fin 128) : lit0t1_2 (32768 + 115 * 128 + c.val) = if Lvl 4 115 c then 0x3F80#16 else 0#16 :=
  chase (F := lit0t0_371) (by unfold lit0t1_2; rw [show (32768 + 115 * 128 + c.val) / 128 % 128 = 115 by omega]; rfl) (by unfold lit0t0_371; rw [Nat.mod_mod]) (by omega)
    ((by decide +kernel : ∀ c : Fin 128, lit0t0_371 c.val = if Lvl 4 115 c then 0x3F80#16 else 0#16) c)

theorem m2_116 (c : Fin 128) : lit0t1_2 (32768 + 116 * 128 + c.val) = if Lvl 4 116 c then 0x3F80#16 else 0#16 :=
  chase (F := lit0t0_372) (by unfold lit0t1_2; rw [show (32768 + 116 * 128 + c.val) / 128 % 128 = 116 by omega]; rfl) (by unfold lit0t0_372; rw [Nat.mod_mod]) (by omega)
    ((by decide +kernel : ∀ c : Fin 128, lit0t0_372 c.val = if Lvl 4 116 c then 0x3F80#16 else 0#16) c)

theorem m2_117 (c : Fin 128) : lit0t1_2 (32768 + 117 * 128 + c.val) = if Lvl 4 117 c then 0x3F80#16 else 0#16 :=
  chase (F := lit0t0_373) (by unfold lit0t1_2; rw [show (32768 + 117 * 128 + c.val) / 128 % 128 = 117 by omega]; rfl) (by unfold lit0t0_373; rw [Nat.mod_mod]) (by omega)
    ((by decide +kernel : ∀ c : Fin 128, lit0t0_373 c.val = if Lvl 4 117 c then 0x3F80#16 else 0#16) c)

theorem m2_118 (c : Fin 128) : lit0t1_2 (32768 + 118 * 128 + c.val) = if Lvl 4 118 c then 0x3F80#16 else 0#16 :=
  chase (F := lit0t0_374) (by unfold lit0t1_2; rw [show (32768 + 118 * 128 + c.val) / 128 % 128 = 118 by omega]; rfl) (by unfold lit0t0_374; rw [Nat.mod_mod]) (by omega)
    ((by decide +kernel : ∀ c : Fin 128, lit0t0_374 c.val = if Lvl 4 118 c then 0x3F80#16 else 0#16) c)

theorem m2_119 (c : Fin 128) : lit0t1_2 (32768 + 119 * 128 + c.val) = if Lvl 4 119 c then 0x3F80#16 else 0#16 :=
  chase (F := lit0t0_375) (by unfold lit0t1_2; rw [show (32768 + 119 * 128 + c.val) / 128 % 128 = 119 by omega]; rfl) (by unfold lit0t0_375; rw [Nat.mod_mod]) (by omega)
    ((by decide +kernel : ∀ c : Fin 128, lit0t0_375 c.val = if Lvl 4 119 c then 0x3F80#16 else 0#16) c)

theorem m2_120 (c : Fin 128) : lit0t1_2 (32768 + 120 * 128 + c.val) = if Lvl 4 120 c then 0x3F80#16 else 0#16 :=
  chase (F := lit0t0_376) (by unfold lit0t1_2; rw [show (32768 + 120 * 128 + c.val) / 128 % 128 = 120 by omega]; rfl) (by unfold lit0t0_376; rw [Nat.mod_mod]) (by omega)
    ((by decide +kernel : ∀ c : Fin 128, lit0t0_376 c.val = if Lvl 4 120 c then 0x3F80#16 else 0#16) c)

theorem m2_121 (c : Fin 128) : lit0t1_2 (32768 + 121 * 128 + c.val) = if Lvl 4 121 c then 0x3F80#16 else 0#16 :=
  chase (F := lit0t0_377) (by unfold lit0t1_2; rw [show (32768 + 121 * 128 + c.val) / 128 % 128 = 121 by omega]; rfl) (by unfold lit0t0_377; rw [Nat.mod_mod]) (by omega)
    ((by decide +kernel : ∀ c : Fin 128, lit0t0_377 c.val = if Lvl 4 121 c then 0x3F80#16 else 0#16) c)

theorem m2_122 (c : Fin 128) : lit0t1_2 (32768 + 122 * 128 + c.val) = if Lvl 4 122 c then 0x3F80#16 else 0#16 :=
  chase (F := lit0t0_378) (by unfold lit0t1_2; rw [show (32768 + 122 * 128 + c.val) / 128 % 128 = 122 by omega]; rfl) (by unfold lit0t0_378; rw [Nat.mod_mod]) (by omega)
    ((by decide +kernel : ∀ c : Fin 128, lit0t0_378 c.val = if Lvl 4 122 c then 0x3F80#16 else 0#16) c)

theorem m2_123 (c : Fin 128) : lit0t1_2 (32768 + 123 * 128 + c.val) = if Lvl 4 123 c then 0x3F80#16 else 0#16 :=
  chase (F := lit0t0_379) (by unfold lit0t1_2; rw [show (32768 + 123 * 128 + c.val) / 128 % 128 = 123 by omega]; rfl) (by unfold lit0t0_379; rw [Nat.mod_mod]) (by omega)
    ((by decide +kernel : ∀ c : Fin 128, lit0t0_379 c.val = if Lvl 4 123 c then 0x3F80#16 else 0#16) c)

theorem m2_124 (c : Fin 128) : lit0t1_2 (32768 + 124 * 128 + c.val) = if Lvl 4 124 c then 0x3F80#16 else 0#16 :=
  chase (F := lit0t0_380) (by unfold lit0t1_2; rw [show (32768 + 124 * 128 + c.val) / 128 % 128 = 124 by omega]; rfl) (by unfold lit0t0_380; rw [Nat.mod_mod]) (by omega)
    ((by decide +kernel : ∀ c : Fin 128, lit0t0_380 c.val = if Lvl 4 124 c then 0x3F80#16 else 0#16) c)

theorem m2_125 (c : Fin 128) : lit0t1_2 (32768 + 125 * 128 + c.val) = if Lvl 4 125 c then 0x3F80#16 else 0#16 :=
  chase (F := lit0t0_381) (by unfold lit0t1_2; rw [show (32768 + 125 * 128 + c.val) / 128 % 128 = 125 by omega]; rfl) (by unfold lit0t0_381; rw [Nat.mod_mod]) (by omega)
    ((by decide +kernel : ∀ c : Fin 128, lit0t0_381 c.val = if Lvl 4 125 c then 0x3F80#16 else 0#16) c)

theorem m2_126 (c : Fin 128) : lit0t1_2 (32768 + 126 * 128 + c.val) = if Lvl 4 126 c then 0x3F80#16 else 0#16 :=
  chase (F := lit0t0_382) (by unfold lit0t1_2; rw [show (32768 + 126 * 128 + c.val) / 128 % 128 = 126 by omega]; rfl) (by unfold lit0t0_382; rw [Nat.mod_mod]) (by omega)
    ((by decide +kernel : ∀ c : Fin 128, lit0t0_382 c.val = if Lvl 4 126 c then 0x3F80#16 else 0#16) c)

theorem m2_127 (c : Fin 128) : lit0t1_2 (32768 + 127 * 128 + c.val) = if Lvl 4 127 c then 0x3F80#16 else 0#16 :=
  chase (F := lit0t0_383) (by unfold lit0t1_2; rw [show (32768 + 127 * 128 + c.val) / 128 % 128 = 127 by omega]; rfl) (by unfold lit0t0_383; rw [Nat.mod_mod]) (by omega)
    ((by decide +kernel : ∀ c : Fin 128, lit0t0_383 c.val = if Lvl 4 127 c then 0x3F80#16 else 0#16) c)

set_option maxHeartbeats 4000000 in
/-- Mask 2. -/
theorem mask2 (r c : Fin 128) : lit0t1_2 (32768 + r.val * 128 + c.val) = if Lvl 4 r c then 0x3F80#16 else 0#16 :=
  match r with
  | ⟨0, _⟩ => m2_0 c
  | ⟨1, _⟩ => m2_1 c
  | ⟨2, _⟩ => m2_2 c
  | ⟨3, _⟩ => m2_3 c
  | ⟨4, _⟩ => m2_4 c
  | ⟨5, _⟩ => m2_5 c
  | ⟨6, _⟩ => m2_6 c
  | ⟨7, _⟩ => m2_7 c
  | ⟨8, _⟩ => m2_8 c
  | ⟨9, _⟩ => m2_9 c
  | ⟨10, _⟩ => m2_10 c
  | ⟨11, _⟩ => m2_11 c
  | ⟨12, _⟩ => m2_12 c
  | ⟨13, _⟩ => m2_13 c
  | ⟨14, _⟩ => m2_14 c
  | ⟨15, _⟩ => m2_15 c
  | ⟨16, _⟩ => m2_16 c
  | ⟨17, _⟩ => m2_17 c
  | ⟨18, _⟩ => m2_18 c
  | ⟨19, _⟩ => m2_19 c
  | ⟨20, _⟩ => m2_20 c
  | ⟨21, _⟩ => m2_21 c
  | ⟨22, _⟩ => m2_22 c
  | ⟨23, _⟩ => m2_23 c
  | ⟨24, _⟩ => m2_24 c
  | ⟨25, _⟩ => m2_25 c
  | ⟨26, _⟩ => m2_26 c
  | ⟨27, _⟩ => m2_27 c
  | ⟨28, _⟩ => m2_28 c
  | ⟨29, _⟩ => m2_29 c
  | ⟨30, _⟩ => m2_30 c
  | ⟨31, _⟩ => m2_31 c
  | ⟨32, _⟩ => m2_32 c
  | ⟨33, _⟩ => m2_33 c
  | ⟨34, _⟩ => m2_34 c
  | ⟨35, _⟩ => m2_35 c
  | ⟨36, _⟩ => m2_36 c
  | ⟨37, _⟩ => m2_37 c
  | ⟨38, _⟩ => m2_38 c
  | ⟨39, _⟩ => m2_39 c
  | ⟨40, _⟩ => m2_40 c
  | ⟨41, _⟩ => m2_41 c
  | ⟨42, _⟩ => m2_42 c
  | ⟨43, _⟩ => m2_43 c
  | ⟨44, _⟩ => m2_44 c
  | ⟨45, _⟩ => m2_45 c
  | ⟨46, _⟩ => m2_46 c
  | ⟨47, _⟩ => m2_47 c
  | ⟨48, _⟩ => m2_48 c
  | ⟨49, _⟩ => m2_49 c
  | ⟨50, _⟩ => m2_50 c
  | ⟨51, _⟩ => m2_51 c
  | ⟨52, _⟩ => m2_52 c
  | ⟨53, _⟩ => m2_53 c
  | ⟨54, _⟩ => m2_54 c
  | ⟨55, _⟩ => m2_55 c
  | ⟨56, _⟩ => m2_56 c
  | ⟨57, _⟩ => m2_57 c
  | ⟨58, _⟩ => m2_58 c
  | ⟨59, _⟩ => m2_59 c
  | ⟨60, _⟩ => m2_60 c
  | ⟨61, _⟩ => m2_61 c
  | ⟨62, _⟩ => m2_62 c
  | ⟨63, _⟩ => m2_63 c
  | ⟨64, _⟩ => m2_64 c
  | ⟨65, _⟩ => m2_65 c
  | ⟨66, _⟩ => m2_66 c
  | ⟨67, _⟩ => m2_67 c
  | ⟨68, _⟩ => m2_68 c
  | ⟨69, _⟩ => m2_69 c
  | ⟨70, _⟩ => m2_70 c
  | ⟨71, _⟩ => m2_71 c
  | ⟨72, _⟩ => m2_72 c
  | ⟨73, _⟩ => m2_73 c
  | ⟨74, _⟩ => m2_74 c
  | ⟨75, _⟩ => m2_75 c
  | ⟨76, _⟩ => m2_76 c
  | ⟨77, _⟩ => m2_77 c
  | ⟨78, _⟩ => m2_78 c
  | ⟨79, _⟩ => m2_79 c
  | ⟨80, _⟩ => m2_80 c
  | ⟨81, _⟩ => m2_81 c
  | ⟨82, _⟩ => m2_82 c
  | ⟨83, _⟩ => m2_83 c
  | ⟨84, _⟩ => m2_84 c
  | ⟨85, _⟩ => m2_85 c
  | ⟨86, _⟩ => m2_86 c
  | ⟨87, _⟩ => m2_87 c
  | ⟨88, _⟩ => m2_88 c
  | ⟨89, _⟩ => m2_89 c
  | ⟨90, _⟩ => m2_90 c
  | ⟨91, _⟩ => m2_91 c
  | ⟨92, _⟩ => m2_92 c
  | ⟨93, _⟩ => m2_93 c
  | ⟨94, _⟩ => m2_94 c
  | ⟨95, _⟩ => m2_95 c
  | ⟨96, _⟩ => m2_96 c
  | ⟨97, _⟩ => m2_97 c
  | ⟨98, _⟩ => m2_98 c
  | ⟨99, _⟩ => m2_99 c
  | ⟨100, _⟩ => m2_100 c
  | ⟨101, _⟩ => m2_101 c
  | ⟨102, _⟩ => m2_102 c
  | ⟨103, _⟩ => m2_103 c
  | ⟨104, _⟩ => m2_104 c
  | ⟨105, _⟩ => m2_105 c
  | ⟨106, _⟩ => m2_106 c
  | ⟨107, _⟩ => m2_107 c
  | ⟨108, _⟩ => m2_108 c
  | ⟨109, _⟩ => m2_109 c
  | ⟨110, _⟩ => m2_110 c
  | ⟨111, _⟩ => m2_111 c
  | ⟨112, _⟩ => m2_112 c
  | ⟨113, _⟩ => m2_113 c
  | ⟨114, _⟩ => m2_114 c
  | ⟨115, _⟩ => m2_115 c
  | ⟨116, _⟩ => m2_116 c
  | ⟨117, _⟩ => m2_117 c
  | ⟨118, _⟩ => m2_118 c
  | ⟨119, _⟩ => m2_119 c
  | ⟨120, _⟩ => m2_120 c
  | ⟨121, _⟩ => m2_121 c
  | ⟨122, _⟩ => m2_122 c
  | ⟨123, _⟩ => m2_123 c
  | ⟨124, _⟩ => m2_124 c
  | ⟨125, _⟩ => m2_125 c
  | ⟨126, _⟩ => m2_126 c
  | ⟨127, _⟩ => m2_127 c
  | ⟨n + 128, h⟩ => absurd h (by omega)

end Cert.KernelIdeal.Value
-- ==== Proof.DeltaMask3.lean ====
/- Mask 3 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m3_0 (c : Fin 128) : lit0t1_3 (49152 + 0 * 128 + c.val) = if Lvl 8 0 c then 0x3F80#16 else 0#16 :=
  chase (F := lit0t0_384) (by unfold lit0t1_3; rw [show (49152 + 0 * 128 + c.val) / 128 % 128 = 0 by omega]; rfl) (by unfold lit0t0_384; rw [Nat.mod_mod]) (by omega)
    ((by decide +kernel : ∀ c : Fin 128, lit0t0_384 c.val = if Lvl 8 0 c then 0x3F80#16 else 0#16) c)

theorem m3_1 (c : Fin 128) : lit0t1_3 (49152 + 1 * 128 + c.val) = if Lvl 8 1 c then 0x3F80#16 else 0#16 :=
  chase (F := lit0t0_385) (by unfold lit0t1_3; rw [show (49152 + 1 * 128 + c.val) / 128 % 128 = 1 by omega]; rfl) (by unfold lit0t0_385; rw [Nat.mod_mod]) (by omega)
    ((by decide +kernel : ∀ c : Fin 128, lit0t0_385 c.val = if Lvl 8 1 c then 0x3F80#16 else 0#16) c)

theorem m3_2 (c : Fin 128) : lit0t1_3 (49152 + 2 * 128 + c.val) = if Lvl 8 2 c then 0x3F80#16 else 0#16 :=
  chase (F := lit0t0_386) (by unfold lit0t1_3; rw [show (49152 + 2 * 128 + c.val) / 128 % 128 = 2 by omega]; rfl) (by unfold lit0t0_386; rw [Nat.mod_mod]) (by omega)
    ((by decide +kernel : ∀ c : Fin 128, lit0t0_386 c.val = if Lvl 8 2 c then 0x3F80#16 else 0#16) c)

theorem m3_3 (c : Fin 128) : lit0t1_3 (49152 + 3 * 128 + c.val) = if Lvl 8 3 c then 0x3F80#16 else 0#16 :=
  chase (F := lit0t0_387) (by unfold lit0t1_3; rw [show (49152 + 3 * 128 + c.val) / 128 % 128 = 3 by omega]; rfl) (by unfold lit0t0_387; rw [Nat.mod_mod]) (by omega)
    ((by decide +kernel : ∀ c : Fin 128, lit0t0_387 c.val = if Lvl 8 3 c then 0x3F80#16 else 0#16) c)

theorem m3_4 (c : Fin 128) : lit0t1_3 (49152 + 4 * 128 + c.val) = if Lvl 8 4 c then 0x3F80#16 else 0#16 :=
  chase (F := lit0t0_388) (by unfold lit0t1_3; rw [show (49152 + 4 * 128 + c.val) / 128 % 128 = 4 by omega]; rfl) (by unfold lit0t0_388; rw [Nat.mod_mod]) (by omega)
    ((by decide +kernel : ∀ c : Fin 128, lit0t0_388 c.val = if Lvl 8 4 c then 0x3F80#16 else 0#16) c)

theorem m3_5 (c : Fin 128) : lit0t1_3 (49152 + 5 * 128 + c.val) = if Lvl 8 5 c then 0x3F80#16 else 0#16 :=
  chase (F := lit0t0_389) (by unfold lit0t1_3; rw [show (49152 + 5 * 128 + c.val) / 128 % 128 = 5 by omega]; rfl) (by unfold lit0t0_389; rw [Nat.mod_mod]) (by omega)
    ((by decide +kernel : ∀ c : Fin 128, lit0t0_389 c.val = if Lvl 8 5 c then 0x3F80#16 else 0#16) c)

theorem m3_6 (c : Fin 128) : lit0t1_3 (49152 + 6 * 128 + c.val) = if Lvl 8 6 c then 0x3F80#16 else 0#16 :=
  chase (F := lit0t0_390) (by unfold lit0t1_3; rw [show (49152 + 6 * 128 + c.val) / 128 % 128 = 6 by omega]; rfl) (by unfold lit0t0_390; rw [Nat.mod_mod]) (by omega)
    ((by decide +kernel : ∀ c : Fin 128, lit0t0_390 c.val = if Lvl 8 6 c then 0x3F80#16 else 0#16) c)

theorem m3_7 (c : Fin 128) : lit0t1_3 (49152 + 7 * 128 + c.val) = if Lvl 8 7 c then 0x3F80#16 else 0#16 :=
  chase (F := lit0t0_391) (by unfold lit0t1_3; rw [show (49152 + 7 * 128 + c.val) / 128 % 128 = 7 by omega]; rfl) (by unfold lit0t0_391; rw [Nat.mod_mod]) (by omega)
    ((by decide +kernel : ∀ c : Fin 128, lit0t0_391 c.val = if Lvl 8 7 c then 0x3F80#16 else 0#16) c)

theorem m3_8 (c : Fin 128) : lit0t1_3 (49152 + 8 * 128 + c.val) = if Lvl 8 8 c then 0x3F80#16 else 0#16 :=
  chase (F := lit0t0_392) (by unfold lit0t1_3; rw [show (49152 + 8 * 128 + c.val) / 128 % 128 = 8 by omega]; rfl) (by unfold lit0t0_392; rw [Nat.mod_mod]) (by omega)
    ((by decide +kernel : ∀ c : Fin 128, lit0t0_392 c.val = if Lvl 8 8 c then 0x3F80#16 else 0#16) c)

theorem m3_9 (c : Fin 128) : lit0t1_3 (49152 + 9 * 128 + c.val) = if Lvl 8 9 c then 0x3F80#16 else 0#16 :=
  chase (F := lit0t0_393) (by unfold lit0t1_3; rw [show (49152 + 9 * 128 + c.val) / 128 % 128 = 9 by omega]; rfl) (by unfold lit0t0_393; rw [Nat.mod_mod]) (by omega)
    ((by decide +kernel : ∀ c : Fin 128, lit0t0_393 c.val = if Lvl 8 9 c then 0x3F80#16 else 0#16) c)

theorem m3_10 (c : Fin 128) : lit0t1_3 (49152 + 10 * 128 + c.val) = if Lvl 8 10 c then 0x3F80#16 else 0#16 :=
  chase (F := lit0t0_394) (by unfold lit0t1_3; rw [show (49152 + 10 * 128 + c.val) / 128 % 128 = 10 by omega]; rfl) (by unfold lit0t0_394; rw [Nat.mod_mod]) (by omega)
    ((by decide +kernel : ∀ c : Fin 128, lit0t0_394 c.val = if Lvl 8 10 c then 0x3F80#16 else 0#16) c)

theorem m3_11 (c : Fin 128) : lit0t1_3 (49152 + 11 * 128 + c.val) = if Lvl 8 11 c then 0x3F80#16 else 0#16 :=
  chase (F := lit0t0_395) (by unfold lit0t1_3; rw [show (49152 + 11 * 128 + c.val) / 128 % 128 = 11 by omega]; rfl) (by unfold lit0t0_395; rw [Nat.mod_mod]) (by omega)
    ((by decide +kernel : ∀ c : Fin 128, lit0t0_395 c.val = if Lvl 8 11 c then 0x3F80#16 else 0#16) c)

theorem m3_12 (c : Fin 128) : lit0t1_3 (49152 + 12 * 128 + c.val) = if Lvl 8 12 c then 0x3F80#16 else 0#16 :=
  chase (F := lit0t0_396) (by unfold lit0t1_3; rw [show (49152 + 12 * 128 + c.val) / 128 % 128 = 12 by omega]; rfl) (by unfold lit0t0_396; rw [Nat.mod_mod]) (by omega)
    ((by decide +kernel : ∀ c : Fin 128, lit0t0_396 c.val = if Lvl 8 12 c then 0x3F80#16 else 0#16) c)

theorem m3_13 (c : Fin 128) : lit0t1_3 (49152 + 13 * 128 + c.val) = if Lvl 8 13 c then 0x3F80#16 else 0#16 :=
  chase (F := lit0t0_397) (by unfold lit0t1_3; rw [show (49152 + 13 * 128 + c.val) / 128 % 128 = 13 by omega]; rfl) (by unfold lit0t0_397; rw [Nat.mod_mod]) (by omega)
    ((by decide +kernel : ∀ c : Fin 128, lit0t0_397 c.val = if Lvl 8 13 c then 0x3F80#16 else 0#16) c)

theorem m3_14 (c : Fin 128) : lit0t1_3 (49152 + 14 * 128 + c.val) = if Lvl 8 14 c then 0x3F80#16 else 0#16 :=
  chase (F := lit0t0_398) (by unfold lit0t1_3; rw [show (49152 + 14 * 128 + c.val) / 128 % 128 = 14 by omega]; rfl) (by unfold lit0t0_398; rw [Nat.mod_mod]) (by omega)
    ((by decide +kernel : ∀ c : Fin 128, lit0t0_398 c.val = if Lvl 8 14 c then 0x3F80#16 else 0#16) c)

theorem m3_15 (c : Fin 128) : lit0t1_3 (49152 + 15 * 128 + c.val) = if Lvl 8 15 c then 0x3F80#16 else 0#16 :=
  chase (F := lit0t0_399) (by unfold lit0t1_3; rw [show (49152 + 15 * 128 + c.val) / 128 % 128 = 15 by omega]; rfl) (by unfold lit0t0_399; rw [Nat.mod_mod]) (by omega)
    ((by decide +kernel : ∀ c : Fin 128, lit0t0_399 c.val = if Lvl 8 15 c then 0x3F80#16 else 0#16) c)

theorem m3_16 (c : Fin 128) : lit0t1_3 (49152 + 16 * 128 + c.val) = if Lvl 8 16 c then 0x3F80#16 else 0#16 :=
  chase (F := lit0t0_400) (by unfold lit0t1_3; rw [show (49152 + 16 * 128 + c.val) / 128 % 128 = 16 by omega]; rfl) (by unfold lit0t0_400; rw [Nat.mod_mod]) (by omega)
    ((by decide +kernel : ∀ c : Fin 128, lit0t0_400 c.val = if Lvl 8 16 c then 0x3F80#16 else 0#16) c)

theorem m3_17 (c : Fin 128) : lit0t1_3 (49152 + 17 * 128 + c.val) = if Lvl 8 17 c then 0x3F80#16 else 0#16 :=
  chase (F := lit0t0_401) (by unfold lit0t1_3; rw [show (49152 + 17 * 128 + c.val) / 128 % 128 = 17 by omega]; rfl) (by unfold lit0t0_401; rw [Nat.mod_mod]) (by omega)
    ((by decide +kernel : ∀ c : Fin 128, lit0t0_401 c.val = if Lvl 8 17 c then 0x3F80#16 else 0#16) c)

theorem m3_18 (c : Fin 128) : lit0t1_3 (49152 + 18 * 128 + c.val) = if Lvl 8 18 c then 0x3F80#16 else 0#16 :=
  chase (F := lit0t0_402) (by unfold lit0t1_3; rw [show (49152 + 18 * 128 + c.val) / 128 % 128 = 18 by omega]; rfl) (by unfold lit0t0_402; rw [Nat.mod_mod]) (by omega)
    ((by decide +kernel : ∀ c : Fin 128, lit0t0_402 c.val = if Lvl 8 18 c then 0x3F80#16 else 0#16) c)

theorem m3_19 (c : Fin 128) : lit0t1_3 (49152 + 19 * 128 + c.val) = if Lvl 8 19 c then 0x3F80#16 else 0#16 :=
  chase (F := lit0t0_403) (by unfold lit0t1_3; rw [show (49152 + 19 * 128 + c.val) / 128 % 128 = 19 by omega]; rfl) (by unfold lit0t0_403; rw [Nat.mod_mod]) (by omega)
    ((by decide +kernel : ∀ c : Fin 128, lit0t0_403 c.val = if Lvl 8 19 c then 0x3F80#16 else 0#16) c)

theorem m3_20 (c : Fin 128) : lit0t1_3 (49152 + 20 * 128 + c.val) = if Lvl 8 20 c then 0x3F80#16 else 0#16 :=
  chase (F := lit0t0_404) (by unfold lit0t1_3; rw [show (49152 + 20 * 128 + c.val) / 128 % 128 = 20 by omega]; rfl) (by unfold lit0t0_404; rw [Nat.mod_mod]) (by omega)
    ((by decide +kernel : ∀ c : Fin 128, lit0t0_404 c.val = if Lvl 8 20 c then 0x3F80#16 else 0#16) c)

theorem m3_21 (c : Fin 128) : lit0t1_3 (49152 + 21 * 128 + c.val) = if Lvl 8 21 c then 0x3F80#16 else 0#16 :=
  chase (F := lit0t0_405) (by unfold lit0t1_3; rw [show (49152 + 21 * 128 + c.val) / 128 % 128 = 21 by omega]; rfl) (by unfold lit0t0_405; rw [Nat.mod_mod]) (by omega)
    ((by decide +kernel : ∀ c : Fin 128, lit0t0_405 c.val = if Lvl 8 21 c then 0x3F80#16 else 0#16) c)

theorem m3_22 (c : Fin 128) : lit0t1_3 (49152 + 22 * 128 + c.val) = if Lvl 8 22 c then 0x3F80#16 else 0#16 :=
  chase (F := lit0t0_406) (by unfold lit0t1_3; rw [show (49152 + 22 * 128 + c.val) / 128 % 128 = 22 by omega]; rfl) (by unfold lit0t0_406; rw [Nat.mod_mod]) (by omega)
    ((by decide +kernel : ∀ c : Fin 128, lit0t0_406 c.val = if Lvl 8 22 c then 0x3F80#16 else 0#16) c)

theorem m3_23 (c : Fin 128) : lit0t1_3 (49152 + 23 * 128 + c.val) = if Lvl 8 23 c then 0x3F80#16 else 0#16 :=
  chase (F := lit0t0_407) (by unfold lit0t1_3; rw [show (49152 + 23 * 128 + c.val) / 128 % 128 = 23 by omega]; rfl) (by unfold lit0t0_407; rw [Nat.mod_mod]) (by omega)
    ((by decide +kernel : ∀ c : Fin 128, lit0t0_407 c.val = if Lvl 8 23 c then 0x3F80#16 else 0#16) c)

theorem m3_24 (c : Fin 128) : lit0t1_3 (49152 + 24 * 128 + c.val) = if Lvl 8 24 c then 0x3F80#16 else 0#16 :=
  chase (F := lit0t0_408) (by unfold lit0t1_3; rw [show (49152 + 24 * 128 + c.val) / 128 % 128 = 24 by omega]; rfl) (by unfold lit0t0_408; rw [Nat.mod_mod]) (by omega)
    ((by decide +kernel : ∀ c : Fin 128, lit0t0_408 c.val = if Lvl 8 24 c then 0x3F80#16 else 0#16) c)

theorem m3_25 (c : Fin 128) : lit0t1_3 (49152 + 25 * 128 + c.val) = if Lvl 8 25 c then 0x3F80#16 else 0#16 :=
  chase (F := lit0t0_409) (by unfold lit0t1_3; rw [show (49152 + 25 * 128 + c.val) / 128 % 128 = 25 by omega]; rfl) (by unfold lit0t0_409; rw [Nat.mod_mod]) (by omega)
    ((by decide +kernel : ∀ c : Fin 128, lit0t0_409 c.val = if Lvl 8 25 c then 0x3F80#16 else 0#16) c)

theorem m3_26 (c : Fin 128) : lit0t1_3 (49152 + 26 * 128 + c.val) = if Lvl 8 26 c then 0x3F80#16 else 0#16 :=
  chase (F := lit0t0_410) (by unfold lit0t1_3; rw [show (49152 + 26 * 128 + c.val) / 128 % 128 = 26 by omega]; rfl) (by unfold lit0t0_410; rw [Nat.mod_mod]) (by omega)
    ((by decide +kernel : ∀ c : Fin 128, lit0t0_410 c.val = if Lvl 8 26 c then 0x3F80#16 else 0#16) c)

theorem m3_27 (c : Fin 128) : lit0t1_3 (49152 + 27 * 128 + c.val) = if Lvl 8 27 c then 0x3F80#16 else 0#16 :=
  chase (F := lit0t0_411) (by unfold lit0t1_3; rw [show (49152 + 27 * 128 + c.val) / 128 % 128 = 27 by omega]; rfl) (by unfold lit0t0_411; rw [Nat.mod_mod]) (by omega)
    ((by decide +kernel : ∀ c : Fin 128, lit0t0_411 c.val = if Lvl 8 27 c then 0x3F80#16 else 0#16) c)

theorem m3_28 (c : Fin 128) : lit0t1_3 (49152 + 28 * 128 + c.val) = if Lvl 8 28 c then 0x3F80#16 else 0#16 :=
  chase (F := lit0t0_412) (by unfold lit0t1_3; rw [show (49152 + 28 * 128 + c.val) / 128 % 128 = 28 by omega]; rfl) (by unfold lit0t0_412; rw [Nat.mod_mod]) (by omega)
    ((by decide +kernel : ∀ c : Fin 128, lit0t0_412 c.val = if Lvl 8 28 c then 0x3F80#16 else 0#16) c)

theorem m3_29 (c : Fin 128) : lit0t1_3 (49152 + 29 * 128 + c.val) = if Lvl 8 29 c then 0x3F80#16 else 0#16 :=
  chase (F := lit0t0_413) (by unfold lit0t1_3; rw [show (49152 + 29 * 128 + c.val) / 128 % 128 = 29 by omega]; rfl) (by unfold lit0t0_413; rw [Nat.mod_mod]) (by omega)
    ((by decide +kernel : ∀ c : Fin 128, lit0t0_413 c.val = if Lvl 8 29 c then 0x3F80#16 else 0#16) c)

theorem m3_30 (c : Fin 128) : lit0t1_3 (49152 + 30 * 128 + c.val) = if Lvl 8 30 c then 0x3F80#16 else 0#16 :=
  chase (F := lit0t0_414) (by unfold lit0t1_3; rw [show (49152 + 30 * 128 + c.val) / 128 % 128 = 30 by omega]; rfl) (by unfold lit0t0_414; rw [Nat.mod_mod]) (by omega)
    ((by decide +kernel : ∀ c : Fin 128, lit0t0_414 c.val = if Lvl 8 30 c then 0x3F80#16 else 0#16) c)

theorem m3_31 (c : Fin 128) : lit0t1_3 (49152 + 31 * 128 + c.val) = if Lvl 8 31 c then 0x3F80#16 else 0#16 :=
  chase (F := lit0t0_415) (by unfold lit0t1_3; rw [show (49152 + 31 * 128 + c.val) / 128 % 128 = 31 by omega]; rfl) (by unfold lit0t0_415; rw [Nat.mod_mod]) (by omega)
    ((by decide +kernel : ∀ c : Fin 128, lit0t0_415 c.val = if Lvl 8 31 c then 0x3F80#16 else 0#16) c)

theorem m3_32 (c : Fin 128) : lit0t1_3 (49152 + 32 * 128 + c.val) = if Lvl 8 32 c then 0x3F80#16 else 0#16 :=
  chase (F := lit0t0_416) (by unfold lit0t1_3; rw [show (49152 + 32 * 128 + c.val) / 128 % 128 = 32 by omega]; rfl) (by unfold lit0t0_416; rw [Nat.mod_mod]) (by omega)
    ((by decide +kernel : ∀ c : Fin 128, lit0t0_416 c.val = if Lvl 8 32 c then 0x3F80#16 else 0#16) c)

theorem m3_33 (c : Fin 128) : lit0t1_3 (49152 + 33 * 128 + c.val) = if Lvl 8 33 c then 0x3F80#16 else 0#16 :=
  chase (F := lit0t0_417) (by unfold lit0t1_3; rw [show (49152 + 33 * 128 + c.val) / 128 % 128 = 33 by omega]; rfl) (by unfold lit0t0_417; rw [Nat.mod_mod]) (by omega)
    ((by decide +kernel : ∀ c : Fin 128, lit0t0_417 c.val = if Lvl 8 33 c then 0x3F80#16 else 0#16) c)

theorem m3_34 (c : Fin 128) : lit0t1_3 (49152 + 34 * 128 + c.val) = if Lvl 8 34 c then 0x3F80#16 else 0#16 :=
  chase (F := lit0t0_418) (by unfold lit0t1_3; rw [show (49152 + 34 * 128 + c.val) / 128 % 128 = 34 by omega]; rfl) (by unfold lit0t0_418; rw [Nat.mod_mod]) (by omega)
    ((by decide +kernel : ∀ c : Fin 128, lit0t0_418 c.val = if Lvl 8 34 c then 0x3F80#16 else 0#16) c)

theorem m3_35 (c : Fin 128) : lit0t1_3 (49152 + 35 * 128 + c.val) = if Lvl 8 35 c then 0x3F80#16 else 0#16 :=
  chase (F := lit0t0_419) (by unfold lit0t1_3; rw [show (49152 + 35 * 128 + c.val) / 128 % 128 = 35 by omega]; rfl) (by unfold lit0t0_419; rw [Nat.mod_mod]) (by omega)
    ((by decide +kernel : ∀ c : Fin 128, lit0t0_419 c.val = if Lvl 8 35 c then 0x3F80#16 else 0#16) c)

theorem m3_36 (c : Fin 128) : lit0t1_3 (49152 + 36 * 128 + c.val) = if Lvl 8 36 c then 0x3F80#16 else 0#16 :=
  chase (F := lit0t0_420) (by unfold lit0t1_3; rw [show (49152 + 36 * 128 + c.val) / 128 % 128 = 36 by omega]; rfl) (by unfold lit0t0_420; rw [Nat.mod_mod]) (by omega)
    ((by decide +kernel : ∀ c : Fin 128, lit0t0_420 c.val = if Lvl 8 36 c then 0x3F80#16 else 0#16) c)

theorem m3_37 (c : Fin 128) : lit0t1_3 (49152 + 37 * 128 + c.val) = if Lvl 8 37 c then 0x3F80#16 else 0#16 :=
  chase (F := lit0t0_421) (by unfold lit0t1_3; rw [show (49152 + 37 * 128 + c.val) / 128 % 128 = 37 by omega]; rfl) (by unfold lit0t0_421; rw [Nat.mod_mod]) (by omega)
    ((by decide +kernel : ∀ c : Fin 128, lit0t0_421 c.val = if Lvl 8 37 c then 0x3F80#16 else 0#16) c)

theorem m3_38 (c : Fin 128) : lit0t1_3 (49152 + 38 * 128 + c.val) = if Lvl 8 38 c then 0x3F80#16 else 0#16 :=
  chase (F := lit0t0_422) (by unfold lit0t1_3; rw [show (49152 + 38 * 128 + c.val) / 128 % 128 = 38 by omega]; rfl) (by unfold lit0t0_422; rw [Nat.mod_mod]) (by omega)
    ((by decide +kernel : ∀ c : Fin 128, lit0t0_422 c.val = if Lvl 8 38 c then 0x3F80#16 else 0#16) c)

theorem m3_39 (c : Fin 128) : lit0t1_3 (49152 + 39 * 128 + c.val) = if Lvl 8 39 c then 0x3F80#16 else 0#16 :=
  chase (F := lit0t0_423) (by unfold lit0t1_3; rw [show (49152 + 39 * 128 + c.val) / 128 % 128 = 39 by omega]; rfl) (by unfold lit0t0_423; rw [Nat.mod_mod]) (by omega)
    ((by decide +kernel : ∀ c : Fin 128, lit0t0_423 c.val = if Lvl 8 39 c then 0x3F80#16 else 0#16) c)

theorem m3_40 (c : Fin 128) : lit0t1_3 (49152 + 40 * 128 + c.val) = if Lvl 8 40 c then 0x3F80#16 else 0#16 :=
  chase (F := lit0t0_424) (by unfold lit0t1_3; rw [show (49152 + 40 * 128 + c.val) / 128 % 128 = 40 by omega]; rfl) (by unfold lit0t0_424; rw [Nat.mod_mod]) (by omega)
    ((by decide +kernel : ∀ c : Fin 128, lit0t0_424 c.val = if Lvl 8 40 c then 0x3F80#16 else 0#16) c)

theorem m3_41 (c : Fin 128) : lit0t1_3 (49152 + 41 * 128 + c.val) = if Lvl 8 41 c then 0x3F80#16 else 0#16 :=
  chase (F := lit0t0_425) (by unfold lit0t1_3; rw [show (49152 + 41 * 128 + c.val) / 128 % 128 = 41 by omega]; rfl) (by unfold lit0t0_425; rw [Nat.mod_mod]) (by omega)
    ((by decide +kernel : ∀ c : Fin 128, lit0t0_425 c.val = if Lvl 8 41 c then 0x3F80#16 else 0#16) c)

theorem m3_42 (c : Fin 128) : lit0t1_3 (49152 + 42 * 128 + c.val) = if Lvl 8 42 c then 0x3F80#16 else 0#16 :=
  chase (F := lit0t0_426) (by unfold lit0t1_3; rw [show (49152 + 42 * 128 + c.val) / 128 % 128 = 42 by omega]; rfl) (by unfold lit0t0_426; rw [Nat.mod_mod]) (by omega)
    ((by decide +kernel : ∀ c : Fin 128, lit0t0_426 c.val = if Lvl 8 42 c then 0x3F80#16 else 0#16) c)

theorem m3_43 (c : Fin 128) : lit0t1_3 (49152 + 43 * 128 + c.val) = if Lvl 8 43 c then 0x3F80#16 else 0#16 :=
  chase (F := lit0t0_427) (by unfold lit0t1_3; rw [show (49152 + 43 * 128 + c.val) / 128 % 128 = 43 by omega]; rfl) (by unfold lit0t0_427; rw [Nat.mod_mod]) (by omega)
    ((by decide +kernel : ∀ c : Fin 128, lit0t0_427 c.val = if Lvl 8 43 c then 0x3F80#16 else 0#16) c)

theorem m3_44 (c : Fin 128) : lit0t1_3 (49152 + 44 * 128 + c.val) = if Lvl 8 44 c then 0x3F80#16 else 0#16 :=
  chase (F := lit0t0_428) (by unfold lit0t1_3; rw [show (49152 + 44 * 128 + c.val) / 128 % 128 = 44 by omega]; rfl) (by unfold lit0t0_428; rw [Nat.mod_mod]) (by omega)
    ((by decide +kernel : ∀ c : Fin 128, lit0t0_428 c.val = if Lvl 8 44 c then 0x3F80#16 else 0#16) c)

theorem m3_45 (c : Fin 128) : lit0t1_3 (49152 + 45 * 128 + c.val) = if Lvl 8 45 c then 0x3F80#16 else 0#16 :=
  chase (F := lit0t0_429) (by unfold lit0t1_3; rw [show (49152 + 45 * 128 + c.val) / 128 % 128 = 45 by omega]; rfl) (by unfold lit0t0_429; rw [Nat.mod_mod]) (by omega)
    ((by decide +kernel : ∀ c : Fin 128, lit0t0_429 c.val = if Lvl 8 45 c then 0x3F80#16 else 0#16) c)

theorem m3_46 (c : Fin 128) : lit0t1_3 (49152 + 46 * 128 + c.val) = if Lvl 8 46 c then 0x3F80#16 else 0#16 :=
  chase (F := lit0t0_430) (by unfold lit0t1_3; rw [show (49152 + 46 * 128 + c.val) / 128 % 128 = 46 by omega]; rfl) (by unfold lit0t0_430; rw [Nat.mod_mod]) (by omega)
    ((by decide +kernel : ∀ c : Fin 128, lit0t0_430 c.val = if Lvl 8 46 c then 0x3F80#16 else 0#16) c)

theorem m3_47 (c : Fin 128) : lit0t1_3 (49152 + 47 * 128 + c.val) = if Lvl 8 47 c then 0x3F80#16 else 0#16 :=
  chase (F := lit0t0_431) (by unfold lit0t1_3; rw [show (49152 + 47 * 128 + c.val) / 128 % 128 = 47 by omega]; rfl) (by unfold lit0t0_431; rw [Nat.mod_mod]) (by omega)
    ((by decide +kernel : ∀ c : Fin 128, lit0t0_431 c.val = if Lvl 8 47 c then 0x3F80#16 else 0#16) c)

theorem m3_48 (c : Fin 128) : lit0t1_3 (49152 + 48 * 128 + c.val) = if Lvl 8 48 c then 0x3F80#16 else 0#16 :=
  chase (F := lit0t0_432) (by unfold lit0t1_3; rw [show (49152 + 48 * 128 + c.val) / 128 % 128 = 48 by omega]; rfl) (by unfold lit0t0_432; rw [Nat.mod_mod]) (by omega)
    ((by decide +kernel : ∀ c : Fin 128, lit0t0_432 c.val = if Lvl 8 48 c then 0x3F80#16 else 0#16) c)

theorem m3_49 (c : Fin 128) : lit0t1_3 (49152 + 49 * 128 + c.val) = if Lvl 8 49 c then 0x3F80#16 else 0#16 :=
  chase (F := lit0t0_433) (by unfold lit0t1_3; rw [show (49152 + 49 * 128 + c.val) / 128 % 128 = 49 by omega]; rfl) (by unfold lit0t0_433; rw [Nat.mod_mod]) (by omega)
    ((by decide +kernel : ∀ c : Fin 128, lit0t0_433 c.val = if Lvl 8 49 c then 0x3F80#16 else 0#16) c)

theorem m3_50 (c : Fin 128) : lit0t1_3 (49152 + 50 * 128 + c.val) = if Lvl 8 50 c then 0x3F80#16 else 0#16 :=
  chase (F := lit0t0_434) (by unfold lit0t1_3; rw [show (49152 + 50 * 128 + c.val) / 128 % 128 = 50 by omega]; rfl) (by unfold lit0t0_434; rw [Nat.mod_mod]) (by omega)
    ((by decide +kernel : ∀ c : Fin 128, lit0t0_434 c.val = if Lvl 8 50 c then 0x3F80#16 else 0#16) c)

theorem m3_51 (c : Fin 128) : lit0t1_3 (49152 + 51 * 128 + c.val) = if Lvl 8 51 c then 0x3F80#16 else 0#16 :=
  chase (F := lit0t0_435) (by unfold lit0t1_3; rw [show (49152 + 51 * 128 + c.val) / 128 % 128 = 51 by omega]; rfl) (by unfold lit0t0_435; rw [Nat.mod_mod]) (by omega)
    ((by decide +kernel : ∀ c : Fin 128, lit0t0_435 c.val = if Lvl 8 51 c then 0x3F80#16 else 0#16) c)

theorem m3_52 (c : Fin 128) : lit0t1_3 (49152 + 52 * 128 + c.val) = if Lvl 8 52 c then 0x3F80#16 else 0#16 :=
  chase (F := lit0t0_436) (by unfold lit0t1_3; rw [show (49152 + 52 * 128 + c.val) / 128 % 128 = 52 by omega]; rfl) (by unfold lit0t0_436; rw [Nat.mod_mod]) (by omega)
    ((by decide +kernel : ∀ c : Fin 128, lit0t0_436 c.val = if Lvl 8 52 c then 0x3F80#16 else 0#16) c)

theorem m3_53 (c : Fin 128) : lit0t1_3 (49152 + 53 * 128 + c.val) = if Lvl 8 53 c then 0x3F80#16 else 0#16 :=
  chase (F := lit0t0_437) (by unfold lit0t1_3; rw [show (49152 + 53 * 128 + c.val) / 128 % 128 = 53 by omega]; rfl) (by unfold lit0t0_437; rw [Nat.mod_mod]) (by omega)
    ((by decide +kernel : ∀ c : Fin 128, lit0t0_437 c.val = if Lvl 8 53 c then 0x3F80#16 else 0#16) c)

theorem m3_54 (c : Fin 128) : lit0t1_3 (49152 + 54 * 128 + c.val) = if Lvl 8 54 c then 0x3F80#16 else 0#16 :=
  chase (F := lit0t0_438) (by unfold lit0t1_3; rw [show (49152 + 54 * 128 + c.val) / 128 % 128 = 54 by omega]; rfl) (by unfold lit0t0_438; rw [Nat.mod_mod]) (by omega)
    ((by decide +kernel : ∀ c : Fin 128, lit0t0_438 c.val = if Lvl 8 54 c then 0x3F80#16 else 0#16) c)

theorem m3_55 (c : Fin 128) : lit0t1_3 (49152 + 55 * 128 + c.val) = if Lvl 8 55 c then 0x3F80#16 else 0#16 :=
  chase (F := lit0t0_439) (by unfold lit0t1_3; rw [show (49152 + 55 * 128 + c.val) / 128 % 128 = 55 by omega]; rfl) (by unfold lit0t0_439; rw [Nat.mod_mod]) (by omega)
    ((by decide +kernel : ∀ c : Fin 128, lit0t0_439 c.val = if Lvl 8 55 c then 0x3F80#16 else 0#16) c)

theorem m3_56 (c : Fin 128) : lit0t1_3 (49152 + 56 * 128 + c.val) = if Lvl 8 56 c then 0x3F80#16 else 0#16 :=
  chase (F := lit0t0_440) (by unfold lit0t1_3; rw [show (49152 + 56 * 128 + c.val) / 128 % 128 = 56 by omega]; rfl) (by unfold lit0t0_440; rw [Nat.mod_mod]) (by omega)
    ((by decide +kernel : ∀ c : Fin 128, lit0t0_440 c.val = if Lvl 8 56 c then 0x3F80#16 else 0#16) c)

theorem m3_57 (c : Fin 128) : lit0t1_3 (49152 + 57 * 128 + c.val) = if Lvl 8 57 c then 0x3F80#16 else 0#16 :=
  chase (F := lit0t0_441) (by unfold lit0t1_3; rw [show (49152 + 57 * 128 + c.val) / 128 % 128 = 57 by omega]; rfl) (by unfold lit0t0_441; rw [Nat.mod_mod]) (by omega)
    ((by decide +kernel : ∀ c : Fin 128, lit0t0_441 c.val = if Lvl 8 57 c then 0x3F80#16 else 0#16) c)

theorem m3_58 (c : Fin 128) : lit0t1_3 (49152 + 58 * 128 + c.val) = if Lvl 8 58 c then 0x3F80#16 else 0#16 :=
  chase (F := lit0t0_442) (by unfold lit0t1_3; rw [show (49152 + 58 * 128 + c.val) / 128 % 128 = 58 by omega]; rfl) (by unfold lit0t0_442; rw [Nat.mod_mod]) (by omega)
    ((by decide +kernel : ∀ c : Fin 128, lit0t0_442 c.val = if Lvl 8 58 c then 0x3F80#16 else 0#16) c)

theorem m3_59 (c : Fin 128) : lit0t1_3 (49152 + 59 * 128 + c.val) = if Lvl 8 59 c then 0x3F80#16 else 0#16 :=
  chase (F := lit0t0_443) (by unfold lit0t1_3; rw [show (49152 + 59 * 128 + c.val) / 128 % 128 = 59 by omega]; rfl) (by unfold lit0t0_443; rw [Nat.mod_mod]) (by omega)
    ((by decide +kernel : ∀ c : Fin 128, lit0t0_443 c.val = if Lvl 8 59 c then 0x3F80#16 else 0#16) c)

theorem m3_60 (c : Fin 128) : lit0t1_3 (49152 + 60 * 128 + c.val) = if Lvl 8 60 c then 0x3F80#16 else 0#16 :=
  chase (F := lit0t0_444) (by unfold lit0t1_3; rw [show (49152 + 60 * 128 + c.val) / 128 % 128 = 60 by omega]; rfl) (by unfold lit0t0_444; rw [Nat.mod_mod]) (by omega)
    ((by decide +kernel : ∀ c : Fin 128, lit0t0_444 c.val = if Lvl 8 60 c then 0x3F80#16 else 0#16) c)

theorem m3_61 (c : Fin 128) : lit0t1_3 (49152 + 61 * 128 + c.val) = if Lvl 8 61 c then 0x3F80#16 else 0#16 :=
  chase (F := lit0t0_445) (by unfold lit0t1_3; rw [show (49152 + 61 * 128 + c.val) / 128 % 128 = 61 by omega]; rfl) (by unfold lit0t0_445; rw [Nat.mod_mod]) (by omega)
    ((by decide +kernel : ∀ c : Fin 128, lit0t0_445 c.val = if Lvl 8 61 c then 0x3F80#16 else 0#16) c)

theorem m3_62 (c : Fin 128) : lit0t1_3 (49152 + 62 * 128 + c.val) = if Lvl 8 62 c then 0x3F80#16 else 0#16 :=
  chase (F := lit0t0_446) (by unfold lit0t1_3; rw [show (49152 + 62 * 128 + c.val) / 128 % 128 = 62 by omega]; rfl) (by unfold lit0t0_446; rw [Nat.mod_mod]) (by omega)
    ((by decide +kernel : ∀ c : Fin 128, lit0t0_446 c.val = if Lvl 8 62 c then 0x3F80#16 else 0#16) c)

theorem m3_63 (c : Fin 128) : lit0t1_3 (49152 + 63 * 128 + c.val) = if Lvl 8 63 c then 0x3F80#16 else 0#16 :=
  chase (F := lit0t0_447) (by unfold lit0t1_3; rw [show (49152 + 63 * 128 + c.val) / 128 % 128 = 63 by omega]; rfl) (by unfold lit0t0_447; rw [Nat.mod_mod]) (by omega)
    ((by decide +kernel : ∀ c : Fin 128, lit0t0_447 c.val = if Lvl 8 63 c then 0x3F80#16 else 0#16) c)

theorem m3_64 (c : Fin 128) : lit0t1_3 (49152 + 64 * 128 + c.val) = if Lvl 8 64 c then 0x3F80#16 else 0#16 :=
  chase (F := lit0t0_448) (by unfold lit0t1_3; rw [show (49152 + 64 * 128 + c.val) / 128 % 128 = 64 by omega]; rfl) (by unfold lit0t0_448; rw [Nat.mod_mod]) (by omega)
    ((by decide +kernel : ∀ c : Fin 128, lit0t0_448 c.val = if Lvl 8 64 c then 0x3F80#16 else 0#16) c)

theorem m3_65 (c : Fin 128) : lit0t1_3 (49152 + 65 * 128 + c.val) = if Lvl 8 65 c then 0x3F80#16 else 0#16 :=
  chase (F := lit0t0_449) (by unfold lit0t1_3; rw [show (49152 + 65 * 128 + c.val) / 128 % 128 = 65 by omega]; rfl) (by unfold lit0t0_449; rw [Nat.mod_mod]) (by omega)
    ((by decide +kernel : ∀ c : Fin 128, lit0t0_449 c.val = if Lvl 8 65 c then 0x3F80#16 else 0#16) c)

theorem m3_66 (c : Fin 128) : lit0t1_3 (49152 + 66 * 128 + c.val) = if Lvl 8 66 c then 0x3F80#16 else 0#16 :=
  chase (F := lit0t0_450) (by unfold lit0t1_3; rw [show (49152 + 66 * 128 + c.val) / 128 % 128 = 66 by omega]; rfl) (by unfold lit0t0_450; rw [Nat.mod_mod]) (by omega)
    ((by decide +kernel : ∀ c : Fin 128, lit0t0_450 c.val = if Lvl 8 66 c then 0x3F80#16 else 0#16) c)

theorem m3_67 (c : Fin 128) : lit0t1_3 (49152 + 67 * 128 + c.val) = if Lvl 8 67 c then 0x3F80#16 else 0#16 :=
  chase (F := lit0t0_451) (by unfold lit0t1_3; rw [show (49152 + 67 * 128 + c.val) / 128 % 128 = 67 by omega]; rfl) (by unfold lit0t0_451; rw [Nat.mod_mod]) (by omega)
    ((by decide +kernel : ∀ c : Fin 128, lit0t0_451 c.val = if Lvl 8 67 c then 0x3F80#16 else 0#16) c)

theorem m3_68 (c : Fin 128) : lit0t1_3 (49152 + 68 * 128 + c.val) = if Lvl 8 68 c then 0x3F80#16 else 0#16 :=
  chase (F := lit0t0_452) (by unfold lit0t1_3; rw [show (49152 + 68 * 128 + c.val) / 128 % 128 = 68 by omega]; rfl) (by unfold lit0t0_452; rw [Nat.mod_mod]) (by omega)
    ((by decide +kernel : ∀ c : Fin 128, lit0t0_452 c.val = if Lvl 8 68 c then 0x3F80#16 else 0#16) c)

theorem m3_69 (c : Fin 128) : lit0t1_3 (49152 + 69 * 128 + c.val) = if Lvl 8 69 c then 0x3F80#16 else 0#16 :=
  chase (F := lit0t0_453) (by unfold lit0t1_3; rw [show (49152 + 69 * 128 + c.val) / 128 % 128 = 69 by omega]; rfl) (by unfold lit0t0_453; rw [Nat.mod_mod]) (by omega)
    ((by decide +kernel : ∀ c : Fin 128, lit0t0_453 c.val = if Lvl 8 69 c then 0x3F80#16 else 0#16) c)

theorem m3_70 (c : Fin 128) : lit0t1_3 (49152 + 70 * 128 + c.val) = if Lvl 8 70 c then 0x3F80#16 else 0#16 :=
  chase (F := lit0t0_454) (by unfold lit0t1_3; rw [show (49152 + 70 * 128 + c.val) / 128 % 128 = 70 by omega]; rfl) (by unfold lit0t0_454; rw [Nat.mod_mod]) (by omega)
    ((by decide +kernel : ∀ c : Fin 128, lit0t0_454 c.val = if Lvl 8 70 c then 0x3F80#16 else 0#16) c)

theorem m3_71 (c : Fin 128) : lit0t1_3 (49152 + 71 * 128 + c.val) = if Lvl 8 71 c then 0x3F80#16 else 0#16 :=
  chase (F := lit0t0_455) (by unfold lit0t1_3; rw [show (49152 + 71 * 128 + c.val) / 128 % 128 = 71 by omega]; rfl) (by unfold lit0t0_455; rw [Nat.mod_mod]) (by omega)
    ((by decide +kernel : ∀ c : Fin 128, lit0t0_455 c.val = if Lvl 8 71 c then 0x3F80#16 else 0#16) c)

theorem m3_72 (c : Fin 128) : lit0t1_3 (49152 + 72 * 128 + c.val) = if Lvl 8 72 c then 0x3F80#16 else 0#16 :=
  chase (F := lit0t0_456) (by unfold lit0t1_3; rw [show (49152 + 72 * 128 + c.val) / 128 % 128 = 72 by omega]; rfl) (by unfold lit0t0_456; rw [Nat.mod_mod]) (by omega)
    ((by decide +kernel : ∀ c : Fin 128, lit0t0_456 c.val = if Lvl 8 72 c then 0x3F80#16 else 0#16) c)

theorem m3_73 (c : Fin 128) : lit0t1_3 (49152 + 73 * 128 + c.val) = if Lvl 8 73 c then 0x3F80#16 else 0#16 :=
  chase (F := lit0t0_457) (by unfold lit0t1_3; rw [show (49152 + 73 * 128 + c.val) / 128 % 128 = 73 by omega]; rfl) (by unfold lit0t0_457; rw [Nat.mod_mod]) (by omega)
    ((by decide +kernel : ∀ c : Fin 128, lit0t0_457 c.val = if Lvl 8 73 c then 0x3F80#16 else 0#16) c)

theorem m3_74 (c : Fin 128) : lit0t1_3 (49152 + 74 * 128 + c.val) = if Lvl 8 74 c then 0x3F80#16 else 0#16 :=
  chase (F := lit0t0_458) (by unfold lit0t1_3; rw [show (49152 + 74 * 128 + c.val) / 128 % 128 = 74 by omega]; rfl) (by unfold lit0t0_458; rw [Nat.mod_mod]) (by omega)
    ((by decide +kernel : ∀ c : Fin 128, lit0t0_458 c.val = if Lvl 8 74 c then 0x3F80#16 else 0#16) c)

theorem m3_75 (c : Fin 128) : lit0t1_3 (49152 + 75 * 128 + c.val) = if Lvl 8 75 c then 0x3F80#16 else 0#16 :=
  chase (F := lit0t0_459) (by unfold lit0t1_3; rw [show (49152 + 75 * 128 + c.val) / 128 % 128 = 75 by omega]; rfl) (by unfold lit0t0_459; rw [Nat.mod_mod]) (by omega)
    ((by decide +kernel : ∀ c : Fin 128, lit0t0_459 c.val = if Lvl 8 75 c then 0x3F80#16 else 0#16) c)

theorem m3_76 (c : Fin 128) : lit0t1_3 (49152 + 76 * 128 + c.val) = if Lvl 8 76 c then 0x3F80#16 else 0#16 :=
  chase (F := lit0t0_460) (by unfold lit0t1_3; rw [show (49152 + 76 * 128 + c.val) / 128 % 128 = 76 by omega]; rfl) (by unfold lit0t0_460; rw [Nat.mod_mod]) (by omega)
    ((by decide +kernel : ∀ c : Fin 128, lit0t0_460 c.val = if Lvl 8 76 c then 0x3F80#16 else 0#16) c)

theorem m3_77 (c : Fin 128) : lit0t1_3 (49152 + 77 * 128 + c.val) = if Lvl 8 77 c then 0x3F80#16 else 0#16 :=
  chase (F := lit0t0_461) (by unfold lit0t1_3; rw [show (49152 + 77 * 128 + c.val) / 128 % 128 = 77 by omega]; rfl) (by unfold lit0t0_461; rw [Nat.mod_mod]) (by omega)
    ((by decide +kernel : ∀ c : Fin 128, lit0t0_461 c.val = if Lvl 8 77 c then 0x3F80#16 else 0#16) c)

theorem m3_78 (c : Fin 128) : lit0t1_3 (49152 + 78 * 128 + c.val) = if Lvl 8 78 c then 0x3F80#16 else 0#16 :=
  chase (F := lit0t0_462) (by unfold lit0t1_3; rw [show (49152 + 78 * 128 + c.val) / 128 % 128 = 78 by omega]; rfl) (by unfold lit0t0_462; rw [Nat.mod_mod]) (by omega)
    ((by decide +kernel : ∀ c : Fin 128, lit0t0_462 c.val = if Lvl 8 78 c then 0x3F80#16 else 0#16) c)

theorem m3_79 (c : Fin 128) : lit0t1_3 (49152 + 79 * 128 + c.val) = if Lvl 8 79 c then 0x3F80#16 else 0#16 :=
  chase (F := lit0t0_463) (by unfold lit0t1_3; rw [show (49152 + 79 * 128 + c.val) / 128 % 128 = 79 by omega]; rfl) (by unfold lit0t0_463; rw [Nat.mod_mod]) (by omega)
    ((by decide +kernel : ∀ c : Fin 128, lit0t0_463 c.val = if Lvl 8 79 c then 0x3F80#16 else 0#16) c)

theorem m3_80 (c : Fin 128) : lit0t1_3 (49152 + 80 * 128 + c.val) = if Lvl 8 80 c then 0x3F80#16 else 0#16 :=
  chase (F := lit0t0_464) (by unfold lit0t1_3; rw [show (49152 + 80 * 128 + c.val) / 128 % 128 = 80 by omega]; rfl) (by unfold lit0t0_464; rw [Nat.mod_mod]) (by omega)
    ((by decide +kernel : ∀ c : Fin 128, lit0t0_464 c.val = if Lvl 8 80 c then 0x3F80#16 else 0#16) c)

theorem m3_81 (c : Fin 128) : lit0t1_3 (49152 + 81 * 128 + c.val) = if Lvl 8 81 c then 0x3F80#16 else 0#16 :=
  chase (F := lit0t0_465) (by unfold lit0t1_3; rw [show (49152 + 81 * 128 + c.val) / 128 % 128 = 81 by omega]; rfl) (by unfold lit0t0_465; rw [Nat.mod_mod]) (by omega)
    ((by decide +kernel : ∀ c : Fin 128, lit0t0_465 c.val = if Lvl 8 81 c then 0x3F80#16 else 0#16) c)

theorem m3_82 (c : Fin 128) : lit0t1_3 (49152 + 82 * 128 + c.val) = if Lvl 8 82 c then 0x3F80#16 else 0#16 :=
  chase (F := lit0t0_466) (by unfold lit0t1_3; rw [show (49152 + 82 * 128 + c.val) / 128 % 128 = 82 by omega]; rfl) (by unfold lit0t0_466; rw [Nat.mod_mod]) (by omega)
    ((by decide +kernel : ∀ c : Fin 128, lit0t0_466 c.val = if Lvl 8 82 c then 0x3F80#16 else 0#16) c)

theorem m3_83 (c : Fin 128) : lit0t1_3 (49152 + 83 * 128 + c.val) = if Lvl 8 83 c then 0x3F80#16 else 0#16 :=
  chase (F := lit0t0_467) (by unfold lit0t1_3; rw [show (49152 + 83 * 128 + c.val) / 128 % 128 = 83 by omega]; rfl) (by unfold lit0t0_467; rw [Nat.mod_mod]) (by omega)
    ((by decide +kernel : ∀ c : Fin 128, lit0t0_467 c.val = if Lvl 8 83 c then 0x3F80#16 else 0#16) c)

theorem m3_84 (c : Fin 128) : lit0t1_3 (49152 + 84 * 128 + c.val) = if Lvl 8 84 c then 0x3F80#16 else 0#16 :=
  chase (F := lit0t0_468) (by unfold lit0t1_3; rw [show (49152 + 84 * 128 + c.val) / 128 % 128 = 84 by omega]; rfl) (by unfold lit0t0_468; rw [Nat.mod_mod]) (by omega)
    ((by decide +kernel : ∀ c : Fin 128, lit0t0_468 c.val = if Lvl 8 84 c then 0x3F80#16 else 0#16) c)

theorem m3_85 (c : Fin 128) : lit0t1_3 (49152 + 85 * 128 + c.val) = if Lvl 8 85 c then 0x3F80#16 else 0#16 :=
  chase (F := lit0t0_469) (by unfold lit0t1_3; rw [show (49152 + 85 * 128 + c.val) / 128 % 128 = 85 by omega]; rfl) (by unfold lit0t0_469; rw [Nat.mod_mod]) (by omega)
    ((by decide +kernel : ∀ c : Fin 128, lit0t0_469 c.val = if Lvl 8 85 c then 0x3F80#16 else 0#16) c)

theorem m3_86 (c : Fin 128) : lit0t1_3 (49152 + 86 * 128 + c.val) = if Lvl 8 86 c then 0x3F80#16 else 0#16 :=
  chase (F := lit0t0_470) (by unfold lit0t1_3; rw [show (49152 + 86 * 128 + c.val) / 128 % 128 = 86 by omega]; rfl) (by unfold lit0t0_470; rw [Nat.mod_mod]) (by omega)
    ((by decide +kernel : ∀ c : Fin 128, lit0t0_470 c.val = if Lvl 8 86 c then 0x3F80#16 else 0#16) c)

theorem m3_87 (c : Fin 128) : lit0t1_3 (49152 + 87 * 128 + c.val) = if Lvl 8 87 c then 0x3F80#16 else 0#16 :=
  chase (F := lit0t0_471) (by unfold lit0t1_3; rw [show (49152 + 87 * 128 + c.val) / 128 % 128 = 87 by omega]; rfl) (by unfold lit0t0_471; rw [Nat.mod_mod]) (by omega)
    ((by decide +kernel : ∀ c : Fin 128, lit0t0_471 c.val = if Lvl 8 87 c then 0x3F80#16 else 0#16) c)

theorem m3_88 (c : Fin 128) : lit0t1_3 (49152 + 88 * 128 + c.val) = if Lvl 8 88 c then 0x3F80#16 else 0#16 :=
  chase (F := lit0t0_472) (by unfold lit0t1_3; rw [show (49152 + 88 * 128 + c.val) / 128 % 128 = 88 by omega]; rfl) (by unfold lit0t0_472; rw [Nat.mod_mod]) (by omega)
    ((by decide +kernel : ∀ c : Fin 128, lit0t0_472 c.val = if Lvl 8 88 c then 0x3F80#16 else 0#16) c)

theorem m3_89 (c : Fin 128) : lit0t1_3 (49152 + 89 * 128 + c.val) = if Lvl 8 89 c then 0x3F80#16 else 0#16 :=
  chase (F := lit0t0_473) (by unfold lit0t1_3; rw [show (49152 + 89 * 128 + c.val) / 128 % 128 = 89 by omega]; rfl) (by unfold lit0t0_473; rw [Nat.mod_mod]) (by omega)
    ((by decide +kernel : ∀ c : Fin 128, lit0t0_473 c.val = if Lvl 8 89 c then 0x3F80#16 else 0#16) c)

theorem m3_90 (c : Fin 128) : lit0t1_3 (49152 + 90 * 128 + c.val) = if Lvl 8 90 c then 0x3F80#16 else 0#16 :=
  chase (F := lit0t0_474) (by unfold lit0t1_3; rw [show (49152 + 90 * 128 + c.val) / 128 % 128 = 90 by omega]; rfl) (by unfold lit0t0_474; rw [Nat.mod_mod]) (by omega)
    ((by decide +kernel : ∀ c : Fin 128, lit0t0_474 c.val = if Lvl 8 90 c then 0x3F80#16 else 0#16) c)

theorem m3_91 (c : Fin 128) : lit0t1_3 (49152 + 91 * 128 + c.val) = if Lvl 8 91 c then 0x3F80#16 else 0#16 :=
  chase (F := lit0t0_475) (by unfold lit0t1_3; rw [show (49152 + 91 * 128 + c.val) / 128 % 128 = 91 by omega]; rfl) (by unfold lit0t0_475; rw [Nat.mod_mod]) (by omega)
    ((by decide +kernel : ∀ c : Fin 128, lit0t0_475 c.val = if Lvl 8 91 c then 0x3F80#16 else 0#16) c)

theorem m3_92 (c : Fin 128) : lit0t1_3 (49152 + 92 * 128 + c.val) = if Lvl 8 92 c then 0x3F80#16 else 0#16 :=
  chase (F := lit0t0_476) (by unfold lit0t1_3; rw [show (49152 + 92 * 128 + c.val) / 128 % 128 = 92 by omega]; rfl) (by unfold lit0t0_476; rw [Nat.mod_mod]) (by omega)
    ((by decide +kernel : ∀ c : Fin 128, lit0t0_476 c.val = if Lvl 8 92 c then 0x3F80#16 else 0#16) c)

theorem m3_93 (c : Fin 128) : lit0t1_3 (49152 + 93 * 128 + c.val) = if Lvl 8 93 c then 0x3F80#16 else 0#16 :=
  chase (F := lit0t0_477) (by unfold lit0t1_3; rw [show (49152 + 93 * 128 + c.val) / 128 % 128 = 93 by omega]; rfl) (by unfold lit0t0_477; rw [Nat.mod_mod]) (by omega)
    ((by decide +kernel : ∀ c : Fin 128, lit0t0_477 c.val = if Lvl 8 93 c then 0x3F80#16 else 0#16) c)

theorem m3_94 (c : Fin 128) : lit0t1_3 (49152 + 94 * 128 + c.val) = if Lvl 8 94 c then 0x3F80#16 else 0#16 :=
  chase (F := lit0t0_478) (by unfold lit0t1_3; rw [show (49152 + 94 * 128 + c.val) / 128 % 128 = 94 by omega]; rfl) (by unfold lit0t0_478; rw [Nat.mod_mod]) (by omega)
    ((by decide +kernel : ∀ c : Fin 128, lit0t0_478 c.val = if Lvl 8 94 c then 0x3F80#16 else 0#16) c)

theorem m3_95 (c : Fin 128) : lit0t1_3 (49152 + 95 * 128 + c.val) = if Lvl 8 95 c then 0x3F80#16 else 0#16 :=
  chase (F := lit0t0_479) (by unfold lit0t1_3; rw [show (49152 + 95 * 128 + c.val) / 128 % 128 = 95 by omega]; rfl) (by unfold lit0t0_479; rw [Nat.mod_mod]) (by omega)
    ((by decide +kernel : ∀ c : Fin 128, lit0t0_479 c.val = if Lvl 8 95 c then 0x3F80#16 else 0#16) c)

theorem m3_96 (c : Fin 128) : lit0t1_3 (49152 + 96 * 128 + c.val) = if Lvl 8 96 c then 0x3F80#16 else 0#16 :=
  chase (F := lit0t0_480) (by unfold lit0t1_3; rw [show (49152 + 96 * 128 + c.val) / 128 % 128 = 96 by omega]; rfl) (by unfold lit0t0_480; rw [Nat.mod_mod]) (by omega)
    ((by decide +kernel : ∀ c : Fin 128, lit0t0_480 c.val = if Lvl 8 96 c then 0x3F80#16 else 0#16) c)

theorem m3_97 (c : Fin 128) : lit0t1_3 (49152 + 97 * 128 + c.val) = if Lvl 8 97 c then 0x3F80#16 else 0#16 :=
  chase (F := lit0t0_481) (by unfold lit0t1_3; rw [show (49152 + 97 * 128 + c.val) / 128 % 128 = 97 by omega]; rfl) (by unfold lit0t0_481; rw [Nat.mod_mod]) (by omega)
    ((by decide +kernel : ∀ c : Fin 128, lit0t0_481 c.val = if Lvl 8 97 c then 0x3F80#16 else 0#16) c)

theorem m3_98 (c : Fin 128) : lit0t1_3 (49152 + 98 * 128 + c.val) = if Lvl 8 98 c then 0x3F80#16 else 0#16 :=
  chase (F := lit0t0_482) (by unfold lit0t1_3; rw [show (49152 + 98 * 128 + c.val) / 128 % 128 = 98 by omega]; rfl) (by unfold lit0t0_482; rw [Nat.mod_mod]) (by omega)
    ((by decide +kernel : ∀ c : Fin 128, lit0t0_482 c.val = if Lvl 8 98 c then 0x3F80#16 else 0#16) c)

theorem m3_99 (c : Fin 128) : lit0t1_3 (49152 + 99 * 128 + c.val) = if Lvl 8 99 c then 0x3F80#16 else 0#16 :=
  chase (F := lit0t0_483) (by unfold lit0t1_3; rw [show (49152 + 99 * 128 + c.val) / 128 % 128 = 99 by omega]; rfl) (by unfold lit0t0_483; rw [Nat.mod_mod]) (by omega)
    ((by decide +kernel : ∀ c : Fin 128, lit0t0_483 c.val = if Lvl 8 99 c then 0x3F80#16 else 0#16) c)

theorem m3_100 (c : Fin 128) : lit0t1_3 (49152 + 100 * 128 + c.val) = if Lvl 8 100 c then 0x3F80#16 else 0#16 :=
  chase (F := lit0t0_484) (by unfold lit0t1_3; rw [show (49152 + 100 * 128 + c.val) / 128 % 128 = 100 by omega]; rfl) (by unfold lit0t0_484; rw [Nat.mod_mod]) (by omega)
    ((by decide +kernel : ∀ c : Fin 128, lit0t0_484 c.val = if Lvl 8 100 c then 0x3F80#16 else 0#16) c)

theorem m3_101 (c : Fin 128) : lit0t1_3 (49152 + 101 * 128 + c.val) = if Lvl 8 101 c then 0x3F80#16 else 0#16 :=
  chase (F := lit0t0_485) (by unfold lit0t1_3; rw [show (49152 + 101 * 128 + c.val) / 128 % 128 = 101 by omega]; rfl) (by unfold lit0t0_485; rw [Nat.mod_mod]) (by omega)
    ((by decide +kernel : ∀ c : Fin 128, lit0t0_485 c.val = if Lvl 8 101 c then 0x3F80#16 else 0#16) c)

theorem m3_102 (c : Fin 128) : lit0t1_3 (49152 + 102 * 128 + c.val) = if Lvl 8 102 c then 0x3F80#16 else 0#16 :=
  chase (F := lit0t0_486) (by unfold lit0t1_3; rw [show (49152 + 102 * 128 + c.val) / 128 % 128 = 102 by omega]; rfl) (by unfold lit0t0_486; rw [Nat.mod_mod]) (by omega)
    ((by decide +kernel : ∀ c : Fin 128, lit0t0_486 c.val = if Lvl 8 102 c then 0x3F80#16 else 0#16) c)

theorem m3_103 (c : Fin 128) : lit0t1_3 (49152 + 103 * 128 + c.val) = if Lvl 8 103 c then 0x3F80#16 else 0#16 :=
  chase (F := lit0t0_487) (by unfold lit0t1_3; rw [show (49152 + 103 * 128 + c.val) / 128 % 128 = 103 by omega]; rfl) (by unfold lit0t0_487; rw [Nat.mod_mod]) (by omega)
    ((by decide +kernel : ∀ c : Fin 128, lit0t0_487 c.val = if Lvl 8 103 c then 0x3F80#16 else 0#16) c)

theorem m3_104 (c : Fin 128) : lit0t1_3 (49152 + 104 * 128 + c.val) = if Lvl 8 104 c then 0x3F80#16 else 0#16 :=
  chase (F := lit0t0_488) (by unfold lit0t1_3; rw [show (49152 + 104 * 128 + c.val) / 128 % 128 = 104 by omega]; rfl) (by unfold lit0t0_488; rw [Nat.mod_mod]) (by omega)
    ((by decide +kernel : ∀ c : Fin 128, lit0t0_488 c.val = if Lvl 8 104 c then 0x3F80#16 else 0#16) c)

theorem m3_105 (c : Fin 128) : lit0t1_3 (49152 + 105 * 128 + c.val) = if Lvl 8 105 c then 0x3F80#16 else 0#16 :=
  chase (F := lit0t0_489) (by unfold lit0t1_3; rw [show (49152 + 105 * 128 + c.val) / 128 % 128 = 105 by omega]; rfl) (by unfold lit0t0_489; rw [Nat.mod_mod]) (by omega)
    ((by decide +kernel : ∀ c : Fin 128, lit0t0_489 c.val = if Lvl 8 105 c then 0x3F80#16 else 0#16) c)

theorem m3_106 (c : Fin 128) : lit0t1_3 (49152 + 106 * 128 + c.val) = if Lvl 8 106 c then 0x3F80#16 else 0#16 :=
  chase (F := lit0t0_490) (by unfold lit0t1_3; rw [show (49152 + 106 * 128 + c.val) / 128 % 128 = 106 by omega]; rfl) (by unfold lit0t0_490; rw [Nat.mod_mod]) (by omega)
    ((by decide +kernel : ∀ c : Fin 128, lit0t0_490 c.val = if Lvl 8 106 c then 0x3F80#16 else 0#16) c)

theorem m3_107 (c : Fin 128) : lit0t1_3 (49152 + 107 * 128 + c.val) = if Lvl 8 107 c then 0x3F80#16 else 0#16 :=
  chase (F := lit0t0_491) (by unfold lit0t1_3; rw [show (49152 + 107 * 128 + c.val) / 128 % 128 = 107 by omega]; rfl) (by unfold lit0t0_491; rw [Nat.mod_mod]) (by omega)
    ((by decide +kernel : ∀ c : Fin 128, lit0t0_491 c.val = if Lvl 8 107 c then 0x3F80#16 else 0#16) c)

theorem m3_108 (c : Fin 128) : lit0t1_3 (49152 + 108 * 128 + c.val) = if Lvl 8 108 c then 0x3F80#16 else 0#16 :=
  chase (F := lit0t0_492) (by unfold lit0t1_3; rw [show (49152 + 108 * 128 + c.val) / 128 % 128 = 108 by omega]; rfl) (by unfold lit0t0_492; rw [Nat.mod_mod]) (by omega)
    ((by decide +kernel : ∀ c : Fin 128, lit0t0_492 c.val = if Lvl 8 108 c then 0x3F80#16 else 0#16) c)

theorem m3_109 (c : Fin 128) : lit0t1_3 (49152 + 109 * 128 + c.val) = if Lvl 8 109 c then 0x3F80#16 else 0#16 :=
  chase (F := lit0t0_493) (by unfold lit0t1_3; rw [show (49152 + 109 * 128 + c.val) / 128 % 128 = 109 by omega]; rfl) (by unfold lit0t0_493; rw [Nat.mod_mod]) (by omega)
    ((by decide +kernel : ∀ c : Fin 128, lit0t0_493 c.val = if Lvl 8 109 c then 0x3F80#16 else 0#16) c)

theorem m3_110 (c : Fin 128) : lit0t1_3 (49152 + 110 * 128 + c.val) = if Lvl 8 110 c then 0x3F80#16 else 0#16 :=
  chase (F := lit0t0_494) (by unfold lit0t1_3; rw [show (49152 + 110 * 128 + c.val) / 128 % 128 = 110 by omega]; rfl) (by unfold lit0t0_494; rw [Nat.mod_mod]) (by omega)
    ((by decide +kernel : ∀ c : Fin 128, lit0t0_494 c.val = if Lvl 8 110 c then 0x3F80#16 else 0#16) c)

theorem m3_111 (c : Fin 128) : lit0t1_3 (49152 + 111 * 128 + c.val) = if Lvl 8 111 c then 0x3F80#16 else 0#16 :=
  chase (F := lit0t0_495) (by unfold lit0t1_3; rw [show (49152 + 111 * 128 + c.val) / 128 % 128 = 111 by omega]; rfl) (by unfold lit0t0_495; rw [Nat.mod_mod]) (by omega)
    ((by decide +kernel : ∀ c : Fin 128, lit0t0_495 c.val = if Lvl 8 111 c then 0x3F80#16 else 0#16) c)

theorem m3_112 (c : Fin 128) : lit0t1_3 (49152 + 112 * 128 + c.val) = if Lvl 8 112 c then 0x3F80#16 else 0#16 :=
  chase (F := lit0t0_496) (by unfold lit0t1_3; rw [show (49152 + 112 * 128 + c.val) / 128 % 128 = 112 by omega]; rfl) (by unfold lit0t0_496; rw [Nat.mod_mod]) (by omega)
    ((by decide +kernel : ∀ c : Fin 128, lit0t0_496 c.val = if Lvl 8 112 c then 0x3F80#16 else 0#16) c)

theorem m3_113 (c : Fin 128) : lit0t1_3 (49152 + 113 * 128 + c.val) = if Lvl 8 113 c then 0x3F80#16 else 0#16 :=
  chase (F := lit0t0_497) (by unfold lit0t1_3; rw [show (49152 + 113 * 128 + c.val) / 128 % 128 = 113 by omega]; rfl) (by unfold lit0t0_497; rw [Nat.mod_mod]) (by omega)
    ((by decide +kernel : ∀ c : Fin 128, lit0t0_497 c.val = if Lvl 8 113 c then 0x3F80#16 else 0#16) c)

theorem m3_114 (c : Fin 128) : lit0t1_3 (49152 + 114 * 128 + c.val) = if Lvl 8 114 c then 0x3F80#16 else 0#16 :=
  chase (F := lit0t0_498) (by unfold lit0t1_3; rw [show (49152 + 114 * 128 + c.val) / 128 % 128 = 114 by omega]; rfl) (by unfold lit0t0_498; rw [Nat.mod_mod]) (by omega)
    ((by decide +kernel : ∀ c : Fin 128, lit0t0_498 c.val = if Lvl 8 114 c then 0x3F80#16 else 0#16) c)

theorem m3_115 (c : Fin 128) : lit0t1_3 (49152 + 115 * 128 + c.val) = if Lvl 8 115 c then 0x3F80#16 else 0#16 :=
  chase (F := lit0t0_499) (by unfold lit0t1_3; rw [show (49152 + 115 * 128 + c.val) / 128 % 128 = 115 by omega]; rfl) (by unfold lit0t0_499; rw [Nat.mod_mod]) (by omega)
    ((by decide +kernel : ∀ c : Fin 128, lit0t0_499 c.val = if Lvl 8 115 c then 0x3F80#16 else 0#16) c)

theorem m3_116 (c : Fin 128) : lit0t1_3 (49152 + 116 * 128 + c.val) = if Lvl 8 116 c then 0x3F80#16 else 0#16 :=
  chase (F := lit0t0_500) (by unfold lit0t1_3; rw [show (49152 + 116 * 128 + c.val) / 128 % 128 = 116 by omega]; rfl) (by unfold lit0t0_500; rw [Nat.mod_mod]) (by omega)
    ((by decide +kernel : ∀ c : Fin 128, lit0t0_500 c.val = if Lvl 8 116 c then 0x3F80#16 else 0#16) c)

theorem m3_117 (c : Fin 128) : lit0t1_3 (49152 + 117 * 128 + c.val) = if Lvl 8 117 c then 0x3F80#16 else 0#16 :=
  chase (F := lit0t0_501) (by unfold lit0t1_3; rw [show (49152 + 117 * 128 + c.val) / 128 % 128 = 117 by omega]; rfl) (by unfold lit0t0_501; rw [Nat.mod_mod]) (by omega)
    ((by decide +kernel : ∀ c : Fin 128, lit0t0_501 c.val = if Lvl 8 117 c then 0x3F80#16 else 0#16) c)

theorem m3_118 (c : Fin 128) : lit0t1_3 (49152 + 118 * 128 + c.val) = if Lvl 8 118 c then 0x3F80#16 else 0#16 :=
  chase (F := lit0t0_502) (by unfold lit0t1_3; rw [show (49152 + 118 * 128 + c.val) / 128 % 128 = 118 by omega]; rfl) (by unfold lit0t0_502; rw [Nat.mod_mod]) (by omega)
    ((by decide +kernel : ∀ c : Fin 128, lit0t0_502 c.val = if Lvl 8 118 c then 0x3F80#16 else 0#16) c)

theorem m3_119 (c : Fin 128) : lit0t1_3 (49152 + 119 * 128 + c.val) = if Lvl 8 119 c then 0x3F80#16 else 0#16 :=
  chase (F := lit0t0_503) (by unfold lit0t1_3; rw [show (49152 + 119 * 128 + c.val) / 128 % 128 = 119 by omega]; rfl) (by unfold lit0t0_503; rw [Nat.mod_mod]) (by omega)
    ((by decide +kernel : ∀ c : Fin 128, lit0t0_503 c.val = if Lvl 8 119 c then 0x3F80#16 else 0#16) c)

theorem m3_120 (c : Fin 128) : lit0t1_3 (49152 + 120 * 128 + c.val) = if Lvl 8 120 c then 0x3F80#16 else 0#16 :=
  chase (F := lit0t0_504) (by unfold lit0t1_3; rw [show (49152 + 120 * 128 + c.val) / 128 % 128 = 120 by omega]; rfl) (by unfold lit0t0_504; rw [Nat.mod_mod]) (by omega)
    ((by decide +kernel : ∀ c : Fin 128, lit0t0_504 c.val = if Lvl 8 120 c then 0x3F80#16 else 0#16) c)

theorem m3_121 (c : Fin 128) : lit0t1_3 (49152 + 121 * 128 + c.val) = if Lvl 8 121 c then 0x3F80#16 else 0#16 :=
  chase (F := lit0t0_505) (by unfold lit0t1_3; rw [show (49152 + 121 * 128 + c.val) / 128 % 128 = 121 by omega]; rfl) (by unfold lit0t0_505; rw [Nat.mod_mod]) (by omega)
    ((by decide +kernel : ∀ c : Fin 128, lit0t0_505 c.val = if Lvl 8 121 c then 0x3F80#16 else 0#16) c)

theorem m3_122 (c : Fin 128) : lit0t1_3 (49152 + 122 * 128 + c.val) = if Lvl 8 122 c then 0x3F80#16 else 0#16 :=
  chase (F := lit0t0_506) (by unfold lit0t1_3; rw [show (49152 + 122 * 128 + c.val) / 128 % 128 = 122 by omega]; rfl) (by unfold lit0t0_506; rw [Nat.mod_mod]) (by omega)
    ((by decide +kernel : ∀ c : Fin 128, lit0t0_506 c.val = if Lvl 8 122 c then 0x3F80#16 else 0#16) c)

theorem m3_123 (c : Fin 128) : lit0t1_3 (49152 + 123 * 128 + c.val) = if Lvl 8 123 c then 0x3F80#16 else 0#16 :=
  chase (F := lit0t0_507) (by unfold lit0t1_3; rw [show (49152 + 123 * 128 + c.val) / 128 % 128 = 123 by omega]; rfl) (by unfold lit0t0_507; rw [Nat.mod_mod]) (by omega)
    ((by decide +kernel : ∀ c : Fin 128, lit0t0_507 c.val = if Lvl 8 123 c then 0x3F80#16 else 0#16) c)

theorem m3_124 (c : Fin 128) : lit0t1_3 (49152 + 124 * 128 + c.val) = if Lvl 8 124 c then 0x3F80#16 else 0#16 :=
  chase (F := lit0t0_508) (by unfold lit0t1_3; rw [show (49152 + 124 * 128 + c.val) / 128 % 128 = 124 by omega]; rfl) (by unfold lit0t0_508; rw [Nat.mod_mod]) (by omega)
    ((by decide +kernel : ∀ c : Fin 128, lit0t0_508 c.val = if Lvl 8 124 c then 0x3F80#16 else 0#16) c)

theorem m3_125 (c : Fin 128) : lit0t1_3 (49152 + 125 * 128 + c.val) = if Lvl 8 125 c then 0x3F80#16 else 0#16 :=
  chase (F := lit0t0_509) (by unfold lit0t1_3; rw [show (49152 + 125 * 128 + c.val) / 128 % 128 = 125 by omega]; rfl) (by unfold lit0t0_509; rw [Nat.mod_mod]) (by omega)
    ((by decide +kernel : ∀ c : Fin 128, lit0t0_509 c.val = if Lvl 8 125 c then 0x3F80#16 else 0#16) c)

theorem m3_126 (c : Fin 128) : lit0t1_3 (49152 + 126 * 128 + c.val) = if Lvl 8 126 c then 0x3F80#16 else 0#16 :=
  chase (F := lit0t0_510) (by unfold lit0t1_3; rw [show (49152 + 126 * 128 + c.val) / 128 % 128 = 126 by omega]; rfl) (by unfold lit0t0_510; rw [Nat.mod_mod]) (by omega)
    ((by decide +kernel : ∀ c : Fin 128, lit0t0_510 c.val = if Lvl 8 126 c then 0x3F80#16 else 0#16) c)

theorem m3_127 (c : Fin 128) : lit0t1_3 (49152 + 127 * 128 + c.val) = if Lvl 8 127 c then 0x3F80#16 else 0#16 :=
  chase (F := lit0t0_511) (by unfold lit0t1_3; rw [show (49152 + 127 * 128 + c.val) / 128 % 128 = 127 by omega]; rfl) (by unfold lit0t0_511; rw [Nat.mod_mod]) (by omega)
    ((by decide +kernel : ∀ c : Fin 128, lit0t0_511 c.val = if Lvl 8 127 c then 0x3F80#16 else 0#16) c)

set_option maxHeartbeats 4000000 in
/-- Mask 3. -/
theorem mask3 (r c : Fin 128) : lit0t1_3 (49152 + r.val * 128 + c.val) = if Lvl 8 r c then 0x3F80#16 else 0#16 :=
  match r with
  | ⟨0, _⟩ => m3_0 c
  | ⟨1, _⟩ => m3_1 c
  | ⟨2, _⟩ => m3_2 c
  | ⟨3, _⟩ => m3_3 c
  | ⟨4, _⟩ => m3_4 c
  | ⟨5, _⟩ => m3_5 c
  | ⟨6, _⟩ => m3_6 c
  | ⟨7, _⟩ => m3_7 c
  | ⟨8, _⟩ => m3_8 c
  | ⟨9, _⟩ => m3_9 c
  | ⟨10, _⟩ => m3_10 c
  | ⟨11, _⟩ => m3_11 c
  | ⟨12, _⟩ => m3_12 c
  | ⟨13, _⟩ => m3_13 c
  | ⟨14, _⟩ => m3_14 c
  | ⟨15, _⟩ => m3_15 c
  | ⟨16, _⟩ => m3_16 c
  | ⟨17, _⟩ => m3_17 c
  | ⟨18, _⟩ => m3_18 c
  | ⟨19, _⟩ => m3_19 c
  | ⟨20, _⟩ => m3_20 c
  | ⟨21, _⟩ => m3_21 c
  | ⟨22, _⟩ => m3_22 c
  | ⟨23, _⟩ => m3_23 c
  | ⟨24, _⟩ => m3_24 c
  | ⟨25, _⟩ => m3_25 c
  | ⟨26, _⟩ => m3_26 c
  | ⟨27, _⟩ => m3_27 c
  | ⟨28, _⟩ => m3_28 c
  | ⟨29, _⟩ => m3_29 c
  | ⟨30, _⟩ => m3_30 c
  | ⟨31, _⟩ => m3_31 c
  | ⟨32, _⟩ => m3_32 c
  | ⟨33, _⟩ => m3_33 c
  | ⟨34, _⟩ => m3_34 c
  | ⟨35, _⟩ => m3_35 c
  | ⟨36, _⟩ => m3_36 c
  | ⟨37, _⟩ => m3_37 c
  | ⟨38, _⟩ => m3_38 c
  | ⟨39, _⟩ => m3_39 c
  | ⟨40, _⟩ => m3_40 c
  | ⟨41, _⟩ => m3_41 c
  | ⟨42, _⟩ => m3_42 c
  | ⟨43, _⟩ => m3_43 c
  | ⟨44, _⟩ => m3_44 c
  | ⟨45, _⟩ => m3_45 c
  | ⟨46, _⟩ => m3_46 c
  | ⟨47, _⟩ => m3_47 c
  | ⟨48, _⟩ => m3_48 c
  | ⟨49, _⟩ => m3_49 c
  | ⟨50, _⟩ => m3_50 c
  | ⟨51, _⟩ => m3_51 c
  | ⟨52, _⟩ => m3_52 c
  | ⟨53, _⟩ => m3_53 c
  | ⟨54, _⟩ => m3_54 c
  | ⟨55, _⟩ => m3_55 c
  | ⟨56, _⟩ => m3_56 c
  | ⟨57, _⟩ => m3_57 c
  | ⟨58, _⟩ => m3_58 c
  | ⟨59, _⟩ => m3_59 c
  | ⟨60, _⟩ => m3_60 c
  | ⟨61, _⟩ => m3_61 c
  | ⟨62, _⟩ => m3_62 c
  | ⟨63, _⟩ => m3_63 c
  | ⟨64, _⟩ => m3_64 c
  | ⟨65, _⟩ => m3_65 c
  | ⟨66, _⟩ => m3_66 c
  | ⟨67, _⟩ => m3_67 c
  | ⟨68, _⟩ => m3_68 c
  | ⟨69, _⟩ => m3_69 c
  | ⟨70, _⟩ => m3_70 c
  | ⟨71, _⟩ => m3_71 c
  | ⟨72, _⟩ => m3_72 c
  | ⟨73, _⟩ => m3_73 c
  | ⟨74, _⟩ => m3_74 c
  | ⟨75, _⟩ => m3_75 c
  | ⟨76, _⟩ => m3_76 c
  | ⟨77, _⟩ => m3_77 c
  | ⟨78, _⟩ => m3_78 c
  | ⟨79, _⟩ => m3_79 c
  | ⟨80, _⟩ => m3_80 c
  | ⟨81, _⟩ => m3_81 c
  | ⟨82, _⟩ => m3_82 c
  | ⟨83, _⟩ => m3_83 c
  | ⟨84, _⟩ => m3_84 c
  | ⟨85, _⟩ => m3_85 c
  | ⟨86, _⟩ => m3_86 c
  | ⟨87, _⟩ => m3_87 c
  | ⟨88, _⟩ => m3_88 c
  | ⟨89, _⟩ => m3_89 c
  | ⟨90, _⟩ => m3_90 c
  | ⟨91, _⟩ => m3_91 c
  | ⟨92, _⟩ => m3_92 c
  | ⟨93, _⟩ => m3_93 c
  | ⟨94, _⟩ => m3_94 c
  | ⟨95, _⟩ => m3_95 c
  | ⟨96, _⟩ => m3_96 c
  | ⟨97, _⟩ => m3_97 c
  | ⟨98, _⟩ => m3_98 c
  | ⟨99, _⟩ => m3_99 c
  | ⟨100, _⟩ => m3_100 c
  | ⟨101, _⟩ => m3_101 c
  | ⟨102, _⟩ => m3_102 c
  | ⟨103, _⟩ => m3_103 c
  | ⟨104, _⟩ => m3_104 c
  | ⟨105, _⟩ => m3_105 c
  | ⟨106, _⟩ => m3_106 c
  | ⟨107, _⟩ => m3_107 c
  | ⟨108, _⟩ => m3_108 c
  | ⟨109, _⟩ => m3_109 c
  | ⟨110, _⟩ => m3_110 c
  | ⟨111, _⟩ => m3_111 c
  | ⟨112, _⟩ => m3_112 c
  | ⟨113, _⟩ => m3_113 c
  | ⟨114, _⟩ => m3_114 c
  | ⟨115, _⟩ => m3_115 c
  | ⟨116, _⟩ => m3_116 c
  | ⟨117, _⟩ => m3_117 c
  | ⟨118, _⟩ => m3_118 c
  | ⟨119, _⟩ => m3_119 c
  | ⟨120, _⟩ => m3_120 c
  | ⟨121, _⟩ => m3_121 c
  | ⟨122, _⟩ => m3_122 c
  | ⟨123, _⟩ => m3_123 c
  | ⟨124, _⟩ => m3_124 c
  | ⟨125, _⟩ => m3_125 c
  | ⟨126, _⟩ => m3_126 c
  | ⟨127, _⟩ => m3_127 c
  | ⟨n + 128, h⟩ => absurd h (by omega)

end Cert.KernelIdeal.Value
-- ==== Proof.DeltaMask4.lean ====
/- Mask 4 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m4_0 (c : Fin 128) : lit0t1_4 (65536 + 0 * 128 + c.val) = if Lvl 1 0 c then 0x3F80#16 else 0#16 :=
  chase (F := lit0t0_512) (by unfold lit0t1_4; rw [show (65536 + 0 * 128 + c.val) / 128 % 128 = 0 by omega]; rfl) (by unfold lit0t0_512; rw [Nat.mod_mod]) (by omega)
    ((by decide +kernel : ∀ c : Fin 128, lit0t0_512 c.val = if Lvl 1 0 c then 0x3F80#16 else 0#16) c)

theorem m4_1 (c : Fin 128) : lit0t1_4 (65536 + 1 * 128 + c.val) = if Lvl 1 1 c then 0x3F80#16 else 0#16 :=
  chase (F := lit0t0_513) (by unfold lit0t1_4; rw [show (65536 + 1 * 128 + c.val) / 128 % 128 = 1 by omega]; rfl) (by unfold lit0t0_513; rw [Nat.mod_mod]) (by omega)
    ((by decide +kernel : ∀ c : Fin 128, lit0t0_513 c.val = if Lvl 1 1 c then 0x3F80#16 else 0#16) c)

theorem m4_2 (c : Fin 128) : lit0t1_4 (65536 + 2 * 128 + c.val) = if Lvl 1 2 c then 0x3F80#16 else 0#16 :=
  chase (F := lit0t0_514) (by unfold lit0t1_4; rw [show (65536 + 2 * 128 + c.val) / 128 % 128 = 2 by omega]; rfl) (by unfold lit0t0_514; rw [Nat.mod_mod]) (by omega)
    ((by decide +kernel : ∀ c : Fin 128, lit0t0_514 c.val = if Lvl 1 2 c then 0x3F80#16 else 0#16) c)

theorem m4_3 (c : Fin 128) : lit0t1_4 (65536 + 3 * 128 + c.val) = if Lvl 1 3 c then 0x3F80#16 else 0#16 :=
  chase (F := lit0t0_515) (by unfold lit0t1_4; rw [show (65536 + 3 * 128 + c.val) / 128 % 128 = 3 by omega]; rfl) (by unfold lit0t0_515; rw [Nat.mod_mod]) (by omega)
    ((by decide +kernel : ∀ c : Fin 128, lit0t0_515 c.val = if Lvl 1 3 c then 0x3F80#16 else 0#16) c)

theorem m4_4 (c : Fin 128) : lit0t1_4 (65536 + 4 * 128 + c.val) = if Lvl 1 4 c then 0x3F80#16 else 0#16 :=
  chase (F := lit0t0_516) (by unfold lit0t1_4; rw [show (65536 + 4 * 128 + c.val) / 128 % 128 = 4 by omega]; rfl) (by unfold lit0t0_516; rw [Nat.mod_mod]) (by omega)
    ((by decide +kernel : ∀ c : Fin 128, lit0t0_516 c.val = if Lvl 1 4 c then 0x3F80#16 else 0#16) c)

theorem m4_5 (c : Fin 128) : lit0t1_4 (65536 + 5 * 128 + c.val) = if Lvl 1 5 c then 0x3F80#16 else 0#16 :=
  chase (F := lit0t0_517) (by unfold lit0t1_4; rw [show (65536 + 5 * 128 + c.val) / 128 % 128 = 5 by omega]; rfl) (by unfold lit0t0_517; rw [Nat.mod_mod]) (by omega)
    ((by decide +kernel : ∀ c : Fin 128, lit0t0_517 c.val = if Lvl 1 5 c then 0x3F80#16 else 0#16) c)

theorem m4_6 (c : Fin 128) : lit0t1_4 (65536 + 6 * 128 + c.val) = if Lvl 1 6 c then 0x3F80#16 else 0#16 :=
  chase (F := lit0t0_518) (by unfold lit0t1_4; rw [show (65536 + 6 * 128 + c.val) / 128 % 128 = 6 by omega]; rfl) (by unfold lit0t0_518; rw [Nat.mod_mod]) (by omega)
    ((by decide +kernel : ∀ c : Fin 128, lit0t0_518 c.val = if Lvl 1 6 c then 0x3F80#16 else 0#16) c)

theorem m4_7 (c : Fin 128) : lit0t1_4 (65536 + 7 * 128 + c.val) = if Lvl 1 7 c then 0x3F80#16 else 0#16 :=
  chase (F := lit0t0_519) (by unfold lit0t1_4; rw [show (65536 + 7 * 128 + c.val) / 128 % 128 = 7 by omega]; rfl) (by unfold lit0t0_519; rw [Nat.mod_mod]) (by omega)
    ((by decide +kernel : ∀ c : Fin 128, lit0t0_519 c.val = if Lvl 1 7 c then 0x3F80#16 else 0#16) c)

theorem m4_8 (c : Fin 128) : lit0t1_4 (65536 + 8 * 128 + c.val) = if Lvl 1 8 c then 0x3F80#16 else 0#16 :=
  chase (F := lit0t0_520) (by unfold lit0t1_4; rw [show (65536 + 8 * 128 + c.val) / 128 % 128 = 8 by omega]; rfl) (by unfold lit0t0_520; rw [Nat.mod_mod]) (by omega)
    ((by decide +kernel : ∀ c : Fin 128, lit0t0_520 c.val = if Lvl 1 8 c then 0x3F80#16 else 0#16) c)

theorem m4_9 (c : Fin 128) : lit0t1_4 (65536 + 9 * 128 + c.val) = if Lvl 1 9 c then 0x3F80#16 else 0#16 :=
  chase (F := lit0t0_521) (by unfold lit0t1_4; rw [show (65536 + 9 * 128 + c.val) / 128 % 128 = 9 by omega]; rfl) (by unfold lit0t0_521; rw [Nat.mod_mod]) (by omega)
    ((by decide +kernel : ∀ c : Fin 128, lit0t0_521 c.val = if Lvl 1 9 c then 0x3F80#16 else 0#16) c)

theorem m4_10 (c : Fin 128) : lit0t1_4 (65536 + 10 * 128 + c.val) = if Lvl 1 10 c then 0x3F80#16 else 0#16 :=
  chase (F := lit0t0_522) (by unfold lit0t1_4; rw [show (65536 + 10 * 128 + c.val) / 128 % 128 = 10 by omega]; rfl) (by unfold lit0t0_522; rw [Nat.mod_mod]) (by omega)
    ((by decide +kernel : ∀ c : Fin 128, lit0t0_522 c.val = if Lvl 1 10 c then 0x3F80#16 else 0#16) c)

theorem m4_11 (c : Fin 128) : lit0t1_4 (65536 + 11 * 128 + c.val) = if Lvl 1 11 c then 0x3F80#16 else 0#16 :=
  chase (F := lit0t0_523) (by unfold lit0t1_4; rw [show (65536 + 11 * 128 + c.val) / 128 % 128 = 11 by omega]; rfl) (by unfold lit0t0_523; rw [Nat.mod_mod]) (by omega)
    ((by decide +kernel : ∀ c : Fin 128, lit0t0_523 c.val = if Lvl 1 11 c then 0x3F80#16 else 0#16) c)

theorem m4_12 (c : Fin 128) : lit0t1_4 (65536 + 12 * 128 + c.val) = if Lvl 1 12 c then 0x3F80#16 else 0#16 :=
  chase (F := lit0t0_524) (by unfold lit0t1_4; rw [show (65536 + 12 * 128 + c.val) / 128 % 128 = 12 by omega]; rfl) (by unfold lit0t0_524; rw [Nat.mod_mod]) (by omega)
    ((by decide +kernel : ∀ c : Fin 128, lit0t0_524 c.val = if Lvl 1 12 c then 0x3F80#16 else 0#16) c)

theorem m4_13 (c : Fin 128) : lit0t1_4 (65536 + 13 * 128 + c.val) = if Lvl 1 13 c then 0x3F80#16 else 0#16 :=
  chase (F := lit0t0_525) (by unfold lit0t1_4; rw [show (65536 + 13 * 128 + c.val) / 128 % 128 = 13 by omega]; rfl) (by unfold lit0t0_525; rw [Nat.mod_mod]) (by omega)
    ((by decide +kernel : ∀ c : Fin 128, lit0t0_525 c.val = if Lvl 1 13 c then 0x3F80#16 else 0#16) c)

theorem m4_14 (c : Fin 128) : lit0t1_4 (65536 + 14 * 128 + c.val) = if Lvl 1 14 c then 0x3F80#16 else 0#16 :=
  chase (F := lit0t0_526) (by unfold lit0t1_4; rw [show (65536 + 14 * 128 + c.val) / 128 % 128 = 14 by omega]; rfl) (by unfold lit0t0_526; rw [Nat.mod_mod]) (by omega)
    ((by decide +kernel : ∀ c : Fin 128, lit0t0_526 c.val = if Lvl 1 14 c then 0x3F80#16 else 0#16) c)

theorem m4_15 (c : Fin 128) : lit0t1_4 (65536 + 15 * 128 + c.val) = if Lvl 1 15 c then 0x3F80#16 else 0#16 :=
  chase (F := lit0t0_527) (by unfold lit0t1_4; rw [show (65536 + 15 * 128 + c.val) / 128 % 128 = 15 by omega]; rfl) (by unfold lit0t0_527; rw [Nat.mod_mod]) (by omega)
    ((by decide +kernel : ∀ c : Fin 128, lit0t0_527 c.val = if Lvl 1 15 c then 0x3F80#16 else 0#16) c)

theorem m4_16 (c : Fin 128) : lit0t1_4 (65536 + 16 * 128 + c.val) = if Lvl 1 16 c then 0x3F80#16 else 0#16 :=
  chase (F := lit0t0_528) (by unfold lit0t1_4; rw [show (65536 + 16 * 128 + c.val) / 128 % 128 = 16 by omega]; rfl) (by unfold lit0t0_528; rw [Nat.mod_mod]) (by omega)
    ((by decide +kernel : ∀ c : Fin 128, lit0t0_528 c.val = if Lvl 1 16 c then 0x3F80#16 else 0#16) c)

theorem m4_17 (c : Fin 128) : lit0t1_4 (65536 + 17 * 128 + c.val) = if Lvl 1 17 c then 0x3F80#16 else 0#16 :=
  chase (F := lit0t0_529) (by unfold lit0t1_4; rw [show (65536 + 17 * 128 + c.val) / 128 % 128 = 17 by omega]; rfl) (by unfold lit0t0_529; rw [Nat.mod_mod]) (by omega)
    ((by decide +kernel : ∀ c : Fin 128, lit0t0_529 c.val = if Lvl 1 17 c then 0x3F80#16 else 0#16) c)

theorem m4_18 (c : Fin 128) : lit0t1_4 (65536 + 18 * 128 + c.val) = if Lvl 1 18 c then 0x3F80#16 else 0#16 :=
  chase (F := lit0t0_530) (by unfold lit0t1_4; rw [show (65536 + 18 * 128 + c.val) / 128 % 128 = 18 by omega]; rfl) (by unfold lit0t0_530; rw [Nat.mod_mod]) (by omega)
    ((by decide +kernel : ∀ c : Fin 128, lit0t0_530 c.val = if Lvl 1 18 c then 0x3F80#16 else 0#16) c)

theorem m4_19 (c : Fin 128) : lit0t1_4 (65536 + 19 * 128 + c.val) = if Lvl 1 19 c then 0x3F80#16 else 0#16 :=
  chase (F := lit0t0_531) (by unfold lit0t1_4; rw [show (65536 + 19 * 128 + c.val) / 128 % 128 = 19 by omega]; rfl) (by unfold lit0t0_531; rw [Nat.mod_mod]) (by omega)
    ((by decide +kernel : ∀ c : Fin 128, lit0t0_531 c.val = if Lvl 1 19 c then 0x3F80#16 else 0#16) c)

theorem m4_20 (c : Fin 128) : lit0t1_4 (65536 + 20 * 128 + c.val) = if Lvl 1 20 c then 0x3F80#16 else 0#16 :=
  chase (F := lit0t0_532) (by unfold lit0t1_4; rw [show (65536 + 20 * 128 + c.val) / 128 % 128 = 20 by omega]; rfl) (by unfold lit0t0_532; rw [Nat.mod_mod]) (by omega)
    ((by decide +kernel : ∀ c : Fin 128, lit0t0_532 c.val = if Lvl 1 20 c then 0x3F80#16 else 0#16) c)

theorem m4_21 (c : Fin 128) : lit0t1_4 (65536 + 21 * 128 + c.val) = if Lvl 1 21 c then 0x3F80#16 else 0#16 :=
  chase (F := lit0t0_533) (by unfold lit0t1_4; rw [show (65536 + 21 * 128 + c.val) / 128 % 128 = 21 by omega]; rfl) (by unfold lit0t0_533; rw [Nat.mod_mod]) (by omega)
    ((by decide +kernel : ∀ c : Fin 128, lit0t0_533 c.val = if Lvl 1 21 c then 0x3F80#16 else 0#16) c)

theorem m4_22 (c : Fin 128) : lit0t1_4 (65536 + 22 * 128 + c.val) = if Lvl 1 22 c then 0x3F80#16 else 0#16 :=
  chase (F := lit0t0_534) (by unfold lit0t1_4; rw [show (65536 + 22 * 128 + c.val) / 128 % 128 = 22 by omega]; rfl) (by unfold lit0t0_534; rw [Nat.mod_mod]) (by omega)
    ((by decide +kernel : ∀ c : Fin 128, lit0t0_534 c.val = if Lvl 1 22 c then 0x3F80#16 else 0#16) c)

theorem m4_23 (c : Fin 128) : lit0t1_4 (65536 + 23 * 128 + c.val) = if Lvl 1 23 c then 0x3F80#16 else 0#16 :=
  chase (F := lit0t0_535) (by unfold lit0t1_4; rw [show (65536 + 23 * 128 + c.val) / 128 % 128 = 23 by omega]; rfl) (by unfold lit0t0_535; rw [Nat.mod_mod]) (by omega)
    ((by decide +kernel : ∀ c : Fin 128, lit0t0_535 c.val = if Lvl 1 23 c then 0x3F80#16 else 0#16) c)

theorem m4_24 (c : Fin 128) : lit0t1_4 (65536 + 24 * 128 + c.val) = if Lvl 1 24 c then 0x3F80#16 else 0#16 :=
  chase (F := lit0t0_536) (by unfold lit0t1_4; rw [show (65536 + 24 * 128 + c.val) / 128 % 128 = 24 by omega]; rfl) (by unfold lit0t0_536; rw [Nat.mod_mod]) (by omega)
    ((by decide +kernel : ∀ c : Fin 128, lit0t0_536 c.val = if Lvl 1 24 c then 0x3F80#16 else 0#16) c)

theorem m4_25 (c : Fin 128) : lit0t1_4 (65536 + 25 * 128 + c.val) = if Lvl 1 25 c then 0x3F80#16 else 0#16 :=
  chase (F := lit0t0_537) (by unfold lit0t1_4; rw [show (65536 + 25 * 128 + c.val) / 128 % 128 = 25 by omega]; rfl) (by unfold lit0t0_537; rw [Nat.mod_mod]) (by omega)
    ((by decide +kernel : ∀ c : Fin 128, lit0t0_537 c.val = if Lvl 1 25 c then 0x3F80#16 else 0#16) c)

theorem m4_26 (c : Fin 128) : lit0t1_4 (65536 + 26 * 128 + c.val) = if Lvl 1 26 c then 0x3F80#16 else 0#16 :=
  chase (F := lit0t0_538) (by unfold lit0t1_4; rw [show (65536 + 26 * 128 + c.val) / 128 % 128 = 26 by omega]; rfl) (by unfold lit0t0_538; rw [Nat.mod_mod]) (by omega)
    ((by decide +kernel : ∀ c : Fin 128, lit0t0_538 c.val = if Lvl 1 26 c then 0x3F80#16 else 0#16) c)

theorem m4_27 (c : Fin 128) : lit0t1_4 (65536 + 27 * 128 + c.val) = if Lvl 1 27 c then 0x3F80#16 else 0#16 :=
  chase (F := lit0t0_539) (by unfold lit0t1_4; rw [show (65536 + 27 * 128 + c.val) / 128 % 128 = 27 by omega]; rfl) (by unfold lit0t0_539; rw [Nat.mod_mod]) (by omega)
    ((by decide +kernel : ∀ c : Fin 128, lit0t0_539 c.val = if Lvl 1 27 c then 0x3F80#16 else 0#16) c)

theorem m4_28 (c : Fin 128) : lit0t1_4 (65536 + 28 * 128 + c.val) = if Lvl 1 28 c then 0x3F80#16 else 0#16 :=
  chase (F := lit0t0_540) (by unfold lit0t1_4; rw [show (65536 + 28 * 128 + c.val) / 128 % 128 = 28 by omega]; rfl) (by unfold lit0t0_540; rw [Nat.mod_mod]) (by omega)
    ((by decide +kernel : ∀ c : Fin 128, lit0t0_540 c.val = if Lvl 1 28 c then 0x3F80#16 else 0#16) c)

theorem m4_29 (c : Fin 128) : lit0t1_4 (65536 + 29 * 128 + c.val) = if Lvl 1 29 c then 0x3F80#16 else 0#16 :=
  chase (F := lit0t0_541) (by unfold lit0t1_4; rw [show (65536 + 29 * 128 + c.val) / 128 % 128 = 29 by omega]; rfl) (by unfold lit0t0_541; rw [Nat.mod_mod]) (by omega)
    ((by decide +kernel : ∀ c : Fin 128, lit0t0_541 c.val = if Lvl 1 29 c then 0x3F80#16 else 0#16) c)

theorem m4_30 (c : Fin 128) : lit0t1_4 (65536 + 30 * 128 + c.val) = if Lvl 1 30 c then 0x3F80#16 else 0#16 :=
  chase (F := lit0t0_542) (by unfold lit0t1_4; rw [show (65536 + 30 * 128 + c.val) / 128 % 128 = 30 by omega]; rfl) (by unfold lit0t0_542; rw [Nat.mod_mod]) (by omega)
    ((by decide +kernel : ∀ c : Fin 128, lit0t0_542 c.val = if Lvl 1 30 c then 0x3F80#16 else 0#16) c)

theorem m4_31 (c : Fin 128) : lit0t1_4 (65536 + 31 * 128 + c.val) = if Lvl 1 31 c then 0x3F80#16 else 0#16 :=
  chase (F := lit0t0_543) (by unfold lit0t1_4; rw [show (65536 + 31 * 128 + c.val) / 128 % 128 = 31 by omega]; rfl) (by unfold lit0t0_543; rw [Nat.mod_mod]) (by omega)
    ((by decide +kernel : ∀ c : Fin 128, lit0t0_543 c.val = if Lvl 1 31 c then 0x3F80#16 else 0#16) c)

theorem m4_32 (c : Fin 128) : lit0t1_4 (65536 + 32 * 128 + c.val) = if Lvl 1 32 c then 0x3F80#16 else 0#16 :=
  chase (F := lit0t0_544) (by unfold lit0t1_4; rw [show (65536 + 32 * 128 + c.val) / 128 % 128 = 32 by omega]; rfl) (by unfold lit0t0_544; rw [Nat.mod_mod]) (by omega)
    ((by decide +kernel : ∀ c : Fin 128, lit0t0_544 c.val = if Lvl 1 32 c then 0x3F80#16 else 0#16) c)

theorem m4_33 (c : Fin 128) : lit0t1_4 (65536 + 33 * 128 + c.val) = if Lvl 1 33 c then 0x3F80#16 else 0#16 :=
  chase (F := lit0t0_545) (by unfold lit0t1_4; rw [show (65536 + 33 * 128 + c.val) / 128 % 128 = 33 by omega]; rfl) (by unfold lit0t0_545; rw [Nat.mod_mod]) (by omega)
    ((by decide +kernel : ∀ c : Fin 128, lit0t0_545 c.val = if Lvl 1 33 c then 0x3F80#16 else 0#16) c)

theorem m4_34 (c : Fin 128) : lit0t1_4 (65536 + 34 * 128 + c.val) = if Lvl 1 34 c then 0x3F80#16 else 0#16 :=
  chase (F := lit0t0_546) (by unfold lit0t1_4; rw [show (65536 + 34 * 128 + c.val) / 128 % 128 = 34 by omega]; rfl) (by unfold lit0t0_546; rw [Nat.mod_mod]) (by omega)
    ((by decide +kernel : ∀ c : Fin 128, lit0t0_546 c.val = if Lvl 1 34 c then 0x3F80#16 else 0#16) c)

theorem m4_35 (c : Fin 128) : lit0t1_4 (65536 + 35 * 128 + c.val) = if Lvl 1 35 c then 0x3F80#16 else 0#16 :=
  chase (F := lit0t0_547) (by unfold lit0t1_4; rw [show (65536 + 35 * 128 + c.val) / 128 % 128 = 35 by omega]; rfl) (by unfold lit0t0_547; rw [Nat.mod_mod]) (by omega)
    ((by decide +kernel : ∀ c : Fin 128, lit0t0_547 c.val = if Lvl 1 35 c then 0x3F80#16 else 0#16) c)

theorem m4_36 (c : Fin 128) : lit0t1_4 (65536 + 36 * 128 + c.val) = if Lvl 1 36 c then 0x3F80#16 else 0#16 :=
  chase (F := lit0t0_548) (by unfold lit0t1_4; rw [show (65536 + 36 * 128 + c.val) / 128 % 128 = 36 by omega]; rfl) (by unfold lit0t0_548; rw [Nat.mod_mod]) (by omega)
    ((by decide +kernel : ∀ c : Fin 128, lit0t0_548 c.val = if Lvl 1 36 c then 0x3F80#16 else 0#16) c)

theorem m4_37 (c : Fin 128) : lit0t1_4 (65536 + 37 * 128 + c.val) = if Lvl 1 37 c then 0x3F80#16 else 0#16 :=
  chase (F := lit0t0_549) (by unfold lit0t1_4; rw [show (65536 + 37 * 128 + c.val) / 128 % 128 = 37 by omega]; rfl) (by unfold lit0t0_549; rw [Nat.mod_mod]) (by omega)
    ((by decide +kernel : ∀ c : Fin 128, lit0t0_549 c.val = if Lvl 1 37 c then 0x3F80#16 else 0#16) c)

theorem m4_38 (c : Fin 128) : lit0t1_4 (65536 + 38 * 128 + c.val) = if Lvl 1 38 c then 0x3F80#16 else 0#16 :=
  chase (F := lit0t0_550) (by unfold lit0t1_4; rw [show (65536 + 38 * 128 + c.val) / 128 % 128 = 38 by omega]; rfl) (by unfold lit0t0_550; rw [Nat.mod_mod]) (by omega)
    ((by decide +kernel : ∀ c : Fin 128, lit0t0_550 c.val = if Lvl 1 38 c then 0x3F80#16 else 0#16) c)

theorem m4_39 (c : Fin 128) : lit0t1_4 (65536 + 39 * 128 + c.val) = if Lvl 1 39 c then 0x3F80#16 else 0#16 :=
  chase (F := lit0t0_551) (by unfold lit0t1_4; rw [show (65536 + 39 * 128 + c.val) / 128 % 128 = 39 by omega]; rfl) (by unfold lit0t0_551; rw [Nat.mod_mod]) (by omega)
    ((by decide +kernel : ∀ c : Fin 128, lit0t0_551 c.val = if Lvl 1 39 c then 0x3F80#16 else 0#16) c)

theorem m4_40 (c : Fin 128) : lit0t1_4 (65536 + 40 * 128 + c.val) = if Lvl 1 40 c then 0x3F80#16 else 0#16 :=
  chase (F := lit0t0_552) (by unfold lit0t1_4; rw [show (65536 + 40 * 128 + c.val) / 128 % 128 = 40 by omega]; rfl) (by unfold lit0t0_552; rw [Nat.mod_mod]) (by omega)
    ((by decide +kernel : ∀ c : Fin 128, lit0t0_552 c.val = if Lvl 1 40 c then 0x3F80#16 else 0#16) c)

theorem m4_41 (c : Fin 128) : lit0t1_4 (65536 + 41 * 128 + c.val) = if Lvl 1 41 c then 0x3F80#16 else 0#16 :=
  chase (F := lit0t0_553) (by unfold lit0t1_4; rw [show (65536 + 41 * 128 + c.val) / 128 % 128 = 41 by omega]; rfl) (by unfold lit0t0_553; rw [Nat.mod_mod]) (by omega)
    ((by decide +kernel : ∀ c : Fin 128, lit0t0_553 c.val = if Lvl 1 41 c then 0x3F80#16 else 0#16) c)

theorem m4_42 (c : Fin 128) : lit0t1_4 (65536 + 42 * 128 + c.val) = if Lvl 1 42 c then 0x3F80#16 else 0#16 :=
  chase (F := lit0t0_554) (by unfold lit0t1_4; rw [show (65536 + 42 * 128 + c.val) / 128 % 128 = 42 by omega]; rfl) (by unfold lit0t0_554; rw [Nat.mod_mod]) (by omega)
    ((by decide +kernel : ∀ c : Fin 128, lit0t0_554 c.val = if Lvl 1 42 c then 0x3F80#16 else 0#16) c)

theorem m4_43 (c : Fin 128) : lit0t1_4 (65536 + 43 * 128 + c.val) = if Lvl 1 43 c then 0x3F80#16 else 0#16 :=
  chase (F := lit0t0_555) (by unfold lit0t1_4; rw [show (65536 + 43 * 128 + c.val) / 128 % 128 = 43 by omega]; rfl) (by unfold lit0t0_555; rw [Nat.mod_mod]) (by omega)
    ((by decide +kernel : ∀ c : Fin 128, lit0t0_555 c.val = if Lvl 1 43 c then 0x3F80#16 else 0#16) c)

theorem m4_44 (c : Fin 128) : lit0t1_4 (65536 + 44 * 128 + c.val) = if Lvl 1 44 c then 0x3F80#16 else 0#16 :=
  chase (F := lit0t0_556) (by unfold lit0t1_4; rw [show (65536 + 44 * 128 + c.val) / 128 % 128 = 44 by omega]; rfl) (by unfold lit0t0_556; rw [Nat.mod_mod]) (by omega)
    ((by decide +kernel : ∀ c : Fin 128, lit0t0_556 c.val = if Lvl 1 44 c then 0x3F80#16 else 0#16) c)

theorem m4_45 (c : Fin 128) : lit0t1_4 (65536 + 45 * 128 + c.val) = if Lvl 1 45 c then 0x3F80#16 else 0#16 :=
  chase (F := lit0t0_557) (by unfold lit0t1_4; rw [show (65536 + 45 * 128 + c.val) / 128 % 128 = 45 by omega]; rfl) (by unfold lit0t0_557; rw [Nat.mod_mod]) (by omega)
    ((by decide +kernel : ∀ c : Fin 128, lit0t0_557 c.val = if Lvl 1 45 c then 0x3F80#16 else 0#16) c)

theorem m4_46 (c : Fin 128) : lit0t1_4 (65536 + 46 * 128 + c.val) = if Lvl 1 46 c then 0x3F80#16 else 0#16 :=
  chase (F := lit0t0_558) (by unfold lit0t1_4; rw [show (65536 + 46 * 128 + c.val) / 128 % 128 = 46 by omega]; rfl) (by unfold lit0t0_558; rw [Nat.mod_mod]) (by omega)
    ((by decide +kernel : ∀ c : Fin 128, lit0t0_558 c.val = if Lvl 1 46 c then 0x3F80#16 else 0#16) c)

theorem m4_47 (c : Fin 128) : lit0t1_4 (65536 + 47 * 128 + c.val) = if Lvl 1 47 c then 0x3F80#16 else 0#16 :=
  chase (F := lit0t0_559) (by unfold lit0t1_4; rw [show (65536 + 47 * 128 + c.val) / 128 % 128 = 47 by omega]; rfl) (by unfold lit0t0_559; rw [Nat.mod_mod]) (by omega)
    ((by decide +kernel : ∀ c : Fin 128, lit0t0_559 c.val = if Lvl 1 47 c then 0x3F80#16 else 0#16) c)

theorem m4_48 (c : Fin 128) : lit0t1_4 (65536 + 48 * 128 + c.val) = if Lvl 1 48 c then 0x3F80#16 else 0#16 :=
  chase (F := lit0t0_560) (by unfold lit0t1_4; rw [show (65536 + 48 * 128 + c.val) / 128 % 128 = 48 by omega]; rfl) (by unfold lit0t0_560; rw [Nat.mod_mod]) (by omega)
    ((by decide +kernel : ∀ c : Fin 128, lit0t0_560 c.val = if Lvl 1 48 c then 0x3F80#16 else 0#16) c)

theorem m4_49 (c : Fin 128) : lit0t1_4 (65536 + 49 * 128 + c.val) = if Lvl 1 49 c then 0x3F80#16 else 0#16 :=
  chase (F := lit0t0_561) (by unfold lit0t1_4; rw [show (65536 + 49 * 128 + c.val) / 128 % 128 = 49 by omega]; rfl) (by unfold lit0t0_561; rw [Nat.mod_mod]) (by omega)
    ((by decide +kernel : ∀ c : Fin 128, lit0t0_561 c.val = if Lvl 1 49 c then 0x3F80#16 else 0#16) c)

theorem m4_50 (c : Fin 128) : lit0t1_4 (65536 + 50 * 128 + c.val) = if Lvl 1 50 c then 0x3F80#16 else 0#16 :=
  chase (F := lit0t0_562) (by unfold lit0t1_4; rw [show (65536 + 50 * 128 + c.val) / 128 % 128 = 50 by omega]; rfl) (by unfold lit0t0_562; rw [Nat.mod_mod]) (by omega)
    ((by decide +kernel : ∀ c : Fin 128, lit0t0_562 c.val = if Lvl 1 50 c then 0x3F80#16 else 0#16) c)

theorem m4_51 (c : Fin 128) : lit0t1_4 (65536 + 51 * 128 + c.val) = if Lvl 1 51 c then 0x3F80#16 else 0#16 :=
  chase (F := lit0t0_563) (by unfold lit0t1_4; rw [show (65536 + 51 * 128 + c.val) / 128 % 128 = 51 by omega]; rfl) (by unfold lit0t0_563; rw [Nat.mod_mod]) (by omega)
    ((by decide +kernel : ∀ c : Fin 128, lit0t0_563 c.val = if Lvl 1 51 c then 0x3F80#16 else 0#16) c)

theorem m4_52 (c : Fin 128) : lit0t1_4 (65536 + 52 * 128 + c.val) = if Lvl 1 52 c then 0x3F80#16 else 0#16 :=
  chase (F := lit0t0_564) (by unfold lit0t1_4; rw [show (65536 + 52 * 128 + c.val) / 128 % 128 = 52 by omega]; rfl) (by unfold lit0t0_564; rw [Nat.mod_mod]) (by omega)
    ((by decide +kernel : ∀ c : Fin 128, lit0t0_564 c.val = if Lvl 1 52 c then 0x3F80#16 else 0#16) c)

theorem m4_53 (c : Fin 128) : lit0t1_4 (65536 + 53 * 128 + c.val) = if Lvl 1 53 c then 0x3F80#16 else 0#16 :=
  chase (F := lit0t0_565) (by unfold lit0t1_4; rw [show (65536 + 53 * 128 + c.val) / 128 % 128 = 53 by omega]; rfl) (by unfold lit0t0_565; rw [Nat.mod_mod]) (by omega)
    ((by decide +kernel : ∀ c : Fin 128, lit0t0_565 c.val = if Lvl 1 53 c then 0x3F80#16 else 0#16) c)

theorem m4_54 (c : Fin 128) : lit0t1_4 (65536 + 54 * 128 + c.val) = if Lvl 1 54 c then 0x3F80#16 else 0#16 :=
  chase (F := lit0t0_566) (by unfold lit0t1_4; rw [show (65536 + 54 * 128 + c.val) / 128 % 128 = 54 by omega]; rfl) (by unfold lit0t0_566; rw [Nat.mod_mod]) (by omega)
    ((by decide +kernel : ∀ c : Fin 128, lit0t0_566 c.val = if Lvl 1 54 c then 0x3F80#16 else 0#16) c)

theorem m4_55 (c : Fin 128) : lit0t1_4 (65536 + 55 * 128 + c.val) = if Lvl 1 55 c then 0x3F80#16 else 0#16 :=
  chase (F := lit0t0_567) (by unfold lit0t1_4; rw [show (65536 + 55 * 128 + c.val) / 128 % 128 = 55 by omega]; rfl) (by unfold lit0t0_567; rw [Nat.mod_mod]) (by omega)
    ((by decide +kernel : ∀ c : Fin 128, lit0t0_567 c.val = if Lvl 1 55 c then 0x3F80#16 else 0#16) c)

theorem m4_56 (c : Fin 128) : lit0t1_4 (65536 + 56 * 128 + c.val) = if Lvl 1 56 c then 0x3F80#16 else 0#16 :=
  chase (F := lit0t0_568) (by unfold lit0t1_4; rw [show (65536 + 56 * 128 + c.val) / 128 % 128 = 56 by omega]; rfl) (by unfold lit0t0_568; rw [Nat.mod_mod]) (by omega)
    ((by decide +kernel : ∀ c : Fin 128, lit0t0_568 c.val = if Lvl 1 56 c then 0x3F80#16 else 0#16) c)

theorem m4_57 (c : Fin 128) : lit0t1_4 (65536 + 57 * 128 + c.val) = if Lvl 1 57 c then 0x3F80#16 else 0#16 :=
  chase (F := lit0t0_569) (by unfold lit0t1_4; rw [show (65536 + 57 * 128 + c.val) / 128 % 128 = 57 by omega]; rfl) (by unfold lit0t0_569; rw [Nat.mod_mod]) (by omega)
    ((by decide +kernel : ∀ c : Fin 128, lit0t0_569 c.val = if Lvl 1 57 c then 0x3F80#16 else 0#16) c)

theorem m4_58 (c : Fin 128) : lit0t1_4 (65536 + 58 * 128 + c.val) = if Lvl 1 58 c then 0x3F80#16 else 0#16 :=
  chase (F := lit0t0_570) (by unfold lit0t1_4; rw [show (65536 + 58 * 128 + c.val) / 128 % 128 = 58 by omega]; rfl) (by unfold lit0t0_570; rw [Nat.mod_mod]) (by omega)
    ((by decide +kernel : ∀ c : Fin 128, lit0t0_570 c.val = if Lvl 1 58 c then 0x3F80#16 else 0#16) c)

theorem m4_59 (c : Fin 128) : lit0t1_4 (65536 + 59 * 128 + c.val) = if Lvl 1 59 c then 0x3F80#16 else 0#16 :=
  chase (F := lit0t0_571) (by unfold lit0t1_4; rw [show (65536 + 59 * 128 + c.val) / 128 % 128 = 59 by omega]; rfl) (by unfold lit0t0_571; rw [Nat.mod_mod]) (by omega)
    ((by decide +kernel : ∀ c : Fin 128, lit0t0_571 c.val = if Lvl 1 59 c then 0x3F80#16 else 0#16) c)

theorem m4_60 (c : Fin 128) : lit0t1_4 (65536 + 60 * 128 + c.val) = if Lvl 1 60 c then 0x3F80#16 else 0#16 :=
  chase (F := lit0t0_572) (by unfold lit0t1_4; rw [show (65536 + 60 * 128 + c.val) / 128 % 128 = 60 by omega]; rfl) (by unfold lit0t0_572; rw [Nat.mod_mod]) (by omega)
    ((by decide +kernel : ∀ c : Fin 128, lit0t0_572 c.val = if Lvl 1 60 c then 0x3F80#16 else 0#16) c)

theorem m4_61 (c : Fin 128) : lit0t1_4 (65536 + 61 * 128 + c.val) = if Lvl 1 61 c then 0x3F80#16 else 0#16 :=
  chase (F := lit0t0_573) (by unfold lit0t1_4; rw [show (65536 + 61 * 128 + c.val) / 128 % 128 = 61 by omega]; rfl) (by unfold lit0t0_573; rw [Nat.mod_mod]) (by omega)
    ((by decide +kernel : ∀ c : Fin 128, lit0t0_573 c.val = if Lvl 1 61 c then 0x3F80#16 else 0#16) c)

theorem m4_62 (c : Fin 128) : lit0t1_4 (65536 + 62 * 128 + c.val) = if Lvl 1 62 c then 0x3F80#16 else 0#16 :=
  chase (F := lit0t0_574) (by unfold lit0t1_4; rw [show (65536 + 62 * 128 + c.val) / 128 % 128 = 62 by omega]; rfl) (by unfold lit0t0_574; rw [Nat.mod_mod]) (by omega)
    ((by decide +kernel : ∀ c : Fin 128, lit0t0_574 c.val = if Lvl 1 62 c then 0x3F80#16 else 0#16) c)

theorem m4_63 (c : Fin 128) : lit0t1_4 (65536 + 63 * 128 + c.val) = if Lvl 1 63 c then 0x3F80#16 else 0#16 :=
  chase (F := lit0t0_575) (by unfold lit0t1_4; rw [show (65536 + 63 * 128 + c.val) / 128 % 128 = 63 by omega]; rfl) (by unfold lit0t0_575; rw [Nat.mod_mod]) (by omega)
    ((by decide +kernel : ∀ c : Fin 128, lit0t0_575 c.val = if Lvl 1 63 c then 0x3F80#16 else 0#16) c)

theorem m4_64 (c : Fin 128) : lit0t1_4 (65536 + 64 * 128 + c.val) = if Lvl 1 64 c then 0x3F80#16 else 0#16 :=
  chase (F := lit0t0_576) (by unfold lit0t1_4; rw [show (65536 + 64 * 128 + c.val) / 128 % 128 = 64 by omega]; rfl) (by unfold lit0t0_576; rw [Nat.mod_mod]) (by omega)
    ((by decide +kernel : ∀ c : Fin 128, lit0t0_576 c.val = if Lvl 1 64 c then 0x3F80#16 else 0#16) c)

theorem m4_65 (c : Fin 128) : lit0t1_4 (65536 + 65 * 128 + c.val) = if Lvl 1 65 c then 0x3F80#16 else 0#16 :=
  chase (F := lit0t0_577) (by unfold lit0t1_4; rw [show (65536 + 65 * 128 + c.val) / 128 % 128 = 65 by omega]; rfl) (by unfold lit0t0_577; rw [Nat.mod_mod]) (by omega)
    ((by decide +kernel : ∀ c : Fin 128, lit0t0_577 c.val = if Lvl 1 65 c then 0x3F80#16 else 0#16) c)

theorem m4_66 (c : Fin 128) : lit0t1_4 (65536 + 66 * 128 + c.val) = if Lvl 1 66 c then 0x3F80#16 else 0#16 :=
  chase (F := lit0t0_578) (by unfold lit0t1_4; rw [show (65536 + 66 * 128 + c.val) / 128 % 128 = 66 by omega]; rfl) (by unfold lit0t0_578; rw [Nat.mod_mod]) (by omega)
    ((by decide +kernel : ∀ c : Fin 128, lit0t0_578 c.val = if Lvl 1 66 c then 0x3F80#16 else 0#16) c)

theorem m4_67 (c : Fin 128) : lit0t1_4 (65536 + 67 * 128 + c.val) = if Lvl 1 67 c then 0x3F80#16 else 0#16 :=
  chase (F := lit0t0_579) (by unfold lit0t1_4; rw [show (65536 + 67 * 128 + c.val) / 128 % 128 = 67 by omega]; rfl) (by unfold lit0t0_579; rw [Nat.mod_mod]) (by omega)
    ((by decide +kernel : ∀ c : Fin 128, lit0t0_579 c.val = if Lvl 1 67 c then 0x3F80#16 else 0#16) c)

theorem m4_68 (c : Fin 128) : lit0t1_4 (65536 + 68 * 128 + c.val) = if Lvl 1 68 c then 0x3F80#16 else 0#16 :=
  chase (F := lit0t0_580) (by unfold lit0t1_4; rw [show (65536 + 68 * 128 + c.val) / 128 % 128 = 68 by omega]; rfl) (by unfold lit0t0_580; rw [Nat.mod_mod]) (by omega)
    ((by decide +kernel : ∀ c : Fin 128, lit0t0_580 c.val = if Lvl 1 68 c then 0x3F80#16 else 0#16) c)

theorem m4_69 (c : Fin 128) : lit0t1_4 (65536 + 69 * 128 + c.val) = if Lvl 1 69 c then 0x3F80#16 else 0#16 :=
  chase (F := lit0t0_581) (by unfold lit0t1_4; rw [show (65536 + 69 * 128 + c.val) / 128 % 128 = 69 by omega]; rfl) (by unfold lit0t0_581; rw [Nat.mod_mod]) (by omega)
    ((by decide +kernel : ∀ c : Fin 128, lit0t0_581 c.val = if Lvl 1 69 c then 0x3F80#16 else 0#16) c)

theorem m4_70 (c : Fin 128) : lit0t1_4 (65536 + 70 * 128 + c.val) = if Lvl 1 70 c then 0x3F80#16 else 0#16 :=
  chase (F := lit0t0_582) (by unfold lit0t1_4; rw [show (65536 + 70 * 128 + c.val) / 128 % 128 = 70 by omega]; rfl) (by unfold lit0t0_582; rw [Nat.mod_mod]) (by omega)
    ((by decide +kernel : ∀ c : Fin 128, lit0t0_582 c.val = if Lvl 1 70 c then 0x3F80#16 else 0#16) c)

theorem m4_71 (c : Fin 128) : lit0t1_4 (65536 + 71 * 128 + c.val) = if Lvl 1 71 c then 0x3F80#16 else 0#16 :=
  chase (F := lit0t0_583) (by unfold lit0t1_4; rw [show (65536 + 71 * 128 + c.val) / 128 % 128 = 71 by omega]; rfl) (by unfold lit0t0_583; rw [Nat.mod_mod]) (by omega)
    ((by decide +kernel : ∀ c : Fin 128, lit0t0_583 c.val = if Lvl 1 71 c then 0x3F80#16 else 0#16) c)

theorem m4_72 (c : Fin 128) : lit0t1_4 (65536 + 72 * 128 + c.val) = if Lvl 1 72 c then 0x3F80#16 else 0#16 :=
  chase (F := lit0t0_584) (by unfold lit0t1_4; rw [show (65536 + 72 * 128 + c.val) / 128 % 128 = 72 by omega]; rfl) (by unfold lit0t0_584; rw [Nat.mod_mod]) (by omega)
    ((by decide +kernel : ∀ c : Fin 128, lit0t0_584 c.val = if Lvl 1 72 c then 0x3F80#16 else 0#16) c)

theorem m4_73 (c : Fin 128) : lit0t1_4 (65536 + 73 * 128 + c.val) = if Lvl 1 73 c then 0x3F80#16 else 0#16 :=
  chase (F := lit0t0_585) (by unfold lit0t1_4; rw [show (65536 + 73 * 128 + c.val) / 128 % 128 = 73 by omega]; rfl) (by unfold lit0t0_585; rw [Nat.mod_mod]) (by omega)
    ((by decide +kernel : ∀ c : Fin 128, lit0t0_585 c.val = if Lvl 1 73 c then 0x3F80#16 else 0#16) c)

theorem m4_74 (c : Fin 128) : lit0t1_4 (65536 + 74 * 128 + c.val) = if Lvl 1 74 c then 0x3F80#16 else 0#16 :=
  chase (F := lit0t0_586) (by unfold lit0t1_4; rw [show (65536 + 74 * 128 + c.val) / 128 % 128 = 74 by omega]; rfl) (by unfold lit0t0_586; rw [Nat.mod_mod]) (by omega)
    ((by decide +kernel : ∀ c : Fin 128, lit0t0_586 c.val = if Lvl 1 74 c then 0x3F80#16 else 0#16) c)

theorem m4_75 (c : Fin 128) : lit0t1_4 (65536 + 75 * 128 + c.val) = if Lvl 1 75 c then 0x3F80#16 else 0#16 :=
  chase (F := lit0t0_587) (by unfold lit0t1_4; rw [show (65536 + 75 * 128 + c.val) / 128 % 128 = 75 by omega]; rfl) (by unfold lit0t0_587; rw [Nat.mod_mod]) (by omega)
    ((by decide +kernel : ∀ c : Fin 128, lit0t0_587 c.val = if Lvl 1 75 c then 0x3F80#16 else 0#16) c)

theorem m4_76 (c : Fin 128) : lit0t1_4 (65536 + 76 * 128 + c.val) = if Lvl 1 76 c then 0x3F80#16 else 0#16 :=
  chase (F := lit0t0_588) (by unfold lit0t1_4; rw [show (65536 + 76 * 128 + c.val) / 128 % 128 = 76 by omega]; rfl) (by unfold lit0t0_588; rw [Nat.mod_mod]) (by omega)
    ((by decide +kernel : ∀ c : Fin 128, lit0t0_588 c.val = if Lvl 1 76 c then 0x3F80#16 else 0#16) c)

theorem m4_77 (c : Fin 128) : lit0t1_4 (65536 + 77 * 128 + c.val) = if Lvl 1 77 c then 0x3F80#16 else 0#16 :=
  chase (F := lit0t0_589) (by unfold lit0t1_4; rw [show (65536 + 77 * 128 + c.val) / 128 % 128 = 77 by omega]; rfl) (by unfold lit0t0_589; rw [Nat.mod_mod]) (by omega)
    ((by decide +kernel : ∀ c : Fin 128, lit0t0_589 c.val = if Lvl 1 77 c then 0x3F80#16 else 0#16) c)

theorem m4_78 (c : Fin 128) : lit0t1_4 (65536 + 78 * 128 + c.val) = if Lvl 1 78 c then 0x3F80#16 else 0#16 :=
  chase (F := lit0t0_590) (by unfold lit0t1_4; rw [show (65536 + 78 * 128 + c.val) / 128 % 128 = 78 by omega]; rfl) (by unfold lit0t0_590; rw [Nat.mod_mod]) (by omega)
    ((by decide +kernel : ∀ c : Fin 128, lit0t0_590 c.val = if Lvl 1 78 c then 0x3F80#16 else 0#16) c)

theorem m4_79 (c : Fin 128) : lit0t1_4 (65536 + 79 * 128 + c.val) = if Lvl 1 79 c then 0x3F80#16 else 0#16 :=
  chase (F := lit0t0_591) (by unfold lit0t1_4; rw [show (65536 + 79 * 128 + c.val) / 128 % 128 = 79 by omega]; rfl) (by unfold lit0t0_591; rw [Nat.mod_mod]) (by omega)
    ((by decide +kernel : ∀ c : Fin 128, lit0t0_591 c.val = if Lvl 1 79 c then 0x3F80#16 else 0#16) c)

theorem m4_80 (c : Fin 128) : lit0t1_4 (65536 + 80 * 128 + c.val) = if Lvl 1 80 c then 0x3F80#16 else 0#16 :=
  chase (F := lit0t0_592) (by unfold lit0t1_4; rw [show (65536 + 80 * 128 + c.val) / 128 % 128 = 80 by omega]; rfl) (by unfold lit0t0_592; rw [Nat.mod_mod]) (by omega)
    ((by decide +kernel : ∀ c : Fin 128, lit0t0_592 c.val = if Lvl 1 80 c then 0x3F80#16 else 0#16) c)

theorem m4_81 (c : Fin 128) : lit0t1_4 (65536 + 81 * 128 + c.val) = if Lvl 1 81 c then 0x3F80#16 else 0#16 :=
  chase (F := lit0t0_593) (by unfold lit0t1_4; rw [show (65536 + 81 * 128 + c.val) / 128 % 128 = 81 by omega]; rfl) (by unfold lit0t0_593; rw [Nat.mod_mod]) (by omega)
    ((by decide +kernel : ∀ c : Fin 128, lit0t0_593 c.val = if Lvl 1 81 c then 0x3F80#16 else 0#16) c)

theorem m4_82 (c : Fin 128) : lit0t1_4 (65536 + 82 * 128 + c.val) = if Lvl 1 82 c then 0x3F80#16 else 0#16 :=
  chase (F := lit0t0_594) (by unfold lit0t1_4; rw [show (65536 + 82 * 128 + c.val) / 128 % 128 = 82 by omega]; rfl) (by unfold lit0t0_594; rw [Nat.mod_mod]) (by omega)
    ((by decide +kernel : ∀ c : Fin 128, lit0t0_594 c.val = if Lvl 1 82 c then 0x3F80#16 else 0#16) c)

theorem m4_83 (c : Fin 128) : lit0t1_4 (65536 + 83 * 128 + c.val) = if Lvl 1 83 c then 0x3F80#16 else 0#16 :=
  chase (F := lit0t0_595) (by unfold lit0t1_4; rw [show (65536 + 83 * 128 + c.val) / 128 % 128 = 83 by omega]; rfl) (by unfold lit0t0_595; rw [Nat.mod_mod]) (by omega)
    ((by decide +kernel : ∀ c : Fin 128, lit0t0_595 c.val = if Lvl 1 83 c then 0x3F80#16 else 0#16) c)

theorem m4_84 (c : Fin 128) : lit0t1_4 (65536 + 84 * 128 + c.val) = if Lvl 1 84 c then 0x3F80#16 else 0#16 :=
  chase (F := lit0t0_596) (by unfold lit0t1_4; rw [show (65536 + 84 * 128 + c.val) / 128 % 128 = 84 by omega]; rfl) (by unfold lit0t0_596; rw [Nat.mod_mod]) (by omega)
    ((by decide +kernel : ∀ c : Fin 128, lit0t0_596 c.val = if Lvl 1 84 c then 0x3F80#16 else 0#16) c)

theorem m4_85 (c : Fin 128) : lit0t1_4 (65536 + 85 * 128 + c.val) = if Lvl 1 85 c then 0x3F80#16 else 0#16 :=
  chase (F := lit0t0_597) (by unfold lit0t1_4; rw [show (65536 + 85 * 128 + c.val) / 128 % 128 = 85 by omega]; rfl) (by unfold lit0t0_597; rw [Nat.mod_mod]) (by omega)
    ((by decide +kernel : ∀ c : Fin 128, lit0t0_597 c.val = if Lvl 1 85 c then 0x3F80#16 else 0#16) c)

theorem m4_86 (c : Fin 128) : lit0t1_4 (65536 + 86 * 128 + c.val) = if Lvl 1 86 c then 0x3F80#16 else 0#16 :=
  chase (F := lit0t0_598) (by unfold lit0t1_4; rw [show (65536 + 86 * 128 + c.val) / 128 % 128 = 86 by omega]; rfl) (by unfold lit0t0_598; rw [Nat.mod_mod]) (by omega)
    ((by decide +kernel : ∀ c : Fin 128, lit0t0_598 c.val = if Lvl 1 86 c then 0x3F80#16 else 0#16) c)

theorem m4_87 (c : Fin 128) : lit0t1_4 (65536 + 87 * 128 + c.val) = if Lvl 1 87 c then 0x3F80#16 else 0#16 :=
  chase (F := lit0t0_599) (by unfold lit0t1_4; rw [show (65536 + 87 * 128 + c.val) / 128 % 128 = 87 by omega]; rfl) (by unfold lit0t0_599; rw [Nat.mod_mod]) (by omega)
    ((by decide +kernel : ∀ c : Fin 128, lit0t0_599 c.val = if Lvl 1 87 c then 0x3F80#16 else 0#16) c)

theorem m4_88 (c : Fin 128) : lit0t1_4 (65536 + 88 * 128 + c.val) = if Lvl 1 88 c then 0x3F80#16 else 0#16 :=
  chase (F := lit0t0_600) (by unfold lit0t1_4; rw [show (65536 + 88 * 128 + c.val) / 128 % 128 = 88 by omega]; rfl) (by unfold lit0t0_600; rw [Nat.mod_mod]) (by omega)
    ((by decide +kernel : ∀ c : Fin 128, lit0t0_600 c.val = if Lvl 1 88 c then 0x3F80#16 else 0#16) c)

theorem m4_89 (c : Fin 128) : lit0t1_4 (65536 + 89 * 128 + c.val) = if Lvl 1 89 c then 0x3F80#16 else 0#16 :=
  chase (F := lit0t0_601) (by unfold lit0t1_4; rw [show (65536 + 89 * 128 + c.val) / 128 % 128 = 89 by omega]; rfl) (by unfold lit0t0_601; rw [Nat.mod_mod]) (by omega)
    ((by decide +kernel : ∀ c : Fin 128, lit0t0_601 c.val = if Lvl 1 89 c then 0x3F80#16 else 0#16) c)

theorem m4_90 (c : Fin 128) : lit0t1_4 (65536 + 90 * 128 + c.val) = if Lvl 1 90 c then 0x3F80#16 else 0#16 :=
  chase (F := lit0t0_602) (by unfold lit0t1_4; rw [show (65536 + 90 * 128 + c.val) / 128 % 128 = 90 by omega]; rfl) (by unfold lit0t0_602; rw [Nat.mod_mod]) (by omega)
    ((by decide +kernel : ∀ c : Fin 128, lit0t0_602 c.val = if Lvl 1 90 c then 0x3F80#16 else 0#16) c)

theorem m4_91 (c : Fin 128) : lit0t1_4 (65536 + 91 * 128 + c.val) = if Lvl 1 91 c then 0x3F80#16 else 0#16 :=
  chase (F := lit0t0_603) (by unfold lit0t1_4; rw [show (65536 + 91 * 128 + c.val) / 128 % 128 = 91 by omega]; rfl) (by unfold lit0t0_603; rw [Nat.mod_mod]) (by omega)
    ((by decide +kernel : ∀ c : Fin 128, lit0t0_603 c.val = if Lvl 1 91 c then 0x3F80#16 else 0#16) c)

theorem m4_92 (c : Fin 128) : lit0t1_4 (65536 + 92 * 128 + c.val) = if Lvl 1 92 c then 0x3F80#16 else 0#16 :=
  chase (F := lit0t0_604) (by unfold lit0t1_4; rw [show (65536 + 92 * 128 + c.val) / 128 % 128 = 92 by omega]; rfl) (by unfold lit0t0_604; rw [Nat.mod_mod]) (by omega)
    ((by decide +kernel : ∀ c : Fin 128, lit0t0_604 c.val = if Lvl 1 92 c then 0x3F80#16 else 0#16) c)

theorem m4_93 (c : Fin 128) : lit0t1_4 (65536 + 93 * 128 + c.val) = if Lvl 1 93 c then 0x3F80#16 else 0#16 :=
  chase (F := lit0t0_605) (by unfold lit0t1_4; rw [show (65536 + 93 * 128 + c.val) / 128 % 128 = 93 by omega]; rfl) (by unfold lit0t0_605; rw [Nat.mod_mod]) (by omega)
    ((by decide +kernel : ∀ c : Fin 128, lit0t0_605 c.val = if Lvl 1 93 c then 0x3F80#16 else 0#16) c)

theorem m4_94 (c : Fin 128) : lit0t1_4 (65536 + 94 * 128 + c.val) = if Lvl 1 94 c then 0x3F80#16 else 0#16 :=
  chase (F := lit0t0_606) (by unfold lit0t1_4; rw [show (65536 + 94 * 128 + c.val) / 128 % 128 = 94 by omega]; rfl) (by unfold lit0t0_606; rw [Nat.mod_mod]) (by omega)
    ((by decide +kernel : ∀ c : Fin 128, lit0t0_606 c.val = if Lvl 1 94 c then 0x3F80#16 else 0#16) c)

theorem m4_95 (c : Fin 128) : lit0t1_4 (65536 + 95 * 128 + c.val) = if Lvl 1 95 c then 0x3F80#16 else 0#16 :=
  chase (F := lit0t0_607) (by unfold lit0t1_4; rw [show (65536 + 95 * 128 + c.val) / 128 % 128 = 95 by omega]; rfl) (by unfold lit0t0_607; rw [Nat.mod_mod]) (by omega)
    ((by decide +kernel : ∀ c : Fin 128, lit0t0_607 c.val = if Lvl 1 95 c then 0x3F80#16 else 0#16) c)

theorem m4_96 (c : Fin 128) : lit0t1_4 (65536 + 96 * 128 + c.val) = if Lvl 1 96 c then 0x3F80#16 else 0#16 :=
  chase (F := lit0t0_608) (by unfold lit0t1_4; rw [show (65536 + 96 * 128 + c.val) / 128 % 128 = 96 by omega]; rfl) (by unfold lit0t0_608; rw [Nat.mod_mod]) (by omega)
    ((by decide +kernel : ∀ c : Fin 128, lit0t0_608 c.val = if Lvl 1 96 c then 0x3F80#16 else 0#16) c)

theorem m4_97 (c : Fin 128) : lit0t1_4 (65536 + 97 * 128 + c.val) = if Lvl 1 97 c then 0x3F80#16 else 0#16 :=
  chase (F := lit0t0_609) (by unfold lit0t1_4; rw [show (65536 + 97 * 128 + c.val) / 128 % 128 = 97 by omega]; rfl) (by unfold lit0t0_609; rw [Nat.mod_mod]) (by omega)
    ((by decide +kernel : ∀ c : Fin 128, lit0t0_609 c.val = if Lvl 1 97 c then 0x3F80#16 else 0#16) c)

theorem m4_98 (c : Fin 128) : lit0t1_4 (65536 + 98 * 128 + c.val) = if Lvl 1 98 c then 0x3F80#16 else 0#16 :=
  chase (F := lit0t0_610) (by unfold lit0t1_4; rw [show (65536 + 98 * 128 + c.val) / 128 % 128 = 98 by omega]; rfl) (by unfold lit0t0_610; rw [Nat.mod_mod]) (by omega)
    ((by decide +kernel : ∀ c : Fin 128, lit0t0_610 c.val = if Lvl 1 98 c then 0x3F80#16 else 0#16) c)

theorem m4_99 (c : Fin 128) : lit0t1_4 (65536 + 99 * 128 + c.val) = if Lvl 1 99 c then 0x3F80#16 else 0#16 :=
  chase (F := lit0t0_611) (by unfold lit0t1_4; rw [show (65536 + 99 * 128 + c.val) / 128 % 128 = 99 by omega]; rfl) (by unfold lit0t0_611; rw [Nat.mod_mod]) (by omega)
    ((by decide +kernel : ∀ c : Fin 128, lit0t0_611 c.val = if Lvl 1 99 c then 0x3F80#16 else 0#16) c)

theorem m4_100 (c : Fin 128) : lit0t1_4 (65536 + 100 * 128 + c.val) = if Lvl 1 100 c then 0x3F80#16 else 0#16 :=
  chase (F := lit0t0_612) (by unfold lit0t1_4; rw [show (65536 + 100 * 128 + c.val) / 128 % 128 = 100 by omega]; rfl) (by unfold lit0t0_612; rw [Nat.mod_mod]) (by omega)
    ((by decide +kernel : ∀ c : Fin 128, lit0t0_612 c.val = if Lvl 1 100 c then 0x3F80#16 else 0#16) c)

theorem m4_101 (c : Fin 128) : lit0t1_4 (65536 + 101 * 128 + c.val) = if Lvl 1 101 c then 0x3F80#16 else 0#16 :=
  chase (F := lit0t0_613) (by unfold lit0t1_4; rw [show (65536 + 101 * 128 + c.val) / 128 % 128 = 101 by omega]; rfl) (by unfold lit0t0_613; rw [Nat.mod_mod]) (by omega)
    ((by decide +kernel : ∀ c : Fin 128, lit0t0_613 c.val = if Lvl 1 101 c then 0x3F80#16 else 0#16) c)

theorem m4_102 (c : Fin 128) : lit0t1_4 (65536 + 102 * 128 + c.val) = if Lvl 1 102 c then 0x3F80#16 else 0#16 :=
  chase (F := lit0t0_614) (by unfold lit0t1_4; rw [show (65536 + 102 * 128 + c.val) / 128 % 128 = 102 by omega]; rfl) (by unfold lit0t0_614; rw [Nat.mod_mod]) (by omega)
    ((by decide +kernel : ∀ c : Fin 128, lit0t0_614 c.val = if Lvl 1 102 c then 0x3F80#16 else 0#16) c)

theorem m4_103 (c : Fin 128) : lit0t1_4 (65536 + 103 * 128 + c.val) = if Lvl 1 103 c then 0x3F80#16 else 0#16 :=
  chase (F := lit0t0_615) (by unfold lit0t1_4; rw [show (65536 + 103 * 128 + c.val) / 128 % 128 = 103 by omega]; rfl) (by unfold lit0t0_615; rw [Nat.mod_mod]) (by omega)
    ((by decide +kernel : ∀ c : Fin 128, lit0t0_615 c.val = if Lvl 1 103 c then 0x3F80#16 else 0#16) c)

theorem m4_104 (c : Fin 128) : lit0t1_4 (65536 + 104 * 128 + c.val) = if Lvl 1 104 c then 0x3F80#16 else 0#16 :=
  chase (F := lit0t0_616) (by unfold lit0t1_4; rw [show (65536 + 104 * 128 + c.val) / 128 % 128 = 104 by omega]; rfl) (by unfold lit0t0_616; rw [Nat.mod_mod]) (by omega)
    ((by decide +kernel : ∀ c : Fin 128, lit0t0_616 c.val = if Lvl 1 104 c then 0x3F80#16 else 0#16) c)

theorem m4_105 (c : Fin 128) : lit0t1_4 (65536 + 105 * 128 + c.val) = if Lvl 1 105 c then 0x3F80#16 else 0#16 :=
  chase (F := lit0t0_617) (by unfold lit0t1_4; rw [show (65536 + 105 * 128 + c.val) / 128 % 128 = 105 by omega]; rfl) (by unfold lit0t0_617; rw [Nat.mod_mod]) (by omega)
    ((by decide +kernel : ∀ c : Fin 128, lit0t0_617 c.val = if Lvl 1 105 c then 0x3F80#16 else 0#16) c)

theorem m4_106 (c : Fin 128) : lit0t1_4 (65536 + 106 * 128 + c.val) = if Lvl 1 106 c then 0x3F80#16 else 0#16 :=
  chase (F := lit0t0_618) (by unfold lit0t1_4; rw [show (65536 + 106 * 128 + c.val) / 128 % 128 = 106 by omega]; rfl) (by unfold lit0t0_618; rw [Nat.mod_mod]) (by omega)
    ((by decide +kernel : ∀ c : Fin 128, lit0t0_618 c.val = if Lvl 1 106 c then 0x3F80#16 else 0#16) c)

theorem m4_107 (c : Fin 128) : lit0t1_4 (65536 + 107 * 128 + c.val) = if Lvl 1 107 c then 0x3F80#16 else 0#16 :=
  chase (F := lit0t0_619) (by unfold lit0t1_4; rw [show (65536 + 107 * 128 + c.val) / 128 % 128 = 107 by omega]; rfl) (by unfold lit0t0_619; rw [Nat.mod_mod]) (by omega)
    ((by decide +kernel : ∀ c : Fin 128, lit0t0_619 c.val = if Lvl 1 107 c then 0x3F80#16 else 0#16) c)

theorem m4_108 (c : Fin 128) : lit0t1_4 (65536 + 108 * 128 + c.val) = if Lvl 1 108 c then 0x3F80#16 else 0#16 :=
  chase (F := lit0t0_620) (by unfold lit0t1_4; rw [show (65536 + 108 * 128 + c.val) / 128 % 128 = 108 by omega]; rfl) (by unfold lit0t0_620; rw [Nat.mod_mod]) (by omega)
    ((by decide +kernel : ∀ c : Fin 128, lit0t0_620 c.val = if Lvl 1 108 c then 0x3F80#16 else 0#16) c)

theorem m4_109 (c : Fin 128) : lit0t1_4 (65536 + 109 * 128 + c.val) = if Lvl 1 109 c then 0x3F80#16 else 0#16 :=
  chase (F := lit0t0_621) (by unfold lit0t1_4; rw [show (65536 + 109 * 128 + c.val) / 128 % 128 = 109 by omega]; rfl) (by unfold lit0t0_621; rw [Nat.mod_mod]) (by omega)
    ((by decide +kernel : ∀ c : Fin 128, lit0t0_621 c.val = if Lvl 1 109 c then 0x3F80#16 else 0#16) c)

theorem m4_110 (c : Fin 128) : lit0t1_4 (65536 + 110 * 128 + c.val) = if Lvl 1 110 c then 0x3F80#16 else 0#16 :=
  chase (F := lit0t0_622) (by unfold lit0t1_4; rw [show (65536 + 110 * 128 + c.val) / 128 % 128 = 110 by omega]; rfl) (by unfold lit0t0_622; rw [Nat.mod_mod]) (by omega)
    ((by decide +kernel : ∀ c : Fin 128, lit0t0_622 c.val = if Lvl 1 110 c then 0x3F80#16 else 0#16) c)

theorem m4_111 (c : Fin 128) : lit0t1_4 (65536 + 111 * 128 + c.val) = if Lvl 1 111 c then 0x3F80#16 else 0#16 :=
  chase (F := lit0t0_623) (by unfold lit0t1_4; rw [show (65536 + 111 * 128 + c.val) / 128 % 128 = 111 by omega]; rfl) (by unfold lit0t0_623; rw [Nat.mod_mod]) (by omega)
    ((by decide +kernel : ∀ c : Fin 128, lit0t0_623 c.val = if Lvl 1 111 c then 0x3F80#16 else 0#16) c)

theorem m4_112 (c : Fin 128) : lit0t1_4 (65536 + 112 * 128 + c.val) = if Lvl 1 112 c then 0x3F80#16 else 0#16 :=
  chase (F := lit0t0_624) (by unfold lit0t1_4; rw [show (65536 + 112 * 128 + c.val) / 128 % 128 = 112 by omega]; rfl) (by unfold lit0t0_624; rw [Nat.mod_mod]) (by omega)
    ((by decide +kernel : ∀ c : Fin 128, lit0t0_624 c.val = if Lvl 1 112 c then 0x3F80#16 else 0#16) c)

theorem m4_113 (c : Fin 128) : lit0t1_4 (65536 + 113 * 128 + c.val) = if Lvl 1 113 c then 0x3F80#16 else 0#16 :=
  chase (F := lit0t0_625) (by unfold lit0t1_4; rw [show (65536 + 113 * 128 + c.val) / 128 % 128 = 113 by omega]; rfl) (by unfold lit0t0_625; rw [Nat.mod_mod]) (by omega)
    ((by decide +kernel : ∀ c : Fin 128, lit0t0_625 c.val = if Lvl 1 113 c then 0x3F80#16 else 0#16) c)

theorem m4_114 (c : Fin 128) : lit0t1_4 (65536 + 114 * 128 + c.val) = if Lvl 1 114 c then 0x3F80#16 else 0#16 :=
  chase (F := lit0t0_626) (by unfold lit0t1_4; rw [show (65536 + 114 * 128 + c.val) / 128 % 128 = 114 by omega]; rfl) (by unfold lit0t0_626; rw [Nat.mod_mod]) (by omega)
    ((by decide +kernel : ∀ c : Fin 128, lit0t0_626 c.val = if Lvl 1 114 c then 0x3F80#16 else 0#16) c)

theorem m4_115 (c : Fin 128) : lit0t1_4 (65536 + 115 * 128 + c.val) = if Lvl 1 115 c then 0x3F80#16 else 0#16 :=
  chase (F := lit0t0_627) (by unfold lit0t1_4; rw [show (65536 + 115 * 128 + c.val) / 128 % 128 = 115 by omega]; rfl) (by unfold lit0t0_627; rw [Nat.mod_mod]) (by omega)
    ((by decide +kernel : ∀ c : Fin 128, lit0t0_627 c.val = if Lvl 1 115 c then 0x3F80#16 else 0#16) c)

theorem m4_116 (c : Fin 128) : lit0t1_4 (65536 + 116 * 128 + c.val) = if Lvl 1 116 c then 0x3F80#16 else 0#16 :=
  chase (F := lit0t0_628) (by unfold lit0t1_4; rw [show (65536 + 116 * 128 + c.val) / 128 % 128 = 116 by omega]; rfl) (by unfold lit0t0_628; rw [Nat.mod_mod]) (by omega)
    ((by decide +kernel : ∀ c : Fin 128, lit0t0_628 c.val = if Lvl 1 116 c then 0x3F80#16 else 0#16) c)

theorem m4_117 (c : Fin 128) : lit0t1_4 (65536 + 117 * 128 + c.val) = if Lvl 1 117 c then 0x3F80#16 else 0#16 :=
  chase (F := lit0t0_629) (by unfold lit0t1_4; rw [show (65536 + 117 * 128 + c.val) / 128 % 128 = 117 by omega]; rfl) (by unfold lit0t0_629; rw [Nat.mod_mod]) (by omega)
    ((by decide +kernel : ∀ c : Fin 128, lit0t0_629 c.val = if Lvl 1 117 c then 0x3F80#16 else 0#16) c)

theorem m4_118 (c : Fin 128) : lit0t1_4 (65536 + 118 * 128 + c.val) = if Lvl 1 118 c then 0x3F80#16 else 0#16 :=
  chase (F := lit0t0_630) (by unfold lit0t1_4; rw [show (65536 + 118 * 128 + c.val) / 128 % 128 = 118 by omega]; rfl) (by unfold lit0t0_630; rw [Nat.mod_mod]) (by omega)
    ((by decide +kernel : ∀ c : Fin 128, lit0t0_630 c.val = if Lvl 1 118 c then 0x3F80#16 else 0#16) c)

theorem m4_119 (c : Fin 128) : lit0t1_4 (65536 + 119 * 128 + c.val) = if Lvl 1 119 c then 0x3F80#16 else 0#16 :=
  chase (F := lit0t0_631) (by unfold lit0t1_4; rw [show (65536 + 119 * 128 + c.val) / 128 % 128 = 119 by omega]; rfl) (by unfold lit0t0_631; rw [Nat.mod_mod]) (by omega)
    ((by decide +kernel : ∀ c : Fin 128, lit0t0_631 c.val = if Lvl 1 119 c then 0x3F80#16 else 0#16) c)

theorem m4_120 (c : Fin 128) : lit0t1_4 (65536 + 120 * 128 + c.val) = if Lvl 1 120 c then 0x3F80#16 else 0#16 :=
  chase (F := lit0t0_632) (by unfold lit0t1_4; rw [show (65536 + 120 * 128 + c.val) / 128 % 128 = 120 by omega]; rfl) (by unfold lit0t0_632; rw [Nat.mod_mod]) (by omega)
    ((by decide +kernel : ∀ c : Fin 128, lit0t0_632 c.val = if Lvl 1 120 c then 0x3F80#16 else 0#16) c)

theorem m4_121 (c : Fin 128) : lit0t1_4 (65536 + 121 * 128 + c.val) = if Lvl 1 121 c then 0x3F80#16 else 0#16 :=
  chase (F := lit0t0_633) (by unfold lit0t1_4; rw [show (65536 + 121 * 128 + c.val) / 128 % 128 = 121 by omega]; rfl) (by unfold lit0t0_633; rw [Nat.mod_mod]) (by omega)
    ((by decide +kernel : ∀ c : Fin 128, lit0t0_633 c.val = if Lvl 1 121 c then 0x3F80#16 else 0#16) c)

theorem m4_122 (c : Fin 128) : lit0t1_4 (65536 + 122 * 128 + c.val) = if Lvl 1 122 c then 0x3F80#16 else 0#16 :=
  chase (F := lit0t0_634) (by unfold lit0t1_4; rw [show (65536 + 122 * 128 + c.val) / 128 % 128 = 122 by omega]; rfl) (by unfold lit0t0_634; rw [Nat.mod_mod]) (by omega)
    ((by decide +kernel : ∀ c : Fin 128, lit0t0_634 c.val = if Lvl 1 122 c then 0x3F80#16 else 0#16) c)

theorem m4_123 (c : Fin 128) : lit0t1_4 (65536 + 123 * 128 + c.val) = if Lvl 1 123 c then 0x3F80#16 else 0#16 :=
  chase (F := lit0t0_635) (by unfold lit0t1_4; rw [show (65536 + 123 * 128 + c.val) / 128 % 128 = 123 by omega]; rfl) (by unfold lit0t0_635; rw [Nat.mod_mod]) (by omega)
    ((by decide +kernel : ∀ c : Fin 128, lit0t0_635 c.val = if Lvl 1 123 c then 0x3F80#16 else 0#16) c)

theorem m4_124 (c : Fin 128) : lit0t1_4 (65536 + 124 * 128 + c.val) = if Lvl 1 124 c then 0x3F80#16 else 0#16 :=
  chase (F := lit0t0_636) (by unfold lit0t1_4; rw [show (65536 + 124 * 128 + c.val) / 128 % 128 = 124 by omega]; rfl) (by unfold lit0t0_636; rw [Nat.mod_mod]) (by omega)
    ((by decide +kernel : ∀ c : Fin 128, lit0t0_636 c.val = if Lvl 1 124 c then 0x3F80#16 else 0#16) c)

theorem m4_125 (c : Fin 128) : lit0t1_4 (65536 + 125 * 128 + c.val) = if Lvl 1 125 c then 0x3F80#16 else 0#16 :=
  chase (F := lit0t0_637) (by unfold lit0t1_4; rw [show (65536 + 125 * 128 + c.val) / 128 % 128 = 125 by omega]; rfl) (by unfold lit0t0_637; rw [Nat.mod_mod]) (by omega)
    ((by decide +kernel : ∀ c : Fin 128, lit0t0_637 c.val = if Lvl 1 125 c then 0x3F80#16 else 0#16) c)

theorem m4_126 (c : Fin 128) : lit0t1_4 (65536 + 126 * 128 + c.val) = if Lvl 1 126 c then 0x3F80#16 else 0#16 :=
  chase (F := lit0t0_638) (by unfold lit0t1_4; rw [show (65536 + 126 * 128 + c.val) / 128 % 128 = 126 by omega]; rfl) (by unfold lit0t0_638; rw [Nat.mod_mod]) (by omega)
    ((by decide +kernel : ∀ c : Fin 128, lit0t0_638 c.val = if Lvl 1 126 c then 0x3F80#16 else 0#16) c)

theorem m4_127 (c : Fin 128) : lit0t1_4 (65536 + 127 * 128 + c.val) = if Lvl 1 127 c then 0x3F80#16 else 0#16 :=
  chase (F := lit0t0_639) (by unfold lit0t1_4; rw [show (65536 + 127 * 128 + c.val) / 128 % 128 = 127 by omega]; rfl) (by unfold lit0t0_639; rw [Nat.mod_mod]) (by omega)
    ((by decide +kernel : ∀ c : Fin 128, lit0t0_639 c.val = if Lvl 1 127 c then 0x3F80#16 else 0#16) c)

set_option maxHeartbeats 4000000 in
/-- Mask 4. -/
theorem mask4 (r c : Fin 128) : lit0t1_4 (65536 + r.val * 128 + c.val) = if Lvl 1 r c then 0x3F80#16 else 0#16 :=
  match r with
  | ⟨0, _⟩ => m4_0 c
  | ⟨1, _⟩ => m4_1 c
  | ⟨2, _⟩ => m4_2 c
  | ⟨3, _⟩ => m4_3 c
  | ⟨4, _⟩ => m4_4 c
  | ⟨5, _⟩ => m4_5 c
  | ⟨6, _⟩ => m4_6 c
  | ⟨7, _⟩ => m4_7 c
  | ⟨8, _⟩ => m4_8 c
  | ⟨9, _⟩ => m4_9 c
  | ⟨10, _⟩ => m4_10 c
  | ⟨11, _⟩ => m4_11 c
  | ⟨12, _⟩ => m4_12 c
  | ⟨13, _⟩ => m4_13 c
  | ⟨14, _⟩ => m4_14 c
  | ⟨15, _⟩ => m4_15 c
  | ⟨16, _⟩ => m4_16 c
  | ⟨17, _⟩ => m4_17 c
  | ⟨18, _⟩ => m4_18 c
  | ⟨19, _⟩ => m4_19 c
  | ⟨20, _⟩ => m4_20 c
  | ⟨21, _⟩ => m4_21 c
  | ⟨22, _⟩ => m4_22 c
  | ⟨23, _⟩ => m4_23 c
  | ⟨24, _⟩ => m4_24 c
  | ⟨25, _⟩ => m4_25 c
  | ⟨26, _⟩ => m4_26 c
  | ⟨27, _⟩ => m4_27 c
  | ⟨28, _⟩ => m4_28 c
  | ⟨29, _⟩ => m4_29 c
  | ⟨30, _⟩ => m4_30 c
  | ⟨31, _⟩ => m4_31 c
  | ⟨32, _⟩ => m4_32 c
  | ⟨33, _⟩ => m4_33 c
  | ⟨34, _⟩ => m4_34 c
  | ⟨35, _⟩ => m4_35 c
  | ⟨36, _⟩ => m4_36 c
  | ⟨37, _⟩ => m4_37 c
  | ⟨38, _⟩ => m4_38 c
  | ⟨39, _⟩ => m4_39 c
  | ⟨40, _⟩ => m4_40 c
  | ⟨41, _⟩ => m4_41 c
  | ⟨42, _⟩ => m4_42 c
  | ⟨43, _⟩ => m4_43 c
  | ⟨44, _⟩ => m4_44 c
  | ⟨45, _⟩ => m4_45 c
  | ⟨46, _⟩ => m4_46 c
  | ⟨47, _⟩ => m4_47 c
  | ⟨48, _⟩ => m4_48 c
  | ⟨49, _⟩ => m4_49 c
  | ⟨50, _⟩ => m4_50 c
  | ⟨51, _⟩ => m4_51 c
  | ⟨52, _⟩ => m4_52 c
  | ⟨53, _⟩ => m4_53 c
  | ⟨54, _⟩ => m4_54 c
  | ⟨55, _⟩ => m4_55 c
  | ⟨56, _⟩ => m4_56 c
  | ⟨57, _⟩ => m4_57 c
  | ⟨58, _⟩ => m4_58 c
  | ⟨59, _⟩ => m4_59 c
  | ⟨60, _⟩ => m4_60 c
  | ⟨61, _⟩ => m4_61 c
  | ⟨62, _⟩ => m4_62 c
  | ⟨63, _⟩ => m4_63 c
  | ⟨64, _⟩ => m4_64 c
  | ⟨65, _⟩ => m4_65 c
  | ⟨66, _⟩ => m4_66 c
  | ⟨67, _⟩ => m4_67 c
  | ⟨68, _⟩ => m4_68 c
  | ⟨69, _⟩ => m4_69 c
  | ⟨70, _⟩ => m4_70 c
  | ⟨71, _⟩ => m4_71 c
  | ⟨72, _⟩ => m4_72 c
  | ⟨73, _⟩ => m4_73 c
  | ⟨74, _⟩ => m4_74 c
  | ⟨75, _⟩ => m4_75 c
  | ⟨76, _⟩ => m4_76 c
  | ⟨77, _⟩ => m4_77 c
  | ⟨78, _⟩ => m4_78 c
  | ⟨79, _⟩ => m4_79 c
  | ⟨80, _⟩ => m4_80 c
  | ⟨81, _⟩ => m4_81 c
  | ⟨82, _⟩ => m4_82 c
  | ⟨83, _⟩ => m4_83 c
  | ⟨84, _⟩ => m4_84 c
  | ⟨85, _⟩ => m4_85 c
  | ⟨86, _⟩ => m4_86 c
  | ⟨87, _⟩ => m4_87 c
  | ⟨88, _⟩ => m4_88 c
  | ⟨89, _⟩ => m4_89 c
  | ⟨90, _⟩ => m4_90 c
  | ⟨91, _⟩ => m4_91 c
  | ⟨92, _⟩ => m4_92 c
  | ⟨93, _⟩ => m4_93 c
  | ⟨94, _⟩ => m4_94 c
  | ⟨95, _⟩ => m4_95 c
  | ⟨96, _⟩ => m4_96 c
  | ⟨97, _⟩ => m4_97 c
  | ⟨98, _⟩ => m4_98 c
  | ⟨99, _⟩ => m4_99 c
  | ⟨100, _⟩ => m4_100 c
  | ⟨101, _⟩ => m4_101 c
  | ⟨102, _⟩ => m4_102 c
  | ⟨103, _⟩ => m4_103 c
  | ⟨104, _⟩ => m4_104 c
  | ⟨105, _⟩ => m4_105 c
  | ⟨106, _⟩ => m4_106 c
  | ⟨107, _⟩ => m4_107 c
  | ⟨108, _⟩ => m4_108 c
  | ⟨109, _⟩ => m4_109 c
  | ⟨110, _⟩ => m4_110 c
  | ⟨111, _⟩ => m4_111 c
  | ⟨112, _⟩ => m4_112 c
  | ⟨113, _⟩ => m4_113 c
  | ⟨114, _⟩ => m4_114 c
  | ⟨115, _⟩ => m4_115 c
  | ⟨116, _⟩ => m4_116 c
  | ⟨117, _⟩ => m4_117 c
  | ⟨118, _⟩ => m4_118 c
  | ⟨119, _⟩ => m4_119 c
  | ⟨120, _⟩ => m4_120 c
  | ⟨121, _⟩ => m4_121 c
  | ⟨122, _⟩ => m4_122 c
  | ⟨123, _⟩ => m4_123 c
  | ⟨124, _⟩ => m4_124 c
  | ⟨125, _⟩ => m4_125 c
  | ⟨126, _⟩ => m4_126 c
  | ⟨127, _⟩ => m4_127 c
  | ⟨n + 128, h⟩ => absurd h (by omega)

end Cert.KernelIdeal.Value
-- ==== Proof.DeltaMask5.lean ====
/- Mask 5 of the literal, read row by row. -/
module
public import proofs.«01_k».proof.Proof.DeltaMask
public import proofs.«01_k».proof.KernelIdeal
@[expose] public section
set_option maxRecDepth 100000
noncomputable section
open Idealize.ShloMosaic
namespace Cert.KernelIdeal.Value
open Cert.KernelIdeal Cert.Delta

theorem m5_0 (c : Fin 128) : lit0t1_5 (81920 + 0 * 128 + c.val) = if (0 : Fin 128).val = c.val then 0x3F80#16 else 0#16 :=
  chase (F := lit0t0_640) (by unfold lit0t1_5; rw [show (81920 + 0 * 128 + c.val) / 128 % 128 = 0 by omega]; rfl) (by unfold lit0t0_640; rw [Nat.mod_mod]) (by omega)
    ((by decide +kernel : ∀ c : Fin 128, lit0t0_640 c.val = if (0 : Fin 128).val = c.val then 0x3F80#16 else 0#16) c)

theorem m5_1 (c : Fin 128) : lit0t1_5 (81920 + 1 * 128 + c.val) = if (1 : Fin 128).val = c.val then 0x3F80#16 else 0#16 :=
  chase (F := lit0t0_641) (by unfold lit0t1_5; rw [show (81920 + 1 * 128 + c.val) / 128 % 128 = 1 by omega]; rfl) (by unfold lit0t0_641; rw [Nat.mod_mod]) (by omega)
    ((by decide +kernel : ∀ c : Fin 128, lit0t0_641 c.val = if (1 : Fin 128).val = c.val then 0x3F80#16 else 0#16) c)

theorem m5_2 (c : Fin 128) : lit0t1_5 (81920 + 2 * 128 + c.val) = if (2 : Fin 128).val = c.val then 0x3F80#16 else 0#16 :=
  chase (F := lit0t0_642) (by unfold lit0t1_5; rw [show (81920 + 2 * 128 + c.val) / 128 % 128 = 2 by omega]; rfl) (by unfold lit0t0_642; rw [Nat.mod_mod]) (by omega)
    ((by decide +kernel : ∀ c : Fin 128, lit0t0_642 c.val = if (2 : Fin 128).val = c.val then 0x3F80#16 else 0#16) c)

theorem m5_3 (c : Fin 128) : lit0t1_5 (81920 + 3 * 128 + c.val) = if (3 : Fin 128).val = c.val then 0x3F80#16 else 0#16 :=
  chase (F := lit0t0_643) (by unfold lit0t1_5; rw [show (81920 + 3 * 128 + c.val) / 128 % 128 = 3 by omega]; rfl) (by unfold lit0t0_643; rw [Nat.mod_mod]) (by omega)
    ((by decide +kernel : ∀ c : Fin 128, lit0t0_643 c.val = if (3 : Fin 128).val = c.val then 0x3F80#16 else 0#16) c)

theorem m5_4 (c : Fin 128) : lit0t1_5 (81920 + 4 * 128 + c.val) = if (4 : Fin 128).val = c.val then 0x3F80#16 else 0#16 :=
  chase (F := lit0t0_644) (by unfold lit0t1_5; rw [show (81920 + 4 * 128 + c.val) / 128 % 128 = 4 by omega]; rfl) (by unfold lit0t0_644; rw [Nat.mod_mod]) (by omega)
    ((by decide +kernel : ∀ c : Fin 128, lit0t0_644 c.val = if (4 : Fin 128).val = c.val then 0x3F80#16 else 0#16) c)

theorem m5_5 (c : Fin 128) : lit0t1_5 (81920 + 5 * 128 + c.val) = if (5 : Fin 128).val = c.val then 0x3F80#16 else 0#16 :=
  chase (F := lit0t0_645) (by unfold lit0t1_5; rw [show (81920 + 5 * 128 + c.val) / 128 % 128 = 5 by omega]; rfl) (by unfold lit0t0_645; rw [Nat.mod_mod]) (by omega)
    ((by decide +kernel : ∀ c : Fin 128, lit0t0_645 c.val = if (5 : Fin 128).val = c.val then 0x3F80#16 else 0#16) c)

theorem m5_6 (c : Fin 128) : lit0t1_5 (81920 + 6 * 128 + c.val) = if (6 : Fin 128).val = c.val then 0x3F80#16 else 0#16 :=
  chase (F := lit0t0_646) (by unfold lit0t1_5; rw [show (81920 + 6 * 128 + c.val) / 128 % 128 = 6 by omega]; rfl) (by unfold lit0t0_646; rw [Nat.mod_mod]) (by omega)
    ((by decide +kernel : ∀ c : Fin 128, lit0t0_646 c.val = if (6 : Fin 128).val = c.val then 0x3F80#16 else 0#16) c)

theorem m5_7 (c : Fin 128) : lit0t1_5 (81920 + 7 * 128 + c.val) = if (7 : Fin 128).val = c.val then 0x3F80#16 else 0#16 :=
  chase (F := lit0t0_647) (by unfold lit0t1_5; rw [show (81920 + 7 * 128 + c.val) / 128 % 128 = 7 by omega]; rfl) (by unfold lit0t0_647; rw [Nat.mod_mod]) (by omega)
    ((by decide +kernel : ∀ c : Fin 128, lit0t0_647 c.val = if (7 : Fin 128).val = c.val then 0x3F80#16 else 0#16) c)

theorem m5_8 (c : Fin 128) : lit0t1_5 (81920 + 8 * 128 + c.val) = if (8 : Fin 128).val = c.val then 0x3F80#16 else 0#16 :=
  chase (F := lit0t0_648) (by unfold lit0t1_5; rw [show (81920 + 8 * 128 + c.val) / 128 % 128 = 8 by omega]; rfl) (by unfold lit0t0_648; rw [Nat.mod_mod]) (by omega)
    ((by decide +kernel : ∀ c : Fin 128, lit0t0_648 c.val = if (8 : Fin 128).val = c.val then 0x3F80#16 else 0#16) c)

theorem m5_9 (c : Fin 128) : lit0t1_5 (81920 + 9 * 128 + c.val) = if (9 : Fin 128).val = c.val then 0x3F80#16 else 0#16 :=
  chase (F := lit0t0_649) (by unfold lit0t1_5; rw [show (81920 + 9 * 128 + c.val) / 128 % 128 = 9 by omega]; rfl) (by unfold lit0t0_649; rw [Nat.mod_mod]) (by omega)
    ((by decide +kernel : ∀ c : Fin 128, lit0t0_649 c.val = if (9 : Fin 128).val = c.val then 0x3F80#16 else 0#16) c)

theorem m5_10 (c : Fin 128) : lit0t1_5 (81920 + 10 * 128 + c.val) = if (10 : Fin 128).val = c.val then 0x3F80#16 else 0#16 :=
  chase (F := lit0t0_650) (by unfold lit0t1_5; rw [show (81920 + 10 * 128 + c.val) / 128 % 128 = 10 by omega]; rfl) (by unfold lit0t0_650; rw [Nat.mod_mod]) (by omega)
    ((by decide +kernel : ∀ c : Fin 128, lit0t0_650 c.val = if (10 : Fin 128).val = c.val then 0x3F80#16 else 0#16) c)

theorem m5_11 (c : Fin 128) : lit0t1_5 (81920 + 11 * 128 + c.val) = if (11 : Fin 128).val = c.val then 0x3F80#16 else 0#16 :=
  chase (F := lit0t0_651) (by unfold lit0t1_5; rw [show (81920 + 11 * 128 + c.val) / 128 % 128 = 11 by omega]; rfl) (by unfold lit0t0_651; rw [Nat.mod_mod]) (by omega)
    ((by decide +kernel : ∀ c : Fin 128, lit0t0_651 c.val = if (11 : Fin 128).val = c.val then 0x3F80#16 else 0#16) c)

theorem m5_12 (c : Fin 128) : lit0t1_5 (81920 + 12 * 128 + c.val) = if (12 : Fin 128).val = c.val then 0x3F80#16 else 0#16 :=
  chase (F := lit0t0_652) (by unfold lit0t1_5; rw [show (81920 + 12 * 128 + c.val) / 128 % 128 = 12 by omega]; rfl) (by unfold lit0t0_652; rw [Nat.mod_mod]) (by omega)
    ((by decide +kernel : ∀ c : Fin 128, lit0t0_652 c.val = if (12 : Fin 128).val = c.val then 0x3F80#16 else 0#16) c)

theorem m5_13 (c : Fin 128) : lit0t1_5 (81920 + 13 * 128 + c.val) = if (13 : Fin 128).val = c.val then 0x3F80#16 else 0#16 :=
  chase (F := lit0t0_653) (by unfold lit0t1_5; rw [show (81920 + 13 * 128 + c.val) / 128 % 128 = 13 by omega]; rfl) (by unfold lit0t0_653; rw [Nat.mod_mod]) (by omega)
    ((by decide +kernel : ∀ c : Fin 128, lit0t0_653 c.val = if (13 : Fin 128).val = c.val then 0x3F80#16 else 0#16) c)

theorem m5_14 (c : Fin 128) : lit0t1_5 (81920 + 14 * 128 + c.val) = if (14 : Fin 128).val = c.val then 0x3F80#16 else 0#16 :=
  chase (F := lit0t0_654) (by unfold lit0t1_5; rw [show (81920 + 14 * 128 + c.val) / 128 % 128 = 14 by omega]; rfl) (by unfold lit0t0_654; rw [Nat.mod_mod]) (by omega)
    ((by decide +kernel : ∀ c : Fin 128, lit0t0_654 c.val = if (14 : Fin 128).val = c.val then 0x3F80#16 else 0#16) c)

theorem m5_15 (c : Fin 128) : lit0t1_5 (81920 + 15 * 128 + c.val) = if (15 : Fin 128).val = c.val then 0x3F80#16 else 0#16 :=
  chase (F := lit0t0_655) (by unfold lit0t1_5; rw [show (81920 + 15 * 128 + c.val) / 128 % 128 = 15 by omega]; rfl) (by unfold lit0t0_655; rw [Nat.mod_mod]) (by omega)
    ((by decide +kernel : ∀ c : Fin 128, lit0t0_655 c.val = if (15 : Fin 128).val = c.val then 0x3F80#16 else 0#16) c)

theorem m5_16 (c : Fin 128) : lit0t1_5 (81920 + 16 * 128 + c.val) = if (16 : Fin 128).val = c.val then 0x3F80#16 else 0#16 :=
  chase (F := lit0t0_656) (by unfold lit0t1_5; rw [show (81920 + 16 * 128 + c.val) / 128 % 128 = 16 by omega]; rfl) (by unfold lit0t0_656; rw [Nat.mod_mod]) (by omega)
    ((by decide +kernel : ∀ c : Fin 128, lit0t0_656 c.val = if (16 : Fin 128).val = c.val then 0x3F80#16 else 0#16) c)

theorem m5_17 (c : Fin 128) : lit0t1_5 (81920 + 17 * 128 + c.val) = if (17 : Fin 128).val = c.val then 0x3F80#16 else 0#16 :=
  chase (F := lit0t0_657) (by unfold lit0t1_5; rw [show (81920 + 17 * 128 + c.val) / 128 % 128 = 17 by omega]; rfl) (by unfold lit0t0_657; rw [Nat.mod_mod]) (by omega)
    ((by decide +kernel : ∀ c : Fin 128, lit0t0_657 c.val = if (17 : Fin 128).val = c.val then 0x3F80#16 else 0#16) c)

theorem m5_18 (c : Fin 128) : lit0t1_5 (81920 + 18 * 128 + c.val) = if (18 : Fin 128).val = c.val then 0x3F80#16 else 0#16 :=
  chase (F := lit0t0_658) (by unfold lit0t1_5; rw [show (81920 + 18 * 128 + c.val) / 128 % 128 = 18 by omega]; rfl) (by unfold lit0t0_658; rw [Nat.mod_mod]) (by omega)
    ((by decide +kernel : ∀ c : Fin 128, lit0t0_658 c.val = if (18 : Fin 128).val = c.val then 0x3F80#16 else 0#16) c)

theorem m5_19 (c : Fin 128) : lit0t1_5 (81920 + 19 * 128 + c.val) = if (19 : Fin 128).val = c.val then 0x3F80#16 else 0#16 :=
  chase (F := lit0t0_659) (by unfold lit0t1_5; rw [show (81920 + 19 * 128 + c.val) / 128 % 128 = 19 by omega]; rfl) (by unfold lit0t0_659; rw [Nat.mod_mod]) (by omega)
    ((by decide +kernel : ∀ c : Fin 128, lit0t0_659 c.val = if (19 : Fin 128).val = c.val then 0x3F80#16 else 0#16) c)

theorem m5_20 (c : Fin 128) : lit0t1_5 (81920 + 20 * 128 + c.val) = if (20 : Fin 128).val = c.val then 0x3F80#16 else 0#16 :=
  chase (F := lit0t0_660) (by unfold lit0t1_5; rw [show (81920 + 20 * 128 + c.val) / 128 % 128 = 20 by omega]; rfl) (by unfold lit0t0_660; rw [Nat.mod_mod]) (by omega)
    ((by decide +kernel : ∀ c : Fin 128, lit0t0_660 c.val = if (20 : Fin 128).val = c.val then 0x3F80#16 else 0#16) c)

theorem m5_21 (c : Fin 128) : lit0t1_5 (81920 + 21 * 128 + c.val) = if (21 : Fin 128).val = c.val then 0x3F80#16 else 0#16 :=
  chase (F := lit0t0_661) (by unfold lit0t1_5; rw [show (81920 + 21 * 128 + c.val) / 128 % 128 = 21 by omega]; rfl) (by unfold lit0t0_661; rw [Nat.mod_mod]) (by omega)
    ((by decide +kernel : ∀ c : Fin 128, lit0t0_661 c.val = if (21 : Fin 128).val = c.val then 0x3F80#16 else 0#16) c)

theorem m5_22 (c : Fin 128) : lit0t1_5 (81920 + 22 * 128 + c.val) = if (22 : Fin 128).val = c.val then 0x3F80#16 else 0#16 :=
  chase (F := lit0t0_662) (by unfold lit0t1_5; rw [show (81920 + 22 * 128 + c.val) / 128 % 128 = 22 by omega]; rfl) (by unfold lit0t0_662; rw [Nat.mod_mod]) (by omega)
    ((by decide +kernel : ∀ c : Fin 128, lit0t0_662 c.val = if (22 : Fin 128).val = c.val then 0x3F80#16 else 0#16) c)

theorem m5_23 (c : Fin 128) : lit0t1_5 (81920 + 23 * 128 + c.val) = if (23 : Fin 128).val = c.val then 0x3F80#16 else 0#16 :=
  chase (F := lit0t0_663) (by unfold lit0t1_5; rw [show (81920 + 23 * 128 + c.val) / 128 % 128 = 23 by omega]; rfl) (by unfold lit0t0_663; rw [Nat.mod_mod]) (by omega)
    ((by decide +kernel : ∀ c : Fin 128, lit0t0_663 c.val = if (23 : Fin 128).val = c.val then 0x3F80#16 else 0#16) c)

theorem m5_24 (c : Fin 128) : lit0t1_5 (81920 + 24 * 128 + c.val) = if (24 : Fin 128).val = c.val then 0x3F80#16 else 0#16 :=
  chase (F := lit0t0_664) (by unfold lit0t1_5; rw [show (81920 + 24 * 128 + c.val) / 128 % 128 = 24 by omega]; rfl) (by unfold lit0t0_664; rw [Nat.mod_mod]) (by omega)
    ((by decide +kernel : ∀ c : Fin 128, lit0t0_664 c.val = if (24 : Fin 128).val = c.val then 0x3F80#16 else 0#16) c)

theorem m5_25 (c : Fin 128) : lit0t1_5 (81920 + 25 * 128 + c.val) = if (25 : Fin 128).val = c.val then 0x3F80#16 else 0#16 :=
  chase (F := lit0t0_665) (by unfold lit0t1_5; rw [show (81920 + 25 * 128 + c.val) / 128 % 128 = 25 by omega]; rfl) (by unfold lit0t0_665; rw [Nat.mod_mod]) (by omega)
    ((by decide +kernel : ∀ c : Fin 128, lit0t0_665 c.val = if (25 : Fin 128).val = c.val then 0x3F80#16 else 0#16) c)

theorem m5_26 (c : Fin 128) : lit0t1_5 (81920 + 26 * 128 + c.val) = if (26 : Fin 128).val = c.val then 0x3F80#16 else 0#16 :=
  chase (F := lit0t0_666) (by unfold lit0t1_5; rw [show (81920 + 26 * 128 + c.val) / 128 % 128 = 26 by omega]; rfl) (by unfold lit0t0_666; rw [Nat.mod_mod]) (by omega)
    ((by decide +kernel : ∀ c : Fin 128, lit0t0_666 c.val = if (26 : Fin 128).val = c.val then 0x3F80#16 else 0#16) c)

theorem m5_27 (c : Fin 128) : lit0t1_5 (81920 + 27 * 128 + c.val) = if (27 : Fin 128).val = c.val then 0x3F80#16 else 0#16 :=
  chase (F := lit0t0_667) (by unfold lit0t1_5; rw [show (81920 + 27 * 128 + c.val) / 128 % 128 = 27 by omega]; rfl) (by unfold lit0t0_667; rw [Nat.mod_mod]) (by omega)
    ((by decide +kernel : ∀ c : Fin 128, lit0t0_667 c.val = if (27 : Fin 128).val = c.val then 0x3F80#16 else 0#16) c)

theorem m5_28 (c : Fin 128) : lit0t1_5 (81920 + 28 * 128 + c.val) = if (28 : Fin 128).val = c.val then 0x3F80#16 else 0#16 :=
  chase (F := lit0t0_668) (by unfold lit0t1_5; rw [show (81920 + 28 * 128 + c.val) / 128 % 128 = 28 by omega]; rfl) (by unfold lit0t0_668; rw [Nat.mod_mod]) (by omega)
    ((by decide +kernel : ∀ c : Fin 128, lit0t0_668 c.val = if (28 : Fin 128).val = c.val then 0x3F80#16 else 0#16) c)

theorem m5_29 (c : Fin 128) : lit0t1_5 (81920 + 29 * 128 + c.val) = if (29 : Fin 128).val = c.val then 0x3F80#16 else 0#16 :=
  chase (F := lit0t0_669) (by unfold lit0t1_5; rw [show (81920 + 29 * 128 + c.val) / 128 % 128 = 29 by omega]; rfl) (by unfold lit0t0_669; rw [Nat.mod_mod]) (by omega)
    ((by decide +kernel : ∀ c : Fin 128, lit0t0_669 c.val = if (29 : Fin 128).val = c.val then 0x3F80#16 else 0#16) c)

theorem m5_30 (c : Fin 128) : lit0t1_5 (81920 + 30 * 128 + c.val) = if (30 : Fin 128).val = c.val then 0x3F80#16 else 0#16 :=
  chase (F := lit0t0_670) (by unfold lit0t1_5; rw [show (81920 + 30 * 128 + c.val) / 128 % 128 = 30 by omega]; rfl) (by unfold lit0t0_670; rw [Nat.mod_mod]) (by omega)
    ((by decide +kernel : ∀ c : Fin 128, lit0t0_670 c.val = if (30 : Fin 128).val = c.val then 0x3F80#16 else 0#16) c)

theorem m5_31 (c : Fin 128) : lit0t1_5 (81920 + 31 * 128 + c.val) = if (31 : Fin 128).val = c.val then 0x3F80#16 else 0#16 :=
  chase (F := lit0t0_671) (by unfold lit0t1_5; rw [show (81920 + 31 * 128 + c.val) / 128 % 128 = 31 by omega]; rfl) (by unfold lit0t0_671; rw [Nat.mod_mod]) (by omega)
    ((by decide +kernel : ∀ c : Fin 128, lit0t0_671 c.val = if (31 : Fin 128).val = c.val then 0x3F80#16 else 0#16) c)

theorem m5_32 (c : Fin 128) : lit0t1_5 (81920 + 32 * 128 + c.val) = if (32 : Fin 128).val = c.val then 0x3F80#16 else 0#16 :=
  chase (F := lit0t0_672) (by unfold lit0t1_5; rw [show (81920 + 32 * 128 + c.val) / 128 % 128 = 32 by omega]; rfl) (by unfold lit0t0_672; rw [Nat.mod_mod]) (by omega)
    ((by decide +kernel : ∀ c : Fin 128, lit0t0_672 c.val = if (32 : Fin 128).val = c.val then 0x3F80#16 else 0#16) c)

theorem m5_33 (c : Fin 128) : lit0t1_5 (81920 + 33 * 128 + c.val) = if (33 : Fin 128).val = c.val then 0x3F80#16 else 0#16 :=
  chase (F := lit0t0_673) (by unfold lit0t1_5; rw [show (81920 + 33 * 128 + c.val) / 128 % 128 = 33 by omega]; rfl) (by unfold lit0t0_673; rw [Nat.mod_mod]) (by omega)
    ((by decide +kernel : ∀ c : Fin 128, lit0t0_673 c.val = if (33 : Fin 128).val = c.val then 0x3F80#16 else 0#16) c)

theorem m5_34 (c : Fin 128) : lit0t1_5 (81920 + 34 * 128 + c.val) = if (34 : Fin 128).val = c.val then 0x3F80#16 else 0#16 :=
  chase (F := lit0t0_674) (by unfold lit0t1_5; rw [show (81920 + 34 * 128 + c.val) / 128 % 128 = 34 by omega]; rfl) (by unfold lit0t0_674; rw [Nat.mod_mod]) (by omega)
    ((by decide +kernel : ∀ c : Fin 128, lit0t0_674 c.val = if (34 : Fin 128).val = c.val then 0x3F80#16 else 0#16) c)

theorem m5_35 (c : Fin 128) : lit0t1_5 (81920 + 35 * 128 + c.val) = if (35 : Fin 128).val = c.val then 0x3F80#16 else 0#16 :=
  chase (F := lit0t0_675) (by unfold lit0t1_5; rw [show (81920 + 35 * 128 + c.val) / 128 % 128 = 35 by omega]; rfl) (by unfold lit0t0_675; rw [Nat.mod_mod]) (by omega)
    ((by decide +kernel : ∀ c : Fin 128, lit0t0_675 c.val = if (35 : Fin 128).val = c.val then 0x3F80#16 else 0#16) c)

theorem m5_36 (c : Fin 128) : lit0t1_5 (81920 + 36 * 128 + c.val) = if (36 : Fin 128).val = c.val then 0x3F80#16 else 0#16 :=
  chase (F := lit0t0_676) (by unfold lit0t1_5; rw [show (81920 + 36 * 128 + c.val) / 128 % 128 = 36 by omega]; rfl) (by unfold lit0t0_676; rw [Nat.mod_mod]) (by omega)
    ((by decide +kernel : ∀ c : Fin 128, lit0t0_676 c.val = if (36 : Fin 128).val = c.val then 0x3F80#16 else 0#16) c)

theorem m5_37 (c : Fin 128) : lit0t1_5 (81920 + 37 * 128 + c.val) = if (37 : Fin 128).val = c.val then 0x3F80#16 else 0#16 :=
  chase (F := lit0t0_677) (by unfold lit0t1_5; rw [show (81920 + 37 * 128 + c.val) / 128 % 128 = 37 by omega]; rfl) (by unfold lit0t0_677; rw [Nat.mod_mod]) (by omega)
    ((by decide +kernel : ∀ c : Fin 128, lit0t0_677 c.val = if (37 : Fin 128).val = c.val then 0x3F80#16 else 0#16) c)

theorem m5_38 (c : Fin 128) : lit0t1_5 (81920 + 38 * 128 + c.val) = if (38 : Fin 128).val = c.val then 0x3F80#16 else 0#16 :=
  chase (F := lit0t0_678) (by unfold lit0t1_5; rw [show (81920 + 38 * 128 + c.val) / 128 % 128 = 38 by omega]; rfl) (by unfold lit0t0_678; rw [Nat.mod_mod]) (by omega)
    ((by decide +kernel : ∀ c : Fin 128, lit0t0_678 c.val = if (38 : Fin 128).val = c.val then 0x3F80#16 else 0#16) c)

theorem m5_39 (c : Fin 128) : lit0t1_5 (81920 + 39 * 128 + c.val) = if (39 : Fin 128).val = c.val then 0x3F80#16 else 0#16 :=
  chase (F := lit0t0_679) (by unfold lit0t1_5; rw [show (81920 + 39 * 128 + c.val) / 128 % 128 = 39 by omega]; rfl) (by unfold lit0t0_679; rw [Nat.mod_mod]) (by omega)
    ((by decide +kernel : ∀ c : Fin 128, lit0t0_679 c.val = if (39 : Fin 128).val = c.val then 0x3F80#16 else 0#16) c)

theorem m5_40 (c : Fin 128) : lit0t1_5 (81920 + 40 * 128 + c.val) = if (40 : Fin 128).val = c.val then 0x3F80#16 else 0#16 :=
  chase (F := lit0t0_680) (by unfold lit0t1_5; rw [show (81920 + 40 * 128 + c.val) / 128 % 128 = 40 by omega]; rfl) (by unfold lit0t0_680; rw [Nat.mod_mod]) (by omega)
    ((by decide +kernel : ∀ c : Fin 128, lit0t0_680 c.val = if (40 : Fin 128).val = c.val then 0x3F80#16 else 0#16) c)

theorem m5_41 (c : Fin 128) : lit0t1_5 (81920 + 41 * 128 + c.val) = if (41 : Fin 128).val = c.val then 0x3F80#16 else 0#16 :=
  chase (F := lit0t0_681) (by unfold lit0t1_5; rw [show (81920 + 41 * 128 + c.val) / 128 % 128 = 41 by omega]; rfl) (by unfold lit0t0_681; rw [Nat.mod_mod]) (by omega)
    ((by decide +kernel : ∀ c : Fin 128, lit0t0_681 c.val = if (41 : Fin 128).val = c.val then 0x3F80#16 else 0#16) c)

theorem m5_42 (c : Fin 128) : lit0t1_5 (81920 + 42 * 128 + c.val) = if (42 : Fin 128).val = c.val then 0x3F80#16 else 0#16 :=
  chase (F := lit0t0_682) (by unfold lit0t1_5; rw [show (81920 + 42 * 128 + c.val) / 128 % 128 = 42 by omega]; rfl) (by unfold lit0t0_682; rw [Nat.mod_mod]) (by omega)
    ((by decide +kernel : ∀ c : Fin 128, lit0t0_682 c.val = if (42 : Fin 128).val = c.val then 0x3F80#16 else 0#16) c)

theorem m5_43 (c : Fin 128) : lit0t1_5 (81920 + 43 * 128 + c.val) = if (43 : Fin 128).val = c.val then 0x3F80#16 else 0#16 :=
  chase (F := lit0t0_683) (by unfold lit0t1_5; rw [show (81920 + 43 * 128 + c.val) / 128 % 128 = 43 by omega]; rfl) (by unfold lit0t0_683; rw [Nat.mod_mod]) (by omega)
    ((by decide +kernel : ∀ c : Fin 128, lit0t0_683 c.val = if (43 : Fin 128).val = c.val then 0x3F80#16 else 0#16) c)

theorem m5_44 (c : Fin 128) : lit0t1_5 (81920 + 44 * 128 + c.val) = if (44 : Fin 128).val = c.val then 0x3F80#16 else 0#16 :=
  chase (F := lit0t0_684) (by unfold lit0t1_5; rw [show (81920 + 44 * 128 + c.val) / 128 % 128 = 44 by omega]; rfl) (by unfold lit0t0_684; rw [Nat.mod_mod]) (by omega)
    ((by decide +kernel : ∀ c : Fin 128, lit0t0_684 c.val = if (44 : Fin 128).val = c.val then 0x3F80#16 else 0#16) c)

theorem m5_45 (c : Fin 128) : lit0t1_5 (81920 + 45 * 128 + c.val) = if (45 : Fin 128).val = c.val then 0x3F80#16 else 0#16 :=
  chase (F := lit0t0_685) (by unfold lit0t1_5; rw [show (81920 + 45 * 128 + c.val) / 128 % 128 = 45 by omega]; rfl) (by unfold lit0t0_685; rw [Nat.mod_mod]) (by omega)
    ((by decide +kernel : ∀ c : Fin 128, lit0t0_685 c.val = if (45 : Fin 128).val = c.val then 0x3F80#16 else 0#16) c)

theorem m5_46 (c : Fin 128) : lit0t1_5 (81920 + 46 * 128 + c.val) = if (46 : Fin 128).val = c.val then 0x3F80#16 else 0#16 :=
  chase (F := lit0t0_686) (by unfold lit0t1_5; rw [show (81920 + 46 * 128 + c.val) / 128 % 128 = 46 by omega]; rfl) (by unfold lit0t0_686; rw [Nat.mod_mod]) (by omega)
    ((by decide +kernel : ∀ c : Fin 128, lit0t0_686 c.val = if (46 : Fin 128).val = c.val then 0x3F80#16 else 0#16) c)

theorem m5_47 (c : Fin 128) : lit0t1_5 (81920 + 47 * 128 + c.val) = if (47 : Fin 128).val = c.val then 0x3F80#16 else 0#16 :=
  chase (F := lit0t0_687) (by unfold lit0t1_5; rw [show (81920 + 47 * 128 + c.val) / 128 % 128 = 47 by omega]; rfl) (by unfold lit0t0_687; rw [Nat.mod_mod]) (by omega)
    ((by decide +kernel : ∀ c : Fin 128, lit0t0_687 c.val = if (47 : Fin 128).val = c.val then 0x3F80#16 else 0#16) c)

theorem m5_48 (c : Fin 128) : lit0t1_5 (81920 + 48 * 128 + c.val) = if (48 : Fin 128).val = c.val then 0x3F80#16 else 0#16 :=
  chase (F := lit0t0_688) (by unfold lit0t1_5; rw [show (81920 + 48 * 128 + c.val) / 128 % 128 = 48 by omega]; rfl) (by unfold lit0t0_688; rw [Nat.mod_mod]) (by omega)
    ((by decide +kernel : ∀ c : Fin 128, lit0t0_688 c.val = if (48 : Fin 128).val = c.val then 0x3F80#16 else 0#16) c)

theorem m5_49 (c : Fin 128) : lit0t1_5 (81920 + 49 * 128 + c.val) = if (49 : Fin 128).val = c.val then 0x3F80#16 else 0#16 :=
  chase (F := lit0t0_689) (by unfold lit0t1_5; rw [show (81920 + 49 * 128 + c.val) / 128 % 128 = 49 by omega]; rfl) (by unfold lit0t0_689; rw [Nat.mod_mod]) (by omega)
    ((by decide +kernel : ∀ c : Fin 128, lit0t0_689 c.val = if (49 : Fin 128).val = c.val then 0x3F80#16 else 0#16) c)

theorem m5_50 (c : Fin 128) : lit0t1_5 (81920 + 50 * 128 + c.val) = if (50 : Fin 128).val = c.val then 0x3F80#16 else 0#16 :=
  chase (F := lit0t0_690) (by unfold lit0t1_5; rw [show (81920 + 50 * 128 + c.val) / 128 % 128 = 50 by omega]; rfl) (by unfold lit0t0_690; rw [Nat.mod_mod]) (by omega)
    ((by decide +kernel : ∀ c : Fin 128, lit0t0_690 c.val = if (50 : Fin 128).val = c.val then 0x3F80#16 else 0#16) c)

theorem m5_51 (c : Fin 128) : lit0t1_5 (81920 + 51 * 128 + c.val) = if (51 : Fin 128).val = c.val then 0x3F80#16 else 0#16 :=
  chase (F := lit0t0_691) (by unfold lit0t1_5; rw [show (81920 + 51 * 128 + c.val) / 128 % 128 = 51 by omega]; rfl) (by unfold lit0t0_691; rw [Nat.mod_mod]) (by omega)
    ((by decide +kernel : ∀ c : Fin 128, lit0t0_691 c.val = if (51 : Fin 128).val = c.val then 0x3F80#16 else 0#16) c)

theorem m5_52 (c : Fin 128) : lit0t1_5 (81920 + 52 * 128 + c.val) = if (52 : Fin 128).val = c.val then 0x3F80#16 else 0#16 :=
  chase (F := lit0t0_692) (by unfold lit0t1_5; rw [show (81920 + 52 * 128 + c.val) / 128 % 128 = 52 by omega]; rfl) (by unfold lit0t0_692; rw [Nat.mod_mod]) (by omega)
    ((by decide +kernel : ∀ c : Fin 128, lit0t0_692 c.val = if (52 : Fin 128).val = c.val then 0x3F80#16 else 0#16) c)

theorem m5_53 (c : Fin 128) : lit0t1_5 (81920 + 53 * 128 + c.val) = if (53 : Fin 128).val = c.val then 0x3F80#16 else 0#16 :=
  chase (F := lit0t0_693) (by unfold lit0t1_5; rw [show (81920 + 53 * 128 + c.val) / 128 % 128 = 53 by omega]; rfl) (by unfold lit0t0_693; rw [Nat.mod_mod]) (by omega)
    ((by decide +kernel : ∀ c : Fin 128, lit0t0_693 c.val = if (53 : Fin 128).val = c.val then 0x3F80#16 else 0#16) c)

theorem m5_54 (c : Fin 128) : lit0t1_5 (81920 + 54 * 128 + c.val) = if (54 : Fin 128).val = c.val then 0x3F80#16 else 0#16 :=
  chase (F := lit0t0_694) (by unfold lit0t1_5; rw [show (81920 + 54 * 128 + c.val) / 128 % 128 = 54 by omega]; rfl) (by unfold lit0t0_694; rw [Nat.mod_mod]) (by omega)
    ((by decide +kernel : ∀ c : Fin 128, lit0t0_694 c.val = if (54 : Fin 128).val = c.val then 0x3F80#16 else 0#16) c)

theorem m5_55 (c : Fin 128) : lit0t1_5 (81920 + 55 * 128 + c.val) = if (55 : Fin 128).val = c.val then 0x3F80#16 else 0#16 :=
  chase (F := lit0t0_695) (by unfold lit0t1_5; rw [show (81920 + 55 * 128 + c.val) / 128 % 128 = 55 by omega]; rfl) (by unfold lit0t0_695; rw [Nat.mod_mod]) (by omega)
    ((by decide +kernel : ∀ c : Fin 128, lit0t0_695 c.val = if (55 : Fin 128).val = c.val then 0x3F80#16 else 0#16) c)

theorem m5_56 (c : Fin 128) : lit0t1_5 (81920 + 56 * 128 + c.val) = if (56 : Fin 128).val = c.val then 0x3F80#16 else 0#16 :=
  chase (F := lit0t0_696) (by unfold lit0t1_5; rw [show (81920 + 56 * 128 + c.val) / 128 % 128 = 56 by omega]; rfl) (by unfold lit0t0_696; rw [Nat.mod_mod]) (by omega)
    ((by decide +kernel : ∀ c : Fin 128, lit0t0_696 c.val = if (56 : Fin 128).val = c.val then 0x3F80#16 else 0#16) c)

theorem m5_57 (c : Fin 128) : lit0t1_5 (81920 + 57 * 128 + c.val) = if (57 : Fin 128).val = c.val then 0x3F80#16 else 0#16 :=
  chase (F := lit0t0_697) (by unfold lit0t1_5; rw [show (81920 + 57 * 128 + c.val) / 128 % 128 = 57 by omega]; rfl) (by unfold lit0t0_697; rw [Nat.mod_mod]) (by omega)
    ((by decide +kernel : ∀ c : Fin 128, lit0t0_697 c.val = if (57 : Fin 128).val = c.val then 0x3F80#16 else 0#16) c)

theorem m5_58 (c : Fin 128) : lit0t1_5 (81920 + 58 * 128 + c.val) = if (58 : Fin 128).val = c.val then 0x3F80#16 else 0#16 :=
  chase (F := lit0t0_698) (by unfold lit0t1_5; rw [show (81920 + 58 * 128 + c.val) / 128 % 128 = 58 by omega]; rfl) (by unfold lit0t0_698; rw [Nat.mod_mod]) (by omega)
    ((by decide +kernel : ∀ c : Fin 128, lit0t0_698 c.val = if (58 : Fin 128).val = c.val then 0x3F80#16 else 0#16) c)

theorem m5_59 (c : Fin 128) : lit0t1_5 (81920 + 59 * 128 + c.val) = if (59 : Fin 128).val = c.val then 0x3F80#16 else 0#16 :=
  chase (F := lit0t0_699) (by unfold lit0t1_5; rw [show (81920 + 59 * 128 + c.val) / 128 % 128 = 59 by omega]; rfl) (by unfold lit0t0_699; rw [Nat.mod_mod]) (by omega)
    ((by decide +kernel : ∀ c : Fin 128, lit0t0_699 c.val = if (59 : Fin 128).val = c.val then 0x3F80#16 else 0#16) c)

theorem m5_60 (c : Fin 128) : lit0t1_5 (81920 + 60 * 128 + c.val) = if (60 : Fin 128).val = c.val then 0x3F80#16 else 0#16 :=
  chase (F := lit0t0_700) (by unfold lit0t1_5; rw [show (81920 + 60 * 128 + c.val) / 128 % 128 = 60 by omega]; rfl) (by unfold lit0t0_700; rw [Nat.mod_mod]) (by omega)
    ((by decide +kernel : ∀ c : Fin 128, lit0t0_700 c.val = if (60 : Fin 128).val = c.val then 0x3F80#16 else 0#16) c)

theorem m5_61 (c : Fin 128) : lit0t1_5 (81920 + 61 * 128 + c.val) = if (61 : Fin 128).val = c.val then 0x3F80#16 else 0#16 :=
  chase (F := lit0t0_701) (by unfold lit0t1_5; rw [show (81920 + 61 * 128 + c.val) / 128 % 128 = 61 by omega]; rfl) (by unfold lit0t0_701; rw [Nat.mod_mod]) (by omega)
    ((by decide +kernel : ∀ c : Fin 128, lit0t0_701 c.val = if (61 : Fin 128).val = c.val then 0x3F80#16 else 0#16) c)

theorem m5_62 (c : Fin 128) : lit0t1_5 (81920 + 62 * 128 + c.val) = if (62 : Fin 128).val = c.val then 0x3F80#16 else 0#16 :=
  chase (F := lit0t0_702) (by unfold lit0t1_5; rw [show (81920 + 62 * 128 + c.val) / 128 % 128 = 62 by omega]; rfl) (by unfold lit0t0_702; rw [Nat.mod_mod]) (by omega)
    ((by decide +kernel : ∀ c : Fin 128, lit0t0_702 c.val = if (62 : Fin 128).val = c.val then 0x3F80#16 else 0#16) c)

theorem m5_63 (c : Fin 128) : lit0t1_5 (81920 + 63 * 128 + c.val) = if (63 : Fin 128).val = c.val then 0x3F80#16 else 0#16 :=
  chase (F := lit0t0_703) (by unfold lit0t1_5; rw [show (81920 + 63 * 128 + c.val) / 128 % 128 = 63 by omega]; rfl) (by unfold lit0t0_703; rw [Nat.mod_mod]) (by omega)
    ((by decide +kernel : ∀ c : Fin 128, lit0t0_703 c.val = if (63 : Fin 128).val = c.val then 0x3F80#16 else 0#16) c)

theorem m5_64 (c : Fin 128) : lit0t1_5 (81920 + 64 * 128 + c.val) = if (64 : Fin 128).val = c.val then 0x3F80#16 else 0#16 :=
  chase (F := lit0t0_704) (by unfold lit0t1_5; rw [show (81920 + 64 * 128 + c.val) / 128 % 128 = 64 by omega]; rfl) (by unfold lit0t0_704; rw [Nat.mod_mod]) (by omega)
    ((by decide +kernel : ∀ c : Fin 128, lit0t0_704 c.val = if (64 : Fin 128).val = c.val then 0x3F80#16 else 0#16) c)

theorem m5_65 (c : Fin 128) : lit0t1_5 (81920 + 65 * 128 + c.val) = if (65 : Fin 128).val = c.val then 0x3F80#16 else 0#16 :=
  chase (F := lit0t0_705) (by unfold lit0t1_5; rw [show (81920 + 65 * 128 + c.val) / 128 % 128 = 65 by omega]; rfl) (by unfold lit0t0_705; rw [Nat.mod_mod]) (by omega)
    ((by decide +kernel : ∀ c : Fin 128, lit0t0_705 c.val = if (65 : Fin 128).val = c.val then 0x3F80#16 else 0#16) c)

theorem m5_66 (c : Fin 128) : lit0t1_5 (81920 + 66 * 128 + c.val) = if (66 : Fin 128).val = c.val then 0x3F80#16 else 0#16 :=
  chase (F := lit0t0_706) (by unfold lit0t1_5; rw [show (81920 + 66 * 128 + c.val) / 128 % 128 = 66 by omega]; rfl) (by unfold lit0t0_706; rw [Nat.mod_mod]) (by omega)
    ((by decide +kernel : ∀ c : Fin 128, lit0t0_706 c.val = if (66 : Fin 128).val = c.val then 0x3F80#16 else 0#16) c)

theorem m5_67 (c : Fin 128) : lit0t1_5 (81920 + 67 * 128 + c.val) = if (67 : Fin 128).val = c.val then 0x3F80#16 else 0#16 :=
  chase (F := lit0t0_707) (by unfold lit0t1_5; rw [show (81920 + 67 * 128 + c.val) / 128 % 128 = 67 by omega]; rfl) (by unfold lit0t0_707; rw [Nat.mod_mod]) (by omega)
    ((by decide +kernel : ∀ c : Fin 128, lit0t0_707 c.val = if (67 : Fin 128).val = c.val then 0x3F80#16 else 0#16) c)

theorem m5_68 (c : Fin 128) : lit0t1_5 (81920 + 68 * 128 + c.val) = if (68 : Fin 128).val = c.val then 0x3F80#16 else 0#16 :=
  chase (F := lit0t0_708) (by unfold lit0t1_5; rw [show (81920 + 68 * 128 + c.val) / 128 % 128 = 68 by omega]; rfl) (by unfold lit0t0_708; rw [Nat.mod_mod]) (by omega)
    ((by decide +kernel : ∀ c : Fin 128, lit0t0_708 c.val = if (68 : Fin 128).val = c.val then 0x3F80#16 else 0#16) c)

theorem m5_69 (c : Fin 128) : lit0t1_5 (81920 + 69 * 128 + c.val) = if (69 : Fin 128).val = c.val then 0x3F80#16 else 0#16 :=
  chase (F := lit0t0_709) (by unfold lit0t1_5; rw [show (81920 + 69 * 128 + c.val) / 128 % 128 = 69 by omega]; rfl) (by unfold lit0t0_709; rw [Nat.mod_mod]) (by omega)
    ((by decide +kernel : ∀ c : Fin 128, lit0t0_709 c.val = if (69 : Fin 128).val = c.val then 0x3F80#16 else 0#16) c)

theorem m5_70 (c : Fin 128) : lit0t1_5 (81920 + 70 * 128 + c.val) = if (70 : Fin 128).val = c.val then 0x3F80#16 else 0#16 :=
  chase (F := lit0t0_710) (by unfold lit0t1_5; rw [show (81920 + 70 * 128 + c.val) / 128 % 128 = 70 by omega]; rfl) (by unfold lit0t0_710; rw [Nat.mod_mod]) (by omega)
    ((by decide +kernel : ∀ c : Fin 128, lit0t0_710 c.val = if (70 : Fin 128).val = c.val then 0x3F80#16 else 0#16) c)

theorem m5_71 (c : Fin 128) : lit0t1_5 (81920 + 71 * 128 + c.val) = if (71 : Fin 128).val = c.val then 0x3F80#16 else 0#16 :=
  chase (F := lit0t0_711) (by unfold lit0t1_5; rw [show (81920 + 71 * 128 + c.val) / 128 % 128 = 71 by omega]; rfl) (by unfold lit0t0_711; rw [Nat.mod_mod]) (by omega)
    ((by decide +kernel : ∀ c : Fin 128, lit0t0_711 c.val = if (71 : Fin 128).val = c.val then 0x3F80#16 else 0#16) c)

theorem m5_72 (c : Fin 128) : lit0t1_5 (81920 + 72 * 128 + c.val) = if (72 : Fin 128).val = c.val then 0x3F80#16 else 0#16 :=
  chase (F := lit0t0_712) (by unfold lit0t1_5; rw [show (81920 + 72 * 128 + c.val) / 128 % 128 = 72 by omega]; rfl) (by unfold lit0t0_712; rw [Nat.mod_mod]) (by omega)
    ((by decide +kernel : ∀ c : Fin 128, lit0t0_712 c.val = if (72 : Fin 128).val = c.val then 0x3F80#16 else 0#16) c)

theorem m5_73 (c : Fin 128) : lit0t1_5 (81920 + 73 * 128 + c.val) = if (73 : Fin 128).val = c.val then 0x3F80#16 else 0#16 :=
  chase (F := lit0t0_713) (by unfold lit0t1_5; rw [show (81920 + 73 * 128 + c.val) / 128 % 128 = 73 by omega]; rfl) (by unfold lit0t0_713; rw [Nat.mod_mod]) (by omega)
    ((by decide +kernel : ∀ c : Fin 128, lit0t0_713 c.val = if (73 : Fin 128).val = c.val then 0x3F80#16 else 0#16) c)

theorem m5_74 (c : Fin 128) : lit0t1_5 (81920 + 74 * 128 + c.val) = if (74 : Fin 128).val = c.val then 0x3F80#16 else 0#16 :=
  chase (F := lit0t0_714) (by unfold lit0t1_5; rw [show (81920 + 74 * 128 + c.val) / 128 % 128 = 74 by omega]; rfl) (by unfold lit0t0_714; rw [Nat.mod_mod]) (by omega)
    ((by decide +kernel : ∀ c : Fin 128, lit0t0_714 c.val = if (74 : Fin 128).val = c.val then 0x3F80#16 else 0#16) c)

theorem m5_75 (c : Fin 128) : lit0t1_5 (81920 + 75 * 128 + c.val) = if (75 : Fin 128).val = c.val then 0x3F80#16 else 0#16 :=
  chase (F := lit0t0_715) (by unfold lit0t1_5; rw [show (81920 + 75 * 128 + c.val) / 128 % 128 = 75 by omega]; rfl) (by unfold lit0t0_715; rw [Nat.mod_mod]) (by omega)
    ((by decide +kernel : ∀ c : Fin 128, lit0t0_715 c.val = if (75 : Fin 128).val = c.val then 0x3F80#16 else 0#16) c)

theorem m5_76 (c : Fin 128) : lit0t1_5 (81920 + 76 * 128 + c.val) = if (76 : Fin 128).val = c.val then 0x3F80#16 else 0#16 :=
  chase (F := lit0t0_716) (by unfold lit0t1_5; rw [show (81920 + 76 * 128 + c.val) / 128 % 128 = 76 by omega]; rfl) (by unfold lit0t0_716; rw [Nat.mod_mod]) (by omega)
    ((by decide +kernel : ∀ c : Fin 128, lit0t0_716 c.val = if (76 : Fin 128).val = c.val then 0x3F80#16 else 0#16) c)

theorem m5_77 (c : Fin 128) : lit0t1_5 (81920 + 77 * 128 + c.val) = if (77 : Fin 128).val = c.val then 0x3F80#16 else 0#16 :=
  chase (F := lit0t0_717) (by unfold lit0t1_5; rw [show (81920 + 77 * 128 + c.val) / 128 % 128 = 77 by omega]; rfl) (by unfold lit0t0_717; rw [Nat.mod_mod]) (by omega)
    ((by decide +kernel : ∀ c : Fin 128, lit0t0_717 c.val = if (77 : Fin 128).val = c.val then 0x3F80#16 else 0#16) c)

theorem m5_78 (c : Fin 128) : lit0t1_5 (81920 + 78 * 128 + c.val) = if (78 : Fin 128).val = c.val then 0x3F80#16 else 0#16 :=
  chase (F := lit0t0_718) (by unfold lit0t1_5; rw [show (81920 + 78 * 128 + c.val) / 128 % 128 = 78 by omega]; rfl) (by unfold lit0t0_718; rw [Nat.mod_mod]) (by omega)
    ((by decide +kernel : ∀ c : Fin 128, lit0t0_718 c.val = if (78 : Fin 128).val = c.val then 0x3F80#16 else 0#16) c)

theorem m5_79 (c : Fin 128) : lit0t1_5 (81920 + 79 * 128 + c.val) = if (79 : Fin 128).val = c.val then 0x3F80#16 else 0#16 :=
  chase (F := lit0t0_719) (by unfold lit0t1_5; rw [show (81920 + 79 * 128 + c.val) / 128 % 128 = 79 by omega]; rfl) (by unfold lit0t0_719; rw [Nat.mod_mod]) (by omega)
    ((by decide +kernel : ∀ c : Fin 128, lit0t0_719 c.val = if (79 : Fin 128).val = c.val then 0x3F80#16 else 0#16) c)

theorem m5_80 (c : Fin 128) : lit0t1_5 (81920 + 80 * 128 + c.val) = if (80 : Fin 128).val = c.val then 0x3F80#16 else 0#16 :=
  chase (F := lit0t0_720) (by unfold lit0t1_5; rw [show (81920 + 80 * 128 + c.val) / 128 % 128 = 80 by omega]; rfl) (by unfold lit0t0_720; rw [Nat.mod_mod]) (by omega)
    ((by decide +kernel : ∀ c : Fin 128, lit0t0_720 c.val = if (80 : Fin 128).val = c.val then 0x3F80#16 else 0#16) c)

theorem m5_81 (c : Fin 128) : lit0t1_5 (81920 + 81 * 128 + c.val) = if (81 : Fin 128).val = c.val then 0x3F80#16 else 0#16 :=
  chase (F := lit0t0_721) (by unfold lit0t1_5; rw [show (81920 + 81 * 128 + c.val) / 128 % 128 = 81 by omega]; rfl) (by unfold lit0t0_721; rw [Nat.mod_mod]) (by omega)
    ((by decide +kernel : ∀ c : Fin 128, lit0t0_721 c.val = if (81 : Fin 128).val = c.val then 0x3F80#16 else 0#16) c)

theorem m5_82 (c : Fin 128) : lit0t1_5 (81920 + 82 * 128 + c.val) = if (82 : Fin 128).val = c.val then 0x3F80#16 else 0#16 :=
  chase (F := lit0t0_722) (by unfold lit0t1_5; rw [show (81920 + 82 * 128 + c.val) / 128 % 128 = 82 by omega]; rfl) (by unfold lit0t0_722; rw [Nat.mod_mod]) (by omega)
    ((by decide +kernel : ∀ c : Fin 128, lit0t0_722 c.val = if (82 : Fin 128).val = c.val then 0x3F80#16 else 0#16) c)

theorem m5_83 (c : Fin 128) : lit0t1_5 (81920 + 83 * 128 + c.val) = if (83 : Fin 128).val = c.val then 0x3F80#16 else 0#16 :=
  chase (F := lit0t0_723) (by unfold lit0t1_5; rw [show (81920 + 83 * 128 + c.val) / 128 % 128 = 83 by omega]; rfl) (by unfold lit0t0_723; rw [Nat.mod_mod]) (by omega)
    ((by decide +kernel : ∀ c : Fin 128, lit0t0_723 c.val = if (83 : Fin 128).val = c.val then 0x3F80#16 else 0#16) c)

theorem m5_84 (c : Fin 128) : lit0t1_5 (81920 + 84 * 128 + c.val) = if (84 : Fin 128).val = c.val then 0x3F80#16 else 0#16 :=
  chase (F := lit0t0_724) (by unfold lit0t1_5; rw [show (81920 + 84 * 128 + c.val) / 128 % 128 = 84 by omega]; rfl) (by unfold lit0t0_724; rw [Nat.mod_mod]) (by omega)
    ((by decide +kernel : ∀ c : Fin 128, lit0t0_724 c.val = if (84 : Fin 128).val = c.val then 0x3F80#16 else 0#16) c)

theorem m5_85 (c : Fin 128) : lit0t1_5 (81920 + 85 * 128 + c.val) = if (85 : Fin 128).val = c.val then 0x3F80#16 else 0#16 :=
  chase (F := lit0t0_725) (by unfold lit0t1_5; rw [show (81920 + 85 * 128 + c.val) / 128 % 128 = 85 by omega]; rfl) (by unfold lit0t0_725; rw [Nat.mod_mod]) (by omega)
    ((by decide +kernel : ∀ c : Fin 128, lit0t0_725 c.val = if (85 : Fin 128).val = c.val then 0x3F80#16 else 0#16) c)

theorem m5_86 (c : Fin 128) : lit0t1_5 (81920 + 86 * 128 + c.val) = if (86 : Fin 128).val = c.val then 0x3F80#16 else 0#16 :=
  chase (F := lit0t0_726) (by unfold lit0t1_5; rw [show (81920 + 86 * 128 + c.val) / 128 % 128 = 86 by omega]; rfl) (by unfold lit0t0_726; rw [Nat.mod_mod]) (by omega)
    ((by decide +kernel : ∀ c : Fin 128, lit0t0_726 c.val = if (86 : Fin 128).val = c.val then 0x3F80#16 else 0#16) c)

theorem m5_87 (c : Fin 128) : lit0t1_5 (81920 + 87 * 128 + c.val) = if (87 : Fin 128).val = c.val then 0x3F80#16 else 0#16 :=
  chase (F := lit0t0_727) (by unfold lit0t1_5; rw [show (81920 + 87 * 128 + c.val) / 128 % 128 = 87 by omega]; rfl) (by unfold lit0t0_727; rw [Nat.mod_mod]) (by omega)
    ((by decide +kernel : ∀ c : Fin 128, lit0t0_727 c.val = if (87 : Fin 128).val = c.val then 0x3F80#16 else 0#16) c)

theorem m5_88 (c : Fin 128) : lit0t1_5 (81920 + 88 * 128 + c.val) = if (88 : Fin 128).val = c.val then 0x3F80#16 else 0#16 :=
  chase (F := lit0t0_728) (by unfold lit0t1_5; rw [show (81920 + 88 * 128 + c.val) / 128 % 128 = 88 by omega]; rfl) (by unfold lit0t0_728; rw [Nat.mod_mod]) (by omega)
    ((by decide +kernel : ∀ c : Fin 128, lit0t0_728 c.val = if (88 : Fin 128).val = c.val then 0x3F80#16 else 0#16) c)

theorem m5_89 (c : Fin 128) : lit0t1_5 (81920 + 89 * 128 + c.val) = if (89 : Fin 128).val = c.val then 0x3F80#16 else 0#16 :=
  chase (F := lit0t0_729) (by unfold lit0t1_5; rw [show (81920 + 89 * 128 + c.val) / 128 % 128 = 89 by omega]; rfl) (by unfold lit0t0_729; rw [Nat.mod_mod]) (by omega)
    ((by decide +kernel : ∀ c : Fin 128, lit0t0_729 c.val = if (89 : Fin 128).val = c.val then 0x3F80#16 else 0#16) c)

theorem m5_90 (c : Fin 128) : lit0t1_5 (81920 + 90 * 128 + c.val) = if (90 : Fin 128).val = c.val then 0x3F80#16 else 0#16 :=
  chase (F := lit0t0_730) (by unfold lit0t1_5; rw [show (81920 + 90 * 128 + c.val) / 128 % 128 = 90 by omega]; rfl) (by unfold lit0t0_730; rw [Nat.mod_mod]) (by omega)
    ((by decide +kernel : ∀ c : Fin 128, lit0t0_730 c.val = if (90 : Fin 128).val = c.val then 0x3F80#16 else 0#16) c)

theorem m5_91 (c : Fin 128) : lit0t1_5 (81920 + 91 * 128 + c.val) = if (91 : Fin 128).val = c.val then 0x3F80#16 else 0#16 :=
  chase (F := lit0t0_731) (by unfold lit0t1_5; rw [show (81920 + 91 * 128 + c.val) / 128 % 128 = 91 by omega]; rfl) (by unfold lit0t0_731; rw [Nat.mod_mod]) (by omega)
    ((by decide +kernel : ∀ c : Fin 128, lit0t0_731 c.val = if (91 : Fin 128).val = c.val then 0x3F80#16 else 0#16) c)

theorem m5_92 (c : Fin 128) : lit0t1_5 (81920 + 92 * 128 + c.val) = if (92 : Fin 128).val = c.val then 0x3F80#16 else 0#16 :=
  chase (F := lit0t0_732) (by unfold lit0t1_5; rw [show (81920 + 92 * 128 + c.val) / 128 % 128 = 92 by omega]; rfl) (by unfold lit0t0_732; rw [Nat.mod_mod]) (by omega)
    ((by decide +kernel : ∀ c : Fin 128, lit0t0_732 c.val = if (92 : Fin 128).val = c.val then 0x3F80#16 else 0#16) c)

theorem m5_93 (c : Fin 128) : lit0t1_5 (81920 + 93 * 128 + c.val) = if (93 : Fin 128).val = c.val then 0x3F80#16 else 0#16 :=
  chase (F := lit0t0_733) (by unfold lit0t1_5; rw [show (81920 + 93 * 128 + c.val) / 128 % 128 = 93 by omega]; rfl) (by unfold lit0t0_733; rw [Nat.mod_mod]) (by omega)
    ((by decide +kernel : ∀ c : Fin 128, lit0t0_733 c.val = if (93 : Fin 128).val = c.val then 0x3F80#16 else 0#16) c)

theorem m5_94 (c : Fin 128) : lit0t1_5 (81920 + 94 * 128 + c.val) = if (94 : Fin 128).val = c.val then 0x3F80#16 else 0#16 :=
  chase (F := lit0t0_734) (by unfold lit0t1_5; rw [show (81920 + 94 * 128 + c.val) / 128 % 128 = 94 by omega]; rfl) (by unfold lit0t0_734; rw [Nat.mod_mod]) (by omega)
    ((by decide +kernel : ∀ c : Fin 128, lit0t0_734 c.val = if (94 : Fin 128).val = c.val then 0x3F80#16 else 0#16) c)

theorem m5_95 (c : Fin 128) : lit0t1_5 (81920 + 95 * 128 + c.val) = if (95 : Fin 128).val = c.val then 0x3F80#16 else 0#16 :=
  chase (F := lit0t0_735) (by unfold lit0t1_5; rw [show (81920 + 95 * 128 + c.val) / 128 % 128 = 95 by omega]; rfl) (by unfold lit0t0_735; rw [Nat.mod_mod]) (by omega)
    ((by decide +kernel : ∀ c : Fin 128, lit0t0_735 c.val = if (95 : Fin 128).val = c.val then 0x3F80#16 else 0#16) c)

theorem m5_96 (c : Fin 128) : lit0t1_5 (81920 + 96 * 128 + c.val) = if (96 : Fin 128).val = c.val then 0x3F80#16 else 0#16 :=
  chase (F := lit0t0_736) (by unfold lit0t1_5; rw [show (81920 + 96 * 128 + c.val) / 128 % 128 = 96 by omega]; rfl) (by unfold lit0t0_736; rw [Nat.mod_mod]) (by omega)
    ((by decide +kernel : ∀ c : Fin 128, lit0t0_736 c.val = if (96 : Fin 128).val = c.val then 0x3F80#16 else 0#16) c)

theorem m5_97 (c : Fin 128) : lit0t1_5 (81920 + 97 * 128 + c.val) = if (97 : Fin 128).val = c.val then 0x3F80#16 else 0#16 :=
  chase (F := lit0t0_737) (by unfold lit0t1_5; rw [show (81920 + 97 * 128 + c.val) / 128 % 128 = 97 by omega]; rfl) (by unfold lit0t0_737; rw [Nat.mod_mod]) (by omega)
    ((by decide +kernel : ∀ c : Fin 128, lit0t0_737 c.val = if (97 : Fin 128).val = c.val then 0x3F80#16 else 0#16) c)

theorem m5_98 (c : Fin 128) : lit0t1_5 (81920 + 98 * 128 + c.val) = if (98 : Fin 128).val = c.val then 0x3F80#16 else 0#16 :=
  chase (F := lit0t0_738) (by unfold lit0t1_5; rw [show (81920 + 98 * 128 + c.val) / 128 % 128 = 98 by omega]; rfl) (by unfold lit0t0_738; rw [Nat.mod_mod]) (by omega)
    ((by decide +kernel : ∀ c : Fin 128, lit0t0_738 c.val = if (98 : Fin 128).val = c.val then 0x3F80#16 else 0#16) c)

theorem m5_99 (c : Fin 128) : lit0t1_5 (81920 + 99 * 128 + c.val) = if (99 : Fin 128).val = c.val then 0x3F80#16 else 0#16 :=
  chase (F := lit0t0_739) (by unfold lit0t1_5; rw [show (81920 + 99 * 128 + c.val) / 128 % 128 = 99 by omega]; rfl) (by unfold lit0t0_739; rw [Nat.mod_mod]) (by omega)
    ((by decide +kernel : ∀ c : Fin 128, lit0t0_739 c.val = if (99 : Fin 128).val = c.val then 0x3F80#16 else 0#16) c)

theorem m5_100 (c : Fin 128) : lit0t1_5 (81920 + 100 * 128 + c.val) = if (100 : Fin 128).val = c.val then 0x3F80#16 else 0#16 :=
  chase (F := lit0t0_740) (by unfold lit0t1_5; rw [show (81920 + 100 * 128 + c.val) / 128 % 128 = 100 by omega]; rfl) (by unfold lit0t0_740; rw [Nat.mod_mod]) (by omega)
    ((by decide +kernel : ∀ c : Fin 128, lit0t0_740 c.val = if (100 : Fin 128).val = c.val then 0x3F80#16 else 0#16) c)

theorem m5_101 (c : Fin 128) : lit0t1_5 (81920 + 101 * 128 + c.val) = if (101 : Fin 128).val = c.val then 0x3F80#16 else 0#16 :=
  chase (F := lit0t0_741) (by unfold lit0t1_5; rw [show (81920 + 101 * 128 + c.val) / 128 % 128 = 101 by omega]; rfl) (by unfold lit0t0_741; rw [Nat.mod_mod]) (by omega)
    ((by decide +kernel : ∀ c : Fin 128, lit0t0_741 c.val = if (101 : Fin 128).val = c.val then 0x3F80#16 else 0#16) c)

theorem m5_102 (c : Fin 128) : lit0t1_5 (81920 + 102 * 128 + c.val) = if (102 : Fin 128).val = c.val then 0x3F80#16 else 0#16 :=
  chase (F := lit0t0_742) (by unfold lit0t1_5; rw [show (81920 + 102 * 128 + c.val) / 128 % 128 = 102 by omega]; rfl) (by unfold lit0t0_742; rw [Nat.mod_mod]) (by omega)
    ((by decide +kernel : ∀ c : Fin 128, lit0t0_742 c.val = if (102 : Fin 128).val = c.val then 0x3F80#16 else 0#16) c)

theorem m5_103 (c : Fin 128) : lit0t1_5 (81920 + 103 * 128 + c.val) = if (103 : Fin 128).val = c.val then 0x3F80#16 else 0#16 :=
  chase (F := lit0t0_743) (by unfold lit0t1_5; rw [show (81920 + 103 * 128 + c.val) / 128 % 128 = 103 by omega]; rfl) (by unfold lit0t0_743; rw [Nat.mod_mod]) (by omega)
    ((by decide +kernel : ∀ c : Fin 128, lit0t0_743 c.val = if (103 : Fin 128).val = c.val then 0x3F80#16 else 0#16) c)

theorem m5_104 (c : Fin 128) : lit0t1_5 (81920 + 104 * 128 + c.val) = if (104 : Fin 128).val = c.val then 0x3F80#16 else 0#16 :=
  chase (F := lit0t0_744) (by unfold lit0t1_5; rw [show (81920 + 104 * 128 + c.val) / 128 % 128 = 104 by omega]; rfl) (by unfold lit0t0_744; rw [Nat.mod_mod]) (by omega)
    ((by decide +kernel : ∀ c : Fin 128, lit0t0_744 c.val = if (104 : Fin 128).val = c.val then 0x3F80#16 else 0#16) c)

theorem m5_105 (c : Fin 128) : lit0t1_5 (81920 + 105 * 128 + c.val) = if (105 : Fin 128).val = c.val then 0x3F80#16 else 0#16 :=
  chase (F := lit0t0_745) (by unfold lit0t1_5; rw [show (81920 + 105 * 128 + c.val) / 128 % 128 = 105 by omega]; rfl) (by unfold lit0t0_745; rw [Nat.mod_mod]) (by omega)
    ((by decide +kernel : ∀ c : Fin 128, lit0t0_745 c.val = if (105 : Fin 128).val = c.val then 0x3F80#16 else 0#16) c)

theorem m5_106 (c : Fin 128) : lit0t1_5 (81920 + 106 * 128 + c.val) = if (106 : Fin 128).val = c.val then 0x3F80#16 else 0#16 :=
  chase (F := lit0t0_746) (by unfold lit0t1_5; rw [show (81920 + 106 * 128 + c.val) / 128 % 128 = 106 by omega]; rfl) (by unfold lit0t0_746; rw [Nat.mod_mod]) (by omega)
    ((by decide +kernel : ∀ c : Fin 128, lit0t0_746 c.val = if (106 : Fin 128).val = c.val then 0x3F80#16 else 0#16) c)

theorem m5_107 (c : Fin 128) : lit0t1_5 (81920 + 107 * 128 + c.val) = if (107 : Fin 128).val = c.val then 0x3F80#16 else 0#16 :=
  chase (F := lit0t0_747) (by unfold lit0t1_5; rw [show (81920 + 107 * 128 + c.val) / 128 % 128 = 107 by omega]; rfl) (by unfold lit0t0_747; rw [Nat.mod_mod]) (by omega)
    ((by decide +kernel : ∀ c : Fin 128, lit0t0_747 c.val = if (107 : Fin 128).val = c.val then 0x3F80#16 else 0#16) c)

theorem m5_108 (c : Fin 128) : lit0t1_5 (81920 + 108 * 128 + c.val) = if (108 : Fin 128).val = c.val then 0x3F80#16 else 0#16 :=
  chase (F := lit0t0_748) (by unfold lit0t1_5; rw [show (81920 + 108 * 128 + c.val) / 128 % 128 = 108 by omega]; rfl) (by unfold lit0t0_748; rw [Nat.mod_mod]) (by omega)
    ((by decide +kernel : ∀ c : Fin 128, lit0t0_748 c.val = if (108 : Fin 128).val = c.val then 0x3F80#16 else 0#16) c)

theorem m5_109 (c : Fin 128) : lit0t1_5 (81920 + 109 * 128 + c.val) = if (109 : Fin 128).val = c.val then 0x3F80#16 else 0#16 :=
  chase (F := lit0t0_749) (by unfold lit0t1_5; rw [show (81920 + 109 * 128 + c.val) / 128 % 128 = 109 by omega]; rfl) (by unfold lit0t0_749; rw [Nat.mod_mod]) (by omega)
    ((by decide +kernel : ∀ c : Fin 128, lit0t0_749 c.val = if (109 : Fin 128).val = c.val then 0x3F80#16 else 0#16) c)

theorem m5_110 (c : Fin 128) : lit0t1_5 (81920 + 110 * 128 + c.val) = if (110 : Fin 128).val = c.val then 0x3F80#16 else 0#16 :=
  chase (F := lit0t0_750) (by unfold lit0t1_5; rw [show (81920 + 110 * 128 + c.val) / 128 % 128 = 110 by omega]; rfl) (by unfold lit0t0_750; rw [Nat.mod_mod]) (by omega)
    ((by decide +kernel : ∀ c : Fin 128, lit0t0_750 c.val = if (110 : Fin 128).val = c.val then 0x3F80#16 else 0#16) c)

theorem m5_111 (c : Fin 128) : lit0t1_5 (81920 + 111 * 128 + c.val) = if (111 : Fin 128).val = c.val then 0x3F80#16 else 0#16 :=
  chase (F := lit0t0_751) (by unfold lit0t1_5; rw [show (81920 + 111 * 128 + c.val) / 128 % 128 = 111 by omega]; rfl) (by unfold lit0t0_751; rw [Nat.mod_mod]) (by omega)
    ((by decide +kernel : ∀ c : Fin 128, lit0t0_751 c.val = if (111 : Fin 128).val = c.val then 0x3F80#16 else 0#16) c)

theorem m5_112 (c : Fin 128) : lit0t1_5 (81920 + 112 * 128 + c.val) = if (112 : Fin 128).val = c.val then 0x3F80#16 else 0#16 :=
  chase (F := lit0t0_752) (by unfold lit0t1_5; rw [show (81920 + 112 * 128 + c.val) / 128 % 128 = 112 by omega]; rfl) (by unfold lit0t0_752; rw [Nat.mod_mod]) (by omega)
    ((by decide +kernel : ∀ c : Fin 128, lit0t0_752 c.val = if (112 : Fin 128).val = c.val then 0x3F80#16 else 0#16) c)

theorem m5_113 (c : Fin 128) : lit0t1_5 (81920 + 113 * 128 + c.val) = if (113 : Fin 128).val = c.val then 0x3F80#16 else 0#16 :=
  chase (F := lit0t0_753) (by unfold lit0t1_5; rw [show (81920 + 113 * 128 + c.val) / 128 % 128 = 113 by omega]; rfl) (by unfold lit0t0_753; rw [Nat.mod_mod]) (by omega)
    ((by decide +kernel : ∀ c : Fin 128, lit0t0_753 c.val = if (113 : Fin 128).val = c.val then 0x3F80#16 else 0#16) c)

theorem m5_114 (c : Fin 128) : lit0t1_5 (81920 + 114 * 128 + c.val) = if (114 : Fin 128).val = c.val then 0x3F80#16 else 0#16 :=
  chase (F := lit0t0_754) (by unfold lit0t1_5; rw [show (81920 + 114 * 128 + c.val) / 128 % 128 = 114 by omega]; rfl) (by unfold lit0t0_754; rw [Nat.mod_mod]) (by omega)
    ((by decide +kernel : ∀ c : Fin 128, lit0t0_754 c.val = if (114 : Fin 128).val = c.val then 0x3F80#16 else 0#16) c)

theorem m5_115 (c : Fin 128) : lit0t1_5 (81920 + 115 * 128 + c.val) = if (115 : Fin 128).val = c.val then 0x3F80#16 else 0#16 :=
  chase (F := lit0t0_755) (by unfold lit0t1_5; rw [show (81920 + 115 * 128 + c.val) / 128 % 128 = 115 by omega]; rfl) (by unfold lit0t0_755; rw [Nat.mod_mod]) (by omega)
    ((by decide +kernel : ∀ c : Fin 128, lit0t0_755 c.val = if (115 : Fin 128).val = c.val then 0x3F80#16 else 0#16) c)

theorem m5_116 (c : Fin 128) : lit0t1_5 (81920 + 116 * 128 + c.val) = if (116 : Fin 128).val = c.val then 0x3F80#16 else 0#16 :=
  chase (F := lit0t0_756) (by unfold lit0t1_5; rw [show (81920 + 116 * 128 + c.val) / 128 % 128 = 116 by omega]; rfl) (by unfold lit0t0_756; rw [Nat.mod_mod]) (by omega)
    ((by decide +kernel : ∀ c : Fin 128, lit0t0_756 c.val = if (116 : Fin 128).val = c.val then 0x3F80#16 else 0#16) c)

theorem m5_117 (c : Fin 128) : lit0t1_5 (81920 + 117 * 128 + c.val) = if (117 : Fin 128).val = c.val then 0x3F80#16 else 0#16 :=
  chase (F := lit0t0_757) (by unfold lit0t1_5; rw [show (81920 + 117 * 128 + c.val) / 128 % 128 = 117 by omega]; rfl) (by unfold lit0t0_757; rw [Nat.mod_mod]) (by omega)
    ((by decide +kernel : ∀ c : Fin 128, lit0t0_757 c.val = if (117 : Fin 128).val = c.val then 0x3F80#16 else 0#16) c)

theorem m5_118 (c : Fin 128) : lit0t1_5 (81920 + 118 * 128 + c.val) = if (118 : Fin 128).val = c.val then 0x3F80#16 else 0#16 :=
  chase (F := lit0t0_758) (by unfold lit0t1_5; rw [show (81920 + 118 * 128 + c.val) / 128 % 128 = 118 by omega]; rfl) (by unfold lit0t0_758; rw [Nat.mod_mod]) (by omega)
    ((by decide +kernel : ∀ c : Fin 128, lit0t0_758 c.val = if (118 : Fin 128).val = c.val then 0x3F80#16 else 0#16) c)

theorem m5_119 (c : Fin 128) : lit0t1_5 (81920 + 119 * 128 + c.val) = if (119 : Fin 128).val = c.val then 0x3F80#16 else 0#16 :=
  chase (F := lit0t0_759) (by unfold lit0t1_5; rw [show (81920 + 119 * 128 + c.val) / 128 % 128 = 119 by omega]; rfl) (by unfold lit0t0_759; rw [Nat.mod_mod]) (by omega)
    ((by decide +kernel : ∀ c : Fin 128, lit0t0_759 c.val = if (119 : Fin 128).val = c.val then 0x3F80#16 else 0#16) c)

theorem m5_120 (c : Fin 128) : lit0t1_5 (81920 + 120 * 128 + c.val) = if (120 : Fin 128).val = c.val then 0x3F80#16 else 0#16 :=
  chase (F := lit0t0_760) (by unfold lit0t1_5; rw [show (81920 + 120 * 128 + c.val) / 128 % 128 = 120 by omega]; rfl) (by unfold lit0t0_760; rw [Nat.mod_mod]) (by omega)
    ((by decide +kernel : ∀ c : Fin 128, lit0t0_760 c.val = if (120 : Fin 128).val = c.val then 0x3F80#16 else 0#16) c)

theorem m5_121 (c : Fin 128) : lit0t1_5 (81920 + 121 * 128 + c.val) = if (121 : Fin 128).val = c.val then 0x3F80#16 else 0#16 :=
  chase (F := lit0t0_761) (by unfold lit0t1_5; rw [show (81920 + 121 * 128 + c.val) / 128 % 128 = 121 by omega]; rfl) (by unfold lit0t0_761; rw [Nat.mod_mod]) (by omega)
    ((by decide +kernel : ∀ c : Fin 128, lit0t0_761 c.val = if (121 : Fin 128).val = c.val then 0x3F80#16 else 0#16) c)

theorem m5_122 (c : Fin 128) : lit0t1_5 (81920 + 122 * 128 + c.val) = if (122 : Fin 128).val = c.val then 0x3F80#16 else 0#16 :=
  chase (F := lit0t0_762) (by unfold lit0t1_5; rw [show (81920 + 122 * 128 + c.val) / 128 % 128 = 122 by omega]; rfl) (by unfold lit0t0_762; rw [Nat.mod_mod]) (by omega)
    ((by decide +kernel : ∀ c : Fin 128, lit0t0_762 c.val = if (122 : Fin 128).val = c.val then 0x3F80#16 else 0#16) c)

theorem m5_123 (c : Fin 128) : lit0t1_5 (81920 + 123 * 128 + c.val) = if (123 : Fin 128).val = c.val then 0x3F80#16 else 0#16 :=
  chase (F := lit0t0_763) (by unfold lit0t1_5; rw [show (81920 + 123 * 128 + c.val) / 128 % 128 = 123 by omega]; rfl) (by unfold lit0t0_763; rw [Nat.mod_mod]) (by omega)
    ((by decide +kernel : ∀ c : Fin 128, lit0t0_763 c.val = if (123 : Fin 128).val = c.val then 0x3F80#16 else 0#16) c)

theorem m5_124 (c : Fin 128) : lit0t1_5 (81920 + 124 * 128 + c.val) = if (124 : Fin 128).val = c.val then 0x3F80#16 else 0#16 :=
  chase (F := lit0t0_764) (by unfold lit0t1_5; rw [show (81920 + 124 * 128 + c.val) / 128 % 128 = 124 by omega]; rfl) (by unfold lit0t0_764; rw [Nat.mod_mod]) (by omega)
    ((by decide +kernel : ∀ c : Fin 128, lit0t0_764 c.val = if (124 : Fin 128).val = c.val then 0x3F80#16 else 0#16) c)

theorem m5_125 (c : Fin 128) : lit0t1_5 (81920 + 125 * 128 + c.val) = if (125 : Fin 128).val = c.val then 0x3F80#16 else 0#16 :=
  chase (F := lit0t0_765) (by unfold lit0t1_5; rw [show (81920 + 125 * 128 + c.val) / 128 % 128 = 125 by omega]; rfl) (by unfold lit0t0_765; rw [Nat.mod_mod]) (by omega)
    ((by decide +kernel : ∀ c : Fin 128, lit0t0_765 c.val = if (125 : Fin 128).val = c.val then 0x3F80#16 else 0#16) c)

theorem m5_126 (c : Fin 128) : lit0t1_5 (81920 + 126 * 128 + c.val) = if (126 : Fin 128).val = c.val then 0x3F80#16 else 0#16 :=
  chase (F := lit0t0_766) (by unfold lit0t1_5; rw [show (81920 + 126 * 128 + c.val) / 128 % 128 = 126 by omega]; rfl) (by unfold lit0t0_766; rw [Nat.mod_mod]) (by omega)
    ((by decide +kernel : ∀ c : Fin 128, lit0t0_766 c.val = if (126 : Fin 128).val = c.val then 0x3F80#16 else 0#16) c)

theorem m5_127 (c : Fin 128) : lit0t1_5 (81920 + 127 * 128 + c.val) = if (127 : Fin 128).val = c.val then 0x3F80#16 else 0#16 :=
  chase (F := lit0t0_767) (by unfold lit0t1_5; rw [show (81920 + 127 * 128 + c.val) / 128 % 128 = 127 by omega]; rfl) (by unfold lit0t0_767; rw [Nat.mod_mod]) (by omega)
    ((by decide +kernel : ∀ c : Fin 128, lit0t0_767 c.val = if (127 : Fin 128).val = c.val then 0x3F80#16 else 0#16) c)

set_option maxHeartbeats 4000000 in
/-- Mask 5. -/
theorem mask5 (r c : Fin 128) : lit0t1_5 (81920 + r.val * 128 + c.val) = if r.val = c.val then 0x3F80#16 else 0#16 :=
  match r with
  | ⟨0, _⟩ => m5_0 c
  | ⟨1, _⟩ => m5_1 c
  | ⟨2, _⟩ => m5_2 c
  | ⟨3, _⟩ => m5_3 c
  | ⟨4, _⟩ => m5_4 c
  | ⟨5, _⟩ => m5_5 c
  | ⟨6, _⟩ => m5_6 c
  | ⟨7, _⟩ => m5_7 c
  | ⟨8, _⟩ => m5_8 c
  | ⟨9, _⟩ => m5_9 c
  | ⟨10, _⟩ => m5_10 c
  | ⟨11, _⟩ => m5_11 c
  | ⟨12, _⟩ => m5_12 c
  | ⟨13, _⟩ => m5_13 c
  | ⟨14, _⟩ => m5_14 c
  | ⟨15, _⟩ => m5_15 c
  | ⟨16, _⟩ => m5_16 c
  | ⟨17, _⟩ => m5_17 c
  | ⟨18, _⟩ => m5_18 c
  | ⟨19, _⟩ => m5_19 c
  | ⟨20, _⟩ => m5_20 c
  | ⟨21, _⟩ => m5_21 c
  | ⟨22, _⟩ => m5_22 c
  | ⟨23, _⟩ => m5_23 c
  | ⟨24, _⟩ => m5_24 c
  | ⟨25, _⟩ => m5_25 c
  | ⟨26, _⟩ => m5_26 c
  | ⟨27, _⟩ => m5_27 c
  | ⟨28, _⟩ => m5_28 c
  | ⟨29, _⟩ => m5_29 c
  | ⟨30, _⟩ => m5_30 c
  | ⟨31, _⟩ => m5_31 c
  | ⟨32, _⟩ => m5_32 c
  | ⟨33, _⟩ => m5_33 c
  | ⟨34, _⟩ => m5_34 c
  | ⟨35, _⟩ => m5_35 c
  | ⟨36, _⟩ => m5_36 c
  | ⟨37, _⟩ => m5_37 c
  | ⟨38, _⟩ => m5_38 c
  | ⟨39, _⟩ => m5_39 c
  | ⟨40, _⟩ => m5_40 c
  | ⟨41, _⟩ => m5_41 c
  | ⟨42, _⟩ => m5_42 c
  | ⟨43, _⟩ => m5_43 c
  | ⟨44, _⟩ => m5_44 c
  | ⟨45, _⟩ => m5_45 c
  | ⟨46, _⟩ => m5_46 c
  | ⟨47, _⟩ => m5_47 c
  | ⟨48, _⟩ => m5_48 c
  | ⟨49, _⟩ => m5_49 c
  | ⟨50, _⟩ => m5_50 c
  | ⟨51, _⟩ => m5_51 c
  | ⟨52, _⟩ => m5_52 c
  | ⟨53, _⟩ => m5_53 c
  | ⟨54, _⟩ => m5_54 c
  | ⟨55, _⟩ => m5_55 c
  | ⟨56, _⟩ => m5_56 c
  | ⟨57, _⟩ => m5_57 c
  | ⟨58, _⟩ => m5_58 c
  | ⟨59, _⟩ => m5_59 c
  | ⟨60, _⟩ => m5_60 c
  | ⟨61, _⟩ => m5_61 c
  | ⟨62, _⟩ => m5_62 c
  | ⟨63, _⟩ => m5_63 c
  | ⟨64, _⟩ => m5_64 c
  | ⟨65, _⟩ => m5_65 c
  | ⟨66, _⟩ => m5_66 c
  | ⟨67, _⟩ => m5_67 c
  | ⟨68, _⟩ => m5_68 c
  | ⟨69, _⟩ => m5_69 c
  | ⟨70, _⟩ => m5_70 c
  | ⟨71, _⟩ => m5_71 c
  | ⟨72, _⟩ => m5_72 c
  | ⟨73, _⟩ => m5_73 c
  | ⟨74, _⟩ => m5_74 c
  | ⟨75, _⟩ => m5_75 c
  | ⟨76, _⟩ => m5_76 c
  | ⟨77, _⟩ => m5_77 c
  | ⟨78, _⟩ => m5_78 c
  | ⟨79, _⟩ => m5_79 c
  | ⟨80, _⟩ => m5_80 c
  | ⟨81, _⟩ => m5_81 c
  | ⟨82, _⟩ => m5_82 c
  | ⟨83, _⟩ => m5_83 c
  | ⟨84, _⟩ => m5_84 c
  | ⟨85, _⟩ => m5_85 c
  | ⟨86, _⟩ => m5_86 c
  | ⟨87, _⟩ => m5_87 c
  | ⟨88, _⟩ => m5_88 c
  | ⟨89, _⟩ => m5_89 c
  | ⟨90, _⟩ => m5_90 c
  | ⟨91, _⟩ => m5_91 c
  | ⟨92, _⟩ => m5_92 c
  | ⟨93, _⟩ => m5_93 c
  | ⟨94, _⟩ => m5_94 c
  | ⟨95, _⟩ => m5_95 c
  | ⟨96, _⟩ => m5_96 c
  | ⟨97, _⟩ => m5_97 c
  | ⟨98, _⟩ => m5_98 c
  | ⟨99, _⟩ => m5_99 c
  | ⟨100, _⟩ => m5_100 c
  | ⟨101, _⟩ => m5_101 c
  | ⟨102, _⟩ => m5_102 c
  | ⟨103, _⟩ => m5_103 c
  | ⟨104, _⟩ => m5_104 c
  | ⟨105, _⟩ => m5_105 c
  | ⟨106, _⟩ => m5_106 c
  | ⟨107, _⟩ => m5_107 c
  | ⟨108, _⟩ => m5_108 c
  | ⟨109, _⟩ => m5_109 c
  | ⟨110, _⟩ => m5_110 c
  | ⟨111, _⟩ => m5_111 c
  | ⟨112, _⟩ => m5_112 c
  | ⟨113, _⟩ => m5_113 c
  | ⟨114, _⟩ => m5_114 c
  | ⟨115, _⟩ => m5_115 c
  | ⟨116, _⟩ => m5_116 c
  | ⟨117, _⟩ => m5_117 c
  | ⟨118, _⟩ => m5_118 c
  | ⟨119, _⟩ => m5_119 c
  | ⟨120, _⟩ => m5_120 c
  | ⟨121, _⟩ => m5_121 c
  | ⟨122, _⟩ => m5_122 c
  | ⟨123, _⟩ => m5_123 c
  | ⟨124, _⟩ => m5_124 c
  | ⟨125, _⟩ => m5_125 c
  | ⟨126, _⟩ => m5_126 c
  | ⟨127, _⟩ => m5_127 c
  | ⟨n + 128, h⟩ => absurd h (by omega)

end Cert.KernelIdeal.Value
-- ==== Proof.DeltaMasks.lean ====
module

public import proofs.«01_k».proof.Proof.DeltaMask0
public import proofs.«01_k».proof.Proof.DeltaMask1
public import proofs.«01_k».proof.Proof.DeltaMask2
public import proofs.«01_k».proof.Proof.DeltaMask3
public import proofs.«01_k».proof.Proof.DeltaMask4
public import proofs.«01_k».proof.Proof.DeltaMask5
public import proofs.«01_k».proof.Proof.DeltaCore

@[expose] public section
set_option maxRecDepth 16384
noncomputable section
open Idealize.ShloMosaic Idealize.ShloMosaic.TcCoe Idealize.SL.Sem

namespace Cert.KernelIdeal.Value
open Cert.KernelIdeal Cert.Delta

theorem rm_val (k : Fin 6) (r c : Fin 128) : (S6x128x128.rowMajor (ix3 k r c)).val = k.val * 16384 + r.val * 128 + c.val := by
  refine (Shape.rowMajor_val_three (d := ![6, 128, 128]) (ix3 k r c)).trans ?_
  show (k.val * 128 + r.val) * 128 + c.val = _
  omega

theorem lit_at (k : Fin 6) (r c : Fin 128) : lit0 (S6x128x128.rowMajor (ix3 k r c)) = lit0t (k.val * 16384 + r.val * 128 + c.val) :=
  congrArg lit0t (rm_val k r c)

theorem bit_ind (P : Fin 128 → Fin 128 → Prop) [∀ r c, Decidable (P r c)] (r c : Fin 128) :
    (FloatOps.ofBits (F := Ideal) .bf16 (if P r c then 0x3F80#16 else 0#16) : EReal) = ind P r c := by
  unfold ind
  by_cases h : P r c
  · rw [if_pos h, if_pos h]
    show Ideal.ofBits .bf16 0x3F80#16 = 1
    simp [Ideal.ofBits, Ideal.ieee, -EReal.coe_mul]; norm_num
  · rw [if_neg h, if_neg h]
    show Ideal.ofBits .bf16 0#16 = 0
    simp [Ideal.ofBits, Ideal.ieee]

theorem ind0 (r c : Fin 128) : (FloatOps.ofBits (F := Ideal) .bf16 (lit0 (S6x128x128.rowMajor (ix3 0 r c))) : EReal) = ind Inc r c := by
  have h : lit0t (0 + r.val * 128 + c.val) = lit0t1_0 (0 + r.val * 128 + c.val) := by
    unfold lit0t
    rw [show (0 + r.val * 128 + c.val) / 16384 = 0 by omega]
    rfl
  rw [lit_at 0 r c]
  rw [show ((0 : Fin 6).val * 16384 + r.val * 128 + c.val) = 0 + r.val * 128 + c.val from rfl, h, mask0]
  exact bit_ind Inc r c

theorem ind1 (r c : Fin 128) : (FloatOps.ofBits (F := Ideal) .bf16 (lit0 (S6x128x128.rowMajor (ix3 1 r c))) : EReal) = ind (Lvl 2) r c := by
  have h : lit0t (16384 + r.val * 128 + c.val) = lit0t1_1 (16384 + r.val * 128 + c.val) := by
    unfold lit0t
    rw [show (16384 + r.val * 128 + c.val) / 16384 = 1 by omega]
    rfl
  rw [lit_at 1 r c]
  rw [show ((1 : Fin 6).val * 16384 + r.val * 128 + c.val) = 16384 + r.val * 128 + c.val from rfl, h, mask1]
  exact bit_ind (Lvl 2) r c

theorem ind2 (r c : Fin 128) : (FloatOps.ofBits (F := Ideal) .bf16 (lit0 (S6x128x128.rowMajor (ix3 2 r c))) : EReal) = ind (Lvl 4) r c := by
  have h : lit0t (32768 + r.val * 128 + c.val) = lit0t1_2 (32768 + r.val * 128 + c.val) := by
    unfold lit0t
    rw [show (32768 + r.val * 128 + c.val) / 16384 = 2 by omega]
    rfl
  rw [lit_at 2 r c]
  rw [show ((2 : Fin 6).val * 16384 + r.val * 128 + c.val) = 32768 + r.val * 128 + c.val from rfl, h, mask2]
  exact bit_ind (Lvl 4) r c

theorem ind3 (r c : Fin 128) : (FloatOps.ofBits (F := Ideal) .bf16 (lit0 (S6x128x128.rowMajor (ix3 3 r c))) : EReal) = ind (Lvl 8) r c := by
  have h : lit0t (49152 + r.val * 128 + c.val) = lit0t1_3 (49152 + r.val * 128 + c.val) := by
    unfold lit0t
    rw [show (49152 + r.val * 128 + c.val) / 16384 = 3 by omega]
    rfl
  rw [lit_at 3 r c]
  rw [show ((3 : Fin 6).val * 16384 + r.val * 128 + c.val) = 49152 + r.val * 128 + c.val from rfl, h, mask3]
  exact bit_ind (Lvl 8) r c

theorem ind4 (r c : Fin 128) : (FloatOps.ofBits (F := Ideal) .bf16 (lit0 (S6x128x128.rowMajor (ix3 4 r c))) : EReal) = ind (Lvl 1) r c := by
  have h : lit0t (65536 + r.val * 128 + c.val) = lit0t1_4 (65536 + r.val * 128 + c.val) := by
    unfold lit0t
    rw [show (65536 + r.val * 128 + c.val) / 16384 = 4 by omega]
    rfl
  rw [lit_at 4 r c]
  rw [show ((4 : Fin 6).val * 16384 + r.val * 128 + c.val) = 65536 + r.val * 128 + c.val from rfl, h, mask4]
  exact bit_ind (Lvl 1) r c

theorem ind5 (r c : Fin 128) : (FloatOps.ofBits (F := Ideal) .bf16 (lit0 (S6x128x128.rowMajor (ix3 5 r c))) : EReal) = ind (fun r c => r.val = c.val) r c := by
  have h : lit0t (81920 + r.val * 128 + c.val) = lit0t1_5 (81920 + r.val * 128 + c.val) := by
    unfold lit0t
    rw [show (81920 + r.val * 128 + c.val) / 16384 = 5 by omega]
    rfl
  rw [lit_at 5 r c]
  rw [show ((5 : Fin 6).val * 16384 + r.val * 128 + c.val) = 81920 + r.val * 128 + c.val from rfl, h, mask5]
  exact bit_ind (fun r c => r.val = c.val) r c

end Cert.KernelIdeal.Value
-- ==== Proof.Row.lean ====
/- A row's normalisation over its 2048 entries, and when a number is real: what the layer's parts share. -/
module
public import Idealize.ShloMosaic.Lib.Pointwise
public import Mathlib.Tactic.FieldSimp
public import Mathlib.Tactic.LinearCombination
@[expose] public section
noncomputable section
open Idealize.ShloMosaic
namespace Cert.Row

/-- Row normalisation with scale g and shift b: the row less its mean, times the reciprocal root of its variance plus epsilon. -/
def lnAt (v : Fin 2048 → EReal) (g b : EReal) (n : Fin 2048) : EReal :=
  (v n - Ideal.div (∑ x, v x) (Ideal.ofBits .f32 0x45000000#32)) *
      Ideal.rsqrt (Ideal.div (∑ x, (v x - Ideal.div (∑ x, v x) (Ideal.ofBits .f32 0x45000000#32)) *
        (v x - Ideal.div (∑ x, v x) (Ideal.ofBits .f32 0x45000000#32))) (Ideal.ofBits .f32 0x45000000#32) +
        Ideal.ofBits .f32 0x3727C5AC#32) * g + b

/-- A number whose absolute value is below infinity is a real number. -/
theorem real_of_abs {φ : FTy} (x : Ideal φ) (h : FloatOps.cmpf (F := Ideal) .olt (FloatOps.absf x) (Ideal.ofBits .f32 0x7F800000#32) = 1#1) :
    ∃ r : ℝ, (x : EReal) = r := by
  have ht : Ideal.ofBits .f32 0x7F800000#32 = (⊤ : EReal) := by simp [Ideal.ofBits, Ideal.ieee]
  rw [ht] at h
  induction x using EReal.rec with
  | bot => exfalso; revert h; simp [FloatOps.cmpf, FloatOps.absf, Ideal.cmp]
  | coe r => exact ⟨r, rfl⟩
  | top => exfalso; revert h; simp [FloatOps.cmpf, FloatOps.absf, Ideal.cmp]

/-- A finite sum of real products, in the extended reals, is the real one. -/
theorem coe_dot {ι : Type} (s : Finset ι) (x w : ι → ℝ) : ∑ i ∈ s, (x i : EReal) * (w i : EReal) = ((∑ i ∈ s, x i * w i : ℝ) : EReal) := by
  classical
  induction s using Finset.induction_on with
  | empty => simp
  | insert a s ha ih => rw [Finset.sum_insert ha, Finset.sum_insert ha, ih, EReal.coe_add, EReal.coe_mul]

/-- At a real number, the half-argument hyperbolic tangent form of the sigmoid-weighted value is the logistic one. -/
theorem silu_real (g : ℝ) : (Ideal.ofBits .f32 0x3F000000#32 * (g : EReal) + Ideal.ofBits .f32 0x3F000000#32 * (g : EReal) * Ideal.tanh (Ideal.ofBits .f32 0x3F000000#32 * (g : EReal))) =
    (g : EReal) * Ideal.div 1 (1 + Ideal.exp (-(g : EReal))) := by
  have hh : Ideal.ofBits .f32 0x3F000000#32 = ((1 / 2 : ℝ) : EReal) := by
    simp [Ideal.ofBits, Ideal.ieee, -EReal.coe_mul]; norm_num
  have hp : (1 + Real.exp (-g)) ≠ 0 := by positivity
  rw [hh, ← EReal.coe_mul, Ideal.tanh_coe, ← EReal.coe_neg, Ideal.exp_coe, ← EReal.coe_one, ← EReal.coe_add, Ideal.div_coe hp]
  norm_cast
  rw [Real.tanh_eq_sinh_div_cosh, Real.sinh_eq, Real.cosh_eq]
  have e1 : Real.exp (-g) = Real.exp (-(1 / 2 * g)) * Real.exp (-(1 / 2 * g)) := by rw [← Real.exp_add]; ring_nf
  have e2 : Real.exp (1 / 2 * g) * Real.exp (-(1 / 2 * g)) = 1 := by rw [← Real.exp_add]; simp
  have p1 := Real.exp_pos (-(1 / 2 * g))
  have p2 := Real.exp_pos (1 / 2 * g)
  rw [e1]
  generalize Real.exp (-(1 / 2 * g)) = b at *
  generalize Real.exp (1 / 2 * g) = a at *
  have : a + b ≠ 0 := by positivity
  have : 1 + b * b ≠ 0 := by positivity
  field_simp
  linear_combination (2 * g * b) * e2

end Cert.Row
-- ==== Proof.DeltaHead.lean ====
module

public import proofs.«01_k».proof.Proof.Row
public import proofs.«01_k».proof.Proof.DeltaConv
public import proofs.«01_k».proof.Proof.DeltaGate
public import proofs.«01_k».proof.Proof.DeltaCore

@[expose] public section
set_option maxRecDepth 16384
noncomputable section
open Idealize.ShloMosaic Idealize.ShloMosaic.TcCoe Idealize.SL.Sem

namespace Cert.Delta

/-- A value that is a real number. -/
def IsR (x : EReal) : Prop := ∃ r : ℝ, x = r

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sum {n : ℕ} {f : Fin n → EReal} (h : ∀ i, IsR (f i)) : IsR (∑ i, f i) := by
  choose g hg using h
  exact ⟨∑ i, g i, by rw [coe_sum128]; exact Finset.sum_congr rfl fun i _ => hg i⟩

theorem exp_np {x : EReal} (h : x ≤ 0) : IsR (Ideal.exp x) := by
  induction x using EReal.rec with
  | bot => exact ⟨0, rfl⟩
  | coe r => exact ⟨Real.exp r, rfl⟩
  | top => exact absurd h (by simp)

theorem exp_nn (x : EReal) : 0 ≤ Ideal.exp x := by
  induction x using EReal.rec with
  | bot => exact le_refl _
  | coe r => rw [Ideal.exp_coe]; exact_mod_cast (Real.exp_pos r).le
  | top => exact le_top

theorem log1p_nn {x : EReal} (h : 0 ≤ x) : 0 ≤ Ideal.log1p x := by
  unfold Ideal.log1p
  induction x using EReal.rec with
  | bot => exact absurd h (by simp)
  | coe r =>
    have hr : 0 ≤ r := by exact_mod_cast h
    rw [← EReal.coe_one, ← EReal.coe_add, Ideal.log_coe, if_neg (by linarith)]
    exact_mod_cast Real.log_nonneg (by linarith)
  | top =>
    rw [EReal.add_top_of_ne_bot (by decide), Ideal.log_top]
    exact le_top

theorem gk_np (x a b : EReal) : gk x a b ≤ 0 := by
  unfold gk
  rw [zero_sub, EReal.neg_mul]
  refine EReal.neg_le_zero.2 ?_
  exact mul_nonneg (exp_nn _) (add_nonneg (le_max_right _ _) (log1p_nn (exp_nn _)))

theorem pre_np {f : Fin 16 → EReal} (h : ∀ i, f i ≤ 0) (i : Fin 16) : pre f i ≤ 0 := by
  refine Finset.sum_nonpos fun j _ => ?_
  split
  · exact h j
  · exact le_refl _

theorem pre_anti {f : Fin 16 → EReal} (h : ∀ i, f i ≤ 0) {i j : Fin 16} (hij : j ≤ i) : pre f i ≤ pre f j := by
  refine Finset.sum_le_sum fun k _ => ?_
  by_cases c : k ≤ j
  · rw [if_pos c, if_pos (c.trans hij)]
  · rw [if_neg c]
    split
    · exact h k
    · exact le_refl _

theorem sub_np {x y : EReal} (h : x ≤ y) : x - y ≤ 0 := by
  induction x using EReal.rec with
  | bot => rw [EReal.bot_sub]; exact bot_le
  | coe r =>
    induction y using EReal.rec with
    | bot => exact absurd h (by simp)
    | coe s =>
      have : r ≤ s := by exact_mod_cast h
      rw [← EReal.coe_sub]
      exact_mod_cast (by linarith : r - s ≤ 0)
    | top => rw [EReal.sub_top]; exact bot_le
  | top =>
    rw [top_le_iff] at h
    rw [h, EReal.sub_top]
    exact bot_le

/-- The decay from token j to token i. -/
def dcy (g : Fin 16 → EReal) (i j : Fin 16) : EReal := if j ≤ i then Ideal.exp (g i - g j) else 0

/-- The strictly lower system of one head. -/
def am (k : Fin 16 → Fin 128 → EReal) (be g : Fin 16 → EReal) (i j : Fin 16) : EReal :=
  if j < i then (∑ d, (k i d * be i) * k j d) * dcy g i j else 0

/-- Forward substitution, n columns done. -/
def elimE (a : Fin 16 → Fin 16 → EReal) (b : Fin 16 → EReal) : ℕ → Fin 16 → EReal
  | 0 => b
  | n + 1 => if h : n < 16 then fun i => elimE a b n i - a i ⟨n, h⟩ * elimE a b n ⟨n, h⟩ else elimE a b n

theorem elimE_congr {a a' : Fin 16 → Fin 16 → EReal} {b b' : Fin 16 → EReal} (ha : ∀ i j, a i j = a' i j) (hb : ∀ i, b i = b' i) (n : ℕ) (i : Fin 16) :
    elimE a b n i = elimE a' b' n i := by
  obtain rfl : a = a' := funext fun i => funext fun j => ha i j
  obtain rfl : b = b' := funext hb
  rfl

theorem elimE_coe (A : Fin 16 → Fin 16 → ℝ) (b : Fin 16 → ℝ) (n : ℕ) (i : Fin 16) :
    elimE (fun i j => (A i j : EReal)) (fun i => (b i : EReal)) n i = (elimTo A b n i : EReal) := by
  induction n generalizing i with
  | zero => rfl
  | succ n ih =>
    unfold elimE elimTo
    by_cases h : n < 16
    · rw [dif_pos h, dif_pos h, elim, EReal.coe_sub, EReal.coe_mul, ih, ih]
    · rw [dif_neg h, dif_neg h, ih]

section
variable (q k v : Fin 16 → Fin 128 → EReal) (be g : Fin 16 → EReal) (S : Fin 128 → Fin 128 → EReal)

def solL (i : Fin 16) (e : Fin 128) : EReal := elimE (am k be g) (fun i => v i e * be i) 15 i
def solH (i : Fin 16) (d : Fin 128) : EReal := elimE (am k be g) (fun i => (k i d * be i) * Ideal.exp (g i)) 15 i
/-- The corrected values. -/
def corr (i : Fin 16) (e : Fin 128) : EReal := solL k v be g i e - ∑ d : Fin 128, solH k be g i d * S d e
/-- One head's outputs. -/
def oH (i : Fin 16) (e : Fin 128) : EReal :=
  (∑ d : Fin 128, (q i d * Ideal.exp (g i)) * S d e) + ∑ j : Fin 16, ((∑ d : Fin 128, q i d * k j d) * dcy g i j) * corr k v be g S j e
/-- One head's next state. -/
def sH (d e : Fin 128) : EReal := S d e * Ideal.exp (g 15) + ∑ i : Fin 16, (k i d * Ideal.exp (g 15 - g i)) * corr k v be g S i e
end

theorem sum_rowR (f : Fin 128 → ℝ) : ∑ x, f x = ∑ h : Fin 8, ∑ i : Fin 16, f (row h i) := by
  rw [← Fintype.sum_prod_type', ← (finProdFinEquiv (m := 8) (n := 16)).sum_comp]
  refine Finset.sum_congr rfl fun p _ => congrArg f (Fin.ext ?_)
  simp [finProdFinEquiv, row]; omega

theorem row_surj (r : Fin 128) : ∃ (h : Fin 8) (i : Fin 16), r = row h i :=
  ⟨⟨r.val / 16, by omega⟩, ⟨r.val % 16, Nat.mod_lt _ (by decide)⟩, Fin.ext (by show r.val = 16 * (r.val / 16) + r.val % 16; omega)⟩

/-- The packed solution, row by row: the doubled inverse applied to a column is that head's forward substitution. -/
theorem sol_eq (t : Fin 128 → Fin 128 → EReal) (ht : ∀ r c, IsR (t r c)) (b : Fin 128 → EReal) (hb : ∀ r, IsR (b r)) (h : Fin 8) (i : Fin 16) :
    ∑ x, exv t (ind fun r c => r.val = c.val) (ind (Lvl 1)) (ind (Lvl 2)) (ind (Lvl 4)) (ind (Lvl 8)) (row h i) x * b x =
      elimE (fun i j => if j < i then t (row h i) (row h j) else 0) (fun i => b (row h i)) 15 i := by
  choose T hT using ht
  choose B hB using hb
  obtain rfl : t = fun r c => (T r c : EReal) := funext fun r => funext fun c => hT r c
  obtain rfl : b = fun r => (B r : EReal) := funext hB
  have hA : (fun i j : Fin 16 => if j < i then ((T (row h i) (row h j) : ℝ) : EReal) else 0) =
      fun i j => (((fun i j : Fin 16 => if j < i then T (row h i) (row h j) else 0) i j : ℝ) : EReal) := by
    funext i j
    by_cases c : j < i
    · simp only [if_pos c]
    · simp only [if_neg c]; rfl
  have hs : ∑ x, exv (fun r c => (T r c : EReal)) (ind fun r c => r.val = c.val) (ind (Lvl 1)) (ind (Lvl 2)) (ind (Lvl 4)) (ind (Lvl 8)) (row h i) x * (B x : EReal) =
      ((∑ x, inv T (row h i) x * B x : ℝ) : EReal) := by
    rw [coe_sum128]
    exact Finset.sum_congr rfl fun x _ => by rw [EReal.coe_mul]; exact congrArg (· * _) (exv_coe T _ _)
  refine hs.trans ?_
  rw [hA, elimE_coe _ (fun i => B (row h i))]
  refine congrArg _ ?_
  have ha : ∀ i j : Fin 16, i ≤ j → (fun i j : Fin 16 => if j < i then T (row h i) (row h j) else 0) i j = 0 := fun i j hij => if_neg (not_lt.2 hij)
  refine unique _ ha (fun i => B (row h i)) (fun i => ∑ x, inv T (row h i) x * B x) _ (fun i => ?_) (elim_rows _ ha _) i
  rw [← inv_rows T B (row h i)]
  refine congrArg _ ?_
  rw [sum_rowR, Finset.sum_eq_single h]
  · refine Finset.sum_congr rfl fun j _ => congrArg (· * _) ?_
    show (if j < i then T (row h i) (row h j) else 0) = if Low (row h i) (row h j) then T (row h i) (row h j) else 0
    have e : Low (row h i) (row h j) ↔ j < i := by
      unfold Low row
      rw [Fin.lt_def]
      simp only
      omega
    simp only [e]
  · intro n _ hn
    refine Finset.sum_eq_zero fun j _ => ?_
    have e : ¬ Low (row h i) (row n j) := by
      have : n.val ≠ h.val := fun e => hn (Fin.ext e)
      unfold Low row
      simp only
      omega
    show (if Low (row h i) (row n j) then T (row h i) (row n j) else 0) * _ = 0
    rw [if_neg e, zero_mul]
  · intro hc; exact absurd (Finset.mem_univ h) hc

/-- The value times its logistic function. -/
def sl (x : EReal) : EReal := x * Ideal.div 1 (1 + Ideal.exp (-x))

theorem sl_real (g : ℝ) : IsR (sl g) := by
  have hp : (1 + Real.exp (-g)) ≠ 0 := by positivity
  unfold sl
  rw [← EReal.coe_neg, Ideal.exp_coe, ← EReal.coe_one, ← EReal.coe_add, Ideal.div_coe hp]
  exact ⟨g * (1 * (1 / (1 + Real.exp (-g)))), by push_cast; rfl⟩

theorem hlit : Ideal.ofBits .f32 1056964608#32 = ((1 / 2 : ℝ) : EReal) := by
  simp [Ideal.ofBits, Ideal.ieee, -EReal.coe_mul]; norm_num

/-- The activated convolution over real rows: the reference's four products through its activation. -/
theorem cv_real (x : Fin 24 → EReal) (w : Fin 8 → EReal) (y : Fin 19 → ℝ) (u : Fin 4 → ℝ) (hx : ∀ r : Fin 19, x ⟨5 + r.val, by omega⟩ = (y r : EReal))
    (hw : ∀ t : Fin 4, w ⟨t.val, by omega⟩ = Ideal.ofBits .f32 1056964608#32 * (u t : EReal)) (i : Fin 16) :
    cv x w i = sl ((y ⟨i.val, by omega⟩ : EReal) * (u 0 : EReal) + (y ⟨1 + i.val, by omega⟩ : EReal) * (u 1 : EReal) + (y ⟨2 + i.val, by omega⟩ : EReal) * (u 2 : EReal)
      + (y ⟨3 + i.val, by omega⟩ : EReal) * (u 3 : EReal)) := by
  have x0 : x ⟨(8 + i.val + 24 - 3) % 24, by omega⟩ = (y ⟨i.val, by omega⟩ : EReal) := by
    rw [← hx ⟨i.val, by omega⟩]; congr 1; apply Fin.ext; show (8 + i.val + 24 - 3) % 24 = 5 + i.val; omega
  have x1 : x ⟨(8 + i.val + 24 - 2) % 24, by omega⟩ = (y ⟨1 + i.val, by omega⟩ : EReal) := by
    rw [← hx ⟨1 + i.val, by omega⟩]; congr 1; apply Fin.ext; show (8 + i.val + 24 - 2) % 24 = 5 + (1 + i.val); omega
  have x2 : x ⟨(8 + i.val + 24 - 1) % 24, by omega⟩ = (y ⟨2 + i.val, by omega⟩ : EReal) := by
    rw [← hx ⟨2 + i.val, by omega⟩]; congr 1; apply Fin.ext; show (8 + i.val + 24 - 1) % 24 = 5 + (2 + i.val); omega
  have x3 : x ⟨8 + i.val, by omega⟩ = (y ⟨3 + i.val, by omega⟩ : EReal) := by
    rw [← hx ⟨3 + i.val, by omega⟩]; congr 1; apply Fin.ext; show 8 + i.val = 5 + (3 + i.val); omega
  have w0 : w 0 = _ := hw 0
  have w1 : w 1 = _ := hw 1
  have w2 : w 2 = _ := hw 2
  have w3 : w 3 = _ := hw 3
  have hh : half x w i = Ideal.ofBits .f32 1056964608#32 * ((y ⟨i.val, by omega⟩ * u 0 + y ⟨1 + i.val, by omega⟩ * u 1 + y ⟨2 + i.val, by omega⟩ * u 2 + y ⟨3 + i.val, by omega⟩ * u 3 : ℝ) : EReal) := by
    unfold half
    rw [x0, x1, x2, x3, w0, w1, w2, w3, hlit]
    norm_cast
    ring
  unfold cv
  rw [hh]
  refine (Cert.Row.silu_real _).trans ?_
  push_cast
  rfl

theorem rs_real {x : EReal} (h : IsR x) (hp : 0 < x) : IsR (Ideal.rsqrt x) := by
  obtain ⟨r, rfl⟩ := h
  have hr : 0 < r := by exact_mod_cast hp
  rw [Ideal.rsqrt_coe, if_neg (by linarith), if_neg hr.ne']
  exact ⟨_, rfl⟩

theorem eps_pos : ∃ r : ℝ, Ideal.ofBits .f32 897988541#32 = (r : EReal) ∧ 0 < r := by
  refine ⟨_, by simp [Ideal.ofBits, Ideal.ieee, -EReal.coe_mul]; rfl, by positivity⟩

theorem nrmk_real (v : Fin 128 → EReal) (h : ∀ d, IsR (v d)) (d : Fin 128) : IsR (nrmk v d) := by
  obtain ⟨e, he, hp⟩ := eps_pos
  refine (h d).mul (rs_real ((IsR.sum fun x => (h x).mul (h x)).add ⟨e, he⟩) ?_)
  choose u hu using h
  rw [he]
  have : ∑ x, v x * v x = ((∑ x, u x * u x : ℝ) : EReal) := by
    rw [coe_sum128]; exact Finset.sum_congr rfl fun x _ => by rw [hu x, EReal.coe_mul]
  rw [this]
  have hn : (0 : ℝ) ≤ ∑ x, u x * u x := Finset.sum_nonneg fun x _ => mul_self_nonneg _
  exact_mod_cast (by linarith : (0 : ℝ) < (∑ x, u x * u x) + e)

theorem nrmq_eq (v : Fin 128 → EReal) (d : Fin 128) : nrmq v d = v d * Ideal.rsqrt (∑ x, v x * v x + Ideal.ofBits .f32 897988541#32) * Ideal.ofBits .f32 1035273459#32 := by
  unfold nrmq; rw [mul_assoc]

/-- The logistic function by the hyperbolic tangent, at every extended real. -/
theorem sig_eq (x : EReal) : Ideal.ofBits .f32 1056964608#32 + Ideal.ofBits .f32 1056964608#32 * Ideal.tanh (Ideal.ofBits .f32 1056964608#32 * x) = Ideal.div 1 (1 + Ideal.exp (-x)) := by
  rw [hlit]
  induction x using EReal.rec with
  | bot =>
    rw [EReal.coe_mul_bot_of_pos (by norm_num), EReal.neg_bot, Ideal.exp_top, EReal.add_top_of_ne_bot (by decide)]
    show ((1 / 2 : ℝ) : EReal) + ((1 / 2 : ℝ) : EReal) * (-1) = _
    rw [Ideal.div, if_neg (by simp), EReal.inv_top, mul_zero, mul_neg, mul_one, ← EReal.coe_neg, ← EReal.coe_add]
    norm_num
  | coe r =>
    have hp : (1 + Real.exp (-r)) ≠ 0 := by positivity
    rw [← EReal.coe_mul, Ideal.tanh_coe, ← EReal.coe_neg, Ideal.exp_coe, ← EReal.coe_one, ← EReal.coe_add, Ideal.div_coe hp]
    norm_cast
    rw [Real.tanh_eq_sinh_div_cosh, Real.sinh_eq, Real.cosh_eq]
    have e1 : Real.exp (-r) = Real.exp (-(1 / 2 * r)) * Real.exp (-(1 / 2 * r)) := by rw [← Real.exp_add]; ring_nf
    have e2 : Real.exp (1 / 2 * r) * Real.exp (-(1 / 2 * r)) = 1 := by rw [← Real.exp_add]; simp
    have p1 := Real.exp_pos (-(1 / 2 * r))
    have p2 := Real.exp_pos (1 / 2 * r)
    rw [e1]
    generalize Real.exp (-(1 / 2 * r)) = u at *
    generalize Real.exp (1 / 2 * r) = w at *
    have : u + w ≠ 0 := by positivity
    have hq : 1 + u * u ≠ 0 := by positivity
    have hw : w + u ≠ 0 := by positivity
    field_simp
    linear_combination (2 * u) * e2
  | top =>
    rw [EReal.coe_mul_top_of_pos (by norm_num), EReal.neg_top, Ideal.exp_bot]
    show ((1 / 2 : ℝ) : EReal) + ((1 / 2 : ℝ) : EReal) * 1 = _
    rw [add_zero, ← EReal.coe_one, Ideal.div_coe one_ne_zero]
    norm_cast
    norm_num

theorem sig_real (x : EReal) : IsR (Ideal.div 1 (1 + Ideal.exp (-x))) := by
  rw [← sig_eq, hlit]
  have : IsR (Ideal.tanh (((1 / 2 : ℝ) : EReal) * x)) := by
    generalize ((1 / 2 : ℝ) : EReal) * x = y
    induction y using EReal.rec with
    | bot => exact ⟨-1, by show (-1 : EReal) = ((-1 : ℝ) : EReal); rw [EReal.coe_neg, EReal.coe_one]⟩
    | coe r => exact ⟨_, rfl⟩
    | top => exact ⟨1, rfl⟩
  exact IsR.add ⟨_, rfl⟩ (IsR.mul ⟨_, rfl⟩ this)

end Cert.Delta
-- ==== Proof.DeltaKerHead.lean ====
module

public import proofs.«01_k».proof.Proof.DeltaHead
public import proofs.«01_k».proof.Proof.DeltaPoint

@[expose] public section
set_option maxRecDepth 16384
noncomputable section
open Idealize.ShloMosaic Idealize.ShloMosaic.TcCoe Idealize.SL.Sem

namespace Cert.KernelIdeal.Value
open Cert.Delta Cert.KernelIdeal.Gen

section
variable (q k v : FVec Ideal S128x128 .f32) (x2 : Vec Ideal S1x16x128 .f32) (a b : Vec Ideal S1x128 .f32) (m0 m1 m2 m3 m4 m5 : Vec Ideal S1x128x128 .bf16) (s : Vec Ideal S1x1024x128 .f32)
  (h : Fin 8)

/-- A head's rows of a packed matrix. -/
def hd (x : FVec Ideal S128x128 .f32) (i : Fin 16) (d : Fin 128) : EReal := x (ix2 (row h i) d)
/-- A head's write strengths. -/
def bK (i : Fin 16) : EReal := Ideal.div 1 (1 + Ideal.exp (-(x2 (ix3 0 i ⟨8 + h.val, by omega⟩) : EReal)))
/-- A head's cumulative gates. -/
def gK (i : Fin 16) : EReal := pre (fun j => gk (x2 (ix3 0 j ⟨h.val, by omega⟩)) (a (ix2 0 ⟨h.val, by omega⟩)) (b (ix2 0 ⟨h.val, by omega⟩))) i
/-- A head's state. -/
def sK (d e : Fin 128) : EReal := s (ix3 0 (lane h d) e)

theorem pay3_at (r : Fin 1024) (e : Fin 128) : k0_pay3 s (ix2 r e) = s (ix3 0 r e) := by
  unfold k0_pay3
  pointwise

theorem pay1_at (y : Vec Ideal S1024x128 .f32) (r : Fin 1024) (e : Fin 128) : k0_pay1 (F := Ideal) y (ix3 0 r e) = y (ix2 r e) := by
  unfold k0_pay1
  pointwise

theorem kb_at (i : Fin 16) (d : Fin 128) : kbV k x2 (ix2 (row h i) d) = hd h k i d * bK x2 h i := by
  unfold kbV
  rw [pay73_at, beta_at, pay8_at, sig_eq]
  rfl

theorem be_at (i : Fin 16) : k0_pay67 (k0_pay8 x2) (ix2 (row h i) 0) = bK x2 h i := by
  rw [beta_at, pay8_at, sig_eq]
  rfl

theorem gcum_at (i : Fin 16) : k0_pay68 (gcV x2 a b) (ix2 (row h i) 0) = gK x2 a b h i := by
  rw [gc_at, gcV_at]
  rfl

theorem ex_at (i : Fin 16) : exV x2 a b (ix2 (row h i) 0) = Ideal.exp (gK x2 a b h i) := by
  unfold exV
  rw [pay74_at, gcum_at]

theorem rl_at (i : Fin 16) : rlV x2 a b (ix2 0 (row h i)) = gK x2 a b h i := by
  unfold rlV
  rw [pay72_at]
  unfold gtV
  rw [pay13_at]
  exact gcV_at x2 a b i ⟨h.val, by omega⟩

theorem gf_at (l : Fin 128) : gfV x2 a b (ix2 0 l) = gcV x2 a b (ix2 15 l) := by
  unfold gfV
  rw [pay12_at]
  rfl

theorem glast_at (i : Fin 16) : k0_pay69 (gfV x2 a b) (ix2 (row h i) 0) = gK x2 a b h 15 := by
  rw [gl_at, gf_at, gcV_at]
  rfl

theorem gt_at (d : Fin 128) : gtotV x2 a b (ix2 (lane h d) 0) = Ideal.exp (gK x2 a b h 15) := by
  unfold gtotV
  rw [gtot_at, gf_at, gcV_at]
  rfl

theorem vb_lo (i : Fin 16) (e : Fin 128) : vbV k v x2 a b (ix2 (row h i) ⟨e.val, by omega⟩) = hd h v i e * bK x2 h i := by
  unfold vbV
  rw [pay82_lo, be_at]
  rfl

theorem vb_hi (i : Fin 16) (d : Fin 128) : vbV k v x2 a b (ix2 (row h i) ⟨128 + d.val, by omega⟩) = (hd h k i d * bK x2 h i) * Ideal.exp (gK x2 a b h i) := by
  unfold vbV
  rw [pay82_hi, kb_at, ex_at]

theorem qe_at (i : Fin 16) (d : Fin 128) : qeV q x2 a b (ix2 (row h i) d) = hd h q i d * Ideal.exp (gK x2 a b h i) := by
  unfold qeV
  rw [pay83_at, ex_at]
  rfl

theorem kn_at (n : Fin 8) (i j : Fin 16) : knV q k x2 a b (ix2 (row h i) (row n j)) =
    (∑ d, (hd h k i d * bK x2 h i) * hd n k j d) * Ideal.exp (min (gK x2 a b h i - gK x2 a b n j) 0) := by
  unfold knV
  rw [pay87_at, gcum_at, rl_at]
  refine congrArg (· * _) (Finset.sum_congr rfl fun d _ => ?_)
  rw [kb_at]
  rfl

theorem g_anti {i j : Fin 16} (hij : j ≤ i) : gK x2 a b h i - gK x2 a b h j ≤ 0 := sub_np (pre_anti (fun _ => gk_np _ _ _) hij)

theorem g_np (i : Fin 16) : gK x2 a b h i ≤ 0 := pre_np (fun _ => gk_np _ _ _) i

variable (hk : ∀ r d, IsR (k (ix2 r d))) (hv : ∀ r d, IsR (v (ix2 r d)))
  (h1 : ∀ r c, (m1 (ix3 0 r c) : EReal) = ind (Lvl 2) r c) (h2 : ∀ r c, (m2 (ix3 0 r c) : EReal) = ind (Lvl 4) r c) (h3 : ∀ r c, (m3 (ix3 0 r c) : EReal) = ind (Lvl 8) r c)
  (h4 : ∀ r c, (m4 (ix3 0 r c) : EReal) = ind (Lvl 1) r c) (h5 : ∀ r c, (m5 (ix3 0 r c) : EReal) = ind (fun r c => r.val = c.val) r c)
  (h0 : ∀ r c, (m0 (ix3 0 r c) : EReal) = ind Inc r c)

include hk in
theorem kn_real (r c : Fin 128) : IsR (knV q k x2 a b (ix2 r c)) := by
  obtain ⟨h, i, rfl⟩ := row_surj r
  obtain ⟨n, j, rfl⟩ := row_surj c
  rw [kn_at]
  exact (IsR.sum fun d => ((hk _ _).mul (sig_real _)).mul (hk _ _)).mul (exp_np (min_le_right _ _))

include hk hv in
theorem vb_real (r : Fin 128) (c : Fin 256) : IsR (vbV k v x2 a b (ix2 r c)) := by
  obtain ⟨h, i, rfl⟩ := row_surj r
  by_cases hc : c.val < 128
  · have := vb_lo k v x2 a b h i ⟨c.val, hc⟩
    rw [show c = ⟨c.val, by omega⟩ from rfl, this]
    exact (hv _ _).mul (sig_real _)
  · have := vb_hi k v x2 a b h i ⟨c.val - 128, by omega⟩
    rw [show c = ⟨128 + (c.val - 128), by omega⟩ from Fin.ext (by show c.val = 128 + (c.val - 128); omega), this]
    exact ((hk _ _).mul (sig_real _)).mul (exp_np (g_np x2 a b h i))

include hk hv h1 h2 h3 h4 h5 in
theorem sol_at (i : Fin 16) (c : Fin 256) : solV q k v x2 a b m1 m2 m3 m4 m5 (ix2 (row h i) c) =
    elimE (am (hd h k) (bK x2 h) (gK x2 a b h)) (fun i => vbV k v x2 a b (ix2 (row h i) c)) 15 i := by
  unfold solV
  rw [pay90_at]
  rw [show (fun r c => (m1 (ix3 0 r c) : EReal)) = ind (Lvl 2) from funext fun r => funext fun c => h1 r c, show (fun r c => (m2 (ix3 0 r c) : EReal)) = ind (Lvl 4) from funext fun r => funext fun c => h2 r c,
    show (fun r c => (m3 (ix3 0 r c) : EReal)) = ind (Lvl 8) from funext fun r => funext fun c => h3 r c, show (fun r c => (m4 (ix3 0 r c) : EReal)) = ind (Lvl 1) from funext fun r => funext fun c => h4 r c,
    show (fun r c => (m5 (ix3 0 r c) : EReal)) = ind (fun r c => r.val = c.val) from funext fun r => funext fun c => h5 r c]
  refine (sol_eq (fun r c => knV q k x2 a b (ix2 r c)) (kn_real q k x2 a b hk) (fun x => vbV k v x2 a b (ix2 x c)) (fun x => vb_real k v x2 a b hk hv x c) h i).trans ?_
  refine elimE_congr (fun i j => ?_) (fun _ => rfl) 15 i
  unfold am dcy
  by_cases hji : j < i
  · rw [if_pos hji, if_pos hji, if_pos hji.le, kn_at, min_eq_left (g_anti x2 a b h hji.le)]
  · rw [if_neg hji, if_neg hji]

include hk hv h1 h2 h3 h4 h5 in
theorem w_at (i : Fin 16) (e : Fin 128) : k0_pay93 (solV q k v x2 a b m1 m2 m3 m4 m5) (bigV q k v x2 a b m1 m2 m3 m4 m5) (k0_pay3 s) (ix2 (row h i) e) =
    corr (hd h k) (hd h v) (bK x2 h) (gK x2 a b h) (sK s h) i e := by
  rw [pay93_at, sol_at q k v x2 a b m1 m2 m3 m4 m5 h hk hv h1 h2 h3 h4 h5]
  unfold corr solL solH
  refine congrArg₂ (· - ·) ?_ ?_
  · refine elimE_congr (fun _ _ => rfl) (fun j => ?_) 15 i
    exact vb_lo k v x2 a b h j e
  · refine Finset.sum_congr rfl fun d _ => ?_
    rw [pay3_at]
    refine congrArg (· * _) ?_
    refine (pay91_lo _ _ _ _ _ _ _ _ h i d).trans ?_
    refine (sol_at q k v x2 a b m1 m2 m3 m4 m5 h hk hv h1 h2 h3 h4 h5 i ⟨128 + d.val, by omega⟩).trans ?_
    refine elimE_congr (fun _ _ => rfl) (fun j => ?_) 15 i
    exact vb_hi k v x2 a b h j d

include hk hv h1 h2 h3 h4 h5 in
/-- The packed next state is each head's. -/
theorem st_at (d e : Fin 128) : stV q k v x2 a b m1 m2 m3 m4 m5 s (ix2 (lane h d) e) =
    sH (hd h k) (hd h v) (bK x2 h) (gK x2 a b h) (sK s h) d e := by
  unfold stV
  rw [pay95_at, gt_at, pay3_at]
  unfold sH
  refine congrArg (_ + ·) (Finset.sum_congr rfl fun i _ => ?_)
  rw [w_at q k v x2 a b m1 m2 m3 m4 m5 s h hk hv h1 h2 h3 h4 h5, glast_at, gcum_at]
  rfl

include hk hv h0 h1 h2 h3 h4 h5 in
/-- The packed outputs are each head's. -/
theorem o_at (i : Fin 16) (e : Fin 128) : k0_pay97 (onV q k v x2 a b m0 m1 m2 m3 m4 m5 s) (opV q k v x2 a b m1 m2 m3 m4 m5 s) (ix2 (row h i) e) =
    oH (hd h q) (hd h k) (hd h v) (bK x2 h) (gK x2 a b h) (sK s h) i e := by
  rw [pay97_at]
  unfold oH
  refine congrArg₂ (· + ·) ?_ ?_
  · unfold opV
    rw [pay96_at]
    refine Finset.sum_congr rfl fun d _ => ?_
    rw [pay3_at]
    refine congrArg (· * _) ?_
    exact (pay91_hi _ _ _ _ _ _ _ _ h i d).trans (qe_at q x2 a b h i d)
  · unfold onV
    rw [pay94_at, sum_row, Finset.sum_eq_single h]
    · refine Finset.sum_congr rfl fun j _ => ?_
      rw [w_at q k v x2 a b m1 m2 m3 m4 m5 s h hk hv h1 h2 h3 h4 h5]
      refine congrArg (· * _) ?_
      unfold atV
      rw [pay89_at, gcum_at, rl_at]
      unfold dcy
      refine Eq.trans (congrArg (_ * ·) (h0 _ _)) ?_
      unfold ind
      have e : Inc (row h i) (row h j) ↔ j ≤ i := by
        unfold Inc row
        rw [Fin.le_def]
        simp only
        omega
      by_cases c : j ≤ i
      · rw [if_pos (e.2 c), if_pos c, mul_one, min_eq_left (g_anti x2 a b h c)]
        rfl
      · rw [if_neg (fun hc => c (e.1 hc)), if_neg c, mul_zero, mul_zero]
    · intro n _ hn
      refine Finset.sum_eq_zero fun j _ => ?_
      have e : ¬ Inc (row h i) (row n j) := by
        have : n.val ≠ h.val := fun e => hn (Fin.ext e)
        unfold Inc row
        simp only
        omega
      refine Eq.trans (congrArg (· * _) ?_) (zero_mul _)
      unfold atV
      rw [pay89_at]
      refine Eq.trans (congrArg (_ * ·) (h0 _ _)) ?_
      unfold ind
      rw [if_neg e, mul_zero]
    · intro hc; exact absurd (Finset.mem_univ h) hc
end

end Cert.KernelIdeal.Value
-- ==== Proof.DeltaReference.lean ====
module

public import proofs.«01_k».proof.Proof.DeltaGate
public import proofs.«01_k».proof.Proof.DeltaSolve
public import proofs.«01_k».proof.Proof.Gen.ReferenceIdeal.Run
public import Idealize.ShloMosaic.Lib.Pointwise
public import Idealize.ShloMosaic.Lib.Tactic.CleanTypes

@[expose] public section
set_option maxRecDepth 16384
noncomputable section
open Idealize.ShloMosaic Idealize.ShloMosaic.TcCoe Idealize.SL.Sem

namespace Cert.ReferenceIdeal.Value
open Cert.Delta Cert.ReferenceIdeal Cert.ReferenceIdeal.Gen

variable (V : Valuation τ sig (Elt Ideal))

def aP : S16x16x5120.Idx → EReal := V (Proc.devRef .tc main_arg0)
def aA : S16x16x128.Idx → EReal := V (Proc.devRef .tc main_arg1)
def aC : S16x3x3072.Idx → EReal := V (Proc.devRef .tc main_arg2)
def aS : S16x8x128x128.Idx → EReal := V (Proc.devRef .tc main_arg3)
def aW : S1x4x3072.Idx → EReal := V (Proc.devRef .tc main_arg4)
def aL : S1x8.Idx → EReal := V (Proc.devRef .tc main_arg5)
def aB : S1x8.Idx → EReal := V (Proc.devRef .tc main_arg6)
def aN : S1x128.Idx → EReal := V (Proc.devRef .tc main_arg7)

theorem zlit : Ideal.ofBits .f32 0#32 = 0 := by simp [Ideal.ofBits, Ideal.ieee]

theorem sge_at : ∀ i j : Fin 16, IntOp.cmpi .sge (BitVec.ofNat 32 i.val) (BitVec.ofNat 32 j.val) = if j ≤ i then 1#1 else 0#1 := by decide +kernel
theorem sgt_at : ∀ i j : Fin 16, IntOp.cmpi .sgt (BitVec.ofNat 32 i.val) (BitVec.ofNat 32 j.val) = if j < i then 1#1 else 0#1 := by decide +kernel

abbrev v5 : S16x19x3072.Idx → EReal := res_main_v5 V
abbrev v35 : S16x16x3072.Idx → EReal := res_main_v35 V
abbrev v36 : S16x16x3072.Idx → EReal := res_main_v36 V
abbrev v41 : S16x16x8x128.Idx → EReal := res_main_v41 V
abbrev v52 : S16x16x8x128.Idx → EReal := res_main_v52 V
abbrev v74 : S16x16x8.Idx → EReal := res_main_v74 V
abbrev v79 : S16x8x16x128.Idx → EReal := res_main_v79 V
abbrev v80 : S16x8x16x128.Idx → EReal := res_main_v80 V
abbrev v83 : S16x8x16.Idx → EReal := res_main_v83 V
abbrev v84 : S16x8x16.Idx → EReal := res_main_v84 V
abbrev v103 : S16x8x16x16.Idx → EReal := res_main_v103 V
abbrev v106 : S16x8x16x128.Idx → EReal := res_main_v106 V
abbrev v109 : S16x8x16x16.Idx → EReal := res_main_v109 V
abbrev v117 : S16x8x16x256.Idx → EReal := res_main_v117 V
abbrev v227 : S16x8x16x128.Idx → EReal := res_main_v227 V
abbrev v236 : S16x16x8x128.Idx → EReal := res_main_v236 V
abbrev v251 : S16x16x8x128.Idx → EReal := res_main_v251 V
abbrev v123 : S16x8x16x256.Idx → EReal := res_main_v123 V
abbrev v129 : S16x8x16x256.Idx → EReal := res_main_v129 V
abbrev v135 : S16x8x16x256.Idx → EReal := res_main_v135 V
abbrev v141 : S16x8x16x256.Idx → EReal := res_main_v141 V
abbrev v147 : S16x8x16x256.Idx → EReal := res_main_v147 V
abbrev v153 : S16x8x16x256.Idx → EReal := res_main_v153 V
abbrev v159 : S16x8x16x256.Idx → EReal := res_main_v159 V
abbrev v165 : S16x8x16x256.Idx → EReal := res_main_v165 V
abbrev v171 : S16x8x16x256.Idx → EReal := res_main_v171 V
abbrev v177 : S16x8x16x256.Idx → EReal := res_main_v177 V
abbrev v183 : S16x8x16x256.Idx → EReal := res_main_v183 V
abbrev v189 : S16x8x16x256.Idx → EReal := res_main_v189 V
abbrev v195 : S16x8x16x256.Idx → EReal := res_main_v195 V
abbrev v201 : S16x8x16x256.Idx → EReal := res_main_v201 V
abbrev v207 : S16x8x16x256.Idx → EReal := res_main_v207 V

/-- A value times its logistic function, as the reference writes it. -/
def silR (x : EReal) : EReal := x * Ideal.div 1 (1 + Ideal.exp (-x))

theorem r5_lo (b : Fin 16) (i : Fin 3) (n : Fin 3072) : (v5 V (ix3 b ⟨i.val, by omega⟩ n) : EReal) = aC V (ix3 b i n) := by
  dsimp only [v5, v35, v36, v41, v52, v74, v79, v80, v83, v84, v103, v106, v109, v117, v227, v236, v251, v123, v129, v135, v141, v147, v153, v159, v165, v171, v177, v183, v189, v195, v201, v207]
  unfold res_main_v5 aC
  clean_types
  pointwise

theorem r5_hi (b i : Fin 16) (n : Fin 3072) : (v5 V (ix3 b ⟨3 + i.val, by omega⟩ n) : EReal) = aP V (ix3 b i ⟨n.val, by omega⟩) := by
  dsimp only [v5, v35, v36, v41, v52, v74, v79, v80, v83, v84, v103, v106, v109, v117, v227, v236, v251, v123, v129, v135, v141, v147, v153, v159, v165, v171, v177, v183, v189, v195, v201, v207]
  unfold res_main_v5 aP
  clean_types
  pointwise

theorem r35_at (b i : Fin 16) (n : Fin 3072) : (v35 V (ix3 b i n) : EReal) = v5 V (ix3 b ⟨i.val, by omega⟩ n) * aW V (ix3 0 0 n) + v5 V (ix3 b ⟨1 + i.val, by omega⟩ n) * aW V (ix3 0 1 n) + v5 V (ix3 b ⟨2 + i.val, by omega⟩ n) * aW V (ix3 0 2 n) + v5 V (ix3 b ⟨3 + i.val, by omega⟩ n) * aW V (ix3 0 3 n) := by
  dsimp only [v5, v35, v36, v41, v52, v74, v79, v80, v83, v84, v103, v106, v109, v117, v227, v236, v251, v123, v129, v135, v141, v147, v153, v159, v165, v171, v177, v183, v189, v195, v201, v207]
  unfold res_main_v35 res_main_v6 aW
  clean_types
  pointwise

theorem r36_at (b i : Fin 16) (n : Fin 3072) : (v36 V (ix3 b i n) : EReal) = silR (v35 V (ix3 b i n)) := by
  dsimp only [v5, v35, v36, v41, v52, v74, v79, v80, v83, v84, v103, v106, v109, v117, v227, v236, v251, v123, v129, v135, v141, v147, v153, v159, v165, v171, v177, v183, v189, v195, v201, v207]
  unfold res_main_v36 silR
  clean_types
  pointwise

theorem r41_at (b i : Fin 16) (h : Fin 8) (d : Fin 128) : (v41 V (ix4 b i h d) : EReal) = v36 V (ix3 b i ⟨h.val * 128 + d.val, by omega⟩) := by
  dsimp only [v5, v35, v36, v41, v52, v74, v79, v80, v83, v84, v103, v106, v109, v117, v227, v236, v251, v123, v129, v135, v141, v147, v153, v159, v165, v171, v177, v183, v189, v195, v201, v207]
  unfold res_main_v41
  clean_types
  pointwise

theorem r52_at (b i : Fin 16) (h : Fin 8) (d : Fin 128) : (v52 V (ix4 b i h d) : EReal) = v36 V (ix3 b i ⟨1024 + (h.val * 128 + d.val), by omega⟩) := by
  dsimp only [v5, v35, v36, v41, v52, v74, v79, v80, v83, v84, v103, v106, v109, v117, v227, v236, v251, v123, v129, v135, v141, v147, v153, v159, v165, v171, v177, v183, v189, v195, v201, v207]
  unfold res_main_v52
  clean_types
  pointwise

theorem r79_at (b i : Fin 16) (h : Fin 8) (d : Fin 128) : (v79 V (ix4 b h i d) : EReal) = v41 V (ix4 b i h d) * Ideal.rsqrt ((∑ x : Fin 128, v41 V (ix4 b i h x) * v41 V (ix4 b i h x)) + Ideal.ofBits .f32 897988541#32) * Ideal.ofBits .f32 1035273459#32 := by
  dsimp only [v5, v35, v36, v41, v52, v74, v79, v80, v83, v84, v103, v106, v109, v117, v227, v236, v251, v123, v129, v135, v141, v147, v153, v159, v165, v171, v177, v183, v189, v195, v201, v207]
  unfold res_main_v79
  clean_types
  pointwise

theorem r80_at (b i : Fin 16) (h : Fin 8) (d : Fin 128) : (v80 V (ix4 b h i d) : EReal) = v52 V (ix4 b i h d) * Ideal.rsqrt ((∑ x : Fin 128, v52 V (ix4 b i h x) * v52 V (ix4 b i h x)) + Ideal.ofBits .f32 897988541#32) := by
  dsimp only [v5, v35, v36, v41, v52, v74, v79, v80, v83, v84, v103, v106, v109, v117, v227, v236, v251, v123, v129, v135, v141, v147, v153, v159, v165, v171, v177, v183, v189, v195, v201, v207]
  unfold res_main_v80
  clean_types
  pointwise

theorem r83_at (b i : Fin 16) (h : Fin 8) : (v83 V (ix3 b h i) : EReal) = Ideal.div 1 (1 + Ideal.exp (-aA V (ix3 b i ⟨8 + h.val, by omega⟩))) := by
  dsimp only [v5, v35, v36, v41, v52, v74, v79, v80, v83, v84, v103, v106, v109, v117, v227, v236, v251, v123, v129, v135, v141, v147, v153, v159, v165, v171, v177, v183, v189, v195, v201, v207]
  unfold res_main_v83 aA
  clean_types
  pointwise

theorem r74_at (b i : Fin 16) (h : Fin 8) : (v74 V (ix3 b i h) : EReal) = aA V (ix3 b i ⟨h.val, by omega⟩) + aB V (ix2 0 h) := by
  dsimp only [v5, v35, v36, v41, v52, v74, v79, v80, v83, v84, v103, v106, v109, v117, v227, v236, v251, v123, v129, v135, v141, v147, v153, v159, v165, v171, v177, v183, v189, v195, v201, v207]
  unfold res_main_v74 aA aB
  clean_types
  pointwise

theorem r106_at (b i : Fin 16) (h : Fin 8) (d : Fin 128) : (v106 V (ix4 b h i d) : EReal) = v80 V (ix4 b h i d) * v83 V (ix3 b h i) := by
  dsimp only [v5, v35, v36, v41, v52, v74, v79, v80, v83, v84, v103, v106, v109, v117, v227, v236, v251, v123, v129, v135, v141, v147, v153, v159, v165, v171, v177, v183, v189, v195, v201, v207]
  unfold res_main_v106
  clean_types
  pointwise

theorem r103_at (b i j : Fin 16) (h : Fin 8) : (v103 V (ix4 b h i j) : EReal) = if j ≤ i then Ideal.exp (v84 V (ix3 b h i) - v84 V (ix3 b h j)) else 0 := by
  dsimp only [v5, v35, v36, v41, v52, v74, v79, v80, v83, v84, v103, v106, v109, v117, v227, v236, v251, v123, v129, v135, v141, v147, v153, v159, v165, v171, v177, v183, v189, v195, v201, v207]
  unfold res_main_v103 res_main_v90 res_main_v85
  clean_types
  pointwise
  rw [sge_at]
  split
  · simp [Scalar.select]
  · simp [Scalar.select]
    exact zlit

theorem r109_at (b i j : Fin 16) (h : Fin 8) : (v109 V (ix4 b h i j) : EReal) = if j < i then (∑ d : Fin 128, v106 V (ix4 b h i d) * v80 V (ix4 b h j d)) * v103 V (ix4 b h i j) else 0 := by
  dsimp only [v5, v35, v36, v41, v52, v74, v79, v80, v83, v84, v103, v106, v109, v117, v227, v236, v251, v123, v129, v135, v141, v147, v153, v159, v165, v171, v177, v183, v189, v195, v201, v207]
  unfold res_main_v109 res_main_v85
  clean_types
  pointwise
  rw [sgt_at]
  split
  · simp [Scalar.select]
  · simp [Scalar.select]
    exact zlit

theorem r117_lo (b i : Fin 16) (h : Fin 8) (d : Fin 128) : (v117 V (ix4 b h i ⟨d.val, by omega⟩) : EReal) = v36 V (ix3 b i ⟨2048 + (h.val * 128 + d.val), by omega⟩) * v83 V (ix3 b h i) := by
  dsimp only [v5, v35, v36, v41, v52, v74, v79, v80, v83, v84, v103, v106, v109, v117, v227, v236, v251, v123, v129, v135, v141, v147, v153, v159, v165, v171, v177, v183, v189, v195, v201, v207]
  unfold res_main_v117
  clean_types
  pointwise

theorem r117_hi (b i : Fin 16) (h : Fin 8) (d : Fin 128) : (v117 V (ix4 b h i ⟨128 + d.val, by omega⟩) : EReal) = v106 V (ix4 b h i d) * Ideal.exp (v84 V (ix3 b h i)) := by
  dsimp only [v5, v35, v36, v41, v52, v74, v79, v80, v83, v84, v103, v106, v109, v117, v227, v236, v251, v123, v129, v135, v141, v147, v153, v159, v165, v171, v177, v183, v189, v195, v201, v207]
  unfold res_main_v117
  clean_types
  pointwise

theorem r123_at (b i : Fin 16) (h : Fin 8) (c : Fin 256) : (v123 V (ix4 b h i c) : EReal) = v117 V (ix4 b h i c) - v109 V (ix4 b h i 0) * v117 V (ix4 b h 0 c) := by
  dsimp only [v5, v35, v36, v41, v52, v74, v79, v80, v83, v84, v103, v106, v109, v117, v227, v236, v251, v123, v129, v135, v141, v147, v153, v159, v165, v171, v177, v183, v189, v195, v201, v207]
  unfold res_main_v123
  clean_types
  pointwise

theorem r129_at (b i : Fin 16) (h : Fin 8) (c : Fin 256) : (v129 V (ix4 b h i c) : EReal) = v123 V (ix4 b h i c) - v109 V (ix4 b h i 1) * v123 V (ix4 b h 1 c) := by
  dsimp only [v5, v35, v36, v41, v52, v74, v79, v80, v83, v84, v103, v106, v109, v117, v227, v236, v251, v123, v129, v135, v141, v147, v153, v159, v165, v171, v177, v183, v189, v195, v201, v207]
  unfold res_main_v129
  clean_types
  pointwise

theorem r135_at (b i : Fin 16) (h : Fin 8) (c : Fin 256) : (v135 V (ix4 b h i c) : EReal) = v129 V (ix4 b h i c) - v109 V (ix4 b h i 2) * v129 V (ix4 b h 2 c) := by
  dsimp only [v5, v35, v36, v41, v52, v74, v79, v80, v83, v84, v103, v106, v109, v117, v227, v236, v251, v123, v129, v135, v141, v147, v153, v159, v165, v171, v177, v183, v189, v195, v201, v207]
  unfold res_main_v135
  clean_types
  pointwise

theorem r141_at (b i : Fin 16) (h : Fin 8) (c : Fin 256) : (v141 V (ix4 b h i c) : EReal) = v135 V (ix4 b h i c) - v109 V (ix4 b h i 3) * v135 V (ix4 b h 3 c) := by
  dsimp only [v5, v35, v36, v41, v52, v74, v79, v80, v83, v84, v103, v106, v109, v117, v227, v236, v251, v123, v129, v135, v141, v147, v153, v159, v165, v171, v177, v183, v189, v195, v201, v207]
  unfold res_main_v141
  clean_types
  pointwise

theorem r147_at (b i : Fin 16) (h : Fin 8) (c : Fin 256) : (v147 V (ix4 b h i c) : EReal) = v141 V (ix4 b h i c) - v109 V (ix4 b h i 4) * v141 V (ix4 b h 4 c) := by
  dsimp only [v5, v35, v36, v41, v52, v74, v79, v80, v83, v84, v103, v106, v109, v117, v227, v236, v251, v123, v129, v135, v141, v147, v153, v159, v165, v171, v177, v183, v189, v195, v201, v207]
  unfold res_main_v147
  clean_types
  pointwise

theorem r153_at (b i : Fin 16) (h : Fin 8) (c : Fin 256) : (v153 V (ix4 b h i c) : EReal) = v147 V (ix4 b h i c) - v109 V (ix4 b h i 5) * v147 V (ix4 b h 5 c) := by
  dsimp only [v5, v35, v36, v41, v52, v74, v79, v80, v83, v84, v103, v106, v109, v117, v227, v236, v251, v123, v129, v135, v141, v147, v153, v159, v165, v171, v177, v183, v189, v195, v201, v207]
  unfold res_main_v153
  clean_types
  pointwise

theorem r159_at (b i : Fin 16) (h : Fin 8) (c : Fin 256) : (v159 V (ix4 b h i c) : EReal) = v153 V (ix4 b h i c) - v109 V (ix4 b h i 6) * v153 V (ix4 b h 6 c) := by
  dsimp only [v5, v35, v36, v41, v52, v74, v79, v80, v83, v84, v103, v106, v109, v117, v227, v236, v251, v123, v129, v135, v141, v147, v153, v159, v165, v171, v177, v183, v189, v195, v201, v207]
  unfold res_main_v159
  clean_types
  pointwise

theorem r165_at (b i : Fin 16) (h : Fin 8) (c : Fin 256) : (v165 V (ix4 b h i c) : EReal) = v159 V (ix4 b h i c) - v109 V (ix4 b h i 7) * v159 V (ix4 b h 7 c) := by
  dsimp only [v5, v35, v36, v41, v52, v74, v79, v80, v83, v84, v103, v106, v109, v117, v227, v236, v251, v123, v129, v135, v141, v147, v153, v159, v165, v171, v177, v183, v189, v195, v201, v207]
  unfold res_main_v165
  clean_types
  pointwise

theorem r171_at (b i : Fin 16) (h : Fin 8) (c : Fin 256) : (v171 V (ix4 b h i c) : EReal) = v165 V (ix4 b h i c) - v109 V (ix4 b h i 8) * v165 V (ix4 b h 8 c) := by
  dsimp only [v5, v35, v36, v41, v52, v74, v79, v80, v83, v84, v103, v106, v109, v117, v227, v236, v251, v123, v129, v135, v141, v147, v153, v159, v165, v171, v177, v183, v189, v195, v201, v207]
  unfold res_main_v171
  clean_types
  pointwise

theorem r177_at (b i : Fin 16) (h : Fin 8) (c : Fin 256) : (v177 V (ix4 b h i c) : EReal) = v171 V (ix4 b h i c) - v109 V (ix4 b h i 9) * v171 V (ix4 b h 9 c) := by
  dsimp only [v5, v35, v36, v41, v52, v74, v79, v80, v83, v84, v103, v106, v109, v117, v227, v236, v251, v123, v129, v135, v141, v147, v153, v159, v165, v171, v177, v183, v189, v195, v201, v207]
  unfold res_main_v177
  clean_types
  pointwise

theorem r183_at (b i : Fin 16) (h : Fin 8) (c : Fin 256) : (v183 V (ix4 b h i c) : EReal) = v177 V (ix4 b h i c) - v109 V (ix4 b h i 10) * v177 V (ix4 b h 10 c) := by
  dsimp only [v5, v35, v36, v41, v52, v74, v79, v80, v83, v84, v103, v106, v109, v117, v227, v236, v251, v123, v129, v135, v141, v147, v153, v159, v165, v171, v177, v183, v189, v195, v201, v207]
  unfold res_main_v183
  clean_types
  pointwise

theorem r189_at (b i : Fin 16) (h : Fin 8) (c : Fin 256) : (v189 V (ix4 b h i c) : EReal) = v183 V (ix4 b h i c) - v109 V (ix4 b h i 11) * v183 V (ix4 b h 11 c) := by
  dsimp only [v5, v35, v36, v41, v52, v74, v79, v80, v83, v84, v103, v106, v109, v117, v227, v236, v251, v123, v129, v135, v141, v147, v153, v159, v165, v171, v177, v183, v189, v195, v201, v207]
  unfold res_main_v189
  clean_types
  pointwise

theorem r195_at (b i : Fin 16) (h : Fin 8) (c : Fin 256) : (v195 V (ix4 b h i c) : EReal) = v189 V (ix4 b h i c) - v109 V (ix4 b h i 12) * v189 V (ix4 b h 12 c) := by
  dsimp only [v5, v35, v36, v41, v52, v74, v79, v80, v83, v84, v103, v106, v109, v117, v227, v236, v251, v123, v129, v135, v141, v147, v153, v159, v165, v171, v177, v183, v189, v195, v201, v207]
  unfold res_main_v195
  clean_types
  pointwise

theorem r201_at (b i : Fin 16) (h : Fin 8) (c : Fin 256) : (v201 V (ix4 b h i c) : EReal) = v195 V (ix4 b h i c) - v109 V (ix4 b h i 13) * v195 V (ix4 b h 13 c) := by
  dsimp only [v5, v35, v36, v41, v52, v74, v79, v80, v83, v84, v103, v106, v109, v117, v227, v236, v251, v123, v129, v135, v141, v147, v153, v159, v165, v171, v177, v183, v189, v195, v201, v207]
  unfold res_main_v201
  clean_types
  pointwise

theorem r207_at (b i : Fin 16) (h : Fin 8) (c : Fin 256) : (v207 V (ix4 b h i c) : EReal) = v201 V (ix4 b h i c) - v109 V (ix4 b h i 14) * v201 V (ix4 b h 14 c) := by
  dsimp only [v5, v35, v36, v41, v52, v74, v79, v80, v83, v84, v103, v106, v109, v117, v227, v236, v251, v123, v129, v135, v141, v147, v153, v159, v165, v171, v177, v183, v189, v195, v201, v207]
  unfold res_main_v207
  clean_types
  pointwise

theorem r227_at (b i : Fin 16) (h : Fin 8) (e : Fin 128) : (v227 V (ix4 b h i e) : EReal) = v207 V (ix4 b h i ⟨e.val, by omega⟩) - ∑ d : Fin 128, v207 V (ix4 b h i ⟨128 + d.val, by omega⟩) * aS V (ix4 b h d e) := by
  dsimp only [v5, v35, v36, v41, v52, v74, v79, v80, v83, v84, v103, v106, v109, v117, v227, v236, v251, v123, v129, v135, v141, v147, v153, v159, v165, v171, v177, v183, v189, v195, v201, v207]
  unfold res_main_v227 aS
  clean_types
  pointwise

theorem r236_at (b i : Fin 16) (h : Fin 8) (e : Fin 128) : (v236 V (ix4 b i h e) : EReal) = (∑ d : Fin 128, (v79 V (ix4 b h i d) * Ideal.exp (v84 V (ix3 b h i))) * aS V (ix4 b h d e)) + ∑ j : Fin 16, ((∑ d : Fin 128, v79 V (ix4 b h i d) * v80 V (ix4 b h j d)) * v103 V (ix4 b h i j)) * v227 V (ix4 b h j e) := by
  dsimp only [v5, v35, v36, v41, v52, v74, v79, v80, v83, v84, v103, v106, v109, v117, v227, v236, v251, v123, v129, v135, v141, v147, v153, v159, v165, v171, v177, v183, v189, v195, v201, v207]
  unfold res_main_v236 aS
  clean_types
  pointwise

theorem r251_at (b i : Fin 16) (h : Fin 8) (d : Fin 128) : (v251 V (ix4 b i h d) : EReal) = aP V (ix3 b i ⟨3072 + (h.val * 128 + d.val), by omega⟩) := by
  dsimp only [v5, v35, v36, v41, v52, v74, v79, v80, v83, v84, v103, v106, v109, v117, v227, v236, v251, v123, v129, v135, v141, v147, v153, v159, v165, v171, v177, v183, v189, v195, v201, v207]
  unfold res_main_v251 aP
  clean_types
  pointwise

end Cert.ReferenceIdeal.Value
-- ==== Proof.DeltaPrefix.lean ====
module

public import proofs.«01_k».proof.Proof.DeltaGate
public import proofs.«01_k».proof.Proof.Gen.ReferenceIdeal.Run
public import Idealize.ShloMosaic.Lib.Pointwise
public import Idealize.ShloMosaic.Lib.Tactic.CleanTypes

@[expose] public section
set_option maxRecDepth 16384
noncomputable section
open Idealize.ShloMosaic Idealize.ShloMosaic.TcCoe Idealize.SL.Sem

namespace Cert.ReferenceIdeal.Value
open Cert.Delta Cert.ReferenceIdeal Cert.ReferenceIdeal.Gen

theorem foldl_sum {n : ℕ} (g : Fin n → EReal) : (List.finRange n).foldl (fun r k => r + g k) 0 = ∑ k, g k := by
  rw [← List.sum_ofFn, List.ofFn_eq_map, List.sum_eq_foldl, List.foldl_map]

/-- The window's positions are its last coordinates. -/
def winE : Fin 16 ≃ (⟨3, ![1, 1, 16]⟩ : Shape).Idx where
  toFun w := ix3 0 0 w
  invFun q := q 2
  left_inv w := rfl
  right_inv q := by
    have h0 : (q 0).val < 1 := (q 0).isLt
    have h1 : (q 1).val < 1 := (q 1).isLt
    funext a
    match a with
    | ⟨0, _⟩ => exact Fin.ext (by show 0 = (q 0).val; omega)
    | ⟨1, _⟩ => exact Fin.ext (by show 0 = (q 1).val; omega)
    | ⟨2, _⟩ => rfl

theorem win_pre (f : Fin 16 → EReal) (i : Fin 16) : (∑ w : Fin 16, if h : 15 ≤ i.val + w.val then f ⟨i.val + w.val - 15, by omega⟩ else 0) = pre f i := by
  fin_cases i <;> simp [pre, Fin.sum_univ_succ, Fin.le_def]

/-- A window sum whose window reaches back over every earlier position is the prefix sum. -/
theorem window_at (x : FVec Ideal S16x8x16 .f32) (v : FVec Ideal S_ .f32) (hv : v ix0 = (0 : EReal)) (b : Fin 16) (h : Fin 8) (i : Fin 16) :
    Host.reduceWindowAdd ![1, 1, 16] ![1, 1, 1] ![0, 0, 15] ![0, 0, 0] x v reduceWindows_S16x8x16_S16x8x16_w1s1p0_0_w1s1p0_0_w16s1p15_0 h_S_ (ix3 b h i) =
      pre (fun j => x (ix3 b h j)) i := by
  have hv' : v (Shape.Idx.first h_S_) = (0 : EReal) := by rw [← hv]; congr 1; funext a; exact a.elim0
  unfold Host.reduceWindowAdd
  rw [Ideal.hostReduceWindowAdd_def, hv']
  unfold Ideal.hostReduceWindowAdd Host.reduceWindow
  refine (foldl_sum _).trans ?_
  refine (Equiv.sum_comp (winE.trans (Shape.rowMajor (⟨3, ![1, 1, 16]⟩ : Shape))) _).symm.trans ?_
  rw [← win_pre]
  refine Finset.sum_congr rfl fun w _ => ?_
  have hq : (Shape.rowMajor (⟨3, ![1, 1, 16]⟩ : Shape)).symm ((winE.trans (Shape.rowMajor (⟨3, ![1, 1, 16]⟩ : Shape))) w) = ix3 0 0 w := Equiv.symm_apply_apply _ _
  simp only [hq]
  by_cases hw : 15 ≤ i.val + w.val
  · rw [dif_pos hw, dif_pos]
    · refine congrArg x ?_
      funext a
      apply Fin.ext
      match a with
      | ⟨0, _⟩ => show b.val * 1 + 0 - 0 = b.val; omega
      | ⟨1, _⟩ => show h.val * 1 + 0 - 0 = h.val; omega
      | ⟨2, _⟩ => show i.val * 1 + w.val - 15 = i.val + w.val - 15; omega
    · intro a
      match a with
      | ⟨0, _⟩ => exact ⟨Nat.zero_le _, show b.val * 1 + 0 - 0 < 16 by omega⟩
      | ⟨1, _⟩ => exact ⟨Nat.zero_le _, show h.val * 1 + 0 - 0 < 8 by omega⟩
      | ⟨2, _⟩ => exact ⟨show 15 ≤ i.val * 1 + w.val by omega, show i.val * 1 + w.val - 15 < 16 by omega⟩
  · rw [dif_neg hw, dif_neg]
    intro H
    have := (H 2).1
    have h2 : 15 ≤ i.val * 1 + w.val := this
    omega

variable (V : Valuation τ sig (Elt Ideal))

/-- The cumulative gates. -/
theorem r84_at (b i : Fin 16) (h : Fin 8) : (res_main_v84 V (ix3 b h i) : EReal) =
    pre (fun j => gk ((V (Proc.devRef .tc main_arg1) : S16x16x128.Idx → EReal) (ix3 b j ⟨h.val, by omega⟩)) ((V (Proc.devRef .tc main_arg5) : S1x8.Idx → EReal) (ix2 0 h))
      ((V (Proc.devRef .tc main_arg6) : S1x8.Idx → EReal) (ix2 0 h))) i := by
  unfold res_main_v84
  refine (window_at _ _ ?_ b h i).trans ?_
  · pointwise
  · congr 1
    funext j
    unfold res_main_call1_v3 res_main_call1_cst res_main_v74
    clean_types
    pointwise [gk]
    simp only [ne_eq, not_true_eq_false, if_false]
    rw [zero_sub, zero_sub]

end Cert.ReferenceIdeal.Value
-- ==== Proof.DeltaRefHead.lean ====
module

public import proofs.«01_k».proof.Proof.DeltaHead
public import proofs.«01_k».proof.Proof.DeltaOut
public import proofs.«01_k».proof.Proof.DeltaReference
public import proofs.«01_k».proof.Proof.DeltaPrefix

@[expose] public section
set_option maxRecDepth 16384
noncomputable section
open Idealize.ShloMosaic Idealize.ShloMosaic.TcCoe Idealize.SL.Sem

namespace Cert.ReferenceIdeal.Value
open Cert.Delta Cert.ReferenceIdeal Cert.ReferenceIdeal.Gen

variable (V : Valuation τ sig (Elt Ideal)) (b : Fin 16) (h : Fin 8)

/-- The queries of one head of one stream. -/
def qR (i : Fin 16) (d : Fin 128) : EReal := v79 V (ix4 b h i d)
def kR (i : Fin 16) (d : Fin 128) : EReal := v80 V (ix4 b h i d)
def vR (i : Fin 16) (d : Fin 128) : EReal := v36 V (ix3 b i ⟨2048 + (h.val * 128 + d.val), by omega⟩)
def bR (i : Fin 16) : EReal := v83 V (ix3 b h i)
def gR (i : Fin 16) : EReal := v84 V (ix3 b h i)
def sR (d e : Fin 128) : EReal := aS V (ix4 b h d e)

theorem am_eq (i j : Fin 16) : (v109 V (ix4 b h i j) : EReal) = am (kR V b h) (bR V b h) (gR V b h) i j := by
  rw [r109_at]
  unfold am dcy
  by_cases c : j < i
  · rw [if_pos c, if_pos c, r103_at, if_pos c.le, if_pos c.le]
    refine congrArg (· * _) (Finset.sum_congr rfl fun d _ => ?_)
    rw [r106_at]
    rfl
  · rw [if_neg c, if_neg c]

theorem elim_at (n : ℕ) (hn : n < 16) (i : Fin 16) (a : Fin 16 → Fin 16 → EReal) (f : Fin 16 → EReal) :
    elimE a f (n + 1) i = elimE a f n i - a i ⟨n, hn⟩ * elimE a f n ⟨n, hn⟩ := by
  rw [elimE, dif_pos hn]

theorem r207_elim (c : Fin 256) (i : Fin 16) : (v207 V (ix4 b h i c) : EReal) =
    elimE (am (kR V b h) (bR V b h) (gR V b h)) (fun i => v117 V (ix4 b h i c)) 15 i := by
  have ha : am (kR V b h) (bR V b h) (gR V b h) = fun i j => (v109 V (ix4 b h i j) : EReal) := funext fun i => funext fun j => (am_eq V b h i j).symm
  rw [ha]
  have e1 : ∀ i, elimE (fun i j => (v109 V (ix4 b h i j) : EReal)) (fun i => (v117 V (ix4 b h i c) : EReal)) 1 i = v123 V (ix4 b h i c) := fun i => by
    rw [r123_at]; exact elim_at 0 (by decide) i _ _
  have e2 : ∀ i, elimE (fun i j => (v109 V (ix4 b h i j) : EReal)) (fun i => (v117 V (ix4 b h i c) : EReal)) 2 i = v129 V (ix4 b h i c) := fun i => by
    rw [r129_at, ← e1, ← e1]; exact elim_at 1 (by decide) i _ _
  have e3 : ∀ i, elimE (fun i j => (v109 V (ix4 b h i j) : EReal)) (fun i => (v117 V (ix4 b h i c) : EReal)) 3 i = v135 V (ix4 b h i c) := fun i => by
    rw [r135_at, ← e2, ← e2]; exact elim_at 2 (by decide) i _ _
  have e4 : ∀ i, elimE (fun i j => (v109 V (ix4 b h i j) : EReal)) (fun i => (v117 V (ix4 b h i c) : EReal)) 4 i = v141 V (ix4 b h i c) := fun i => by
    rw [r141_at, ← e3, ← e3]; exact elim_at 3 (by decide) i _ _
  have e5 : ∀ i, elimE (fun i j => (v109 V (ix4 b h i j) : EReal)) (fun i => (v117 V (ix4 b h i c) : EReal)) 5 i = v147 V (ix4 b h i c) := fun i => by
    rw [r147_at, ← e4, ← e4]; exact elim_at 4 (by decide) i _ _
  have e6 : ∀ i, elimE (fun i j => (v109 V (ix4 b h i j) : EReal)) (fun i => (v117 V (ix4 b h i c) : EReal)) 6 i = v153 V (ix4 b h i c) := fun i => by
    rw [r153_at, ← e5, ← e5]; exact elim_at 5 (by decide) i _ _
  have e7 : ∀ i, elimE (fun i j => (v109 V (ix4 b h i j) : EReal)) (fun i => (v117 V (ix4 b h i c) : EReal)) 7 i = v159 V (ix4 b h i c) := fun i => by
    rw [r159_at, ← e6, ← e6]; exact elim_at 6 (by decide) i _ _
  have e8 : ∀ i, elimE (fun i j => (v109 V (ix4 b h i j) : EReal)) (fun i => (v117 V (ix4 b h i c) : EReal)) 8 i = v165 V (ix4 b h i c) := fun i => by
    rw [r165_at, ← e7, ← e7]; exact elim_at 7 (by decide) i _ _
  have e9 : ∀ i, elimE (fun i j => (v109 V (ix4 b h i j) : EReal)) (fun i => (v117 V (ix4 b h i c) : EReal)) 9 i = v171 V (ix4 b h i c) := fun i => by
    rw [r171_at, ← e8, ← e8]; exact elim_at 8 (by decide) i _ _
  have e10 : ∀ i, elimE (fun i j => (v109 V (ix4 b h i j) : EReal)) (fun i => (v117 V (ix4 b h i c) : EReal)) 10 i = v177 V (ix4 b h i c) := fun i => by
    rw [r177_at, ← e9, ← e9]; exact elim_at 9 (by decide) i _ _
  have e11 : ∀ i, elimE (fun i j => (v109 V (ix4 b h i j) : EReal)) (fun i => (v117 V (ix4 b h i c) : EReal)) 11 i = v183 V (ix4 b h i c) := fun i => by
    rw [r183_at, ← e10, ← e10]; exact elim_at 10 (by decide) i _ _
  have e12 : ∀ i, elimE (fun i j => (v109 V (ix4 b h i j) : EReal)) (fun i => (v117 V (ix4 b h i c) : EReal)) 12 i = v189 V (ix4 b h i c) := fun i => by
    rw [r189_at, ← e11, ← e11]; exact elim_at 11 (by decide) i _ _
  have e13 : ∀ i, elimE (fun i j => (v109 V (ix4 b h i j) : EReal)) (fun i => (v117 V (ix4 b h i c) : EReal)) 13 i = v195 V (ix4 b h i c) := fun i => by
    rw [r195_at, ← e12, ← e12]; exact elim_at 12 (by decide) i _ _
  have e14 : ∀ i, elimE (fun i j => (v109 V (ix4 b h i j) : EReal)) (fun i => (v117 V (ix4 b h i c) : EReal)) 14 i = v201 V (ix4 b h i c) := fun i => by
    rw [r201_at, ← e13, ← e13]; exact elim_at 13 (by decide) i _ _
  have e15 : ∀ i, elimE (fun i j => (v109 V (ix4 b h i j) : EReal)) (fun i => (v117 V (ix4 b h i c) : EReal)) 15 i = v207 V (ix4 b h i c) := fun i => by
    rw [r207_at, ← e14, ← e14]; exact elim_at 14 (by decide) i _ _
  exact (e15 i).symm

theorem corr_eq (i : Fin 16) (e : Fin 128) : (v227 V (ix4 b h i e) : EReal) = corr (kR V b h) (vR V b h) (bR V b h) (gR V b h) (sR V b h) i e := by
  rw [r227_at]
  unfold corr solL solH
  refine congrArg₂ (· - ·) ?_ ?_
  · rw [r207_elim]
    refine elimE_congr (fun _ _ => rfl) (fun j => ?_) 15 i
    rw [r117_lo]
    rfl
  · refine Finset.sum_congr rfl fun d _ => congrArg (· * _) ?_
    rw [r207_elim]
    refine elimE_congr (fun _ _ => rfl) (fun j => ?_) 15 i
    rw [r117_hi, r106_at]
    rfl

theorem oR_eq (i : Fin 16) (e : Fin 128) : (v236 V (ix4 b i h e) : EReal) = oH (qR V b h) (kR V b h) (vR V b h) (bR V b h) (gR V b h) (sR V b h) i e := by
  rw [r236_at]
  unfold oH
  refine congrArg (_ + ·) ?_
  refine Finset.sum_congr rfl fun j _ => ?_
  rw [corr_eq, r103_at]
  rfl

/-- The reference's first result. -/
def outR0 : FVec Ideal S16x16x1024 .bf16 := truncf .bf16 (shapeCast _ (mulf (mulf (mulf (res_main_v236 V) (broadcastInDim S16x16x8x128 ![0, 1, 2, 3] bcast_S16x16x8x1_S16x16x8x128_0_1_2_3 (Host.rsqrt (addf (Host.divf (broadcastInDim S16x16x8x1 ![0, 1, 2] bcast_S16x16x8_S16x16x8x1_0_1_2 (Host.reduceAdd (mulf (res_main_v236 V) (res_main_v236 V)) (constant S_ .f32 0x00000000#32) reducesTo_S16x16x8x128_S16x16x8_d3 h_S_)) (broadcastInDim S16x16x8x1 ![] bcast_S_S16x16x8x1 (constant S_ .f32 0x43000000#32))) (broadcastInDim S16x16x8x1 ![] bcast_S_S16x16x8x1 (constant S_ .f32 0x358637BD#32)))))) (broadcastInDim S16x16x8x128 ![0, 1, 2, 3] bcast_S1x1x1x128_S16x16x8x128_0_1_2_3 (broadcastInDim S1x1x1x128 ![3] bcast_S128_S1x1x1x128_3 (shapeCast _ (V (Proc.devRef .tc main_arg7)) shapeCasts_S1x128_S128)))) (mulf (res_main_v251 V) (Host.divf (broadcastInDim S16x16x8x128 ![] bcast_S_S16x16x8x128 (constant S_ .f32 0x3F800000#32)) (addf (broadcastInDim S16x16x8x128 ![] bcast_S_S16x16x8x128 (constant S_ .f32 0x3F800000#32)) (Host.exp (Host.negf (res_main_v251 V))))))) shapeCasts_S16x16x8x128_S16x16x1024) bitsLt_bf16_f32
/-- Its second. -/
def outR1 : FVec Ideal S16x8x3072 .f32 := extractStridedSlice S16x8x3072 ![0, 11, 0] (res_main_v5 V) slices_S16x19x3072_S16x8x3072_0_11_0
/-- Its third. -/
def outR2 : FVec Ideal S16x1024x128 .f32 := shapeCast _ (addf (mulf (V (Proc.devRef .tc main_arg3) : FVec Ideal S16x8x128x128 .f32) (broadcastInDim S16x8x128x128 ![0, 1, 2, 3] bcast_S16x8x1x1_S16x8x128x128_0_1_2_3 (broadcastInDim S16x8x1x1 ![0, 1] bcast_S16x8_S16x8x1x1_0_1 (Host.exp (shapeCast _ (extractStridedSlice S16x8x1 ![0, 0, 15] (res_main_v84 V) slices_S16x8x16_S16x8x1_0_0_15) shapeCasts_S16x8x1_S16x8))))) (Host.dotGeneral (F := Ideal) (φ₁ := .f32) (φ₂ := .f32) dot_S16x8x16x128_S16x8x16x128_S16x8x128x128_2_2_3_3_01_01 none (mulf (res_main_v80 V) (broadcastInDim S16x8x16x128 ![0, 1, 2, 3] bcast_S16x8x16x1_S16x8x16x128_0_1_2_3 (broadcastInDim S16x8x16x1 ![0, 1, 2] bcast_S16x8x16_S16x8x16x1_0_1_2 (Host.exp (subf (broadcastInDim S16x8x16 ![0, 1, 2] bcast_S16x8x1_S16x8x16_0_1_2 (extractStridedSlice S16x8x1 ![0, 0, 15] (res_main_v84 V) slices_S16x8x16_S16x8x1_0_0_15)) (res_main_v84 V)))))) (res_main_v227 V))) shapeCasts_S16x8x128x128_S16x1024x128

theorem outR0_at (i : Fin 16) (e : Fin 128) : (outR0 V (ix3 b i ⟨h.val * 128 + e.val, by omega⟩) : EReal) =
    Cert.KernelIdeal.Value.rms (fun d => oH (qR V b h) (kR V b h) (vR V b h) (bR V b h) (gR V b h) (sR V b h) i d) (fun d => aN V (ix2 0 d)) e * sl (aP V (ix3 b i ⟨3072 + (h.val * 128 + e.val), by omega⟩)) := by
  simp only [← oR_eq, ← r251_at V b i h e]
  dsimp only [v236, v251]
  unfold outR0 Cert.KernelIdeal.Value.rms sl aN
  clean_types
  pointwise

theorem outR1_at (r : Fin 8) (n : Fin 3072) : (outR1 V (ix3 b r n) : EReal) = aP V (ix3 b ⟨8 + r.val, by omega⟩ ⟨n.val, by omega⟩) := by
  rw [← r5_hi V b ⟨8 + r.val, by omega⟩ n]
  dsimp only [v5]
  unfold outR1
  clean_types
  pointwise
  exact congrArg (fun r => res_main_v5 V (ix3 b r n)) (Fin.ext (by show 11 + r.val = 3 + (8 + r.val); omega))

theorem outR2_at (d e : Fin 128) : (outR2 V (ix3 b ⟨h.val * 128 + d.val, by omega⟩ e) : EReal) =
    sH (kR V b h) (vR V b h) (bR V b h) (gR V b h) (sR V b h) d e := by
  unfold sH
  simp only [← corr_eq]
  dsimp only [kR, gR, sR, v227, v84, v80]
  unfold outR2 aS
  clean_types
  pointwise

end Cert.ReferenceIdeal.Value
-- ==== Proof.DeltaStream.lean ====
module

public import proofs.«01_k».proof.Proof.DeltaFinal
public import proofs.«01_k».proof.Proof.DeltaMasks
public import proofs.«01_k».proof.Proof.DeltaKerHead
public import proofs.«01_k».proof.Proof.DeltaRefHead

@[expose] public section
set_option maxRecDepth 16384
noncomputable section
open Idealize.ShloMosaic Idealize.ShloMosaic.TcCoe Idealize.SL.Sem

namespace Cert.Delta
open Cert.KernelIdeal.Value Cert.ReferenceIdeal.Value Cert.KernelIdeal.Gen

variable (m : (ℓ : Loc Cert.KernelIdeal.nD Cert.KernelIdeal.τ Cert.KernelIdeal.sig) → Buf (Elt Ideal) ℓ) (c : Dev Cert.KernelIdeal.nD)
  (W : Valuation Cert.ReferenceIdeal.τ Cert.ReferenceIdeal.sig (Elt Ideal))

/-- The two programs' arguments are the same, and the convolved ones are real. -/
structure Same : Prop where
  hP : aP W = argP m c
  hA : aA W = argA m c
  hC : aC W = argC m c
  hS : aS W = argS m c
  hW : aW W = argW m c
  hL : aL W = argL m c
  hB : aB W = argB m c
  hN : aN W = argN m c
  rP : ∀ (b i : Fin 16) (n : Fin 4096), IsR (argP m c (ix3 b i ⟨n.val, by omega⟩))
  rC : ∀ j, IsR (argC m c j)
  rW : ∀ j, IsR (argW m c j)

variable {m c W} (H : Same m c W) (b : Fin 16) (h : Fin 8)
include H

theorem row_eq (k : ℕ) (d : Fin 128) (n : Fin 3072) (hn : n.val = 128 * k + d.val) (r : Fin 19) :
    EX (X0_0 m c (pt b)) (iblk m c 3 (pt b)) k (ix2 ⟨5 + r.val, by omega⟩ d) = (v5 W (ix3 b r n) : EReal) := by
  have hm : (⟨(128 * k + d.val) % 3072, Nat.mod_lt _ (by decide)⟩ : Fin 3072) = n := Fin.ext (by show (128 * k + d.val) % 3072 = n.val; omega)
  by_cases hr : r.val < 3
  · refine (dif_pos (show 5 + r.val < 8 by omega)).trans ?_
    show iblk m c 3 (pt b) (ix3 0 ⟨5 + r.val, by omega⟩ ⟨(128 * k + d.val) % 3072, Nat.mod_lt _ (by decide)⟩) = _
    rw [hm]
    refine (blk3 m c (pt b) ⟨r.val, hr⟩ n).trans ?_
    rw [strm_pt, ← H.hC]
    exact (r5_lo W b ⟨r.val, hr⟩ n).symm
  · refine (dif_neg (show ¬ 5 + r.val < 8 by omega)).trans ?_
    show X0_0 m c (pt b) (ix3 0 ⟨5 + r.val - 8, by omega⟩ ⟨(128 * k + d.val) % 3072, Nat.mod_lt _ (by decide)⟩) = _
    rw [hm]
    refine (blk0 m c (pt b) ⟨5 + r.val - 8, by omega⟩ n).trans ?_
    rw [strm_pt, ← H.hP]
    refine (r5_hi W b ⟨5 + r.val - 8, by omega⟩ n).symm.trans ?_
    exact congrArg (fun r => v5 W (ix3 b r n)) (Fin.ext (by show 3 + (5 + r.val - 8) = r.val; omega))

theorem v5_real (r : Fin 19) (n : Fin 3072) : IsR (v5 W (ix3 b r n)) := by
  by_cases hr : r.val < 3
  · have e := r5_lo W b ⟨r.val, hr⟩ n
    rw [H.hC] at e
    exact e ▸ H.rC _
  · have e := r5_hi W b ⟨r.val - 3, by omega⟩ n
    rw [H.hP, show (⟨3 + (r.val - 3), by omega⟩ : Fin 19) = r from Fin.ext (by show 3 + (r.val - 3) = r.val; omega)] at e
    exact e ▸ H.rP b ⟨r.val - 3, by omega⟩ ⟨n.val, by omega⟩

omit H in
theorem pay5_at (w : Vec Ideal Cert.KernelIdeal.S8x3072 .f32) (r : Fin 8) (n : Fin 3072) : k0_pay5 w (ix2 r n) = Ideal.ofBits .f32 1056964608#32 * w (ix2 r n) := by
  unfold k0_pay5
  pointwise

theorem conv_eq (k : ℕ) (d : Fin 128) (n : Fin 3072) (hn : n.val = 128 * k + d.val) (i : Fin 16) :
    cv (fun r => EX (X0_0 m c (pt b)) (iblk m c 3 (pt b)) k (ix2 r d)) (fun t => k0_pay5 (iblk m c 5 (pt b)) (ix2 t n)) i = v36 W (ix3 b i n)
      ∧ IsR (v36 W (ix3 b i n)) := by
  choose y hy using fun r => v5_real H b r n
  choose u hu using fun t : Fin 4 => H.rW (ix3 0 t n)
  have e : (v36 W (ix3 b i n) : EReal) = sl ((y ⟨i.val, by omega⟩ : EReal) * (u 0 : EReal) + (y ⟨1 + i.val, by omega⟩ : EReal) * (u 1 : EReal) + (y ⟨2 + i.val, by omega⟩ : EReal) * (u 2 : EReal)
      + (y ⟨3 + i.val, by omega⟩ : EReal) * (u 3 : EReal)) := by
    rw [r36_at, r35_at, H.hW, hy, hy, hy, hy, hu, hu, hu, hu]
    rfl
  refine ⟨(cv_real _ _ y u (fun r => (row_eq H b k d n hn r).trans (hy r)) (fun t => ?_) i).trans e.symm, ?_⟩
  · show k0_pay5 (iblk m c 5 (pt b)) (ix2 ⟨t.val, by omega⟩ n) = _
    rw [pay5_at, blk5 m c (pt b) t n, ← hu t]
  · rw [e]
    have := sl_real (y ⟨i.val, by omega⟩ * u 0 + y ⟨1 + i.val, by omega⟩ * u 1 + y ⟨2 + i.val, by omega⟩ * u 2 + y ⟨3 + i.val, by omega⟩ * u 3)
    push_cast at this
    exact this

theorem q_eq : hd h (QX (X0_0 m c (pt b)) (iblk m c 3 (pt b)) (iblk m c 5 (pt b))) = qR W b h := by
  funext i d
  unfold hd QX qR
  rw [qsV_at, nrmq_eq]
  have e : ∀ d : Fin 128, cv (fun r => EX (X0_0 m c (pt b)) (iblk m c 3 (pt b)) h.val (ix2 r d)) (fun t => k0_pay5 (iblk m c 5 (pt b)) (ix2 t (col 0 (by omega) h d))) i = v41 W (ix4 b i h d) := fun d => by
    refine (conv_eq H b h.val d (col 0 (by omega) h d) (by show 0 + 128 * h.val + d.val = _; omega) i).1.trans ?_
    rw [r41_at]
    exact congrArg (fun n => v36 W (ix3 b i n)) (Fin.ext (by show 0 + 128 * h.val + d.val = h.val * 128 + d.val; omega))
  simp only [e]
  exact (r79_at W b i h d).symm

theorem k_raw (i : Fin 16) (d : Fin 128) : cv (fun r => EX (X0_0 m c (pt b)) (iblk m c 3 (pt b)) (8 + h.val) (ix2 r d)) (fun t => k0_pay5 (iblk m c 5 (pt b)) (ix2 t (col 1024 (by omega) h d))) i = v52 W (ix4 b i h d)
    ∧ IsR (v52 W (ix4 b i h d)) := by
  have e := conv_eq H b (8 + h.val) d (col 1024 (by omega) h d) (by show 1024 + 128 * h.val + d.val = _; omega) i
  have e' : (v52 W (ix4 b i h d) : EReal) = v36 W (ix3 b i (col 1024 (by omega) h d)) := by
    rw [r52_at]
    exact congrArg (fun n => v36 W (ix3 b i n)) (Fin.ext (by show 1024 + (h.val * 128 + d.val) = 1024 + 128 * h.val + d.val; omega))
  rw [e']
  exact e

theorem k_eq : hd h (KX (X0_0 m c (pt b)) (iblk m c 3 (pt b)) (iblk m c 5 (pt b))) = kR W b h := by
  funext i d
  unfold hd KX kR
  rw [ksV_at]
  unfold nrmk
  simp only [fun d => (k_raw H b h i d).1]
  exact (r80_at W b i h d).symm

theorem k_real (r d : Fin 128) : IsR (KX (X0_0 m c (pt b)) (iblk m c 3 (pt b)) (iblk m c 5 (pt b)) (ix2 r d)) := by
  obtain ⟨h, i, rfl⟩ := row_surj r
  unfold KX
  rw [ksV_at]
  refine nrmk_real _ (fun d => ?_) d
  obtain ⟨e, hr⟩ := k_raw H b h i d
  rw [e]
  exact hr

theorem v_raw (i : Fin 16) (d : Fin 128) : VX (X0_0 m c (pt b)) (iblk m c 3 (pt b)) (iblk m c 5 (pt b)) (ix2 (row h i) d) = vR W b h i d ∧ IsR (vR W b h i d) := by
  have e := conv_eq H b (16 + h.val) d (col 2048 (by omega) h d) (by show 2048 + 128 * h.val + d.val = _; omega) i
  have e' : vR W b h i d = v36 W (ix3 b i (col 2048 (by omega) h d)) :=
    congrArg (fun n => v36 W (ix3 b i n)) (Fin.ext (by show 2048 + (h.val * 128 + d.val) = 2048 + 128 * h.val + d.val; omega))
  unfold VX
  rw [vsV_at, e']
  exact e

theorem v_eq : hd h (VX (X0_0 m c (pt b)) (iblk m c 3 (pt b)) (iblk m c 5 (pt b))) = vR W b h :=
  funext fun i => funext fun d => (v_raw H b h i d).1

theorem v_real (r d : Fin 128) : IsR (VX (X0_0 m c (pt b)) (iblk m c 3 (pt b)) (iblk m c 5 (pt b)) (ix2 r d)) := by
  obtain ⟨h, i, rfl⟩ := row_surj r
  obtain ⟨e, hr⟩ := v_raw H b h i d
  rw [e]
  exact hr

theorem b_eq : bK (iblk m c 2 (pt b)) h = bR W b h := by
  funext i
  unfold bK bR
  rw [blk2, strm_pt, r83_at, H.hA]

theorem g_eq : gK (iblk m c 2 (pt b)) (r6 (iblk m c 6 (pt b)) 0) (r6 (iblk m c 6 (pt b)) 1) h = gR W b h := by
  funext i
  unfold gK gR
  refine Eq.trans ?_ (r84_at W b i h).symm
  refine congrArg (fun f => pre f i) (funext fun j => ?_)
  have hA : aA W (ix3 b j ⟨h.val, by omega⟩) = _ := congrFun H.hA _
  have hL : aL W (ix2 0 h) = _ := congrFun H.hL _
  have hB : aB W (ix2 0 h) = _ := congrFun H.hB _
  unfold aA at hA
  unfold aL at hL
  unfold aB at hB
  rw [hA, hL, hB, blk2, strm_pt, ← blk6a m c (pt b) h, ← blk6b m c (pt b) h]
  rfl

theorem s_eq : sK (iblk m c 4 (pt b)) h = sR W b h := by
  funext d e
  unfold sK sR
  rw [H.hS, ← congrArg (fun b => argS m c (ix4 b h d e)) (strm_pt b)]
  exact blk4 m c (pt b) h d e

omit H in
theorem m_eq (k : Fin 6) (r c' : Fin 128) : (ldm (iblk m c 8 (pt b)) k (ix3 0 r c') : EReal) = FloatOps.ofBits (F := Ideal) .bf16 (Cert.KernelIdeal.lit0 (Cert.KernelIdeal.S6x128x128.rowMajor (ix3 k r c'))) :=
  blk8 m c (pt b) k r c'

theorem state_eq (d e : Fin 128) : P11 m c (pt b) (ix3 0 (lane h d) e) = sH (kR W b h) (vR W b h) (bR W b h) (gR W b h) (sR W b h) d e := by
  unfold P11 F11
  rw [pay1_at, st_at _ _ _ _ _ _ _ _ _ _ _ _ h (k_real H b) (v_real H b)
    (fun r c' => (m_eq b 1 r c').trans (ind1 r c')) (fun r c' => (m_eq b 2 r c').trans (ind2 r c')) (fun r c' => (m_eq b 3 r c').trans (ind3 r c'))
    (fun r c' => (m_eq b 4 r c').trans (ind4 r c')) (fun r c' => (m_eq b 5 r c').trans (ind5 r c')) d e,
    k_eq H, v_eq H, b_eq H, g_eq H, s_eq H]

omit H in
theorem outF_at (C : FVec Ideal Cert.KernelIdeal.S128x128 .f32) (w : Vec Ideal Cert.KernelIdeal.S1x128 .f32) (x1 : Vec Ideal Cert.KernelIdeal.S1x16x1024 .f32) (h : Fin 8) (i : Fin 16) (e : Fin 128) :
    outF C w x1 (ix3 0 i ⟨h.val * 128 + e.val, by omega⟩) = rms (fun d => C (ix2 (row h i) d)) (fun d => w (ix2 0 d)) e * sil (x1 (ix3 0 i ⟨h.val * 128 + e.val, by omega⟩)) := by
  have e1 : (⟨(h.val * 128 + e.val) / 128, by omega⟩ : Fin 8) = h := Fin.ext (by show (h.val * 128 + e.val) / 128 = h.val; omega)
  have e2 : (⟨(h.val * 128 + e.val) % 128, Nat.mod_lt _ (by decide)⟩ : Fin 128) = e := Fin.ext (by show (h.val * 128 + e.val) % 128 = e.val; omega)
  show tile C w (zT x1 ((h.val * 128 + e.val) / 128)) i ⟨(h.val * 128 + e.val) % 128, Nat.mod_lt _ (by decide)⟩ ⟨(h.val * 128 + e.val) / 128, by omega⟩ = _
  rw [e1, e2]
  unfold tile
  refine congrArg (rms (fun d => C (ix2 (row h i) d)) (fun d => w (ix2 0 d)) e * sil ·) ?_
  unfold zT
  refine congrArg x1 ?_
  funext a
  apply Fin.ext
  match a with
  | ⟨0, _⟩ => rfl
  | ⟨1, _⟩ => rfl
  | ⟨2, _⟩ => show (128 * ((h.val * 128 + e.val) / 128) + e.val) % 1024 = h.val * 128 + e.val; omega

theorem z_eq (i : Fin 16) (e : Fin 128) : sil (iblk m c 1 (pt b) (ix3 0 i ⟨h.val * 128 + e.val, by omega⟩)) = sl (aP W (ix3 b i ⟨3072 + (h.val * 128 + e.val), by omega⟩)) := by
  rw [blk1, strm_pt, H.hP]
  obtain ⟨z, hz⟩ := H.rP b i ⟨3072 + (h.val * 128 + e.val), by omega⟩
  have hz' : argP m c (ix3 b i ⟨3072 + (h.val * 128 + e.val), by omega⟩) = (z : EReal) := hz
  rw [hz']
  exact Cert.Row.silu_real z

theorem out_eq (i : Fin 16) (e : Fin 128) : P9 m c (pt b) (ix3 0 i ⟨h.val * 128 + e.val, by omega⟩) =
    rms (fun d => oH (qR W b h) (kR W b h) (vR W b h) (bR W b h) (gR W b h) (sR W b h) i d) (fun d => aN W (ix2 0 d)) e * sl (aP W (ix3 b i ⟨3072 + (h.val * 128 + e.val), by omega⟩)) := by
  unfold P9 F9
  rw [outF_at, z_eq H]
  refine congrArg (· * _) ?_
  refine congrArg₂ (fun v w => rms v w e) (funext fun d => ?_) (funext fun d => ?_)
  · rw [o_at _ _ _ _ _ _ _ _ _ _ _ _ _ h (k_real H b) (v_real H b)
      (fun r c' => (m_eq b 1 r c').trans (ind1 r c')) (fun r c' => (m_eq b 2 r c').trans (ind2 r c')) (fun r c' => (m_eq b 3 r c').trans (ind3 r c'))
      (fun r c' => (m_eq b 4 r c').trans (ind4 r c')) (fun r c' => (m_eq b 5 r c').trans (ind5 r c')) (fun r c' => (m_eq b 0 r c').trans (ind0 r c')) i d,
      q_eq H, k_eq H, v_eq H, b_eq H, g_eq H, s_eq H]
  · rw [H.hN]
    exact blk7 m c (pt b) d

end Cert.Delta
-- ==== Proof.DeltaAlgebra.lean ====
module

public import proofs.«01_k».proof.Proof.DeltaStream
public import proofs.«01_k».proof.Proof.Row
public import proofs.«01_k».proof.Proof.Gen.Pre_delta_finite
public import proofs.«01_k».proof.Defs
public import Idealize.ShloMosaic.Lib.ReduceAll
public import Idealize.ShloMosaic.Lib.Pointwise

@[expose] public section
set_option maxRecDepth 16384
noncomputable section
open Idealize.ShloMosaic Idealize.ShloMosaic.TcCoe Idealize.SL.Sem Idealize.ShloMosaic.StableHlo

namespace Cert.Delta
open Cert.KernelIdeal.Value Cert.ReferenceIdeal.Value

/-- What the precondition says of the arguments: the convolved ones hold real numbers. -/
theorem pre_iff (x0 x1 x2 x3 x4 x5 x6 x7) (h : Cert.Pre_delta_finite.fn (F := Ideal) x0 x1 x2 x3 x4 x5 x6 x7 = fun _ => 1#1) :
    (∀ (b i : Fin 16) (n : Fin 4096), IsR (x0 (ix3 b i ⟨n.val, by omega⟩))) ∧ (∀ j, IsR (x2 j)) ∧ (∀ j, IsR (x4 j)) := by
  dsimp only [Cert.Pre_delta_finite.fn] at h
  have h' := IntOp.andi_eq_one.mp (congrFun h (fun a => a.elim0))
  have h'' := IntOp.andi_eq_one.mp h'.1
  have : Subsingleton Cert.Pre_delta_finite.S_.Idx := ⟨fun a b => funext fun i => i.elim0⟩
  refine ⟨fun b i n => ?_, fun j => Cert.Row.real_of_abs _ (Host.reduce_andi_all _ _ _ _ _ h''.2 j), fun j => Cert.Row.real_of_abs _ (Host.reduce_andi_all _ _ _ _ _ h'.2 j)⟩
  have e := Host.reduce_andi_all _ _ _ _ _ h''.1 (ix3 b i n)
  have r := Cert.Row.real_of_abs _ e
  have q : extractStridedSlice Cert.Pre_delta_finite.S16x16x4096 ![0, 0, 0] x0 Cert.Pre_delta_finite.Facts.slices_S16x16x5120_S16x16x4096_0_0_0 (ix3 b i n) = x0 (ix3 b i ⟨n.val, by omega⟩) := by pointwise
  exact q ▸ r

theorem idx3_eq {p q r : ℕ} (y : (⟨3, ![p, q, r]⟩ : Shape).Idx) : y = ix3 (y 0) (y 1) (y 2) := by
  funext a
  match a with
  | ⟨0, _⟩ => rfl
  | ⟨1, _⟩ => rfl
  | ⟨2, _⟩ => rfl

section
variable {m : (ℓ : Loc Cert.KernelIdeal.nD Cert.KernelIdeal.τ Cert.KernelIdeal.sig) → Buf (Elt Ideal) ℓ} {c : Dev Cert.KernelIdeal.nD}
  {W : Valuation Cert.ReferenceIdeal.τ Cert.ReferenceIdeal.sig (Elt Ideal)} (H : Same m c W)
include H

theorem res0_eq : outR0 W = G9 m c := by
  refine funext fun (y : Cert.KernelIdeal.S16x16x1024.Idx) => ?_
  obtain ⟨b, i, n, rfl⟩ : ∃ b i n, y = ix3 b i n := ⟨y 0, y 1, y 2, idx3_eq y⟩
  obtain ⟨h, e, rfl⟩ : ∃ (h : Fin 8) (e : Fin 128), n = ⟨h.val * 128 + e.val, by omega⟩ :=
    ⟨⟨n.val / 128, by omega⟩, ⟨n.val % 128, Nat.mod_lt _ (by decide)⟩, Fin.ext (by show n.val = n.val / 128 * 128 + n.val % 128; omega)⟩
  exact (outR0_at W b h i e).trans (out_eq H b h i e).symm

theorem res1_eq : outR1 W = G10 m c := by
  refine funext fun (y : Cert.KernelIdeal.S16x8x3072.Idx) => ?_
  obtain ⟨b, i, n, rfl⟩ : ∃ b i n, y = ix3 b i n := ⟨y 0, y 1, y 2, idx3_eq y⟩
  exact (outR1_at W b i n).trans (congrFun H.hP _)

theorem res2_eq : outR2 W = G11 m c := by
  refine funext fun (y : Cert.KernelIdeal.S16x1024x128.Idx) => ?_
  obtain ⟨b, n, e, rfl⟩ : ∃ b n e, y = ix3 b n e := ⟨y 0, y 1, y 2, idx3_eq y⟩
  obtain ⟨h, d, rfl⟩ : ∃ (h : Fin 8) (d : Fin 128), n = ⟨h.val * 128 + d.val, by omega⟩ :=
    ⟨⟨n.val / 128, by omega⟩, ⟨n.val % 128, Nat.mod_lt _ (by decide)⟩, Fin.ext (by show n.val = n.val / 128 * 128 + n.val % 128; omega)⟩
  refine (outR2_at W b h d e).trans ((state_eq H b h d e).symm.trans ?_)
  exact congrArg (fun n => P11 m c (pt b) (ix3 0 n e)) (Fin.ext (by simp [lane]; try omega))
end

/-- The kernel's results are the reference's, over the extended reals. -/
theorem algebraic : algebraic_KernelIdeal_ReferenceIdeal_pre_delta_finite := by
  intro m ρ m' ρ' hpre hagree
  refine ⟨_, _, _, Cert.KernelIdeal.Value.run m ρ, ?_⟩
  refine (θ_run Cert.ReferenceIdeal.defs _ _).mono (fun _ h c => ?_) (Cert.ReferenceIdeal.Value.run (F := Ideal) m' ρ')
  obtain ⟨rP, rC, rW⟩ := pre_iff _ _ _ _ _ _ _ _ (hpre c)
  obtain ⟨e0, e1, e2, e3, e4, e5, e6, e7⟩ := hagree c
  have H : Same m c (launchContents m' c) := ⟨e0, e1, e2, e3, e4, e5, e6, e7, rP, rC, rW⟩
  obtain ⟨h0, h1, h2, hk⟩ := h c
  exact ⟨h0.trans (res0_eq H), h1.trans (res1_eq H), h2.trans (res2_eq H), hk⟩

end Cert.Delta
-- ==== Proof.FfnKernel.lean ====
/- The feed-forward kernel: what each grid point leaves, summed over the hidden tiles, and the result at an entry. -/
module
public import proofs.«01_k».proof.Proof.Row
public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.StableHlo.ReadAt
@[expose] public section
set_option maxRecDepth 16384
noncomputable section
open Idealize.ShloMosaic Idealize.ShloMosaic.TcCoe Idealize.SL.Sem
namespace Cert.Kernel2Ideal.Value
open Cert.Row Cert.Kernel2Ideal Cert.Kernel2Ideal.Gen

/-- The hidden value. -/
def hid (xs : Vec Ideal S1024x2048 .bf16) (x1 x2 : Vec Ideal S2048x512 .bf16) (r : Fin 1024) (k : Fin 512) : EReal :=
  (Ideal.ofBits .f32 0x3F000000#32 * (∑ d : Fin 2048, xs (ix2 r d) * x1 (ix2 d k)) +
    Ideal.ofBits .f32 0x3F000000#32 * (∑ d : Fin 2048, xs (ix2 r d) * x1 (ix2 d k)) *
      Ideal.tanh (Ideal.ofBits .f32 0x3F000000#32 * (∑ d : Fin 2048, xs (ix2 r d) * x1 (ix2 d k)))) *
    ∑ d : Fin 2048, xs (ix2 r d) * x2 (ix2 d k)

/-- Where a tile's entry lies in the block. -/
theorem emb_tile (o : ℕ) (inb) (h : ∀ k : Fin 512, o + k.val < 2048) (r : Fin 1024) (k : Fin 512) :
    (Rect.unit (s := S1024x2048) ![0, o] ![1024, 512] inb).emb (ix2 r k) = ix2 r ⟨o + k.val, h k⟩ := by
  funext a
  apply Fin.ext
  refine (Rect.idx_unit_val _ _ inb (ix2 r k) a).trans ?_
  match a with
  | ⟨0, _⟩ => exact Nat.zero_add _
  | ⟨1, _⟩ => rfl

/-- A middle tile adds its part to the block. -/
theorem tB (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5) (xo : Vec Ideal S1024x2048 .f32) (xs) (y : S1024x2048.Idx) :
   out0_B_6 (F := Ideal) c i a0 b0 a1 b1 a2 b2 a3 b3 a4 b4 a5 b5 a6 b6 a7 b7 hc0 hc1 x0 x1 x2 x3 x4 x5 xo xs y = xo y + ∑ k : Fin 512, hid xs x1 x2 (y 0) k * x3 (ix2 k (y 1)) := by
  frame_out
  idx_vars y
  canon_tiles x h
  all_goals (idx_vars x; unfold_payloads; pointwise [hid])
  all_goals (obtain rfl : y0 = _ := Fin.ext h0; simp only [← h1, Fin.eta])
/-- A row block's first tile starts from the scaled residual. -/
theorem tA (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5)  (y : S1024x2048.Idx) :
   out0_A_6 (F := Ideal) c i a0 b0 a1 b1 a2 b2 a3 b3 a4 b4 a5 b5 a6 b6 a7 b7 hc0 hc1 x0 x1 x2 x3 x4 x5 y =  Ideal.ofBits .f32 0x3F9837F0#32 * x0 y + ∑ k : Fin 512, hid x0 x1 x2 (y 0) k * x3 (ix2 k (y 1)) := by
  frame_open
  simp (disch := decide) only [↓ View.readCov_skip, ↓ View.readCov_cons_toLoadRect, ↓ View.readCov_fill]
  frame_out
  refine View.canon_append_of_piecesOf (Val := Elt Ideal) (s := S1024x2048) (e := .f32) (fun y => Ideal.ofBits .f32 0x3F9837F0#32 * x0 y + ∑ k : Fin 512, hid x0 x1 x2 (y 0) k * x3 (ix2 k (y 1)) : Vec Ideal S1024x2048 .f32) [_] [_, _, _, _] ⟨?_, ?_, ?_, ?_, trivial⟩ y ?_
  rotate_left 4
  · exact View.cover_of_tiledL _ ![1024, 512] (by sl_kernel_rfl) y
  all_goals
    intro x; idx_vars x
    rw [emb_tile _ _ (fun k => by omega)]
    unfold_payloads; pointwise [hid]
/-- The last tile adds its part and normalises. -/
theorem tC (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5) (xo : Vec Ideal S1024x2048 .f32) (xs)  :
   out0_C_6 (F := Ideal) c i a0 b0 a1 b1 a2 b2 a3 b3 a4 b4 a5 b5 a6 b6 a7 b7 hc0 hc1 x0 x1 x2 x3 x4 x5 xo xs = k0_pay3 (fun y => xo y + ∑ k : Fin 512, hid xs x1 x2 (y 0) k * x3 (ix2 k (y 1))) x4 x5 := by
  funext y
  frame_open
  simp (disch := decide) only [↓ View.readCov_skip, ↓ View.readCov_cons_toLoadRect, ↓ View.readCov_fill]
  frame_out
  congr 1
  rw [View.readCov_eq_canon_ld _ _ _ (View.cover_of_tiledL _ ![1024, 512] (by sl_kernel_rfl)), View.ld_unit_lit' _ _ (by decide)]
  funext z
  idx_vars z
  canon_tiles x h
  all_goals (idx_vars x; unfold_payloads; pointwise [hid])
  all_goals (obtain rfl : z0 = _ := Fin.ext h0; simp only [← h1, Fin.eta])
/-- The last store's payload is the row's normalisation. -/
theorem lnC (v : Vec Ideal S1024x2048 .f32) (x4 x5 : Vec Ideal S1x2048 .f32) (y : S1024x2048.Idx) :
    k0_pay3 v x4 x5 y = lnAt (fun n => v (ix2 (y 0) n)) (x4 (ix2 0 (y 1))) (x5 (ix2 0 (y 1))) (y 1) := by
  idx_vars y
  unfold_payloads; pointwise [lnAt]
/-- A middle tile keeps the scratch. -/
theorem sB (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5) (xo : Vec Ideal S1024x2048 .f32) (xs) :
   sout0_B_0 (F := Ideal) c i a0 b0 a1 b1 a2 b2 a3 b3 a4 b4 a5 b5 a6 b6 a7 b7 hc0 hc1 x0 x1 x2 x3 x4 x5 xo xs = xs := rfl
/-- The last tile keeps the scratch. -/
theorem sC (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5) (xo : Vec Ideal S1024x2048 .f32) (xs) :
   sout0_C_0 (F := Ideal) c i a0 b0 a1 b1 a2 b2 a3 b3 a4 b4 a5 b5 a6 b6 a7 b7 hc0 hc1 x0 x1 x2 x3 x4 x5 xo xs = xs := rfl
/-- The first tile copies the rows into the scratch. -/
theorem sA (c : Dev nD) (i : grid0.Coords) (a0 : Memref sig .tc .vmem S1024x2048 .f32) (b0) (a1) (b1) (a2) (b2) (a3) (b3) (a4) (b4) (a5) (b5) (a6) (b6) (a7) (b7) (hc0) (hc1) (x0) (x1) (x2) (x3) (x4) (x5)  :
   sout0_A_0 (F := Ideal) c i a0 b0 a1 b1 a2 b2 a3 b3 a4 b4 a5 b5 a6 b6 a7 b7 hc0 hc1 x0 x1 x2 x3 x4 x5 = x0 := by
  frame_out
  funext y; idx_vars y
  unfold_payloads; pointwise

/-! ### The blocks a point stages -/

variable (m : (ℓ : Loc nD τ sig) → Buf (Elt Ideal) ℓ)

/-- Row `r` of row-block `b`, and hidden column `k` of hidden tile `j`. -/
def rowAt (b : ℕ) (r : Fin 1024) : Fin 32768 := ⟨(1024 * b + r.val) % 32768, Nat.mod_lt _ (by decide)⟩
def colAt (j : ℕ) (k : Fin 512) : Fin 5632 := ⟨(512 * j + k.val) % 5632, Nat.mod_lt _ (by decide)⟩

theorem idxs : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 ∧ t.val < 352 :=
  (by decide +kernel : ∀ t : Fin grid0.N, _)

theorem blk0 (c : Dev nD) (t : Fin cfg0.N) (y : S1024x2048.Idx) :
    iblk m c 0 t y = m ((c : Thread nD τ).loc main_arg0) (ix2 (rowAt (t.val / 11) (y 0)) (y 1)) := by
  obtain ⟨e0, e1, -, -, -, -, -, -, -, -, -, -, ht⟩ := idxs t
  rw [← V_main_arg0 m c]
  blk_ext [iblk, rowAt, e0, e1]
theorem blk1 (c : Dev nD) (t : Fin cfg0.N) (d : Fin 2048) (k : Fin 512) :
    iblk m c 1 t (ix2 d k) = m ((c : Thread nD τ).loc main_arg1) (ix3 0 d (colAt (t.val % 11) k)) := by
  obtain ⟨-, -, e0, e1, -, -, -, -, -, -, -, -, ht⟩ := idxs t
  have h : iblk m c 1 t (ix2 d k) = V m c main_v1 (ix2 d (colAt (t.val % 11) k)) := by
    blk_ext [iblk, colAt, e0, e1]
  rw [h]; unfold V; after_reads_at
theorem blk2 (c : Dev nD) (t : Fin cfg0.N) (d : Fin 2048) (k : Fin 512) :
    iblk m c 2 t (ix2 d k) = m ((c : Thread nD τ).loc main_arg2) (ix3 0 d (colAt (t.val % 11) k)) := by
  obtain ⟨-, -, -, -, e0, e1, -, -, -, -, -, -, ht⟩ := idxs t
  have h : iblk m c 2 t (ix2 d k) = V m c main_v3 (ix2 d (colAt (t.val % 11) k)) := by
    blk_ext [iblk, colAt, e0, e1]
  rw [h]; unfold V; after_reads_at
theorem blk3 (c : Dev nD) (t : Fin cfg0.N) (k : Fin 512) (n : Fin 2048) :
    iblk m c 3 t (ix2 k n) = m ((c : Thread nD τ).loc main_arg3) (ix3 0 (colAt (t.val % 11) k) n) := by
  obtain ⟨-, -, -, -, -, -, e0, e1, -, -, -, -, ht⟩ := idxs t
  have h : iblk m c 3 t (ix2 k n) = V m c main_v5 (ix2 (colAt (t.val % 11) k) n) := by
    blk_ext [iblk, colAt, e0, e1]
  rw [h]; unfold V; after_reads_at
theorem blk4 (c : Dev nD) (t : Fin cfg0.N) (n : Fin 2048) :
    iblk m c 4 t (ix2 0 n) = m ((c : Thread nD τ).loc main_arg4) (ix2 0 n) := by
  obtain ⟨-, -, -, -, -, -, -, -, e0, e1, -, -, ht⟩ := idxs t
  have h : iblk m c 4 t (ix2 0 n) = V m c main_v7 (ix2 0 n) := by
    blk_ext [iblk, e0, e1]
  rw [h]; unfold V; after_reads_at
theorem blk5 (c : Dev nD) (t : Fin cfg0.N) (n : Fin 2048) :
    iblk m c 5 t (ix2 0 n) = m ((c : Thread nD τ).loc main_arg5) (ix2 0 n) := by
  obtain ⟨-, -, -, -, -, -, -, -, -, -, e0, e1, ht⟩ := idxs t
  have h : iblk m c 5 t (ix2 0 n) = V m c main_v9 (ix2 0 n) := by
    blk_ext [iblk, e0, e1]
  rw [h]; unfold V; after_reads_at

/-! ### The accumulated block -/

/-- The argument arrays, at their plain types. -/
def argX (c : Dev nD) : S32768x2048.Idx → EReal := m ((c : Thread nD τ).loc main_arg0)
def argG (c : Dev nD) : S1x2048x5632.Idx → EReal := m ((c : Thread nD τ).loc main_arg1)
def argU (c : Dev nD) : S1x2048x5632.Idx → EReal := m ((c : Thread nD τ).loc main_arg2)
def argD (c : Dev nD) : S1x5632x2048.Idx → EReal := m ((c : Thread nD τ).loc main_arg3)

/-- The gate's and the up projection's entries, and the hidden value, at row `r` and hidden column `k` of the arrays. -/
def proj (X : S32768x2048.Idx → EReal) (W : S1x2048x5632.Idx → EReal) (r : Fin 32768) (k : Fin 5632) : EReal :=
  ∑ d : Fin 2048, X (ix2 r d) * W (ix3 0 d k)
def hidG (X : S32768x2048.Idx → EReal) (Wg Wu : S1x2048x5632.Idx → EReal) (r : Fin 32768) (k : Fin 5632) : EReal :=
  (Ideal.ofBits .f32 0x3F000000#32 * proj X Wg r k +
    Ideal.ofBits .f32 0x3F000000#32 * proj X Wg r k * Ideal.tanh (Ideal.ofBits .f32 0x3F000000#32 * proj X Wg r k)) * proj X Wu r k

/-- A tile's part in terms of the arguments. -/
theorem part_eq (c : Dev nD) (t : Fin cfg0.N) (r : Fin 1024) (n : Fin 2048) (xs : Vec Ideal S1024x2048 .bf16)
    (hx : ∀ r d, xs (ix2 r d) = argX m c (ix2 (rowAt (t.val / 11) r) d)) :
    ∑ k : Fin 512, hid xs (iblk m c 1 t) (iblk m c 2 t) r k * (iblk m c 3 t (ix2 k n) : EReal) =
    ∑ k : Fin 512, hidG (argX m c) (argG m c) (argU m c) (rowAt (t.val / 11) r) (colAt (t.val % 11) k) * argD m c (ix3 0 (colAt (t.val % 11) k) n) := by
  have h1 : ∀ d k, iblk m c 1 t (ix2 d k) = argG m c (ix3 0 d (colAt (t.val % 11) k)) := blk1 m c t
  have h2 : ∀ d k, iblk m c 2 t (ix2 d k) = argU m c (ix3 0 d (colAt (t.val % 11) k)) := blk2 m c t
  have h3 : ∀ k n, iblk m c 3 t (ix2 k n) = argD m c (ix3 0 (colAt (t.val % 11) k) n) := blk3 m c t
  refine Finset.sum_congr rfl fun k _ => ?_
  unfold hid hidG proj
  simp only [h1, h2, h3, hx]

/-- What a point leaves in the scratch and in the output's block, over what the point before left. -/
theorem scrA (c : Dev nD) (t : Fin cfg0.N) (h0 : t.val % 11 = 0) (h1 : ¬t.val % 11 = 10) :
    (outsAt0 m c t.val t.isLt).2 = iblk m c 0 t := by
  rw [outsAt0_A m c t h0 h1]
  dsimp only
  rw [sA]
theorem scrB (c : Dev nD) (t : Fin cfg0.N) (h0 : ¬t.val % 11 = 0) :
    (outsAt0 m c t.val t.isLt).2 = (outsAt0 m c (t.val - 1) (Nat.lt_of_le_of_lt (Nat.sub_le _ _) t.isLt)).2 := by
  by_cases h1 : t.val % 11 = 10
  · rw [outsAt0_C m c t h0 h1]
    dsimp only
    rw [sC]
  · rw [outsAt0_B m c t h0 h1]
    dsimp only
    rw [sB]
theorem outA (c : Dev nD) (t : Fin cfg0.N) (h0 : t.val % 11 = 0) (h1 : ¬t.val % 11 = 10) (r : Fin 1024) (n : Fin 2048) :
    (outsAt0 m c t.val t.isLt).1 (ix2 r n) = Ideal.ofBits .f32 0x3F9837F0#32 * (iblk m c 0 t (ix2 r n) : EReal) +
      ∑ k : Fin 512, hid (iblk m c 0 t) (iblk m c 1 t) (iblk m c 2 t) r k * (iblk m c 3 t (ix2 k n) : EReal) := by
  rw [outsAt0_A m c t h0 h1]
  dsimp only
  rw [tA]
  rfl
theorem outB (c : Dev nD) (t : Fin cfg0.N) (h0 : ¬t.val % 11 = 0) (h1 : ¬t.val % 11 = 10) (r : Fin 1024) (n : Fin 2048) :
    (outsAt0 m c t.val t.isLt).1 (ix2 r n) = ((outsAt0 m c (t.val - 1) (Nat.lt_of_le_of_lt (Nat.sub_le _ _) t.isLt)).1 (ix2 r n) : EReal) +
      ∑ k : Fin 512, hid (outsAt0 m c (t.val - 1) (Nat.lt_of_le_of_lt (Nat.sub_le _ _) t.isLt)).2 (iblk m c 1 t) (iblk m c 2 t) r k * (iblk m c 3 t (ix2 k n) : EReal) := by
  rw [outsAt0_B m c t h0 h1]
  dsimp only
  rw [tB]
  rfl
theorem outC (c : Dev nD) (t : Fin cfg0.N) (h0 : ¬t.val % 11 = 0) (h1 : t.val % 11 = 10) (r : Fin 1024) (n : Fin 2048) :
    (outsAt0 m c t.val t.isLt).1 (ix2 r n) = lnAt (fun n => ((outsAt0 m c (t.val - 1) (Nat.lt_of_le_of_lt (Nat.sub_le _ _) t.isLt)).1 (ix2 r n) : EReal) +
      ∑ k : Fin 512, hid (outsAt0 m c (t.val - 1) (Nat.lt_of_le_of_lt (Nat.sub_le _ _) t.isLt)).2 (iblk m c 1 t) (iblk m c 2 t) r k * (iblk m c 3 t (ix2 k n) : EReal))
      (m ((c : Thread nD τ).loc main_arg4) (ix2 0 n)) (m ((c : Thread nD τ).loc main_arg5) (ix2 0 n)) n := by
  rw [← blk4 m c t n, ← blk5 m c t n, outsAt0_C m c t h0 h1]
  dsimp only
  rw [tC]
  exact lnC ..

/-- The scratch holds the row block's rows at every point. -/
theorem scr_eq (c : Dev nD) (r : Fin 1024) (d : Fin 2048) : ∀ (n : ℕ) (h : n < cfg0.N),
    (outsAt0 m c n h).2 (ix2 r d) = argX m c (ix2 (rowAt (n / 11) r) d) := by
  intro n
  induction n with
  | zero => intro h; exact (congrFun (scrA m c ⟨0, h⟩ (by simp) (by simp)) _).trans (blk0 m c ⟨0, h⟩ _)
  | succ n ih =>
    intro h
    by_cases h0 : (n + 1) % 11 = 0
    · exact (congrFun (scrA m c ⟨n + 1, h⟩ h0 (by simp only; omega)) _).trans (blk0 m c ⟨n + 1, h⟩ _)
    · refine (congrFun (scrB m c ⟨n + 1, h⟩ h0) _).trans ((ih (by omega)).trans ?_)
      rw [show n / 11 = (n + 1) / 11 by omega]

/-- Before the last tile the block holds the residual and the parts of the tiles met. -/
theorem acc_eq (c : Dev nD) (r : Fin 1024) (q : Fin 2048) : ∀ (n : ℕ) (h : n < cfg0.N), n % 11 ≠ 10 →
    (outsAt0 m c n h).1 (ix2 r q) = Ideal.ofBits .f32 0x3F9837F0#32 * argX m c (ix2 (rowAt (n / 11) r) q) +
      ∑ j ∈ Finset.range (n % 11 + 1), ∑ k : Fin 512, hidG (argX m c) (argG m c) (argU m c) (rowAt (n / 11) r) (colAt j k) * argD m c (ix3 0 (colAt j k) q) := by
  have base : ∀ (t : Fin cfg0.N), t.val % 11 = 0 →
      (outsAt0 m c t.val t.isLt).1 (ix2 r q) = Ideal.ofBits .f32 0x3F9837F0#32 * argX m c (ix2 (rowAt (t.val / 11) r) q) +
      ∑ j ∈ Finset.range (t.val % 11 + 1), ∑ k : Fin 512, hidG (argX m c) (argG m c) (argU m c) (rowAt (t.val / 11) r) (colAt j k) * argD m c (ix3 0 (colAt j k) q) := by
    intro t h0
    have hx : ∀ r d, iblk m c 0 t (ix2 r d) = argX m c (ix2 (rowAt (t.val / 11) r) d) := fun r d => blk0 m c t (ix2 r d)
    rw [outA m c t h0 (by omega), part_eq m c t r q _ hx, hx, h0]
    simp
  intro n
  induction n with
  | zero => intro h _; exact base ⟨0, h⟩ (by simp)
  | succ n ih =>
    intro h hn
    by_cases h0 : (n + 1) % 11 = 0
    · exact base ⟨n + 1, h⟩ h0
    · refine (outB m c ⟨n + 1, h⟩ h0 hn r q).trans ?_
      rw [part_eq m c ⟨n + 1, h⟩ r q _ (fun r d => (scr_eq m c r d n (by omega)).trans (by
        show argX m c (ix2 (rowAt (n / 11) r) d) = argX m c (ix2 (rowAt ((n + 1) / 11) r) d)
        rw [show n / 11 = (n + 1) / 11 by omega])),
        Finset.sum_range_succ _ ((n + 1) % 11), ← add_assoc]
      refine congrArg (· + _) ((ih (by omega) (by omega)).trans ?_)
      rw [show n / 11 = (n + 1) / 11 by omega, show n % 11 + 1 = (n + 1) % 11 by omega]

/-- The tiles' sums make the whole sum. -/
theorem sum_tiles (f : Fin 5632 → EReal) : ∑ j ∈ Finset.range 11, ∑ k : Fin 512, f (colAt j k) = ∑ k, f k := by
  rw [Finset.sum_range, ← Fintype.sum_prod_type']
  refine Fintype.sum_equiv (finProdFinEquiv : Fin 11 × Fin 512 ≃ Fin (11 * 512)) _ _ fun p => congrArg f (Fin.ext ?_)
  show (512 * p.1.val + p.2.val) % 5632 = p.2.val + 512 * p.1.val
  omega

/-- The row that the normalisation reads. -/
def preG (X : S32768x2048.Idx → EReal) (Wg Wu : S1x2048x5632.Idx → EReal) (Wd : S1x5632x2048.Idx → EReal) (r : Fin 32768) (n : Fin 2048) : EReal :=
  Ideal.ofBits .f32 0x3F9837F0#32 * X (ix2 r n) + ∑ k : Fin 5632, hidG X Wg Wu r k * Wd (ix3 0 k n)

/-- At a row block's last tile the block holds the normalised rows. -/
theorem last_eq (c : Dev nD) (t : Fin cfg0.N) (h1 : t.val % 11 = 10) (r : Fin 1024) (n : Fin 2048) :
    (outsAt0 m c t.val t.isLt).1 (ix2 r n) = lnAt (preG (argX m c) (argG m c) (argU m c) (argD m c) (rowAt (t.val / 11) r))
      (m ((c : Thread nD τ).loc main_arg4) (ix2 0 n)) (m ((c : Thread nD τ).loc main_arg5) (ix2 0 n)) n := by
  rw [outC m c t (by omega) h1]
  congr 1
  funext q
  rw [part_eq m c t r q _ (fun r d => (scr_eq m c r d _ _).trans (by rw [show (t.val - 1) / 11 = t.val / 11 by omega])),
    acc_eq m c r q _ _ (by omega), add_assoc, show (t.val - 1) / 11 = t.val / 11 by omega,
    show (t.val - 1) % 11 + 1 = 10 by omega, h1,
    ← Finset.sum_range_succ (fun j => ∑ k : Fin 512, hidG (argX m c) (argG m c) (argU m c) (rowAt (t.val / 11) r) (colAt j k) * argD m c (ix3 0 (colAt j k) q)) 10]
  exact congrArg₂ (· + ·) rfl (sum_tiles fun k => hidG (argX m c) (argG m c) (argU m c) (rowAt (t.val / 11) r) k * argD m c (ix3 0 k q))

/-- The kernel's result at an entry. -/
theorem G6_eq (c : Dev nD) (r : Fin 32768) (n : Fin 2048) :
    G6 m c (ix2 r n) = lnAt (preG (argX m c) (argG m c) (argU m c) (argD m c) r) (m ((c : Thread nD τ).loc main_arg4) (ix2 0 n)) (m ((c : Thread nD τ).loc main_arg5) (ix2 0 n)) n := by
  have hp : pt6Of (ix2 r n) = 11 * (r.val / 1024) + 10 := by
    show 11 * (1 * (r.val / 1024 - 0) + 1 * (n.val / 2048 - 0)) + 10 = _
    omega
  have hlt : pt6Of (ix2 r n) < cfg0.N := by rw [hp, show cfg0.N = 352 from N_0]; omega
  have hl : loc6Of (ix2 r n) = ix2 (⟨r.val % 1024, Nat.mod_lt _ (by decide)⟩ : Fin 1024) n := by
    funext a
    match a with
    | ⟨0, _⟩ => rfl
    | ⟨1, _⟩ => exact Fin.ext (Nat.mod_eq_of_lt n.isLt)
  have hr : rowAt (pt6Of (ix2 r n) / 11) (⟨r.val % 1024, Nat.mod_lt _ (by decide)⟩ : Fin 1024) = r := Fin.ext (by
    show (1024 * (pt6Of (ix2 r n) / 11) + r.val % 1024) % 32768 = r.val
    rw [hp]; omega)
  unfold G6
  rw [dif_pos hlt, ← outsAt0_sweep, hl]
  refine (last_eq m c ⟨pt6Of (ix2 r n), hlt⟩ (by show pt6Of (ix2 r n) % 11 = 10; rw [hp]; omega) _ n).trans ?_
  rw [hr]
end Cert.Kernel2Ideal.Value
-- ==== Proof.FfnReference.lean ====
/- The feed-forward reference read at an entry, and its precondition read. -/
module
public import proofs.«01_k».proof.Proof.Row
public import proofs.«01_k».proof.Proof.Gen.Reference2Ideal.Run
public import proofs.«01_k».proof.Proof.Gen.Pre_ffn_finite
public import Idealize.ShloMosaic.Lib.Pointwise
public import Idealize.ShloMosaic.Lib.Tactic.CleanTypes
public import Idealize.ShloMosaic.Lib.ReduceAll
@[expose] public section
set_option maxRecDepth 16384
noncomputable section
open Idealize.ShloMosaic Idealize.ShloMosaic.TcCoe Idealize.SL.Sem
namespace Cert.Reference2Ideal.Value
open Cert.Row Cert.Reference2Ideal Cert.Reference2Ideal.Gen
variable (m : (ℓ : Loc nD τ sig) → Buf (Elt Ideal) ℓ)

/-- A row's product with a weight's column. -/
def proj (X : S32768x2048.Idx → EReal) (W : S1x2048x5632.Idx → EReal) (r : Fin 32768) (k : Fin 5632) : EReal :=
  ∑ d : Fin 2048, X (ix2 r d) * W (ix3 0 d k)
/-- The hidden value as the reference computes it, and the row that its normalisation reads. -/
def hidR (X : S32768x2048.Idx → EReal) (Wg Wu : S1x2048x5632.Idx → EReal) (r : Fin 32768) (k : Fin 5632) : EReal :=
  proj X Wg r k * Ideal.div 1 (1 + Ideal.exp (-proj X Wg r k)) * proj X Wu r k
def preR (X : S32768x2048.Idx → EReal) (Wg Wu : S1x2048x5632.Idx → EReal) (Wd : S1x5632x2048.Idx → EReal) (r : Fin 32768) (n : Fin 2048) : EReal :=
  Ideal.ofBits .f32 0x3F9837F0#32 * X (ix2 r n) + ∑ k : Fin 5632, hidR X Wg Wu r k * Wd (ix3 0 k n)

/-- The reference's result at an entry. -/
theorem ref_eq (c : Dev nD) (r : Fin 32768) (n : Fin 2048) : (res_out0 m c (ix2 r n) : EReal) =
    lnAt (preR (m (c.tc.loc main_arg0)) (m (c.tc.loc main_arg1)) (m (c.tc.loc main_arg2)) (m (c.tc.loc main_arg3)) r)
      (m (c.tc.loc main_arg4) (ix2 0 n)) (m (c.tc.loc main_arg5) (ix2 0 n)) n := by
  unfold res_out0 res_main_v34
  clean_types
  pointwise [lnAt, preR, hidR, proj]

/-- The precondition, read: the rows and the gate's weights are real numbers. -/
theorem pre_iff (a0 a1 a2 a3 a4 a5) (h : Cert.Pre_ffn_finite.fn (F := Ideal) a0 a1 a2 a3 a4 a5 = (fun _ => 1#1)) : (∀ i, ∃ r : ℝ, (a0 i : EReal) = r) ∧ ∀ i, ∃ r : ℝ, (a1 i : EReal) = r := by
  dsimp only [Cert.Pre_ffn_finite.fn] at h
  have h' := IntOp.andi_eq_one.mp (congrFun h (fun a => a.elim0))
  have : Subsingleton Cert.Pre_ffn_finite.S_.Idx := ⟨fun a b => funext fun i => i.elim0⟩
  exact ⟨fun i => real_of_abs _ (Host.reduce_andi_all _ _ _ _ _ h'.1 i), fun i => real_of_abs _ (Host.reduce_andi_all _ _ _ _ _ h'.2 i)⟩

/-- Over real rows and weights the product is real. -/
theorem proj_real (X : S32768x2048.Idx → EReal) (W : S1x2048x5632.Idx → EReal) (hX : ∀ i, ∃ r : ℝ, X i = r) (hW : ∀ i, ∃ r : ℝ, W i = r) (r k) : ∃ g : ℝ, proj X W r k = g := by
  choose x hx using hX
  choose w hw using hW
  refine ⟨∑ d, x (ix2 r d) * w (ix3 0 d k), ?_⟩
  unfold proj
  simp only [hx, hw, ← EReal.coe_mul]
  exact coe_dot _ _ _
end Cert.Reference2Ideal.Value
-- ==== Proof.FfnAlgebra.lean ====
/- The feed-forward kernel's result is the reference's, over finite rows and gate weights. -/
module
public import proofs.«01_k».proof.Defs
public import proofs.«01_k».proof.Proof.FfnKernel
public import proofs.«01_k».proof.Proof.FfnReference
@[expose] public section
set_option maxRecDepth 16384
noncomputable section
open Idealize.ShloMosaic Idealize.ShloMosaic.TcCoe Idealize.SL.Sem
namespace Cert.Ffn
open Cert.Row

/-- The hidden values agree where the rows and the gate's weights are real. -/
theorem hid_eq (X : Cert.Kernel2Ideal.S32768x2048.Idx → EReal) (Wg Wu : Cert.Kernel2Ideal.S1x2048x5632.Idx → EReal)
    (hX : ∀ i, ∃ r : ℝ, X i = r) (hW : ∀ i, ∃ r : ℝ, Wg i = r) (r k) :
    Cert.Kernel2Ideal.Value.hidG X Wg Wu r k = Cert.Reference2Ideal.Value.hidR X Wg Wu r k := by
  obtain ⟨g, hg⟩ := Cert.Reference2Ideal.Value.proj_real X Wg hX hW r k
  have hg' : Cert.Kernel2Ideal.Value.proj X Wg r k = g := hg
  unfold Cert.Kernel2Ideal.Value.hidG Cert.Reference2Ideal.Value.hidR
  rw [hg, hg', silu_real]
  rfl

/-- The rows before normalisation agree. -/
theorem pre_eq (X : Cert.Kernel2Ideal.S32768x2048.Idx → EReal) (Wg Wu : Cert.Kernel2Ideal.S1x2048x5632.Idx → EReal) (Wd : Cert.Kernel2Ideal.S1x5632x2048.Idx → EReal)
    (hX : ∀ i, ∃ r : ℝ, X i = r) (hW : ∀ i, ∃ r : ℝ, Wg i = r) (r) :
    Cert.Kernel2Ideal.Value.preG X Wg Wu Wd r = Cert.Reference2Ideal.Value.preR X Wg Wu Wd r := by
  funext n
  unfold Cert.Kernel2Ideal.Value.preG Cert.Reference2Ideal.Value.preR
  refine congrArg₂ (· + ·) rfl (Finset.sum_congr rfl fun k _ => ?_)
  rw [hid_eq X Wg Wu hX hW]

/-- The claim: equal results, arguments unchanged. -/
theorem algebraic : algebraic_Kernel2Ideal_Reference2Ideal_pre_ffn_finite := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨hX, hW⟩ := Cert.Reference2Ideal.Value.pre_iff _ _ _ _ _ _ (hpre c)
  obtain ⟨e0, e1, e2, e3, e4, e5⟩ := hagree c
  rw [(h c).1]
  refine funext fun (y : Cert.Kernel2Ideal.S32768x2048.Idx) => ?_
  obtain ⟨r, n, rfl⟩ : ∃ r n, y = ix2 r n := ⟨y 0, y 1, by funext a; match a with | ⟨0, _⟩ => rfl | ⟨1, _⟩ => rfl⟩
  refine (Cert.Reference2Ideal.Value.ref_eq m' c r n).trans ?_
  refine Eq.trans ?_ (Cert.Kernel2Ideal.Value.G6_eq m c r n).symm
  rw [e0, e1, e2, e3, e4, e5]
  exact congrArg (fun v => lnAt v _ _ n) (pre_eq (Cert.Kernel2Ideal.Value.argX m c) (Cert.Kernel2Ideal.Value.argG m c)
    (Cert.Kernel2Ideal.Value.argU m c) (Cert.Kernel2Ideal.Value.argD m c) hX hW r).symm
end Cert.Ffn
-- ==== Proof.OutKernel.lean ====
/- The output projection's kernel: what the run leaves at an entry. -/
module
public import proofs.«01_k».proof.Proof.Row
public import proofs.«01_k».proof.Proof.Gen.Kernel4Ideal.Value
public import Idealize.ShloMosaic.Lib.Pipeline.ValueKit
public import Idealize.ShloMosaic.Lib.StableHlo.ReadAt
@[expose] public section
set_option maxRecDepth 16384
noncomputable section
open Idealize.ShloMosaic Idealize.ShloMosaic.TcCoe Idealize.SL.Sem
namespace Cert.Kernel4Ideal.Value
open Cert.Row Cert.Kernel4Ideal Cert.Kernel4Ideal.Gen

/-- A row before the last normalisation: the scaled residual and both head groups' products. -/
def mixG (x : Fin 2048 → EReal) (o y5 : Fin 1024 → EReal) (g b : Fin 2048 → EReal) (w : Fin 2048 → Fin 2048 → EReal) (n : Fin 2048) : EReal :=
  Ideal.ofBits .f32 0x3F9837F0#32 * lnAt x (g n) (b n) n +
    (∑ k : Fin 1024, o k * w ⟨k.val, by omega⟩ n + ∑ k : Fin 1024, y5 k * w ⟨1024 + k.val, by omega⟩ n)

/-- The stored payload at an entry. -/
theorem pay (v0 : Vec Ideal S512x2048 .f32) (v1 v3 : Vec Ideal S1x2048 .f32) (v25 v29 : Vec Ideal S512x1024 .bf16)
    (v26 v30 : Vec Ideal S1024x2048 .bf16) (v37 v39 : Vec Ideal S1x2048 .f32) (r : Fin 512) (n : Fin 2048) :
    k0_pay1 (k0_pay2 v0 v1 v3 v25 v26 v29 v30) v37 v39 (ix2 r n) =
      lnAt (fun n => Ideal.ofBits .f32 0x3F9837F0#32 * lnAt (fun n => v0 (ix2 r n)) (v1 (ix2 0 n)) (v3 (ix2 0 n)) n +
        (∑ k : Fin 1024, v25 (ix2 r k) * v26 (ix2 k n) + ∑ k : Fin 1024, v29 (ix2 r k) * v30 (ix2 k n)))
        (v37 (ix2 0 n)) (v39 (ix2 0 n)) n := by
  unfold_payloads
  pointwise [lnAt]

/-- Where a half of the weight starts. -/
theorem emb_half (o : ℕ) (inb) (h : ∀ k : Fin 1024, o + k.val < 2048) (r : Fin 1024) (k : Fin 2048) :
    (Rect.unit (s := S2048x2048) ![o, 0] ![1024, 2048] inb).emb (ix2 r k) = ix2 ⟨o + r.val, h r⟩ k := by
  funext a
  apply Fin.ext
  refine (Rect.idx_unit_val _ _ inb (ix2 r k) a).trans ?_
  match a with
  | ⟨0, _⟩ => rfl
  | ⟨1, _⟩ => exact Nat.zero_add _

variable (m : (ℓ : Loc nD τ sig) → Buf (Elt Ideal) ℓ)

def argX (c : Dev nD) : S32768x2048.Idx → EReal := m ((c : Thread nD τ).loc main_arg0)
def argO (c : Dev nD) : S32768x1024.Idx → EReal := m ((c : Thread nD τ).loc main_arg1)
def argY (c : Dev nD) : S32768x1024.Idx → EReal := m ((c : Thread nD τ).loc main_arg2)
def argG (c : Dev nD) : S2048.Idx → EReal := m ((c : Thread nD τ).loc main_arg3)
def argB (c : Dev nD) : S2048.Idx → EReal := m ((c : Thread nD τ).loc main_arg4)
def argW (c : Dev nD) : S1x2048x2048.Idx → EReal := m ((c : Thread nD τ).loc main_arg5)
def argG1 (c : Dev nD) : S1x2048.Idx → EReal := m ((c : Thread nD τ).loc main_arg6)
def argB1 (c : Dev nD) : S1x2048.Idx → EReal := m ((c : Thread nD τ).loc main_arg7)

theorem idxs : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 ∧ t.val < 64 :=
  (by decide +kernel : ∀ t : Fin grid0.N, _)

theorem idxc : ∀ t : Fin cfg0.N, win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

/-- Row r of row block b. -/
def rowAt (b : ℕ) (r : Fin 512) : Fin 32768 := ⟨(512 * b + r.val) % 32768, Nat.mod_lt _ (by decide)⟩

theorem blk0 (c : Dev nD) (t : Fin cfg0.N) (r : Fin 512) (n : Fin 2048) : iblk m c 0 t (ix2 r n) = argX m c (ix2 (rowAt t.val r) n) := by
  obtain ⟨e0, e1, -, -, -, -, -, -, ht⟩ := idxs t
  unfold argX
  rw [← V_main_arg0 m c]
  blk_ext [iblk, rowAt, e0, e1]
theorem blk1 (c : Dev nD) (t : Fin cfg0.N) (r : Fin 512) (n : Fin 1024) : iblk m c 1 t (ix2 r n) = argO m c (ix2 (rowAt t.val r) n) := by
  obtain ⟨-, -, e0, e1, -, -, -, -, ht⟩ := idxs t
  unfold argO
  rw [← V_main_arg1 m c]
  blk_ext [iblk, rowAt, e0, e1]
theorem blk2 (c : Dev nD) (t : Fin cfg0.N) (r : Fin 512) (n : Fin 1024) : iblk m c 2 t (ix2 r n) = argY m c (ix2 (rowAt t.val r) n) := by
  obtain ⟨-, -, -, -, e0, e1, -, -, ht⟩ := idxs t
  unfold argY
  rw [← V_main_arg2 m c]
  blk_ext [iblk, rowAt, e0, e1]
theorem blk3 (c : Dev nD) (t : Fin cfg0.N) (n : Fin 2048) : iblk m c 3 t (ix2 0 n) = argG m c (ix1 n) := by
  have h : iblk m c 3 t (ix2 0 n) = V m c main_v0 (ix2 0 n) := by
    obtain ⟨e0, e1, e2, e3, e4, e5, e6, e7, e8, e9⟩ := idxc t
    blk_ext [iblk, e0, e1, e2, e3, e4, e5, e6, e7, e8, e9]
  rw [h]; unfold V argG; after_reads_at
theorem blk4 (c : Dev nD) (t : Fin cfg0.N) (n : Fin 2048) : iblk m c 4 t (ix2 0 n) = argB m c (ix1 n) := by
  have h : iblk m c 4 t (ix2 0 n) = V m c main_v1 (ix2 0 n) := by
    obtain ⟨e0, e1, e2, e3, e4, e5, e6, e7, e8, e9⟩ := idxc t
    blk_ext [iblk, e0, e1, e2, e3, e4, e5, e6, e7, e8, e9]
  rw [h]; unfold V argB; after_reads_at
theorem blk5 (c : Dev nD) (t : Fin cfg0.N) (k n : Fin 2048) : iblk m c 5 t (ix2 k n) = argW m c (ix3 0 k n) := by
  have h : iblk m c 5 t (ix2 k n) = V m c main_v3 (ix2 k n) := by
    obtain ⟨e0, e1, e2, e3, e4, e5, e6, e7, e8, e9⟩ := idxc t
    blk_ext [iblk, e0, e1, e2, e3, e4, e5, e6, e7, e8, e9]
  rw [h]; unfold V argW; after_reads_at
theorem blk6 (c : Dev nD) (t : Fin cfg0.N) (n : Fin 2048) : iblk m c 6 t (ix2 0 n) = argG1 m c (ix2 0 n) := by
  have h : iblk m c 6 t (ix2 0 n) = V m c main_v5 (ix2 0 n) := by
    obtain ⟨e0, e1, e2, e3, e4, e5, e6, e7, e8, e9⟩ := idxc t
    blk_ext [iblk, e0, e1, e2, e3, e4, e5, e6, e7, e8, e9]
  rw [h]; unfold V argG1; after_reads_at
theorem blk7 (c : Dev nD) (t : Fin cfg0.N) (n : Fin 2048) : iblk m c 7 t (ix2 0 n) = argB1 m c (ix2 0 n) := by
  have h : iblk m c 7 t (ix2 0 n) = V m c main_v7 (ix2 0 n) := by
    obtain ⟨e0, e1, e2, e3, e4, e5, e6, e7, e8, e9⟩ := idxc t
    blk_ext [iblk, e0, e1, e2, e3, e4, e5, e6, e7, e8, e9]
  rw [h]; unfold V argB1; after_reads_at

/-- A point's block, from the blocks it reads. -/
theorem outAt (x0 : Vec Ideal S512x2048 .f32) (x1 x2 : Vec Ideal S512x1024 .bf16) (x3 x4 : Vec Ideal S1x2048 .f32)
    (x5 : Vec Ideal S2048x2048 .bf16) (x6 x7 : Vec Ideal S1x2048 .f32) (r : Fin 512) (n : Fin 2048) :
    out0_8 x0 x1 x2 x3 x4 x5 x6 x7 (ix2 r n) =
      lnAt (mixG (fun n => x0 (ix2 r n)) (fun k => x1 (ix2 r k)) (fun k => x2 (ix2 r k)) (fun n => x3 (ix2 0 n)) (fun n => x4 (ix2 0 n))
        (fun k n => x5 (ix2 k n))) (x6 (ix2 0 n)) (x7 (ix2 0 n)) n := by
  frame_out
  refine (pay ..).trans ?_
  unfold mixG
  have e1 : ∀ (k : Fin 1024) (n : Fin 2048), View.ld x5 r0_3 (ix2 k n) = x5 (ix2 ⟨k.val, by omega⟩ n) := fun k n =>
    congrArg x5 ((emb_half 0 _ (fun k => by omega) k n).trans (by simp only [Nat.zero_add]))
  have e2 : ∀ (k : Fin 1024) (n : Fin 2048), View.ld x5 r0_4 (ix2 k n) = x5 (ix2 ⟨1024 + k.val, by omega⟩ n) := fun k n =>
    congrArg x5 (emb_half 1024 _ (fun k => by omega) k n)
  simp only [e1, e2]

/-- The result's entry, from the arguments. -/
def resG (c : Dev nD) (y : S32768x2048.Idx) : EReal :=
  lnAt (mixG (fun n => argX m c (ix2 (y 0) n)) (fun k => argO m c (ix2 (y 0) k)) (fun k => argY m c (ix2 (y 0) k))
    (fun n => argG m c (ix1 n)) (fun n => argB m c (ix1 n)) (fun k n => argW m c (ix3 0 k n))) (argG1 m c (ix2 0 (y 1))) (argB1 m c (ix2 0 (y 1))) (y 1)

theorem final8 (c : Dev nD) : (dats m 0 c).arrAt 8 cfg0.N = resG m c := by
  refine (dats m 0 c).arrAt_eq_of_covers 8 _ (by decide +kernel) fun t hf y => ?_
  obtain ⟨-, -, -, -, -, -, e0, e1, ht⟩ := idxs t
  blk_simp
  rw [after0_8]
  obtain ⟨r, n, rfl⟩ : ∃ (r : Fin 512) (n : Fin 2048), y = ix2 r n := ⟨y 0, y 1, by funext a; match a with | ⟨0, _⟩ => rfl | ⟨1, _⟩ => rfl⟩
  have he : (win0_8.blk t).view.emb (ix2 r n) = ix2 (rowAt t.val r) n := by
    funext a
    apply Fin.ext
    match a with
    | ⟨0, _⟩ => show win0_8.index t (0 : Fin 2) * 512 + 1 * r.val = (512 * t.val + r.val) % 32768; rw [e0]; omega
    | ⟨1, _⟩ => show win0_8.index t (1 : Fin 2) * 2048 + 1 * n.val = n.val; rw [e1]; omega
  rw [he, outAt]
  simp only [blk0, blk1, blk2, blk3, blk4, blk5, blk6, blk7]
  rfl

/-- The run, its result named. -/
theorem run (ρ : Dev nD → PrngReg) : θ_run defs (onTc (τ := τ) (main (F := Ideal))) ⟨m, fun _ => 0, ρ⟩ fun r => ∀ c : Dev nD,
      r.2.mem ((c : Thread nD τ).loc main_v8) = resG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2⟩) (run_blocks m ρ)

end Cert.Kernel4Ideal.Value
-- ==== Proof.OutAlgebra.lean ====
/- The output projection's reference at an entry, and the claim. -/
module
public import proofs.«01_k».proof.Defs
public import proofs.«01_k».proof.Proof.OutKernel
public import proofs.«01_k».proof.Proof.Gen.Reference4Ideal.Run
public import Idealize.ShloMosaic.Lib.Tactic.CleanTypes
@[expose] public section
set_option maxRecDepth 16384
noncomputable section
open Idealize.ShloMosaic Idealize.ShloMosaic.TcCoe Idealize.SL.Sem
namespace Cert.Reference4Ideal.Value
open Cert.Row Cert.Kernel4Ideal.Value Cert.Reference4Ideal Cert.Reference4Ideal.Gen
variable (m : (ℓ : Loc nD τ sig) → Buf (Elt Ideal) ℓ)

/-- The reference's result at an entry. -/
theorem ref_eq (c : Dev nD) (r : Fin 32768) (n : Fin 2048) : (res_out0 m c (ix2 r n) : EReal) =
    lnAt (mixG (fun n => (m (c.tc.loc main_arg0) (ix2 r n) : EReal)) (fun k => m (c.tc.loc main_arg1) (ix2 r k)) (fun k => m (c.tc.loc main_arg2) (ix2 r k))
      (fun n => m (c.tc.loc main_arg3) (ix1 n)) (fun n => m (c.tc.loc main_arg4) (ix1 n)) (fun k n => m (c.tc.loc main_arg5) (ix3 0 k n)))
      (m (c.tc.loc main_arg6) (ix2 0 n)) (m (c.tc.loc main_arg7) (ix2 0 n)) n := by
  unfold res_out0 res_main_v53
  clean_types
  pointwise [lnAt, mixG]
end Cert.Reference4Ideal.Value

namespace Cert.Out
open Cert.Row

/-- The claim: equal results, arguments unchanged. -/
theorem algebraic : algebraic_Kernel4Ideal_Reference4Ideal := by
  intro m ρ m' ρ' _ hagree
  refine ⟨_, Cert.Kernel4Ideal.Value.run m ρ, ?_⟩
  refine (θ_run Cert.Reference4Ideal.defs _ _).mono (fun _ h c => ⟨?_, (h c).2⟩) (Cert.Reference4Ideal.Value.run (F := Ideal) m' ρ')
  obtain ⟨e0, e1, e2, e3, e4, e5, e6, e7⟩ := hagree c
  rw [(h c).1]
  refine funext fun (y : Cert.Kernel4Ideal.S32768x2048.Idx) => ?_
  obtain ⟨r, n, rfl⟩ : ∃ r n, y = ix2 r n := ⟨y 0, y 1, by funext a; match a with | ⟨0, _⟩ => rfl | ⟨1, _⟩ => rfl⟩
  refine (Cert.Reference4Ideal.Value.ref_eq m' c r n).trans ?_
  rw [e0, e1, e2, e3, e4, e5, e6, e7]
  rfl
end Cert.Out
-- ==== Proof.lean ====
/- The proof of the claims. -/
module

public import proofs.«01_k».proof.Defs
public import proofs.«01_k».proof.Proof.Gen.Kernel.Frame
public import proofs.«01_k».proof.Proof.Gen.KernelIdeal.Value
public import proofs.«01_k».proof.Proof.Gen.Pre_delta_finite
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Pre_ffn_finite
public import proofs.«01_k».proof.Proof.Gen.Reference2Ideal.Run
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent
public import proofs.«01_k».proof.Proof.DeltaAlgebra
public import proofs.«01_k».proof.Proof.FfnAlgebra
public import proofs.«01_k».proof.Proof.OutAlgebra

@[expose] public section

noncomputable section

namespace Cert.Proof

open Idealize.ShloMosaic Idealize.SL.Sem

/-- The delta rule's reference terminates and leaves every semaphore at zero. -/
theorem quiet : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem quiet_pre : quiescent_ReferenceIdeal_pre_delta_finite := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference terminates and leaves every semaphore at zero. -/
theorem quiet2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiet2_pre : quiescent_Reference2Ideal_pre_ffn_finite := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiet4 : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts, Cert.Pre_delta_finite.Gen.facts, Cert.Pre_ffn_finite.Gen.facts,
  fun m ρ _ => Cert.Kernel.Gen.frame m ρ, fun m ρ _ => Cert.KernelIdeal.Gen.frame m ρ, fun m ρ _ => Cert.KernelIdeal.Gen.frame m ρ,
  quiet, quiet_pre,
  fun m ρ _ => Cert.Kernel2.Gen.frame m ρ, fun m ρ _ => Cert.Kernel2Ideal.Gen.frame m ρ, fun m ρ _ => Cert.Kernel2Ideal.Gen.frame m ρ,
  quiet2, quiet2_pre,
  fun m ρ _ => Cert.Kernel4.Gen.frame m ρ, fun m ρ _ => Cert.Kernel4Ideal.Gen.frame m ρ, quiet4,
  (trivial : preserves_Kernel_KernelIdeal), Cert.Delta.algebraic,
  (trivial : preserves_Kernel2_Kernel2Ideal), Cert.Ffn.algebraic,
  (trivial : preserves_Kernel4_Kernel4Ideal), Cert.Out.algebraic⟩

end Cert.Proof

end
